-- ==== Defs.lean ====
def Pre_Kernel [hPre_seg_in_range : Cert.Pre_seg_in_range.Facts] (m : (ℓ : Loc Cert.Kernel.nD Cert.Kernel.τ Cert.Kernel.sig) → Buf (Elt Bits) ℓ) : Prop :=
  ∀ c : Dev Cert.Kernel.nD,
    (Cert.Pre_seg_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_seg_in_range : Cert.Pre_seg_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_seg_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_seg_sorted_in_range [hPre_seg_sorted_in_range : Cert.Pre_seg_sorted_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_seg_sorted_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_seg_sorted_in_range [hPre_seg_sorted_in_range : Cert.Pre_seg_sorted_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_seg_sorted_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_seg_in_range : Cert.Pre_seg_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_seg_in_range : Cert.Pre_seg_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_seg_sorted_in_range [hKernelIdeal : Cert.KernelIdeal.Facts] [hPre_seg_sorted_in_range : Cert.Pre_seg_sorted_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_seg_sorted_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_seg_sorted_in_range [hReferenceIdeal : Cert.ReferenceIdeal.Facts] [hPre_seg_sorted_in_range : Cert.Pre_seg_sorted_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_seg_sorted_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_seg_sorted_in_range [hKernelIdeal : Cert.KernelIdeal.Facts] [hReferenceIdeal : Cert.ReferenceIdeal.Facts] [hPre_seg_sorted_in_range : Cert.Pre_seg_sorted_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_seg_sorted_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_seg_in_range : Cert.Pre_seg_in_range.Facts) (hPre_seg_sorted_in_range : Cert.Pre_seg_sorted_in_range.Facts),
    quiescent_Kernel (hKernel := hKernel) (hPre_seg_in_range := hPre_seg_in_range)
    ∧ quiescent_KernelIdeal (hKernelIdeal := hKernelIdeal) (hPre_seg_in_range := hPre_seg_in_range)
    ∧ quiescent_KernelIdeal_pre_seg_sorted_in_range (hKernelIdeal := hKernelIdeal) (hPre_seg_sorted_in_range := hPre_seg_sorted_in_range)
    ∧ quiescent_ReferenceIdeal (hReferenceIdeal := hReferenceIdeal)
    ∧ quiescent_ReferenceIdeal_pre_seg_sorted_in_range (hReferenceIdeal := hReferenceIdeal) (hPre_seg_sorted_in_range := hPre_seg_sorted_in_range)
    ∧ preserves_Kernel_KernelIdeal
    ∧ algebraic_KernelIdeal_ReferenceIdeal_pre_seg_sorted_in_range (hKernelIdeal := hKernelIdeal) (hReferenceIdeal := hReferenceIdeal) (hPre_seg_sorted_in_range := hPre_seg_sorted_in_range)
-- ==== Pre_seg_in_range.lean ====
abbrev S100000x128 : Shape := ⟨2, ![100000, 128]⟩
abbrev S512x128 : Shape := ⟨2, ![512, 128]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000 : S_.BroadcastsInDim S100000 (![] : Fin 0 → Fin S100000.rank)

variable [Facts]

def fn {F : FTy → Type} [FloatOps F] (main_arg0 : FVec F S100000x128 .f32) (main_arg1 : FVec F S512x128 .f32) (main_arg2 : IVec S100000 32) (main_arg3 : FVec F S128x128 .f32) (main_arg4 : FVec F S128 .f32) : IVec S100000 1 :=
  let main_c : IVec S_ 32 := constantI S_ 32 0#32
  let main_v0 : IVec S100000 32 := broadcastInDim S100000 ![] bcast_S_S100000 main_c
  let main_v1 : IVec S100000 1 := cmpi .sge main_arg2 main_v0
  let main_c_0 : IVec S_ 32 := constantI S_ 32 512#32
  let main_v2 : IVec S100000 32 := broadcastInDim S100000 ![] bcast_S_S100000 main_c_0
  let main_v3 : IVec S100000 1 := cmpi .slt main_arg2 main_v2
  let main_v4 : IVec S100000 1 := andi main_v1 main_v3
  main_v4
-- ==== Pre_seg_sorted_in_range.lean ====
abbrev S100000x128 : Shape := ⟨2, ![100000, 128]⟩
abbrev S512x128 : Shape := ⟨2, ![512, 128]⟩
abbrev S100000 : Shape := ⟨1, ![100000]⟩
abbrev S128x128 : Shape := ⟨2, ![128, 128]⟩
abbrev S128 : Shape := ⟨1, ![128]⟩
abbrev S99999 : Shape := ⟨1, ![99999]⟩
abbrev S_ : Shape := ⟨0, ![]⟩

class Facts : Prop where
  slices_S100000_S99999_0 : S100000.Slices ![0] S99999
  slices_S100000_S99999_1 : S100000.Slices ![1] S99999
  bcast_S_S99999 : S_.BroadcastsInDim S99999 (![] : Fin 0 → Fin S99999.rank)

variable [Facts]

def fn {F : FTy → Type} [FloatOps F] (main_arg0 : FVec F S100000x128 .f32) (main_arg1 : FVec F S512x128 .f32) (main_arg2 : IVec S100000 32) (main_arg3 : FVec F S128x128 .f32) (main_arg4 : FVec F S128 .f32) : IVec S99999 1 :=
  let main_v0 : IVec S99999 32 := (extractStridedSlice S99999 ![0] · slices_S100000_S99999_0) main_arg2
  let main_v1 : IVec S99999 32 := (extractStridedSlice S99999 ![1] · slices_S100000_S99999_1) main_arg2
  let main_c : IVec S_ 32 := constantI S_ 32 0#32
  let main_v2 : IVec S99999 32 := broadcastInDim S99999 ![] bcast_S_S99999 main_c
  let main_v3 : IVec S99999 1 := cmpi .sge main_v0 main_v2
  let main_c_0 : IVec S_ 32 := constantI S_ 32 512#32
  let main_v4 : IVec S99999 32 := broadcastInDim S99999 ![] bcast_S_S99999 main_c_0
  let main_v5 : IVec S99999 1 := cmpi .slt main_v1 main_v4
  let main_v6 : IVec S99999 1 := andi main_v3 main_v5
  let main_v7 : IVec S99999 1 := cmpi .sle main_v0 main_v1
  let main_v8 : IVec S99999 1 := andi main_v6 main_v7
  main_v8
-- ==== Kernel.lean ====
abbrev S100000x128 : Shape := ⟨2, ![100000, 128]⟩
abbrev S512x128 : Shape := ⟨2, ![512, 128]⟩
abbrev S100000 : Shape := ⟨1, ![100000]⟩
abbrev S128x128 : Shape := ⟨2, ![128, 128]⟩
abbrev S128 : Shape := ⟨1, ![128]⟩
abbrev S32x512x128 : Shape := ⟨3, ![32, 512, 128]⟩
abbrev S3216 : Shape := ⟨1, ![3216]⟩
abbrev S160x128 : Shape := ⟨2, ![160, 128]⟩
abbrev S_ : Shape := ⟨0, ![]⟩
abbrev S16 : Shape := ⟨1, ![16]⟩
abbrev S1x16 : Shape := ⟨2, ![1, 16]⟩
abbrev S3200 : Shape := ⟨1, ![3200]⟩
abbrev S1 : Shape := ⟨1, ![1]⟩
abbrev S1x512x128 : Shape := ⟨3, ![1, 512, 128]⟩
abbrev S1x128 : Shape := ⟨2, ![1, 128]⟩
abbrev S80x128 : Shape := ⟨2, ![80, 128]⟩

abbrev nBuf : Table → Nat
  | .hbm => 8
  | .local .tc .vmem => 5
  | .local .scVector .vmem => 10
  | _ => 0

abbrev bufTy : (tb : Table) → Fin (nBuf tb) → BufTy
  | .hbm, ⟨0, _⟩ => ⟨S100000x128, .f32⟩
  | .hbm, ⟨1, _⟩ => ⟨S512x128, .f32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S32x512x128, .f32⟩
  | .hbm, ⟨6, _⟩ => ⟨S512x128, .f32⟩
  | .hbm, ⟨7, _⟩ => ⟨S100000x128, .f32⟩
  | .local .tc .vmem, ⟨0, _⟩ => ⟨S32x512x128, .f32⟩
  | .local .tc .vmem, ⟨1, _⟩ => ⟨S512x128, .f32⟩
  | .local .tc .vmem, ⟨2, _⟩ => ⟨S128x128, .f32⟩
  | .local .tc .vmem, ⟨3, _⟩ => ⟨S128, .f32⟩
  | .local .tc .vmem, ⟨4, _⟩ => ⟨S512x128, .f32⟩
  | .local .scVector .vmem, ⟨0, _⟩ => ⟨S3216, .i32⟩
  | .local .scVector .vmem, ⟨1, _⟩ => ⟨S160x128, .f32⟩
  | .local .scVector .vmem, ⟨2, _⟩ => ⟨S160x128, .f32⟩
  | .local .scVector .vmem, ⟨3, _⟩ => ⟨S512x128, .f32⟩
  | .local .scVector .vmem, ⟨4, _⟩ => ⟨S3216, .i32⟩
  | .local .scVector .vmem, ⟨5, _⟩ => ⟨S80x128, .f32⟩
  | .local .scVector .vmem, ⟨6, _⟩ => ⟨S80x128, .f32⟩
  | .local .scVector .vmem, ⟨7, _⟩ => ⟨S80x128, .f32⟩
  | .local .scVector .vmem, ⟨8, _⟩ => ⟨S80x128, .f32⟩
  | .local .scVector .vmem, ⟨9, _⟩ => ⟨S512x128, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0_scv : Ref sig .scVector := ⟨.hbm, 0, rfl⟩
abbrev main_arg2_scv : Ref sig .scVector := ⟨.hbm, 2, rfl⟩
abbrev main_v0_scv : Ref sig .scVector := ⟨.hbm, 5, rfl⟩
abbrev main_v1_scv : Ref sig .scVector := ⟨.hbm, 6, rfl⟩
abbrev main_v2_scv : Ref sig .scVector := ⟨.hbm, 7, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc2_scratch0 : Ref sig .scVector := ⟨.vmem, 4, rfl⟩
abbrev cc2_scratch1 : Ref sig .scVector := ⟨.vmem, 5, rfl⟩
abbrev cc2_scratch2 : Ref sig .scVector := ⟨.vmem, 6, rfl⟩
abbrev cc2_scratch3 : Ref sig .scVector := ⟨.vmem, 7, rfl⟩
abbrev cc2_scratch4 : Ref sig .scVector := ⟨.vmem, 8, rfl⟩
abbrev cc2_scratch5 : Ref sig .scVector := ⟨.vmem, 9, rfl⟩
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c512_i32 : BitVec 32 := 512#32
  let v3 : BitVec 32 := Scalar.addi c0_i32_0 c512_i32
  let c1_i32 : BitVec 32 := 1#32
  ⟨c0_i32_0, v3, c1_i32⟩
def k0_off1 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v45 : Index := Scalar.indexCast arg11
  let c0 : Index := 0#32
  ![v45.toNat, 0]
def k0_off2 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v49 : Index := Scalar.indexCast arg11
  let c16 : Index := 16#32
  ![v49.toNat, 16]
def k0_off3 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v53 : Index := Scalar.indexCast arg11
  let c32 : Index := 32#32
  ![v53.toNat, 32]
def k0_off4 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v57 : Index := Scalar.indexCast arg11
  let c48 : Index := 48#32
  ![v57.toNat, 48]
def k0_off5 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v61 : Index := Scalar.indexCast arg11
  let c64 : Index := 64#32
  ![v61.toNat, 64]
def k0_off6 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v65 : Index := Scalar.indexCast arg11
  let c80 : Index := 80#32
  ![v65.toNat, 80]
def k0_off7 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v69 : Index := Scalar.indexCast arg11
  let c96 : Index := 96#32
  ![v69.toNat, 96]
def k0_off8 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v73 : Index := Scalar.indexCast arg11
  let c112 : Index := 112#32
  ![v73.toNat, 112]
def k0_cond1 (i : grid0.Coords) : BitVec 1 :=
  let c19_i32_5 : BitVec 32 := 19#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c17_i32_2 : BitVec 32 := 17#32
  let v7 : BitVec 1 := Scalar.cmpi .slt v1 c17_i32_2
  let c1_i32_3 : BitVec 32 := 1#32
  let c0_i32_4 : BitVec 32 := 0#32
  let v8 : BitVec 32 := Scalar.select v7 c1_i32_3 c0_i32_4
  let v9 : BitVec 32 := Scalar.addi c19_i32_5 v8
  let c0_i32_6 : BitVec 32 := 0#32
  let v11 : BitVec 1 := Scalar.cmpi .sgt v9 c0_i32_6
  let v12 : BitVec 32 := Scalar.extui v11
  let c0_i32_7 : BitVec 32 := 0#32
  let v13 : BitVec 1 := Scalar.cmpi .ne v12 c0_i32_7
  v13

def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c160_i32_24 : BitVec 32 := 160#32
  let v45 : BitVec 32 := Scalar.muli v6 c160_i32_24
  let c0_i32_25 : BitVec 32 := 0#32
  ![v45.toNat, 0]
def k0_cond2 (i : grid0.Coords) : BitVec 1 :=
  let c19_i32_5 : BitVec 32 := 19#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c17_i32_2 : BitVec 32 := 17#32
  let v7 : BitVec 1 := Scalar.cmpi .slt v1 c17_i32_2
  let c1_i32_3 : BitVec 32 := 1#32
  let c0_i32_4 : BitVec 32 := 0#32
  let v8 : BitVec 32 := Scalar.select v7 c1_i32_3 c0_i32_4
  let v9 : BitVec 32 := Scalar.addi c19_i32_5 v8
  let c1_i32_8 : BitVec 32 := 1#32
  let v14 : BitVec 1 := Scalar.cmpi .sgt v9 c1_i32_8
  let v15 : BitVec 32 := Scalar.extui v14
  let c0_i32_9 : BitVec 32 := 0#32
  let v16 : BitVec 1 := Scalar.cmpi .ne v15 c0_i32_9
  v16

def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c1_i32_24 : BitVec 32 := 1#32
  let v45 : BitVec 32 := Scalar.addi v6 c1_i32_24
  let c160_i32_25 : BitVec 32 := 160#32
  let v46 : BitVec 32 := Scalar.muli v45 c160_i32_25
  let c0_i32_26 : BitVec 32 := 0#32
  ![v46.toNat, 0]
def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c160_i32 : BitVec 32 := 160#32
  let v17 : BitVec 32 := Scalar.muli v6 c160_i32
  let c96800_i32 : BitVec 32 := 96800#32
  let v18 : BitVec 32 := Scalar.minsi v17 c96800_i32
  v18
def k0_off11 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c160_i32 : BitVec 32 := 160#32
  let v17 : BitVec 32 := Scalar.muli v6 c160_i32
  let c96800_i32 : BitVec 32 := 96800#32
  let v18 : BitVec 32 := Scalar.minsi v17 c96800_i32
  let v19 : BitVec 32 := v18
  ![v19.toNat]
@[reducible] def k0_t2_loop (i : grid0.Coords) : Scf.Loop 32 :=
  let c0_i32_20 : BitVec 32 := 0#32
  let c19_i32_5 : BitVec 32 := 19#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c17_i32_2 : BitVec 32 := 17#32
  let v7 : BitVec 1 := Scalar.cmpi .slt v1 c17_i32_2
  let c1_i32_3 : BitVec 32 := 1#32
  let c0_i32_4 : BitVec 32 := 0#32
  let v8 : BitVec 32 := Scalar.select v7 c1_i32_3 c0_i32_4
  let v9 : BitVec 32 := Scalar.addi c19_i32_5 v8
  let c1_i32_11 : BitVec 32 := 1#32
  let v22 : BitVec 32 := Scalar.addi v9 c1_i32_11
  let c0_i32_13 : BitVec 32 := 0#32
  let v24 : BitVec 1 := Scalar.cmpi .sgt v22 c0_i32_13
  let v25 : BitVec 32 := Scalar.extui v24
  let c0_i32_14 : BitVec 32 := 0#32
  let v26 : BitVec 1 := Scalar.cmpi .slt v22 c0_i32_14
  let v27 : BitVec 32 := Scalar.extui v26
  let v28 : BitVec 32 := Scalar.subi v25 v27
  let c2_i32_12 : BitVec 32 := 2#32
  let c0_i32_15 : BitVec 32 := 0#32
  let v29 : BitVec 1 := Scalar.cmpi .sgt c2_i32_12 c0_i32_15
  let v30 : BitVec 32 := Scalar.extui v29
  let c0_i32_16 : BitVec 32 := 0#32
  let v31 : BitVec 1 := Scalar.cmpi .slt c2_i32_12 c0_i32_16
  let v32 : BitVec 32 := Scalar.extui v31
  let v33 : BitVec 32 := Scalar.subi v30 v32
  let v34 : BitVec 1 := Scalar.cmpi .ne v28 v33
  let v35 : BitVec 32 := Scalar.remsi v22 c2_i32_12
  let c0_i32_17 : BitVec 32 := 0#32
  let v36 : BitVec 1 := Scalar.cmpi .ne v35 c0_i32_17
  let v37 : BitVec 1 := Scalar.andi v34 v36
  let v23 : BitVec 32 := Scalar.divsi v22 c2_i32_12
  let c1_i32_18 : BitVec 32 := 1#32
  let v38 : BitVec 32 := Scalar.subi v23 c1_i32_18
  let v39 : BitVec 32 := Scalar.select v37 v38 v23
  let v40 : BitVec 32 := Scalar.subi v39 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let c1_i32_22 : BitVec 32 := 1#32
  ⟨c0_i32_20, v44, c1_i32_22⟩
def k0_cond3 (i : grid0.Coords) (k0_t2 : Fin (k0_t2_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c0_i32_20 : BitVec 32 := 0#32
  let c1_i32_22 : BitVec 32 := 1#32
  let arg11 : BitVec 32 := Scf.iv c0_i32_20 c1_i32_22 k0_t2
  let c2_i32_24 : BitVec 32 := 2#32
  let v45 : BitVec 32 := Scalar.muli arg11 c2_i32_24
  let v46 : BitVec 32 := Scalar.addi v6 v45
  let c0_i32_25 : BitVec 32 := 0#32
  let v47 : BitVec 32 := Scalar.addi v46 c0_i32_25
  let c19_i32_5 : BitVec 32 := 19#32
  let c17_i32_2 : BitVec 32 := 17#32
  let v7 : BitVec 1 := Scalar.cmpi .slt v1 c17_i32_2
  let c1_i32_3 : BitVec 32 := 1#32
  let c0_i32_4 : BitVec 32 := 0#32
  let v8 : BitVec 32 := Scalar.select v7 c1_i32_3 c0_i32_4
  let v9 : BitVec 32 := Scalar.addi c19_i32_5 v8
  let v10 : BitVec 32 := Scalar.addi v6 v9
  let v48 : BitVec 1 := Scalar.cmpi .slt v47 v10
  let v49 : BitVec 32 := Scalar.extui v48
  let c0_i32_26 : BitVec 32 := 0#32
  let v50 : BitVec 1 := Scalar.cmpi .ne v49 c0_i32_26
  v50

@[reducible] def k0_t3_loop : Scf.Loop 32 :=
  let c0_i32_35 : BitVec 32 := 0#32
  let c10_i32 : BitVec 32 := 10#32
  let v60 : BitVec 32 := Scalar.addi c0_i32_35 c10_i32
  let c1_i32_36 : BitVec 32 := 1#32
  ⟨c0_i32_35, v60, c1_i32_36⟩
def k0_off12 (i : grid0.Coords) (k0_t2 : Fin (k0_t2_loop i).trips) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c160_i32_10 : BitVec 32 := 160#32
  let v20 : BitVec 32 := Scalar.muli v6 c160_i32_10
  let c160_i32 : BitVec 32 := 160#32
  let v17 : BitVec 32 := Scalar.muli v6 c160_i32
  let c96800_i32 : BitVec 32 := 96800#32
  let v18 : BitVec 32 := Scalar.minsi v17 c96800_i32
  let v19 : BitVec 32 := v18
  let v21 : BitVec 32 := Scalar.subi v20 v19
  let c0_i32_20 : BitVec 32 := 0#32
  let c1_i32_22 : BitVec 32 := 1#32
  let arg11 : BitVec 32 := Scf.iv c0_i32_20 c1_i32_22 k0_t2
  let c2_i32_24 : BitVec 32 := 2#32
  let v45 : BitVec 32 := Scalar.muli arg11 c2_i32_24
  let v46 : BitVec 32 := Scalar.addi v6 v45
  let c0_i32_25 : BitVec 32 := 0#32
  let v47 : BitVec 32 := Scalar.addi v46 c0_i32_25
  let v55 : BitVec 32 := Scalar.subi v47 v6
  let c160_i32_29 : BitVec 32 := 160#32
  let v56 : BitVec 32 := Scalar.muli v55 c160_i32_29
  let v57 : BitVec 32 := Scalar.addi v21 v56
  let c0_i32_35 : BitVec 32 := 0#32
  let c1_i32_36 : BitVec 32 := 1#32
  let arg12 : BitVec 32 := Scf.iv c0_i32_35 c1_i32_36 k0_t3
  let c16_i32 : BitVec 32 := 16#32
  let v65 : BitVec 32 := Scalar.muli arg12 c16_i32
  let v66 : BitVec 32 := Scalar.addi v57 v65
  let v67 : Index := Scalar.indexCast v66
  ![v67.toNat]
def k0_off13 (k0_t3 : Fin k0_t3_loop.trips) : Fin 2 → Nat :=
  let c0_i32_35 : BitVec 32 := 0#32
  let c1_i32_36 : BitVec 32 := 1#32
  let arg12 : BitVec 32 := Scf.iv c0_i32_35 c1_i32_36 k0_t3
  let c4_i32 : BitVec 32 := 4#32
  let v80 : BitVec 32 := Scalar.shli arg12 c4_i32
  let v81 : Index := Scalar.indexCast v80
  let c0 : Index := 0#32
  ![v81.toNat, 0]
def k0_off14 (k0_t3 : Fin k0_t3_loop.trips) (c1_i32_43 : BitVec 32) : Fin 2 → Nat :=
  let c0_i32_35 : BitVec 32 := 0#32
  let c1_i32_36 : BitVec 32 := 1#32
  let arg12 : BitVec 32 := Scf.iv c0_i32_35 c1_i32_36 k0_t3
  let c4_i32_42 : BitVec 32 := 4#32
  let v84 : BitVec 32 := Scalar.shli arg12 c4_i32_42
  let v85 : BitVec 32 := Scalar.addi v84 c1_i32_43
  let v86 : Index := Scalar.indexCast v85
  let c0_44 : Index := 0#32
  ![v86.toNat, 0]
def k0_off15 (v71 : BitVec 32) : Fin 2 → Nat :=
  let v174 : Index := Scalar.indexCast v71
  let c0_76 : Index := 0#32
  ![v174.toNat, 0]
def k0_cond4 (v71 : BitVec 32) (v73 : BitVec 32) : BitVec 1 :=
  let v74 : BitVec 1 := Scalar.cmpi .eq v71 v73
  let v75 : BitVec 32 := Scalar.extui v74
  let c0_i32_40 : BitVec 32 := 0#32
  let v76 : BitVec 1 := Scalar.cmpi .ne v75 c0_i32_40
  v76

def k0_off16 (k0_t3 : Fin k0_t3_loop.trips) : Fin 2 → Nat :=
  let c0_i32_35 : BitVec 32 := 0#32
  let c1_i32_36 : BitVec 32 := 1#32
  let arg12 : BitVec 32 := Scf.iv c0_i32_35 c1_i32_36 k0_t3
  let c4_i32_78 : BitVec 32 := 4#32
  let v182 : BitVec 32 := Scalar.shli arg12 c4_i32_78
  let v183 : Index := Scalar.indexCast v182
  let c16 : Index := 16#32
  ![v183.toNat, 16]
def k0_off17 (k0_t3 : Fin k0_t3_loop.trips) (c1_i32_80 : BitVec 32) : Fin 2 → Nat :=
  let c0_i32_35 : BitVec 32 := 0#32
  let c1_i32_36 : BitVec 32 := 1#32
  let arg12 : BitVec 32 := Scf.iv c0_i32_35 c1_i32_36 k0_t3
  let c4_i32_79 : BitVec 32 := 4#32
  let v186 : BitVec 32 := Scalar.shli arg12 c4_i32_79
  let v187 : BitVec 32 := Scalar.addi v186 c1_i32_80
  let v188 : Index := Scalar.indexCast v187
  let c16_81 : Index := 16#32
  ![v188.toNat, 16]
def k0_off18 (v71 : BitVec 32) : Fin 2 → Nat :=
  let v276 : Index := Scalar.indexCast v71
  let c16_124 : Index := 16#32
  ![v276.toNat, 16]
def k0_off19 (k0_t3 : Fin k0_t3_loop.trips) : Fin 2 → Nat :=
  let c0_i32_35 : BitVec 32 := 0#32
  let c1_i32_36 : BitVec 32 := 1#32
  let arg12 : BitVec 32 := Scf.iv c0_i32_35 c1_i32_36 k0_t3
  let c4_i32_126 : BitVec 32 := 4#32
  let v284 : BitVec 32 := Scalar.shli arg12 c4_i32_126
  let v285 : Index := Scalar.indexCast v284
  let c32 : Index := 32#32
  ![v285.toNat, 32]
def k0_off20 (k0_t3 : Fin k0_t3_loop.trips) (c1_i32_128 : BitVec 32) : Fin 2 → Nat :=
  let c0_i32_35 : BitVec 32 := 0#32
  let c1_i32_36 : BitVec 32 := 1#32
  let arg12 : BitVec 32 := Scf.iv c0_i32_35 c1_i32_36 k0_t3
  let c4_i32_127 : BitVec 32 := 4#32
  let v288 : BitVec 32 := Scalar.shli arg12 c4_i32_127
  let v289 : BitVec 32 := Scalar.addi v288 c1_i32_128
  let v290 : Index := Scalar.indexCast v289
  let c32_129 : Index := 32#32
  ![v290.toNat, 32]
def k0_off21 (v71 : BitVec 32) : Fin 2 → Nat :=
  let v378 : Index := Scalar.indexCast v71
  let c32_172 : Index := 32#32
  ![v378.toNat, 32]
def k0_off22 (k0_t3 : Fin k0_t3_loop.trips) : Fin 2 → Nat :=
  let c0_i32_35 : BitVec 32 := 0#32
  let c1_i32_36 : BitVec 32 := 1#32
  let arg12 : BitVec 32 := Scf.iv c0_i32_35 c1_i32_36 k0_t3
  let c4_i32_174 : BitVec 32 := 4#32
  let v386 : BitVec 32 := Scalar.shli arg12 c4_i32_174
  let v387 : Index := Scalar.indexCast v386
  let c48 : Index := 48#32
  ![v387.toNat, 48]
def k0_off23 (k0_t3 : Fin k0_t3_loop.trips) (c1_i32_176 : BitVec 32) : Fin 2 → Nat :=
  let c0_i32_35 : BitVec 32 := 0#32
  let c1_i32_36 : BitVec 32 := 1#32
  let arg12 : BitVec 32 := Scf.iv c0_i32_35 c1_i32_36 k0_t3
  let c4_i32_175 : BitVec 32 := 4#32
  let v390 : BitVec 32 := Scalar.shli arg12 c4_i32_175
  let v391 : BitVec 32 := Scalar.addi v390 c1_i32_176
  let v392 : Index := Scalar.indexCast v391
  let c48_177 : Index := 48#32
  ![v392.toNat, 48]
def k0_off24 (v71 : BitVec 32) : Fin 2 → Nat :=
  let v480 : Index := Scalar.indexCast v71
  let c48_220 : Index := 48#32
  ![v480.toNat, 48]
def k0_off25 (k0_t3 : Fin k0_t3_loop.trips) : Fin 2 → Nat :=
  let c0_i32_35 : BitVec 32 := 0#32
  let c1_i32_36 : BitVec 32 := 1#32
  let arg12 : BitVec 32 := Scf.iv c0_i32_35 c1_i32_36 k0_t3
  let c4_i32_222 : BitVec 32 := 4#32
  let v488 : BitVec 32 := Scalar.shli arg12 c4_i32_222
  let v489 : Index := Scalar.indexCast v488
  let c64 : Index := 64#32
  ![v489.toNat, 64]
def k0_off26 (k0_t3 : Fin k0_t3_loop.trips) (c1_i32_224 : BitVec 32) : Fin 2 → Nat :=
  let c0_i32_35 : BitVec 32 := 0#32
  let c1_i32_36 : BitVec 32 := 1#32
  let arg12 : BitVec 32 := Scf.iv c0_i32_35 c1_i32_36 k0_t3
  let c4_i32_223 : BitVec 32 := 4#32
  let v492 : BitVec 32 := Scalar.shli arg12 c4_i32_223
  let v493 : BitVec 32 := Scalar.addi v492 c1_i32_224
  let v494 : Index := Scalar.indexCast v493
  let c64_225 : Index := 64#32
  ![v494.toNat, 64]
def k0_off27 (v71 : BitVec 32) : Fin 2 → Nat :=
  let v582 : Index := Scalar.indexCast v71
  let c64_268 : Index := 64#32
  ![v582.toNat, 64]
def k0_off28 (k0_t3 : Fin k0_t3_loop.trips) : Fin 2 → Nat :=
  let c0_i32_35 : BitVec 32 := 0#32
  let c1_i32_36 : BitVec 32 := 1#32
  let arg12 : BitVec 32 := Scf.iv c0_i32_35 c1_i32_36 k0_t3
  let c4_i32_270 : BitVec 32 := 4#32
  let v590 : BitVec 32 := Scalar.shli arg12 c4_i32_270
  let v591 : Index := Scalar.indexCast v590
  let c80 : Index := 80#32
  ![v591.toNat, 80]
def k0_off29 (k0_t3 : Fin k0_t3_loop.trips) (c1_i32_272 : BitVec 32) : Fin 2 → Nat :=
  let c0_i32_35 : BitVec 32 := 0#32
  let c1_i32_36 : BitVec 32 := 1#32
  let arg12 : BitVec 32 := Scf.iv c0_i32_35 c1_i32_36 k0_t3
  let c4_i32_271 : BitVec 32 := 4#32
  let v594 : BitVec 32 := Scalar.shli arg12 c4_i32_271
  let v595 : BitVec 32 := Scalar.addi v594 c1_i32_272
  let v596 : Index := Scalar.indexCast v595
  let c80_273 : Index := 80#32
  ![v596.toNat, 80]
def k0_off30 (v71 : BitVec 32) : Fin 2 → Nat :=
  let v684 : Index := Scalar.indexCast v71
  let c80_316 : Index := 80#32
  ![v684.toNat, 80]
def k0_off31 (k0_t3 : Fin k0_t3_loop.trips) : Fin 2 → Nat :=
  let c0_i32_35 : BitVec 32 := 0#32
  let c1_i32_36 : BitVec 32 := 1#32
  let arg12 : BitVec 32 := Scf.iv c0_i32_35 c1_i32_36 k0_t3
  let c4_i32_318 : BitVec 32 := 4#32
  let v692 : BitVec 32 := Scalar.shli arg12 c4_i32_318
  let v693 : Index := Scalar.indexCast v692
  let c96 : Index := 96#32
  ![v693.toNat, 96]
def k0_off32 (k0_t3 : Fin k0_t3_loop.trips) (c1_i32_320 : BitVec 32) : Fin 2 → Nat :=
  let c0_i32_35 : BitVec 32 := 0#32
  let c1_i32_36 : BitVec 32 := 1#32
  let arg12 : BitVec 32 := Scf.iv c0_i32_35 c1_i32_36 k0_t3
  let c4_i32_319 : BitVec 32 := 4#32
  let v696 : BitVec 32 := Scalar.shli arg12 c4_i32_319
  let v697 : BitVec 32 := Scalar.addi v696 c1_i32_320
  let v698 : Index := Scalar.indexCast v697
  let c96_321 : Index := 96#32
  ![v698.toNat, 96]
def k0_off33 (v71 : BitVec 32) : Fin 2 → Nat :=
  let v786 : Index := Scalar.indexCast v71
  let c96_364 : Index := 96#32
  ![v786.toNat, 96]
def k0_off34 (k0_t3 : Fin k0_t3_loop.trips) : Fin 2 → Nat :=
  let c0_i32_35 : BitVec 32 := 0#32
  let c1_i32_36 : BitVec 32 := 1#32
  let arg12 : BitVec 32 := Scf.iv c0_i32_35 c1_i32_36 k0_t3
  let c4_i32_366 : BitVec 32 := 4#32
  let v794 : BitVec 32 := Scalar.shli arg12 c4_i32_366
  let v795 : Index := Scalar.indexCast v794
  let c112 : Index := 112#32
  ![v795.toNat, 112]
def k0_off35 (k0_t3 : Fin k0_t3_loop.trips) (c1_i32_368 : BitVec 32) : Fin 2 → Nat :=
  let c0_i32_35 : BitVec 32 := 0#32
  let c1_i32_36 : BitVec 32 := 1#32
  let arg12 : BitVec 32 := Scf.iv c0_i32_35 c1_i32_36 k0_t3
  let c4_i32_367 : BitVec 32 := 4#32
  let v798 : BitVec 32 := Scalar.shli arg12 c4_i32_367
  let v799 : BitVec 32 := Scalar.addi v798 c1_i32_368
  let v800 : Index := Scalar.indexCast v799
  let c112_369 : Index := 112#32
  ![v800.toNat, 112]
def k0_off36 (v71 : BitVec 32) : Fin 2 → Nat :=
  let v888 : Index := Scalar.indexCast v71
  let c112_412 : Index := 112#32
  ![v888.toNat, 112]

def k0_chk1 (i : grid0.Coords) (k0_t2 : Fin (k0_t2_loop i).trips) (v71 : BitVec 32) (v73 : BitVec 32) : Prop :=
  (∀ (k0_h3 : k0_cond3 i k0_t2 = 1#1), ∀ (k0_h4 : k0_cond4 v71 v73 = 1#1), ∀ a, (k0_off15 v71) a + S1x16.size a ≤ S512x128.size a) ∧
  (∀ (k0_h3 : k0_cond3 i k0_t2 = 1#1), ∀ (k0_h4 : k0_cond4 v71 v73 = 1#1), ∀ a, (k0_off18 v71) a + S1x16.size a ≤ S512x128.size a) ∧
  (∀ (k0_h3 : k0_cond3 i k0_t2 = 1#1), ∀ (k0_h4 : k0_cond4 v71 v73 = 1#1), ∀ a, (k0_off21 v71) a + S1x16.size a ≤ S512x128.size a) ∧
  (∀ (k0_h3 : k0_cond3 i k0_t2 = 1#1), ∀ (k0_h4 : k0_cond4 v71 v73 = 1#1), ∀ a, (k0_off24 v71) a + S1x16.size a ≤ S512x128.size a) ∧
  (∀ (k0_h3 : k0_cond3 i k0_t2 = 1#1), ∀ (k0_h4 : k0_cond4 v71 v73 = 1#1), ∀ a, (k0_off27 v71) a + S1x16.size a ≤ S512x128.size a) ∧
  (∀ (k0_h3 : k0_cond3 i k0_t2 = 1#1), ∀ (k0_h4 : k0_cond4 v71 v73 = 1#1), ∀ a, (k0_off30 v71) a + S1x16.size a ≤ S512x128.size a) ∧
  (∀ (k0_h3 : k0_cond3 i k0_t2 = 1#1), ∀ (k0_h4 : k0_cond4 v71 v73 = 1#1), ∀ a, (k0_off33 v71) a + S1x16.size a ≤ S512x128.size a) ∧
  (∀ (k0_h3 : k0_cond3 i k0_t2 = 1#1), ∀ (k0_h4 : k0_cond4 v71 v73 = 1#1), ∀ a, (k0_off36 v71) a + S1x16.size a ≤ S512x128.size a)
theorem k0_off15_inb : ∀ (i : grid0.Coords) (k0_t2 : Fin (k0_t2_loop i).trips) (v71 : BitVec 32) (v73 : BitVec 32) (k0_hw1 : k0_chk1 i k0_t2 v71 v73), ∀ (k0_h3 : k0_cond3 i k0_t2 = 1#1), ∀ (k0_h4 : k0_cond4 v71 v73 = 1#1), ∀ a, (k0_off15 v71) a + S1x16.size a ≤ S512x128.size a := fun i k0_t2 v71 v73 k0_hw1 k0_h3 k0_h4 => k0_hw1.1 k0_h3 k0_h4
theorem k0_off18_inb : ∀ (i : grid0.Coords) (k0_t2 : Fin (k0_t2_loop i).trips) (v71 : BitVec 32) (v73 : BitVec 32) (k0_hw1 : k0_chk1 i k0_t2 v71 v73), ∀ (k0_h3 : k0_cond3 i k0_t2 = 1#1), ∀ (k0_h4 : k0_cond4 v71 v73 = 1#1), ∀ a, (k0_off18 v71) a + S1x16.size a ≤ S512x128.size a := fun i k0_t2 v71 v73 k0_hw1 k0_h3 k0_h4 => k0_hw1.2.1 k0_h3 k0_h4
theorem k0_off21_inb : ∀ (i : grid0.Coords) (k0_t2 : Fin (k0_t2_loop i).trips) (v71 : BitVec 32) (v73 : BitVec 32) (k0_hw1 : k0_chk1 i k0_t2 v71 v73), ∀ (k0_h3 : k0_cond3 i k0_t2 = 1#1), ∀ (k0_h4 : k0_cond4 v71 v73 = 1#1), ∀ a, (k0_off21 v71) a + S1x16.size a ≤ S512x128.size a := fun i k0_t2 v71 v73 k0_hw1 k0_h3 k0_h4 => k0_hw1.2.2.1 k0_h3 k0_h4
theorem k0_off24_inb : ∀ (i : grid0.Coords) (k0_t2 : Fin (k0_t2_loop i).trips) (v71 : BitVec 32) (v73 : BitVec 32) (k0_hw1 : k0_chk1 i k0_t2 v71 v73), ∀ (k0_h3 : k0_cond3 i k0_t2 = 1#1), ∀ (k0_h4 : k0_cond4 v71 v73 = 1#1), ∀ a, (k0_off24 v71) a + S1x16.size a ≤ S512x128.size a := fun i k0_t2 v71 v73 k0_hw1 k0_h3 k0_h4 => k0_hw1.2.2.2.1 k0_h3 k0_h4
theorem k0_off27_inb : ∀ (i : grid0.Coords) (k0_t2 : Fin (k0_t2_loop i).trips) (v71 : BitVec 32) (v73 : BitVec 32) (k0_hw1 : k0_chk1 i k0_t2 v71 v73), ∀ (k0_h3 : k0_cond3 i k0_t2 = 1#1), ∀ (k0_h4 : k0_cond4 v71 v73 = 1#1), ∀ a, (k0_off27 v71) a + S1x16.size a ≤ S512x128.size a := fun i k0_t2 v71 v73 k0_hw1 k0_h3 k0_h4 => k0_hw1.2.2.2.2.1 k0_h3 k0_h4
theorem k0_off30_inb : ∀ (i : grid0.Coords) (k0_t2 : Fin (k0_t2_loop i).trips) (v71 : BitVec 32) (v73 : BitVec 32) (k0_hw1 : k0_chk1 i k0_t2 v71 v73), ∀ (k0_h3 : k0_cond3 i k0_t2 = 1#1), ∀ (k0_h4 : k0_cond4 v71 v73 = 1#1), ∀ a, (k0_off30 v71) a + S1x16.size a ≤ S512x128.size a := fun i k0_t2 v71 v73 k0_hw1 k0_h3 k0_h4 => k0_hw1.2.2.2.2.2.1 k0_h3 k0_h4
theorem k0_off33_inb : ∀ (i : grid0.Coords) (k0_t2 : Fin (k0_t2_loop i).trips) (v71 : BitVec 32) (v73 : BitVec 32) (k0_hw1 : k0_chk1 i k0_t2 v71 v73), ∀ (k0_h3 : k0_cond3 i k0_t2 = 1#1), ∀ (k0_h4 : k0_cond4 v71 v73 = 1#1), ∀ a, (k0_off33 v71) a + S1x16.size a ≤ S512x128.size a := fun i k0_t2 v71 v73 k0_hw1 k0_h3 k0_h4 => k0_hw1.2.2.2.2.2.2.1 k0_h3 k0_h4
theorem k0_off36_inb : ∀ (i : grid0.Coords) (k0_t2 : Fin (k0_t2_loop i).trips) (v71 : BitVec 32) (v73 : BitVec 32) (k0_hw1 : k0_chk1 i k0_t2 v71 v73), ∀ (k0_h3 : k0_cond3 i k0_t2 = 1#1), ∀ (k0_h4 : k0_cond4 v71 v73 = 1#1), ∀ a, (k0_off36 v71) a + S1x16.size a ≤ S512x128.size a := fun i k0_t2 v71 v73 k0_hw1 k0_h3 k0_h4 => k0_hw1.2.2.2.2.2.2.2 k0_h3 k0_h4

@[reducible] def k0_t4_loop (k0_t3 : Fin k0_t3_loop.trips) : Scf.Loop 32 :=
  let c0_i32_35 : BitVec 32 := 0#32
  let c1_i32_36 : BitVec 32 := 1#32
  let arg12 : BitVec 32 := Scf.iv c0_i32_35 c1_i32_36 k0_t3
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_46 : BitVec 32 := 1#32
  ⟨v80, v87, c1_i32_46⟩
def k0_off37 (i : grid0.Coords) (k0_t2 : Fin (k0_t2_loop i).trips) (k0_t3 : Fin k0_t3_loop.trips) (k0_t4 : Fin (k0_t4_loop k0_t3).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c160_i32_10 : BitVec 32 := 160#32
  let v20 : BitVec 32 := Scalar.muli v6 c160_i32_10
  let c160_i32 : BitVec 32 := 160#32
  let v17 : BitVec 32 := Scalar.muli v6 c160_i32
  let c96800_i32 : BitVec 32 := 96800#32
  let v18 : BitVec 32 := Scalar.minsi v17 c96800_i32
  let v19 : BitVec 32 := v18
  let v21 : BitVec 32 := Scalar.subi v20 v19
  let c0_i32_20 : BitVec 32 := 0#32
  let c1_i32_22 : BitVec 32 := 1#32
  let arg11 : BitVec 32 := Scf.iv c0_i32_20 c1_i32_22 k0_t2
  let c2_i32_24 : BitVec 32 := 2#32
  let v45 : BitVec 32 := Scalar.muli arg11 c2_i32_24
  let v46 : BitVec 32 := Scalar.addi v6 v45
  let c0_i32_25 : BitVec 32 := 0#32
  let v47 : BitVec 32 := Scalar.addi v46 c0_i32_25
  let v55 : BitVec 32 := Scalar.subi v47 v6
  let c160_i32_29 : BitVec 32 := 160#32
  let v56 : BitVec 32 := Scalar.muli v55 c160_i32_29
  let v57 : BitVec 32 := Scalar.addi v21 v56
  let c0_i32_35 : BitVec 32 := 0#32
  let c1_i32_36 : BitVec 32 := 1#32
  let arg12 : BitVec 32 := Scf.iv c0_i32_35 c1_i32_36 k0_t3
  let c4_i32 : BitVec 32 := 4#32
  let v80 : BitVec 32 := Scalar.shli arg12 c4_i32
  let c1_i32_46 : BitVec 32 := 1#32
  let arg13 : BitVec 32 := Scf.iv v80 c1_i32_46 k0_t4
  let v88 : BitVec 32 := Scalar.addi v57 arg13
  let v89 : Index := Scalar.indexCast v88
  ![v89.toNat]
def k0_off38 (v93 : BitVec 32) : Fin 2 → Nat :=
  let v94 : Index := Scalar.indexCast v93
  let c0 : Index := 0#32
  ![v94.toNat, 0]
def k0_cond5 (v71 : BitVec 32) (v73 : BitVec 32) : BitVec 1 :=
  let v74 : BitVec 1 := Scalar.cmpi .eq v71 v73
  let v_true : BitVec 1 := 1#1
  let v77 : BitVec 1 := Scalar.xori v74 v_true
  let v78 : BitVec 32 := Scalar.extui v77
  let c0_i32_41 : BitVec 32 := 0#32
  let v79 : BitVec 1 := Scalar.cmpi .ne v78 c0_i32_41
  v79

def k0_off39 (k0_t3 : Fin k0_t3_loop.trips) (k0_t4 : Fin (k0_t4_loop k0_t3).trips) : Fin 2 → Nat :=
  let c0_i32_35 : BitVec 32 := 0#32
  let c1_i32_36 : BitVec 32 := 1#32
  let arg12 : BitVec 32 := Scf.iv c0_i32_35 c1_i32_36 k0_t3
  let c4_i32 : BitVec 32 := 4#32
  let v80 : BitVec 32 := Scalar.shli arg12 c4_i32
  let c1_i32_46 : BitVec 32 := 1#32
  let arg13 : BitVec 32 := Scf.iv v80 c1_i32_46 k0_t4
  let v97 : Index := Scalar.indexCast arg13
  let c0_48 : Index := 0#32
  ![v97.toNat, 0]
def k0_off40 (v93 : BitVec 32) : Fin 2 → Nat :=
  let v105 : Index := Scalar.indexCast v93
  let c16 : Index := 16#32
  ![v105.toNat, 16]
def k0_off41 (k0_t3 : Fin k0_t3_loop.trips) (k0_t4 : Fin (k0_t4_loop k0_t3).trips) : Fin 2 → Nat :=
  let c0_i32_35 : BitVec 32 := 0#32
  let c1_i32_36 : BitVec 32 := 1#32
  let arg12 : BitVec 32 := Scf.iv c0_i32_35 c1_i32_36 k0_t3
  let c4_i32 : BitVec 32 := 4#32
  let v80 : BitVec 32 := Scalar.shli arg12 c4_i32
  let c1_i32_46 : BitVec 32 := 1#32
  let arg13 : BitVec 32 := Scf.iv v80 c1_i32_46 k0_t4
  let v108 : Index := Scalar.indexCast arg13
  let c16_50 : Index := 16#32
  ![v108.toNat, 16]
def k0_off42 (v93 : BitVec 32) : Fin 2 → Nat :=
  let v116 : Index := Scalar.indexCast v93
  let c32 : Index := 32#32
  ![v116.toNat, 32]
def k0_off43 (k0_t3 : Fin k0_t3_loop.trips) (k0_t4 : Fin (k0_t4_loop k0_t3).trips) : Fin 2 → Nat :=
  let c0_i32_35 : BitVec 32 := 0#32
  let c1_i32_36 : BitVec 32 := 1#32
  let arg12 : BitVec 32 := Scf.iv c0_i32_35 c1_i32_36 k0_t3
  let c4_i32 : BitVec 32 := 4#32
  let v80 : BitVec 32 := Scalar.shli arg12 c4_i32
  let c1_i32_46 : BitVec 32 := 1#32
  let arg13 : BitVec 32 := Scf.iv v80 c1_i32_46 k0_t4
  let v119 : Index := Scalar.indexCast arg13
  let c32_52 : Index := 32#32
  ![v119.toNat, 32]
def k0_off44 (v93 : BitVec 32) : Fin 2 → Nat :=
  let v127 : Index := Scalar.indexCast v93
  let c48 : Index := 48#32
  ![v127.toNat, 48]
def k0_off45 (k0_t3 : Fin k0_t3_loop.trips) (k0_t4 : Fin (k0_t4_loop k0_t3).trips) : Fin 2 → Nat :=
  let c0_i32_35 : BitVec 32 := 0#32
  let c1_i32_36 : BitVec 32 := 1#32
  let arg12 : BitVec 32 := Scf.iv c0_i32_35 c1_i32_36 k0_t3
  let c4_i32 : BitVec 32 := 4#32
  let v80 : BitVec 32 := Scalar.shli arg12 c4_i32
  let c1_i32_46 : BitVec 32 := 1#32
  let arg13 : BitVec 32 := Scf.iv v80 c1_i32_46 k0_t4
  let v130 : Index := Scalar.indexCast arg13
  let c48_54 : Index := 48#32
  ![v130.toNat, 48]
def k0_off46 (v93 : BitVec 32) : Fin 2 → Nat :=
  let v138 : Index := Scalar.indexCast v93
  let c64 : Index := 64#32
  ![v138.toNat, 64]
def k0_off47 (k0_t3 : Fin k0_t3_loop.trips) (k0_t4 : Fin (k0_t4_loop k0_t3).trips) : Fin 2 → Nat :=
  let c0_i32_35 : BitVec 32 := 0#32
  let c1_i32_36 : BitVec 32 := 1#32
  let arg12 : BitVec 32 := Scf.iv c0_i32_35 c1_i32_36 k0_t3
  let c4_i32 : BitVec 32 := 4#32
  let v80 : BitVec 32 := Scalar.shli arg12 c4_i32
  let c1_i32_46 : BitVec 32 := 1#32
  let arg13 : BitVec 32 := Scf.iv v80 c1_i32_46 k0_t4
  let v141 : Index := Scalar.indexCast arg13
  let c64_56 : Index := 64#32
  ![v141.toNat, 64]
def k0_off48 (v93 : BitVec 32) : Fin 2 → Nat :=
  let v149 : Index := Scalar.indexCast v93
  let c80 : Index := 80#32
  ![v149.toNat, 80]
def k0_off49 (k0_t3 : Fin k0_t3_loop.trips) (k0_t4 : Fin (k0_t4_loop k0_t3).trips) : Fin 2 → Nat :=
  let c0_i32_35 : BitVec 32 := 0#32
  let c1_i32_36 : BitVec 32 := 1#32
  let arg12 : BitVec 32 := Scf.iv c0_i32_35 c1_i32_36 k0_t3
  let c4_i32 : BitVec 32 := 4#32
  let v80 : BitVec 32 := Scalar.shli arg12 c4_i32
  let c1_i32_46 : BitVec 32 := 1#32
  let arg13 : BitVec 32 := Scf.iv v80 c1_i32_46 k0_t4
  let v152 : Index := Scalar.indexCast arg13
  let c80_58 : Index := 80#32
  ![v152.toNat, 80]
def k0_off50 (v93 : BitVec 32) : Fin 2 → Nat :=
  let v160 : Index := Scalar.indexCast v93
  let c96 : Index := 96#32
  ![v160.toNat, 96]
def k0_off51 (k0_t3 : Fin k0_t3_loop.trips) (k0_t4 : Fin (k0_t4_loop k0_t3).trips) : Fin 2 → Nat :=
  let c0_i32_35 : BitVec 32 := 0#32
  let c1_i32_36 : BitVec 32 := 1#32
  let arg12 : BitVec 32 := Scf.iv c0_i32_35 c1_i32_36 k0_t3
  let c4_i32 : BitVec 32 := 4#32
  let v80 : BitVec 32 := Scalar.shli arg12 c4_i32
  let c1_i32_46 : BitVec 32 := 1#32
  let arg13 : BitVec 32 := Scf.iv v80 c1_i32_46 k0_t4
  let v163 : Index := Scalar.indexCast arg13
  let c96_60 : Index := 96#32
  ![v163.toNat, 96]
def k0_off52 (v93 : BitVec 32) : Fin 2 → Nat :=
  let v171 : Index := Scalar.indexCast v93
  let c112 : Index := 112#32
  ![v171.toNat, 112]

def k0_chk2 (i : grid0.Coords) (k0_t2 : Fin (k0_t2_loop i).trips) (k0_t3 : Fin k0_t3_loop.trips) (v71 : BitVec 32) (v73 : BitVec 32) (k0_t4 : Fin (k0_t4_loop k0_t3).trips) (v93 : BitVec 32) : Prop :=
  (∀ (k0_h3 : k0_cond3 i k0_t2 = 1#1), ∀ (k0_h5 : k0_cond5 v71 v73 = 1#1), ∀ a, (k0_off38 v93) a + S1x16.size a ≤ S512x128.size a) ∧
  (∀ (k0_h3 : k0_cond3 i k0_t2 = 1#1), ∀ (k0_h5 : k0_cond5 v71 v73 = 1#1), ∀ a, (k0_off40 v93) a + S1x16.size a ≤ S512x128.size a) ∧
  (∀ (k0_h3 : k0_cond3 i k0_t2 = 1#1), ∀ (k0_h5 : k0_cond5 v71 v73 = 1#1), ∀ a, (k0_off42 v93) a + S1x16.size a ≤ S512x128.size a) ∧
  (∀ (k0_h3 : k0_cond3 i k0_t2 = 1#1), ∀ (k0_h5 : k0_cond5 v71 v73 = 1#1), ∀ a, (k0_off44 v93) a + S1x16.size a ≤ S512x128.size a) ∧
  (∀ (k0_h3 : k0_cond3 i k0_t2 = 1#1), ∀ (k0_h5 : k0_cond5 v71 v73 = 1#1), ∀ a, (k0_off46 v93) a + S1x16.size a ≤ S512x128.size a) ∧
  (∀ (k0_h3 : k0_cond3 i k0_t2 = 1#1), ∀ (k0_h5 : k0_cond5 v71 v73 = 1#1), ∀ a, (k0_off48 v93) a + S1x16.size a ≤ S512x128.size a) ∧
  (∀ (k0_h3 : k0_cond3 i k0_t2 = 1#1), ∀ (k0_h5 : k0_cond5 v71 v73 = 1#1), ∀ a, (k0_off50 v93) a + S1x16.size a ≤ S512x128.size a) ∧
  (∀ (k0_h3 : k0_cond3 i k0_t2 = 1#1), ∀ (k0_h5 : k0_cond5 v71 v73 = 1#1), ∀ a, (k0_off52 v93) a + S1x16.size a ≤ S512x128.size a)
theorem k0_off38_inb : ∀ (i : grid0.Coords) (k0_t2 : Fin (k0_t2_loop i).trips) (k0_t3 : Fin k0_t3_loop.trips) (v71 : BitVec 32) (v73 : BitVec 32) (k0_t4 : Fin (k0_t4_loop k0_t3).trips) (v93 : BitVec 32) (k0_hw2 : k0_chk2 i k0_t2 k0_t3 v71 v73 k0_t4 v93), ∀ (k0_h3 : k0_cond3 i k0_t2 = 1#1), ∀ (k0_h5 : k0_cond5 v71 v73 = 1#1), ∀ a, (k0_off38 v93) a + S1x16.size a ≤ S512x128.size a := fun i k0_t2 k0_t3 v71 v73 k0_t4 v93 k0_hw2 k0_h3 k0_h5 => k0_hw2.1 k0_h3 k0_h5
theorem k0_off40_inb : ∀ (i : grid0.Coords) (k0_t2 : Fin (k0_t2_loop i).trips) (k0_t3 : Fin k0_t3_loop.trips) (v71 : BitVec 32) (v73 : BitVec 32) (k0_t4 : Fin (k0_t4_loop k0_t3).trips) (v93 : BitVec 32) (k0_hw2 : k0_chk2 i k0_t2 k0_t3 v71 v73 k0_t4 v93), ∀ (k0_h3 : k0_cond3 i k0_t2 = 1#1), ∀ (k0_h5 : k0_cond5 v71 v73 = 1#1), ∀ a, (k0_off40 v93) a + S1x16.size a ≤ S512x128.size a := fun i k0_t2 k0_t3 v71 v73 k0_t4 v93 k0_hw2 k0_h3 k0_h5 => k0_hw2.2.1 k0_h3 k0_h5
theorem k0_off42_inb : ∀ (i : grid0.Coords) (k0_t2 : Fin (k0_t2_loop i).trips) (k0_t3 : Fin k0_t3_loop.trips) (v71 : BitVec 32) (v73 : BitVec 32) (k0_t4 : Fin (k0_t4_loop k0_t3).trips) (v93 : BitVec 32) (k0_hw2 : k0_chk2 i k0_t2 k0_t3 v71 v73 k0_t4 v93), ∀ (k0_h3 : k0_cond3 i k0_t2 = 1#1), ∀ (k0_h5 : k0_cond5 v71 v73 = 1#1), ∀ a, (k0_off42 v93) a + S1x16.size a ≤ S512x128.size a := fun i k0_t2 k0_t3 v71 v73 k0_t4 v93 k0_hw2 k0_h3 k0_h5 => k0_hw2.2.2.1 k0_h3 k0_h5
theorem k0_off44_inb : ∀ (i : grid0.Coords) (k0_t2 : Fin (k0_t2_loop i).trips) (k0_t3 : Fin k0_t3_loop.trips) (v71 : BitVec 32) (v73 : BitVec 32) (k0_t4 : Fin (k0_t4_loop k0_t3).trips) (v93 : BitVec 32) (k0_hw2 : k0_chk2 i k0_t2 k0_t3 v71 v73 k0_t4 v93), ∀ (k0_h3 : k0_cond3 i k0_t2 = 1#1), ∀ (k0_h5 : k0_cond5 v71 v73 = 1#1), ∀ a, (k0_off44 v93) a + S1x16.size a ≤ S512x128.size a := fun i k0_t2 k0_t3 v71 v73 k0_t4 v93 k0_hw2 k0_h3 k0_h5 => k0_hw2.2.2.2.1 k0_h3 k0_h5
theorem k0_off46_inb : ∀ (i : grid0.Coords) (k0_t2 : Fin (k0_t2_loop i).trips) (k0_t3 : Fin k0_t3_loop.trips) (v71 : BitVec 32) (v73 : BitVec 32) (k0_t4 : Fin (k0_t4_loop k0_t3).trips) (v93 : BitVec 32) (k0_hw2 : k0_chk2 i k0_t2 k0_t3 v71 v73 k0_t4 v93), ∀ (k0_h3 : k0_cond3 i k0_t2 = 1#1), ∀ (k0_h5 : k0_cond5 v71 v73 = 1#1), ∀ a, (k0_off46 v93) a + S1x16.size a ≤ S512x128.size a := fun i k0_t2 k0_t3 v71 v73 k0_t4 v93 k0_hw2 k0_h3 k0_h5 => k0_hw2.2.2.2.2.1 k0_h3 k0_h5
theorem k0_off48_inb : ∀ (i : grid0.Coords) (k0_t2 : Fin (k0_t2_loop i).trips) (k0_t3 : Fin k0_t3_loop.trips) (v71 : BitVec 32) (v73 : BitVec 32) (k0_t4 : Fin (k0_t4_loop k0_t3).trips) (v93 : BitVec 32) (k0_hw2 : k0_chk2 i k0_t2 k0_t3 v71 v73 k0_t4 v93), ∀ (k0_h3 : k0_cond3 i k0_t2 = 1#1), ∀ (k0_h5 : k0_cond5 v71 v73 = 1#1), ∀ a, (k0_off48 v93) a + S1x16.size a ≤ S512x128.size a := fun i k0_t2 k0_t3 v71 v73 k0_t4 v93 k0_hw2 k0_h3 k0_h5 => k0_hw2.2.2.2.2.2.1 k0_h3 k0_h5
theorem k0_off50_inb : ∀ (i : grid0.Coords) (k0_t2 : Fin (k0_t2_loop i).trips) (k0_t3 : Fin k0_t3_loop.trips) (v71 : BitVec 32) (v73 : BitVec 32) (k0_t4 : Fin (k0_t4_loop k0_t3).trips) (v93 : BitVec 32) (k0_hw2 : k0_chk2 i k0_t2 k0_t3 v71 v73 k0_t4 v93), ∀ (k0_h3 : k0_cond3 i k0_t2 = 1#1), ∀ (k0_h5 : k0_cond5 v71 v73 = 1#1), ∀ a, (k0_off50 v93) a + S1x16.size a ≤ S512x128.size a := fun i k0_t2 k0_t3 v71 v73 k0_t4 v93 k0_hw2 k0_h3 k0_h5 => k0_hw2.2.2.2.2.2.2.1 k0_h3 k0_h5
theorem k0_off52_inb : ∀ (i : grid0.Coords) (k0_t2 : Fin (k0_t2_loop i).trips) (k0_t3 : Fin k0_t3_loop.trips) (v71 : BitVec 32) (v73 : BitVec 32) (k0_t4 : Fin (k0_t4_loop k0_t3).trips) (v93 : BitVec 32) (k0_hw2 : k0_chk2 i k0_t2 k0_t3 v71 v73 k0_t4 v93), ∀ (k0_h3 : k0_cond3 i k0_t2 = 1#1), ∀ (k0_h5 : k0_cond5 v71 v73 = 1#1), ∀ a, (k0_off52 v93) a + S1x16.size a ≤ S512x128.size a := fun i k0_t2 k0_t3 v71 v73 k0_t4 v93 k0_hw2 k0_h3 k0_h5 => k0_hw2.2.2.2.2.2.2.2 k0_h3 k0_h5

def k0_off53 (k0_t3 : Fin k0_t3_loop.trips) (k0_t4 : Fin (k0_t4_loop k0_t3).trips) : Fin 2 → Nat :=
  let c0_i32_35 : BitVec 32 := 0#32
  let c1_i32_36 : BitVec 32 := 1#32
  let arg12 : BitVec 32 := Scf.iv c0_i32_35 c1_i32_36 k0_t3
  let c4_i32 : BitVec 32 := 4#32
  let v80 : BitVec 32 := Scalar.shli arg12 c4_i32
  let c1_i32_46 : BitVec 32 := 1#32
  let arg13 : BitVec 32 := Scf.iv v80 c1_i32_46 k0_t4
  let v174 : Index := Scalar.indexCast arg13
  let c112_62 : Index := 112#32
  ![v174.toNat, 112]
@[reducible] def k0_t5_loop (k0_t3 : Fin k0_t3_loop.trips) : Scf.Loop 32 :=
  let c0_i32_35 : BitVec 32 := 0#32
  let c1_i32_36 : BitVec 32 := 1#32
  let arg12 : BitVec 32 := Scf.iv c0_i32_35 c1_i32_36 k0_t3
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let v84 : BitVec 32 := Scalar.addi v80 v83
  let c1_i32_47 : BitVec 32 := 1#32
  ⟨v87, v84, c1_i32_47⟩
def k0_off54 (i : grid0.Coords) (k0_t2 : Fin (k0_t2_loop i).trips) (k0_t3 : Fin k0_t3_loop.trips) (k0_t5 : Fin (k0_t5_loop k0_t3).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c160_i32_10 : BitVec 32 := 160#32
  let v20 : BitVec 32 := Scalar.muli v6 c160_i32_10
  let c160_i32 : BitVec 32 := 160#32
  let v17 : BitVec 32 := Scalar.muli v6 c160_i32
  let c96800_i32 : BitVec 32 := 96800#32
  let v18 : BitVec 32 := Scalar.minsi v17 c96800_i32
  let v19 : BitVec 32 := v18
  let v21 : BitVec 32 := Scalar.subi v20 v19
  let c0_i32_20 : BitVec 32 := 0#32
  let c1_i32_22 : BitVec 32 := 1#32
  let arg11 : BitVec 32 := Scf.iv c0_i32_20 c1_i32_22 k0_t2
  let c2_i32_24 : BitVec 32 := 2#32
  let v45 : BitVec 32 := Scalar.muli arg11 c2_i32_24
  let v46 : BitVec 32 := Scalar.addi v6 v45
  let c0_i32_25 : BitVec 32 := 0#32
  let v47 : BitVec 32 := Scalar.addi v46 c0_i32_25
  let v55 : BitVec 32 := Scalar.subi v47 v6
  let c160_i32_29 : BitVec 32 := 160#32
  let v56 : BitVec 32 := Scalar.muli v55 c160_i32_29
  let v57 : BitVec 32 := Scalar.addi v21 v56
  let c0_i32_35 : BitVec 32 := 0#32
  let c1_i32_36 : BitVec 32 := 1#32
  let arg12 : BitVec 32 := Scf.iv c0_i32_35 c1_i32_36 k0_t3
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t5
  let v88 : BitVec 32 := Scalar.addi v57 arg13
  let v89 : Index := Scalar.indexCast v88
  ![v89.toNat]
def k0_off55 (v93 : BitVec 32) : Fin 2 → Nat :=
  let v94 : Index := Scalar.indexCast v93
  let c0 : Index := 0#32
  ![v94.toNat, 0]

def k0_off56 (k0_t3 : Fin k0_t3_loop.trips) (k0_t5 : Fin (k0_t5_loop k0_t3).trips) : Fin 2 → Nat :=
  let c0_i32_35 : BitVec 32 := 0#32
  let c1_i32_36 : BitVec 32 := 1#32
  let arg12 : BitVec 32 := Scf.iv c0_i32_35 c1_i32_36 k0_t3
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t5
  let v97 : Index := Scalar.indexCast arg13
  let c0_48 : Index := 0#32
  ![v97.toNat, 0]
def k0_off57 (v93 : BitVec 32) : Fin 2 → Nat :=
  let v105 : Index := Scalar.indexCast v93
  let c16 : Index := 16#32
  ![v105.toNat, 16]
def k0_off58 (k0_t3 : Fin k0_t3_loop.trips) (k0_t5 : Fin (k0_t5_loop k0_t3).trips) : Fin 2 → Nat :=
  let c0_i32_35 : BitVec 32 := 0#32
  let c1_i32_36 : BitVec 32 := 1#32
  let arg12 : BitVec 32 := Scf.iv c0_i32_35 c1_i32_36 k0_t3
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t5
  let v108 : Index := Scalar.indexCast arg13
  let c16_50 : Index := 16#32
  ![v108.toNat, 16]
def k0_off59 (v93 : BitVec 32) : Fin 2 → Nat :=
  let v116 : Index := Scalar.indexCast v93
  let c32 : Index := 32#32
  ![v116.toNat, 32]
def k0_off60 (k0_t3 : Fin k0_t3_loop.trips) (k0_t5 : Fin (k0_t5_loop k0_t3).trips) : Fin 2 → Nat :=
  let c0_i32_35 : BitVec 32 := 0#32
  let c1_i32_36 : BitVec 32 := 1#32
  let arg12 : BitVec 32 := Scf.iv c0_i32_35 c1_i32_36 k0_t3
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t5
  let v119 : Index := Scalar.indexCast arg13
  let c32_52 : Index := 32#32
  ![v119.toNat, 32]
def k0_off61 (v93 : BitVec 32) : Fin 2 → Nat :=
  let v127 : Index := Scalar.indexCast v93
  let c48 : Index := 48#32
  ![v127.toNat, 48]
def k0_off62 (k0_t3 : Fin k0_t3_loop.trips) (k0_t5 : Fin (k0_t5_loop k0_t3).trips) : Fin 2 → Nat :=
  let c0_i32_35 : BitVec 32 := 0#32
  let c1_i32_36 : BitVec 32 := 1#32
  let arg12 : BitVec 32 := Scf.iv c0_i32_35 c1_i32_36 k0_t3
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t5
  let v130 : Index := Scalar.indexCast arg13
  let c48_54 : Index := 48#32
  ![v130.toNat, 48]
def k0_off63 (v93 : BitVec 32) : Fin 2 → Nat :=
  let v138 : Index := Scalar.indexCast v93
  let c64 : Index := 64#32
  ![v138.toNat, 64]
def k0_off64 (k0_t3 : Fin k0_t3_loop.trips) (k0_t5 : Fin (k0_t5_loop k0_t3).trips) : Fin 2 → Nat :=
  let c0_i32_35 : BitVec 32 := 0#32
  let c1_i32_36 : BitVec 32 := 1#32
  let arg12 : BitVec 32 := Scf.iv c0_i32_35 c1_i32_36 k0_t3
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t5
  let v141 : Index := Scalar.indexCast arg13
  let c64_56 : Index := 64#32
  ![v141.toNat, 64]
def k0_off65 (v93 : BitVec 32) : Fin 2 → Nat :=
  let v149 : Index := Scalar.indexCast v93
  let c80 : Index := 80#32
  ![v149.toNat, 80]
def k0_off66 (k0_t3 : Fin k0_t3_loop.trips) (k0_t5 : Fin (k0_t5_loop k0_t3).trips) : Fin 2 → Nat :=
  let c0_i32_35 : BitVec 32 := 0#32
  let c1_i32_36 : BitVec 32 := 1#32
  let arg12 : BitVec 32 := Scf.iv c0_i32_35 c1_i32_36 k0_t3
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t5
  let v152 : Index := Scalar.indexCast arg13
  let c80_58 : Index := 80#32
  ![v152.toNat, 80]
def k0_off67 (v93 : BitVec 32) : Fin 2 → Nat :=
  let v160 : Index := Scalar.indexCast v93
  let c96 : Index := 96#32
  ![v160.toNat, 96]
def k0_off68 (k0_t3 : Fin k0_t3_loop.trips) (k0_t5 : Fin (k0_t5_loop k0_t3).trips) : Fin 2 → Nat :=
  let c0_i32_35 : BitVec 32 := 0#32
  let c1_i32_36 : BitVec 32 := 1#32
  let arg12 : BitVec 32 := Scf.iv c0_i32_35 c1_i32_36 k0_t3
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t5
  let v163 : Index := Scalar.indexCast arg13
  let c96_60 : Index := 96#32
  ![v163.toNat, 96]
def k0_off69 (v93 : BitVec 32) : Fin 2 → Nat :=
  let v171 : Index := Scalar.indexCast v93
  let c112 : Index := 112#32
  ![v171.toNat, 112]

def k0_chk3 (i : grid0.Coords) (k0_t2 : Fin (k0_t2_loop i).trips) (k0_t3 : Fin k0_t3_loop.trips) (v71 : BitVec 32) (v73 : BitVec 32) (k0_t5 : Fin (k0_t5_loop k0_t3).trips) (v93 : BitVec 32) : Prop :=
  (∀ (k0_h3 : k0_cond3 i k0_t2 = 1#1), ∀ (k0_h5 : k0_cond5 v71 v73 = 1#1), ∀ a, (k0_off55 v93) a + S1x16.size a ≤ S512x128.size a) ∧
  (∀ (k0_h3 : k0_cond3 i k0_t2 = 1#1), ∀ (k0_h5 : k0_cond5 v71 v73 = 1#1), ∀ a, (k0_off57 v93) a + S1x16.size a ≤ S512x128.size a) ∧
  (∀ (k0_h3 : k0_cond3 i k0_t2 = 1#1), ∀ (k0_h5 : k0_cond5 v71 v73 = 1#1), ∀ a, (k0_off59 v93) a + S1x16.size a ≤ S512x128.size a) ∧
  (∀ (k0_h3 : k0_cond3 i k0_t2 = 1#1), ∀ (k0_h5 : k0_cond5 v71 v73 = 1#1), ∀ a, (k0_off61 v93) a + S1x16.size a ≤ S512x128.size a) ∧
  (∀ (k0_h3 : k0_cond3 i k0_t2 = 1#1), ∀ (k0_h5 : k0_cond5 v71 v73 = 1#1), ∀ a, (k0_off63 v93) a + S1x16.size a ≤ S512x128.size a) ∧
  (∀ (k0_h3 : k0_cond3 i k0_t2 = 1#1), ∀ (k0_h5 : k0_cond5 v71 v73 = 1#1), ∀ a, (k0_off65 v93) a + S1x16.size a ≤ S512x128.size a) ∧
  (∀ (k0_h3 : k0_cond3 i k0_t2 = 1#1), ∀ (k0_h5 : k0_cond5 v71 v73 = 1#1), ∀ a, (k0_off67 v93) a + S1x16.size a ≤ S512x128.size a) ∧
  (∀ (k0_h3 : k0_cond3 i k0_t2 = 1#1), ∀ (k0_h5 : k0_cond5 v71 v73 = 1#1), ∀ a, (k0_off69 v93) a + S1x16.size a ≤ S512x128.size a)
theorem k0_off55_inb : ∀ (i : grid0.Coords) (k0_t2 : Fin (k0_t2_loop i).trips) (k0_t3 : Fin k0_t3_loop.trips) (v71 : BitVec 32) (v73 : BitVec 32) (k0_t5 : Fin (k0_t5_loop k0_t3).trips) (v93 : BitVec 32) (k0_hw3 : k0_chk3 i k0_t2 k0_t3 v71 v73 k0_t5 v93), ∀ (k0_h3 : k0_cond3 i k0_t2 = 1#1), ∀ (k0_h5 : k0_cond5 v71 v73 = 1#1), ∀ a, (k0_off55 v93) a + S1x16.size a ≤ S512x128.size a := fun i k0_t2 k0_t3 v71 v73 k0_t5 v93 k0_hw3 k0_h3 k0_h5 => k0_hw3.1 k0_h3 k0_h5
theorem k0_off57_inb : ∀ (i : grid0.Coords) (k0_t2 : Fin (k0_t2_loop i).trips) (k0_t3 : Fin k0_t3_loop.trips) (v71 : BitVec 32) (v73 : BitVec 32) (k0_t5 : Fin (k0_t5_loop k0_t3).trips) (v93 : BitVec 32) (k0_hw3 : k0_chk3 i k0_t2 k0_t3 v71 v73 k0_t5 v93), ∀ (k0_h3 : k0_cond3 i k0_t2 = 1#1), ∀ (k0_h5 : k0_cond5 v71 v73 = 1#1), ∀ a, (k0_off57 v93) a + S1x16.size a ≤ S512x128.size a := fun i k0_t2 k0_t3 v71 v73 k0_t5 v93 k0_hw3 k0_h3 k0_h5 => k0_hw3.2.1 k0_h3 k0_h5
theorem k0_off59_inb : ∀ (i : grid0.Coords) (k0_t2 : Fin (k0_t2_loop i).trips) (k0_t3 : Fin k0_t3_loop.trips) (v71 : BitVec 32) (v73 : BitVec 32) (k0_t5 : Fin (k0_t5_loop k0_t3).trips) (v93 : BitVec 32) (k0_hw3 : k0_chk3 i k0_t2 k0_t3 v71 v73 k0_t5 v93), ∀ (k0_h3 : k0_cond3 i k0_t2 = 1#1), ∀ (k0_h5 : k0_cond5 v71 v73 = 1#1), ∀ a, (k0_off59 v93) a + S1x16.size a ≤ S512x128.size a := fun i k0_t2 k0_t3 v71 v73 k0_t5 v93 k0_hw3 k0_h3 k0_h5 => k0_hw3.2.2.1 k0_h3 k0_h5
theorem k0_off61_inb : ∀ (i : grid0.Coords) (k0_t2 : Fin (k0_t2_loop i).trips) (k0_t3 : Fin k0_t3_loop.trips) (v71 : BitVec 32) (v73 : BitVec 32) (k0_t5 : Fin (k0_t5_loop k0_t3).trips) (v93 : BitVec 32) (k0_hw3 : k0_chk3 i k0_t2 k0_t3 v71 v73 k0_t5 v93), ∀ (k0_h3 : k0_cond3 i k0_t2 = 1#1), ∀ (k0_h5 : k0_cond5 v71 v73 = 1#1), ∀ a, (k0_off61 v93) a + S1x16.size a ≤ S512x128.size a := fun i k0_t2 k0_t3 v71 v73 k0_t5 v93 k0_hw3 k0_h3 k0_h5 => k0_hw3.2.2.2.1 k0_h3 k0_h5
theorem k0_off63_inb : ∀ (i : grid0.Coords) (k0_t2 : Fin (k0_t2_loop i).trips) (k0_t3 : Fin k0_t3_loop.trips) (v71 : BitVec 32) (v73 : BitVec 32) (k0_t5 : Fin (k0_t5_loop k0_t3).trips) (v93 : BitVec 32) (k0_hw3 : k0_chk3 i k0_t2 k0_t3 v71 v73 k0_t5 v93), ∀ (k0_h3 : k0_cond3 i k0_t2 = 1#1), ∀ (k0_h5 : k0_cond5 v71 v73 = 1#1), ∀ a, (k0_off63 v93) a + S1x16.size a ≤ S512x128.size a := fun i k0_t2 k0_t3 v71 v73 k0_t5 v93 k0_hw3 k0_h3 k0_h5 => k0_hw3.2.2.2.2.1 k0_h3 k0_h5
theorem k0_off65_inb : ∀ (i : grid0.Coords) (k0_t2 : Fin (k0_t2_loop i).trips) (k0_t3 : Fin k0_t3_loop.trips) (v71 : BitVec 32) (v73 : BitVec 32) (k0_t5 : Fin (k0_t5_loop k0_t3).trips) (v93 : BitVec 32) (k0_hw3 : k0_chk3 i k0_t2 k0_t3 v71 v73 k0_t5 v93), ∀ (k0_h3 : k0_cond3 i k0_t2 = 1#1), ∀ (k0_h5 : k0_cond5 v71 v73 = 1#1), ∀ a, (k0_off65 v93) a + S1x16.size a ≤ S512x128.size a := fun i k0_t2 k0_t3 v71 v73 k0_t5 v93 k0_hw3 k0_h3 k0_h5 => k0_hw3.2.2.2.2.2.1 k0_h3 k0_h5
theorem k0_off67_inb : ∀ (i : grid0.Coords) (k0_t2 : Fin (k0_t2_loop i).trips) (k0_t3 : Fin k0_t3_loop.trips) (v71 : BitVec 32) (v73 : BitVec 32) (k0_t5 : Fin (k0_t5_loop k0_t3).trips) (v93 : BitVec 32) (k0_hw3 : k0_chk3 i k0_t2 k0_t3 v71 v73 k0_t5 v93), ∀ (k0_h3 : k0_cond3 i k0_t2 = 1#1), ∀ (k0_h5 : k0_cond5 v71 v73 = 1#1), ∀ a, (k0_off67 v93) a + S1x16.size a ≤ S512x128.size a := fun i k0_t2 k0_t3 v71 v73 k0_t5 v93 k0_hw3 k0_h3 k0_h5 => k0_hw3.2.2.2.2.2.2.1 k0_h3 k0_h5
theorem k0_off69_inb : ∀ (i : grid0.Coords) (k0_t2 : Fin (k0_t2_loop i).trips) (k0_t3 : Fin k0_t3_loop.trips) (v71 : BitVec 32) (v73 : BitVec 32) (k0_t5 : Fin (k0_t5_loop k0_t3).trips) (v93 : BitVec 32) (k0_hw3 : k0_chk3 i k0_t2 k0_t3 v71 v73 k0_t5 v93), ∀ (k0_h3 : k0_cond3 i k0_t2 = 1#1), ∀ (k0_h5 : k0_cond5 v71 v73 = 1#1), ∀ a, (k0_off69 v93) a + S1x16.size a ≤ S512x128.size a := fun i k0_t2 k0_t3 v71 v73 k0_t5 v93 k0_hw3 k0_h3 k0_h5 => k0_hw3.2.2.2.2.2.2.2 k0_h3 k0_h5

def k0_off70 (k0_t3 : Fin k0_t3_loop.trips) (k0_t5 : Fin (k0_t5_loop k0_t3).trips) : Fin 2 → Nat :=
  let c0_i32_35 : BitVec 32 := 0#32
  let c1_i32_36 : BitVec 32 := 1#32
  let arg12 : BitVec 32 := Scf.iv c0_i32_35 c1_i32_36 k0_t3
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t5
  let v174 : Index := Scalar.indexCast arg13
  let c112_62 : Index := 112#32
  ![v174.toNat, 112]
def k0_cond6 (i : grid0.Coords) (k0_t2 : Fin (k0_t2_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c0_i32_20 : BitVec 32 := 0#32
  let c1_i32_22 : BitVec 32 := 1#32
  let arg11 : BitVec 32 := Scf.iv c0_i32_20 c1_i32_22 k0_t2
  let c2_i32_24 : BitVec 32 := 2#32
  let v45 : BitVec 32 := Scalar.muli arg11 c2_i32_24
  let v46 : BitVec 32 := Scalar.addi v6 v45
  let c0_i32_25 : BitVec 32 := 0#32
  let v47 : BitVec 32 := Scalar.addi v46 c0_i32_25
  let c2_i32_38 : BitVec 32 := 2#32
  let v61 : BitVec 32 := Scalar.addi v47 c2_i32_38
  let c19_i32_5 : BitVec 32 := 19#32
  let c17_i32_2 : BitVec 32 := 17#32
  let v7 : BitVec 1 := Scalar.cmpi .slt v1 c17_i32_2
  let c1_i32_3 : BitVec 32 := 1#32
  let c0_i32_4 : BitVec 32 := 0#32
  let v8 : BitVec 32 := Scalar.select v7 c1_i32_3 c0_i32_4
  let v9 : BitVec 32 := Scalar.addi c19_i32_5 v8
  let v10 : BitVec 32 := Scalar.addi v6 v9
  let v62 : BitVec 1 := Scalar.cmpi .slt v61 v10
  let v63 : BitVec 32 := Scalar.extui v62
  let c0_i32_39 : BitVec 32 := 0#32
  let v64 : BitVec 1 := Scalar.cmpi .ne v63 c0_i32_39
  v64

def k0_off71 (i : grid0.Coords) (k0_t2 : Fin (k0_t2_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c0_i32_20 : BitVec 32 := 0#32
  let c1_i32_22 : BitVec 32 := 1#32
  let arg11 : BitVec 32 := Scf.iv c0_i32_20 c1_i32_22 k0_t2
  let c2_i32_24 : BitVec 32 := 2#32
  let v45 : BitVec 32 := Scalar.muli arg11 c2_i32_24
  let v46 : BitVec 32 := Scalar.addi v6 v45
  let c0_i32_25 : BitVec 32 := 0#32
  let v47 : BitVec 32 := Scalar.addi v46 c0_i32_25
  let c2_i32_40 : BitVec 32 := 2#32
  let v65 : BitVec 32 := Scalar.addi v47 c2_i32_40
  let c160_i32_41 : BitVec 32 := 160#32
  let v66 : BitVec 32 := Scalar.muli v65 c160_i32_41
  let c0_i32_42 : BitVec 32 := 0#32
  ![v66.toNat, 0]
def k0_cond7 (i : grid0.Coords) (k0_t2 : Fin (k0_t2_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c0_i32_20 : BitVec 32 := 0#32
  let c1_i32_22 : BitVec 32 := 1#32
  let arg11 : BitVec 32 := Scf.iv c0_i32_20 c1_i32_22 k0_t2
  let c2_i32_24 : BitVec 32 := 2#32
  let v45 : BitVec 32 := Scalar.muli arg11 c2_i32_24
  let v46 : BitVec 32 := Scalar.addi v6 v45
  let c1_i32_27 : BitVec 32 := 1#32
  let v51 : BitVec 32 := Scalar.addi v46 c1_i32_27
  let c19_i32_5 : BitVec 32 := 19#32
  let c17_i32_2 : BitVec 32 := 17#32
  let v7 : BitVec 1 := Scalar.cmpi .slt v1 c17_i32_2
  let c1_i32_3 : BitVec 32 := 1#32
  let c0_i32_4 : BitVec 32 := 0#32
  let v8 : BitVec 32 := Scalar.select v7 c1_i32_3 c0_i32_4
  let v9 : BitVec 32 := Scalar.addi c19_i32_5 v8
  let v10 : BitVec 32 := Scalar.addi v6 v9
  let v52 : BitVec 1 := Scalar.cmpi .slt v51 v10
  let v53 : BitVec 32 := Scalar.extui v52
  let c0_i32_28 : BitVec 32 := 0#32
  let v54 : BitVec 1 := Scalar.cmpi .ne v53 c0_i32_28
  v54

@[reducible] def k0_t6_loop : Scf.Loop 32 :=
  let c0_i32_35 : BitVec 32 := 0#32
  let c10_i32 : BitVec 32 := 10#32
  let v60 : BitVec 32 := Scalar.addi c0_i32_35 c10_i32
  let c1_i32_36 : BitVec 32 := 1#32
  ⟨c0_i32_35, v60, c1_i32_36⟩
def k0_off72 (i : grid0.Coords) (k0_t2 : Fin (k0_t2_loop i).trips) (k0_t6 : Fin k0_t6_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c160_i32_10 : BitVec 32 := 160#32
  let v20 : BitVec 32 := Scalar.muli v6 c160_i32_10
  let c160_i32 : BitVec 32 := 160#32
  let v17 : BitVec 32 := Scalar.muli v6 c160_i32
  let c96800_i32 : BitVec 32 := 96800#32
  let v18 : BitVec 32 := Scalar.minsi v17 c96800_i32
  let v19 : BitVec 32 := v18
  let v21 : BitVec 32 := Scalar.subi v20 v19
  let c0_i32_20 : BitVec 32 := 0#32
  let c1_i32_22 : BitVec 32 := 1#32
  let arg11 : BitVec 32 := Scf.iv c0_i32_20 c1_i32_22 k0_t2
  let c2_i32_24 : BitVec 32 := 2#32
  let v45 : BitVec 32 := Scalar.muli arg11 c2_i32_24
  let v46 : BitVec 32 := Scalar.addi v6 v45
  let c1_i32_27 : BitVec 32 := 1#32
  let v51 : BitVec 32 := Scalar.addi v46 c1_i32_27
  let v55 : BitVec 32 := Scalar.subi v51 v6
  let c160_i32_29 : BitVec 32 := 160#32
  let v56 : BitVec 32 := Scalar.muli v55 c160_i32_29
  let v57 : BitVec 32 := Scalar.addi v21 v56
  let c0_i32_35 : BitVec 32 := 0#32
  let c1_i32_36 : BitVec 32 := 1#32
  let arg12 : BitVec 32 := Scf.iv c0_i32_35 c1_i32_36 k0_t6
  let c16_i32 : BitVec 32 := 16#32
  let v65 : BitVec 32 := Scalar.muli arg12 c16_i32
  let v66 : BitVec 32 := Scalar.addi v57 v65
  let v67 : Index := Scalar.indexCast v66
  ![v67.toNat]
def k0_off73 (k0_t6 : Fin k0_t6_loop.trips) : Fin 2 → Nat :=
  let c0_i32_35 : BitVec 32 := 0#32
  let c1_i32_36 : BitVec 32 := 1#32
  let arg12 : BitVec 32 := Scf.iv c0_i32_35 c1_i32_36 k0_t6
  let c4_i32 : BitVec 32 := 4#32
  let v80 : BitVec 32 := Scalar.shli arg12 c4_i32
  let v81 : Index := Scalar.indexCast v80
  let c0 : Index := 0#32
  ![v81.toNat, 0]
def k0_off74 (k0_t6 : Fin k0_t6_loop.trips) (c1_i32_43 : BitVec 32) : Fin 2 → Nat :=
  let c0_i32_35 : BitVec 32 := 0#32
  let c1_i32_36 : BitVec 32 := 1#32
  let arg12 : BitVec 32 := Scf.iv c0_i32_35 c1_i32_36 k0_t6
  let c4_i32_42 : BitVec 32 := 4#32
  let v84 : BitVec 32 := Scalar.shli arg12 c4_i32_42
  let v85 : BitVec 32 := Scalar.addi v84 c1_i32_43
  let v86 : Index := Scalar.indexCast v85
  let c0_44 : Index := 0#32
  ![v86.toNat, 0]
def k0_off75 (v71 : BitVec 32) : Fin 2 → Nat :=
  let v174 : Index := Scalar.indexCast v71
  let c0_76 : Index := 0#32
  ![v174.toNat, 0]
def k0_cond8 (v71 : BitVec 32) (v73 : BitVec 32) : BitVec 1 :=
  let v74 : BitVec 1 := Scalar.cmpi .eq v71 v73
  let v75 : BitVec 32 := Scalar.extui v74
  let c0_i32_40 : BitVec 32 := 0#32
  let v76 : BitVec 1 := Scalar.cmpi .ne v75 c0_i32_40
  v76

def k0_off76 (k0_t6 : Fin k0_t6_loop.trips) : Fin 2 → Nat :=
  let c0_i32_35 : BitVec 32 := 0#32
  let c1_i32_36 : BitVec 32 := 1#32
  let arg12 : BitVec 32 := Scf.iv c0_i32_35 c1_i32_36 k0_t6
  let c4_i32_78 : BitVec 32 := 4#32
  let v182 : BitVec 32 := Scalar.shli arg12 c4_i32_78
  let v183 : Index := Scalar.indexCast v182
  let c16 : Index := 16#32
  ![v183.toNat, 16]
def k0_off77 (k0_t6 : Fin k0_t6_loop.trips) (c1_i32_80 : BitVec 32) : Fin 2 → Nat :=
  let c0_i32_35 : BitVec 32 := 0#32
  let c1_i32_36 : BitVec 32 := 1#32
  let arg12 : BitVec 32 := Scf.iv c0_i32_35 c1_i32_36 k0_t6
  let c4_i32_79 : BitVec 32 := 4#32
  let v186 : BitVec 32 := Scalar.shli arg12 c4_i32_79
  let v187 : BitVec 32 := Scalar.addi v186 c1_i32_80
  let v188 : Index := Scalar.indexCast v187
  let c16_81 : Index := 16#32
  ![v188.toNat, 16]
def k0_off78 (v71 : BitVec 32) : Fin 2 → Nat :=
  let v276 : Index := Scalar.indexCast v71
  let c16_124 : Index := 16#32
  ![v276.toNat, 16]
def k0_off79 (k0_t6 : Fin k0_t6_loop.trips) : Fin 2 → Nat :=
  let c0_i32_35 : BitVec 32 := 0#32
  let c1_i32_36 : BitVec 32 := 1#32
  let arg12 : BitVec 32 := Scf.iv c0_i32_35 c1_i32_36 k0_t6
  let c4_i32_126 : BitVec 32 := 4#32
  let v284 : BitVec 32 := Scalar.shli arg12 c4_i32_126
  let v285 : Index := Scalar.indexCast v284
  let c32 : Index := 32#32
  ![v285.toNat, 32]
def k0_off80 (k0_t6 : Fin k0_t6_loop.trips) (c1_i32_128 : BitVec 32) : Fin 2 → Nat :=
  let c0_i32_35 : BitVec 32 := 0#32
  let c1_i32_36 : BitVec 32 := 1#32
  let arg12 : BitVec 32 := Scf.iv c0_i32_35 c1_i32_36 k0_t6
  let c4_i32_127 : BitVec 32 := 4#32
  let v288 : BitVec 32 := Scalar.shli arg12 c4_i32_127
  let v289 : BitVec 32 := Scalar.addi v288 c1_i32_128
  let v290 : Index := Scalar.indexCast v289
  let c32_129 : Index := 32#32
  ![v290.toNat, 32]
def k0_off81 (v71 : BitVec 32) : Fin 2 → Nat :=
  let v378 : Index := Scalar.indexCast v71
  let c32_172 : Index := 32#32
  ![v378.toNat, 32]
def k0_off82 (k0_t6 : Fin k0_t6_loop.trips) : Fin 2 → Nat :=
  let c0_i32_35 : BitVec 32 := 0#32
  let c1_i32_36 : BitVec 32 := 1#32
  let arg12 : BitVec 32 := Scf.iv c0_i32_35 c1_i32_36 k0_t6
  let c4_i32_174 : BitVec 32 := 4#32
  let v386 : BitVec 32 := Scalar.shli arg12 c4_i32_174
  let v387 : Index := Scalar.indexCast v386
  let c48 : Index := 48#32
  ![v387.toNat, 48]
def k0_off83 (k0_t6 : Fin k0_t6_loop.trips) (c1_i32_176 : BitVec 32) : Fin 2 → Nat :=
  let c0_i32_35 : BitVec 32 := 0#32
  let c1_i32_36 : BitVec 32 := 1#32
  let arg12 : BitVec 32 := Scf.iv c0_i32_35 c1_i32_36 k0_t6
  let c4_i32_175 : BitVec 32 := 4#32
  let v390 : BitVec 32 := Scalar.shli arg12 c4_i32_175
  let v391 : BitVec 32 := Scalar.addi v390 c1_i32_176
  let v392 : Index := Scalar.indexCast v391
  let c48_177 : Index := 48#32
  ![v392.toNat, 48]
def k0_off84 (v71 : BitVec 32) : Fin 2 → Nat :=
  let v480 : Index := Scalar.indexCast v71
  let c48_220 : Index := 48#32
  ![v480.toNat, 48]
def k0_off85 (k0_t6 : Fin k0_t6_loop.trips) : Fin 2 → Nat :=
  let c0_i32_35 : BitVec 32 := 0#32
  let c1_i32_36 : BitVec 32 := 1#32
  let arg12 : BitVec 32 := Scf.iv c0_i32_35 c1_i32_36 k0_t6
  let c4_i32_222 : BitVec 32 := 4#32
  let v488 : BitVec 32 := Scalar.shli arg12 c4_i32_222
  let v489 : Index := Scalar.indexCast v488
  let c64 : Index := 64#32
  ![v489.toNat, 64]
def k0_off86 (k0_t6 : Fin k0_t6_loop.trips) (c1_i32_224 : BitVec 32) : Fin 2 → Nat :=
  let c0_i32_35 : BitVec 32 := 0#32
  let c1_i32_36 : BitVec 32 := 1#32
  let arg12 : BitVec 32 := Scf.iv c0_i32_35 c1_i32_36 k0_t6
  let c4_i32_223 : BitVec 32 := 4#32
  let v492 : BitVec 32 := Scalar.shli arg12 c4_i32_223
  let v493 : BitVec 32 := Scalar.addi v492 c1_i32_224
  let v494 : Index := Scalar.indexCast v493
  let c64_225 : Index := 64#32
  ![v494.toNat, 64]
def k0_off87 (v71 : BitVec 32) : Fin 2 → Nat :=
  let v582 : Index := Scalar.indexCast v71
  let c64_268 : Index := 64#32
  ![v582.toNat, 64]
def k0_off88 (k0_t6 : Fin k0_t6_loop.trips) : Fin 2 → Nat :=
  let c0_i32_35 : BitVec 32 := 0#32
  let c1_i32_36 : BitVec 32 := 1#32
  let arg12 : BitVec 32 := Scf.iv c0_i32_35 c1_i32_36 k0_t6
  let c4_i32_270 : BitVec 32 := 4#32
  let v590 : BitVec 32 := Scalar.shli arg12 c4_i32_270
  let v591 : Index := Scalar.indexCast v590
  let c80 : Index := 80#32
  ![v591.toNat, 80]
def k0_off89 (k0_t6 : Fin k0_t6_loop.trips) (c1_i32_272 : BitVec 32) : Fin 2 → Nat :=
  let c0_i32_35 : BitVec 32 := 0#32
  let c1_i32_36 : BitVec 32 := 1#32
  let arg12 : BitVec 32 := Scf.iv c0_i32_35 c1_i32_36 k0_t6
  let c4_i32_271 : BitVec 32 := 4#32
  let v594 : BitVec 32 := Scalar.shli arg12 c4_i32_271
  let v595 : BitVec 32 := Scalar.addi v594 c1_i32_272
  let v596 : Index := Scalar.indexCast v595
  let c80_273 : Index := 80#32
  ![v596.toNat, 80]
def k0_off90 (v71 : BitVec 32) : Fin 2 → Nat :=
  let v684 : Index := Scalar.indexCast v71
  let c80_316 : Index := 80#32
  ![v684.toNat, 80]
def k0_off91 (k0_t6 : Fin k0_t6_loop.trips) : Fin 2 → Nat :=
  let c0_i32_35 : BitVec 32 := 0#32
  let c1_i32_36 : BitVec 32 := 1#32
  let arg12 : BitVec 32 := Scf.iv c0_i32_35 c1_i32_36 k0_t6
  let c4_i32_318 : BitVec 32 := 4#32
  let v692 : BitVec 32 := Scalar.shli arg12 c4_i32_318
  let v693 : Index := Scalar.indexCast v692
  let c96 : Index := 96#32
  ![v693.toNat, 96]
def k0_off92 (k0_t6 : Fin k0_t6_loop.trips) (c1_i32_320 : BitVec 32) : Fin 2 → Nat :=
  let c0_i32_35 : BitVec 32 := 0#32
  let c1_i32_36 : BitVec 32 := 1#32
  let arg12 : BitVec 32 := Scf.iv c0_i32_35 c1_i32_36 k0_t6
  let c4_i32_319 : BitVec 32 := 4#32
  let v696 : BitVec 32 := Scalar.shli arg12 c4_i32_319
  let v697 : BitVec 32 := Scalar.addi v696 c1_i32_320
  let v698 : Index := Scalar.indexCast v697
  let c96_321 : Index := 96#32
  ![v698.toNat, 96]
def k0_off93 (v71 : BitVec 32) : Fin 2 → Nat :=
  let v786 : Index := Scalar.indexCast v71
  let c96_364 : Index := 96#32
  ![v786.toNat, 96]
def k0_off94 (k0_t6 : Fin k0_t6_loop.trips) : Fin 2 → Nat :=
  let c0_i32_35 : BitVec 32 := 0#32
  let c1_i32_36 : BitVec 32 := 1#32
  let arg12 : BitVec 32 := Scf.iv c0_i32_35 c1_i32_36 k0_t6
  let c4_i32_366 : BitVec 32 := 4#32
  let v794 : BitVec 32 := Scalar.shli arg12 c4_i32_366
  let v795 : Index := Scalar.indexCast v794
  let c112 : Index := 112#32
  ![v795.toNat, 112]
def k0_off95 (k0_t6 : Fin k0_t6_loop.trips) (c1_i32_368 : BitVec 32) : Fin 2 → Nat :=
  let c0_i32_35 : BitVec 32 := 0#32
  let c1_i32_36 : BitVec 32 := 1#32
  let arg12 : BitVec 32 := Scf.iv c0_i32_35 c1_i32_36 k0_t6
  let c4_i32_367 : BitVec 32 := 4#32
  let v798 : BitVec 32 := Scalar.shli arg12 c4_i32_367
  let v799 : BitVec 32 := Scalar.addi v798 c1_i32_368
  let v800 : Index := Scalar.indexCast v799
  let c112_369 : Index := 112#32
  ![v800.toNat, 112]
def k0_off96 (v71 : BitVec 32) : Fin 2 → Nat :=
  let v888 : Index := Scalar.indexCast v71
  let c112_412 : Index := 112#32
  ![v888.toNat, 112]

def k0_chk4 (i : grid0.Coords) (k0_t2 : Fin (k0_t2_loop i).trips) (v71 : BitVec 32) (v73 : BitVec 32) : Prop :=
  (∀ (k0_h7 : k0_cond7 i k0_t2 = 1#1), ∀ (k0_h8 : k0_cond8 v71 v73 = 1#1), ∀ a, (k0_off75 v71) a + S1x16.size a ≤ S512x128.size a) ∧
  (∀ (k0_h7 : k0_cond7 i k0_t2 = 1#1), ∀ (k0_h8 : k0_cond8 v71 v73 = 1#1), ∀ a, (k0_off78 v71) a + S1x16.size a ≤ S512x128.size a) ∧
  (∀ (k0_h7 : k0_cond7 i k0_t2 = 1#1), ∀ (k0_h8 : k0_cond8 v71 v73 = 1#1), ∀ a, (k0_off81 v71) a + S1x16.size a ≤ S512x128.size a) ∧
  (∀ (k0_h7 : k0_cond7 i k0_t2 = 1#1), ∀ (k0_h8 : k0_cond8 v71 v73 = 1#1), ∀ a, (k0_off84 v71) a + S1x16.size a ≤ S512x128.size a) ∧
  (∀ (k0_h7 : k0_cond7 i k0_t2 = 1#1), ∀ (k0_h8 : k0_cond8 v71 v73 = 1#1), ∀ a, (k0_off87 v71) a + S1x16.size a ≤ S512x128.size a) ∧
  (∀ (k0_h7 : k0_cond7 i k0_t2 = 1#1), ∀ (k0_h8 : k0_cond8 v71 v73 = 1#1), ∀ a, (k0_off90 v71) a + S1x16.size a ≤ S512x128.size a) ∧
  (∀ (k0_h7 : k0_cond7 i k0_t2 = 1#1), ∀ (k0_h8 : k0_cond8 v71 v73 = 1#1), ∀ a, (k0_off93 v71) a + S1x16.size a ≤ S512x128.size a) ∧
  (∀ (k0_h7 : k0_cond7 i k0_t2 = 1#1), ∀ (k0_h8 : k0_cond8 v71 v73 = 1#1), ∀ a, (k0_off96 v71) a + S1x16.size a ≤ S512x128.size a)
theorem k0_off75_inb : ∀ (i : grid0.Coords) (k0_t2 : Fin (k0_t2_loop i).trips) (v71 : BitVec 32) (v73 : BitVec 32) (k0_hw4 : k0_chk4 i k0_t2 v71 v73), ∀ (k0_h7 : k0_cond7 i k0_t2 = 1#1), ∀ (k0_h8 : k0_cond8 v71 v73 = 1#1), ∀ a, (k0_off75 v71) a + S1x16.size a ≤ S512x128.size a := fun i k0_t2 v71 v73 k0_hw4 k0_h7 k0_h8 => k0_hw4.1 k0_h7 k0_h8
theorem k0_off78_inb : ∀ (i : grid0.Coords) (k0_t2 : Fin (k0_t2_loop i).trips) (v71 : BitVec 32) (v73 : BitVec 32) (k0_hw4 : k0_chk4 i k0_t2 v71 v73), ∀ (k0_h7 : k0_cond7 i k0_t2 = 1#1), ∀ (k0_h8 : k0_cond8 v71 v73 = 1#1), ∀ a, (k0_off78 v71) a + S1x16.size a ≤ S512x128.size a := fun i k0_t2 v71 v73 k0_hw4 k0_h7 k0_h8 => k0_hw4.2.1 k0_h7 k0_h8
theorem k0_off81_inb : ∀ (i : grid0.Coords) (k0_t2 : Fin (k0_t2_loop i).trips) (v71 : BitVec 32) (v73 : BitVec 32) (k0_hw4 : k0_chk4 i k0_t2 v71 v73), ∀ (k0_h7 : k0_cond7 i k0_t2 = 1#1), ∀ (k0_h8 : k0_cond8 v71 v73 = 1#1), ∀ a, (k0_off81 v71) a + S1x16.size a ≤ S512x128.size a := fun i k0_t2 v71 v73 k0_hw4 k0_h7 k0_h8 => k0_hw4.2.2.1 k0_h7 k0_h8
theorem k0_off84_inb : ∀ (i : grid0.Coords) (k0_t2 : Fin (k0_t2_loop i).trips) (v71 : BitVec 32) (v73 : BitVec 32) (k0_hw4 : k0_chk4 i k0_t2 v71 v73), ∀ (k0_h7 : k0_cond7 i k0_t2 = 1#1), ∀ (k0_h8 : k0_cond8 v71 v73 = 1#1), ∀ a, (k0_off84 v71) a + S1x16.size a ≤ S512x128.size a := fun i k0_t2 v71 v73 k0_hw4 k0_h7 k0_h8 => k0_hw4.2.2.2.1 k0_h7 k0_h8
theorem k0_off87_inb : ∀ (i : grid0.Coords) (k0_t2 : Fin (k0_t2_loop i).trips) (v71 : BitVec 32) (v73 : BitVec 32) (k0_hw4 : k0_chk4 i k0_t2 v71 v73), ∀ (k0_h7 : k0_cond7 i k0_t2 = 1#1), ∀ (k0_h8 : k0_cond8 v71 v73 = 1#1), ∀ a, (k0_off87 v71) a + S1x16.size a ≤ S512x128.size a := fun i k0_t2 v71 v73 k0_hw4 k0_h7 k0_h8 => k0_hw4.2.2.2.2.1 k0_h7 k0_h8
theorem k0_off90_inb : ∀ (i : grid0.Coords) (k0_t2 : Fin (k0_t2_loop i).trips) (v71 : BitVec 32) (v73 : BitVec 32) (k0_hw4 : k0_chk4 i k0_t2 v71 v73), ∀ (k0_h7 : k0_cond7 i k0_t2 = 1#1), ∀ (k0_h8 : k0_cond8 v71 v73 = 1#1), ∀ a, (k0_off90 v71) a + S1x16.size a ≤ S512x128.size a := fun i k0_t2 v71 v73 k0_hw4 k0_h7 k0_h8 => k0_hw4.2.2.2.2.2.1 k0_h7 k0_h8
theorem k0_off93_inb : ∀ (i : grid0.Coords) (k0_t2 : Fin (k0_t2_loop i).trips) (v71 : BitVec 32) (v73 : BitVec 32) (k0_hw4 : k0_chk4 i k0_t2 v71 v73), ∀ (k0_h7 : k0_cond7 i k0_t2 = 1#1), ∀ (k0_h8 : k0_cond8 v71 v73 = 1#1), ∀ a, (k0_off93 v71) a + S1x16.size a ≤ S512x128.size a := fun i k0_t2 v71 v73 k0_hw4 k0_h7 k0_h8 => k0_hw4.2.2.2.2.2.2.1 k0_h7 k0_h8
theorem k0_off96_inb : ∀ (i : grid0.Coords) (k0_t2 : Fin (k0_t2_loop i).trips) (v71 : BitVec 32) (v73 : BitVec 32) (k0_hw4 : k0_chk4 i k0_t2 v71 v73), ∀ (k0_h7 : k0_cond7 i k0_t2 = 1#1), ∀ (k0_h8 : k0_cond8 v71 v73 = 1#1), ∀ a, (k0_off96 v71) a + S1x16.size a ≤ S512x128.size a := fun i k0_t2 v71 v73 k0_hw4 k0_h7 k0_h8 => k0_hw4.2.2.2.2.2.2.2 k0_h7 k0_h8

@[reducible] def k0_t7_loop (k0_t6 : Fin k0_t6_loop.trips) : Scf.Loop 32 :=
  let c0_i32_35 : BitVec 32 := 0#32
  let c1_i32_36 : BitVec 32 := 1#32
  let arg12 : BitVec 32 := Scf.iv c0_i32_35 c1_i32_36 k0_t6
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_46 : BitVec 32 := 1#32
  ⟨v80, v87, c1_i32_46⟩
def k0_off97 (i : grid0.Coords) (k0_t2 : Fin (k0_t2_loop i).trips) (k0_t6 : Fin k0_t6_loop.trips) (k0_t7 : Fin (k0_t7_loop k0_t6).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c160_i32_10 : BitVec 32 := 160#32
  let v20 : BitVec 32 := Scalar.muli v6 c160_i32_10
  let c160_i32 : BitVec 32 := 160#32
  let v17 : BitVec 32 := Scalar.muli v6 c160_i32
  let c96800_i32 : BitVec 32 := 96800#32
  let v18 : BitVec 32 := Scalar.minsi v17 c96800_i32
  let v19 : BitVec 32 := v18
  let v21 : BitVec 32 := Scalar.subi v20 v19
  let c0_i32_20 : BitVec 32 := 0#32
  let c1_i32_22 : BitVec 32 := 1#32
  let arg11 : BitVec 32 := Scf.iv c0_i32_20 c1_i32_22 k0_t2
  let c2_i32_24 : BitVec 32 := 2#32
  let v45 : BitVec 32 := Scalar.muli arg11 c2_i32_24
  let v46 : BitVec 32 := Scalar.addi v6 v45
  let c1_i32_27 : BitVec 32 := 1#32
  let v51 : BitVec 32 := Scalar.addi v46 c1_i32_27
  let v55 : BitVec 32 := Scalar.subi v51 v6
  let c160_i32_29 : BitVec 32 := 160#32
  let v56 : BitVec 32 := Scalar.muli v55 c160_i32_29
  let v57 : BitVec 32 := Scalar.addi v21 v56
  let c0_i32_35 : BitVec 32 := 0#32
  let c1_i32_36 : BitVec 32 := 1#32
  let arg12 : BitVec 32 := Scf.iv c0_i32_35 c1_i32_36 k0_t6
  let c4_i32 : BitVec 32 := 4#32
  let v80 : BitVec 32 := Scalar.shli arg12 c4_i32
  let c1_i32_46 : BitVec 32 := 1#32
  let arg13 : BitVec 32 := Scf.iv v80 c1_i32_46 k0_t7
  let v88 : BitVec 32 := Scalar.addi v57 arg13
  let v89 : Index := Scalar.indexCast v88
  ![v89.toNat]
def k0_off98 (v93 : BitVec 32) : Fin 2 → Nat :=
  let v94 : Index := Scalar.indexCast v93
  let c0 : Index := 0#32
  ![v94.toNat, 0]
def k0_cond9 (v71 : BitVec 32) (v73 : BitVec 32) : BitVec 1 :=
  let v74 : BitVec 1 := Scalar.cmpi .eq v71 v73
  let v_true : BitVec 1 := 1#1
  let v77 : BitVec 1 := Scalar.xori v74 v_true
  let v78 : BitVec 32 := Scalar.extui v77
  let c0_i32_41 : BitVec 32 := 0#32
  let v79 : BitVec 1 := Scalar.cmpi .ne v78 c0_i32_41
  v79

def k0_off99 (k0_t6 : Fin k0_t6_loop.trips) (k0_t7 : Fin (k0_t7_loop k0_t6).trips) : Fin 2 → Nat :=
  let c0_i32_35 : BitVec 32 := 0#32
  let c1_i32_36 : BitVec 32 := 1#32
  let arg12 : BitVec 32 := Scf.iv c0_i32_35 c1_i32_36 k0_t6
  let c4_i32 : BitVec 32 := 4#32
  let v80 : BitVec 32 := Scalar.shli arg12 c4_i32
  let c1_i32_46 : BitVec 32 := 1#32
  let arg13 : BitVec 32 := Scf.iv v80 c1_i32_46 k0_t7
  let v97 : Index := Scalar.indexCast arg13
  let c0_48 : Index := 0#32
  ![v97.toNat, 0]
def k0_off100 (v93 : BitVec 32) : Fin 2 → Nat :=
  let v105 : Index := Scalar.indexCast v93
  let c16 : Index := 16#32
  ![v105.toNat, 16]
def k0_off101 (k0_t6 : Fin k0_t6_loop.trips) (k0_t7 : Fin (k0_t7_loop k0_t6).trips) : Fin 2 → Nat :=
  let c0_i32_35 : BitVec 32 := 0#32
  let c1_i32_36 : BitVec 32 := 1#32
  let arg12 : BitVec 32 := Scf.iv c0_i32_35 c1_i32_36 k0_t6
  let c4_i32 : BitVec 32 := 4#32
  let v80 : BitVec 32 := Scalar.shli arg12 c4_i32
  let c1_i32_46 : BitVec 32 := 1#32
  let arg13 : BitVec 32 := Scf.iv v80 c1_i32_46 k0_t7
  let v108 : Index := Scalar.indexCast arg13
  let c16_50 : Index := 16#32
  ![v108.toNat, 16]
def k0_off102 (v93 : BitVec 32) : Fin 2 → Nat :=
  let v116 : Index := Scalar.indexCast v93
  let c32 : Index := 32#32
  ![v116.toNat, 32]
def k0_off103 (k0_t6 : Fin k0_t6_loop.trips) (k0_t7 : Fin (k0_t7_loop k0_t6).trips) : Fin 2 → Nat :=
  let c0_i32_35 : BitVec 32 := 0#32
  let c1_i32_36 : BitVec 32 := 1#32
  let arg12 : BitVec 32 := Scf.iv c0_i32_35 c1_i32_36 k0_t6
  let c4_i32 : BitVec 32 := 4#32
  let v80 : BitVec 32 := Scalar.shli arg12 c4_i32
  let c1_i32_46 : BitVec 32 := 1#32
  let arg13 : BitVec 32 := Scf.iv v80 c1_i32_46 k0_t7
  let v119 : Index := Scalar.indexCast arg13
  let c32_52 : Index := 32#32
  ![v119.toNat, 32]
def k0_off104 (v93 : BitVec 32) : Fin 2 → Nat :=
  let v127 : Index := Scalar.indexCast v93
  let c48 : Index := 48#32
  ![v127.toNat, 48]
def k0_off105 (k0_t6 : Fin k0_t6_loop.trips) (k0_t7 : Fin (k0_t7_loop k0_t6).trips) : Fin 2 → Nat :=
  let c0_i32_35 : BitVec 32 := 0#32
  let c1_i32_36 : BitVec 32 := 1#32
  let arg12 : BitVec 32 := Scf.iv c0_i32_35 c1_i32_36 k0_t6
  let c4_i32 : BitVec 32 := 4#32
  let v80 : BitVec 32 := Scalar.shli arg12 c4_i32
  let c1_i32_46 : BitVec 32 := 1#32
  let arg13 : BitVec 32 := Scf.iv v80 c1_i32_46 k0_t7
  let v130 : Index := Scalar.indexCast arg13
  let c48_54 : Index := 48#32
  ![v130.toNat, 48]
def k0_off106 (v93 : BitVec 32) : Fin 2 → Nat :=
  let v138 : Index := Scalar.indexCast v93
  let c64 : Index := 64#32
  ![v138.toNat, 64]
def k0_off107 (k0_t6 : Fin k0_t6_loop.trips) (k0_t7 : Fin (k0_t7_loop k0_t6).trips) : Fin 2 → Nat :=
  let c0_i32_35 : BitVec 32 := 0#32
  let c1_i32_36 : BitVec 32 := 1#32
  let arg12 : BitVec 32 := Scf.iv c0_i32_35 c1_i32_36 k0_t6
  let c4_i32 : BitVec 32 := 4#32
  let v80 : BitVec 32 := Scalar.shli arg12 c4_i32
  let c1_i32_46 : BitVec 32 := 1#32
  let arg13 : BitVec 32 := Scf.iv v80 c1_i32_46 k0_t7
  let v141 : Index := Scalar.indexCast arg13
  let c64_56 : Index := 64#32
  ![v141.toNat, 64]
def k0_off108 (v93 : BitVec 32) : Fin 2 → Nat :=
  let v149 : Index := Scalar.indexCast v93
  let c80 : Index := 80#32
  ![v149.toNat, 80]
def k0_off109 (k0_t6 : Fin k0_t6_loop.trips) (k0_t7 : Fin (k0_t7_loop k0_t6).trips) : Fin 2 → Nat :=
  let c0_i32_35 : BitVec 32 := 0#32
  let c1_i32_36 : BitVec 32 := 1#32
  let arg12 : BitVec 32 := Scf.iv c0_i32_35 c1_i32_36 k0_t6
  let c4_i32 : BitVec 32 := 4#32
  let v80 : BitVec 32 := Scalar.shli arg12 c4_i32
  let c1_i32_46 : BitVec 32 := 1#32
  let arg13 : BitVec 32 := Scf.iv v80 c1_i32_46 k0_t7
  let v152 : Index := Scalar.indexCast arg13
  let c80_58 : Index := 80#32
  ![v152.toNat, 80]
def k0_off110 (v93 : BitVec 32) : Fin 2 → Nat :=
  let v160 : Index := Scalar.indexCast v93
  let c96 : Index := 96#32
  ![v160.toNat, 96]
def k0_off111 (k0_t6 : Fin k0_t6_loop.trips) (k0_t7 : Fin (k0_t7_loop k0_t6).trips) : Fin 2 → Nat :=
  let c0_i32_35 : BitVec 32 := 0#32
  let c1_i32_36 : BitVec 32 := 1#32
  let arg12 : BitVec 32 := Scf.iv c0_i32_35 c1_i32_36 k0_t6
  let c4_i32 : BitVec 32 := 4#32
  let v80 : BitVec 32 := Scalar.shli arg12 c4_i32
  let c1_i32_46 : BitVec 32 := 1#32
  let arg13 : BitVec 32 := Scf.iv v80 c1_i32_46 k0_t7
  let v163 : Index := Scalar.indexCast arg13
  let c96_60 : Index := 96#32
  ![v163.toNat, 96]
def k0_off112 (v93 : BitVec 32) : Fin 2 → Nat :=
  let v171 : Index := Scalar.indexCast v93
  let c112 : Index := 112#32
  ![v171.toNat, 112]

def k0_chk5 (i : grid0.Coords) (k0_t2 : Fin (k0_t2_loop i).trips) (k0_t6 : Fin k0_t6_loop.trips) (v71 : BitVec 32) (v73 : BitVec 32) (k0_t7 : Fin (k0_t7_loop k0_t6).trips) (v93 : BitVec 32) : Prop :=
  (∀ (k0_h7 : k0_cond7 i k0_t2 = 1#1), ∀ (k0_h9 : k0_cond9 v71 v73 = 1#1), ∀ a, (k0_off98 v93) a + S1x16.size a ≤ S512x128.size a) ∧
  (∀ (k0_h7 : k0_cond7 i k0_t2 = 1#1), ∀ (k0_h9 : k0_cond9 v71 v73 = 1#1), ∀ a, (k0_off100 v93) a + S1x16.size a ≤ S512x128.size a) ∧
  (∀ (k0_h7 : k0_cond7 i k0_t2 = 1#1), ∀ (k0_h9 : k0_cond9 v71 v73 = 1#1), ∀ a, (k0_off102 v93) a + S1x16.size a ≤ S512x128.size a) ∧
  (∀ (k0_h7 : k0_cond7 i k0_t2 = 1#1), ∀ (k0_h9 : k0_cond9 v71 v73 = 1#1), ∀ a, (k0_off104 v93) a + S1x16.size a ≤ S512x128.size a) ∧
  (∀ (k0_h7 : k0_cond7 i k0_t2 = 1#1), ∀ (k0_h9 : k0_cond9 v71 v73 = 1#1), ∀ a, (k0_off106 v93) a + S1x16.size a ≤ S512x128.size a) ∧
  (∀ (k0_h7 : k0_cond7 i k0_t2 = 1#1), ∀ (k0_h9 : k0_cond9 v71 v73 = 1#1), ∀ a, (k0_off108 v93) a + S1x16.size a ≤ S512x128.size a) ∧
  (∀ (k0_h7 : k0_cond7 i k0_t2 = 1#1), ∀ (k0_h9 : k0_cond9 v71 v73 = 1#1), ∀ a, (k0_off110 v93) a + S1x16.size a ≤ S512x128.size a) ∧
  (∀ (k0_h7 : k0_cond7 i k0_t2 = 1#1), ∀ (k0_h9 : k0_cond9 v71 v73 = 1#1), ∀ a, (k0_off112 v93) a + S1x16.size a ≤ S512x128.size a)
theorem k0_off98_inb : ∀ (i : grid0.Coords) (k0_t2 : Fin (k0_t2_loop i).trips) (k0_t6 : Fin k0_t6_loop.trips) (v71 : BitVec 32) (v73 : BitVec 32) (k0_t7 : Fin (k0_t7_loop k0_t6).trips) (v93 : BitVec 32) (k0_hw5 : k0_chk5 i k0_t2 k0_t6 v71 v73 k0_t7 v93), ∀ (k0_h7 : k0_cond7 i k0_t2 = 1#1), ∀ (k0_h9 : k0_cond9 v71 v73 = 1#1), ∀ a, (k0_off98 v93) a + S1x16.size a ≤ S512x128.size a := fun i k0_t2 k0_t6 v71 v73 k0_t7 v93 k0_hw5 k0_h7 k0_h9 => k0_hw5.1 k0_h7 k0_h9
theorem k0_off100_inb : ∀ (i : grid0.Coords) (k0_t2 : Fin (k0_t2_loop i).trips) (k0_t6 : Fin k0_t6_loop.trips) (v71 : BitVec 32) (v73 : BitVec 32) (k0_t7 : Fin (k0_t7_loop k0_t6).trips) (v93 : BitVec 32) (k0_hw5 : k0_chk5 i k0_t2 k0_t6 v71 v73 k0_t7 v93), ∀ (k0_h7 : k0_cond7 i k0_t2 = 1#1), ∀ (k0_h9 : k0_cond9 v71 v73 = 1#1), ∀ a, (k0_off100 v93) a + S1x16.size a ≤ S512x128.size a := fun i k0_t2 k0_t6 v71 v73 k0_t7 v93 k0_hw5 k0_h7 k0_h9 => k0_hw5.2.1 k0_h7 k0_h9
theorem k0_off102_inb : ∀ (i : grid0.Coords) (k0_t2 : Fin (k0_t2_loop i).trips) (k0_t6 : Fin k0_t6_loop.trips) (v71 : BitVec 32) (v73 : BitVec 32) (k0_t7 : Fin (k0_t7_loop k0_t6).trips) (v93 : BitVec 32) (k0_hw5 : k0_chk5 i k0_t2 k0_t6 v71 v73 k0_t7 v93), ∀ (k0_h7 : k0_cond7 i k0_t2 = 1#1), ∀ (k0_h9 : k0_cond9 v71 v73 = 1#1), ∀ a, (k0_off102 v93) a + S1x16.size a ≤ S512x128.size a := fun i k0_t2 k0_t6 v71 v73 k0_t7 v93 k0_hw5 k0_h7 k0_h9 => k0_hw5.2.2.1 k0_h7 k0_h9
theorem k0_off104_inb : ∀ (i : grid0.Coords) (k0_t2 : Fin (k0_t2_loop i).trips) (k0_t6 : Fin k0_t6_loop.trips) (v71 : BitVec 32) (v73 : BitVec 32) (k0_t7 : Fin (k0_t7_loop k0_t6).trips) (v93 : BitVec 32) (k0_hw5 : k0_chk5 i k0_t2 k0_t6 v71 v73 k0_t7 v93), ∀ (k0_h7 : k0_cond7 i k0_t2 = 1#1), ∀ (k0_h9 : k0_cond9 v71 v73 = 1#1), ∀ a, (k0_off104 v93) a + S1x16.size a ≤ S512x128.size a := fun i k0_t2 k0_t6 v71 v73 k0_t7 v93 k0_hw5 k0_h7 k0_h9 => k0_hw5.2.2.2.1 k0_h7 k0_h9
theorem k0_off106_inb : ∀ (i : grid0.Coords) (k0_t2 : Fin (k0_t2_loop i).trips) (k0_t6 : Fin k0_t6_loop.trips) (v71 : BitVec 32) (v73 : BitVec 32) (k0_t7 : Fin (k0_t7_loop k0_t6).trips) (v93 : BitVec 32) (k0_hw5 : k0_chk5 i k0_t2 k0_t6 v71 v73 k0_t7 v93), ∀ (k0_h7 : k0_cond7 i k0_t2 = 1#1), ∀ (k0_h9 : k0_cond9 v71 v73 = 1#1), ∀ a, (k0_off106 v93) a + S1x16.size a ≤ S512x128.size a := fun i k0_t2 k0_t6 v71 v73 k0_t7 v93 k0_hw5 k0_h7 k0_h9 => k0_hw5.2.2.2.2.1 k0_h7 k0_h9
theorem k0_off108_inb : ∀ (i : grid0.Coords) (k0_t2 : Fin (k0_t2_loop i).trips) (k0_t6 : Fin k0_t6_loop.trips) (v71 : BitVec 32) (v73 : BitVec 32) (k0_t7 : Fin (k0_t7_loop k0_t6).trips) (v93 : BitVec 32) (k0_hw5 : k0_chk5 i k0_t2 k0_t6 v71 v73 k0_t7 v93), ∀ (k0_h7 : k0_cond7 i k0_t2 = 1#1), ∀ (k0_h9 : k0_cond9 v71 v73 = 1#1), ∀ a, (k0_off108 v93) a + S1x16.size a ≤ S512x128.size a := fun i k0_t2 k0_t6 v71 v73 k0_t7 v93 k0_hw5 k0_h7 k0_h9 => k0_hw5.2.2.2.2.2.1 k0_h7 k0_h9
theorem k0_off110_inb : ∀ (i : grid0.Coords) (k0_t2 : Fin (k0_t2_loop i).trips) (k0_t6 : Fin k0_t6_loop.trips) (v71 : BitVec 32) (v73 : BitVec 32) (k0_t7 : Fin (k0_t7_loop k0_t6).trips) (v93 : BitVec 32) (k0_hw5 : k0_chk5 i k0_t2 k0_t6 v71 v73 k0_t7 v93), ∀ (k0_h7 : k0_cond7 i k0_t2 = 1#1), ∀ (k0_h9 : k0_cond9 v71 v73 = 1#1), ∀ a, (k0_off110 v93) a + S1x16.size a ≤ S512x128.size a := fun i k0_t2 k0_t6 v71 v73 k0_t7 v93 k0_hw5 k0_h7 k0_h9 => k0_hw5.2.2.2.2.2.2.1 k0_h7 k0_h9
theorem k0_off112_inb : ∀ (i : grid0.Coords) (k0_t2 : Fin (k0_t2_loop i).trips) (k0_t6 : Fin k0_t6_loop.trips) (v71 : BitVec 32) (v73 : BitVec 32) (k0_t7 : Fin (k0_t7_loop k0_t6).trips) (v93 : BitVec 32) (k0_hw5 : k0_chk5 i k0_t2 k0_t6 v71 v73 k0_t7 v93), ∀ (k0_h7 : k0_cond7 i k0_t2 = 1#1), ∀ (k0_h9 : k0_cond9 v71 v73 = 1#1), ∀ a, (k0_off112 v93) a + S1x16.size a ≤ S512x128.size a := fun i k0_t2 k0_t6 v71 v73 k0_t7 v93 k0_hw5 k0_h7 k0_h9 => k0_hw5.2.2.2.2.2.2.2 k0_h7 k0_h9

def k0_off113 (k0_t6 : Fin k0_t6_loop.trips) (k0_t7 : Fin (k0_t7_loop k0_t6).trips) : Fin 2 → Nat :=
  let c0_i32_35 : BitVec 32 := 0#32
  let c1_i32_36 : BitVec 32 := 1#32
  let arg12 : BitVec 32 := Scf.iv c0_i32_35 c1_i32_36 k0_t6
  let c4_i32 : BitVec 32 := 4#32
  let v80 : BitVec 32 := Scalar.shli arg12 c4_i32
  let c1_i32_46 : BitVec 32 := 1#32
  let arg13 : BitVec 32 := Scf.iv v80 c1_i32_46 k0_t7
  let v174 : Index := Scalar.indexCast arg13
  let c112_62 : Index := 112#32
  ![v174.toNat, 112]
@[reducible] def k0_t8_loop (k0_t6 : Fin k0_t6_loop.trips) : Scf.Loop 32 :=
  let c0_i32_35 : BitVec 32 := 0#32
  let c1_i32_36 : BitVec 32 := 1#32
  let arg12 : BitVec 32 := Scf.iv c0_i32_35 c1_i32_36 k0_t6
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let v84 : BitVec 32 := Scalar.addi v80 v83
  let c1_i32_47 : BitVec 32 := 1#32
  ⟨v87, v84, c1_i32_47⟩
def k0_off114 (i : grid0.Coords) (k0_t2 : Fin (k0_t2_loop i).trips) (k0_t6 : Fin k0_t6_loop.trips) (k0_t8 : Fin (k0_t8_loop k0_t6).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c160_i32_10 : BitVec 32 := 160#32
  let v20 : BitVec 32 := Scalar.muli v6 c160_i32_10
  let c160_i32 : BitVec 32 := 160#32
  let v17 : BitVec 32 := Scalar.muli v6 c160_i32
  let c96800_i32 : BitVec 32 := 96800#32
  let v18 : BitVec 32 := Scalar.minsi v17 c96800_i32
  let v19 : BitVec 32 := v18
  let v21 : BitVec 32 := Scalar.subi v20 v19
  let c0_i32_20 : BitVec 32 := 0#32
  let c1_i32_22 : BitVec 32 := 1#32
  let arg11 : BitVec 32 := Scf.iv c0_i32_20 c1_i32_22 k0_t2
  let c2_i32_24 : BitVec 32 := 2#32
  let v45 : BitVec 32 := Scalar.muli arg11 c2_i32_24
  let v46 : BitVec 32 := Scalar.addi v6 v45
  let c1_i32_27 : BitVec 32 := 1#32
  let v51 : BitVec 32 := Scalar.addi v46 c1_i32_27
  let v55 : BitVec 32 := Scalar.subi v51 v6
  let c160_i32_29 : BitVec 32 := 160#32
  let v56 : BitVec 32 := Scalar.muli v55 c160_i32_29
  let v57 : BitVec 32 := Scalar.addi v21 v56
  let c0_i32_35 : BitVec 32 := 0#32
  let c1_i32_36 : BitVec 32 := 1#32
  let arg12 : BitVec 32 := Scf.iv c0_i32_35 c1_i32_36 k0_t6
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t8
  let v88 : BitVec 32 := Scalar.addi v57 arg13
  let v89 : Index := Scalar.indexCast v88
  ![v89.toNat]
def k0_off115 (v93 : BitVec 32) : Fin 2 → Nat :=
  let v94 : Index := Scalar.indexCast v93
  let c0 : Index := 0#32
  ![v94.toNat, 0]

def k0_off116 (k0_t6 : Fin k0_t6_loop.trips) (k0_t8 : Fin (k0_t8_loop k0_t6).trips) : Fin 2 → Nat :=
  let c0_i32_35 : BitVec 32 := 0#32
  let c1_i32_36 : BitVec 32 := 1#32
  let arg12 : BitVec 32 := Scf.iv c0_i32_35 c1_i32_36 k0_t6
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t8
  let v97 : Index := Scalar.indexCast arg13
  let c0_48 : Index := 0#32
  ![v97.toNat, 0]
def k0_off117 (v93 : BitVec 32) : Fin 2 → Nat :=
  let v105 : Index := Scalar.indexCast v93
  let c16 : Index := 16#32
  ![v105.toNat, 16]
def k0_off118 (k0_t6 : Fin k0_t6_loop.trips) (k0_t8 : Fin (k0_t8_loop k0_t6).trips) : Fin 2 → Nat :=
  let c0_i32_35 : BitVec 32 := 0#32
  let c1_i32_36 : BitVec 32 := 1#32
  let arg12 : BitVec 32 := Scf.iv c0_i32_35 c1_i32_36 k0_t6
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t8
  let v108 : Index := Scalar.indexCast arg13
  let c16_50 : Index := 16#32
  ![v108.toNat, 16]
def k0_off119 (v93 : BitVec 32) : Fin 2 → Nat :=
  let v116 : Index := Scalar.indexCast v93
  let c32 : Index := 32#32
  ![v116.toNat, 32]
def k0_off120 (k0_t6 : Fin k0_t6_loop.trips) (k0_t8 : Fin (k0_t8_loop k0_t6).trips) : Fin 2 → Nat :=
  let c0_i32_35 : BitVec 32 := 0#32
  let c1_i32_36 : BitVec 32 := 1#32
  let arg12 : BitVec 32 := Scf.iv c0_i32_35 c1_i32_36 k0_t6
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t8
  let v119 : Index := Scalar.indexCast arg13
  let c32_52 : Index := 32#32
  ![v119.toNat, 32]
def k0_off121 (v93 : BitVec 32) : Fin 2 → Nat :=
  let v127 : Index := Scalar.indexCast v93
  let c48 : Index := 48#32
  ![v127.toNat, 48]
def k0_off122 (k0_t6 : Fin k0_t6_loop.trips) (k0_t8 : Fin (k0_t8_loop k0_t6).trips) : Fin 2 → Nat :=
  let c0_i32_35 : BitVec 32 := 0#32
  let c1_i32_36 : BitVec 32 := 1#32
  let arg12 : BitVec 32 := Scf.iv c0_i32_35 c1_i32_36 k0_t6
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t8
  let v130 : Index := Scalar.indexCast arg13
  let c48_54 : Index := 48#32
  ![v130.toNat, 48]
def k0_off123 (v93 : BitVec 32) : Fin 2 → Nat :=
  let v138 : Index := Scalar.indexCast v93
  let c64 : Index := 64#32
  ![v138.toNat, 64]
def k0_off124 (k0_t6 : Fin k0_t6_loop.trips) (k0_t8 : Fin (k0_t8_loop k0_t6).trips) : Fin 2 → Nat :=
  let c0_i32_35 : BitVec 32 := 0#32
  let c1_i32_36 : BitVec 32 := 1#32
  let arg12 : BitVec 32 := Scf.iv c0_i32_35 c1_i32_36 k0_t6
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t8
  let v141 : Index := Scalar.indexCast arg13
  let c64_56 : Index := 64#32
  ![v141.toNat, 64]
def k0_off125 (v93 : BitVec 32) : Fin 2 → Nat :=
  let v149 : Index := Scalar.indexCast v93
  let c80 : Index := 80#32
  ![v149.toNat, 80]
def k0_off126 (k0_t6 : Fin k0_t6_loop.trips) (k0_t8 : Fin (k0_t8_loop k0_t6).trips) : Fin 2 → Nat :=
  let c0_i32_35 : BitVec 32 := 0#32
  let c1_i32_36 : BitVec 32 := 1#32
  let arg12 : BitVec 32 := Scf.iv c0_i32_35 c1_i32_36 k0_t6
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t8
  let v152 : Index := Scalar.indexCast arg13
  let c80_58 : Index := 80#32
  ![v152.toNat, 80]
def k0_off127 (v93 : BitVec 32) : Fin 2 → Nat :=
  let v160 : Index := Scalar.indexCast v93
  let c96 : Index := 96#32
  ![v160.toNat, 96]
def k0_off128 (k0_t6 : Fin k0_t6_loop.trips) (k0_t8 : Fin (k0_t8_loop k0_t6).trips) : Fin 2 → Nat :=
  let c0_i32_35 : BitVec 32 := 0#32
  let c1_i32_36 : BitVec 32 := 1#32
  let arg12 : BitVec 32 := Scf.iv c0_i32_35 c1_i32_36 k0_t6
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t8
  let v163 : Index := Scalar.indexCast arg13
  let c96_60 : Index := 96#32
  ![v163.toNat, 96]
def k0_off129 (v93 : BitVec 32) : Fin 2 → Nat :=
  let v171 : Index := Scalar.indexCast v93
  let c112 : Index := 112#32
  ![v171.toNat, 112]

def k0_chk6 (i : grid0.Coords) (k0_t2 : Fin (k0_t2_loop i).trips) (k0_t6 : Fin k0_t6_loop.trips) (v71 : BitVec 32) (v73 : BitVec 32) (k0_t8 : Fin (k0_t8_loop k0_t6).trips) (v93 : BitVec 32) : Prop :=
  (∀ (k0_h7 : k0_cond7 i k0_t2 = 1#1), ∀ (k0_h9 : k0_cond9 v71 v73 = 1#1), ∀ a, (k0_off115 v93) a + S1x16.size a ≤ S512x128.size a) ∧
  (∀ (k0_h7 : k0_cond7 i k0_t2 = 1#1), ∀ (k0_h9 : k0_cond9 v71 v73 = 1#1), ∀ a, (k0_off117 v93) a + S1x16.size a ≤ S512x128.size a) ∧
  (∀ (k0_h7 : k0_cond7 i k0_t2 = 1#1), ∀ (k0_h9 : k0_cond9 v71 v73 = 1#1), ∀ a, (k0_off119 v93) a + S1x16.size a ≤ S512x128.size a) ∧
  (∀ (k0_h7 : k0_cond7 i k0_t2 = 1#1), ∀ (k0_h9 : k0_cond9 v71 v73 = 1#1), ∀ a, (k0_off121 v93) a + S1x16.size a ≤ S512x128.size a) ∧
  (∀ (k0_h7 : k0_cond7 i k0_t2 = 1#1), ∀ (k0_h9 : k0_cond9 v71 v73 = 1#1), ∀ a, (k0_off123 v93) a + S1x16.size a ≤ S512x128.size a) ∧
  (∀ (k0_h7 : k0_cond7 i k0_t2 = 1#1), ∀ (k0_h9 : k0_cond9 v71 v73 = 1#1), ∀ a, (k0_off125 v93) a + S1x16.size a ≤ S512x128.size a) ∧
  (∀ (k0_h7 : k0_cond7 i k0_t2 = 1#1), ∀ (k0_h9 : k0_cond9 v71 v73 = 1#1), ∀ a, (k0_off127 v93) a + S1x16.size a ≤ S512x128.size a) ∧
  (∀ (k0_h7 : k0_cond7 i k0_t2 = 1#1), ∀ (k0_h9 : k0_cond9 v71 v73 = 1#1), ∀ a, (k0_off129 v93) a + S1x16.size a ≤ S512x128.size a)
theorem k0_off115_inb : ∀ (i : grid0.Coords) (k0_t2 : Fin (k0_t2_loop i).trips) (k0_t6 : Fin k0_t6_loop.trips) (v71 : BitVec 32) (v73 : BitVec 32) (k0_t8 : Fin (k0_t8_loop k0_t6).trips) (v93 : BitVec 32) (k0_hw6 : k0_chk6 i k0_t2 k0_t6 v71 v73 k0_t8 v93), ∀ (k0_h7 : k0_cond7 i k0_t2 = 1#1), ∀ (k0_h9 : k0_cond9 v71 v73 = 1#1), ∀ a, (k0_off115 v93) a + S1x16.size a ≤ S512x128.size a := fun i k0_t2 k0_t6 v71 v73 k0_t8 v93 k0_hw6 k0_h7 k0_h9 => k0_hw6.1 k0_h7 k0_h9
theorem k0_off117_inb : ∀ (i : grid0.Coords) (k0_t2 : Fin (k0_t2_loop i).trips) (k0_t6 : Fin k0_t6_loop.trips) (v71 : BitVec 32) (v73 : BitVec 32) (k0_t8 : Fin (k0_t8_loop k0_t6).trips) (v93 : BitVec 32) (k0_hw6 : k0_chk6 i k0_t2 k0_t6 v71 v73 k0_t8 v93), ∀ (k0_h7 : k0_cond7 i k0_t2 = 1#1), ∀ (k0_h9 : k0_cond9 v71 v73 = 1#1), ∀ a, (k0_off117 v93) a + S1x16.size a ≤ S512x128.size a := fun i k0_t2 k0_t6 v71 v73 k0_t8 v93 k0_hw6 k0_h7 k0_h9 => k0_hw6.2.1 k0_h7 k0_h9
theorem k0_off119_inb : ∀ (i : grid0.Coords) (k0_t2 : Fin (k0_t2_loop i).trips) (k0_t6 : Fin k0_t6_loop.trips) (v71 : BitVec 32) (v73 : BitVec 32) (k0_t8 : Fin (k0_t8_loop k0_t6).trips) (v93 : BitVec 32) (k0_hw6 : k0_chk6 i k0_t2 k0_t6 v71 v73 k0_t8 v93), ∀ (k0_h7 : k0_cond7 i k0_t2 = 1#1), ∀ (k0_h9 : k0_cond9 v71 v73 = 1#1), ∀ a, (k0_off119 v93) a + S1x16.size a ≤ S512x128.size a := fun i k0_t2 k0_t6 v71 v73 k0_t8 v93 k0_hw6 k0_h7 k0_h9 => k0_hw6.2.2.1 k0_h7 k0_h9
theorem k0_off121_inb : ∀ (i : grid0.Coords) (k0_t2 : Fin (k0_t2_loop i).trips) (k0_t6 : Fin k0_t6_loop.trips) (v71 : BitVec 32) (v73 : BitVec 32) (k0_t8 : Fin (k0_t8_loop k0_t6).trips) (v93 : BitVec 32) (k0_hw6 : k0_chk6 i k0_t2 k0_t6 v71 v73 k0_t8 v93), ∀ (k0_h7 : k0_cond7 i k0_t2 = 1#1), ∀ (k0_h9 : k0_cond9 v71 v73 = 1#1), ∀ a, (k0_off121 v93) a + S1x16.size a ≤ S512x128.size a := fun i k0_t2 k0_t6 v71 v73 k0_t8 v93 k0_hw6 k0_h7 k0_h9 => k0_hw6.2.2.2.1 k0_h7 k0_h9
theorem k0_off123_inb : ∀ (i : grid0.Coords) (k0_t2 : Fin (k0_t2_loop i).trips) (k0_t6 : Fin k0_t6_loop.trips) (v71 : BitVec 32) (v73 : BitVec 32) (k0_t8 : Fin (k0_t8_loop k0_t6).trips) (v93 : BitVec 32) (k0_hw6 : k0_chk6 i k0_t2 k0_t6 v71 v73 k0_t8 v93), ∀ (k0_h7 : k0_cond7 i k0_t2 = 1#1), ∀ (k0_h9 : k0_cond9 v71 v73 = 1#1), ∀ a, (k0_off123 v93) a + S1x16.size a ≤ S512x128.size a := fun i k0_t2 k0_t6 v71 v73 k0_t8 v93 k0_hw6 k0_h7 k0_h9 => k0_hw6.2.2.2.2.1 k0_h7 k0_h9
theorem k0_off125_inb : ∀ (i : grid0.Coords) (k0_t2 : Fin (k0_t2_loop i).trips) (k0_t6 : Fin k0_t6_loop.trips) (v71 : BitVec 32) (v73 : BitVec 32) (k0_t8 : Fin (k0_t8_loop k0_t6).trips) (v93 : BitVec 32) (k0_hw6 : k0_chk6 i k0_t2 k0_t6 v71 v73 k0_t8 v93), ∀ (k0_h7 : k0_cond7 i k0_t2 = 1#1), ∀ (k0_h9 : k0_cond9 v71 v73 = 1#1), ∀ a, (k0_off125 v93) a + S1x16.size a ≤ S512x128.size a := fun i k0_t2 k0_t6 v71 v73 k0_t8 v93 k0_hw6 k0_h7 k0_h9 => k0_hw6.2.2.2.2.2.1 k0_h7 k0_h9
theorem k0_off127_inb : ∀ (i : grid0.Coords) (k0_t2 : Fin (k0_t2_loop i).trips) (k0_t6 : Fin k0_t6_loop.trips) (v71 : BitVec 32) (v73 : BitVec 32) (k0_t8 : Fin (k0_t8_loop k0_t6).trips) (v93 : BitVec 32) (k0_hw6 : k0_chk6 i k0_t2 k0_t6 v71 v73 k0_t8 v93), ∀ (k0_h7 : k0_cond7 i k0_t2 = 1#1), ∀ (k0_h9 : k0_cond9 v71 v73 = 1#1), ∀ a, (k0_off127 v93) a + S1x16.size a ≤ S512x128.size a := fun i k0_t2 k0_t6 v71 v73 k0_t8 v93 k0_hw6 k0_h7 k0_h9 => k0_hw6.2.2.2.2.2.2.1 k0_h7 k0_h9
theorem k0_off129_inb : ∀ (i : grid0.Coords) (k0_t2 : Fin (k0_t2_loop i).trips) (k0_t6 : Fin k0_t6_loop.trips) (v71 : BitVec 32) (v73 : BitVec 32) (k0_t8 : Fin (k0_t8_loop k0_t6).trips) (v93 : BitVec 32) (k0_hw6 : k0_chk6 i k0_t2 k0_t6 v71 v73 k0_t8 v93), ∀ (k0_h7 : k0_cond7 i k0_t2 = 1#1), ∀ (k0_h9 : k0_cond9 v71 v73 = 1#1), ∀ a, (k0_off129 v93) a + S1x16.size a ≤ S512x128.size a := fun i k0_t2 k0_t6 v71 v73 k0_t8 v93 k0_hw6 k0_h7 k0_h9 => k0_hw6.2.2.2.2.2.2.2 k0_h7 k0_h9

def k0_off130 (k0_t6 : Fin k0_t6_loop.trips) (k0_t8 : Fin (k0_t8_loop k0_t6).trips) : Fin 2 → Nat :=
  let c0_i32_35 : BitVec 32 := 0#32
  let c1_i32_36 : BitVec 32 := 1#32
  let arg12 : BitVec 32 := Scf.iv c0_i32_35 c1_i32_36 k0_t6
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t8
  let v174 : Index := Scalar.indexCast arg13
  let c112_62 : Index := 112#32
  ![v174.toNat, 112]
def k0_cond10 (i : grid0.Coords) (k0_t2 : Fin (k0_t2_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c0_i32_20 : BitVec 32 := 0#32
  let c1_i32_22 : BitVec 32 := 1#32
  let arg11 : BitVec 32 := Scf.iv c0_i32_20 c1_i32_22 k0_t2
  let c2_i32_24 : BitVec 32 := 2#32
  let v45 : BitVec 32 := Scalar.muli arg11 c2_i32_24
  let v46 : BitVec 32 := Scalar.addi v6 v45
  let c1_i32_27 : BitVec 32 := 1#32
  let v51 : BitVec 32 := Scalar.addi v46 c1_i32_27
  let c2_i32_38 : BitVec 32 := 2#32
  let v61 : BitVec 32 := Scalar.addi v51 c2_i32_38
  let c19_i32_5 : BitVec 32 := 19#32
  let c17_i32_2 : BitVec 32 := 17#32
  let v7 : BitVec 1 := Scalar.cmpi .slt v1 c17_i32_2
  let c1_i32_3 : BitVec 32 := 1#32
  let c0_i32_4 : BitVec 32 := 0#32
  let v8 : BitVec 32 := Scalar.select v7 c1_i32_3 c0_i32_4
  let v9 : BitVec 32 := Scalar.addi c19_i32_5 v8
  let v10 : BitVec 32 := Scalar.addi v6 v9
  let v62 : BitVec 1 := Scalar.cmpi .slt v61 v10
  let v63 : BitVec 32 := Scalar.extui v62
  let c0_i32_39 : BitVec 32 := 0#32
  let v64 : BitVec 1 := Scalar.cmpi .ne v63 c0_i32_39
  v64

def k0_off131 (i : grid0.Coords) (k0_t2 : Fin (k0_t2_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c0_i32_20 : BitVec 32 := 0#32
  let c1_i32_22 : BitVec 32 := 1#32
  let arg11 : BitVec 32 := Scf.iv c0_i32_20 c1_i32_22 k0_t2
  let c2_i32_24 : BitVec 32 := 2#32
  let v45 : BitVec 32 := Scalar.muli arg11 c2_i32_24
  let v46 : BitVec 32 := Scalar.addi v6 v45
  let c1_i32_27 : BitVec 32 := 1#32
  let v51 : BitVec 32 := Scalar.addi v46 c1_i32_27
  let c2_i32_40 : BitVec 32 := 2#32
  let v65 : BitVec 32 := Scalar.addi v51 c2_i32_40
  let c160_i32_41 : BitVec 32 := 160#32
  let v66 : BitVec 32 := Scalar.muli v65 c160_i32_41
  let c0_i32_42 : BitVec 32 := 0#32
  ![v66.toNat, 0]
@[reducible] def k0_t9_loop (i : grid0.Coords) : Scf.Loop 32 :=
  let c0_i32_20 : BitVec 32 := 0#32
  let c19_i32_5 : BitVec 32 := 19#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c17_i32_2 : BitVec 32 := 17#32
  let v7 : BitVec 1 := Scalar.cmpi .slt v1 c17_i32_2
  let c1_i32_3 : BitVec 32 := 1#32
  let c0_i32_4 : BitVec 32 := 0#32
  let v8 : BitVec 32 := Scalar.select v7 c1_i32_3 c0_i32_4
  let v9 : BitVec 32 := Scalar.addi c19_i32_5 v8
  let c1_i32_11 : BitVec 32 := 1#32
  let v22 : BitVec 32 := Scalar.addi v9 c1_i32_11
  let c0_i32_13 : BitVec 32 := 0#32
  let v24 : BitVec 1 := Scalar.cmpi .sgt v22 c0_i32_13
  let v25 : BitVec 32 := Scalar.extui v24
  let c0_i32_14 : BitVec 32 := 0#32
  let v26 : BitVec 1 := Scalar.cmpi .slt v22 c0_i32_14
  let v27 : BitVec 32 := Scalar.extui v26
  let v28 : BitVec 32 := Scalar.subi v25 v27
  let c2_i32_12 : BitVec 32 := 2#32
  let c0_i32_15 : BitVec 32 := 0#32
  let v29 : BitVec 1 := Scalar.cmpi .sgt c2_i32_12 c0_i32_15
  let v30 : BitVec 32 := Scalar.extui v29
  let c0_i32_16 : BitVec 32 := 0#32
  let v31 : BitVec 1 := Scalar.cmpi .slt c2_i32_12 c0_i32_16
  let v32 : BitVec 32 := Scalar.extui v31
  let v33 : BitVec 32 := Scalar.subi v30 v32
  let v34 : BitVec 1 := Scalar.cmpi .ne v28 v33
  let v35 : BitVec 32 := Scalar.remsi v22 c2_i32_12
  let c0_i32_17 : BitVec 32 := 0#32
  let v36 : BitVec 1 := Scalar.cmpi .ne v35 c0_i32_17
  let v37 : BitVec 1 := Scalar.andi v34 v36
  let v23 : BitVec 32 := Scalar.divsi v22 c2_i32_12
  let c1_i32_18 : BitVec 32 := 1#32
  let v38 : BitVec 32 := Scalar.subi v23 c1_i32_18
  let v39 : BitVec 32 := Scalar.select v37 v38 v23
  let v40 : BitVec 32 := Scalar.subi v39 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let v41 : BitVec 32 := Scalar.addi c0_i32_20 v40
  let c1_i32_23 : BitVec 32 := 1#32
  ⟨v44, v41, c1_i32_23⟩
def k0_cond11 (i : grid0.Coords) (k0_t9 : Fin (k0_t9_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c0_i32_20 : BitVec 32 := 0#32
  let c19_i32_5 : BitVec 32 := 19#32
  let c17_i32_2 : BitVec 32 := 17#32
  let v7 : BitVec 1 := Scalar.cmpi .slt v1 c17_i32_2
  let c1_i32_3 : BitVec 32 := 1#32
  let c0_i32_4 : BitVec 32 := 0#32
  let v8 : BitVec 32 := Scalar.select v7 c1_i32_3 c0_i32_4
  let v9 : BitVec 32 := Scalar.addi c19_i32_5 v8
  let c1_i32_11 : BitVec 32 := 1#32
  let v22 : BitVec 32 := Scalar.addi v9 c1_i32_11
  let c0_i32_13 : BitVec 32 := 0#32
  let v24 : BitVec 1 := Scalar.cmpi .sgt v22 c0_i32_13
  let v25 : BitVec 32 := Scalar.extui v24
  let c0_i32_14 : BitVec 32 := 0#32
  let v26 : BitVec 1 := Scalar.cmpi .slt v22 c0_i32_14
  let v27 : BitVec 32 := Scalar.extui v26
  let v28 : BitVec 32 := Scalar.subi v25 v27
  let c2_i32_12 : BitVec 32 := 2#32
  let c0_i32_15 : BitVec 32 := 0#32
  let v29 : BitVec 1 := Scalar.cmpi .sgt c2_i32_12 c0_i32_15
  let v30 : BitVec 32 := Scalar.extui v29
  let c0_i32_16 : BitVec 32 := 0#32
  let v31 : BitVec 1 := Scalar.cmpi .slt c2_i32_12 c0_i32_16
  let v32 : BitVec 32 := Scalar.extui v31
  let v33 : BitVec 32 := Scalar.subi v30 v32
  let v34 : BitVec 1 := Scalar.cmpi .ne v28 v33
  let v35 : BitVec 32 := Scalar.remsi v22 c2_i32_12
  let c0_i32_17 : BitVec 32 := 0#32
  let v36 : BitVec 1 := Scalar.cmpi .ne v35 c0_i32_17
  let v37 : BitVec 1 := Scalar.andi v34 v36
  let v23 : BitVec 32 := Scalar.divsi v22 c2_i32_12
  let c1_i32_18 : BitVec 32 := 1#32
  let v38 : BitVec 32 := Scalar.subi v23 c1_i32_18
  let v39 : BitVec 32 := Scalar.select v37 v38 v23
  let v40 : BitVec 32 := Scalar.subi v39 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let c1_i32_23 : BitVec 32 := 1#32
  let arg11 : BitVec 32 := Scf.iv v44 c1_i32_23 k0_t9
  let c2_i32_24 : BitVec 32 := 2#32
  let v45 : BitVec 32 := Scalar.muli arg11 c2_i32_24
  let v46 : BitVec 32 := Scalar.addi v6 v45
  let c0_i32_25 : BitVec 32 := 0#32
  let v47 : BitVec 32 := Scalar.addi v46 c0_i32_25
  let v10 : BitVec 32 := Scalar.addi v6 v9
  let v48 : BitVec 1 := Scalar.cmpi .slt v47 v10
  let v49 : BitVec 32 := Scalar.extui v48
  let c0_i32_26 : BitVec 32 := 0#32
  let v50 : BitVec 1 := Scalar.cmpi .ne v49 c0_i32_26
  v50

@[reducible] def k0_t10_loop : Scf.Loop 32 :=
  let c0_i32_35 : BitVec 32 := 0#32
  let c10_i32 : BitVec 32 := 10#32
  let v60 : BitVec 32 := Scalar.addi c0_i32_35 c10_i32
  let c1_i32_36 : BitVec 32 := 1#32
  ⟨c0_i32_35, v60, c1_i32_36⟩
def k0_off132 (i : grid0.Coords) (k0_t9 : Fin (k0_t9_loop i).trips) (k0_t10 : Fin k0_t10_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c160_i32_10 : BitVec 32 := 160#32
  let v20 : BitVec 32 := Scalar.muli v6 c160_i32_10
  let c160_i32 : BitVec 32 := 160#32
  let v17 : BitVec 32 := Scalar.muli v6 c160_i32
  let c96800_i32 : BitVec 32 := 96800#32
  let v18 : BitVec 32 := Scalar.minsi v17 c96800_i32
  let v19 : BitVec 32 := v18
  let v21 : BitVec 32 := Scalar.subi v20 v19
  let c0_i32_20 : BitVec 32 := 0#32
  let c19_i32_5 : BitVec 32 := 19#32
  let c17_i32_2 : BitVec 32 := 17#32
  let v7 : BitVec 1 := Scalar.cmpi .slt v1 c17_i32_2
  let c1_i32_3 : BitVec 32 := 1#32
  let c0_i32_4 : BitVec 32 := 0#32
  let v8 : BitVec 32 := Scalar.select v7 c1_i32_3 c0_i32_4
  let v9 : BitVec 32 := Scalar.addi c19_i32_5 v8
  let c1_i32_11 : BitVec 32 := 1#32
  let v22 : BitVec 32 := Scalar.addi v9 c1_i32_11
  let c0_i32_13 : BitVec 32 := 0#32
  let v24 : BitVec 1 := Scalar.cmpi .sgt v22 c0_i32_13
  let v25 : BitVec 32 := Scalar.extui v24
  let c0_i32_14 : BitVec 32 := 0#32
  let v26 : BitVec 1 := Scalar.cmpi .slt v22 c0_i32_14
  let v27 : BitVec 32 := Scalar.extui v26
  let v28 : BitVec 32 := Scalar.subi v25 v27
  let c2_i32_12 : BitVec 32 := 2#32
  let c0_i32_15 : BitVec 32 := 0#32
  let v29 : BitVec 1 := Scalar.cmpi .sgt c2_i32_12 c0_i32_15
  let v30 : BitVec 32 := Scalar.extui v29
  let c0_i32_16 : BitVec 32 := 0#32
  let v31 : BitVec 1 := Scalar.cmpi .slt c2_i32_12 c0_i32_16
  let v32 : BitVec 32 := Scalar.extui v31
  let v33 : BitVec 32 := Scalar.subi v30 v32
  let v34 : BitVec 1 := Scalar.cmpi .ne v28 v33
  let v35 : BitVec 32 := Scalar.remsi v22 c2_i32_12
  let c0_i32_17 : BitVec 32 := 0#32
  let v36 : BitVec 1 := Scalar.cmpi .ne v35 c0_i32_17
  let v37 : BitVec 1 := Scalar.andi v34 v36
  let v23 : BitVec 32 := Scalar.divsi v22 c2_i32_12
  let c1_i32_18 : BitVec 32 := 1#32
  let v38 : BitVec 32 := Scalar.subi v23 c1_i32_18
  let v39 : BitVec 32 := Scalar.select v37 v38 v23
  let v40 : BitVec 32 := Scalar.subi v39 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let c1_i32_23 : BitVec 32 := 1#32
  let arg11 : BitVec 32 := Scf.iv v44 c1_i32_23 k0_t9
  let c2_i32_24 : BitVec 32 := 2#32
  let v45 : BitVec 32 := Scalar.muli arg11 c2_i32_24
  let v46 : BitVec 32 := Scalar.addi v6 v45
  let c0_i32_25 : BitVec 32 := 0#32
  let v47 : BitVec 32 := Scalar.addi v46 c0_i32_25
  let v55 : BitVec 32 := Scalar.subi v47 v6
  let c160_i32_29 : BitVec 32 := 160#32
  let v56 : BitVec 32 := Scalar.muli v55 c160_i32_29
  let v57 : BitVec 32 := Scalar.addi v21 v56
  let c0_i32_35 : BitVec 32 := 0#32
  let c1_i32_36 : BitVec 32 := 1#32
  let arg12 : BitVec 32 := Scf.iv c0_i32_35 c1_i32_36 k0_t10
  let c16_i32 : BitVec 32 := 16#32
  let v65 : BitVec 32 := Scalar.muli arg12 c16_i32
  let v66 : BitVec 32 := Scalar.addi v57 v65
  let v67 : Index := Scalar.indexCast v66
  ![v67.toNat]
def k0_off133 (k0_t10 : Fin k0_t10_loop.trips) : Fin 2 → Nat :=
  let c0_i32_35 : BitVec 32 := 0#32
  let c1_i32_36 : BitVec 32 := 1#32
  let arg12 : BitVec 32 := Scf.iv c0_i32_35 c1_i32_36 k0_t10
  let c4_i32 : BitVec 32 := 4#32
  let v80 : BitVec 32 := Scalar.shli arg12 c4_i32
  let v81 : Index := Scalar.indexCast v80
  let c0 : Index := 0#32
  ![v81.toNat, 0]
def k0_off134 (k0_t10 : Fin k0_t10_loop.trips) (c1_i32_43 : BitVec 32) : Fin 2 → Nat :=
  let c0_i32_35 : BitVec 32 := 0#32
  let c1_i32_36 : BitVec 32 := 1#32
  let arg12 : BitVec 32 := Scf.iv c0_i32_35 c1_i32_36 k0_t10
  let c4_i32_42 : BitVec 32 := 4#32
  let v84 : BitVec 32 := Scalar.shli arg12 c4_i32_42
  let v85 : BitVec 32 := Scalar.addi v84 c1_i32_43
  let v86 : Index := Scalar.indexCast v85
  let c0_44 : Index := 0#32
  ![v86.toNat, 0]
def k0_off135 (v71 : BitVec 32) : Fin 2 → Nat :=
  let v174 : Index := Scalar.indexCast v71
  let c0_76 : Index := 0#32
  ![v174.toNat, 0]
def k0_cond12 (v71 : BitVec 32) (v73 : BitVec 32) : BitVec 1 :=
  let v74 : BitVec 1 := Scalar.cmpi .eq v71 v73
  let v75 : BitVec 32 := Scalar.extui v74
  let c0_i32_40 : BitVec 32 := 0#32
  let v76 : BitVec 1 := Scalar.cmpi .ne v75 c0_i32_40
  v76

def k0_off136 (k0_t10 : Fin k0_t10_loop.trips) : Fin 2 → Nat :=
  let c0_i32_35 : BitVec 32 := 0#32
  let c1_i32_36 : BitVec 32 := 1#32
  let arg12 : BitVec 32 := Scf.iv c0_i32_35 c1_i32_36 k0_t10
  let c4_i32_78 : BitVec 32 := 4#32
  let v182 : BitVec 32 := Scalar.shli arg12 c4_i32_78
  let v183 : Index := Scalar.indexCast v182
  let c16 : Index := 16#32
  ![v183.toNat, 16]
def k0_off137 (k0_t10 : Fin k0_t10_loop.trips) (c1_i32_80 : BitVec 32) : Fin 2 → Nat :=
  let c0_i32_35 : BitVec 32 := 0#32
  let c1_i32_36 : BitVec 32 := 1#32
  let arg12 : BitVec 32 := Scf.iv c0_i32_35 c1_i32_36 k0_t10
  let c4_i32_79 : BitVec 32 := 4#32
  let v186 : BitVec 32 := Scalar.shli arg12 c4_i32_79
  let v187 : BitVec 32 := Scalar.addi v186 c1_i32_80
  let v188 : Index := Scalar.indexCast v187
  let c16_81 : Index := 16#32
  ![v188.toNat, 16]
def k0_off138 (v71 : BitVec 32) : Fin 2 → Nat :=
  let v276 : Index := Scalar.indexCast v71
  let c16_124 : Index := 16#32
  ![v276.toNat, 16]
def k0_off139 (k0_t10 : Fin k0_t10_loop.trips) : Fin 2 → Nat :=
  let c0_i32_35 : BitVec 32 := 0#32
  let c1_i32_36 : BitVec 32 := 1#32
  let arg12 : BitVec 32 := Scf.iv c0_i32_35 c1_i32_36 k0_t10
  let c4_i32_126 : BitVec 32 := 4#32
  let v284 : BitVec 32 := Scalar.shli arg12 c4_i32_126
  let v285 : Index := Scalar.indexCast v284
  let c32 : Index := 32#32
  ![v285.toNat, 32]
def k0_off140 (k0_t10 : Fin k0_t10_loop.trips) (c1_i32_128 : BitVec 32) : Fin 2 → Nat :=
  let c0_i32_35 : BitVec 32 := 0#32
  let c1_i32_36 : BitVec 32 := 1#32
  let arg12 : BitVec 32 := Scf.iv c0_i32_35 c1_i32_36 k0_t10
  let c4_i32_127 : BitVec 32 := 4#32
  let v288 : BitVec 32 := Scalar.shli arg12 c4_i32_127
  let v289 : BitVec 32 := Scalar.addi v288 c1_i32_128
  let v290 : Index := Scalar.indexCast v289
  let c32_129 : Index := 32#32
  ![v290.toNat, 32]
def k0_off141 (v71 : BitVec 32) : Fin 2 → Nat :=
  let v378 : Index := Scalar.indexCast v71
  let c32_172 : Index := 32#32
  ![v378.toNat, 32]
def k0_off142 (k0_t10 : Fin k0_t10_loop.trips) : Fin 2 → Nat :=
  let c0_i32_35 : BitVec 32 := 0#32
  let c1_i32_36 : BitVec 32 := 1#32
  let arg12 : BitVec 32 := Scf.iv c0_i32_35 c1_i32_36 k0_t10
  let c4_i32_174 : BitVec 32 := 4#32
  let v386 : BitVec 32 := Scalar.shli arg12 c4_i32_174
  let v387 : Index := Scalar.indexCast v386
  let c48 : Index := 48#32
  ![v387.toNat, 48]
def k0_off143 (k0_t10 : Fin k0_t10_loop.trips) (c1_i32_176 : BitVec 32) : Fin 2 → Nat :=
  let c0_i32_35 : BitVec 32 := 0#32
  let c1_i32_36 : BitVec 32 := 1#32
  let arg12 : BitVec 32 := Scf.iv c0_i32_35 c1_i32_36 k0_t10
  let c4_i32_175 : BitVec 32 := 4#32
  let v390 : BitVec 32 := Scalar.shli arg12 c4_i32_175
  let v391 : BitVec 32 := Scalar.addi v390 c1_i32_176
  let v392 : Index := Scalar.indexCast v391
  let c48_177 : Index := 48#32
  ![v392.toNat, 48]
def k0_off144 (v71 : BitVec 32) : Fin 2 → Nat :=
  let v480 : Index := Scalar.indexCast v71
  let c48_220 : Index := 48#32
  ![v480.toNat, 48]
def k0_off145 (k0_t10 : Fin k0_t10_loop.trips) : Fin 2 → Nat :=
  let c0_i32_35 : BitVec 32 := 0#32
  let c1_i32_36 : BitVec 32 := 1#32
  let arg12 : BitVec 32 := Scf.iv c0_i32_35 c1_i32_36 k0_t10
  let c4_i32_222 : BitVec 32 := 4#32
  let v488 : BitVec 32 := Scalar.shli arg12 c4_i32_222
  let v489 : Index := Scalar.indexCast v488
  let c64 : Index := 64#32
  ![v489.toNat, 64]
def k0_off146 (k0_t10 : Fin k0_t10_loop.trips) (c1_i32_224 : BitVec 32) : Fin 2 → Nat :=
  let c0_i32_35 : BitVec 32 := 0#32
  let c1_i32_36 : BitVec 32 := 1#32
  let arg12 : BitVec 32 := Scf.iv c0_i32_35 c1_i32_36 k0_t10
  let c4_i32_223 : BitVec 32 := 4#32
  let v492 : BitVec 32 := Scalar.shli arg12 c4_i32_223
  let v493 : BitVec 32 := Scalar.addi v492 c1_i32_224
  let v494 : Index := Scalar.indexCast v493
  let c64_225 : Index := 64#32
  ![v494.toNat, 64]
def k0_off147 (v71 : BitVec 32) : Fin 2 → Nat :=
  let v582 : Index := Scalar.indexCast v71
  let c64_268 : Index := 64#32
  ![v582.toNat, 64]
def k0_off148 (k0_t10 : Fin k0_t10_loop.trips) : Fin 2 → Nat :=
  let c0_i32_35 : BitVec 32 := 0#32
  let c1_i32_36 : BitVec 32 := 1#32
  let arg12 : BitVec 32 := Scf.iv c0_i32_35 c1_i32_36 k0_t10
  let c4_i32_270 : BitVec 32 := 4#32
  let v590 : BitVec 32 := Scalar.shli arg12 c4_i32_270
  let v591 : Index := Scalar.indexCast v590
  let c80 : Index := 80#32
  ![v591.toNat, 80]
def k0_off149 (k0_t10 : Fin k0_t10_loop.trips) (c1_i32_272 : BitVec 32) : Fin 2 → Nat :=
  let c0_i32_35 : BitVec 32 := 0#32
  let c1_i32_36 : BitVec 32 := 1#32
  let arg12 : BitVec 32 := Scf.iv c0_i32_35 c1_i32_36 k0_t10
  let c4_i32_271 : BitVec 32 := 4#32
  let v594 : BitVec 32 := Scalar.shli arg12 c4_i32_271
  let v595 : BitVec 32 := Scalar.addi v594 c1_i32_272
  let v596 : Index := Scalar.indexCast v595
  let c80_273 : Index := 80#32
  ![v596.toNat, 80]
def k0_off150 (v71 : BitVec 32) : Fin 2 → Nat :=
  let v684 : Index := Scalar.indexCast v71
  let c80_316 : Index := 80#32
  ![v684.toNat, 80]
def k0_off151 (k0_t10 : Fin k0_t10_loop.trips) : Fin 2 → Nat :=
  let c0_i32_35 : BitVec 32 := 0#32
  let c1_i32_36 : BitVec 32 := 1#32
  let arg12 : BitVec 32 := Scf.iv c0_i32_35 c1_i32_36 k0_t10
  let c4_i32_318 : BitVec 32 := 4#32
  let v692 : BitVec 32 := Scalar.shli arg12 c4_i32_318
  let v693 : Index := Scalar.indexCast v692
  let c96 : Index := 96#32
  ![v693.toNat, 96]
def k0_off152 (k0_t10 : Fin k0_t10_loop.trips) (c1_i32_320 : BitVec 32) : Fin 2 → Nat :=
  let c0_i32_35 : BitVec 32 := 0#32
  let c1_i32_36 : BitVec 32 := 1#32
  let arg12 : BitVec 32 := Scf.iv c0_i32_35 c1_i32_36 k0_t10
  let c4_i32_319 : BitVec 32 := 4#32
  let v696 : BitVec 32 := Scalar.shli arg12 c4_i32_319
  let v697 : BitVec 32 := Scalar.addi v696 c1_i32_320
  let v698 : Index := Scalar.indexCast v697
  let c96_321 : Index := 96#32
  ![v698.toNat, 96]
def k0_off153 (v71 : BitVec 32) : Fin 2 → Nat :=
  let v786 : Index := Scalar.indexCast v71
  let c96_364 : Index := 96#32
  ![v786.toNat, 96]
def k0_off154 (k0_t10 : Fin k0_t10_loop.trips) : Fin 2 → Nat :=
  let c0_i32_35 : BitVec 32 := 0#32
  let c1_i32_36 : BitVec 32 := 1#32
  let arg12 : BitVec 32 := Scf.iv c0_i32_35 c1_i32_36 k0_t10
  let c4_i32_366 : BitVec 32 := 4#32
  let v794 : BitVec 32 := Scalar.shli arg12 c4_i32_366
  let v795 : Index := Scalar.indexCast v794
  let c112 : Index := 112#32
  ![v795.toNat, 112]
def k0_off155 (k0_t10 : Fin k0_t10_loop.trips) (c1_i32_368 : BitVec 32) : Fin 2 → Nat :=
  let c0_i32_35 : BitVec 32 := 0#32
  let c1_i32_36 : BitVec 32 := 1#32
  let arg12 : BitVec 32 := Scf.iv c0_i32_35 c1_i32_36 k0_t10
  let c4_i32_367 : BitVec 32 := 4#32
  let v798 : BitVec 32 := Scalar.shli arg12 c4_i32_367
  let v799 : BitVec 32 := Scalar.addi v798 c1_i32_368
  let v800 : Index := Scalar.indexCast v799
  let c112_369 : Index := 112#32
  ![v800.toNat, 112]
def k0_off156 (v71 : BitVec 32) : Fin 2 → Nat :=
  let v888 : Index := Scalar.indexCast v71
  let c112_412 : Index := 112#32
  ![v888.toNat, 112]

def k0_chk7 (i : grid0.Coords) (k0_t9 : Fin (k0_t9_loop i).trips) (v71 : BitVec 32) (v73 : BitVec 32) : Prop :=
  (∀ (k0_h11 : k0_cond11 i k0_t9 = 1#1), ∀ (k0_h12 : k0_cond12 v71 v73 = 1#1), ∀ a, (k0_off135 v71) a + S1x16.size a ≤ S512x128.size a) ∧
  (∀ (k0_h11 : k0_cond11 i k0_t9 = 1#1), ∀ (k0_h12 : k0_cond12 v71 v73 = 1#1), ∀ a, (k0_off138 v71) a + S1x16.size a ≤ S512x128.size a) ∧
  (∀ (k0_h11 : k0_cond11 i k0_t9 = 1#1), ∀ (k0_h12 : k0_cond12 v71 v73 = 1#1), ∀ a, (k0_off141 v71) a + S1x16.size a ≤ S512x128.size a) ∧
  (∀ (k0_h11 : k0_cond11 i k0_t9 = 1#1), ∀ (k0_h12 : k0_cond12 v71 v73 = 1#1), ∀ a, (k0_off144 v71) a + S1x16.size a ≤ S512x128.size a) ∧
  (∀ (k0_h11 : k0_cond11 i k0_t9 = 1#1), ∀ (k0_h12 : k0_cond12 v71 v73 = 1#1), ∀ a, (k0_off147 v71) a + S1x16.size a ≤ S512x128.size a) ∧
  (∀ (k0_h11 : k0_cond11 i k0_t9 = 1#1), ∀ (k0_h12 : k0_cond12 v71 v73 = 1#1), ∀ a, (k0_off150 v71) a + S1x16.size a ≤ S512x128.size a) ∧
  (∀ (k0_h11 : k0_cond11 i k0_t9 = 1#1), ∀ (k0_h12 : k0_cond12 v71 v73 = 1#1), ∀ a, (k0_off153 v71) a + S1x16.size a ≤ S512x128.size a) ∧
  (∀ (k0_h11 : k0_cond11 i k0_t9 = 1#1), ∀ (k0_h12 : k0_cond12 v71 v73 = 1#1), ∀ a, (k0_off156 v71) a + S1x16.size a ≤ S512x128.size a)
theorem k0_off135_inb : ∀ (i : grid0.Coords) (k0_t9 : Fin (k0_t9_loop i).trips) (v71 : BitVec 32) (v73 : BitVec 32) (k0_hw7 : k0_chk7 i k0_t9 v71 v73), ∀ (k0_h11 : k0_cond11 i k0_t9 = 1#1), ∀ (k0_h12 : k0_cond12 v71 v73 = 1#1), ∀ a, (k0_off135 v71) a + S1x16.size a ≤ S512x128.size a := fun i k0_t9 v71 v73 k0_hw7 k0_h11 k0_h12 => k0_hw7.1 k0_h11 k0_h12
theorem k0_off138_inb : ∀ (i : grid0.Coords) (k0_t9 : Fin (k0_t9_loop i).trips) (v71 : BitVec 32) (v73 : BitVec 32) (k0_hw7 : k0_chk7 i k0_t9 v71 v73), ∀ (k0_h11 : k0_cond11 i k0_t9 = 1#1), ∀ (k0_h12 : k0_cond12 v71 v73 = 1#1), ∀ a, (k0_off138 v71) a + S1x16.size a ≤ S512x128.size a := fun i k0_t9 v71 v73 k0_hw7 k0_h11 k0_h12 => k0_hw7.2.1 k0_h11 k0_h12
theorem k0_off141_inb : ∀ (i : grid0.Coords) (k0_t9 : Fin (k0_t9_loop i).trips) (v71 : BitVec 32) (v73 : BitVec 32) (k0_hw7 : k0_chk7 i k0_t9 v71 v73), ∀ (k0_h11 : k0_cond11 i k0_t9 = 1#1), ∀ (k0_h12 : k0_cond12 v71 v73 = 1#1), ∀ a, (k0_off141 v71) a + S1x16.size a ≤ S512x128.size a := fun i k0_t9 v71 v73 k0_hw7 k0_h11 k0_h12 => k0_hw7.2.2.1 k0_h11 k0_h12
theorem k0_off144_inb : ∀ (i : grid0.Coords) (k0_t9 : Fin (k0_t9_loop i).trips) (v71 : BitVec 32) (v73 : BitVec 32) (k0_hw7 : k0_chk7 i k0_t9 v71 v73), ∀ (k0_h11 : k0_cond11 i k0_t9 = 1#1), ∀ (k0_h12 : k0_cond12 v71 v73 = 1#1), ∀ a, (k0_off144 v71) a + S1x16.size a ≤ S512x128.size a := fun i k0_t9 v71 v73 k0_hw7 k0_h11 k0_h12 => k0_hw7.2.2.2.1 k0_h11 k0_h12
theorem k0_off147_inb : ∀ (i : grid0.Coords) (k0_t9 : Fin (k0_t9_loop i).trips) (v71 : BitVec 32) (v73 : BitVec 32) (k0_hw7 : k0_chk7 i k0_t9 v71 v73), ∀ (k0_h11 : k0_cond11 i k0_t9 = 1#1), ∀ (k0_h12 : k0_cond12 v71 v73 = 1#1), ∀ a, (k0_off147 v71) a + S1x16.size a ≤ S512x128.size a := fun i k0_t9 v71 v73 k0_hw7 k0_h11 k0_h12 => k0_hw7.2.2.2.2.1 k0_h11 k0_h12
theorem k0_off150_inb : ∀ (i : grid0.Coords) (k0_t9 : Fin (k0_t9_loop i).trips) (v71 : BitVec 32) (v73 : BitVec 32) (k0_hw7 : k0_chk7 i k0_t9 v71 v73), ∀ (k0_h11 : k0_cond11 i k0_t9 = 1#1), ∀ (k0_h12 : k0_cond12 v71 v73 = 1#1), ∀ a, (k0_off150 v71) a + S1x16.size a ≤ S512x128.size a := fun i k0_t9 v71 v73 k0_hw7 k0_h11 k0_h12 => k0_hw7.2.2.2.2.2.1 k0_h11 k0_h12
theorem k0_off153_inb : ∀ (i : grid0.Coords) (k0_t9 : Fin (k0_t9_loop i).trips) (v71 : BitVec 32) (v73 : BitVec 32) (k0_hw7 : k0_chk7 i k0_t9 v71 v73), ∀ (k0_h11 : k0_cond11 i k0_t9 = 1#1), ∀ (k0_h12 : k0_cond12 v71 v73 = 1#1), ∀ a, (k0_off153 v71) a + S1x16.size a ≤ S512x128.size a := fun i k0_t9 v71 v73 k0_hw7 k0_h11 k0_h12 => k0_hw7.2.2.2.2.2.2.1 k0_h11 k0_h12
theorem k0_off156_inb : ∀ (i : grid0.Coords) (k0_t9 : Fin (k0_t9_loop i).trips) (v71 : BitVec 32) (v73 : BitVec 32) (k0_hw7 : k0_chk7 i k0_t9 v71 v73), ∀ (k0_h11 : k0_cond11 i k0_t9 = 1#1), ∀ (k0_h12 : k0_cond12 v71 v73 = 1#1), ∀ a, (k0_off156 v71) a + S1x16.size a ≤ S512x128.size a := fun i k0_t9 v71 v73 k0_hw7 k0_h11 k0_h12 => k0_hw7.2.2.2.2.2.2.2 k0_h11 k0_h12

@[reducible] def k0_t11_loop (k0_t10 : Fin k0_t10_loop.trips) : Scf.Loop 32 :=
  let c0_i32_35 : BitVec 32 := 0#32
  let c1_i32_36 : BitVec 32 := 1#32
  let arg12 : BitVec 32 := Scf.iv c0_i32_35 c1_i32_36 k0_t10
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_46 : BitVec 32 := 1#32
  ⟨v80, v87, c1_i32_46⟩
def k0_off157 (i : grid0.Coords) (k0_t9 : Fin (k0_t9_loop i).trips) (k0_t10 : Fin k0_t10_loop.trips) (k0_t11 : Fin (k0_t11_loop k0_t10).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c160_i32_10 : BitVec 32 := 160#32
  let v20 : BitVec 32 := Scalar.muli v6 c160_i32_10
  let c160_i32 : BitVec 32 := 160#32
  let v17 : BitVec 32 := Scalar.muli v6 c160_i32
  let c96800_i32 : BitVec 32 := 96800#32
  let v18 : BitVec 32 := Scalar.minsi v17 c96800_i32
  let v19 : BitVec 32 := v18
  let v21 : BitVec 32 := Scalar.subi v20 v19
  let c0_i32_20 : BitVec 32 := 0#32
  let c19_i32_5 : BitVec 32 := 19#32
  let c17_i32_2 : BitVec 32 := 17#32
  let v7 : BitVec 1 := Scalar.cmpi .slt v1 c17_i32_2
  let c1_i32_3 : BitVec 32 := 1#32
  let c0_i32_4 : BitVec 32 := 0#32
  let v8 : BitVec 32 := Scalar.select v7 c1_i32_3 c0_i32_4
  let v9 : BitVec 32 := Scalar.addi c19_i32_5 v8
  let c1_i32_11 : BitVec 32 := 1#32
  let v22 : BitVec 32 := Scalar.addi v9 c1_i32_11
  let c0_i32_13 : BitVec 32 := 0#32
  let v24 : BitVec 1 := Scalar.cmpi .sgt v22 c0_i32_13
  let v25 : BitVec 32 := Scalar.extui v24
  let c0_i32_14 : BitVec 32 := 0#32
  let v26 : BitVec 1 := Scalar.cmpi .slt v22 c0_i32_14
  let v27 : BitVec 32 := Scalar.extui v26
  let v28 : BitVec 32 := Scalar.subi v25 v27
  let c2_i32_12 : BitVec 32 := 2#32
  let c0_i32_15 : BitVec 32 := 0#32
  let v29 : BitVec 1 := Scalar.cmpi .sgt c2_i32_12 c0_i32_15
  let v30 : BitVec 32 := Scalar.extui v29
  let c0_i32_16 : BitVec 32 := 0#32
  let v31 : BitVec 1 := Scalar.cmpi .slt c2_i32_12 c0_i32_16
  let v32 : BitVec 32 := Scalar.extui v31
  let v33 : BitVec 32 := Scalar.subi v30 v32
  let v34 : BitVec 1 := Scalar.cmpi .ne v28 v33
  let v35 : BitVec 32 := Scalar.remsi v22 c2_i32_12
  let c0_i32_17 : BitVec 32 := 0#32
  let v36 : BitVec 1 := Scalar.cmpi .ne v35 c0_i32_17
  let v37 : BitVec 1 := Scalar.andi v34 v36
  let v23 : BitVec 32 := Scalar.divsi v22 c2_i32_12
  let c1_i32_18 : BitVec 32 := 1#32
  let v38 : BitVec 32 := Scalar.subi v23 c1_i32_18
  let v39 : BitVec 32 := Scalar.select v37 v38 v23
  let v40 : BitVec 32 := Scalar.subi v39 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let c1_i32_23 : BitVec 32 := 1#32
  let arg11 : BitVec 32 := Scf.iv v44 c1_i32_23 k0_t9
  let c2_i32_24 : BitVec 32 := 2#32
  let v45 : BitVec 32 := Scalar.muli arg11 c2_i32_24
  let v46 : BitVec 32 := Scalar.addi v6 v45
  let c0_i32_25 : BitVec 32 := 0#32
  let v47 : BitVec 32 := Scalar.addi v46 c0_i32_25
  let v55 : BitVec 32 := Scalar.subi v47 v6
  let c160_i32_29 : BitVec 32 := 160#32
  let v56 : BitVec 32 := Scalar.muli v55 c160_i32_29
  let v57 : BitVec 32 := Scalar.addi v21 v56
  let c0_i32_35 : BitVec 32 := 0#32
  let c1_i32_36 : BitVec 32 := 1#32
  let arg12 : BitVec 32 := Scf.iv c0_i32_35 c1_i32_36 k0_t10
  let c4_i32 : BitVec 32 := 4#32
  let v80 : BitVec 32 := Scalar.shli arg12 c4_i32
  let c1_i32_46 : BitVec 32 := 1#32
  let arg13 : BitVec 32 := Scf.iv v80 c1_i32_46 k0_t11
  let v88 : BitVec 32 := Scalar.addi v57 arg13
  let v89 : Index := Scalar.indexCast v88
  ![v89.toNat]
def k0_off158 (v93 : BitVec 32) : Fin 2 → Nat :=
  let v94 : Index := Scalar.indexCast v93
  let c0 : Index := 0#32
  ![v94.toNat, 0]
def k0_cond13 (v71 : BitVec 32) (v73 : BitVec 32) : BitVec 1 :=
  let v74 : BitVec 1 := Scalar.cmpi .eq v71 v73
  let v_true : BitVec 1 := 1#1
  let v77 : BitVec 1 := Scalar.xori v74 v_true
  let v78 : BitVec 32 := Scalar.extui v77
  let c0_i32_41 : BitVec 32 := 0#32
  let v79 : BitVec 1 := Scalar.cmpi .ne v78 c0_i32_41
  v79

def k0_off159 (k0_t10 : Fin k0_t10_loop.trips) (k0_t11 : Fin (k0_t11_loop k0_t10).trips) : Fin 2 → Nat :=
  let c0_i32_35 : BitVec 32 := 0#32
  let c1_i32_36 : BitVec 32 := 1#32
  let arg12 : BitVec 32 := Scf.iv c0_i32_35 c1_i32_36 k0_t10
  let c4_i32 : BitVec 32 := 4#32
  let v80 : BitVec 32 := Scalar.shli arg12 c4_i32
  let c1_i32_46 : BitVec 32 := 1#32
  let arg13 : BitVec 32 := Scf.iv v80 c1_i32_46 k0_t11
  let v97 : Index := Scalar.indexCast arg13
  let c0_48 : Index := 0#32
  ![v97.toNat, 0]
def k0_off160 (v93 : BitVec 32) : Fin 2 → Nat :=
  let v105 : Index := Scalar.indexCast v93
  let c16 : Index := 16#32
  ![v105.toNat, 16]
def k0_off161 (k0_t10 : Fin k0_t10_loop.trips) (k0_t11 : Fin (k0_t11_loop k0_t10).trips) : Fin 2 → Nat :=
  let c0_i32_35 : BitVec 32 := 0#32
  let c1_i32_36 : BitVec 32 := 1#32
  let arg12 : BitVec 32 := Scf.iv c0_i32_35 c1_i32_36 k0_t10
  let c4_i32 : BitVec 32 := 4#32
  let v80 : BitVec 32 := Scalar.shli arg12 c4_i32
  let c1_i32_46 : BitVec 32 := 1#32
  let arg13 : BitVec 32 := Scf.iv v80 c1_i32_46 k0_t11
  let v108 : Index := Scalar.indexCast arg13
  let c16_50 : Index := 16#32
  ![v108.toNat, 16]
def k0_off162 (v93 : BitVec 32) : Fin 2 → Nat :=
  let v116 : Index := Scalar.indexCast v93
  let c32 : Index := 32#32
  ![v116.toNat, 32]
def k0_off163 (k0_t10 : Fin k0_t10_loop.trips) (k0_t11 : Fin (k0_t11_loop k0_t10).trips) : Fin 2 → Nat :=
  let c0_i32_35 : BitVec 32 := 0#32
  let c1_i32_36 : BitVec 32 := 1#32
  let arg12 : BitVec 32 := Scf.iv c0_i32_35 c1_i32_36 k0_t10
  let c4_i32 : BitVec 32 := 4#32
  let v80 : BitVec 32 := Scalar.shli arg12 c4_i32
  let c1_i32_46 : BitVec 32 := 1#32
  let arg13 : BitVec 32 := Scf.iv v80 c1_i32_46 k0_t11
  let v119 : Index := Scalar.indexCast arg13
  let c32_52 : Index := 32#32
  ![v119.toNat, 32]
def k0_off164 (v93 : BitVec 32) : Fin 2 → Nat :=
  let v127 : Index := Scalar.indexCast v93
  let c48 : Index := 48#32
  ![v127.toNat, 48]
def k0_off165 (k0_t10 : Fin k0_t10_loop.trips) (k0_t11 : Fin (k0_t11_loop k0_t10).trips) : Fin 2 → Nat :=
  let c0_i32_35 : BitVec 32 := 0#32
  let c1_i32_36 : BitVec 32 := 1#32
  let arg12 : BitVec 32 := Scf.iv c0_i32_35 c1_i32_36 k0_t10
  let c4_i32 : BitVec 32 := 4#32
  let v80 : BitVec 32 := Scalar.shli arg12 c4_i32
  let c1_i32_46 : BitVec 32 := 1#32
  let arg13 : BitVec 32 := Scf.iv v80 c1_i32_46 k0_t11
  let v130 : Index := Scalar.indexCast arg13
  let c48_54 : Index := 48#32
  ![v130.toNat, 48]
def k0_off166 (v93 : BitVec 32) : Fin 2 → Nat :=
  let v138 : Index := Scalar.indexCast v93
  let c64 : Index := 64#32
  ![v138.toNat, 64]
def k0_off167 (k0_t10 : Fin k0_t10_loop.trips) (k0_t11 : Fin (k0_t11_loop k0_t10).trips) : Fin 2 → Nat :=
  let c0_i32_35 : BitVec 32 := 0#32
  let c1_i32_36 : BitVec 32 := 1#32
  let arg12 : BitVec 32 := Scf.iv c0_i32_35 c1_i32_36 k0_t10
  let c4_i32 : BitVec 32 := 4#32
  let v80 : BitVec 32 := Scalar.shli arg12 c4_i32
  let c1_i32_46 : BitVec 32 := 1#32
  let arg13 : BitVec 32 := Scf.iv v80 c1_i32_46 k0_t11
  let v141 : Index := Scalar.indexCast arg13
  let c64_56 : Index := 64#32
  ![v141.toNat, 64]
def k0_off168 (v93 : BitVec 32) : Fin 2 → Nat :=
  let v149 : Index := Scalar.indexCast v93
  let c80 : Index := 80#32
  ![v149.toNat, 80]
def k0_off169 (k0_t10 : Fin k0_t10_loop.trips) (k0_t11 : Fin (k0_t11_loop k0_t10).trips) : Fin 2 → Nat :=
  let c0_i32_35 : BitVec 32 := 0#32
  let c1_i32_36 : BitVec 32 := 1#32
  let arg12 : BitVec 32 := Scf.iv c0_i32_35 c1_i32_36 k0_t10
  let c4_i32 : BitVec 32 := 4#32
  let v80 : BitVec 32 := Scalar.shli arg12 c4_i32
  let c1_i32_46 : BitVec 32 := 1#32
  let arg13 : BitVec 32 := Scf.iv v80 c1_i32_46 k0_t11
  let v152 : Index := Scalar.indexCast arg13
  let c80_58 : Index := 80#32
  ![v152.toNat, 80]
def k0_off170 (v93 : BitVec 32) : Fin 2 → Nat :=
  let v160 : Index := Scalar.indexCast v93
  let c96 : Index := 96#32
  ![v160.toNat, 96]
def k0_off171 (k0_t10 : Fin k0_t10_loop.trips) (k0_t11 : Fin (k0_t11_loop k0_t10).trips) : Fin 2 → Nat :=
  let c0_i32_35 : BitVec 32 := 0#32
  let c1_i32_36 : BitVec 32 := 1#32
  let arg12 : BitVec 32 := Scf.iv c0_i32_35 c1_i32_36 k0_t10
  let c4_i32 : BitVec 32 := 4#32
  let v80 : BitVec 32 := Scalar.shli arg12 c4_i32
  let c1_i32_46 : BitVec 32 := 1#32
  let arg13 : BitVec 32 := Scf.iv v80 c1_i32_46 k0_t11
  let v163 : Index := Scalar.indexCast arg13
  let c96_60 : Index := 96#32
  ![v163.toNat, 96]
def k0_off172 (v93 : BitVec 32) : Fin 2 → Nat :=
  let v171 : Index := Scalar.indexCast v93
  let c112 : Index := 112#32
  ![v171.toNat, 112]

def k0_chk8 (i : grid0.Coords) (k0_t9 : Fin (k0_t9_loop i).trips) (k0_t10 : Fin k0_t10_loop.trips) (v71 : BitVec 32) (v73 : BitVec 32) (k0_t11 : Fin (k0_t11_loop k0_t10).trips) (v93 : BitVec 32) : Prop :=
  (∀ (k0_h11 : k0_cond11 i k0_t9 = 1#1), ∀ (k0_h13 : k0_cond13 v71 v73 = 1#1), ∀ a, (k0_off158 v93) a + S1x16.size a ≤ S512x128.size a) ∧
  (∀ (k0_h11 : k0_cond11 i k0_t9 = 1#1), ∀ (k0_h13 : k0_cond13 v71 v73 = 1#1), ∀ a, (k0_off160 v93) a + S1x16.size a ≤ S512x128.size a) ∧
  (∀ (k0_h11 : k0_cond11 i k0_t9 = 1#1), ∀ (k0_h13 : k0_cond13 v71 v73 = 1#1), ∀ a, (k0_off162 v93) a + S1x16.size a ≤ S512x128.size a) ∧
  (∀ (k0_h11 : k0_cond11 i k0_t9 = 1#1), ∀ (k0_h13 : k0_cond13 v71 v73 = 1#1), ∀ a, (k0_off164 v93) a + S1x16.size a ≤ S512x128.size a) ∧
  (∀ (k0_h11 : k0_cond11 i k0_t9 = 1#1), ∀ (k0_h13 : k0_cond13 v71 v73 = 1#1), ∀ a, (k0_off166 v93) a + S1x16.size a ≤ S512x128.size a) ∧
  (∀ (k0_h11 : k0_cond11 i k0_t9 = 1#1), ∀ (k0_h13 : k0_cond13 v71 v73 = 1#1), ∀ a, (k0_off168 v93) a + S1x16.size a ≤ S512x128.size a) ∧
  (∀ (k0_h11 : k0_cond11 i k0_t9 = 1#1), ∀ (k0_h13 : k0_cond13 v71 v73 = 1#1), ∀ a, (k0_off170 v93) a + S1x16.size a ≤ S512x128.size a) ∧
  (∀ (k0_h11 : k0_cond11 i k0_t9 = 1#1), ∀ (k0_h13 : k0_cond13 v71 v73 = 1#1), ∀ a, (k0_off172 v93) a + S1x16.size a ≤ S512x128.size a)
theorem k0_off158_inb : ∀ (i : grid0.Coords) (k0_t9 : Fin (k0_t9_loop i).trips) (k0_t10 : Fin k0_t10_loop.trips) (v71 : BitVec 32) (v73 : BitVec 32) (k0_t11 : Fin (k0_t11_loop k0_t10).trips) (v93 : BitVec 32) (k0_hw8 : k0_chk8 i k0_t9 k0_t10 v71 v73 k0_t11 v93), ∀ (k0_h11 : k0_cond11 i k0_t9 = 1#1), ∀ (k0_h13 : k0_cond13 v71 v73 = 1#1), ∀ a, (k0_off158 v93) a + S1x16.size a ≤ S512x128.size a := fun i k0_t9 k0_t10 v71 v73 k0_t11 v93 k0_hw8 k0_h11 k0_h13 => k0_hw8.1 k0_h11 k0_h13
theorem k0_off160_inb : ∀ (i : grid0.Coords) (k0_t9 : Fin (k0_t9_loop i).trips) (k0_t10 : Fin k0_t10_loop.trips) (v71 : BitVec 32) (v73 : BitVec 32) (k0_t11 : Fin (k0_t11_loop k0_t10).trips) (v93 : BitVec 32) (k0_hw8 : k0_chk8 i k0_t9 k0_t10 v71 v73 k0_t11 v93), ∀ (k0_h11 : k0_cond11 i k0_t9 = 1#1), ∀ (k0_h13 : k0_cond13 v71 v73 = 1#1), ∀ a, (k0_off160 v93) a + S1x16.size a ≤ S512x128.size a := fun i k0_t9 k0_t10 v71 v73 k0_t11 v93 k0_hw8 k0_h11 k0_h13 => k0_hw8.2.1 k0_h11 k0_h13
theorem k0_off162_inb : ∀ (i : grid0.Coords) (k0_t9 : Fin (k0_t9_loop i).trips) (k0_t10 : Fin k0_t10_loop.trips) (v71 : BitVec 32) (v73 : BitVec 32) (k0_t11 : Fin (k0_t11_loop k0_t10).trips) (v93 : BitVec 32) (k0_hw8 : k0_chk8 i k0_t9 k0_t10 v71 v73 k0_t11 v93), ∀ (k0_h11 : k0_cond11 i k0_t9 = 1#1), ∀ (k0_h13 : k0_cond13 v71 v73 = 1#1), ∀ a, (k0_off162 v93) a + S1x16.size a ≤ S512x128.size a := fun i k0_t9 k0_t10 v71 v73 k0_t11 v93 k0_hw8 k0_h11 k0_h13 => k0_hw8.2.2.1 k0_h11 k0_h13
theorem k0_off164_inb : ∀ (i : grid0.Coords) (k0_t9 : Fin (k0_t9_loop i).trips) (k0_t10 : Fin k0_t10_loop.trips) (v71 : BitVec 32) (v73 : BitVec 32) (k0_t11 : Fin (k0_t11_loop k0_t10).trips) (v93 : BitVec 32) (k0_hw8 : k0_chk8 i k0_t9 k0_t10 v71 v73 k0_t11 v93), ∀ (k0_h11 : k0_cond11 i k0_t9 = 1#1), ∀ (k0_h13 : k0_cond13 v71 v73 = 1#1), ∀ a, (k0_off164 v93) a + S1x16.size a ≤ S512x128.size a := fun i k0_t9 k0_t10 v71 v73 k0_t11 v93 k0_hw8 k0_h11 k0_h13 => k0_hw8.2.2.2.1 k0_h11 k0_h13
theorem k0_off166_inb : ∀ (i : grid0.Coords) (k0_t9 : Fin (k0_t9_loop i).trips) (k0_t10 : Fin k0_t10_loop.trips) (v71 : BitVec 32) (v73 : BitVec 32) (k0_t11 : Fin (k0_t11_loop k0_t10).trips) (v93 : BitVec 32) (k0_hw8 : k0_chk8 i k0_t9 k0_t10 v71 v73 k0_t11 v93), ∀ (k0_h11 : k0_cond11 i k0_t9 = 1#1), ∀ (k0_h13 : k0_cond13 v71 v73 = 1#1), ∀ a, (k0_off166 v93) a + S1x16.size a ≤ S512x128.size a := fun i k0_t9 k0_t10 v71 v73 k0_t11 v93 k0_hw8 k0_h11 k0_h13 => k0_hw8.2.2.2.2.1 k0_h11 k0_h13
theorem k0_off168_inb : ∀ (i : grid0.Coords) (k0_t9 : Fin (k0_t9_loop i).trips) (k0_t10 : Fin k0_t10_loop.trips) (v71 : BitVec 32) (v73 : BitVec 32) (k0_t11 : Fin (k0_t11_loop k0_t10).trips) (v93 : BitVec 32) (k0_hw8 : k0_chk8 i k0_t9 k0_t10 v71 v73 k0_t11 v93), ∀ (k0_h11 : k0_cond11 i k0_t9 = 1#1), ∀ (k0_h13 : k0_cond13 v71 v73 = 1#1), ∀ a, (k0_off168 v93) a + S1x16.size a ≤ S512x128.size a := fun i k0_t9 k0_t10 v71 v73 k0_t11 v93 k0_hw8 k0_h11 k0_h13 => k0_hw8.2.2.2.2.2.1 k0_h11 k0_h13
theorem k0_off170_inb : ∀ (i : grid0.Coords) (k0_t9 : Fin (k0_t9_loop i).trips) (k0_t10 : Fin k0_t10_loop.trips) (v71 : BitVec 32) (v73 : BitVec 32) (k0_t11 : Fin (k0_t11_loop k0_t10).trips) (v93 : BitVec 32) (k0_hw8 : k0_chk8 i k0_t9 k0_t10 v71 v73 k0_t11 v93), ∀ (k0_h11 : k0_cond11 i k0_t9 = 1#1), ∀ (k0_h13 : k0_cond13 v71 v73 = 1#1), ∀ a, (k0_off170 v93) a + S1x16.size a ≤ S512x128.size a := fun i k0_t9 k0_t10 v71 v73 k0_t11 v93 k0_hw8 k0_h11 k0_h13 => k0_hw8.2.2.2.2.2.2.1 k0_h11 k0_h13
theorem k0_off172_inb : ∀ (i : grid0.Coords) (k0_t9 : Fin (k0_t9_loop i).trips) (k0_t10 : Fin k0_t10_loop.trips) (v71 : BitVec 32) (v73 : BitVec 32) (k0_t11 : Fin (k0_t11_loop k0_t10).trips) (v93 : BitVec 32) (k0_hw8 : k0_chk8 i k0_t9 k0_t10 v71 v73 k0_t11 v93), ∀ (k0_h11 : k0_cond11 i k0_t9 = 1#1), ∀ (k0_h13 : k0_cond13 v71 v73 = 1#1), ∀ a, (k0_off172 v93) a + S1x16.size a ≤ S512x128.size a := fun i k0_t9 k0_t10 v71 v73 k0_t11 v93 k0_hw8 k0_h11 k0_h13 => k0_hw8.2.2.2.2.2.2.2 k0_h11 k0_h13

def k0_off173 (k0_t10 : Fin k0_t10_loop.trips) (k0_t11 : Fin (k0_t11_loop k0_t10).trips) : Fin 2 → Nat :=
  let c0_i32_35 : BitVec 32 := 0#32
  let c1_i32_36 : BitVec 32 := 1#32
  let arg12 : BitVec 32 := Scf.iv c0_i32_35 c1_i32_36 k0_t10
  let c4_i32 : BitVec 32 := 4#32
  let v80 : BitVec 32 := Scalar.shli arg12 c4_i32
  let c1_i32_46 : BitVec 32 := 1#32
  let arg13 : BitVec 32 := Scf.iv v80 c1_i32_46 k0_t11
  let v174 : Index := Scalar.indexCast arg13
  let c112_62 : Index := 112#32
  ![v174.toNat, 112]
@[reducible] def k0_t12_loop (k0_t10 : Fin k0_t10_loop.trips) : Scf.Loop 32 :=
  let c0_i32_35 : BitVec 32 := 0#32
  let c1_i32_36 : BitVec 32 := 1#32
  let arg12 : BitVec 32 := Scf.iv c0_i32_35 c1_i32_36 k0_t10
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let v84 : BitVec 32 := Scalar.addi v80 v83
  let c1_i32_47 : BitVec 32 := 1#32
  ⟨v87, v84, c1_i32_47⟩
def k0_off174 (i : grid0.Coords) (k0_t9 : Fin (k0_t9_loop i).trips) (k0_t10 : Fin k0_t10_loop.trips) (k0_t12 : Fin (k0_t12_loop k0_t10).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c160_i32_10 : BitVec 32 := 160#32
  let v20 : BitVec 32 := Scalar.muli v6 c160_i32_10
  let c160_i32 : BitVec 32 := 160#32
  let v17 : BitVec 32 := Scalar.muli v6 c160_i32
  let c96800_i32 : BitVec 32 := 96800#32
  let v18 : BitVec 32 := Scalar.minsi v17 c96800_i32
  let v19 : BitVec 32 := v18
  let v21 : BitVec 32 := Scalar.subi v20 v19
  let c0_i32_20 : BitVec 32 := 0#32
  let c19_i32_5 : BitVec 32 := 19#32
  let c17_i32_2 : BitVec 32 := 17#32
  let v7 : BitVec 1 := Scalar.cmpi .slt v1 c17_i32_2
  let c1_i32_3 : BitVec 32 := 1#32
  let c0_i32_4 : BitVec 32 := 0#32
  let v8 : BitVec 32 := Scalar.select v7 c1_i32_3 c0_i32_4
  let v9 : BitVec 32 := Scalar.addi c19_i32_5 v8
  let c1_i32_11 : BitVec 32 := 1#32
  let v22 : BitVec 32 := Scalar.addi v9 c1_i32_11
  let c0_i32_13 : BitVec 32 := 0#32
  let v24 : BitVec 1 := Scalar.cmpi .sgt v22 c0_i32_13
  let v25 : BitVec 32 := Scalar.extui v24
  let c0_i32_14 : BitVec 32 := 0#32
  let v26 : BitVec 1 := Scalar.cmpi .slt v22 c0_i32_14
  let v27 : BitVec 32 := Scalar.extui v26
  let v28 : BitVec 32 := Scalar.subi v25 v27
  let c2_i32_12 : BitVec 32 := 2#32
  let c0_i32_15 : BitVec 32 := 0#32
  let v29 : BitVec 1 := Scalar.cmpi .sgt c2_i32_12 c0_i32_15
  let v30 : BitVec 32 := Scalar.extui v29
  let c0_i32_16 : BitVec 32 := 0#32
  let v31 : BitVec 1 := Scalar.cmpi .slt c2_i32_12 c0_i32_16
  let v32 : BitVec 32 := Scalar.extui v31
  let v33 : BitVec 32 := Scalar.subi v30 v32
  let v34 : BitVec 1 := Scalar.cmpi .ne v28 v33
  let v35 : BitVec 32 := Scalar.remsi v22 c2_i32_12
  let c0_i32_17 : BitVec 32 := 0#32
  let v36 : BitVec 1 := Scalar.cmpi .ne v35 c0_i32_17
  let v37 : BitVec 1 := Scalar.andi v34 v36
  let v23 : BitVec 32 := Scalar.divsi v22 c2_i32_12
  let c1_i32_18 : BitVec 32 := 1#32
  let v38 : BitVec 32 := Scalar.subi v23 c1_i32_18
  let v39 : BitVec 32 := Scalar.select v37 v38 v23
  let v40 : BitVec 32 := Scalar.subi v39 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let c1_i32_23 : BitVec 32 := 1#32
  let arg11 : BitVec 32 := Scf.iv v44 c1_i32_23 k0_t9
  let c2_i32_24 : BitVec 32 := 2#32
  let v45 : BitVec 32 := Scalar.muli arg11 c2_i32_24
  let v46 : BitVec 32 := Scalar.addi v6 v45
  let c0_i32_25 : BitVec 32 := 0#32
  let v47 : BitVec 32 := Scalar.addi v46 c0_i32_25
  let v55 : BitVec 32 := Scalar.subi v47 v6
  let c160_i32_29 : BitVec 32 := 160#32
  let v56 : BitVec 32 := Scalar.muli v55 c160_i32_29
  let v57 : BitVec 32 := Scalar.addi v21 v56
  let c0_i32_35 : BitVec 32 := 0#32
  let c1_i32_36 : BitVec 32 := 1#32
  let arg12 : BitVec 32 := Scf.iv c0_i32_35 c1_i32_36 k0_t10
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t12
  let v88 : BitVec 32 := Scalar.addi v57 arg13
  let v89 : Index := Scalar.indexCast v88
  ![v89.toNat]
def k0_off175 (v93 : BitVec 32) : Fin 2 → Nat :=
  let v94 : Index := Scalar.indexCast v93
  let c0 : Index := 0#32
  ![v94.toNat, 0]

def k0_off176 (k0_t10 : Fin k0_t10_loop.trips) (k0_t12 : Fin (k0_t12_loop k0_t10).trips) : Fin 2 → Nat :=
  let c0_i32_35 : BitVec 32 := 0#32
  let c1_i32_36 : BitVec 32 := 1#32
  let arg12 : BitVec 32 := Scf.iv c0_i32_35 c1_i32_36 k0_t10
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t12
  let v97 : Index := Scalar.indexCast arg13
  let c0_48 : Index := 0#32
  ![v97.toNat, 0]
def k0_off177 (v93 : BitVec 32) : Fin 2 → Nat :=
  let v105 : Index := Scalar.indexCast v93
  let c16 : Index := 16#32
  ![v105.toNat, 16]
def k0_off178 (k0_t10 : Fin k0_t10_loop.trips) (k0_t12 : Fin (k0_t12_loop k0_t10).trips) : Fin 2 → Nat :=
  let c0_i32_35 : BitVec 32 := 0#32
  let c1_i32_36 : BitVec 32 := 1#32
  let arg12 : BitVec 32 := Scf.iv c0_i32_35 c1_i32_36 k0_t10
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t12
  let v108 : Index := Scalar.indexCast arg13
  let c16_50 : Index := 16#32
  ![v108.toNat, 16]
def k0_off179 (v93 : BitVec 32) : Fin 2 → Nat :=
  let v116 : Index := Scalar.indexCast v93
  let c32 : Index := 32#32
  ![v116.toNat, 32]
def k0_off180 (k0_t10 : Fin k0_t10_loop.trips) (k0_t12 : Fin (k0_t12_loop k0_t10).trips) : Fin 2 → Nat :=
  let c0_i32_35 : BitVec 32 := 0#32
  let c1_i32_36 : BitVec 32 := 1#32
  let arg12 : BitVec 32 := Scf.iv c0_i32_35 c1_i32_36 k0_t10
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t12
  let v119 : Index := Scalar.indexCast arg13
  let c32_52 : Index := 32#32
  ![v119.toNat, 32]
def k0_off181 (v93 : BitVec 32) : Fin 2 → Nat :=
  let v127 : Index := Scalar.indexCast v93
  let c48 : Index := 48#32
  ![v127.toNat, 48]
def k0_off182 (k0_t10 : Fin k0_t10_loop.trips) (k0_t12 : Fin (k0_t12_loop k0_t10).trips) : Fin 2 → Nat :=
  let c0_i32_35 : BitVec 32 := 0#32
  let c1_i32_36 : BitVec 32 := 1#32
  let arg12 : BitVec 32 := Scf.iv c0_i32_35 c1_i32_36 k0_t10
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t12
  let v130 : Index := Scalar.indexCast arg13
  let c48_54 : Index := 48#32
  ![v130.toNat, 48]
def k0_off183 (v93 : BitVec 32) : Fin 2 → Nat :=
  let v138 : Index := Scalar.indexCast v93
  let c64 : Index := 64#32
  ![v138.toNat, 64]
def k0_off184 (k0_t10 : Fin k0_t10_loop.trips) (k0_t12 : Fin (k0_t12_loop k0_t10).trips) : Fin 2 → Nat :=
  let c0_i32_35 : BitVec 32 := 0#32
  let c1_i32_36 : BitVec 32 := 1#32
  let arg12 : BitVec 32 := Scf.iv c0_i32_35 c1_i32_36 k0_t10
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t12
  let v141 : Index := Scalar.indexCast arg13
  let c64_56 : Index := 64#32
  ![v141.toNat, 64]
def k0_off185 (v93 : BitVec 32) : Fin 2 → Nat :=
  let v149 : Index := Scalar.indexCast v93
  let c80 : Index := 80#32
  ![v149.toNat, 80]
def k0_off186 (k0_t10 : Fin k0_t10_loop.trips) (k0_t12 : Fin (k0_t12_loop k0_t10).trips) : Fin 2 → Nat :=
  let c0_i32_35 : BitVec 32 := 0#32
  let c1_i32_36 : BitVec 32 := 1#32
  let arg12 : BitVec 32 := Scf.iv c0_i32_35 c1_i32_36 k0_t10
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t12
  let v152 : Index := Scalar.indexCast arg13
  let c80_58 : Index := 80#32
  ![v152.toNat, 80]
def k0_off187 (v93 : BitVec 32) : Fin 2 → Nat :=
  let v160 : Index := Scalar.indexCast v93
  let c96 : Index := 96#32
  ![v160.toNat, 96]
def k0_off188 (k0_t10 : Fin k0_t10_loop.trips) (k0_t12 : Fin (k0_t12_loop k0_t10).trips) : Fin 2 → Nat :=
  let c0_i32_35 : BitVec 32 := 0#32
  let c1_i32_36 : BitVec 32 := 1#32
  let arg12 : BitVec 32 := Scf.iv c0_i32_35 c1_i32_36 k0_t10
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t12
  let v163 : Index := Scalar.indexCast arg13
  let c96_60 : Index := 96#32
  ![v163.toNat, 96]
def k0_off189 (v93 : BitVec 32) : Fin 2 → Nat :=
  let v171 : Index := Scalar.indexCast v93
  let c112 : Index := 112#32
  ![v171.toNat, 112]

def k0_chk9 (i : grid0.Coords) (k0_t9 : Fin (k0_t9_loop i).trips) (k0_t10 : Fin k0_t10_loop.trips) (v71 : BitVec 32) (v73 : BitVec 32) (k0_t12 : Fin (k0_t12_loop k0_t10).trips) (v93 : BitVec 32) : Prop :=
  (∀ (k0_h11 : k0_cond11 i k0_t9 = 1#1), ∀ (k0_h13 : k0_cond13 v71 v73 = 1#1), ∀ a, (k0_off175 v93) a + S1x16.size a ≤ S512x128.size a) ∧
  (∀ (k0_h11 : k0_cond11 i k0_t9 = 1#1), ∀ (k0_h13 : k0_cond13 v71 v73 = 1#1), ∀ a, (k0_off177 v93) a + S1x16.size a ≤ S512x128.size a) ∧
  (∀ (k0_h11 : k0_cond11 i k0_t9 = 1#1), ∀ (k0_h13 : k0_cond13 v71 v73 = 1#1), ∀ a, (k0_off179 v93) a + S1x16.size a ≤ S512x128.size a) ∧
  (∀ (k0_h11 : k0_cond11 i k0_t9 = 1#1), ∀ (k0_h13 : k0_cond13 v71 v73 = 1#1), ∀ a, (k0_off181 v93) a + S1x16.size a ≤ S512x128.size a) ∧
  (∀ (k0_h11 : k0_cond11 i k0_t9 = 1#1), ∀ (k0_h13 : k0_cond13 v71 v73 = 1#1), ∀ a, (k0_off183 v93) a + S1x16.size a ≤ S512x128.size a) ∧
  (∀ (k0_h11 : k0_cond11 i k0_t9 = 1#1), ∀ (k0_h13 : k0_cond13 v71 v73 = 1#1), ∀ a, (k0_off185 v93) a + S1x16.size a ≤ S512x128.size a) ∧
  (∀ (k0_h11 : k0_cond11 i k0_t9 = 1#1), ∀ (k0_h13 : k0_cond13 v71 v73 = 1#1), ∀ a, (k0_off187 v93) a + S1x16.size a ≤ S512x128.size a) ∧
  (∀ (k0_h11 : k0_cond11 i k0_t9 = 1#1), ∀ (k0_h13 : k0_cond13 v71 v73 = 1#1), ∀ a, (k0_off189 v93) a + S1x16.size a ≤ S512x128.size a)
theorem k0_off175_inb : ∀ (i : grid0.Coords) (k0_t9 : Fin (k0_t9_loop i).trips) (k0_t10 : Fin k0_t10_loop.trips) (v71 : BitVec 32) (v73 : BitVec 32) (k0_t12 : Fin (k0_t12_loop k0_t10).trips) (v93 : BitVec 32) (k0_hw9 : k0_chk9 i k0_t9 k0_t10 v71 v73 k0_t12 v93), ∀ (k0_h11 : k0_cond11 i k0_t9 = 1#1), ∀ (k0_h13 : k0_cond13 v71 v73 = 1#1), ∀ a, (k0_off175 v93) a + S1x16.size a ≤ S512x128.size a := fun i k0_t9 k0_t10 v71 v73 k0_t12 v93 k0_hw9 k0_h11 k0_h13 => k0_hw9.1 k0_h11 k0_h13
theorem k0_off177_inb : ∀ (i : grid0.Coords) (k0_t9 : Fin (k0_t9_loop i).trips) (k0_t10 : Fin k0_t10_loop.trips) (v71 : BitVec 32) (v73 : BitVec 32) (k0_t12 : Fin (k0_t12_loop k0_t10).trips) (v93 : BitVec 32) (k0_hw9 : k0_chk9 i k0_t9 k0_t10 v71 v73 k0_t12 v93), ∀ (k0_h11 : k0_cond11 i k0_t9 = 1#1), ∀ (k0_h13 : k0_cond13 v71 v73 = 1#1), ∀ a, (k0_off177 v93) a + S1x16.size a ≤ S512x128.size a := fun i k0_t9 k0_t10 v71 v73 k0_t12 v93 k0_hw9 k0_h11 k0_h13 => k0_hw9.2.1 k0_h11 k0_h13
theorem k0_off179_inb : ∀ (i : grid0.Coords) (k0_t9 : Fin (k0_t9_loop i).trips) (k0_t10 : Fin k0_t10_loop.trips) (v71 : BitVec 32) (v73 : BitVec 32) (k0_t12 : Fin (k0_t12_loop k0_t10).trips) (v93 : BitVec 32) (k0_hw9 : k0_chk9 i k0_t9 k0_t10 v71 v73 k0_t12 v93), ∀ (k0_h11 : k0_cond11 i k0_t9 = 1#1), ∀ (k0_h13 : k0_cond13 v71 v73 = 1#1), ∀ a, (k0_off179 v93) a + S1x16.size a ≤ S512x128.size a := fun i k0_t9 k0_t10 v71 v73 k0_t12 v93 k0_hw9 k0_h11 k0_h13 => k0_hw9.2.2.1 k0_h11 k0_h13
theorem k0_off181_inb : ∀ (i : grid0.Coords) (k0_t9 : Fin (k0_t9_loop i).trips) (k0_t10 : Fin k0_t10_loop.trips) (v71 : BitVec 32) (v73 : BitVec 32) (k0_t12 : Fin (k0_t12_loop k0_t10).trips) (v93 : BitVec 32) (k0_hw9 : k0_chk9 i k0_t9 k0_t10 v71 v73 k0_t12 v93), ∀ (k0_h11 : k0_cond11 i k0_t9 = 1#1), ∀ (k0_h13 : k0_cond13 v71 v73 = 1#1), ∀ a, (k0_off181 v93) a + S1x16.size a ≤ S512x128.size a := fun i k0_t9 k0_t10 v71 v73 k0_t12 v93 k0_hw9 k0_h11 k0_h13 => k0_hw9.2.2.2.1 k0_h11 k0_h13
theorem k0_off183_inb : ∀ (i : grid0.Coords) (k0_t9 : Fin (k0_t9_loop i).trips) (k0_t10 : Fin k0_t10_loop.trips) (v71 : BitVec 32) (v73 : BitVec 32) (k0_t12 : Fin (k0_t12_loop k0_t10).trips) (v93 : BitVec 32) (k0_hw9 : k0_chk9 i k0_t9 k0_t10 v71 v73 k0_t12 v93), ∀ (k0_h11 : k0_cond11 i k0_t9 = 1#1), ∀ (k0_h13 : k0_cond13 v71 v73 = 1#1), ∀ a, (k0_off183 v93) a + S1x16.size a ≤ S512x128.size a := fun i k0_t9 k0_t10 v71 v73 k0_t12 v93 k0_hw9 k0_h11 k0_h13 => k0_hw9.2.2.2.2.1 k0_h11 k0_h13
theorem k0_off185_inb : ∀ (i : grid0.Coords) (k0_t9 : Fin (k0_t9_loop i).trips) (k0_t10 : Fin k0_t10_loop.trips) (v71 : BitVec 32) (v73 : BitVec 32) (k0_t12 : Fin (k0_t12_loop k0_t10).trips) (v93 : BitVec 32) (k0_hw9 : k0_chk9 i k0_t9 k0_t10 v71 v73 k0_t12 v93), ∀ (k0_h11 : k0_cond11 i k0_t9 = 1#1), ∀ (k0_h13 : k0_cond13 v71 v73 = 1#1), ∀ a, (k0_off185 v93) a + S1x16.size a ≤ S512x128.size a := fun i k0_t9 k0_t10 v71 v73 k0_t12 v93 k0_hw9 k0_h11 k0_h13 => k0_hw9.2.2.2.2.2.1 k0_h11 k0_h13
theorem k0_off187_inb : ∀ (i : grid0.Coords) (k0_t9 : Fin (k0_t9_loop i).trips) (k0_t10 : Fin k0_t10_loop.trips) (v71 : BitVec 32) (v73 : BitVec 32) (k0_t12 : Fin (k0_t12_loop k0_t10).trips) (v93 : BitVec 32) (k0_hw9 : k0_chk9 i k0_t9 k0_t10 v71 v73 k0_t12 v93), ∀ (k0_h11 : k0_cond11 i k0_t9 = 1#1), ∀ (k0_h13 : k0_cond13 v71 v73 = 1#1), ∀ a, (k0_off187 v93) a + S1x16.size a ≤ S512x128.size a := fun i k0_t9 k0_t10 v71 v73 k0_t12 v93 k0_hw9 k0_h11 k0_h13 => k0_hw9.2.2.2.2.2.2.1 k0_h11 k0_h13
theorem k0_off189_inb : ∀ (i : grid0.Coords) (k0_t9 : Fin (k0_t9_loop i).trips) (k0_t10 : Fin k0_t10_loop.trips) (v71 : BitVec 32) (v73 : BitVec 32) (k0_t12 : Fin (k0_t12_loop k0_t10).trips) (v93 : BitVec 32) (k0_hw9 : k0_chk9 i k0_t9 k0_t10 v71 v73 k0_t12 v93), ∀ (k0_h11 : k0_cond11 i k0_t9 = 1#1), ∀ (k0_h13 : k0_cond13 v71 v73 = 1#1), ∀ a, (k0_off189 v93) a + S1x16.size a ≤ S512x128.size a := fun i k0_t9 k0_t10 v71 v73 k0_t12 v93 k0_hw9 k0_h11 k0_h13 => k0_hw9.2.2.2.2.2.2.2 k0_h11 k0_h13

def k0_off190 (k0_t10 : Fin k0_t10_loop.trips) (k0_t12 : Fin (k0_t12_loop k0_t10).trips) : Fin 2 → Nat :=
  let c0_i32_35 : BitVec 32 := 0#32
  let c1_i32_36 : BitVec 32 := 1#32
  let arg12 : BitVec 32 := Scf.iv c0_i32_35 c1_i32_36 k0_t10
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t12
  let v174 : Index := Scalar.indexCast arg13
  let c112_62 : Index := 112#32
  ![v174.toNat, 112]
def k0_cond14 (i : grid0.Coords) (k0_t9 : Fin (k0_t9_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c0_i32_20 : BitVec 32 := 0#32
  let c19_i32_5 : BitVec 32 := 19#32
  let c17_i32_2 : BitVec 32 := 17#32
  let v7 : BitVec 1 := Scalar.cmpi .slt v1 c17_i32_2
  let c1_i32_3 : BitVec 32 := 1#32
  let c0_i32_4 : BitVec 32 := 0#32
  let v8 : BitVec 32 := Scalar.select v7 c1_i32_3 c0_i32_4
  let v9 : BitVec 32 := Scalar.addi c19_i32_5 v8
  let c1_i32_11 : BitVec 32 := 1#32
  let v22 : BitVec 32 := Scalar.addi v9 c1_i32_11
  let c0_i32_13 : BitVec 32 := 0#32
  let v24 : BitVec 1 := Scalar.cmpi .sgt v22 c0_i32_13
  let v25 : BitVec 32 := Scalar.extui v24
  let c0_i32_14 : BitVec 32 := 0#32
  let v26 : BitVec 1 := Scalar.cmpi .slt v22 c0_i32_14
  let v27 : BitVec 32 := Scalar.extui v26
  let v28 : BitVec 32 := Scalar.subi v25 v27
  let c2_i32_12 : BitVec 32 := 2#32
  let c0_i32_15 : BitVec 32 := 0#32
  let v29 : BitVec 1 := Scalar.cmpi .sgt c2_i32_12 c0_i32_15
  let v30 : BitVec 32 := Scalar.extui v29
  let c0_i32_16 : BitVec 32 := 0#32
  let v31 : BitVec 1 := Scalar.cmpi .slt c2_i32_12 c0_i32_16
  let v32 : BitVec 32 := Scalar.extui v31
  let v33 : BitVec 32 := Scalar.subi v30 v32
  let v34 : BitVec 1 := Scalar.cmpi .ne v28 v33
  let v35 : BitVec 32 := Scalar.remsi v22 c2_i32_12
  let c0_i32_17 : BitVec 32 := 0#32
  let v36 : BitVec 1 := Scalar.cmpi .ne v35 c0_i32_17
  let v37 : BitVec 1 := Scalar.andi v34 v36
  let v23 : BitVec 32 := Scalar.divsi v22 c2_i32_12
  let c1_i32_18 : BitVec 32 := 1#32
  let v38 : BitVec 32 := Scalar.subi v23 c1_i32_18
  let v39 : BitVec 32 := Scalar.select v37 v38 v23
  let v40 : BitVec 32 := Scalar.subi v39 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let c1_i32_23 : BitVec 32 := 1#32
  let arg11 : BitVec 32 := Scf.iv v44 c1_i32_23 k0_t9
  let c2_i32_24 : BitVec 32 := 2#32
  let v45 : BitVec 32 := Scalar.muli arg11 c2_i32_24
  let v46 : BitVec 32 := Scalar.addi v6 v45
  let c0_i32_25 : BitVec 32 := 0#32
  let v47 : BitVec 32 := Scalar.addi v46 c0_i32_25
  let c2_i32_38 : BitVec 32 := 2#32
  let v61 : BitVec 32 := Scalar.addi v47 c2_i32_38
  let v10 : BitVec 32 := Scalar.addi v6 v9
  let v62 : BitVec 1 := Scalar.cmpi .slt v61 v10
  let v63 : BitVec 32 := Scalar.extui v62
  let c0_i32_39 : BitVec 32 := 0#32
  let v64 : BitVec 1 := Scalar.cmpi .ne v63 c0_i32_39
  v64

def k0_off191 (i : grid0.Coords) (k0_t9 : Fin (k0_t9_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c0_i32_20 : BitVec 32 := 0#32
  let c19_i32_5 : BitVec 32 := 19#32
  let c17_i32_2 : BitVec 32 := 17#32
  let v7 : BitVec 1 := Scalar.cmpi .slt v1 c17_i32_2
  let c1_i32_3 : BitVec 32 := 1#32
  let c0_i32_4 : BitVec 32 := 0#32
  let v8 : BitVec 32 := Scalar.select v7 c1_i32_3 c0_i32_4
  let v9 : BitVec 32 := Scalar.addi c19_i32_5 v8
  let c1_i32_11 : BitVec 32 := 1#32
  let v22 : BitVec 32 := Scalar.addi v9 c1_i32_11
  let c0_i32_13 : BitVec 32 := 0#32
  let v24 : BitVec 1 := Scalar.cmpi .sgt v22 c0_i32_13
  let v25 : BitVec 32 := Scalar.extui v24
  let c0_i32_14 : BitVec 32 := 0#32
  let v26 : BitVec 1 := Scalar.cmpi .slt v22 c0_i32_14
  let v27 : BitVec 32 := Scalar.extui v26
  let v28 : BitVec 32 := Scalar.subi v25 v27
  let c2_i32_12 : BitVec 32 := 2#32
  let c0_i32_15 : BitVec 32 := 0#32
  let v29 : BitVec 1 := Scalar.cmpi .sgt c2_i32_12 c0_i32_15
  let v30 : BitVec 32 := Scalar.extui v29
  let c0_i32_16 : BitVec 32 := 0#32
  let v31 : BitVec 1 := Scalar.cmpi .slt c2_i32_12 c0_i32_16
  let v32 : BitVec 32 := Scalar.extui v31
  let v33 : BitVec 32 := Scalar.subi v30 v32
  let v34 : BitVec 1 := Scalar.cmpi .ne v28 v33
  let v35 : BitVec 32 := Scalar.remsi v22 c2_i32_12
  let c0_i32_17 : BitVec 32 := 0#32
  let v36 : BitVec 1 := Scalar.cmpi .ne v35 c0_i32_17
  let v37 : BitVec 1 := Scalar.andi v34 v36
  let v23 : BitVec 32 := Scalar.divsi v22 c2_i32_12
  let c1_i32_18 : BitVec 32 := 1#32
  let v38 : BitVec 32 := Scalar.subi v23 c1_i32_18
  let v39 : BitVec 32 := Scalar.select v37 v38 v23
  let v40 : BitVec 32 := Scalar.subi v39 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let c1_i32_23 : BitVec 32 := 1#32
  let arg11 : BitVec 32 := Scf.iv v44 c1_i32_23 k0_t9
  let c2_i32_24 : BitVec 32 := 2#32
  let v45 : BitVec 32 := Scalar.muli arg11 c2_i32_24
  let v46 : BitVec 32 := Scalar.addi v6 v45
  let c0_i32_25 : BitVec 32 := 0#32
  let v47 : BitVec 32 := Scalar.addi v46 c0_i32_25
  let c2_i32_40 : BitVec 32 := 2#32
  let v65 : BitVec 32 := Scalar.addi v47 c2_i32_40
  let c160_i32_41 : BitVec 32 := 160#32
  let v66 : BitVec 32 := Scalar.muli v65 c160_i32_41
  let c0_i32_42 : BitVec 32 := 0#32
  ![v66.toNat, 0]
def k0_cond15 (i : grid0.Coords) (k0_t9 : Fin (k0_t9_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c0_i32_20 : BitVec 32 := 0#32
  let c19_i32_5 : BitVec 32 := 19#32
  let c17_i32_2 : BitVec 32 := 17#32
  let v7 : BitVec 1 := Scalar.cmpi .slt v1 c17_i32_2
  let c1_i32_3 : BitVec 32 := 1#32
  let c0_i32_4 : BitVec 32 := 0#32
  let v8 : BitVec 32 := Scalar.select v7 c1_i32_3 c0_i32_4
  let v9 : BitVec 32 := Scalar.addi c19_i32_5 v8
  let c1_i32_11 : BitVec 32 := 1#32
  let v22 : BitVec 32 := Scalar.addi v9 c1_i32_11
  let c0_i32_13 : BitVec 32 := 0#32
  let v24 : BitVec 1 := Scalar.cmpi .sgt v22 c0_i32_13
  let v25 : BitVec 32 := Scalar.extui v24
  let c0_i32_14 : BitVec 32 := 0#32
  let v26 : BitVec 1 := Scalar.cmpi .slt v22 c0_i32_14
  let v27 : BitVec 32 := Scalar.extui v26
  let v28 : BitVec 32 := Scalar.subi v25 v27
  let c2_i32_12 : BitVec 32 := 2#32
  let c0_i32_15 : BitVec 32 := 0#32
  let v29 : BitVec 1 := Scalar.cmpi .sgt c2_i32_12 c0_i32_15
  let v30 : BitVec 32 := Scalar.extui v29
  let c0_i32_16 : BitVec 32 := 0#32
  let v31 : BitVec 1 := Scalar.cmpi .slt c2_i32_12 c0_i32_16
  let v32 : BitVec 32 := Scalar.extui v31
  let v33 : BitVec 32 := Scalar.subi v30 v32
  let v34 : BitVec 1 := Scalar.cmpi .ne v28 v33
  let v35 : BitVec 32 := Scalar.remsi v22 c2_i32_12
  let c0_i32_17 : BitVec 32 := 0#32
  let v36 : BitVec 1 := Scalar.cmpi .ne v35 c0_i32_17
  let v37 : BitVec 1 := Scalar.andi v34 v36
  let v23 : BitVec 32 := Scalar.divsi v22 c2_i32_12
  let c1_i32_18 : BitVec 32 := 1#32
  let v38 : BitVec 32 := Scalar.subi v23 c1_i32_18
  let v39 : BitVec 32 := Scalar.select v37 v38 v23
  let v40 : BitVec 32 := Scalar.subi v39 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let c1_i32_23 : BitVec 32 := 1#32
  let arg11 : BitVec 32 := Scf.iv v44 c1_i32_23 k0_t9
  let c2_i32_24 : BitVec 32 := 2#32
  let v45 : BitVec 32 := Scalar.muli arg11 c2_i32_24
  let v46 : BitVec 32 := Scalar.addi v6 v45
  let c1_i32_27 : BitVec 32 := 1#32
  let v51 : BitVec 32 := Scalar.addi v46 c1_i32_27
  let v10 : BitVec 32 := Scalar.addi v6 v9
  let v52 : BitVec 1 := Scalar.cmpi .slt v51 v10
  let v53 : BitVec 32 := Scalar.extui v52
  let c0_i32_28 : BitVec 32 := 0#32
  let v54 : BitVec 1 := Scalar.cmpi .ne v53 c0_i32_28
  v54

@[reducible] def k0_t13_loop : Scf.Loop 32 :=
  let c0_i32_35 : BitVec 32 := 0#32
  let c10_i32 : BitVec 32 := 10#32
  let v60 : BitVec 32 := Scalar.addi c0_i32_35 c10_i32
  let c1_i32_36 : BitVec 32 := 1#32
  ⟨c0_i32_35, v60, c1_i32_36⟩
def k0_off192 (i : grid0.Coords) (k0_t9 : Fin (k0_t9_loop i).trips) (k0_t13 : Fin k0_t13_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c160_i32_10 : BitVec 32 := 160#32
  let v20 : BitVec 32 := Scalar.muli v6 c160_i32_10
  let c160_i32 : BitVec 32 := 160#32
  let v17 : BitVec 32 := Scalar.muli v6 c160_i32
  let c96800_i32 : BitVec 32 := 96800#32
  let v18 : BitVec 32 := Scalar.minsi v17 c96800_i32
  let v19 : BitVec 32 := v18
  let v21 : BitVec 32 := Scalar.subi v20 v19
  let c0_i32_20 : BitVec 32 := 0#32
  let c19_i32_5 : BitVec 32 := 19#32
  let c17_i32_2 : BitVec 32 := 17#32
  let v7 : BitVec 1 := Scalar.cmpi .slt v1 c17_i32_2
  let c1_i32_3 : BitVec 32 := 1#32
  let c0_i32_4 : BitVec 32 := 0#32
  let v8 : BitVec 32 := Scalar.select v7 c1_i32_3 c0_i32_4
  let v9 : BitVec 32 := Scalar.addi c19_i32_5 v8
  let c1_i32_11 : BitVec 32 := 1#32
  let v22 : BitVec 32 := Scalar.addi v9 c1_i32_11
  let c0_i32_13 : BitVec 32 := 0#32
  let v24 : BitVec 1 := Scalar.cmpi .sgt v22 c0_i32_13
  let v25 : BitVec 32 := Scalar.extui v24
  let c0_i32_14 : BitVec 32 := 0#32
  let v26 : BitVec 1 := Scalar.cmpi .slt v22 c0_i32_14
  let v27 : BitVec 32 := Scalar.extui v26
  let v28 : BitVec 32 := Scalar.subi v25 v27
  let c2_i32_12 : BitVec 32 := 2#32
  let c0_i32_15 : BitVec 32 := 0#32
  let v29 : BitVec 1 := Scalar.cmpi .sgt c2_i32_12 c0_i32_15
  let v30 : BitVec 32 := Scalar.extui v29
  let c0_i32_16 : BitVec 32 := 0#32
  let v31 : BitVec 1 := Scalar.cmpi .slt c2_i32_12 c0_i32_16
  let v32 : BitVec 32 := Scalar.extui v31
  let v33 : BitVec 32 := Scalar.subi v30 v32
  let v34 : BitVec 1 := Scalar.cmpi .ne v28 v33
  let v35 : BitVec 32 := Scalar.remsi v22 c2_i32_12
  let c0_i32_17 : BitVec 32 := 0#32
  let v36 : BitVec 1 := Scalar.cmpi .ne v35 c0_i32_17
  let v37 : BitVec 1 := Scalar.andi v34 v36
  let v23 : BitVec 32 := Scalar.divsi v22 c2_i32_12
  let c1_i32_18 : BitVec 32 := 1#32
  let v38 : BitVec 32 := Scalar.subi v23 c1_i32_18
  let v39 : BitVec 32 := Scalar.select v37 v38 v23
  let v40 : BitVec 32 := Scalar.subi v39 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let c1_i32_23 : BitVec 32 := 1#32
  let arg11 : BitVec 32 := Scf.iv v44 c1_i32_23 k0_t9
  let c2_i32_24 : BitVec 32 := 2#32
  let v45 : BitVec 32 := Scalar.muli arg11 c2_i32_24
  let v46 : BitVec 32 := Scalar.addi v6 v45
  let c1_i32_27 : BitVec 32 := 1#32
  let v51 : BitVec 32 := Scalar.addi v46 c1_i32_27
  let v55 : BitVec 32 := Scalar.subi v51 v6
  let c160_i32_29 : BitVec 32 := 160#32
  let v56 : BitVec 32 := Scalar.muli v55 c160_i32_29
  let v57 : BitVec 32 := Scalar.addi v21 v56
  let c0_i32_35 : BitVec 32 := 0#32
  let c1_i32_36 : BitVec 32 := 1#32
  let arg12 : BitVec 32 := Scf.iv c0_i32_35 c1_i32_36 k0_t13
  let c16_i32 : BitVec 32 := 16#32
  let v65 : BitVec 32 := Scalar.muli arg12 c16_i32
  let v66 : BitVec 32 := Scalar.addi v57 v65
  let v67 : Index := Scalar.indexCast v66
  ![v67.toNat]
def k0_off193 (k0_t13 : Fin k0_t13_loop.trips) : Fin 2 → Nat :=
  let c0_i32_35 : BitVec 32 := 0#32
  let c1_i32_36 : BitVec 32 := 1#32
  let arg12 : BitVec 32 := Scf.iv c0_i32_35 c1_i32_36 k0_t13
  let c4_i32 : BitVec 32 := 4#32
  let v80 : BitVec 32 := Scalar.shli arg12 c4_i32
  let v81 : Index := Scalar.indexCast v80
  let c0 : Index := 0#32
  ![v81.toNat, 0]
def k0_off194 (k0_t13 : Fin k0_t13_loop.trips) (c1_i32_43 : BitVec 32) : Fin 2 → Nat :=
  let c0_i32_35 : BitVec 32 := 0#32
  let c1_i32_36 : BitVec 32 := 1#32
  let arg12 : BitVec 32 := Scf.iv c0_i32_35 c1_i32_36 k0_t13
  let c4_i32_42 : BitVec 32 := 4#32
  let v84 : BitVec 32 := Scalar.shli arg12 c4_i32_42
  let v85 : BitVec 32 := Scalar.addi v84 c1_i32_43
  let v86 : Index := Scalar.indexCast v85
  let c0_44 : Index := 0#32
  ![v86.toNat, 0]
def k0_off195 (v71 : BitVec 32) : Fin 2 → Nat :=
  let v174 : Index := Scalar.indexCast v71
  let c0_76 : Index := 0#32
  ![v174.toNat, 0]
def k0_cond16 (v71 : BitVec 32) (v73 : BitVec 32) : BitVec 1 :=
  let v74 : BitVec 1 := Scalar.cmpi .eq v71 v73
  let v75 : BitVec 32 := Scalar.extui v74
  let c0_i32_40 : BitVec 32 := 0#32
  let v76 : BitVec 1 := Scalar.cmpi .ne v75 c0_i32_40
  v76

def k0_off196 (k0_t13 : Fin k0_t13_loop.trips) : Fin 2 → Nat :=
  let c0_i32_35 : BitVec 32 := 0#32
  let c1_i32_36 : BitVec 32 := 1#32
  let arg12 : BitVec 32 := Scf.iv c0_i32_35 c1_i32_36 k0_t13
  let c4_i32_78 : BitVec 32 := 4#32
  let v182 : BitVec 32 := Scalar.shli arg12 c4_i32_78
  let v183 : Index := Scalar.indexCast v182
  let c16 : Index := 16#32
  ![v183.toNat, 16]
def k0_off197 (k0_t13 : Fin k0_t13_loop.trips) (c1_i32_80 : BitVec 32) : Fin 2 → Nat :=
  let c0_i32_35 : BitVec 32 := 0#32
  let c1_i32_36 : BitVec 32 := 1#32
  let arg12 : BitVec 32 := Scf.iv c0_i32_35 c1_i32_36 k0_t13
  let c4_i32_79 : BitVec 32 := 4#32
  let v186 : BitVec 32 := Scalar.shli arg12 c4_i32_79
  let v187 : BitVec 32 := Scalar.addi v186 c1_i32_80
  let v188 : Index := Scalar.indexCast v187
  let c16_81 : Index := 16#32
  ![v188.toNat, 16]
def k0_off198 (v71 : BitVec 32) : Fin 2 → Nat :=
  let v276 : Index := Scalar.indexCast v71
  let c16_124 : Index := 16#32
  ![v276.toNat, 16]
def k0_off199 (k0_t13 : Fin k0_t13_loop.trips) : Fin 2 → Nat :=
  let c0_i32_35 : BitVec 32 := 0#32
  let c1_i32_36 : BitVec 32 := 1#32
  let arg12 : BitVec 32 := Scf.iv c0_i32_35 c1_i32_36 k0_t13
  let c4_i32_126 : BitVec 32 := 4#32
  let v284 : BitVec 32 := Scalar.shli arg12 c4_i32_126
  let v285 : Index := Scalar.indexCast v284
  let c32 : Index := 32#32
  ![v285.toNat, 32]
def k0_off200 (k0_t13 : Fin k0_t13_loop.trips) (c1_i32_128 : BitVec 32) : Fin 2 → Nat :=
  let c0_i32_35 : BitVec 32 := 0#32
  let c1_i32_36 : BitVec 32 := 1#32
  let arg12 : BitVec 32 := Scf.iv c0_i32_35 c1_i32_36 k0_t13
  let c4_i32_127 : BitVec 32 := 4#32
  let v288 : BitVec 32 := Scalar.shli arg12 c4_i32_127
  let v289 : BitVec 32 := Scalar.addi v288 c1_i32_128
  let v290 : Index := Scalar.indexCast v289
  let c32_129 : Index := 32#32
  ![v290.toNat, 32]
def k0_off201 (v71 : BitVec 32) : Fin 2 → Nat :=
  let v378 : Index := Scalar.indexCast v71
  let c32_172 : Index := 32#32
  ![v378.toNat, 32]
def k0_off202 (k0_t13 : Fin k0_t13_loop.trips) : Fin 2 → Nat :=
  let c0_i32_35 : BitVec 32 := 0#32
  let c1_i32_36 : BitVec 32 := 1#32
  let arg12 : BitVec 32 := Scf.iv c0_i32_35 c1_i32_36 k0_t13
  let c4_i32_174 : BitVec 32 := 4#32
  let v386 : BitVec 32 := Scalar.shli arg12 c4_i32_174
  let v387 : Index := Scalar.indexCast v386
  let c48 : Index := 48#32
  ![v387.toNat, 48]
def k0_off203 (k0_t13 : Fin k0_t13_loop.trips) (c1_i32_176 : BitVec 32) : Fin 2 → Nat :=
  let c0_i32_35 : BitVec 32 := 0#32
  let c1_i32_36 : BitVec 32 := 1#32
  let arg12 : BitVec 32 := Scf.iv c0_i32_35 c1_i32_36 k0_t13
  let c4_i32_175 : BitVec 32 := 4#32
  let v390 : BitVec 32 := Scalar.shli arg12 c4_i32_175
  let v391 : BitVec 32 := Scalar.addi v390 c1_i32_176
  let v392 : Index := Scalar.indexCast v391
  let c48_177 : Index := 48#32
  ![v392.toNat, 48]
def k0_off204 (v71 : BitVec 32) : Fin 2 → Nat :=
  let v480 : Index := Scalar.indexCast v71
  let c48_220 : Index := 48#32
  ![v480.toNat, 48]
def k0_off205 (k0_t13 : Fin k0_t13_loop.trips) : Fin 2 → Nat :=
  let c0_i32_35 : BitVec 32 := 0#32
  let c1_i32_36 : BitVec 32 := 1#32
  let arg12 : BitVec 32 := Scf.iv c0_i32_35 c1_i32_36 k0_t13
  let c4_i32_222 : BitVec 32 := 4#32
  let v488 : BitVec 32 := Scalar.shli arg12 c4_i32_222
  let v489 : Index := Scalar.indexCast v488
  let c64 : Index := 64#32
  ![v489.toNat, 64]
def k0_off206 (k0_t13 : Fin k0_t13_loop.trips) (c1_i32_224 : BitVec 32) : Fin 2 → Nat :=
  let c0_i32_35 : BitVec 32 := 0#32
  let c1_i32_36 : BitVec 32 := 1#32
  let arg12 : BitVec 32 := Scf.iv c0_i32_35 c1_i32_36 k0_t13
  let c4_i32_223 : BitVec 32 := 4#32
  let v492 : BitVec 32 := Scalar.shli arg12 c4_i32_223
  let v493 : BitVec 32 := Scalar.addi v492 c1_i32_224
  let v494 : Index := Scalar.indexCast v493
  let c64_225 : Index := 64#32
  ![v494.toNat, 64]
def k0_off207 (v71 : BitVec 32) : Fin 2 → Nat :=
  let v582 : Index := Scalar.indexCast v71
  let c64_268 : Index := 64#32
  ![v582.toNat, 64]
def k0_off208 (k0_t13 : Fin k0_t13_loop.trips) : Fin 2 → Nat :=
  let c0_i32_35 : BitVec 32 := 0#32
  let c1_i32_36 : BitVec 32 := 1#32
  let arg12 : BitVec 32 := Scf.iv c0_i32_35 c1_i32_36 k0_t13
  let c4_i32_270 : BitVec 32 := 4#32
  let v590 : BitVec 32 := Scalar.shli arg12 c4_i32_270
  let v591 : Index := Scalar.indexCast v590
  let c80 : Index := 80#32
  ![v591.toNat, 80]
def k0_off209 (k0_t13 : Fin k0_t13_loop.trips) (c1_i32_272 : BitVec 32) : Fin 2 → Nat :=
  let c0_i32_35 : BitVec 32 := 0#32
  let c1_i32_36 : BitVec 32 := 1#32
  let arg12 : BitVec 32 := Scf.iv c0_i32_35 c1_i32_36 k0_t13
  let c4_i32_271 : BitVec 32 := 4#32
  let v594 : BitVec 32 := Scalar.shli arg12 c4_i32_271
  let v595 : BitVec 32 := Scalar.addi v594 c1_i32_272
  let v596 : Index := Scalar.indexCast v595
  let c80_273 : Index := 80#32
  ![v596.toNat, 80]
def k0_off210 (v71 : BitVec 32) : Fin 2 → Nat :=
  let v684 : Index := Scalar.indexCast v71
  let c80_316 : Index := 80#32
  ![v684.toNat, 80]
def k0_off211 (k0_t13 : Fin k0_t13_loop.trips) : Fin 2 → Nat :=
  let c0_i32_35 : BitVec 32 := 0#32
  let c1_i32_36 : BitVec 32 := 1#32
  let arg12 : BitVec 32 := Scf.iv c0_i32_35 c1_i32_36 k0_t13
  let c4_i32_318 : BitVec 32 := 4#32
  let v692 : BitVec 32 := Scalar.shli arg12 c4_i32_318
  let v693 : Index := Scalar.indexCast v692
  let c96 : Index := 96#32
  ![v693.toNat, 96]
def k0_off212 (k0_t13 : Fin k0_t13_loop.trips) (c1_i32_320 : BitVec 32) : Fin 2 → Nat :=
  let c0_i32_35 : BitVec 32 := 0#32
  let c1_i32_36 : BitVec 32 := 1#32
  let arg12 : BitVec 32 := Scf.iv c0_i32_35 c1_i32_36 k0_t13
  let c4_i32_319 : BitVec 32 := 4#32
  let v696 : BitVec 32 := Scalar.shli arg12 c4_i32_319
  let v697 : BitVec 32 := Scalar.addi v696 c1_i32_320
  let v698 : Index := Scalar.indexCast v697
  let c96_321 : Index := 96#32
  ![v698.toNat, 96]
def k0_off213 (v71 : BitVec 32) : Fin 2 → Nat :=
  let v786 : Index := Scalar.indexCast v71
  let c96_364 : Index := 96#32
  ![v786.toNat, 96]
def k0_off214 (k0_t13 : Fin k0_t13_loop.trips) : Fin 2 → Nat :=
  let c0_i32_35 : BitVec 32 := 0#32
  let c1_i32_36 : BitVec 32 := 1#32
  let arg12 : BitVec 32 := Scf.iv c0_i32_35 c1_i32_36 k0_t13
  let c4_i32_366 : BitVec 32 := 4#32
  let v794 : BitVec 32 := Scalar.shli arg12 c4_i32_366
  let v795 : Index := Scalar.indexCast v794
  let c112 : Index := 112#32
  ![v795.toNat, 112]
def k0_off215 (k0_t13 : Fin k0_t13_loop.trips) (c1_i32_368 : BitVec 32) : Fin 2 → Nat :=
  let c0_i32_35 : BitVec 32 := 0#32
  let c1_i32_36 : BitVec 32 := 1#32
  let arg12 : BitVec 32 := Scf.iv c0_i32_35 c1_i32_36 k0_t13
  let c4_i32_367 : BitVec 32 := 4#32
  let v798 : BitVec 32 := Scalar.shli arg12 c4_i32_367
  let v799 : BitVec 32 := Scalar.addi v798 c1_i32_368
  let v800 : Index := Scalar.indexCast v799
  let c112_369 : Index := 112#32
  ![v800.toNat, 112]
def k0_off216 (v71 : BitVec 32) : Fin 2 → Nat :=
  let v888 : Index := Scalar.indexCast v71
  let c112_412 : Index := 112#32
  ![v888.toNat, 112]

def k0_chk10 (i : grid0.Coords) (k0_t9 : Fin (k0_t9_loop i).trips) (v71 : BitVec 32) (v73 : BitVec 32) : Prop :=
  (∀ (k0_h15 : k0_cond15 i k0_t9 = 1#1), ∀ (k0_h16 : k0_cond16 v71 v73 = 1#1), ∀ a, (k0_off195 v71) a + S1x16.size a ≤ S512x128.size a) ∧
  (∀ (k0_h15 : k0_cond15 i k0_t9 = 1#1), ∀ (k0_h16 : k0_cond16 v71 v73 = 1#1), ∀ a, (k0_off198 v71) a + S1x16.size a ≤ S512x128.size a) ∧
  (∀ (k0_h15 : k0_cond15 i k0_t9 = 1#1), ∀ (k0_h16 : k0_cond16 v71 v73 = 1#1), ∀ a, (k0_off201 v71) a + S1x16.size a ≤ S512x128.size a) ∧
  (∀ (k0_h15 : k0_cond15 i k0_t9 = 1#1), ∀ (k0_h16 : k0_cond16 v71 v73 = 1#1), ∀ a, (k0_off204 v71) a + S1x16.size a ≤ S512x128.size a) ∧
  (∀ (k0_h15 : k0_cond15 i k0_t9 = 1#1), ∀ (k0_h16 : k0_cond16 v71 v73 = 1#1), ∀ a, (k0_off207 v71) a + S1x16.size a ≤ S512x128.size a) ∧
  (∀ (k0_h15 : k0_cond15 i k0_t9 = 1#1), ∀ (k0_h16 : k0_cond16 v71 v73 = 1#1), ∀ a, (k0_off210 v71) a + S1x16.size a ≤ S512x128.size a) ∧
  (∀ (k0_h15 : k0_cond15 i k0_t9 = 1#1), ∀ (k0_h16 : k0_cond16 v71 v73 = 1#1), ∀ a, (k0_off213 v71) a + S1x16.size a ≤ S512x128.size a) ∧
  (∀ (k0_h15 : k0_cond15 i k0_t9 = 1#1), ∀ (k0_h16 : k0_cond16 v71 v73 = 1#1), ∀ a, (k0_off216 v71) a + S1x16.size a ≤ S512x128.size a)
theorem k0_off195_inb : ∀ (i : grid0.Coords) (k0_t9 : Fin (k0_t9_loop i).trips) (v71 : BitVec 32) (v73 : BitVec 32) (k0_hw10 : k0_chk10 i k0_t9 v71 v73), ∀ (k0_h15 : k0_cond15 i k0_t9 = 1#1), ∀ (k0_h16 : k0_cond16 v71 v73 = 1#1), ∀ a, (k0_off195 v71) a + S1x16.size a ≤ S512x128.size a := fun i k0_t9 v71 v73 k0_hw10 k0_h15 k0_h16 => k0_hw10.1 k0_h15 k0_h16
theorem k0_off198_inb : ∀ (i : grid0.Coords) (k0_t9 : Fin (k0_t9_loop i).trips) (v71 : BitVec 32) (v73 : BitVec 32) (k0_hw10 : k0_chk10 i k0_t9 v71 v73), ∀ (k0_h15 : k0_cond15 i k0_t9 = 1#1), ∀ (k0_h16 : k0_cond16 v71 v73 = 1#1), ∀ a, (k0_off198 v71) a + S1x16.size a ≤ S512x128.size a := fun i k0_t9 v71 v73 k0_hw10 k0_h15 k0_h16 => k0_hw10.2.1 k0_h15 k0_h16
theorem k0_off201_inb : ∀ (i : grid0.Coords) (k0_t9 : Fin (k0_t9_loop i).trips) (v71 : BitVec 32) (v73 : BitVec 32) (k0_hw10 : k0_chk10 i k0_t9 v71 v73), ∀ (k0_h15 : k0_cond15 i k0_t9 = 1#1), ∀ (k0_h16 : k0_cond16 v71 v73 = 1#1), ∀ a, (k0_off201 v71) a + S1x16.size a ≤ S512x128.size a := fun i k0_t9 v71 v73 k0_hw10 k0_h15 k0_h16 => k0_hw10.2.2.1 k0_h15 k0_h16
theorem k0_off204_inb : ∀ (i : grid0.Coords) (k0_t9 : Fin (k0_t9_loop i).trips) (v71 : BitVec 32) (v73 : BitVec 32) (k0_hw10 : k0_chk10 i k0_t9 v71 v73), ∀ (k0_h15 : k0_cond15 i k0_t9 = 1#1), ∀ (k0_h16 : k0_cond16 v71 v73 = 1#1), ∀ a, (k0_off204 v71) a + S1x16.size a ≤ S512x128.size a := fun i k0_t9 v71 v73 k0_hw10 k0_h15 k0_h16 => k0_hw10.2.2.2.1 k0_h15 k0_h16
theorem k0_off207_inb : ∀ (i : grid0.Coords) (k0_t9 : Fin (k0_t9_loop i).trips) (v71 : BitVec 32) (v73 : BitVec 32) (k0_hw10 : k0_chk10 i k0_t9 v71 v73), ∀ (k0_h15 : k0_cond15 i k0_t9 = 1#1), ∀ (k0_h16 : k0_cond16 v71 v73 = 1#1), ∀ a, (k0_off207 v71) a + S1x16.size a ≤ S512x128.size a := fun i k0_t9 v71 v73 k0_hw10 k0_h15 k0_h16 => k0_hw10.2.2.2.2.1 k0_h15 k0_h16
theorem k0_off210_inb : ∀ (i : grid0.Coords) (k0_t9 : Fin (k0_t9_loop i).trips) (v71 : BitVec 32) (v73 : BitVec 32) (k0_hw10 : k0_chk10 i k0_t9 v71 v73), ∀ (k0_h15 : k0_cond15 i k0_t9 = 1#1), ∀ (k0_h16 : k0_cond16 v71 v73 = 1#1), ∀ a, (k0_off210 v71) a + S1x16.size a ≤ S512x128.size a := fun i k0_t9 v71 v73 k0_hw10 k0_h15 k0_h16 => k0_hw10.2.2.2.2.2.1 k0_h15 k0_h16
theorem k0_off213_inb : ∀ (i : grid0.Coords) (k0_t9 : Fin (k0_t9_loop i).trips) (v71 : BitVec 32) (v73 : BitVec 32) (k0_hw10 : k0_chk10 i k0_t9 v71 v73), ∀ (k0_h15 : k0_cond15 i k0_t9 = 1#1), ∀ (k0_h16 : k0_cond16 v71 v73 = 1#1), ∀ a, (k0_off213 v71) a + S1x16.size a ≤ S512x128.size a := fun i k0_t9 v71 v73 k0_hw10 k0_h15 k0_h16 => k0_hw10.2.2.2.2.2.2.1 k0_h15 k0_h16
theorem k0_off216_inb : ∀ (i : grid0.Coords) (k0_t9 : Fin (k0_t9_loop i).trips) (v71 : BitVec 32) (v73 : BitVec 32) (k0_hw10 : k0_chk10 i k0_t9 v71 v73), ∀ (k0_h15 : k0_cond15 i k0_t9 = 1#1), ∀ (k0_h16 : k0_cond16 v71 v73 = 1#1), ∀ a, (k0_off216 v71) a + S1x16.size a ≤ S512x128.size a := fun i k0_t9 v71 v73 k0_hw10 k0_h15 k0_h16 => k0_hw10.2.2.2.2.2.2.2 k0_h15 k0_h16

@[reducible] def k0_t14_loop (k0_t13 : Fin k0_t13_loop.trips) : Scf.Loop 32 :=
  let c0_i32_35 : BitVec 32 := 0#32
  let c1_i32_36 : BitVec 32 := 1#32
  let arg12 : BitVec 32 := Scf.iv c0_i32_35 c1_i32_36 k0_t13
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_46 : BitVec 32 := 1#32
  ⟨v80, v87, c1_i32_46⟩
def k0_off217 (i : grid0.Coords) (k0_t9 : Fin (k0_t9_loop i).trips) (k0_t13 : Fin k0_t13_loop.trips) (k0_t14 : Fin (k0_t14_loop k0_t13).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c160_i32_10 : BitVec 32 := 160#32
  let v20 : BitVec 32 := Scalar.muli v6 c160_i32_10
  let c160_i32 : BitVec 32 := 160#32
  let v17 : BitVec 32 := Scalar.muli v6 c160_i32
  let c96800_i32 : BitVec 32 := 96800#32
  let v18 : BitVec 32 := Scalar.minsi v17 c96800_i32
  let v19 : BitVec 32 := v18
  let v21 : BitVec 32 := Scalar.subi v20 v19
  let c0_i32_20 : BitVec 32 := 0#32
  let c19_i32_5 : BitVec 32 := 19#32
  let c17_i32_2 : BitVec 32 := 17#32
  let v7 : BitVec 1 := Scalar.cmpi .slt v1 c17_i32_2
  let c1_i32_3 : BitVec 32 := 1#32
  let c0_i32_4 : BitVec 32 := 0#32
  let v8 : BitVec 32 := Scalar.select v7 c1_i32_3 c0_i32_4
  let v9 : BitVec 32 := Scalar.addi c19_i32_5 v8
  let c1_i32_11 : BitVec 32 := 1#32
  let v22 : BitVec 32 := Scalar.addi v9 c1_i32_11
  let c0_i32_13 : BitVec 32 := 0#32
  let v24 : BitVec 1 := Scalar.cmpi .sgt v22 c0_i32_13
  let v25 : BitVec 32 := Scalar.extui v24
  let c0_i32_14 : BitVec 32 := 0#32
  let v26 : BitVec 1 := Scalar.cmpi .slt v22 c0_i32_14
  let v27 : BitVec 32 := Scalar.extui v26
  let v28 : BitVec 32 := Scalar.subi v25 v27
  let c2_i32_12 : BitVec 32 := 2#32
  let c0_i32_15 : BitVec 32 := 0#32
  let v29 : BitVec 1 := Scalar.cmpi .sgt c2_i32_12 c0_i32_15
  let v30 : BitVec 32 := Scalar.extui v29
  let c0_i32_16 : BitVec 32 := 0#32
  let v31 : BitVec 1 := Scalar.cmpi .slt c2_i32_12 c0_i32_16
  let v32 : BitVec 32 := Scalar.extui v31
  let v33 : BitVec 32 := Scalar.subi v30 v32
  let v34 : BitVec 1 := Scalar.cmpi .ne v28 v33
  let v35 : BitVec 32 := Scalar.remsi v22 c2_i32_12
  let c0_i32_17 : BitVec 32 := 0#32
  let v36 : BitVec 1 := Scalar.cmpi .ne v35 c0_i32_17
  let v37 : BitVec 1 := Scalar.andi v34 v36
  let v23 : BitVec 32 := Scalar.divsi v22 c2_i32_12
  let c1_i32_18 : BitVec 32 := 1#32
  let v38 : BitVec 32 := Scalar.subi v23 c1_i32_18
  let v39 : BitVec 32 := Scalar.select v37 v38 v23
  let v40 : BitVec 32 := Scalar.subi v39 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let c1_i32_23 : BitVec 32 := 1#32
  let arg11 : BitVec 32 := Scf.iv v44 c1_i32_23 k0_t9
  let c2_i32_24 : BitVec 32 := 2#32
  let v45 : BitVec 32 := Scalar.muli arg11 c2_i32_24
  let v46 : BitVec 32 := Scalar.addi v6 v45
  let c1_i32_27 : BitVec 32 := 1#32
  let v51 : BitVec 32 := Scalar.addi v46 c1_i32_27
  let v55 : BitVec 32 := Scalar.subi v51 v6
  let c160_i32_29 : BitVec 32 := 160#32
  let v56 : BitVec 32 := Scalar.muli v55 c160_i32_29
  let v57 : BitVec 32 := Scalar.addi v21 v56
  let c0_i32_35 : BitVec 32 := 0#32
  let c1_i32_36 : BitVec 32 := 1#32
  let arg12 : BitVec 32 := Scf.iv c0_i32_35 c1_i32_36 k0_t13
  let c4_i32 : BitVec 32 := 4#32
  let v80 : BitVec 32 := Scalar.shli arg12 c4_i32
  let c1_i32_46 : BitVec 32 := 1#32
  let arg13 : BitVec 32 := Scf.iv v80 c1_i32_46 k0_t14
  let v88 : BitVec 32 := Scalar.addi v57 arg13
  let v89 : Index := Scalar.indexCast v88
  ![v89.toNat]
def k0_off218 (v93 : BitVec 32) : Fin 2 → Nat :=
  let v94 : Index := Scalar.indexCast v93
  let c0 : Index := 0#32
  ![v94.toNat, 0]
def k0_cond17 (v71 : BitVec 32) (v73 : BitVec 32) : BitVec 1 :=
  let v74 : BitVec 1 := Scalar.cmpi .eq v71 v73
  let v_true : BitVec 1 := 1#1
  let v77 : BitVec 1 := Scalar.xori v74 v_true
  let v78 : BitVec 32 := Scalar.extui v77
  let c0_i32_41 : BitVec 32 := 0#32
  let v79 : BitVec 1 := Scalar.cmpi .ne v78 c0_i32_41
  v79

def k0_off219 (k0_t13 : Fin k0_t13_loop.trips) (k0_t14 : Fin (k0_t14_loop k0_t13).trips) : Fin 2 → Nat :=
  let c0_i32_35 : BitVec 32 := 0#32
  let c1_i32_36 : BitVec 32 := 1#32
  let arg12 : BitVec 32 := Scf.iv c0_i32_35 c1_i32_36 k0_t13
  let c4_i32 : BitVec 32 := 4#32
  let v80 : BitVec 32 := Scalar.shli arg12 c4_i32
  let c1_i32_46 : BitVec 32 := 1#32
  let arg13 : BitVec 32 := Scf.iv v80 c1_i32_46 k0_t14
  let v97 : Index := Scalar.indexCast arg13
  let c0_48 : Index := 0#32
  ![v97.toNat, 0]
def k0_off220 (v93 : BitVec 32) : Fin 2 → Nat :=
  let v105 : Index := Scalar.indexCast v93
  let c16 : Index := 16#32
  ![v105.toNat, 16]
def k0_off221 (k0_t13 : Fin k0_t13_loop.trips) (k0_t14 : Fin (k0_t14_loop k0_t13).trips) : Fin 2 → Nat :=
  let c0_i32_35 : BitVec 32 := 0#32
  let c1_i32_36 : BitVec 32 := 1#32
  let arg12 : BitVec 32 := Scf.iv c0_i32_35 c1_i32_36 k0_t13
  let c4_i32 : BitVec 32 := 4#32
  let v80 : BitVec 32 := Scalar.shli arg12 c4_i32
  let c1_i32_46 : BitVec 32 := 1#32
  let arg13 : BitVec 32 := Scf.iv v80 c1_i32_46 k0_t14
  let v108 : Index := Scalar.indexCast arg13
  let c16_50 : Index := 16#32
  ![v108.toNat, 16]
def k0_off222 (v93 : BitVec 32) : Fin 2 → Nat :=
  let v116 : Index := Scalar.indexCast v93
  let c32 : Index := 32#32
  ![v116.toNat, 32]
def k0_off223 (k0_t13 : Fin k0_t13_loop.trips) (k0_t14 : Fin (k0_t14_loop k0_t13).trips) : Fin 2 → Nat :=
  let c0_i32_35 : BitVec 32 := 0#32
  let c1_i32_36 : BitVec 32 := 1#32
  let arg12 : BitVec 32 := Scf.iv c0_i32_35 c1_i32_36 k0_t13
  let c4_i32 : BitVec 32 := 4#32
  let v80 : BitVec 32 := Scalar.shli arg12 c4_i32
  let c1_i32_46 : BitVec 32 := 1#32
  let arg13 : BitVec 32 := Scf.iv v80 c1_i32_46 k0_t14
  let v119 : Index := Scalar.indexCast arg13
  let c32_52 : Index := 32#32
  ![v119.toNat, 32]
def k0_off224 (v93 : BitVec 32) : Fin 2 → Nat :=
  let v127 : Index := Scalar.indexCast v93
  let c48 : Index := 48#32
  ![v127.toNat, 48]
def k0_off225 (k0_t13 : Fin k0_t13_loop.trips) (k0_t14 : Fin (k0_t14_loop k0_t13).trips) : Fin 2 → Nat :=
  let c0_i32_35 : BitVec 32 := 0#32
  let c1_i32_36 : BitVec 32 := 1#32
  let arg12 : BitVec 32 := Scf.iv c0_i32_35 c1_i32_36 k0_t13
  let c4_i32 : BitVec 32 := 4#32
  let v80 : BitVec 32 := Scalar.shli arg12 c4_i32
  let c1_i32_46 : BitVec 32 := 1#32
  let arg13 : BitVec 32 := Scf.iv v80 c1_i32_46 k0_t14
  let v130 : Index := Scalar.indexCast arg13
  let c48_54 : Index := 48#32
  ![v130.toNat, 48]
def k0_off226 (v93 : BitVec 32) : Fin 2 → Nat :=
  let v138 : Index := Scalar.indexCast v93
  let c64 : Index := 64#32
  ![v138.toNat, 64]
def k0_off227 (k0_t13 : Fin k0_t13_loop.trips) (k0_t14 : Fin (k0_t14_loop k0_t13).trips) : Fin 2 → Nat :=
  let c0_i32_35 : BitVec 32 := 0#32
  let c1_i32_36 : BitVec 32 := 1#32
  let arg12 : BitVec 32 := Scf.iv c0_i32_35 c1_i32_36 k0_t13
  let c4_i32 : BitVec 32 := 4#32
  let v80 : BitVec 32 := Scalar.shli arg12 c4_i32
  let c1_i32_46 : BitVec 32 := 1#32
  let arg13 : BitVec 32 := Scf.iv v80 c1_i32_46 k0_t14
  let v141 : Index := Scalar.indexCast arg13
  let c64_56 : Index := 64#32
  ![v141.toNat, 64]
def k0_off228 (v93 : BitVec 32) : Fin 2 → Nat :=
  let v149 : Index := Scalar.indexCast v93
  let c80 : Index := 80#32
  ![v149.toNat, 80]
def k0_off229 (k0_t13 : Fin k0_t13_loop.trips) (k0_t14 : Fin (k0_t14_loop k0_t13).trips) : Fin 2 → Nat :=
  let c0_i32_35 : BitVec 32 := 0#32
  let c1_i32_36 : BitVec 32 := 1#32
  let arg12 : BitVec 32 := Scf.iv c0_i32_35 c1_i32_36 k0_t13
  let c4_i32 : BitVec 32 := 4#32
  let v80 : BitVec 32 := Scalar.shli arg12 c4_i32
  let c1_i32_46 : BitVec 32 := 1#32
  let arg13 : BitVec 32 := Scf.iv v80 c1_i32_46 k0_t14
  let v152 : Index := Scalar.indexCast arg13
  let c80_58 : Index := 80#32
  ![v152.toNat, 80]
def k0_off230 (v93 : BitVec 32) : Fin 2 → Nat :=
  let v160 : Index := Scalar.indexCast v93
  let c96 : Index := 96#32
  ![v160.toNat, 96]
def k0_off231 (k0_t13 : Fin k0_t13_loop.trips) (k0_t14 : Fin (k0_t14_loop k0_t13).trips) : Fin 2 → Nat :=
  let c0_i32_35 : BitVec 32 := 0#32
  let c1_i32_36 : BitVec 32 := 1#32
  let arg12 : BitVec 32 := Scf.iv c0_i32_35 c1_i32_36 k0_t13
  let c4_i32 : BitVec 32 := 4#32
  let v80 : BitVec 32 := Scalar.shli arg12 c4_i32
  let c1_i32_46 : BitVec 32 := 1#32
  let arg13 : BitVec 32 := Scf.iv v80 c1_i32_46 k0_t14
  let v163 : Index := Scalar.indexCast arg13
  let c96_60 : Index := 96#32
  ![v163.toNat, 96]
def k0_off232 (v93 : BitVec 32) : Fin 2 → Nat :=
  let v171 : Index := Scalar.indexCast v93
  let c112 : Index := 112#32
  ![v171.toNat, 112]

def k0_chk11 (i : grid0.Coords) (k0_t9 : Fin (k0_t9_loop i).trips) (k0_t13 : Fin k0_t13_loop.trips) (v71 : BitVec 32) (v73 : BitVec 32) (k0_t14 : Fin (k0_t14_loop k0_t13).trips) (v93 : BitVec 32) : Prop :=
  (∀ (k0_h15 : k0_cond15 i k0_t9 = 1#1), ∀ (k0_h17 : k0_cond17 v71 v73 = 1#1), ∀ a, (k0_off218 v93) a + S1x16.size a ≤ S512x128.size a) ∧
  (∀ (k0_h15 : k0_cond15 i k0_t9 = 1#1), ∀ (k0_h17 : k0_cond17 v71 v73 = 1#1), ∀ a, (k0_off220 v93) a + S1x16.size a ≤ S512x128.size a) ∧
  (∀ (k0_h15 : k0_cond15 i k0_t9 = 1#1), ∀ (k0_h17 : k0_cond17 v71 v73 = 1#1), ∀ a, (k0_off222 v93) a + S1x16.size a ≤ S512x128.size a) ∧
  (∀ (k0_h15 : k0_cond15 i k0_t9 = 1#1), ∀ (k0_h17 : k0_cond17 v71 v73 = 1#1), ∀ a, (k0_off224 v93) a + S1x16.size a ≤ S512x128.size a) ∧
  (∀ (k0_h15 : k0_cond15 i k0_t9 = 1#1), ∀ (k0_h17 : k0_cond17 v71 v73 = 1#1), ∀ a, (k0_off226 v93) a + S1x16.size a ≤ S512x128.size a) ∧
  (∀ (k0_h15 : k0_cond15 i k0_t9 = 1#1), ∀ (k0_h17 : k0_cond17 v71 v73 = 1#1), ∀ a, (k0_off228 v93) a + S1x16.size a ≤ S512x128.size a) ∧
  (∀ (k0_h15 : k0_cond15 i k0_t9 = 1#1), ∀ (k0_h17 : k0_cond17 v71 v73 = 1#1), ∀ a, (k0_off230 v93) a + S1x16.size a ≤ S512x128.size a) ∧
  (∀ (k0_h15 : k0_cond15 i k0_t9 = 1#1), ∀ (k0_h17 : k0_cond17 v71 v73 = 1#1), ∀ a, (k0_off232 v93) a + S1x16.size a ≤ S512x128.size a)
theorem k0_off218_inb : ∀ (i : grid0.Coords) (k0_t9 : Fin (k0_t9_loop i).trips) (k0_t13 : Fin k0_t13_loop.trips) (v71 : BitVec 32) (v73 : BitVec 32) (k0_t14 : Fin (k0_t14_loop k0_t13).trips) (v93 : BitVec 32) (k0_hw11 : k0_chk11 i k0_t9 k0_t13 v71 v73 k0_t14 v93), ∀ (k0_h15 : k0_cond15 i k0_t9 = 1#1), ∀ (k0_h17 : k0_cond17 v71 v73 = 1#1), ∀ a, (k0_off218 v93) a + S1x16.size a ≤ S512x128.size a := fun i k0_t9 k0_t13 v71 v73 k0_t14 v93 k0_hw11 k0_h15 k0_h17 => k0_hw11.1 k0_h15 k0_h17
theorem k0_off220_inb : ∀ (i : grid0.Coords) (k0_t9 : Fin (k0_t9_loop i).trips) (k0_t13 : Fin k0_t13_loop.trips) (v71 : BitVec 32) (v73 : BitVec 32) (k0_t14 : Fin (k0_t14_loop k0_t13).trips) (v93 : BitVec 32) (k0_hw11 : k0_chk11 i k0_t9 k0_t13 v71 v73 k0_t14 v93), ∀ (k0_h15 : k0_cond15 i k0_t9 = 1#1), ∀ (k0_h17 : k0_cond17 v71 v73 = 1#1), ∀ a, (k0_off220 v93) a + S1x16.size a ≤ S512x128.size a := fun i k0_t9 k0_t13 v71 v73 k0_t14 v93 k0_hw11 k0_h15 k0_h17 => k0_hw11.2.1 k0_h15 k0_h17
theorem k0_off222_inb : ∀ (i : grid0.Coords) (k0_t9 : Fin (k0_t9_loop i).trips) (k0_t13 : Fin k0_t13_loop.trips) (v71 : BitVec 32) (v73 : BitVec 32) (k0_t14 : Fin (k0_t14_loop k0_t13).trips) (v93 : BitVec 32) (k0_hw11 : k0_chk11 i k0_t9 k0_t13 v71 v73 k0_t14 v93), ∀ (k0_h15 : k0_cond15 i k0_t9 = 1#1), ∀ (k0_h17 : k0_cond17 v71 v73 = 1#1), ∀ a, (k0_off222 v93) a + S1x16.size a ≤ S512x128.size a := fun i k0_t9 k0_t13 v71 v73 k0_t14 v93 k0_hw11 k0_h15 k0_h17 => k0_hw11.2.2.1 k0_h15 k0_h17
theorem k0_off224_inb : ∀ (i : grid0.Coords) (k0_t9 : Fin (k0_t9_loop i).trips) (k0_t13 : Fin k0_t13_loop.trips) (v71 : BitVec 32) (v73 : BitVec 32) (k0_t14 : Fin (k0_t14_loop k0_t13).trips) (v93 : BitVec 32) (k0_hw11 : k0_chk11 i k0_t9 k0_t13 v71 v73 k0_t14 v93), ∀ (k0_h15 : k0_cond15 i k0_t9 = 1#1), ∀ (k0_h17 : k0_cond17 v71 v73 = 1#1), ∀ a, (k0_off224 v93) a + S1x16.size a ≤ S512x128.size a := fun i k0_t9 k0_t13 v71 v73 k0_t14 v93 k0_hw11 k0_h15 k0_h17 => k0_hw11.2.2.2.1 k0_h15 k0_h17
theorem k0_off226_inb : ∀ (i : grid0.Coords) (k0_t9 : Fin (k0_t9_loop i).trips) (k0_t13 : Fin k0_t13_loop.trips) (v71 : BitVec 32) (v73 : BitVec 32) (k0_t14 : Fin (k0_t14_loop k0_t13).trips) (v93 : BitVec 32) (k0_hw11 : k0_chk11 i k0_t9 k0_t13 v71 v73 k0_t14 v93), ∀ (k0_h15 : k0_cond15 i k0_t9 = 1#1), ∀ (k0_h17 : k0_cond17 v71 v73 = 1#1), ∀ a, (k0_off226 v93) a + S1x16.size a ≤ S512x128.size a := fun i k0_t9 k0_t13 v71 v73 k0_t14 v93 k0_hw11 k0_h15 k0_h17 => k0_hw11.2.2.2.2.1 k0_h15 k0_h17
theorem k0_off228_inb : ∀ (i : grid0.Coords) (k0_t9 : Fin (k0_t9_loop i).trips) (k0_t13 : Fin k0_t13_loop.trips) (v71 : BitVec 32) (v73 : BitVec 32) (k0_t14 : Fin (k0_t14_loop k0_t13).trips) (v93 : BitVec 32) (k0_hw11 : k0_chk11 i k0_t9 k0_t13 v71 v73 k0_t14 v93), ∀ (k0_h15 : k0_cond15 i k0_t9 = 1#1), ∀ (k0_h17 : k0_cond17 v71 v73 = 1#1), ∀ a, (k0_off228 v93) a + S1x16.size a ≤ S512x128.size a := fun i k0_t9 k0_t13 v71 v73 k0_t14 v93 k0_hw11 k0_h15 k0_h17 => k0_hw11.2.2.2.2.2.1 k0_h15 k0_h17
theorem k0_off230_inb : ∀ (i : grid0.Coords) (k0_t9 : Fin (k0_t9_loop i).trips) (k0_t13 : Fin k0_t13_loop.trips) (v71 : BitVec 32) (v73 : BitVec 32) (k0_t14 : Fin (k0_t14_loop k0_t13).trips) (v93 : BitVec 32) (k0_hw11 : k0_chk11 i k0_t9 k0_t13 v71 v73 k0_t14 v93), ∀ (k0_h15 : k0_cond15 i k0_t9 = 1#1), ∀ (k0_h17 : k0_cond17 v71 v73 = 1#1), ∀ a, (k0_off230 v93) a + S1x16.size a ≤ S512x128.size a := fun i k0_t9 k0_t13 v71 v73 k0_t14 v93 k0_hw11 k0_h15 k0_h17 => k0_hw11.2.2.2.2.2.2.1 k0_h15 k0_h17
theorem k0_off232_inb : ∀ (i : grid0.Coords) (k0_t9 : Fin (k0_t9_loop i).trips) (k0_t13 : Fin k0_t13_loop.trips) (v71 : BitVec 32) (v73 : BitVec 32) (k0_t14 : Fin (k0_t14_loop k0_t13).trips) (v93 : BitVec 32) (k0_hw11 : k0_chk11 i k0_t9 k0_t13 v71 v73 k0_t14 v93), ∀ (k0_h15 : k0_cond15 i k0_t9 = 1#1), ∀ (k0_h17 : k0_cond17 v71 v73 = 1#1), ∀ a, (k0_off232 v93) a + S1x16.size a ≤ S512x128.size a := fun i k0_t9 k0_t13 v71 v73 k0_t14 v93 k0_hw11 k0_h15 k0_h17 => k0_hw11.2.2.2.2.2.2.2 k0_h15 k0_h17

def k0_off233 (k0_t13 : Fin k0_t13_loop.trips) (k0_t14 : Fin (k0_t14_loop k0_t13).trips) : Fin 2 → Nat :=
  let c0_i32_35 : BitVec 32 := 0#32
  let c1_i32_36 : BitVec 32 := 1#32
  let arg12 : BitVec 32 := Scf.iv c0_i32_35 c1_i32_36 k0_t13
  let c4_i32 : BitVec 32 := 4#32
  let v80 : BitVec 32 := Scalar.shli arg12 c4_i32
  let c1_i32_46 : BitVec 32 := 1#32
  let arg13 : BitVec 32 := Scf.iv v80 c1_i32_46 k0_t14
  let v174 : Index := Scalar.indexCast arg13
  let c112_62 : Index := 112#32
  ![v174.toNat, 112]
@[reducible] def k0_t15_loop (k0_t13 : Fin k0_t13_loop.trips) : Scf.Loop 32 :=
  let c0_i32_35 : BitVec 32 := 0#32
  let c1_i32_36 : BitVec 32 := 1#32
  let arg12 : BitVec 32 := Scf.iv c0_i32_35 c1_i32_36 k0_t13
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let v84 : BitVec 32 := Scalar.addi v80 v83
  let c1_i32_47 : BitVec 32 := 1#32
  ⟨v87, v84, c1_i32_47⟩
def k0_off234 (i : grid0.Coords) (k0_t9 : Fin (k0_t9_loop i).trips) (k0_t13 : Fin k0_t13_loop.trips) (k0_t15 : Fin (k0_t15_loop k0_t13).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c160_i32_10 : BitVec 32 := 160#32
  let v20 : BitVec 32 := Scalar.muli v6 c160_i32_10
  let c160_i32 : BitVec 32 := 160#32
  let v17 : BitVec 32 := Scalar.muli v6 c160_i32
  let c96800_i32 : BitVec 32 := 96800#32
  let v18 : BitVec 32 := Scalar.minsi v17 c96800_i32
  let v19 : BitVec 32 := v18
  let v21 : BitVec 32 := Scalar.subi v20 v19
  let c0_i32_20 : BitVec 32 := 0#32
  let c19_i32_5 : BitVec 32 := 19#32
  let c17_i32_2 : BitVec 32 := 17#32
  let v7 : BitVec 1 := Scalar.cmpi .slt v1 c17_i32_2
  let c1_i32_3 : BitVec 32 := 1#32
  let c0_i32_4 : BitVec 32 := 0#32
  let v8 : BitVec 32 := Scalar.select v7 c1_i32_3 c0_i32_4
  let v9 : BitVec 32 := Scalar.addi c19_i32_5 v8
  let c1_i32_11 : BitVec 32 := 1#32
  let v22 : BitVec 32 := Scalar.addi v9 c1_i32_11
  let c0_i32_13 : BitVec 32 := 0#32
  let v24 : BitVec 1 := Scalar.cmpi .sgt v22 c0_i32_13
  let v25 : BitVec 32 := Scalar.extui v24
  let c0_i32_14 : BitVec 32 := 0#32
  let v26 : BitVec 1 := Scalar.cmpi .slt v22 c0_i32_14
  let v27 : BitVec 32 := Scalar.extui v26
  let v28 : BitVec 32 := Scalar.subi v25 v27
  let c2_i32_12 : BitVec 32 := 2#32
  let c0_i32_15 : BitVec 32 := 0#32
  let v29 : BitVec 1 := Scalar.cmpi .sgt c2_i32_12 c0_i32_15
  let v30 : BitVec 32 := Scalar.extui v29
  let c0_i32_16 : BitVec 32 := 0#32
  let v31 : BitVec 1 := Scalar.cmpi .slt c2_i32_12 c0_i32_16
  let v32 : BitVec 32 := Scalar.extui v31
  let v33 : BitVec 32 := Scalar.subi v30 v32
  let v34 : BitVec 1 := Scalar.cmpi .ne v28 v33
  let v35 : BitVec 32 := Scalar.remsi v22 c2_i32_12
  let c0_i32_17 : BitVec 32 := 0#32
  let v36 : BitVec 1 := Scalar.cmpi .ne v35 c0_i32_17
  let v37 : BitVec 1 := Scalar.andi v34 v36
  let v23 : BitVec 32 := Scalar.divsi v22 c2_i32_12
  let c1_i32_18 : BitVec 32 := 1#32
  let v38 : BitVec 32 := Scalar.subi v23 c1_i32_18
  let v39 : BitVec 32 := Scalar.select v37 v38 v23
  let v40 : BitVec 32 := Scalar.subi v39 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let c1_i32_23 : BitVec 32 := 1#32
  let arg11 : BitVec 32 := Scf.iv v44 c1_i32_23 k0_t9
  let c2_i32_24 : BitVec 32 := 2#32
  let v45 : BitVec 32 := Scalar.muli arg11 c2_i32_24
  let v46 : BitVec 32 := Scalar.addi v6 v45
  let c1_i32_27 : BitVec 32 := 1#32
  let v51 : BitVec 32 := Scalar.addi v46 c1_i32_27
  let v55 : BitVec 32 := Scalar.subi v51 v6
  let c160_i32_29 : BitVec 32 := 160#32
  let v56 : BitVec 32 := Scalar.muli v55 c160_i32_29
  let v57 : BitVec 32 := Scalar.addi v21 v56
  let c0_i32_35 : BitVec 32 := 0#32
  let c1_i32_36 : BitVec 32 := 1#32
  let arg12 : BitVec 32 := Scf.iv c0_i32_35 c1_i32_36 k0_t13
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t15
  let v88 : BitVec 32 := Scalar.addi v57 arg13
  let v89 : Index := Scalar.indexCast v88
  ![v89.toNat]
def k0_off235 (v93 : BitVec 32) : Fin 2 → Nat :=
  let v94 : Index := Scalar.indexCast v93
  let c0 : Index := 0#32
  ![v94.toNat, 0]

def k0_off236 (k0_t13 : Fin k0_t13_loop.trips) (k0_t15 : Fin (k0_t15_loop k0_t13).trips) : Fin 2 → Nat :=
  let c0_i32_35 : BitVec 32 := 0#32
  let c1_i32_36 : BitVec 32 := 1#32
  let arg12 : BitVec 32 := Scf.iv c0_i32_35 c1_i32_36 k0_t13
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t15
  let v97 : Index := Scalar.indexCast arg13
  let c0_48 : Index := 0#32
  ![v97.toNat, 0]
def k0_off237 (v93 : BitVec 32) : Fin 2 → Nat :=
  let v105 : Index := Scalar.indexCast v93
  let c16 : Index := 16#32
  ![v105.toNat, 16]
def k0_off238 (k0_t13 : Fin k0_t13_loop.trips) (k0_t15 : Fin (k0_t15_loop k0_t13).trips) : Fin 2 → Nat :=
  let c0_i32_35 : BitVec 32 := 0#32
  let c1_i32_36 : BitVec 32 := 1#32
  let arg12 : BitVec 32 := Scf.iv c0_i32_35 c1_i32_36 k0_t13
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t15
  let v108 : Index := Scalar.indexCast arg13
  let c16_50 : Index := 16#32
  ![v108.toNat, 16]
def k0_off239 (v93 : BitVec 32) : Fin 2 → Nat :=
  let v116 : Index := Scalar.indexCast v93
  let c32 : Index := 32#32
  ![v116.toNat, 32]
def k0_off240 (k0_t13 : Fin k0_t13_loop.trips) (k0_t15 : Fin (k0_t15_loop k0_t13).trips) : Fin 2 → Nat :=
  let c0_i32_35 : BitVec 32 := 0#32
  let c1_i32_36 : BitVec 32 := 1#32
  let arg12 : BitVec 32 := Scf.iv c0_i32_35 c1_i32_36 k0_t13
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t15
  let v119 : Index := Scalar.indexCast arg13
  let c32_52 : Index := 32#32
  ![v119.toNat, 32]
def k0_off241 (v93 : BitVec 32) : Fin 2 → Nat :=
  let v127 : Index := Scalar.indexCast v93
  let c48 : Index := 48#32
  ![v127.toNat, 48]
def k0_off242 (k0_t13 : Fin k0_t13_loop.trips) (k0_t15 : Fin (k0_t15_loop k0_t13).trips) : Fin 2 → Nat :=
  let c0_i32_35 : BitVec 32 := 0#32
  let c1_i32_36 : BitVec 32 := 1#32
  let arg12 : BitVec 32 := Scf.iv c0_i32_35 c1_i32_36 k0_t13
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t15
  let v130 : Index := Scalar.indexCast arg13
  let c48_54 : Index := 48#32
  ![v130.toNat, 48]
def k0_off243 (v93 : BitVec 32) : Fin 2 → Nat :=
  let v138 : Index := Scalar.indexCast v93
  let c64 : Index := 64#32
  ![v138.toNat, 64]
def k0_off244 (k0_t13 : Fin k0_t13_loop.trips) (k0_t15 : Fin (k0_t15_loop k0_t13).trips) : Fin 2 → Nat :=
  let c0_i32_35 : BitVec 32 := 0#32
  let c1_i32_36 : BitVec 32 := 1#32
  let arg12 : BitVec 32 := Scf.iv c0_i32_35 c1_i32_36 k0_t13
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t15
  let v141 : Index := Scalar.indexCast arg13
  let c64_56 : Index := 64#32
  ![v141.toNat, 64]
def k0_off245 (v93 : BitVec 32) : Fin 2 → Nat :=
  let v149 : Index := Scalar.indexCast v93
  let c80 : Index := 80#32
  ![v149.toNat, 80]
def k0_off246 (k0_t13 : Fin k0_t13_loop.trips) (k0_t15 : Fin (k0_t15_loop k0_t13).trips) : Fin 2 → Nat :=
  let c0_i32_35 : BitVec 32 := 0#32
  let c1_i32_36 : BitVec 32 := 1#32
  let arg12 : BitVec 32 := Scf.iv c0_i32_35 c1_i32_36 k0_t13
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t15
  let v152 : Index := Scalar.indexCast arg13
  let c80_58 : Index := 80#32
  ![v152.toNat, 80]
def k0_off247 (v93 : BitVec 32) : Fin 2 → Nat :=
  let v160 : Index := Scalar.indexCast v93
  let c96 : Index := 96#32
  ![v160.toNat, 96]
def k0_off248 (k0_t13 : Fin k0_t13_loop.trips) (k0_t15 : Fin (k0_t15_loop k0_t13).trips) : Fin 2 → Nat :=
  let c0_i32_35 : BitVec 32 := 0#32
  let c1_i32_36 : BitVec 32 := 1#32
  let arg12 : BitVec 32 := Scf.iv c0_i32_35 c1_i32_36 k0_t13
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t15
  let v163 : Index := Scalar.indexCast arg13
  let c96_60 : Index := 96#32
  ![v163.toNat, 96]
def k0_off249 (v93 : BitVec 32) : Fin 2 → Nat :=
  let v171 : Index := Scalar.indexCast v93
  let c112 : Index := 112#32
  ![v171.toNat, 112]

def k0_chk12 (i : grid0.Coords) (k0_t9 : Fin (k0_t9_loop i).trips) (k0_t13 : Fin k0_t13_loop.trips) (v71 : BitVec 32) (v73 : BitVec 32) (k0_t15 : Fin (k0_t15_loop k0_t13).trips) (v93 : BitVec 32) : Prop :=
  (∀ (k0_h15 : k0_cond15 i k0_t9 = 1#1), ∀ (k0_h17 : k0_cond17 v71 v73 = 1#1), ∀ a, (k0_off235 v93) a + S1x16.size a ≤ S512x128.size a) ∧
  (∀ (k0_h15 : k0_cond15 i k0_t9 = 1#1), ∀ (k0_h17 : k0_cond17 v71 v73 = 1#1), ∀ a, (k0_off237 v93) a + S1x16.size a ≤ S512x128.size a) ∧
  (∀ (k0_h15 : k0_cond15 i k0_t9 = 1#1), ∀ (k0_h17 : k0_cond17 v71 v73 = 1#1), ∀ a, (k0_off239 v93) a + S1x16.size a ≤ S512x128.size a) ∧
  (∀ (k0_h15 : k0_cond15 i k0_t9 = 1#1), ∀ (k0_h17 : k0_cond17 v71 v73 = 1#1), ∀ a, (k0_off241 v93) a + S1x16.size a ≤ S512x128.size a) ∧
  (∀ (k0_h15 : k0_cond15 i k0_t9 = 1#1), ∀ (k0_h17 : k0_cond17 v71 v73 = 1#1), ∀ a, (k0_off243 v93) a + S1x16.size a ≤ S512x128.size a) ∧
  (∀ (k0_h15 : k0_cond15 i k0_t9 = 1#1), ∀ (k0_h17 : k0_cond17 v71 v73 = 1#1), ∀ a, (k0_off245 v93) a + S1x16.size a ≤ S512x128.size a) ∧
  (∀ (k0_h15 : k0_cond15 i k0_t9 = 1#1), ∀ (k0_h17 : k0_cond17 v71 v73 = 1#1), ∀ a, (k0_off247 v93) a + S1x16.size a ≤ S512x128.size a) ∧
  (∀ (k0_h15 : k0_cond15 i k0_t9 = 1#1), ∀ (k0_h17 : k0_cond17 v71 v73 = 1#1), ∀ a, (k0_off249 v93) a + S1x16.size a ≤ S512x128.size a)
theorem k0_off235_inb : ∀ (i : grid0.Coords) (k0_t9 : Fin (k0_t9_loop i).trips) (k0_t13 : Fin k0_t13_loop.trips) (v71 : BitVec 32) (v73 : BitVec 32) (k0_t15 : Fin (k0_t15_loop k0_t13).trips) (v93 : BitVec 32) (k0_hw12 : k0_chk12 i k0_t9 k0_t13 v71 v73 k0_t15 v93), ∀ (k0_h15 : k0_cond15 i k0_t9 = 1#1), ∀ (k0_h17 : k0_cond17 v71 v73 = 1#1), ∀ a, (k0_off235 v93) a + S1x16.size a ≤ S512x128.size a := fun i k0_t9 k0_t13 v71 v73 k0_t15 v93 k0_hw12 k0_h15 k0_h17 => k0_hw12.1 k0_h15 k0_h17
theorem k0_off237_inb : ∀ (i : grid0.Coords) (k0_t9 : Fin (k0_t9_loop i).trips) (k0_t13 : Fin k0_t13_loop.trips) (v71 : BitVec 32) (v73 : BitVec 32) (k0_t15 : Fin (k0_t15_loop k0_t13).trips) (v93 : BitVec 32) (k0_hw12 : k0_chk12 i k0_t9 k0_t13 v71 v73 k0_t15 v93), ∀ (k0_h15 : k0_cond15 i k0_t9 = 1#1), ∀ (k0_h17 : k0_cond17 v71 v73 = 1#1), ∀ a, (k0_off237 v93) a + S1x16.size a ≤ S512x128.size a := fun i k0_t9 k0_t13 v71 v73 k0_t15 v93 k0_hw12 k0_h15 k0_h17 => k0_hw12.2.1 k0_h15 k0_h17
theorem k0_off239_inb : ∀ (i : grid0.Coords) (k0_t9 : Fin (k0_t9_loop i).trips) (k0_t13 : Fin k0_t13_loop.trips) (v71 : BitVec 32) (v73 : BitVec 32) (k0_t15 : Fin (k0_t15_loop k0_t13).trips) (v93 : BitVec 32) (k0_hw12 : k0_chk12 i k0_t9 k0_t13 v71 v73 k0_t15 v93), ∀ (k0_h15 : k0_cond15 i k0_t9 = 1#1), ∀ (k0_h17 : k0_cond17 v71 v73 = 1#1), ∀ a, (k0_off239 v93) a + S1x16.size a ≤ S512x128.size a := fun i k0_t9 k0_t13 v71 v73 k0_t15 v93 k0_hw12 k0_h15 k0_h17 => k0_hw12.2.2.1 k0_h15 k0_h17
theorem k0_off241_inb : ∀ (i : grid0.Coords) (k0_t9 : Fin (k0_t9_loop i).trips) (k0_t13 : Fin k0_t13_loop.trips) (v71 : BitVec 32) (v73 : BitVec 32) (k0_t15 : Fin (k0_t15_loop k0_t13).trips) (v93 : BitVec 32) (k0_hw12 : k0_chk12 i k0_t9 k0_t13 v71 v73 k0_t15 v93), ∀ (k0_h15 : k0_cond15 i k0_t9 = 1#1), ∀ (k0_h17 : k0_cond17 v71 v73 = 1#1), ∀ a, (k0_off241 v93) a + S1x16.size a ≤ S512x128.size a := fun i k0_t9 k0_t13 v71 v73 k0_t15 v93 k0_hw12 k0_h15 k0_h17 => k0_hw12.2.2.2.1 k0_h15 k0_h17
theorem k0_off243_inb : ∀ (i : grid0.Coords) (k0_t9 : Fin (k0_t9_loop i).trips) (k0_t13 : Fin k0_t13_loop.trips) (v71 : BitVec 32) (v73 : BitVec 32) (k0_t15 : Fin (k0_t15_loop k0_t13).trips) (v93 : BitVec 32) (k0_hw12 : k0_chk12 i k0_t9 k0_t13 v71 v73 k0_t15 v93), ∀ (k0_h15 : k0_cond15 i k0_t9 = 1#1), ∀ (k0_h17 : k0_cond17 v71 v73 = 1#1), ∀ a, (k0_off243 v93) a + S1x16.size a ≤ S512x128.size a := fun i k0_t9 k0_t13 v71 v73 k0_t15 v93 k0_hw12 k0_h15 k0_h17 => k0_hw12.2.2.2.2.1 k0_h15 k0_h17
theorem k0_off245_inb : ∀ (i : grid0.Coords) (k0_t9 : Fin (k0_t9_loop i).trips) (k0_t13 : Fin k0_t13_loop.trips) (v71 : BitVec 32) (v73 : BitVec 32) (k0_t15 : Fin (k0_t15_loop k0_t13).trips) (v93 : BitVec 32) (k0_hw12 : k0_chk12 i k0_t9 k0_t13 v71 v73 k0_t15 v93), ∀ (k0_h15 : k0_cond15 i k0_t9 = 1#1), ∀ (k0_h17 : k0_cond17 v71 v73 = 1#1), ∀ a, (k0_off245 v93) a + S1x16.size a ≤ S512x128.size a := fun i k0_t9 k0_t13 v71 v73 k0_t15 v93 k0_hw12 k0_h15 k0_h17 => k0_hw12.2.2.2.2.2.1 k0_h15 k0_h17
theorem k0_off247_inb : ∀ (i : grid0.Coords) (k0_t9 : Fin (k0_t9_loop i).trips) (k0_t13 : Fin k0_t13_loop.trips) (v71 : BitVec 32) (v73 : BitVec 32) (k0_t15 : Fin (k0_t15_loop k0_t13).trips) (v93 : BitVec 32) (k0_hw12 : k0_chk12 i k0_t9 k0_t13 v71 v73 k0_t15 v93), ∀ (k0_h15 : k0_cond15 i k0_t9 = 1#1), ∀ (k0_h17 : k0_cond17 v71 v73 = 1#1), ∀ a, (k0_off247 v93) a + S1x16.size a ≤ S512x128.size a := fun i k0_t9 k0_t13 v71 v73 k0_t15 v93 k0_hw12 k0_h15 k0_h17 => k0_hw12.2.2.2.2.2.2.1 k0_h15 k0_h17
theorem k0_off249_inb : ∀ (i : grid0.Coords) (k0_t9 : Fin (k0_t9_loop i).trips) (k0_t13 : Fin k0_t13_loop.trips) (v71 : BitVec 32) (v73 : BitVec 32) (k0_t15 : Fin (k0_t15_loop k0_t13).trips) (v93 : BitVec 32) (k0_hw12 : k0_chk12 i k0_t9 k0_t13 v71 v73 k0_t15 v93), ∀ (k0_h15 : k0_cond15 i k0_t9 = 1#1), ∀ (k0_h17 : k0_cond17 v71 v73 = 1#1), ∀ a, (k0_off249 v93) a + S1x16.size a ≤ S512x128.size a := fun i k0_t9 k0_t13 v71 v73 k0_t15 v93 k0_hw12 k0_h15 k0_h17 => k0_hw12.2.2.2.2.2.2.2 k0_h15 k0_h17

def k0_off250 (k0_t13 : Fin k0_t13_loop.trips) (k0_t15 : Fin (k0_t15_loop k0_t13).trips) : Fin 2 → Nat :=
  let c0_i32_35 : BitVec 32 := 0#32
  let c1_i32_36 : BitVec 32 := 1#32
  let arg12 : BitVec 32 := Scf.iv c0_i32_35 c1_i32_36 k0_t13
  let c4_i32 : BitVec 32 := 4#32
  let v80 : BitVec 32 := Scalar.shli arg12 c4_i32
  let c1_i32_42 : BitVec 32 := 1#32
  let v81 : BitVec 32 := Scalar.addi arg12 c1_i32_42
  let c4_i32_43 : BitVec 32 := 4#32
  let v82 : BitVec 32 := Scalar.shli v81 c4_i32_43
  let v83 : BitVec 32 := Scalar.subi v82 v80
  let c1_i32_45 : BitVec 32 := 1#32
  let v85 : BitVec 32 := Scalar.divsi v83 c1_i32_45
  let v86 : BitVec 32 := Scalar.muli v85 c1_i32_45
  let v87 : BitVec 32 := Scalar.addi v80 v86
  let c1_i32_47 : BitVec 32 := 1#32
  let arg13 : BitVec 32 := Scf.iv v87 c1_i32_47 k0_t15
  let v174 : Index := Scalar.indexCast arg13
  let c112_62 : Index := 112#32
  ![v174.toNat, 112]
def k0_cond18 (i : grid0.Coords) (k0_t9 : Fin (k0_t9_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c0_i32_20 : BitVec 32 := 0#32
  let c19_i32_5 : BitVec 32 := 19#32
  let c17_i32_2 : BitVec 32 := 17#32
  let v7 : BitVec 1 := Scalar.cmpi .slt v1 c17_i32_2
  let c1_i32_3 : BitVec 32 := 1#32
  let c0_i32_4 : BitVec 32 := 0#32
  let v8 : BitVec 32 := Scalar.select v7 c1_i32_3 c0_i32_4
  let v9 : BitVec 32 := Scalar.addi c19_i32_5 v8
  let c1_i32_11 : BitVec 32 := 1#32
  let v22 : BitVec 32 := Scalar.addi v9 c1_i32_11
  let c0_i32_13 : BitVec 32 := 0#32
  let v24 : BitVec 1 := Scalar.cmpi .sgt v22 c0_i32_13
  let v25 : BitVec 32 := Scalar.extui v24
  let c0_i32_14 : BitVec 32 := 0#32
  let v26 : BitVec 1 := Scalar.cmpi .slt v22 c0_i32_14
  let v27 : BitVec 32 := Scalar.extui v26
  let v28 : BitVec 32 := Scalar.subi v25 v27
  let c2_i32_12 : BitVec 32 := 2#32
  let c0_i32_15 : BitVec 32 := 0#32
  let v29 : BitVec 1 := Scalar.cmpi .sgt c2_i32_12 c0_i32_15
  let v30 : BitVec 32 := Scalar.extui v29
  let c0_i32_16 : BitVec 32 := 0#32
  let v31 : BitVec 1 := Scalar.cmpi .slt c2_i32_12 c0_i32_16
  let v32 : BitVec 32 := Scalar.extui v31
  let v33 : BitVec 32 := Scalar.subi v30 v32
  let v34 : BitVec 1 := Scalar.cmpi .ne v28 v33
  let v35 : BitVec 32 := Scalar.remsi v22 c2_i32_12
  let c0_i32_17 : BitVec 32 := 0#32
  let v36 : BitVec 1 := Scalar.cmpi .ne v35 c0_i32_17
  let v37 : BitVec 1 := Scalar.andi v34 v36
  let v23 : BitVec 32 := Scalar.divsi v22 c2_i32_12
  let c1_i32_18 : BitVec 32 := 1#32
  let v38 : BitVec 32 := Scalar.subi v23 c1_i32_18
  let v39 : BitVec 32 := Scalar.select v37 v38 v23
  let v40 : BitVec 32 := Scalar.subi v39 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let c1_i32_23 : BitVec 32 := 1#32
  let arg11 : BitVec 32 := Scf.iv v44 c1_i32_23 k0_t9
  let c2_i32_24 : BitVec 32 := 2#32
  let v45 : BitVec 32 := Scalar.muli arg11 c2_i32_24
  let v46 : BitVec 32 := Scalar.addi v6 v45
  let c1_i32_27 : BitVec 32 := 1#32
  let v51 : BitVec 32 := Scalar.addi v46 c1_i32_27
  let c2_i32_38 : BitVec 32 := 2#32
  let v61 : BitVec 32 := Scalar.addi v51 c2_i32_38
  let v10 : BitVec 32 := Scalar.addi v6 v9
  let v62 : BitVec 1 := Scalar.cmpi .slt v61 v10
  let v63 : BitVec 32 := Scalar.extui v62
  let c0_i32_39 : BitVec 32 := 0#32
  let v64 : BitVec 1 := Scalar.cmpi .ne v63 c0_i32_39
  v64

def k0_off251 (i : grid0.Coords) (k0_t9 : Fin (k0_t9_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32 : BitVec 32 := 19#32
  let v4 : BitVec 32 := Scalar.muli v1 c19_i32
  let c17_i32 : BitVec 32 := 17#32
  let v5 : BitVec 32 := Scalar.minsi v1 c17_i32
  let v6 : BitVec 32 := Scalar.addi v4 v5
  let c0_i32_20 : BitVec 32 := 0#32
  let c19_i32_5 : BitVec 32 := 19#32
  let c17_i32_2 : BitVec 32 := 17#32
  let v7 : BitVec 1 := Scalar.cmpi .slt v1 c17_i32_2
  let c1_i32_3 : BitVec 32 := 1#32
  let c0_i32_4 : BitVec 32 := 0#32
  let v8 : BitVec 32 := Scalar.select v7 c1_i32_3 c0_i32_4
  let v9 : BitVec 32 := Scalar.addi c19_i32_5 v8
  let c1_i32_11 : BitVec 32 := 1#32
  let v22 : BitVec 32 := Scalar.addi v9 c1_i32_11
  let c0_i32_13 : BitVec 32 := 0#32
  let v24 : BitVec 1 := Scalar.cmpi .sgt v22 c0_i32_13
  let v25 : BitVec 32 := Scalar.extui v24
  let c0_i32_14 : BitVec 32 := 0#32
  let v26 : BitVec 1 := Scalar.cmpi .slt v22 c0_i32_14
  let v27 : BitVec 32 := Scalar.extui v26
  let v28 : BitVec 32 := Scalar.subi v25 v27
  let c2_i32_12 : BitVec 32 := 2#32
  let c0_i32_15 : BitVec 32 := 0#32
  let v29 : BitVec 1 := Scalar.cmpi .sgt c2_i32_12 c0_i32_15
  let v30 : BitVec 32 := Scalar.extui v29
  let c0_i32_16 : BitVec 32 := 0#32
  let v31 : BitVec 1 := Scalar.cmpi .slt c2_i32_12 c0_i32_16
  let v32 : BitVec 32 := Scalar.extui v31
  let v33 : BitVec 32 := Scalar.subi v30 v32
  let v34 : BitVec 1 := Scalar.cmpi .ne v28 v33
  let v35 : BitVec 32 := Scalar.remsi v22 c2_i32_12
  let c0_i32_17 : BitVec 32 := 0#32
  let v36 : BitVec 1 := Scalar.cmpi .ne v35 c0_i32_17
  let v37 : BitVec 1 := Scalar.andi v34 v36
  let v23 : BitVec 32 := Scalar.divsi v22 c2_i32_12
  let c1_i32_18 : BitVec 32 := 1#32
  let v38 : BitVec 32 := Scalar.subi v23 c1_i32_18
  let v39 : BitVec 32 := Scalar.select v37 v38 v23
  let v40 : BitVec 32 := Scalar.subi v39 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let c1_i32_23 : BitVec 32 := 1#32
  let arg11 : BitVec 32 := Scf.iv v44 c1_i32_23 k0_t9
  let c2_i32_24 : BitVec 32 := 2#32
  let v45 : BitVec 32 := Scalar.muli arg11 c2_i32_24
  let v46 : BitVec 32 := Scalar.addi v6 v45
  let c1_i32_27 : BitVec 32 := 1#32
  let v51 : BitVec 32 := Scalar.addi v46 c1_i32_27
  let c2_i32_40 : BitVec 32 := 2#32
  let v65 : BitVec 32 := Scalar.addi v51 c2_i32_40
  let c160_i32_41 : BitVec 32 := 160#32
  let v66 : BitVec 32 := Scalar.muli v65 c160_i32_41
  let c0_i32_42 : BitVec 32 := 0#32
  ![v66.toNat, 0]
def k0_off252 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_24_r1 : BitVec 32 := 0#32
  let c0_i32_25_r1 : BitVec 32 := 0#32
  ![v1.toNat, 0, 0]
abbrev grid1 : Pipeline.Grid := .none

abbrev stage1_0 : Fin 1 → Memref sig .tc .vmem S32x512x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S512x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev grid2 : Pipeline.Grid := ⟨2, ![2, 16], ![false, false]⟩

def k2_cond1 (i : grid2.Coords) : BitVec 1 :=
  let c39_i32_2 : BitVec 32 := 39#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v5 : BitVec 1 := Scalar.cmpi .slt v1 c2_i32_1
  let c1_i32 : BitVec 32 := 1#32
  let c0_i32 : BitVec 32 := 0#32
  let v6 : BitVec 32 := Scalar.select v5 c1_i32 c0_i32
  let v7 : BitVec 32 := Scalar.addi c39_i32_2 v6
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .ne v10 c0_i32_4
  v11

def k2_off1 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c80_i32_25 : BitVec 32 := 80#32
  let v49 : BitVec 32 := Scalar.muli v4 c80_i32_25
  let c0_i32_26 : BitVec 32 := 0#32
  ![v49.toNat, 0]
def k2_cond2 (i : grid2.Coords) : BitVec 1 :=
  let c39_i32_2 : BitVec 32 := 39#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v5 : BitVec 1 := Scalar.cmpi .slt v1 c2_i32_1
  let c1_i32 : BitVec 32 := 1#32
  let c0_i32 : BitVec 32 := 0#32
  let v6 : BitVec 32 := Scalar.select v5 c1_i32 c0_i32
  let v7 : BitVec 32 := Scalar.addi c39_i32_2 v6
  let c1_i32_5 : BitVec 32 := 1#32
  let v12 : BitVec 1 := Scalar.cmpi .sgt v7 c1_i32_5
  let v13 : BitVec 32 := Scalar.extui v12
  let c0_i32_6 : BitVec 32 := 0#32
  let v14 : BitVec 1 := Scalar.cmpi .ne v13 c0_i32_6
  v14

def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c1_i32_25 : BitVec 32 := 1#32
  let v49 : BitVec 32 := Scalar.addi v4 c1_i32_25
  let c80_i32_26 : BitVec 32 := 80#32
  let v50 : BitVec 32 := Scalar.muli v49 c80_i32_26
  let c0_i32_27 : BitVec 32 := 0#32
  ![v50.toNat, 0]
def k2_mult1 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c80_i32 : BitVec 32 := 80#32
  let v15 : BitVec 32 := Scalar.muli v4 c80_i32
  let c96800_i32 : BitVec 32 := 96800#32
  let v16 : BitVec 32 := Scalar.minsi v15 c96800_i32
  v16
def k2_off3 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c80_i32 : BitVec 32 := 80#32
  let v15 : BitVec 32 := Scalar.muli v4 c80_i32
  let c96800_i32 : BitVec 32 := 96800#32
  let v16 : BitVec 32 := Scalar.minsi v15 c96800_i32
  let v17 : BitVec 32 := v16
  ![v17.toNat]
@[reducible] def k2_t1_loop (i : grid2.Coords) : Scf.Loop 32 :=
  let c0_i32_17 : BitVec 32 := 0#32
  let c39_i32_2 : BitVec 32 := 39#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v5 : BitVec 1 := Scalar.cmpi .slt v1 c2_i32_1
  let c1_i32 : BitVec 32 := 1#32
  let c0_i32 : BitVec 32 := 0#32
  let v6 : BitVec 32 := Scalar.select v5 c1_i32 c0_i32
  let v7 : BitVec 32 := Scalar.addi c39_i32_2 v6
  let c1_i32_8 : BitVec 32 := 1#32
  let v20 : BitVec 32 := Scalar.addi v7 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c2_i32_9 : BitVec 32 := 2#32
  let c0_i32_12 : BitVec 32 := 0#32
  let v27 : BitVec 1 := Scalar.cmpi .sgt c2_i32_9 c0_i32_12
  let v28 : BitVec 32 := Scalar.extui v27
  let c0_i32_13 : BitVec 32 := 0#32
  let v29 : BitVec 1 := Scalar.cmpi .slt c2_i32_9 c0_i32_13
  let v30 : BitVec 32 := Scalar.extui v29
  let v31 : BitVec 32 := Scalar.subi v28 v30
  let v32 : BitVec 1 := Scalar.cmpi .ne v26 v31
  let v33 : BitVec 32 := Scalar.remsi v20 c2_i32_9
  let c0_i32_14 : BitVec 32 := 0#32
  let v34 : BitVec 1 := Scalar.cmpi .ne v33 c0_i32_14
  let v35 : BitVec 1 := Scalar.andi v32 v34
  let v21 : BitVec 32 := Scalar.divsi v20 c2_i32_9
  let c1_i32_15 : BitVec 32 := 1#32
  let v36 : BitVec 32 := Scalar.subi v21 c1_i32_15
  let v37 : BitVec 32 := Scalar.select v35 v36 v21
  let v38 : BitVec 32 := Scalar.subi v37 c0_i32_17
  let c1_i32_18 : BitVec 32 := 1#32
  let v40 : BitVec 32 := Scalar.divsi v38 c1_i32_18
  let v41 : BitVec 32 := Scalar.muli v40 c1_i32_18
  let v42 : BitVec 32 := Scalar.addi c0_i32_17 v41
  let c1_i32_19 : BitVec 32 := 1#32
  ⟨c0_i32_17, v42, c1_i32_19⟩
def k2_cond3 (i : grid2.Coords) (k2_t1 : Fin (k2_t1_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c0_i32_17 : BitVec 32 := 0#32
  let c1_i32_19 : BitVec 32 := 1#32
  let arg16 : BitVec 32 := Scf.iv c0_i32_17 c1_i32_19 k2_t1
  let c2_i32_25 : BitVec 32 := 2#32
  let v49 : BitVec 32 := Scalar.muli arg16 c2_i32_25
  let v50 : BitVec 32 := Scalar.addi v4 v49
  let c0_i32_26 : BitVec 32 := 0#32
  let v51 : BitVec 32 := Scalar.addi v50 c0_i32_26
  let c39_i32_2 : BitVec 32 := 39#32
  let c2_i32_1 : BitVec 32 := 2#32
  let v5 : BitVec 1 := Scalar.cmpi .slt v1 c2_i32_1
  let c1_i32 : BitVec 32 := 1#32
  let c0_i32 : BitVec 32 := 0#32
  let v6 : BitVec 32 := Scalar.select v5 c1_i32 c0_i32
  let v7 : BitVec 32 := Scalar.addi c39_i32_2 v6
  let v8 : BitVec 32 := Scalar.addi v4 v7
  let v52 : BitVec 1 := Scalar.cmpi .slt v51 v8
  let v53 : BitVec 32 := Scalar.extui v52
  let c0_i32_27 : BitVec 32 := 0#32
  let v54 : BitVec 1 := Scalar.cmpi .ne v53 c0_i32_27
  v54

@[reducible] def k2_t2_loop : Scf.Loop 32 :=
  let c0_i32_38 : BitVec 32 := 0#32
  let c5_i32 : BitVec 32 := 5#32
  let v68 : BitVec 32 := Scalar.addi c0_i32_38 c5_i32
  let c1_i32_39 : BitVec 32 := 1#32
  ⟨c0_i32_38, v68, c1_i32_39⟩
def k2_off4 (i : grid2.Coords) (k2_t1 : Fin (k2_t1_loop i).trips) (k2_t2 : Fin k2_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c80_i32_7 : BitVec 32 := 80#32
  let v18 : BitVec 32 := Scalar.muli v4 c80_i32_7
  let c80_i32 : BitVec 32 := 80#32
  let v15 : BitVec 32 := Scalar.muli v4 c80_i32
  let c96800_i32 : BitVec 32 := 96800#32
  let v16 : BitVec 32 := Scalar.minsi v15 c96800_i32
  let v17 : BitVec 32 := v16
  let v19 : BitVec 32 := Scalar.subi v18 v17
  let c0_i32_17 : BitVec 32 := 0#32
  let c1_i32_19 : BitVec 32 := 1#32
  let arg16 : BitVec 32 := Scf.iv c0_i32_17 c1_i32_19 k2_t1
  let c2_i32_25 : BitVec 32 := 2#32
  let v49 : BitVec 32 := Scalar.muli arg16 c2_i32_25
  let v50 : BitVec 32 := Scalar.addi v4 v49
  let c0_i32_26 : BitVec 32 := 0#32
  let v51 : BitVec 32 := Scalar.addi v50 c0_i32_26
  let v59 : BitVec 32 := Scalar.subi v51 v4
  let c80_i32_30 : BitVec 32 := 80#32
  let v60 : BitVec 32 := Scalar.muli v59 c80_i32_30
  let v61 : BitVec 32 := Scalar.addi v19 v60
  let c0_i32_38 : BitVec 32 := 0#32
  let c1_i32_39 : BitVec 32 := 1#32
  let arg17 : BitVec 32 := Scf.iv c0_i32_38 c1_i32_39 k2_t2
  let c16_i32 : BitVec 32 := 16#32
  let v76 : BitVec 32 := Scalar.muli arg17 c16_i32
  let v77 : BitVec 32 := Scalar.addi v61 v76
  let v78 : Index := Scalar.indexCast v77
  ![v78.toNat]
def k2_off5 (v82 : BitVec 32) : Fin 2 → Nat :=
  let v91 : Index := Scalar.indexCast v82
  let c0 : Index := 0#32
  ![v91.toNat, 0]
def k2_cond5 (v82 : BitVec 32) (v84 : BitVec 32) : BitVec 1 :=
  let v85 : BitVec 1 := Scalar.cmpi .eq v82 v84
  let v86 : BitVec 32 := Scalar.extui v85
  let c0_i32_46 : BitVec 32 := 0#32
  let v87 : BitVec 1 := Scalar.cmpi .ne v86 c0_i32_46
  v87

def k2_off6 (k2_t2 : Fin k2_t2_loop.trips) (c0_i32_48 : BitVec 32) : Fin 2 → Nat :=
  let c0_i32_38 : BitVec 32 := 0#32
  let c1_i32_39 : BitVec 32 := 1#32
  let arg17 : BitVec 32 := Scf.iv c0_i32_38 c1_i32_39 k2_t2
  let c4_i32 : BitVec 32 := 4#32
  let v94 : BitVec 32 := Scalar.shli arg17 c4_i32
  let v95 : BitVec 32 := Scalar.addi v94 c0_i32_48
  let v96 : Index := Scalar.indexCast v95
  let c0_49 : Index := 0#32
  ![v96.toNat, 0]
def k2_off7 (v82 : BitVec 32) : Fin 2 → Nat :=
  let v286 : Index := Scalar.indexCast v82
  let c16 : Index := 16#32
  ![v286.toNat, 16]
def k2_off8 (k2_t2 : Fin k2_t2_loop.trips) (c0_i32_133 : BitVec 32) : Fin 2 → Nat :=
  let c0_i32_38 : BitVec 32 := 0#32
  let c1_i32_39 : BitVec 32 := 1#32
  let arg17 : BitVec 32 := Scf.iv c0_i32_38 c1_i32_39 k2_t2
  let c4_i32_132 : BitVec 32 := 4#32
  let v289 : BitVec 32 := Scalar.shli arg17 c4_i32_132
  let v290 : BitVec 32 := Scalar.addi v289 c0_i32_133
  let v291 : Index := Scalar.indexCast v290
  let c16_134 : Index := 16#32
  ![v291.toNat, 16]
def k2_off9 (v82 : BitVec 32) : Fin 2 → Nat :=
  let v481 : Index := Scalar.indexCast v82
  let c32 : Index := 32#32
  ![v481.toNat, 32]
def k2_off10 (k2_t2 : Fin k2_t2_loop.trips) (c0_i32_229 : BitVec 32) : Fin 2 → Nat :=
  let c0_i32_38 : BitVec 32 := 0#32
  let c1_i32_39 : BitVec 32 := 1#32
  let arg17 : BitVec 32 := Scf.iv c0_i32_38 c1_i32_39 k2_t2
  let c4_i32_228 : BitVec 32 := 4#32
  let v484 : BitVec 32 := Scalar.shli arg17 c4_i32_228
  let v485 : BitVec 32 := Scalar.addi v484 c0_i32_229
  let v486 : Index := Scalar.indexCast v485
  let c32_230 : Index := 32#32
  ![v486.toNat, 32]
def k2_off11 (v82 : BitVec 32) : Fin 2 → Nat :=
  let v676 : Index := Scalar.indexCast v82
  let c48 : Index := 48#32
  ![v676.toNat, 48]
def k2_off12 (k2_t2 : Fin k2_t2_loop.trips) (c0_i32_325 : BitVec 32) : Fin 2 → Nat :=
  let c0_i32_38 : BitVec 32 := 0#32
  let c1_i32_39 : BitVec 32 := 1#32
  let arg17 : BitVec 32 := Scf.iv c0_i32_38 c1_i32_39 k2_t2
  let c4_i32_324 : BitVec 32 := 4#32
  let v679 : BitVec 32 := Scalar.shli arg17 c4_i32_324
  let v680 : BitVec 32 := Scalar.addi v679 c0_i32_325
  let v681 : Index := Scalar.indexCast v680
  let c48_326 : Index := 48#32
  ![v681.toNat, 48]
def k2_off13 (v82 : BitVec 32) : Fin 2 → Nat :=
  let v871 : Index := Scalar.indexCast v82
  let c64 : Index := 64#32
  ![v871.toNat, 64]
def k2_off14 (k2_t2 : Fin k2_t2_loop.trips) (c0_i32_421 : BitVec 32) : Fin 2 → Nat :=
  let c0_i32_38 : BitVec 32 := 0#32
  let c1_i32_39 : BitVec 32 := 1#32
  let arg17 : BitVec 32 := Scf.iv c0_i32_38 c1_i32_39 k2_t2
  let c4_i32_420 : BitVec 32 := 4#32
  let v874 : BitVec 32 := Scalar.shli arg17 c4_i32_420
  let v875 : BitVec 32 := Scalar.addi v874 c0_i32_421
  let v876 : Index := Scalar.indexCast v875
  let c64_422 : Index := 64#32
  ![v876.toNat, 64]
def k2_off15 (v82 : BitVec 32) : Fin 2 → Nat :=
  let v1066 : Index := Scalar.indexCast v82
  let c80 : Index := 80#32
  ![v1066.toNat, 80]
def k2_off16 (k2_t2 : Fin k2_t2_loop.trips) (c0_i32_517 : BitVec 32) : Fin 2 → Nat :=
  let c0_i32_38 : BitVec 32 := 0#32
  let c1_i32_39 : BitVec 32 := 1#32
  let arg17 : BitVec 32 := Scf.iv c0_i32_38 c1_i32_39 k2_t2
  let c4_i32_516 : BitVec 32 := 4#32
  let v1069 : BitVec 32 := Scalar.shli arg17 c4_i32_516
  let v1070 : BitVec 32 := Scalar.addi v1069 c0_i32_517
  let v1071 : Index := Scalar.indexCast v1070
  let c80_518 : Index := 80#32
  ![v1071.toNat, 80]
def k2_off17 (v82 : BitVec 32) : Fin 2 → Nat :=
  let v1261 : Index := Scalar.indexCast v82
  let c96 : Index := 96#32
  ![v1261.toNat, 96]
def k2_off18 (k2_t2 : Fin k2_t2_loop.trips) (c0_i32_613 : BitVec 32) : Fin 2 → Nat :=
  let c0_i32_38 : BitVec 32 := 0#32
  let c1_i32_39 : BitVec 32 := 1#32
  let arg17 : BitVec 32 := Scf.iv c0_i32_38 c1_i32_39 k2_t2
  let c4_i32_612 : BitVec 32 := 4#32
  let v1264 : BitVec 32 := Scalar.shli arg17 c4_i32_612
  let v1265 : BitVec 32 := Scalar.addi v1264 c0_i32_613
  let v1266 : Index := Scalar.indexCast v1265
  let c96_614 : Index := 96#32
  ![v1266.toNat, 96]
def k2_off19 (v82 : BitVec 32) : Fin 2 → Nat :=
  let v1456 : Index := Scalar.indexCast v82
  let c112 : Index := 112#32
  ![v1456.toNat, 112]

def k2_chk1 (i : grid2.Coords) (k2_t1 : Fin (k2_t1_loop i).trips) (v82 : BitVec 32) (v84 : BitVec 32) : Prop :=
  (∀ (k2_h3 : k2_cond3 i k2_t1 = 1#1), ∀ (k2_h5 : k2_cond5 v82 v84 = 1#1), ∀ a, (k2_off5 v82) a + S1x16.size a ≤ S512x128.size a) ∧
  (∀ (k2_h3 : k2_cond3 i k2_t1 = 1#1), ∀ (k2_h5 : k2_cond5 v82 v84 = 1#1), ∀ a, (k2_off7 v82) a + S1x16.size a ≤ S512x128.size a) ∧
  (∀ (k2_h3 : k2_cond3 i k2_t1 = 1#1), ∀ (k2_h5 : k2_cond5 v82 v84 = 1#1), ∀ a, (k2_off9 v82) a + S1x16.size a ≤ S512x128.size a) ∧
  (∀ (k2_h3 : k2_cond3 i k2_t1 = 1#1), ∀ (k2_h5 : k2_cond5 v82 v84 = 1#1), ∀ a, (k2_off11 v82) a + S1x16.size a ≤ S512x128.size a) ∧
  (∀ (k2_h3 : k2_cond3 i k2_t1 = 1#1), ∀ (k2_h5 : k2_cond5 v82 v84 = 1#1), ∀ a, (k2_off13 v82) a + S1x16.size a ≤ S512x128.size a) ∧
  (∀ (k2_h3 : k2_cond3 i k2_t1 = 1#1), ∀ (k2_h5 : k2_cond5 v82 v84 = 1#1), ∀ a, (k2_off15 v82) a + S1x16.size a ≤ S512x128.size a) ∧
  (∀ (k2_h3 : k2_cond3 i k2_t1 = 1#1), ∀ (k2_h5 : k2_cond5 v82 v84 = 1#1), ∀ a, (k2_off17 v82) a + S1x16.size a ≤ S512x128.size a) ∧
  (∀ (k2_h3 : k2_cond3 i k2_t1 = 1#1), ∀ (k2_h5 : k2_cond5 v82 v84 = 1#1), ∀ a, (k2_off19 v82) a + S1x16.size a ≤ S512x128.size a)
theorem k2_off5_inb : ∀ (i : grid2.Coords) (k2_t1 : Fin (k2_t1_loop i).trips) (v82 : BitVec 32) (v84 : BitVec 32) (k2_hw1 : k2_chk1 i k2_t1 v82 v84), ∀ (k2_h3 : k2_cond3 i k2_t1 = 1#1), ∀ (k2_h5 : k2_cond5 v82 v84 = 1#1), ∀ a, (k2_off5 v82) a + S1x16.size a ≤ S512x128.size a := fun i k2_t1 v82 v84 k2_hw1 k2_h3 k2_h5 => k2_hw1.1 k2_h3 k2_h5
theorem k2_off7_inb : ∀ (i : grid2.Coords) (k2_t1 : Fin (k2_t1_loop i).trips) (v82 : BitVec 32) (v84 : BitVec 32) (k2_hw1 : k2_chk1 i k2_t1 v82 v84), ∀ (k2_h3 : k2_cond3 i k2_t1 = 1#1), ∀ (k2_h5 : k2_cond5 v82 v84 = 1#1), ∀ a, (k2_off7 v82) a + S1x16.size a ≤ S512x128.size a := fun i k2_t1 v82 v84 k2_hw1 k2_h3 k2_h5 => k2_hw1.2.1 k2_h3 k2_h5
theorem k2_off9_inb : ∀ (i : grid2.Coords) (k2_t1 : Fin (k2_t1_loop i).trips) (v82 : BitVec 32) (v84 : BitVec 32) (k2_hw1 : k2_chk1 i k2_t1 v82 v84), ∀ (k2_h3 : k2_cond3 i k2_t1 = 1#1), ∀ (k2_h5 : k2_cond5 v82 v84 = 1#1), ∀ a, (k2_off9 v82) a + S1x16.size a ≤ S512x128.size a := fun i k2_t1 v82 v84 k2_hw1 k2_h3 k2_h5 => k2_hw1.2.2.1 k2_h3 k2_h5
theorem k2_off11_inb : ∀ (i : grid2.Coords) (k2_t1 : Fin (k2_t1_loop i).trips) (v82 : BitVec 32) (v84 : BitVec 32) (k2_hw1 : k2_chk1 i k2_t1 v82 v84), ∀ (k2_h3 : k2_cond3 i k2_t1 = 1#1), ∀ (k2_h5 : k2_cond5 v82 v84 = 1#1), ∀ a, (k2_off11 v82) a + S1x16.size a ≤ S512x128.size a := fun i k2_t1 v82 v84 k2_hw1 k2_h3 k2_h5 => k2_hw1.2.2.2.1 k2_h3 k2_h5
theorem k2_off13_inb : ∀ (i : grid2.Coords) (k2_t1 : Fin (k2_t1_loop i).trips) (v82 : BitVec 32) (v84 : BitVec 32) (k2_hw1 : k2_chk1 i k2_t1 v82 v84), ∀ (k2_h3 : k2_cond3 i k2_t1 = 1#1), ∀ (k2_h5 : k2_cond5 v82 v84 = 1#1), ∀ a, (k2_off13 v82) a + S1x16.size a ≤ S512x128.size a := fun i k2_t1 v82 v84 k2_hw1 k2_h3 k2_h5 => k2_hw1.2.2.2.2.1 k2_h3 k2_h5
theorem k2_off15_inb : ∀ (i : grid2.Coords) (k2_t1 : Fin (k2_t1_loop i).trips) (v82 : BitVec 32) (v84 : BitVec 32) (k2_hw1 : k2_chk1 i k2_t1 v82 v84), ∀ (k2_h3 : k2_cond3 i k2_t1 = 1#1), ∀ (k2_h5 : k2_cond5 v82 v84 = 1#1), ∀ a, (k2_off15 v82) a + S1x16.size a ≤ S512x128.size a := fun i k2_t1 v82 v84 k2_hw1 k2_h3 k2_h5 => k2_hw1.2.2.2.2.2.1 k2_h3 k2_h5
theorem k2_off17_inb : ∀ (i : grid2.Coords) (k2_t1 : Fin (k2_t1_loop i).trips) (v82 : BitVec 32) (v84 : BitVec 32) (k2_hw1 : k2_chk1 i k2_t1 v82 v84), ∀ (k2_h3 : k2_cond3 i k2_t1 = 1#1), ∀ (k2_h5 : k2_cond5 v82 v84 = 1#1), ∀ a, (k2_off17 v82) a + S1x16.size a ≤ S512x128.size a := fun i k2_t1 v82 v84 k2_hw1 k2_h3 k2_h5 => k2_hw1.2.2.2.2.2.2.1 k2_h3 k2_h5
theorem k2_off19_inb : ∀ (i : grid2.Coords) (k2_t1 : Fin (k2_t1_loop i).trips) (v82 : BitVec 32) (v84 : BitVec 32) (k2_hw1 : k2_chk1 i k2_t1 v82 v84), ∀ (k2_h3 : k2_cond3 i k2_t1 = 1#1), ∀ (k2_h5 : k2_cond5 v82 v84 = 1#1), ∀ a, (k2_off19 v82) a + S1x16.size a ≤ S512x128.size a := fun i k2_t1 v82 v84 k2_hw1 k2_h3 k2_h5 => k2_hw1.2.2.2.2.2.2.2 k2_h3 k2_h5

def k2_off20 (k2_t2 : Fin k2_t2_loop.trips) (c0_i32_709 : BitVec 32) : Fin 2 → Nat :=
  let c0_i32_38 : BitVec 32 := 0#32
  let c1_i32_39 : BitVec 32 := 1#32
  let arg17 : BitVec 32 := Scf.iv c0_i32_38 c1_i32_39 k2_t2
  let c4_i32_708 : BitVec 32 := 4#32
  let v1459 : BitVec 32 := Scalar.shli arg17 c4_i32_708
  let v1460 : BitVec 32 := Scalar.addi v1459 c0_i32_709
  let v1461 : Index := Scalar.indexCast v1460
  let c112_710 : Index := 112#32
  ![v1461.toNat, 112]
@[reducible] def k2_t3_loop (k2_t2 : Fin k2_t2_loop.trips) : Scf.Loop 32 :=
  let c0_i32_38 : BitVec 32 := 0#32
  let c1_i32_39 : BitVec 32 := 1#32
  let arg17 : BitVec 32 := Scf.iv c0_i32_38 c1_i32_39 k2_t2
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_52 : BitVec 32 := 1#32
  ⟨v91, v98, c1_i32_52⟩
def k2_off21 (i : grid2.Coords) (k2_t1 : Fin (k2_t1_loop i).trips) (k2_t2 : Fin k2_t2_loop.trips) (k2_t3 : Fin (k2_t3_loop k2_t2).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c80_i32_7 : BitVec 32 := 80#32
  let v18 : BitVec 32 := Scalar.muli v4 c80_i32_7
  let c80_i32 : BitVec 32 := 80#32
  let v15 : BitVec 32 := Scalar.muli v4 c80_i32
  let c96800_i32 : BitVec 32 := 96800#32
  let v16 : BitVec 32 := Scalar.minsi v15 c96800_i32
  let v17 : BitVec 32 := v16
  let v19 : BitVec 32 := Scalar.subi v18 v17
  let c0_i32_17 : BitVec 32 := 0#32
  let c1_i32_19 : BitVec 32 := 1#32
  let arg16 : BitVec 32 := Scf.iv c0_i32_17 c1_i32_19 k2_t1
  let c2_i32_25 : BitVec 32 := 2#32
  let v49 : BitVec 32 := Scalar.muli arg16 c2_i32_25
  let v50 : BitVec 32 := Scalar.addi v4 v49
  let c0_i32_26 : BitVec 32 := 0#32
  let v51 : BitVec 32 := Scalar.addi v50 c0_i32_26
  let v59 : BitVec 32 := Scalar.subi v51 v4
  let c80_i32_30 : BitVec 32 := 80#32
  let v60 : BitVec 32 := Scalar.muli v59 c80_i32_30
  let v61 : BitVec 32 := Scalar.addi v19 v60
  let c0_i32_38 : BitVec 32 := 0#32
  let c1_i32_39 : BitVec 32 := 1#32
  let arg17 : BitVec 32 := Scf.iv c0_i32_38 c1_i32_39 k2_t2
  let c4_i32 : BitVec 32 := 4#32
  let v91 : BitVec 32 := Scalar.shli arg17 c4_i32
  let c1_i32_52 : BitVec 32 := 1#32
  let arg18 : BitVec 32 := Scf.iv v91 c1_i32_52 k2_t3
  let v99 : BitVec 32 := Scalar.addi v61 arg18
  let v100 : Index := Scalar.indexCast v99
  ![v100.toNat]
def k2_off22 (k2_t2 : Fin k2_t2_loop.trips) (k2_t3 : Fin (k2_t3_loop k2_t2).trips) : Fin 2 → Nat :=
  let c0_i32_38 : BitVec 32 := 0#32
  let c1_i32_39 : BitVec 32 := 1#32
  let arg17 : BitVec 32 := Scf.iv c0_i32_38 c1_i32_39 k2_t2
  let c4_i32 : BitVec 32 := 4#32
  let v91 : BitVec 32 := Scalar.shli arg17 c4_i32
  let c1_i32_52 : BitVec 32 := 1#32
  let arg18 : BitVec 32 := Scf.iv v91 c1_i32_52 k2_t3
  let v105 : Index := Scalar.indexCast arg18
  let c0 : Index := 0#32
  ![v105.toNat, 0]
def k2_off23 (v104 : BitVec 32) : Fin 2 → Nat :=
  let v108 : Index := Scalar.indexCast v104
  let c0_54 : Index := 0#32
  ![v108.toNat, 0]
def k2_cond6 (v82 : BitVec 32) (v84 : BitVec 32) : BitVec 1 :=
  let v85 : BitVec 1 := Scalar.cmpi .eq v82 v84
  let v_true : BitVec 1 := 1#1
  let v88 : BitVec 1 := Scalar.xori v85 v_true
  let v89 : BitVec 32 := Scalar.extui v88
  let c0_i32_47 : BitVec 32 := 0#32
  let v90 : BitVec 1 := Scalar.cmpi .ne v89 c0_i32_47
  v90

def k2_off24 (k2_t2 : Fin k2_t2_loop.trips) (k2_t3 : Fin (k2_t3_loop k2_t2).trips) : Fin 2 → Nat :=
  let c0_i32_38 : BitVec 32 := 0#32
  let c1_i32_39 : BitVec 32 := 1#32
  let arg17 : BitVec 32 := Scf.iv c0_i32_38 c1_i32_39 k2_t2
  let c4_i32 : BitVec 32 := 4#32
  let v91 : BitVec 32 := Scalar.shli arg17 c4_i32
  let c1_i32_52 : BitVec 32 := 1#32
  let arg18 : BitVec 32 := Scf.iv v91 c1_i32_52 k2_t3
  let v112 : Index := Scalar.indexCast arg18
  let c0_55 : Index := 0#32
  ![v112.toNat, 0]
def k2_off25 (k2_t2 : Fin k2_t2_loop.trips) (k2_t3 : Fin (k2_t3_loop k2_t2).trips) : Fin 2 → Nat :=
  let c0_i32_38 : BitVec 32 := 0#32
  let c1_i32_39 : BitVec 32 := 1#32
  let arg17 : BitVec 32 := Scf.iv c0_i32_38 c1_i32_39 k2_t2
  let c4_i32 : BitVec 32 := 4#32
  let v91 : BitVec 32 := Scalar.shli arg17 c4_i32
  let c1_i32_52 : BitVec 32 := 1#32
  let arg18 : BitVec 32 := Scf.iv v91 c1_i32_52 k2_t3
  let v116 : Index := Scalar.indexCast arg18
  let c16 : Index := 16#32
  ![v116.toNat, 16]
def k2_off26 (v104 : BitVec 32) : Fin 2 → Nat :=
  let v119 : Index := Scalar.indexCast v104
  let c16_56 : Index := 16#32
  ![v119.toNat, 16]
def k2_off27 (k2_t2 : Fin k2_t2_loop.trips) (k2_t3 : Fin (k2_t3_loop k2_t2).trips) : Fin 2 → Nat :=
  let c0_i32_38 : BitVec 32 := 0#32
  let c1_i32_39 : BitVec 32 := 1#32
  let arg17 : BitVec 32 := Scf.iv c0_i32_38 c1_i32_39 k2_t2
  let c4_i32 : BitVec 32 := 4#32
  let v91 : BitVec 32 := Scalar.shli arg17 c4_i32
  let c1_i32_52 : BitVec 32 := 1#32
  let arg18 : BitVec 32 := Scf.iv v91 c1_i32_52 k2_t3
  let v127 : Index := Scalar.indexCast arg18
  let c32 : Index := 32#32
  ![v127.toNat, 32]
def k2_off28 (v104 : BitVec 32) : Fin 2 → Nat :=
  let v130 : Index := Scalar.indexCast v104
  let c32_58 : Index := 32#32
  ![v130.toNat, 32]
def k2_off29 (k2_t2 : Fin k2_t2_loop.trips) (k2_t3 : Fin (k2_t3_loop k2_t2).trips) : Fin 2 → Nat :=
  let c0_i32_38 : BitVec 32 := 0#32
  let c1_i32_39 : BitVec 32 := 1#32
  let arg17 : BitVec 32 := Scf.iv c0_i32_38 c1_i32_39 k2_t2
  let c4_i32 : BitVec 32 := 4#32
  let v91 : BitVec 32 := Scalar.shli arg17 c4_i32
  let c1_i32_52 : BitVec 32 := 1#32
  let arg18 : BitVec 32 := Scf.iv v91 c1_i32_52 k2_t3
  let v138 : Index := Scalar.indexCast arg18
  let c48 : Index := 48#32
  ![v138.toNat, 48]
def k2_off30 (v104 : BitVec 32) : Fin 2 → Nat :=
  let v141 : Index := Scalar.indexCast v104
  let c48_60 : Index := 48#32
  ![v141.toNat, 48]
def k2_off31 (k2_t2 : Fin k2_t2_loop.trips) (k2_t3 : Fin (k2_t3_loop k2_t2).trips) : Fin 2 → Nat :=
  let c0_i32_38 : BitVec 32 := 0#32
  let c1_i32_39 : BitVec 32 := 1#32
  let arg17 : BitVec 32 := Scf.iv c0_i32_38 c1_i32_39 k2_t2
  let c4_i32 : BitVec 32 := 4#32
  let v91 : BitVec 32 := Scalar.shli arg17 c4_i32
  let c1_i32_52 : BitVec 32 := 1#32
  let arg18 : BitVec 32 := Scf.iv v91 c1_i32_52 k2_t3
  let v149 : Index := Scalar.indexCast arg18
  let c64 : Index := 64#32
  ![v149.toNat, 64]
def k2_off32 (v104 : BitVec 32) : Fin 2 → Nat :=
  let v152 : Index := Scalar.indexCast v104
  let c64_62 : Index := 64#32
  ![v152.toNat, 64]
def k2_off33 (k2_t2 : Fin k2_t2_loop.trips) (k2_t3 : Fin (k2_t3_loop k2_t2).trips) : Fin 2 → Nat :=
  let c0_i32_38 : BitVec 32 := 0#32
  let c1_i32_39 : BitVec 32 := 1#32
  let arg17 : BitVec 32 := Scf.iv c0_i32_38 c1_i32_39 k2_t2
  let c4_i32 : BitVec 32 := 4#32
  let v91 : BitVec 32 := Scalar.shli arg17 c4_i32
  let c1_i32_52 : BitVec 32 := 1#32
  let arg18 : BitVec 32 := Scf.iv v91 c1_i32_52 k2_t3
  let v160 : Index := Scalar.indexCast arg18
  let c80 : Index := 80#32
  ![v160.toNat, 80]
def k2_off34 (v104 : BitVec 32) : Fin 2 → Nat :=
  let v163 : Index := Scalar.indexCast v104
  let c80_64 : Index := 80#32
  ![v163.toNat, 80]
def k2_off35 (k2_t2 : Fin k2_t2_loop.trips) (k2_t3 : Fin (k2_t3_loop k2_t2).trips) : Fin 2 → Nat :=
  let c0_i32_38 : BitVec 32 := 0#32
  let c1_i32_39 : BitVec 32 := 1#32
  let arg17 : BitVec 32 := Scf.iv c0_i32_38 c1_i32_39 k2_t2
  let c4_i32 : BitVec 32 := 4#32
  let v91 : BitVec 32 := Scalar.shli arg17 c4_i32
  let c1_i32_52 : BitVec 32 := 1#32
  let arg18 : BitVec 32 := Scf.iv v91 c1_i32_52 k2_t3
  let v171 : Index := Scalar.indexCast arg18
  let c96 : Index := 96#32
  ![v171.toNat, 96]
def k2_off36 (v104 : BitVec 32) : Fin 2 → Nat :=
  let v174 : Index := Scalar.indexCast v104
  let c96_66 : Index := 96#32
  ![v174.toNat, 96]
def k2_off37 (k2_t2 : Fin k2_t2_loop.trips) (k2_t3 : Fin (k2_t3_loop k2_t2).trips) : Fin 2 → Nat :=
  let c0_i32_38 : BitVec 32 := 0#32
  let c1_i32_39 : BitVec 32 := 1#32
  let arg17 : BitVec 32 := Scf.iv c0_i32_38 c1_i32_39 k2_t2
  let c4_i32 : BitVec 32 := 4#32
  let v91 : BitVec 32 := Scalar.shli arg17 c4_i32
  let c1_i32_52 : BitVec 32 := 1#32
  let arg18 : BitVec 32 := Scf.iv v91 c1_i32_52 k2_t3
  let v182 : Index := Scalar.indexCast arg18
  let c112 : Index := 112#32
  ![v182.toNat, 112]
def k2_off38 (v104 : BitVec 32) : Fin 2 → Nat :=
  let v185 : Index := Scalar.indexCast v104
  let c112_68 : Index := 112#32
  ![v185.toNat, 112]

def k2_chk2 (i : grid2.Coords) (k2_t1 : Fin (k2_t1_loop i).trips) (k2_t2 : Fin k2_t2_loop.trips) (v82 : BitVec 32) (v84 : BitVec 32) (k2_t3 : Fin (k2_t3_loop k2_t2).trips) (v104 : BitVec 32) : Prop :=
  (∀ (k2_h3 : k2_cond3 i k2_t1 = 1#1), ∀ (k2_h6 : k2_cond6 v82 v84 = 1#1), ∀ a, (k2_off23 v104) a + S1x16.size a ≤ S512x128.size a) ∧
  (∀ (k2_h3 : k2_cond3 i k2_t1 = 1#1), ∀ (k2_h6 : k2_cond6 v82 v84 = 1#1), ∀ a, (k2_off26 v104) a + S1x16.size a ≤ S512x128.size a) ∧
  (∀ (k2_h3 : k2_cond3 i k2_t1 = 1#1), ∀ (k2_h6 : k2_cond6 v82 v84 = 1#1), ∀ a, (k2_off28 v104) a + S1x16.size a ≤ S512x128.size a) ∧
  (∀ (k2_h3 : k2_cond3 i k2_t1 = 1#1), ∀ (k2_h6 : k2_cond6 v82 v84 = 1#1), ∀ a, (k2_off30 v104) a + S1x16.size a ≤ S512x128.size a) ∧
  (∀ (k2_h3 : k2_cond3 i k2_t1 = 1#1), ∀ (k2_h6 : k2_cond6 v82 v84 = 1#1), ∀ a, (k2_off32 v104) a + S1x16.size a ≤ S512x128.size a) ∧
  (∀ (k2_h3 : k2_cond3 i k2_t1 = 1#1), ∀ (k2_h6 : k2_cond6 v82 v84 = 1#1), ∀ a, (k2_off34 v104) a + S1x16.size a ≤ S512x128.size a) ∧
  (∀ (k2_h3 : k2_cond3 i k2_t1 = 1#1), ∀ (k2_h6 : k2_cond6 v82 v84 = 1#1), ∀ a, (k2_off36 v104) a + S1x16.size a ≤ S512x128.size a) ∧
  (∀ (k2_h3 : k2_cond3 i k2_t1 = 1#1), ∀ (k2_h6 : k2_cond6 v82 v84 = 1#1), ∀ a, (k2_off38 v104) a + S1x16.size a ≤ S512x128.size a)
theorem k2_off23_inb : ∀ (i : grid2.Coords) (k2_t1 : Fin (k2_t1_loop i).trips) (k2_t2 : Fin k2_t2_loop.trips) (v82 : BitVec 32) (v84 : BitVec 32) (k2_t3 : Fin (k2_t3_loop k2_t2).trips) (v104 : BitVec 32) (k2_hw2 : k2_chk2 i k2_t1 k2_t2 v82 v84 k2_t3 v104), ∀ (k2_h3 : k2_cond3 i k2_t1 = 1#1), ∀ (k2_h6 : k2_cond6 v82 v84 = 1#1), ∀ a, (k2_off23 v104) a + S1x16.size a ≤ S512x128.size a := fun i k2_t1 k2_t2 v82 v84 k2_t3 v104 k2_hw2 k2_h3 k2_h6 => k2_hw2.1 k2_h3 k2_h6
theorem k2_off26_inb : ∀ (i : grid2.Coords) (k2_t1 : Fin (k2_t1_loop i).trips) (k2_t2 : Fin k2_t2_loop.trips) (v82 : BitVec 32) (v84 : BitVec 32) (k2_t3 : Fin (k2_t3_loop k2_t2).trips) (v104 : BitVec 32) (k2_hw2 : k2_chk2 i k2_t1 k2_t2 v82 v84 k2_t3 v104), ∀ (k2_h3 : k2_cond3 i k2_t1 = 1#1), ∀ (k2_h6 : k2_cond6 v82 v84 = 1#1), ∀ a, (k2_off26 v104) a + S1x16.size a ≤ S512x128.size a := fun i k2_t1 k2_t2 v82 v84 k2_t3 v104 k2_hw2 k2_h3 k2_h6 => k2_hw2.2.1 k2_h3 k2_h6
theorem k2_off28_inb : ∀ (i : grid2.Coords) (k2_t1 : Fin (k2_t1_loop i).trips) (k2_t2 : Fin k2_t2_loop.trips) (v82 : BitVec 32) (v84 : BitVec 32) (k2_t3 : Fin (k2_t3_loop k2_t2).trips) (v104 : BitVec 32) (k2_hw2 : k2_chk2 i k2_t1 k2_t2 v82 v84 k2_t3 v104), ∀ (k2_h3 : k2_cond3 i k2_t1 = 1#1), ∀ (k2_h6 : k2_cond6 v82 v84 = 1#1), ∀ a, (k2_off28 v104) a + S1x16.size a ≤ S512x128.size a := fun i k2_t1 k2_t2 v82 v84 k2_t3 v104 k2_hw2 k2_h3 k2_h6 => k2_hw2.2.2.1 k2_h3 k2_h6
theorem k2_off30_inb : ∀ (i : grid2.Coords) (k2_t1 : Fin (k2_t1_loop i).trips) (k2_t2 : Fin k2_t2_loop.trips) (v82 : BitVec 32) (v84 : BitVec 32) (k2_t3 : Fin (k2_t3_loop k2_t2).trips) (v104 : BitVec 32) (k2_hw2 : k2_chk2 i k2_t1 k2_t2 v82 v84 k2_t3 v104), ∀ (k2_h3 : k2_cond3 i k2_t1 = 1#1), ∀ (k2_h6 : k2_cond6 v82 v84 = 1#1), ∀ a, (k2_off30 v104) a + S1x16.size a ≤ S512x128.size a := fun i k2_t1 k2_t2 v82 v84 k2_t3 v104 k2_hw2 k2_h3 k2_h6 => k2_hw2.2.2.2.1 k2_h3 k2_h6
theorem k2_off32_inb : ∀ (i : grid2.Coords) (k2_t1 : Fin (k2_t1_loop i).trips) (k2_t2 : Fin k2_t2_loop.trips) (v82 : BitVec 32) (v84 : BitVec 32) (k2_t3 : Fin (k2_t3_loop k2_t2).trips) (v104 : BitVec 32) (k2_hw2 : k2_chk2 i k2_t1 k2_t2 v82 v84 k2_t3 v104), ∀ (k2_h3 : k2_cond3 i k2_t1 = 1#1), ∀ (k2_h6 : k2_cond6 v82 v84 = 1#1), ∀ a, (k2_off32 v104) a + S1x16.size a ≤ S512x128.size a := fun i k2_t1 k2_t2 v82 v84 k2_t3 v104 k2_hw2 k2_h3 k2_h6 => k2_hw2.2.2.2.2.1 k2_h3 k2_h6
theorem k2_off34_inb : ∀ (i : grid2.Coords) (k2_t1 : Fin (k2_t1_loop i).trips) (k2_t2 : Fin k2_t2_loop.trips) (v82 : BitVec 32) (v84 : BitVec 32) (k2_t3 : Fin (k2_t3_loop k2_t2).trips) (v104 : BitVec 32) (k2_hw2 : k2_chk2 i k2_t1 k2_t2 v82 v84 k2_t3 v104), ∀ (k2_h3 : k2_cond3 i k2_t1 = 1#1), ∀ (k2_h6 : k2_cond6 v82 v84 = 1#1), ∀ a, (k2_off34 v104) a + S1x16.size a ≤ S512x128.size a := fun i k2_t1 k2_t2 v82 v84 k2_t3 v104 k2_hw2 k2_h3 k2_h6 => k2_hw2.2.2.2.2.2.1 k2_h3 k2_h6
theorem k2_off36_inb : ∀ (i : grid2.Coords) (k2_t1 : Fin (k2_t1_loop i).trips) (k2_t2 : Fin k2_t2_loop.trips) (v82 : BitVec 32) (v84 : BitVec 32) (k2_t3 : Fin (k2_t3_loop k2_t2).trips) (v104 : BitVec 32) (k2_hw2 : k2_chk2 i k2_t1 k2_t2 v82 v84 k2_t3 v104), ∀ (k2_h3 : k2_cond3 i k2_t1 = 1#1), ∀ (k2_h6 : k2_cond6 v82 v84 = 1#1), ∀ a, (k2_off36 v104) a + S1x16.size a ≤ S512x128.size a := fun i k2_t1 k2_t2 v82 v84 k2_t3 v104 k2_hw2 k2_h3 k2_h6 => k2_hw2.2.2.2.2.2.2.1 k2_h3 k2_h6
theorem k2_off38_inb : ∀ (i : grid2.Coords) (k2_t1 : Fin (k2_t1_loop i).trips) (k2_t2 : Fin k2_t2_loop.trips) (v82 : BitVec 32) (v84 : BitVec 32) (k2_t3 : Fin (k2_t3_loop k2_t2).trips) (v104 : BitVec 32) (k2_hw2 : k2_chk2 i k2_t1 k2_t2 v82 v84 k2_t3 v104), ∀ (k2_h3 : k2_cond3 i k2_t1 = 1#1), ∀ (k2_h6 : k2_cond6 v82 v84 = 1#1), ∀ a, (k2_off38 v104) a + S1x16.size a ≤ S512x128.size a := fun i k2_t1 k2_t2 v82 v84 k2_t3 v104 k2_hw2 k2_h3 k2_h6 => k2_hw2.2.2.2.2.2.2.2 k2_h3 k2_h6

@[reducible] def k2_t4_loop (k2_t2 : Fin k2_t2_loop.trips) : Scf.Loop 32 :=
  let c0_i32_38 : BitVec 32 := 0#32
  let c1_i32_39 : BitVec 32 := 1#32
  let arg17 : BitVec 32 := Scf.iv c0_i32_38 c1_i32_39 k2_t2
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let v95 : BitVec 32 := Scalar.addi v91 v94
  let c1_i32_53 : BitVec 32 := 1#32
  ⟨v98, v95, c1_i32_53⟩
def k2_off39 (i : grid2.Coords) (k2_t1 : Fin (k2_t1_loop i).trips) (k2_t2 : Fin k2_t2_loop.trips) (k2_t4 : Fin (k2_t4_loop k2_t2).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c80_i32_7 : BitVec 32 := 80#32
  let v18 : BitVec 32 := Scalar.muli v4 c80_i32_7
  let c80_i32 : BitVec 32 := 80#32
  let v15 : BitVec 32 := Scalar.muli v4 c80_i32
  let c96800_i32 : BitVec 32 := 96800#32
  let v16 : BitVec 32 := Scalar.minsi v15 c96800_i32
  let v17 : BitVec 32 := v16
  let v19 : BitVec 32 := Scalar.subi v18 v17
  let c0_i32_17 : BitVec 32 := 0#32
  let c1_i32_19 : BitVec 32 := 1#32
  let arg16 : BitVec 32 := Scf.iv c0_i32_17 c1_i32_19 k2_t1
  let c2_i32_25 : BitVec 32 := 2#32
  let v49 : BitVec 32 := Scalar.muli arg16 c2_i32_25
  let v50 : BitVec 32 := Scalar.addi v4 v49
  let c0_i32_26 : BitVec 32 := 0#32
  let v51 : BitVec 32 := Scalar.addi v50 c0_i32_26
  let v59 : BitVec 32 := Scalar.subi v51 v4
  let c80_i32_30 : BitVec 32 := 80#32
  let v60 : BitVec 32 := Scalar.muli v59 c80_i32_30
  let v61 : BitVec 32 := Scalar.addi v19 v60
  let c0_i32_38 : BitVec 32 := 0#32
  let c1_i32_39 : BitVec 32 := 1#32
  let arg17 : BitVec 32 := Scf.iv c0_i32_38 c1_i32_39 k2_t2
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t4
  let v99 : BitVec 32 := Scalar.addi v61 arg18
  let v100 : Index := Scalar.indexCast v99
  ![v100.toNat]
def k2_off40 (k2_t2 : Fin k2_t2_loop.trips) (k2_t4 : Fin (k2_t4_loop k2_t2).trips) : Fin 2 → Nat :=
  let c0_i32_38 : BitVec 32 := 0#32
  let c1_i32_39 : BitVec 32 := 1#32
  let arg17 : BitVec 32 := Scf.iv c0_i32_38 c1_i32_39 k2_t2
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t4
  let v105 : Index := Scalar.indexCast arg18
  let c0 : Index := 0#32
  ![v105.toNat, 0]
def k2_off41 (v104 : BitVec 32) : Fin 2 → Nat :=
  let v108 : Index := Scalar.indexCast v104
  let c0_54 : Index := 0#32
  ![v108.toNat, 0]

def k2_off42 (k2_t2 : Fin k2_t2_loop.trips) (k2_t4 : Fin (k2_t4_loop k2_t2).trips) : Fin 2 → Nat :=
  let c0_i32_38 : BitVec 32 := 0#32
  let c1_i32_39 : BitVec 32 := 1#32
  let arg17 : BitVec 32 := Scf.iv c0_i32_38 c1_i32_39 k2_t2
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t4
  let v112 : Index := Scalar.indexCast arg18
  let c0_55 : Index := 0#32
  ![v112.toNat, 0]
def k2_off43 (k2_t2 : Fin k2_t2_loop.trips) (k2_t4 : Fin (k2_t4_loop k2_t2).trips) : Fin 2 → Nat :=
  let c0_i32_38 : BitVec 32 := 0#32
  let c1_i32_39 : BitVec 32 := 1#32
  let arg17 : BitVec 32 := Scf.iv c0_i32_38 c1_i32_39 k2_t2
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t4
  let v116 : Index := Scalar.indexCast arg18
  let c16 : Index := 16#32
  ![v116.toNat, 16]
def k2_off44 (v104 : BitVec 32) : Fin 2 → Nat :=
  let v119 : Index := Scalar.indexCast v104
  let c16_56 : Index := 16#32
  ![v119.toNat, 16]
def k2_off45 (k2_t2 : Fin k2_t2_loop.trips) (k2_t4 : Fin (k2_t4_loop k2_t2).trips) : Fin 2 → Nat :=
  let c0_i32_38 : BitVec 32 := 0#32
  let c1_i32_39 : BitVec 32 := 1#32
  let arg17 : BitVec 32 := Scf.iv c0_i32_38 c1_i32_39 k2_t2
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t4
  let v127 : Index := Scalar.indexCast arg18
  let c32 : Index := 32#32
  ![v127.toNat, 32]
def k2_off46 (v104 : BitVec 32) : Fin 2 → Nat :=
  let v130 : Index := Scalar.indexCast v104
  let c32_58 : Index := 32#32
  ![v130.toNat, 32]
def k2_off47 (k2_t2 : Fin k2_t2_loop.trips) (k2_t4 : Fin (k2_t4_loop k2_t2).trips) : Fin 2 → Nat :=
  let c0_i32_38 : BitVec 32 := 0#32
  let c1_i32_39 : BitVec 32 := 1#32
  let arg17 : BitVec 32 := Scf.iv c0_i32_38 c1_i32_39 k2_t2
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t4
  let v138 : Index := Scalar.indexCast arg18
  let c48 : Index := 48#32
  ![v138.toNat, 48]
def k2_off48 (v104 : BitVec 32) : Fin 2 → Nat :=
  let v141 : Index := Scalar.indexCast v104
  let c48_60 : Index := 48#32
  ![v141.toNat, 48]
def k2_off49 (k2_t2 : Fin k2_t2_loop.trips) (k2_t4 : Fin (k2_t4_loop k2_t2).trips) : Fin 2 → Nat :=
  let c0_i32_38 : BitVec 32 := 0#32
  let c1_i32_39 : BitVec 32 := 1#32
  let arg17 : BitVec 32 := Scf.iv c0_i32_38 c1_i32_39 k2_t2
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t4
  let v149 : Index := Scalar.indexCast arg18
  let c64 : Index := 64#32
  ![v149.toNat, 64]
def k2_off50 (v104 : BitVec 32) : Fin 2 → Nat :=
  let v152 : Index := Scalar.indexCast v104
  let c64_62 : Index := 64#32
  ![v152.toNat, 64]
def k2_off51 (k2_t2 : Fin k2_t2_loop.trips) (k2_t4 : Fin (k2_t4_loop k2_t2).trips) : Fin 2 → Nat :=
  let c0_i32_38 : BitVec 32 := 0#32
  let c1_i32_39 : BitVec 32 := 1#32
  let arg17 : BitVec 32 := Scf.iv c0_i32_38 c1_i32_39 k2_t2
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t4
  let v160 : Index := Scalar.indexCast arg18
  let c80 : Index := 80#32
  ![v160.toNat, 80]
def k2_off52 (v104 : BitVec 32) : Fin 2 → Nat :=
  let v163 : Index := Scalar.indexCast v104
  let c80_64 : Index := 80#32
  ![v163.toNat, 80]
def k2_off53 (k2_t2 : Fin k2_t2_loop.trips) (k2_t4 : Fin (k2_t4_loop k2_t2).trips) : Fin 2 → Nat :=
  let c0_i32_38 : BitVec 32 := 0#32
  let c1_i32_39 : BitVec 32 := 1#32
  let arg17 : BitVec 32 := Scf.iv c0_i32_38 c1_i32_39 k2_t2
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t4
  let v171 : Index := Scalar.indexCast arg18
  let c96 : Index := 96#32
  ![v171.toNat, 96]
def k2_off54 (v104 : BitVec 32) : Fin 2 → Nat :=
  let v174 : Index := Scalar.indexCast v104
  let c96_66 : Index := 96#32
  ![v174.toNat, 96]
def k2_off55 (k2_t2 : Fin k2_t2_loop.trips) (k2_t4 : Fin (k2_t4_loop k2_t2).trips) : Fin 2 → Nat :=
  let c0_i32_38 : BitVec 32 := 0#32
  let c1_i32_39 : BitVec 32 := 1#32
  let arg17 : BitVec 32 := Scf.iv c0_i32_38 c1_i32_39 k2_t2
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t4
  let v182 : Index := Scalar.indexCast arg18
  let c112 : Index := 112#32
  ![v182.toNat, 112]
def k2_off56 (v104 : BitVec 32) : Fin 2 → Nat :=
  let v185 : Index := Scalar.indexCast v104
  let c112_68 : Index := 112#32
  ![v185.toNat, 112]

def k2_chk3 (i : grid2.Coords) (k2_t1 : Fin (k2_t1_loop i).trips) (k2_t2 : Fin k2_t2_loop.trips) (v82 : BitVec 32) (v84 : BitVec 32) (k2_t4 : Fin (k2_t4_loop k2_t2).trips) (v104 : BitVec 32) : Prop :=
  (∀ (k2_h3 : k2_cond3 i k2_t1 = 1#1), ∀ (k2_h6 : k2_cond6 v82 v84 = 1#1), ∀ a, (k2_off41 v104) a + S1x16.size a ≤ S512x128.size a) ∧
  (∀ (k2_h3 : k2_cond3 i k2_t1 = 1#1), ∀ (k2_h6 : k2_cond6 v82 v84 = 1#1), ∀ a, (k2_off44 v104) a + S1x16.size a ≤ S512x128.size a) ∧
  (∀ (k2_h3 : k2_cond3 i k2_t1 = 1#1), ∀ (k2_h6 : k2_cond6 v82 v84 = 1#1), ∀ a, (k2_off46 v104) a + S1x16.size a ≤ S512x128.size a) ∧
  (∀ (k2_h3 : k2_cond3 i k2_t1 = 1#1), ∀ (k2_h6 : k2_cond6 v82 v84 = 1#1), ∀ a, (k2_off48 v104) a + S1x16.size a ≤ S512x128.size a) ∧
  (∀ (k2_h3 : k2_cond3 i k2_t1 = 1#1), ∀ (k2_h6 : k2_cond6 v82 v84 = 1#1), ∀ a, (k2_off50 v104) a + S1x16.size a ≤ S512x128.size a) ∧
  (∀ (k2_h3 : k2_cond3 i k2_t1 = 1#1), ∀ (k2_h6 : k2_cond6 v82 v84 = 1#1), ∀ a, (k2_off52 v104) a + S1x16.size a ≤ S512x128.size a) ∧
  (∀ (k2_h3 : k2_cond3 i k2_t1 = 1#1), ∀ (k2_h6 : k2_cond6 v82 v84 = 1#1), ∀ a, (k2_off54 v104) a + S1x16.size a ≤ S512x128.size a) ∧
  (∀ (k2_h3 : k2_cond3 i k2_t1 = 1#1), ∀ (k2_h6 : k2_cond6 v82 v84 = 1#1), ∀ a, (k2_off56 v104) a + S1x16.size a ≤ S512x128.size a)
theorem k2_off41_inb : ∀ (i : grid2.Coords) (k2_t1 : Fin (k2_t1_loop i).trips) (k2_t2 : Fin k2_t2_loop.trips) (v82 : BitVec 32) (v84 : BitVec 32) (k2_t4 : Fin (k2_t4_loop k2_t2).trips) (v104 : BitVec 32) (k2_hw3 : k2_chk3 i k2_t1 k2_t2 v82 v84 k2_t4 v104), ∀ (k2_h3 : k2_cond3 i k2_t1 = 1#1), ∀ (k2_h6 : k2_cond6 v82 v84 = 1#1), ∀ a, (k2_off41 v104) a + S1x16.size a ≤ S512x128.size a := fun i k2_t1 k2_t2 v82 v84 k2_t4 v104 k2_hw3 k2_h3 k2_h6 => k2_hw3.1 k2_h3 k2_h6
theorem k2_off44_inb : ∀ (i : grid2.Coords) (k2_t1 : Fin (k2_t1_loop i).trips) (k2_t2 : Fin k2_t2_loop.trips) (v82 : BitVec 32) (v84 : BitVec 32) (k2_t4 : Fin (k2_t4_loop k2_t2).trips) (v104 : BitVec 32) (k2_hw3 : k2_chk3 i k2_t1 k2_t2 v82 v84 k2_t4 v104), ∀ (k2_h3 : k2_cond3 i k2_t1 = 1#1), ∀ (k2_h6 : k2_cond6 v82 v84 = 1#1), ∀ a, (k2_off44 v104) a + S1x16.size a ≤ S512x128.size a := fun i k2_t1 k2_t2 v82 v84 k2_t4 v104 k2_hw3 k2_h3 k2_h6 => k2_hw3.2.1 k2_h3 k2_h6
theorem k2_off46_inb : ∀ (i : grid2.Coords) (k2_t1 : Fin (k2_t1_loop i).trips) (k2_t2 : Fin k2_t2_loop.trips) (v82 : BitVec 32) (v84 : BitVec 32) (k2_t4 : Fin (k2_t4_loop k2_t2).trips) (v104 : BitVec 32) (k2_hw3 : k2_chk3 i k2_t1 k2_t2 v82 v84 k2_t4 v104), ∀ (k2_h3 : k2_cond3 i k2_t1 = 1#1), ∀ (k2_h6 : k2_cond6 v82 v84 = 1#1), ∀ a, (k2_off46 v104) a + S1x16.size a ≤ S512x128.size a := fun i k2_t1 k2_t2 v82 v84 k2_t4 v104 k2_hw3 k2_h3 k2_h6 => k2_hw3.2.2.1 k2_h3 k2_h6
theorem k2_off48_inb : ∀ (i : grid2.Coords) (k2_t1 : Fin (k2_t1_loop i).trips) (k2_t2 : Fin k2_t2_loop.trips) (v82 : BitVec 32) (v84 : BitVec 32) (k2_t4 : Fin (k2_t4_loop k2_t2).trips) (v104 : BitVec 32) (k2_hw3 : k2_chk3 i k2_t1 k2_t2 v82 v84 k2_t4 v104), ∀ (k2_h3 : k2_cond3 i k2_t1 = 1#1), ∀ (k2_h6 : k2_cond6 v82 v84 = 1#1), ∀ a, (k2_off48 v104) a + S1x16.size a ≤ S512x128.size a := fun i k2_t1 k2_t2 v82 v84 k2_t4 v104 k2_hw3 k2_h3 k2_h6 => k2_hw3.2.2.2.1 k2_h3 k2_h6
theorem k2_off50_inb : ∀ (i : grid2.Coords) (k2_t1 : Fin (k2_t1_loop i).trips) (k2_t2 : Fin k2_t2_loop.trips) (v82 : BitVec 32) (v84 : BitVec 32) (k2_t4 : Fin (k2_t4_loop k2_t2).trips) (v104 : BitVec 32) (k2_hw3 : k2_chk3 i k2_t1 k2_t2 v82 v84 k2_t4 v104), ∀ (k2_h3 : k2_cond3 i k2_t1 = 1#1), ∀ (k2_h6 : k2_cond6 v82 v84 = 1#1), ∀ a, (k2_off50 v104) a + S1x16.size a ≤ S512x128.size a := fun i k2_t1 k2_t2 v82 v84 k2_t4 v104 k2_hw3 k2_h3 k2_h6 => k2_hw3.2.2.2.2.1 k2_h3 k2_h6
theorem k2_off52_inb : ∀ (i : grid2.Coords) (k2_t1 : Fin (k2_t1_loop i).trips) (k2_t2 : Fin k2_t2_loop.trips) (v82 : BitVec 32) (v84 : BitVec 32) (k2_t4 : Fin (k2_t4_loop k2_t2).trips) (v104 : BitVec 32) (k2_hw3 : k2_chk3 i k2_t1 k2_t2 v82 v84 k2_t4 v104), ∀ (k2_h3 : k2_cond3 i k2_t1 = 1#1), ∀ (k2_h6 : k2_cond6 v82 v84 = 1#1), ∀ a, (k2_off52 v104) a + S1x16.size a ≤ S512x128.size a := fun i k2_t1 k2_t2 v82 v84 k2_t4 v104 k2_hw3 k2_h3 k2_h6 => k2_hw3.2.2.2.2.2.1 k2_h3 k2_h6
theorem k2_off54_inb : ∀ (i : grid2.Coords) (k2_t1 : Fin (k2_t1_loop i).trips) (k2_t2 : Fin k2_t2_loop.trips) (v82 : BitVec 32) (v84 : BitVec 32) (k2_t4 : Fin (k2_t4_loop k2_t2).trips) (v104 : BitVec 32) (k2_hw3 : k2_chk3 i k2_t1 k2_t2 v82 v84 k2_t4 v104), ∀ (k2_h3 : k2_cond3 i k2_t1 = 1#1), ∀ (k2_h6 : k2_cond6 v82 v84 = 1#1), ∀ a, (k2_off54 v104) a + S1x16.size a ≤ S512x128.size a := fun i k2_t1 k2_t2 v82 v84 k2_t4 v104 k2_hw3 k2_h3 k2_h6 => k2_hw3.2.2.2.2.2.2.1 k2_h3 k2_h6
theorem k2_off56_inb : ∀ (i : grid2.Coords) (k2_t1 : Fin (k2_t1_loop i).trips) (k2_t2 : Fin k2_t2_loop.trips) (v82 : BitVec 32) (v84 : BitVec 32) (k2_t4 : Fin (k2_t4_loop k2_t2).trips) (v104 : BitVec 32) (k2_hw3 : k2_chk3 i k2_t1 k2_t2 v82 v84 k2_t4 v104), ∀ (k2_h3 : k2_cond3 i k2_t1 = 1#1), ∀ (k2_h6 : k2_cond6 v82 v84 = 1#1), ∀ a, (k2_off56 v104) a + S1x16.size a ≤ S512x128.size a := fun i k2_t1 k2_t2 v82 v84 k2_t4 v104 k2_hw3 k2_h3 k2_h6 => k2_hw3.2.2.2.2.2.2.2 k2_h3 k2_h6

def k2_off57 (i : grid2.Coords) (k2_t1 : Fin (k2_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c0_i32_17 : BitVec 32 := 0#32
  let c1_i32_19 : BitVec 32 := 1#32
  let arg16 : BitVec 32 := Scf.iv c0_i32_17 c1_i32_19 k2_t1
  let c2_i32_25 : BitVec 32 := 2#32
  let v49 : BitVec 32 := Scalar.muli arg16 c2_i32_25
  let v50 : BitVec 32 := Scalar.addi v4 v49
  let c0_i32_26 : BitVec 32 := 0#32
  let v51 : BitVec 32 := Scalar.addi v50 c0_i32_26
  let c80_i32_41 : BitVec 32 := 80#32
  let v69 : BitVec 32 := Scalar.muli v51 c80_i32_41
  let c0_i32_42 : BitVec 32 := 0#32
  ![v69.toNat, 0]
def k2_cond7 (i : grid2.Coords) (k2_t1 : Fin (k2_t1_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c0_i32_17 : BitVec 32 := 0#32
  let c1_i32_19 : BitVec 32 := 1#32
  let arg16 : BitVec 32 := Scf.iv c0_i32_17 c1_i32_19 k2_t1
  let c2_i32_25 : BitVec 32 := 2#32
  let v49 : BitVec 32 := Scalar.muli arg16 c2_i32_25
  let v50 : BitVec 32 := Scalar.addi v4 v49
  let c0_i32_26 : BitVec 32 := 0#32
  let v51 : BitVec 32 := Scalar.addi v50 c0_i32_26
  let c2_i32_44 : BitVec 32 := 2#32
  let v72 : BitVec 32 := Scalar.addi v51 c2_i32_44
  let c39_i32_2 : BitVec 32 := 39#32
  let c2_i32_1 : BitVec 32 := 2#32
  let v5 : BitVec 1 := Scalar.cmpi .slt v1 c2_i32_1
  let c1_i32 : BitVec 32 := 1#32
  let c0_i32 : BitVec 32 := 0#32
  let v6 : BitVec 32 := Scalar.select v5 c1_i32 c0_i32
  let v7 : BitVec 32 := Scalar.addi c39_i32_2 v6
  let v8 : BitVec 32 := Scalar.addi v4 v7
  let v73 : BitVec 1 := Scalar.cmpi .slt v72 v8
  let v74 : BitVec 32 := Scalar.extui v73
  let c0_i32_45 : BitVec 32 := 0#32
  let v75 : BitVec 1 := Scalar.cmpi .ne v74 c0_i32_45
  v75

def k2_off58 (i : grid2.Coords) (k2_t1 : Fin (k2_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c0_i32_17 : BitVec 32 := 0#32
  let c1_i32_19 : BitVec 32 := 1#32
  let arg16 : BitVec 32 := Scf.iv c0_i32_17 c1_i32_19 k2_t1
  let c2_i32_25 : BitVec 32 := 2#32
  let v49 : BitVec 32 := Scalar.muli arg16 c2_i32_25
  let v50 : BitVec 32 := Scalar.addi v4 v49
  let c0_i32_26 : BitVec 32 := 0#32
  let v51 : BitVec 32 := Scalar.addi v50 c0_i32_26
  let c2_i32_46 : BitVec 32 := 2#32
  let v76 : BitVec 32 := Scalar.addi v51 c2_i32_46
  let c80_i32_47 : BitVec 32 := 80#32
  let v77 : BitVec 32 := Scalar.muli v76 c80_i32_47
  let c0_i32_48 : BitVec 32 := 0#32
  ![v77.toNat, 0]
def k2_cond8 (i : grid2.Coords) (k2_t1 : Fin (k2_t1_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c0_i32_17 : BitVec 32 := 0#32
  let c1_i32_19 : BitVec 32 := 1#32
  let arg16 : BitVec 32 := Scf.iv c0_i32_17 c1_i32_19 k2_t1
  let c2_i32_25 : BitVec 32 := 2#32
  let v49 : BitVec 32 := Scalar.muli arg16 c2_i32_25
  let v50 : BitVec 32 := Scalar.addi v4 v49
  let c1_i32_28 : BitVec 32 := 1#32
  let v55 : BitVec 32 := Scalar.addi v50 c1_i32_28
  let c39_i32_2 : BitVec 32 := 39#32
  let c2_i32_1 : BitVec 32 := 2#32
  let v5 : BitVec 1 := Scalar.cmpi .slt v1 c2_i32_1
  let c1_i32 : BitVec 32 := 1#32
  let c0_i32 : BitVec 32 := 0#32
  let v6 : BitVec 32 := Scalar.select v5 c1_i32 c0_i32
  let v7 : BitVec 32 := Scalar.addi c39_i32_2 v6
  let v8 : BitVec 32 := Scalar.addi v4 v7
  let v56 : BitVec 1 := Scalar.cmpi .slt v55 v8
  let v57 : BitVec 32 := Scalar.extui v56
  let c0_i32_29 : BitVec 32 := 0#32
  let v58 : BitVec 1 := Scalar.cmpi .ne v57 c0_i32_29
  v58

@[reducible] def k2_t5_loop : Scf.Loop 32 :=
  let c0_i32_38 : BitVec 32 := 0#32
  let c5_i32 : BitVec 32 := 5#32
  let v68 : BitVec 32 := Scalar.addi c0_i32_38 c5_i32
  let c1_i32_39 : BitVec 32 := 1#32
  ⟨c0_i32_38, v68, c1_i32_39⟩
def k2_off59 (i : grid2.Coords) (k2_t1 : Fin (k2_t1_loop i).trips) (k2_t5 : Fin k2_t5_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c80_i32_7 : BitVec 32 := 80#32
  let v18 : BitVec 32 := Scalar.muli v4 c80_i32_7
  let c80_i32 : BitVec 32 := 80#32
  let v15 : BitVec 32 := Scalar.muli v4 c80_i32
  let c96800_i32 : BitVec 32 := 96800#32
  let v16 : BitVec 32 := Scalar.minsi v15 c96800_i32
  let v17 : BitVec 32 := v16
  let v19 : BitVec 32 := Scalar.subi v18 v17
  let c0_i32_17 : BitVec 32 := 0#32
  let c1_i32_19 : BitVec 32 := 1#32
  let arg16 : BitVec 32 := Scf.iv c0_i32_17 c1_i32_19 k2_t1
  let c2_i32_25 : BitVec 32 := 2#32
  let v49 : BitVec 32 := Scalar.muli arg16 c2_i32_25
  let v50 : BitVec 32 := Scalar.addi v4 v49
  let c1_i32_28 : BitVec 32 := 1#32
  let v55 : BitVec 32 := Scalar.addi v50 c1_i32_28
  let v59 : BitVec 32 := Scalar.subi v55 v4
  let c80_i32_30 : BitVec 32 := 80#32
  let v60 : BitVec 32 := Scalar.muli v59 c80_i32_30
  let v61 : BitVec 32 := Scalar.addi v19 v60
  let c0_i32_38 : BitVec 32 := 0#32
  let c1_i32_39 : BitVec 32 := 1#32
  let arg17 : BitVec 32 := Scf.iv c0_i32_38 c1_i32_39 k2_t5
  let c16_i32 : BitVec 32 := 16#32
  let v76 : BitVec 32 := Scalar.muli arg17 c16_i32
  let v77 : BitVec 32 := Scalar.addi v61 v76
  let v78 : Index := Scalar.indexCast v77
  ![v78.toNat]
def k2_off60 (v82 : BitVec 32) : Fin 2 → Nat :=
  let v91 : Index := Scalar.indexCast v82
  let c0 : Index := 0#32
  ![v91.toNat, 0]
def k2_cond10 (v82 : BitVec 32) (v84 : BitVec 32) : BitVec 1 :=
  let v85 : BitVec 1 := Scalar.cmpi .eq v82 v84
  let v86 : BitVec 32 := Scalar.extui v85
  let c0_i32_46 : BitVec 32 := 0#32
  let v87 : BitVec 1 := Scalar.cmpi .ne v86 c0_i32_46
  v87

def k2_off61 (k2_t5 : Fin k2_t5_loop.trips) (c0_i32_48 : BitVec 32) : Fin 2 → Nat :=
  let c0_i32_38 : BitVec 32 := 0#32
  let c1_i32_39 : BitVec 32 := 1#32
  let arg17 : BitVec 32 := Scf.iv c0_i32_38 c1_i32_39 k2_t5
  let c4_i32 : BitVec 32 := 4#32
  let v94 : BitVec 32 := Scalar.shli arg17 c4_i32
  let v95 : BitVec 32 := Scalar.addi v94 c0_i32_48
  let v96 : Index := Scalar.indexCast v95
  let c0_49 : Index := 0#32
  ![v96.toNat, 0]
def k2_off62 (v82 : BitVec 32) : Fin 2 → Nat :=
  let v286 : Index := Scalar.indexCast v82
  let c16 : Index := 16#32
  ![v286.toNat, 16]
def k2_off63 (k2_t5 : Fin k2_t5_loop.trips) (c0_i32_133 : BitVec 32) : Fin 2 → Nat :=
  let c0_i32_38 : BitVec 32 := 0#32
  let c1_i32_39 : BitVec 32 := 1#32
  let arg17 : BitVec 32 := Scf.iv c0_i32_38 c1_i32_39 k2_t5
  let c4_i32_132 : BitVec 32 := 4#32
  let v289 : BitVec 32 := Scalar.shli arg17 c4_i32_132
  let v290 : BitVec 32 := Scalar.addi v289 c0_i32_133
  let v291 : Index := Scalar.indexCast v290
  let c16_134 : Index := 16#32
  ![v291.toNat, 16]
def k2_off64 (v82 : BitVec 32) : Fin 2 → Nat :=
  let v481 : Index := Scalar.indexCast v82
  let c32 : Index := 32#32
  ![v481.toNat, 32]
def k2_off65 (k2_t5 : Fin k2_t5_loop.trips) (c0_i32_229 : BitVec 32) : Fin 2 → Nat :=
  let c0_i32_38 : BitVec 32 := 0#32
  let c1_i32_39 : BitVec 32 := 1#32
  let arg17 : BitVec 32 := Scf.iv c0_i32_38 c1_i32_39 k2_t5
  let c4_i32_228 : BitVec 32 := 4#32
  let v484 : BitVec 32 := Scalar.shli arg17 c4_i32_228
  let v485 : BitVec 32 := Scalar.addi v484 c0_i32_229
  let v486 : Index := Scalar.indexCast v485
  let c32_230 : Index := 32#32
  ![v486.toNat, 32]
def k2_off66 (v82 : BitVec 32) : Fin 2 → Nat :=
  let v676 : Index := Scalar.indexCast v82
  let c48 : Index := 48#32
  ![v676.toNat, 48]
def k2_off67 (k2_t5 : Fin k2_t5_loop.trips) (c0_i32_325 : BitVec 32) : Fin 2 → Nat :=
  let c0_i32_38 : BitVec 32 := 0#32
  let c1_i32_39 : BitVec 32 := 1#32
  let arg17 : BitVec 32 := Scf.iv c0_i32_38 c1_i32_39 k2_t5
  let c4_i32_324 : BitVec 32 := 4#32
  let v679 : BitVec 32 := Scalar.shli arg17 c4_i32_324
  let v680 : BitVec 32 := Scalar.addi v679 c0_i32_325
  let v681 : Index := Scalar.indexCast v680
  let c48_326 : Index := 48#32
  ![v681.toNat, 48]
def k2_off68 (v82 : BitVec 32) : Fin 2 → Nat :=
  let v871 : Index := Scalar.indexCast v82
  let c64 : Index := 64#32
  ![v871.toNat, 64]
def k2_off69 (k2_t5 : Fin k2_t5_loop.trips) (c0_i32_421 : BitVec 32) : Fin 2 → Nat :=
  let c0_i32_38 : BitVec 32 := 0#32
  let c1_i32_39 : BitVec 32 := 1#32
  let arg17 : BitVec 32 := Scf.iv c0_i32_38 c1_i32_39 k2_t5
  let c4_i32_420 : BitVec 32 := 4#32
  let v874 : BitVec 32 := Scalar.shli arg17 c4_i32_420
  let v875 : BitVec 32 := Scalar.addi v874 c0_i32_421
  let v876 : Index := Scalar.indexCast v875
  let c64_422 : Index := 64#32
  ![v876.toNat, 64]
def k2_off70 (v82 : BitVec 32) : Fin 2 → Nat :=
  let v1066 : Index := Scalar.indexCast v82
  let c80 : Index := 80#32
  ![v1066.toNat, 80]
def k2_off71 (k2_t5 : Fin k2_t5_loop.trips) (c0_i32_517 : BitVec 32) : Fin 2 → Nat :=
  let c0_i32_38 : BitVec 32 := 0#32
  let c1_i32_39 : BitVec 32 := 1#32
  let arg17 : BitVec 32 := Scf.iv c0_i32_38 c1_i32_39 k2_t5
  let c4_i32_516 : BitVec 32 := 4#32
  let v1069 : BitVec 32 := Scalar.shli arg17 c4_i32_516
  let v1070 : BitVec 32 := Scalar.addi v1069 c0_i32_517
  let v1071 : Index := Scalar.indexCast v1070
  let c80_518 : Index := 80#32
  ![v1071.toNat, 80]
def k2_off72 (v82 : BitVec 32) : Fin 2 → Nat :=
  let v1261 : Index := Scalar.indexCast v82
  let c96 : Index := 96#32
  ![v1261.toNat, 96]
def k2_off73 (k2_t5 : Fin k2_t5_loop.trips) (c0_i32_613 : BitVec 32) : Fin 2 → Nat :=
  let c0_i32_38 : BitVec 32 := 0#32
  let c1_i32_39 : BitVec 32 := 1#32
  let arg17 : BitVec 32 := Scf.iv c0_i32_38 c1_i32_39 k2_t5
  let c4_i32_612 : BitVec 32 := 4#32
  let v1264 : BitVec 32 := Scalar.shli arg17 c4_i32_612
  let v1265 : BitVec 32 := Scalar.addi v1264 c0_i32_613
  let v1266 : Index := Scalar.indexCast v1265
  let c96_614 : Index := 96#32
  ![v1266.toNat, 96]
def k2_off74 (v82 : BitVec 32) : Fin 2 → Nat :=
  let v1456 : Index := Scalar.indexCast v82
  let c112 : Index := 112#32
  ![v1456.toNat, 112]

def k2_chk4 (i : grid2.Coords) (k2_t1 : Fin (k2_t1_loop i).trips) (v82 : BitVec 32) (v84 : BitVec 32) : Prop :=
  (∀ (k2_h8 : k2_cond8 i k2_t1 = 1#1), ∀ (k2_h10 : k2_cond10 v82 v84 = 1#1), ∀ a, (k2_off60 v82) a + S1x16.size a ≤ S512x128.size a) ∧
  (∀ (k2_h8 : k2_cond8 i k2_t1 = 1#1), ∀ (k2_h10 : k2_cond10 v82 v84 = 1#1), ∀ a, (k2_off62 v82) a + S1x16.size a ≤ S512x128.size a) ∧
  (∀ (k2_h8 : k2_cond8 i k2_t1 = 1#1), ∀ (k2_h10 : k2_cond10 v82 v84 = 1#1), ∀ a, (k2_off64 v82) a + S1x16.size a ≤ S512x128.size a) ∧
  (∀ (k2_h8 : k2_cond8 i k2_t1 = 1#1), ∀ (k2_h10 : k2_cond10 v82 v84 = 1#1), ∀ a, (k2_off66 v82) a + S1x16.size a ≤ S512x128.size a) ∧
  (∀ (k2_h8 : k2_cond8 i k2_t1 = 1#1), ∀ (k2_h10 : k2_cond10 v82 v84 = 1#1), ∀ a, (k2_off68 v82) a + S1x16.size a ≤ S512x128.size a) ∧
  (∀ (k2_h8 : k2_cond8 i k2_t1 = 1#1), ∀ (k2_h10 : k2_cond10 v82 v84 = 1#1), ∀ a, (k2_off70 v82) a + S1x16.size a ≤ S512x128.size a) ∧
  (∀ (k2_h8 : k2_cond8 i k2_t1 = 1#1), ∀ (k2_h10 : k2_cond10 v82 v84 = 1#1), ∀ a, (k2_off72 v82) a + S1x16.size a ≤ S512x128.size a) ∧
  (∀ (k2_h8 : k2_cond8 i k2_t1 = 1#1), ∀ (k2_h10 : k2_cond10 v82 v84 = 1#1), ∀ a, (k2_off74 v82) a + S1x16.size a ≤ S512x128.size a)
theorem k2_off60_inb : ∀ (i : grid2.Coords) (k2_t1 : Fin (k2_t1_loop i).trips) (v82 : BitVec 32) (v84 : BitVec 32) (k2_hw4 : k2_chk4 i k2_t1 v82 v84), ∀ (k2_h8 : k2_cond8 i k2_t1 = 1#1), ∀ (k2_h10 : k2_cond10 v82 v84 = 1#1), ∀ a, (k2_off60 v82) a + S1x16.size a ≤ S512x128.size a := fun i k2_t1 v82 v84 k2_hw4 k2_h8 k2_h10 => k2_hw4.1 k2_h8 k2_h10
theorem k2_off62_inb : ∀ (i : grid2.Coords) (k2_t1 : Fin (k2_t1_loop i).trips) (v82 : BitVec 32) (v84 : BitVec 32) (k2_hw4 : k2_chk4 i k2_t1 v82 v84), ∀ (k2_h8 : k2_cond8 i k2_t1 = 1#1), ∀ (k2_h10 : k2_cond10 v82 v84 = 1#1), ∀ a, (k2_off62 v82) a + S1x16.size a ≤ S512x128.size a := fun i k2_t1 v82 v84 k2_hw4 k2_h8 k2_h10 => k2_hw4.2.1 k2_h8 k2_h10
theorem k2_off64_inb : ∀ (i : grid2.Coords) (k2_t1 : Fin (k2_t1_loop i).trips) (v82 : BitVec 32) (v84 : BitVec 32) (k2_hw4 : k2_chk4 i k2_t1 v82 v84), ∀ (k2_h8 : k2_cond8 i k2_t1 = 1#1), ∀ (k2_h10 : k2_cond10 v82 v84 = 1#1), ∀ a, (k2_off64 v82) a + S1x16.size a ≤ S512x128.size a := fun i k2_t1 v82 v84 k2_hw4 k2_h8 k2_h10 => k2_hw4.2.2.1 k2_h8 k2_h10
theorem k2_off66_inb : ∀ (i : grid2.Coords) (k2_t1 : Fin (k2_t1_loop i).trips) (v82 : BitVec 32) (v84 : BitVec 32) (k2_hw4 : k2_chk4 i k2_t1 v82 v84), ∀ (k2_h8 : k2_cond8 i k2_t1 = 1#1), ∀ (k2_h10 : k2_cond10 v82 v84 = 1#1), ∀ a, (k2_off66 v82) a + S1x16.size a ≤ S512x128.size a := fun i k2_t1 v82 v84 k2_hw4 k2_h8 k2_h10 => k2_hw4.2.2.2.1 k2_h8 k2_h10
theorem k2_off68_inb : ∀ (i : grid2.Coords) (k2_t1 : Fin (k2_t1_loop i).trips) (v82 : BitVec 32) (v84 : BitVec 32) (k2_hw4 : k2_chk4 i k2_t1 v82 v84), ∀ (k2_h8 : k2_cond8 i k2_t1 = 1#1), ∀ (k2_h10 : k2_cond10 v82 v84 = 1#1), ∀ a, (k2_off68 v82) a + S1x16.size a ≤ S512x128.size a := fun i k2_t1 v82 v84 k2_hw4 k2_h8 k2_h10 => k2_hw4.2.2.2.2.1 k2_h8 k2_h10
theorem k2_off70_inb : ∀ (i : grid2.Coords) (k2_t1 : Fin (k2_t1_loop i).trips) (v82 : BitVec 32) (v84 : BitVec 32) (k2_hw4 : k2_chk4 i k2_t1 v82 v84), ∀ (k2_h8 : k2_cond8 i k2_t1 = 1#1), ∀ (k2_h10 : k2_cond10 v82 v84 = 1#1), ∀ a, (k2_off70 v82) a + S1x16.size a ≤ S512x128.size a := fun i k2_t1 v82 v84 k2_hw4 k2_h8 k2_h10 => k2_hw4.2.2.2.2.2.1 k2_h8 k2_h10
theorem k2_off72_inb : ∀ (i : grid2.Coords) (k2_t1 : Fin (k2_t1_loop i).trips) (v82 : BitVec 32) (v84 : BitVec 32) (k2_hw4 : k2_chk4 i k2_t1 v82 v84), ∀ (k2_h8 : k2_cond8 i k2_t1 = 1#1), ∀ (k2_h10 : k2_cond10 v82 v84 = 1#1), ∀ a, (k2_off72 v82) a + S1x16.size a ≤ S512x128.size a := fun i k2_t1 v82 v84 k2_hw4 k2_h8 k2_h10 => k2_hw4.2.2.2.2.2.2.1 k2_h8 k2_h10
theorem k2_off74_inb : ∀ (i : grid2.Coords) (k2_t1 : Fin (k2_t1_loop i).trips) (v82 : BitVec 32) (v84 : BitVec 32) (k2_hw4 : k2_chk4 i k2_t1 v82 v84), ∀ (k2_h8 : k2_cond8 i k2_t1 = 1#1), ∀ (k2_h10 : k2_cond10 v82 v84 = 1#1), ∀ a, (k2_off74 v82) a + S1x16.size a ≤ S512x128.size a := fun i k2_t1 v82 v84 k2_hw4 k2_h8 k2_h10 => k2_hw4.2.2.2.2.2.2.2 k2_h8 k2_h10

def k2_off75 (k2_t5 : Fin k2_t5_loop.trips) (c0_i32_709 : BitVec 32) : Fin 2 → Nat :=
  let c0_i32_38 : BitVec 32 := 0#32
  let c1_i32_39 : BitVec 32 := 1#32
  let arg17 : BitVec 32 := Scf.iv c0_i32_38 c1_i32_39 k2_t5
  let c4_i32_708 : BitVec 32 := 4#32
  let v1459 : BitVec 32 := Scalar.shli arg17 c4_i32_708
  let v1460 : BitVec 32 := Scalar.addi v1459 c0_i32_709
  let v1461 : Index := Scalar.indexCast v1460
  let c112_710 : Index := 112#32
  ![v1461.toNat, 112]
@[reducible] def k2_t6_loop (k2_t5 : Fin k2_t5_loop.trips) : Scf.Loop 32 :=
  let c0_i32_38 : BitVec 32 := 0#32
  let c1_i32_39 : BitVec 32 := 1#32
  let arg17 : BitVec 32 := Scf.iv c0_i32_38 c1_i32_39 k2_t5
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_52 : BitVec 32 := 1#32
  ⟨v91, v98, c1_i32_52⟩
def k2_off76 (i : grid2.Coords) (k2_t1 : Fin (k2_t1_loop i).trips) (k2_t5 : Fin k2_t5_loop.trips) (k2_t6 : Fin (k2_t6_loop k2_t5).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c80_i32_7 : BitVec 32 := 80#32
  let v18 : BitVec 32 := Scalar.muli v4 c80_i32_7
  let c80_i32 : BitVec 32 := 80#32
  let v15 : BitVec 32 := Scalar.muli v4 c80_i32
  let c96800_i32 : BitVec 32 := 96800#32
  let v16 : BitVec 32 := Scalar.minsi v15 c96800_i32
  let v17 : BitVec 32 := v16
  let v19 : BitVec 32 := Scalar.subi v18 v17
  let c0_i32_17 : BitVec 32 := 0#32
  let c1_i32_19 : BitVec 32 := 1#32
  let arg16 : BitVec 32 := Scf.iv c0_i32_17 c1_i32_19 k2_t1
  let c2_i32_25 : BitVec 32 := 2#32
  let v49 : BitVec 32 := Scalar.muli arg16 c2_i32_25
  let v50 : BitVec 32 := Scalar.addi v4 v49
  let c1_i32_28 : BitVec 32 := 1#32
  let v55 : BitVec 32 := Scalar.addi v50 c1_i32_28
  let v59 : BitVec 32 := Scalar.subi v55 v4
  let c80_i32_30 : BitVec 32 := 80#32
  let v60 : BitVec 32 := Scalar.muli v59 c80_i32_30
  let v61 : BitVec 32 := Scalar.addi v19 v60
  let c0_i32_38 : BitVec 32 := 0#32
  let c1_i32_39 : BitVec 32 := 1#32
  let arg17 : BitVec 32 := Scf.iv c0_i32_38 c1_i32_39 k2_t5
  let c4_i32 : BitVec 32 := 4#32
  let v91 : BitVec 32 := Scalar.shli arg17 c4_i32
  let c1_i32_52 : BitVec 32 := 1#32
  let arg18 : BitVec 32 := Scf.iv v91 c1_i32_52 k2_t6
  let v99 : BitVec 32 := Scalar.addi v61 arg18
  let v100 : Index := Scalar.indexCast v99
  ![v100.toNat]
def k2_off77 (k2_t5 : Fin k2_t5_loop.trips) (k2_t6 : Fin (k2_t6_loop k2_t5).trips) : Fin 2 → Nat :=
  let c0_i32_38 : BitVec 32 := 0#32
  let c1_i32_39 : BitVec 32 := 1#32
  let arg17 : BitVec 32 := Scf.iv c0_i32_38 c1_i32_39 k2_t5
  let c4_i32 : BitVec 32 := 4#32
  let v91 : BitVec 32 := Scalar.shli arg17 c4_i32
  let c1_i32_52 : BitVec 32 := 1#32
  let arg18 : BitVec 32 := Scf.iv v91 c1_i32_52 k2_t6
  let v105 : Index := Scalar.indexCast arg18
  let c0 : Index := 0#32
  ![v105.toNat, 0]
def k2_off78 (v104 : BitVec 32) : Fin 2 → Nat :=
  let v108 : Index := Scalar.indexCast v104
  let c0_54 : Index := 0#32
  ![v108.toNat, 0]
def k2_cond11 (v82 : BitVec 32) (v84 : BitVec 32) : BitVec 1 :=
  let v85 : BitVec 1 := Scalar.cmpi .eq v82 v84
  let v_true : BitVec 1 := 1#1
  let v88 : BitVec 1 := Scalar.xori v85 v_true
  let v89 : BitVec 32 := Scalar.extui v88
  let c0_i32_47 : BitVec 32 := 0#32
  let v90 : BitVec 1 := Scalar.cmpi .ne v89 c0_i32_47
  v90

def k2_off79 (k2_t5 : Fin k2_t5_loop.trips) (k2_t6 : Fin (k2_t6_loop k2_t5).trips) : Fin 2 → Nat :=
  let c0_i32_38 : BitVec 32 := 0#32
  let c1_i32_39 : BitVec 32 := 1#32
  let arg17 : BitVec 32 := Scf.iv c0_i32_38 c1_i32_39 k2_t5
  let c4_i32 : BitVec 32 := 4#32
  let v91 : BitVec 32 := Scalar.shli arg17 c4_i32
  let c1_i32_52 : BitVec 32 := 1#32
  let arg18 : BitVec 32 := Scf.iv v91 c1_i32_52 k2_t6
  let v112 : Index := Scalar.indexCast arg18
  let c0_55 : Index := 0#32
  ![v112.toNat, 0]
def k2_off80 (k2_t5 : Fin k2_t5_loop.trips) (k2_t6 : Fin (k2_t6_loop k2_t5).trips) : Fin 2 → Nat :=
  let c0_i32_38 : BitVec 32 := 0#32
  let c1_i32_39 : BitVec 32 := 1#32
  let arg17 : BitVec 32 := Scf.iv c0_i32_38 c1_i32_39 k2_t5
  let c4_i32 : BitVec 32 := 4#32
  let v91 : BitVec 32 := Scalar.shli arg17 c4_i32
  let c1_i32_52 : BitVec 32 := 1#32
  let arg18 : BitVec 32 := Scf.iv v91 c1_i32_52 k2_t6
  let v116 : Index := Scalar.indexCast arg18
  let c16 : Index := 16#32
  ![v116.toNat, 16]
def k2_off81 (v104 : BitVec 32) : Fin 2 → Nat :=
  let v119 : Index := Scalar.indexCast v104
  let c16_56 : Index := 16#32
  ![v119.toNat, 16]
def k2_off82 (k2_t5 : Fin k2_t5_loop.trips) (k2_t6 : Fin (k2_t6_loop k2_t5).trips) : Fin 2 → Nat :=
  let c0_i32_38 : BitVec 32 := 0#32
  let c1_i32_39 : BitVec 32 := 1#32
  let arg17 : BitVec 32 := Scf.iv c0_i32_38 c1_i32_39 k2_t5
  let c4_i32 : BitVec 32 := 4#32
  let v91 : BitVec 32 := Scalar.shli arg17 c4_i32
  let c1_i32_52 : BitVec 32 := 1#32
  let arg18 : BitVec 32 := Scf.iv v91 c1_i32_52 k2_t6
  let v127 : Index := Scalar.indexCast arg18
  let c32 : Index := 32#32
  ![v127.toNat, 32]
def k2_off83 (v104 : BitVec 32) : Fin 2 → Nat :=
  let v130 : Index := Scalar.indexCast v104
  let c32_58 : Index := 32#32
  ![v130.toNat, 32]
def k2_off84 (k2_t5 : Fin k2_t5_loop.trips) (k2_t6 : Fin (k2_t6_loop k2_t5).trips) : Fin 2 → Nat :=
  let c0_i32_38 : BitVec 32 := 0#32
  let c1_i32_39 : BitVec 32 := 1#32
  let arg17 : BitVec 32 := Scf.iv c0_i32_38 c1_i32_39 k2_t5
  let c4_i32 : BitVec 32 := 4#32
  let v91 : BitVec 32 := Scalar.shli arg17 c4_i32
  let c1_i32_52 : BitVec 32 := 1#32
  let arg18 : BitVec 32 := Scf.iv v91 c1_i32_52 k2_t6
  let v138 : Index := Scalar.indexCast arg18
  let c48 : Index := 48#32
  ![v138.toNat, 48]
def k2_off85 (v104 : BitVec 32) : Fin 2 → Nat :=
  let v141 : Index := Scalar.indexCast v104
  let c48_60 : Index := 48#32
  ![v141.toNat, 48]
def k2_off86 (k2_t5 : Fin k2_t5_loop.trips) (k2_t6 : Fin (k2_t6_loop k2_t5).trips) : Fin 2 → Nat :=
  let c0_i32_38 : BitVec 32 := 0#32
  let c1_i32_39 : BitVec 32 := 1#32
  let arg17 : BitVec 32 := Scf.iv c0_i32_38 c1_i32_39 k2_t5
  let c4_i32 : BitVec 32 := 4#32
  let v91 : BitVec 32 := Scalar.shli arg17 c4_i32
  let c1_i32_52 : BitVec 32 := 1#32
  let arg18 : BitVec 32 := Scf.iv v91 c1_i32_52 k2_t6
  let v149 : Index := Scalar.indexCast arg18
  let c64 : Index := 64#32
  ![v149.toNat, 64]
def k2_off87 (v104 : BitVec 32) : Fin 2 → Nat :=
  let v152 : Index := Scalar.indexCast v104
  let c64_62 : Index := 64#32
  ![v152.toNat, 64]
def k2_off88 (k2_t5 : Fin k2_t5_loop.trips) (k2_t6 : Fin (k2_t6_loop k2_t5).trips) : Fin 2 → Nat :=
  let c0_i32_38 : BitVec 32 := 0#32
  let c1_i32_39 : BitVec 32 := 1#32
  let arg17 : BitVec 32 := Scf.iv c0_i32_38 c1_i32_39 k2_t5
  let c4_i32 : BitVec 32 := 4#32
  let v91 : BitVec 32 := Scalar.shli arg17 c4_i32
  let c1_i32_52 : BitVec 32 := 1#32
  let arg18 : BitVec 32 := Scf.iv v91 c1_i32_52 k2_t6
  let v160 : Index := Scalar.indexCast arg18
  let c80 : Index := 80#32
  ![v160.toNat, 80]
def k2_off89 (v104 : BitVec 32) : Fin 2 → Nat :=
  let v163 : Index := Scalar.indexCast v104
  let c80_64 : Index := 80#32
  ![v163.toNat, 80]
def k2_off90 (k2_t5 : Fin k2_t5_loop.trips) (k2_t6 : Fin (k2_t6_loop k2_t5).trips) : Fin 2 → Nat :=
  let c0_i32_38 : BitVec 32 := 0#32
  let c1_i32_39 : BitVec 32 := 1#32
  let arg17 : BitVec 32 := Scf.iv c0_i32_38 c1_i32_39 k2_t5
  let c4_i32 : BitVec 32 := 4#32
  let v91 : BitVec 32 := Scalar.shli arg17 c4_i32
  let c1_i32_52 : BitVec 32 := 1#32
  let arg18 : BitVec 32 := Scf.iv v91 c1_i32_52 k2_t6
  let v171 : Index := Scalar.indexCast arg18
  let c96 : Index := 96#32
  ![v171.toNat, 96]
def k2_off91 (v104 : BitVec 32) : Fin 2 → Nat :=
  let v174 : Index := Scalar.indexCast v104
  let c96_66 : Index := 96#32
  ![v174.toNat, 96]
def k2_off92 (k2_t5 : Fin k2_t5_loop.trips) (k2_t6 : Fin (k2_t6_loop k2_t5).trips) : Fin 2 → Nat :=
  let c0_i32_38 : BitVec 32 := 0#32
  let c1_i32_39 : BitVec 32 := 1#32
  let arg17 : BitVec 32 := Scf.iv c0_i32_38 c1_i32_39 k2_t5
  let c4_i32 : BitVec 32 := 4#32
  let v91 : BitVec 32 := Scalar.shli arg17 c4_i32
  let c1_i32_52 : BitVec 32 := 1#32
  let arg18 : BitVec 32 := Scf.iv v91 c1_i32_52 k2_t6
  let v182 : Index := Scalar.indexCast arg18
  let c112 : Index := 112#32
  ![v182.toNat, 112]
def k2_off93 (v104 : BitVec 32) : Fin 2 → Nat :=
  let v185 : Index := Scalar.indexCast v104
  let c112_68 : Index := 112#32
  ![v185.toNat, 112]

def k2_chk5 (i : grid2.Coords) (k2_t1 : Fin (k2_t1_loop i).trips) (k2_t5 : Fin k2_t5_loop.trips) (v82 : BitVec 32) (v84 : BitVec 32) (k2_t6 : Fin (k2_t6_loop k2_t5).trips) (v104 : BitVec 32) : Prop :=
  (∀ (k2_h8 : k2_cond8 i k2_t1 = 1#1), ∀ (k2_h11 : k2_cond11 v82 v84 = 1#1), ∀ a, (k2_off78 v104) a + S1x16.size a ≤ S512x128.size a) ∧
  (∀ (k2_h8 : k2_cond8 i k2_t1 = 1#1), ∀ (k2_h11 : k2_cond11 v82 v84 = 1#1), ∀ a, (k2_off81 v104) a + S1x16.size a ≤ S512x128.size a) ∧
  (∀ (k2_h8 : k2_cond8 i k2_t1 = 1#1), ∀ (k2_h11 : k2_cond11 v82 v84 = 1#1), ∀ a, (k2_off83 v104) a + S1x16.size a ≤ S512x128.size a) ∧
  (∀ (k2_h8 : k2_cond8 i k2_t1 = 1#1), ∀ (k2_h11 : k2_cond11 v82 v84 = 1#1), ∀ a, (k2_off85 v104) a + S1x16.size a ≤ S512x128.size a) ∧
  (∀ (k2_h8 : k2_cond8 i k2_t1 = 1#1), ∀ (k2_h11 : k2_cond11 v82 v84 = 1#1), ∀ a, (k2_off87 v104) a + S1x16.size a ≤ S512x128.size a) ∧
  (∀ (k2_h8 : k2_cond8 i k2_t1 = 1#1), ∀ (k2_h11 : k2_cond11 v82 v84 = 1#1), ∀ a, (k2_off89 v104) a + S1x16.size a ≤ S512x128.size a) ∧
  (∀ (k2_h8 : k2_cond8 i k2_t1 = 1#1), ∀ (k2_h11 : k2_cond11 v82 v84 = 1#1), ∀ a, (k2_off91 v104) a + S1x16.size a ≤ S512x128.size a) ∧
  (∀ (k2_h8 : k2_cond8 i k2_t1 = 1#1), ∀ (k2_h11 : k2_cond11 v82 v84 = 1#1), ∀ a, (k2_off93 v104) a + S1x16.size a ≤ S512x128.size a)
theorem k2_off78_inb : ∀ (i : grid2.Coords) (k2_t1 : Fin (k2_t1_loop i).trips) (k2_t5 : Fin k2_t5_loop.trips) (v82 : BitVec 32) (v84 : BitVec 32) (k2_t6 : Fin (k2_t6_loop k2_t5).trips) (v104 : BitVec 32) (k2_hw5 : k2_chk5 i k2_t1 k2_t5 v82 v84 k2_t6 v104), ∀ (k2_h8 : k2_cond8 i k2_t1 = 1#1), ∀ (k2_h11 : k2_cond11 v82 v84 = 1#1), ∀ a, (k2_off78 v104) a + S1x16.size a ≤ S512x128.size a := fun i k2_t1 k2_t5 v82 v84 k2_t6 v104 k2_hw5 k2_h8 k2_h11 => k2_hw5.1 k2_h8 k2_h11
theorem k2_off81_inb : ∀ (i : grid2.Coords) (k2_t1 : Fin (k2_t1_loop i).trips) (k2_t5 : Fin k2_t5_loop.trips) (v82 : BitVec 32) (v84 : BitVec 32) (k2_t6 : Fin (k2_t6_loop k2_t5).trips) (v104 : BitVec 32) (k2_hw5 : k2_chk5 i k2_t1 k2_t5 v82 v84 k2_t6 v104), ∀ (k2_h8 : k2_cond8 i k2_t1 = 1#1), ∀ (k2_h11 : k2_cond11 v82 v84 = 1#1), ∀ a, (k2_off81 v104) a + S1x16.size a ≤ S512x128.size a := fun i k2_t1 k2_t5 v82 v84 k2_t6 v104 k2_hw5 k2_h8 k2_h11 => k2_hw5.2.1 k2_h8 k2_h11
theorem k2_off83_inb : ∀ (i : grid2.Coords) (k2_t1 : Fin (k2_t1_loop i).trips) (k2_t5 : Fin k2_t5_loop.trips) (v82 : BitVec 32) (v84 : BitVec 32) (k2_t6 : Fin (k2_t6_loop k2_t5).trips) (v104 : BitVec 32) (k2_hw5 : k2_chk5 i k2_t1 k2_t5 v82 v84 k2_t6 v104), ∀ (k2_h8 : k2_cond8 i k2_t1 = 1#1), ∀ (k2_h11 : k2_cond11 v82 v84 = 1#1), ∀ a, (k2_off83 v104) a + S1x16.size a ≤ S512x128.size a := fun i k2_t1 k2_t5 v82 v84 k2_t6 v104 k2_hw5 k2_h8 k2_h11 => k2_hw5.2.2.1 k2_h8 k2_h11
theorem k2_off85_inb : ∀ (i : grid2.Coords) (k2_t1 : Fin (k2_t1_loop i).trips) (k2_t5 : Fin k2_t5_loop.trips) (v82 : BitVec 32) (v84 : BitVec 32) (k2_t6 : Fin (k2_t6_loop k2_t5).trips) (v104 : BitVec 32) (k2_hw5 : k2_chk5 i k2_t1 k2_t5 v82 v84 k2_t6 v104), ∀ (k2_h8 : k2_cond8 i k2_t1 = 1#1), ∀ (k2_h11 : k2_cond11 v82 v84 = 1#1), ∀ a, (k2_off85 v104) a + S1x16.size a ≤ S512x128.size a := fun i k2_t1 k2_t5 v82 v84 k2_t6 v104 k2_hw5 k2_h8 k2_h11 => k2_hw5.2.2.2.1 k2_h8 k2_h11
theorem k2_off87_inb : ∀ (i : grid2.Coords) (k2_t1 : Fin (k2_t1_loop i).trips) (k2_t5 : Fin k2_t5_loop.trips) (v82 : BitVec 32) (v84 : BitVec 32) (k2_t6 : Fin (k2_t6_loop k2_t5).trips) (v104 : BitVec 32) (k2_hw5 : k2_chk5 i k2_t1 k2_t5 v82 v84 k2_t6 v104), ∀ (k2_h8 : k2_cond8 i k2_t1 = 1#1), ∀ (k2_h11 : k2_cond11 v82 v84 = 1#1), ∀ a, (k2_off87 v104) a + S1x16.size a ≤ S512x128.size a := fun i k2_t1 k2_t5 v82 v84 k2_t6 v104 k2_hw5 k2_h8 k2_h11 => k2_hw5.2.2.2.2.1 k2_h8 k2_h11
theorem k2_off89_inb : ∀ (i : grid2.Coords) (k2_t1 : Fin (k2_t1_loop i).trips) (k2_t5 : Fin k2_t5_loop.trips) (v82 : BitVec 32) (v84 : BitVec 32) (k2_t6 : Fin (k2_t6_loop k2_t5).trips) (v104 : BitVec 32) (k2_hw5 : k2_chk5 i k2_t1 k2_t5 v82 v84 k2_t6 v104), ∀ (k2_h8 : k2_cond8 i k2_t1 = 1#1), ∀ (k2_h11 : k2_cond11 v82 v84 = 1#1), ∀ a, (k2_off89 v104) a + S1x16.size a ≤ S512x128.size a := fun i k2_t1 k2_t5 v82 v84 k2_t6 v104 k2_hw5 k2_h8 k2_h11 => k2_hw5.2.2.2.2.2.1 k2_h8 k2_h11
theorem k2_off91_inb : ∀ (i : grid2.Coords) (k2_t1 : Fin (k2_t1_loop i).trips) (k2_t5 : Fin k2_t5_loop.trips) (v82 : BitVec 32) (v84 : BitVec 32) (k2_t6 : Fin (k2_t6_loop k2_t5).trips) (v104 : BitVec 32) (k2_hw5 : k2_chk5 i k2_t1 k2_t5 v82 v84 k2_t6 v104), ∀ (k2_h8 : k2_cond8 i k2_t1 = 1#1), ∀ (k2_h11 : k2_cond11 v82 v84 = 1#1), ∀ a, (k2_off91 v104) a + S1x16.size a ≤ S512x128.size a := fun i k2_t1 k2_t5 v82 v84 k2_t6 v104 k2_hw5 k2_h8 k2_h11 => k2_hw5.2.2.2.2.2.2.1 k2_h8 k2_h11
theorem k2_off93_inb : ∀ (i : grid2.Coords) (k2_t1 : Fin (k2_t1_loop i).trips) (k2_t5 : Fin k2_t5_loop.trips) (v82 : BitVec 32) (v84 : BitVec 32) (k2_t6 : Fin (k2_t6_loop k2_t5).trips) (v104 : BitVec 32) (k2_hw5 : k2_chk5 i k2_t1 k2_t5 v82 v84 k2_t6 v104), ∀ (k2_h8 : k2_cond8 i k2_t1 = 1#1), ∀ (k2_h11 : k2_cond11 v82 v84 = 1#1), ∀ a, (k2_off93 v104) a + S1x16.size a ≤ S512x128.size a := fun i k2_t1 k2_t5 v82 v84 k2_t6 v104 k2_hw5 k2_h8 k2_h11 => k2_hw5.2.2.2.2.2.2.2 k2_h8 k2_h11

@[reducible] def k2_t7_loop (k2_t5 : Fin k2_t5_loop.trips) : Scf.Loop 32 :=
  let c0_i32_38 : BitVec 32 := 0#32
  let c1_i32_39 : BitVec 32 := 1#32
  let arg17 : BitVec 32 := Scf.iv c0_i32_38 c1_i32_39 k2_t5
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let v95 : BitVec 32 := Scalar.addi v91 v94
  let c1_i32_53 : BitVec 32 := 1#32
  ⟨v98, v95, c1_i32_53⟩
def k2_off94 (i : grid2.Coords) (k2_t1 : Fin (k2_t1_loop i).trips) (k2_t5 : Fin k2_t5_loop.trips) (k2_t7 : Fin (k2_t7_loop k2_t5).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c80_i32_7 : BitVec 32 := 80#32
  let v18 : BitVec 32 := Scalar.muli v4 c80_i32_7
  let c80_i32 : BitVec 32 := 80#32
  let v15 : BitVec 32 := Scalar.muli v4 c80_i32
  let c96800_i32 : BitVec 32 := 96800#32
  let v16 : BitVec 32 := Scalar.minsi v15 c96800_i32
  let v17 : BitVec 32 := v16
  let v19 : BitVec 32 := Scalar.subi v18 v17
  let c0_i32_17 : BitVec 32 := 0#32
  let c1_i32_19 : BitVec 32 := 1#32
  let arg16 : BitVec 32 := Scf.iv c0_i32_17 c1_i32_19 k2_t1
  let c2_i32_25 : BitVec 32 := 2#32
  let v49 : BitVec 32 := Scalar.muli arg16 c2_i32_25
  let v50 : BitVec 32 := Scalar.addi v4 v49
  let c1_i32_28 : BitVec 32 := 1#32
  let v55 : BitVec 32 := Scalar.addi v50 c1_i32_28
  let v59 : BitVec 32 := Scalar.subi v55 v4
  let c80_i32_30 : BitVec 32 := 80#32
  let v60 : BitVec 32 := Scalar.muli v59 c80_i32_30
  let v61 : BitVec 32 := Scalar.addi v19 v60
  let c0_i32_38 : BitVec 32 := 0#32
  let c1_i32_39 : BitVec 32 := 1#32
  let arg17 : BitVec 32 := Scf.iv c0_i32_38 c1_i32_39 k2_t5
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t7
  let v99 : BitVec 32 := Scalar.addi v61 arg18
  let v100 : Index := Scalar.indexCast v99
  ![v100.toNat]
def k2_off95 (k2_t5 : Fin k2_t5_loop.trips) (k2_t7 : Fin (k2_t7_loop k2_t5).trips) : Fin 2 → Nat :=
  let c0_i32_38 : BitVec 32 := 0#32
  let c1_i32_39 : BitVec 32 := 1#32
  let arg17 : BitVec 32 := Scf.iv c0_i32_38 c1_i32_39 k2_t5
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t7
  let v105 : Index := Scalar.indexCast arg18
  let c0 : Index := 0#32
  ![v105.toNat, 0]
def k2_off96 (v104 : BitVec 32) : Fin 2 → Nat :=
  let v108 : Index := Scalar.indexCast v104
  let c0_54 : Index := 0#32
  ![v108.toNat, 0]

def k2_off97 (k2_t5 : Fin k2_t5_loop.trips) (k2_t7 : Fin (k2_t7_loop k2_t5).trips) : Fin 2 → Nat :=
  let c0_i32_38 : BitVec 32 := 0#32
  let c1_i32_39 : BitVec 32 := 1#32
  let arg17 : BitVec 32 := Scf.iv c0_i32_38 c1_i32_39 k2_t5
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t7
  let v112 : Index := Scalar.indexCast arg18
  let c0_55 : Index := 0#32
  ![v112.toNat, 0]
def k2_off98 (k2_t5 : Fin k2_t5_loop.trips) (k2_t7 : Fin (k2_t7_loop k2_t5).trips) : Fin 2 → Nat :=
  let c0_i32_38 : BitVec 32 := 0#32
  let c1_i32_39 : BitVec 32 := 1#32
  let arg17 : BitVec 32 := Scf.iv c0_i32_38 c1_i32_39 k2_t5
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t7
  let v116 : Index := Scalar.indexCast arg18
  let c16 : Index := 16#32
  ![v116.toNat, 16]
def k2_off99 (v104 : BitVec 32) : Fin 2 → Nat :=
  let v119 : Index := Scalar.indexCast v104
  let c16_56 : Index := 16#32
  ![v119.toNat, 16]
def k2_off100 (k2_t5 : Fin k2_t5_loop.trips) (k2_t7 : Fin (k2_t7_loop k2_t5).trips) : Fin 2 → Nat :=
  let c0_i32_38 : BitVec 32 := 0#32
  let c1_i32_39 : BitVec 32 := 1#32
  let arg17 : BitVec 32 := Scf.iv c0_i32_38 c1_i32_39 k2_t5
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t7
  let v127 : Index := Scalar.indexCast arg18
  let c32 : Index := 32#32
  ![v127.toNat, 32]
def k2_off101 (v104 : BitVec 32) : Fin 2 → Nat :=
  let v130 : Index := Scalar.indexCast v104
  let c32_58 : Index := 32#32
  ![v130.toNat, 32]
def k2_off102 (k2_t5 : Fin k2_t5_loop.trips) (k2_t7 : Fin (k2_t7_loop k2_t5).trips) : Fin 2 → Nat :=
  let c0_i32_38 : BitVec 32 := 0#32
  let c1_i32_39 : BitVec 32 := 1#32
  let arg17 : BitVec 32 := Scf.iv c0_i32_38 c1_i32_39 k2_t5
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t7
  let v138 : Index := Scalar.indexCast arg18
  let c48 : Index := 48#32
  ![v138.toNat, 48]
def k2_off103 (v104 : BitVec 32) : Fin 2 → Nat :=
  let v141 : Index := Scalar.indexCast v104
  let c48_60 : Index := 48#32
  ![v141.toNat, 48]
def k2_off104 (k2_t5 : Fin k2_t5_loop.trips) (k2_t7 : Fin (k2_t7_loop k2_t5).trips) : Fin 2 → Nat :=
  let c0_i32_38 : BitVec 32 := 0#32
  let c1_i32_39 : BitVec 32 := 1#32
  let arg17 : BitVec 32 := Scf.iv c0_i32_38 c1_i32_39 k2_t5
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t7
  let v149 : Index := Scalar.indexCast arg18
  let c64 : Index := 64#32
  ![v149.toNat, 64]
def k2_off105 (v104 : BitVec 32) : Fin 2 → Nat :=
  let v152 : Index := Scalar.indexCast v104
  let c64_62 : Index := 64#32
  ![v152.toNat, 64]
def k2_off106 (k2_t5 : Fin k2_t5_loop.trips) (k2_t7 : Fin (k2_t7_loop k2_t5).trips) : Fin 2 → Nat :=
  let c0_i32_38 : BitVec 32 := 0#32
  let c1_i32_39 : BitVec 32 := 1#32
  let arg17 : BitVec 32 := Scf.iv c0_i32_38 c1_i32_39 k2_t5
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t7
  let v160 : Index := Scalar.indexCast arg18
  let c80 : Index := 80#32
  ![v160.toNat, 80]
def k2_off107 (v104 : BitVec 32) : Fin 2 → Nat :=
  let v163 : Index := Scalar.indexCast v104
  let c80_64 : Index := 80#32
  ![v163.toNat, 80]
def k2_off108 (k2_t5 : Fin k2_t5_loop.trips) (k2_t7 : Fin (k2_t7_loop k2_t5).trips) : Fin 2 → Nat :=
  let c0_i32_38 : BitVec 32 := 0#32
  let c1_i32_39 : BitVec 32 := 1#32
  let arg17 : BitVec 32 := Scf.iv c0_i32_38 c1_i32_39 k2_t5
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t7
  let v171 : Index := Scalar.indexCast arg18
  let c96 : Index := 96#32
  ![v171.toNat, 96]
def k2_off109 (v104 : BitVec 32) : Fin 2 → Nat :=
  let v174 : Index := Scalar.indexCast v104
  let c96_66 : Index := 96#32
  ![v174.toNat, 96]
def k2_off110 (k2_t5 : Fin k2_t5_loop.trips) (k2_t7 : Fin (k2_t7_loop k2_t5).trips) : Fin 2 → Nat :=
  let c0_i32_38 : BitVec 32 := 0#32
  let c1_i32_39 : BitVec 32 := 1#32
  let arg17 : BitVec 32 := Scf.iv c0_i32_38 c1_i32_39 k2_t5
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t7
  let v182 : Index := Scalar.indexCast arg18
  let c112 : Index := 112#32
  ![v182.toNat, 112]
def k2_off111 (v104 : BitVec 32) : Fin 2 → Nat :=
  let v185 : Index := Scalar.indexCast v104
  let c112_68 : Index := 112#32
  ![v185.toNat, 112]

def k2_chk6 (i : grid2.Coords) (k2_t1 : Fin (k2_t1_loop i).trips) (k2_t5 : Fin k2_t5_loop.trips) (v82 : BitVec 32) (v84 : BitVec 32) (k2_t7 : Fin (k2_t7_loop k2_t5).trips) (v104 : BitVec 32) : Prop :=
  (∀ (k2_h8 : k2_cond8 i k2_t1 = 1#1), ∀ (k2_h11 : k2_cond11 v82 v84 = 1#1), ∀ a, (k2_off96 v104) a + S1x16.size a ≤ S512x128.size a) ∧
  (∀ (k2_h8 : k2_cond8 i k2_t1 = 1#1), ∀ (k2_h11 : k2_cond11 v82 v84 = 1#1), ∀ a, (k2_off99 v104) a + S1x16.size a ≤ S512x128.size a) ∧
  (∀ (k2_h8 : k2_cond8 i k2_t1 = 1#1), ∀ (k2_h11 : k2_cond11 v82 v84 = 1#1), ∀ a, (k2_off101 v104) a + S1x16.size a ≤ S512x128.size a) ∧
  (∀ (k2_h8 : k2_cond8 i k2_t1 = 1#1), ∀ (k2_h11 : k2_cond11 v82 v84 = 1#1), ∀ a, (k2_off103 v104) a + S1x16.size a ≤ S512x128.size a) ∧
  (∀ (k2_h8 : k2_cond8 i k2_t1 = 1#1), ∀ (k2_h11 : k2_cond11 v82 v84 = 1#1), ∀ a, (k2_off105 v104) a + S1x16.size a ≤ S512x128.size a) ∧
  (∀ (k2_h8 : k2_cond8 i k2_t1 = 1#1), ∀ (k2_h11 : k2_cond11 v82 v84 = 1#1), ∀ a, (k2_off107 v104) a + S1x16.size a ≤ S512x128.size a) ∧
  (∀ (k2_h8 : k2_cond8 i k2_t1 = 1#1), ∀ (k2_h11 : k2_cond11 v82 v84 = 1#1), ∀ a, (k2_off109 v104) a + S1x16.size a ≤ S512x128.size a) ∧
  (∀ (k2_h8 : k2_cond8 i k2_t1 = 1#1), ∀ (k2_h11 : k2_cond11 v82 v84 = 1#1), ∀ a, (k2_off111 v104) a + S1x16.size a ≤ S512x128.size a)
theorem k2_off96_inb : ∀ (i : grid2.Coords) (k2_t1 : Fin (k2_t1_loop i).trips) (k2_t5 : Fin k2_t5_loop.trips) (v82 : BitVec 32) (v84 : BitVec 32) (k2_t7 : Fin (k2_t7_loop k2_t5).trips) (v104 : BitVec 32) (k2_hw6 : k2_chk6 i k2_t1 k2_t5 v82 v84 k2_t7 v104), ∀ (k2_h8 : k2_cond8 i k2_t1 = 1#1), ∀ (k2_h11 : k2_cond11 v82 v84 = 1#1), ∀ a, (k2_off96 v104) a + S1x16.size a ≤ S512x128.size a := fun i k2_t1 k2_t5 v82 v84 k2_t7 v104 k2_hw6 k2_h8 k2_h11 => k2_hw6.1 k2_h8 k2_h11
theorem k2_off99_inb : ∀ (i : grid2.Coords) (k2_t1 : Fin (k2_t1_loop i).trips) (k2_t5 : Fin k2_t5_loop.trips) (v82 : BitVec 32) (v84 : BitVec 32) (k2_t7 : Fin (k2_t7_loop k2_t5).trips) (v104 : BitVec 32) (k2_hw6 : k2_chk6 i k2_t1 k2_t5 v82 v84 k2_t7 v104), ∀ (k2_h8 : k2_cond8 i k2_t1 = 1#1), ∀ (k2_h11 : k2_cond11 v82 v84 = 1#1), ∀ a, (k2_off99 v104) a + S1x16.size a ≤ S512x128.size a := fun i k2_t1 k2_t5 v82 v84 k2_t7 v104 k2_hw6 k2_h8 k2_h11 => k2_hw6.2.1 k2_h8 k2_h11
theorem k2_off101_inb : ∀ (i : grid2.Coords) (k2_t1 : Fin (k2_t1_loop i).trips) (k2_t5 : Fin k2_t5_loop.trips) (v82 : BitVec 32) (v84 : BitVec 32) (k2_t7 : Fin (k2_t7_loop k2_t5).trips) (v104 : BitVec 32) (k2_hw6 : k2_chk6 i k2_t1 k2_t5 v82 v84 k2_t7 v104), ∀ (k2_h8 : k2_cond8 i k2_t1 = 1#1), ∀ (k2_h11 : k2_cond11 v82 v84 = 1#1), ∀ a, (k2_off101 v104) a + S1x16.size a ≤ S512x128.size a := fun i k2_t1 k2_t5 v82 v84 k2_t7 v104 k2_hw6 k2_h8 k2_h11 => k2_hw6.2.2.1 k2_h8 k2_h11
theorem k2_off103_inb : ∀ (i : grid2.Coords) (k2_t1 : Fin (k2_t1_loop i).trips) (k2_t5 : Fin k2_t5_loop.trips) (v82 : BitVec 32) (v84 : BitVec 32) (k2_t7 : Fin (k2_t7_loop k2_t5).trips) (v104 : BitVec 32) (k2_hw6 : k2_chk6 i k2_t1 k2_t5 v82 v84 k2_t7 v104), ∀ (k2_h8 : k2_cond8 i k2_t1 = 1#1), ∀ (k2_h11 : k2_cond11 v82 v84 = 1#1), ∀ a, (k2_off103 v104) a + S1x16.size a ≤ S512x128.size a := fun i k2_t1 k2_t5 v82 v84 k2_t7 v104 k2_hw6 k2_h8 k2_h11 => k2_hw6.2.2.2.1 k2_h8 k2_h11
theorem k2_off105_inb : ∀ (i : grid2.Coords) (k2_t1 : Fin (k2_t1_loop i).trips) (k2_t5 : Fin k2_t5_loop.trips) (v82 : BitVec 32) (v84 : BitVec 32) (k2_t7 : Fin (k2_t7_loop k2_t5).trips) (v104 : BitVec 32) (k2_hw6 : k2_chk6 i k2_t1 k2_t5 v82 v84 k2_t7 v104), ∀ (k2_h8 : k2_cond8 i k2_t1 = 1#1), ∀ (k2_h11 : k2_cond11 v82 v84 = 1#1), ∀ a, (k2_off105 v104) a + S1x16.size a ≤ S512x128.size a := fun i k2_t1 k2_t5 v82 v84 k2_t7 v104 k2_hw6 k2_h8 k2_h11 => k2_hw6.2.2.2.2.1 k2_h8 k2_h11
theorem k2_off107_inb : ∀ (i : grid2.Coords) (k2_t1 : Fin (k2_t1_loop i).trips) (k2_t5 : Fin k2_t5_loop.trips) (v82 : BitVec 32) (v84 : BitVec 32) (k2_t7 : Fin (k2_t7_loop k2_t5).trips) (v104 : BitVec 32) (k2_hw6 : k2_chk6 i k2_t1 k2_t5 v82 v84 k2_t7 v104), ∀ (k2_h8 : k2_cond8 i k2_t1 = 1#1), ∀ (k2_h11 : k2_cond11 v82 v84 = 1#1), ∀ a, (k2_off107 v104) a + S1x16.size a ≤ S512x128.size a := fun i k2_t1 k2_t5 v82 v84 k2_t7 v104 k2_hw6 k2_h8 k2_h11 => k2_hw6.2.2.2.2.2.1 k2_h8 k2_h11
theorem k2_off109_inb : ∀ (i : grid2.Coords) (k2_t1 : Fin (k2_t1_loop i).trips) (k2_t5 : Fin k2_t5_loop.trips) (v82 : BitVec 32) (v84 : BitVec 32) (k2_t7 : Fin (k2_t7_loop k2_t5).trips) (v104 : BitVec 32) (k2_hw6 : k2_chk6 i k2_t1 k2_t5 v82 v84 k2_t7 v104), ∀ (k2_h8 : k2_cond8 i k2_t1 = 1#1), ∀ (k2_h11 : k2_cond11 v82 v84 = 1#1), ∀ a, (k2_off109 v104) a + S1x16.size a ≤ S512x128.size a := fun i k2_t1 k2_t5 v82 v84 k2_t7 v104 k2_hw6 k2_h8 k2_h11 => k2_hw6.2.2.2.2.2.2.1 k2_h8 k2_h11
theorem k2_off111_inb : ∀ (i : grid2.Coords) (k2_t1 : Fin (k2_t1_loop i).trips) (k2_t5 : Fin k2_t5_loop.trips) (v82 : BitVec 32) (v84 : BitVec 32) (k2_t7 : Fin (k2_t7_loop k2_t5).trips) (v104 : BitVec 32) (k2_hw6 : k2_chk6 i k2_t1 k2_t5 v82 v84 k2_t7 v104), ∀ (k2_h8 : k2_cond8 i k2_t1 = 1#1), ∀ (k2_h11 : k2_cond11 v82 v84 = 1#1), ∀ a, (k2_off111 v104) a + S1x16.size a ≤ S512x128.size a := fun i k2_t1 k2_t5 v82 v84 k2_t7 v104 k2_hw6 k2_h8 k2_h11 => k2_hw6.2.2.2.2.2.2.2 k2_h8 k2_h11

def k2_off112 (i : grid2.Coords) (k2_t1 : Fin (k2_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c0_i32_17 : BitVec 32 := 0#32
  let c1_i32_19 : BitVec 32 := 1#32
  let arg16 : BitVec 32 := Scf.iv c0_i32_17 c1_i32_19 k2_t1
  let c2_i32_25 : BitVec 32 := 2#32
  let v49 : BitVec 32 := Scalar.muli arg16 c2_i32_25
  let v50 : BitVec 32 := Scalar.addi v4 v49
  let c1_i32_28 : BitVec 32 := 1#32
  let v55 : BitVec 32 := Scalar.addi v50 c1_i32_28
  let c80_i32_41 : BitVec 32 := 80#32
  let v69 : BitVec 32 := Scalar.muli v55 c80_i32_41
  let c0_i32_42 : BitVec 32 := 0#32
  ![v69.toNat, 0]
def k2_cond12 (i : grid2.Coords) (k2_t1 : Fin (k2_t1_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c0_i32_17 : BitVec 32 := 0#32
  let c1_i32_19 : BitVec 32 := 1#32
  let arg16 : BitVec 32 := Scf.iv c0_i32_17 c1_i32_19 k2_t1
  let c2_i32_25 : BitVec 32 := 2#32
  let v49 : BitVec 32 := Scalar.muli arg16 c2_i32_25
  let v50 : BitVec 32 := Scalar.addi v4 v49
  let c1_i32_28 : BitVec 32 := 1#32
  let v55 : BitVec 32 := Scalar.addi v50 c1_i32_28
  let c2_i32_44 : BitVec 32 := 2#32
  let v72 : BitVec 32 := Scalar.addi v55 c2_i32_44
  let c39_i32_2 : BitVec 32 := 39#32
  let c2_i32_1 : BitVec 32 := 2#32
  let v5 : BitVec 1 := Scalar.cmpi .slt v1 c2_i32_1
  let c1_i32 : BitVec 32 := 1#32
  let c0_i32 : BitVec 32 := 0#32
  let v6 : BitVec 32 := Scalar.select v5 c1_i32 c0_i32
  let v7 : BitVec 32 := Scalar.addi c39_i32_2 v6
  let v8 : BitVec 32 := Scalar.addi v4 v7
  let v73 : BitVec 1 := Scalar.cmpi .slt v72 v8
  let v74 : BitVec 32 := Scalar.extui v73
  let c0_i32_45 : BitVec 32 := 0#32
  let v75 : BitVec 1 := Scalar.cmpi .ne v74 c0_i32_45
  v75

def k2_off113 (i : grid2.Coords) (k2_t1 : Fin (k2_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c0_i32_17 : BitVec 32 := 0#32
  let c1_i32_19 : BitVec 32 := 1#32
  let arg16 : BitVec 32 := Scf.iv c0_i32_17 c1_i32_19 k2_t1
  let c2_i32_25 : BitVec 32 := 2#32
  let v49 : BitVec 32 := Scalar.muli arg16 c2_i32_25
  let v50 : BitVec 32 := Scalar.addi v4 v49
  let c1_i32_28 : BitVec 32 := 1#32
  let v55 : BitVec 32 := Scalar.addi v50 c1_i32_28
  let c2_i32_46 : BitVec 32 := 2#32
  let v76 : BitVec 32 := Scalar.addi v55 c2_i32_46
  let c80_i32_47 : BitVec 32 := 80#32
  let v77 : BitVec 32 := Scalar.muli v76 c80_i32_47
  let c0_i32_48 : BitVec 32 := 0#32
  ![v77.toNat, 0]
@[reducible] def k2_t8_loop (i : grid2.Coords) : Scf.Loop 32 :=
  let c0_i32_17 : BitVec 32 := 0#32
  let c39_i32_2 : BitVec 32 := 39#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v5 : BitVec 1 := Scalar.cmpi .slt v1 c2_i32_1
  let c1_i32 : BitVec 32 := 1#32
  let c0_i32 : BitVec 32 := 0#32
  let v6 : BitVec 32 := Scalar.select v5 c1_i32 c0_i32
  let v7 : BitVec 32 := Scalar.addi c39_i32_2 v6
  let c1_i32_8 : BitVec 32 := 1#32
  let v20 : BitVec 32 := Scalar.addi v7 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c2_i32_9 : BitVec 32 := 2#32
  let c0_i32_12 : BitVec 32 := 0#32
  let v27 : BitVec 1 := Scalar.cmpi .sgt c2_i32_9 c0_i32_12
  let v28 : BitVec 32 := Scalar.extui v27
  let c0_i32_13 : BitVec 32 := 0#32
  let v29 : BitVec 1 := Scalar.cmpi .slt c2_i32_9 c0_i32_13
  let v30 : BitVec 32 := Scalar.extui v29
  let v31 : BitVec 32 := Scalar.subi v28 v30
  let v32 : BitVec 1 := Scalar.cmpi .ne v26 v31
  let v33 : BitVec 32 := Scalar.remsi v20 c2_i32_9
  let c0_i32_14 : BitVec 32 := 0#32
  let v34 : BitVec 1 := Scalar.cmpi .ne v33 c0_i32_14
  let v35 : BitVec 1 := Scalar.andi v32 v34
  let v21 : BitVec 32 := Scalar.divsi v20 c2_i32_9
  let c1_i32_15 : BitVec 32 := 1#32
  let v36 : BitVec 32 := Scalar.subi v21 c1_i32_15
  let v37 : BitVec 32 := Scalar.select v35 v36 v21
  let v38 : BitVec 32 := Scalar.subi v37 c0_i32_17
  let c1_i32_18 : BitVec 32 := 1#32
  let v40 : BitVec 32 := Scalar.divsi v38 c1_i32_18
  let v41 : BitVec 32 := Scalar.muli v40 c1_i32_18
  let v42 : BitVec 32 := Scalar.addi c0_i32_17 v41
  let v39 : BitVec 32 := Scalar.addi c0_i32_17 v38
  let c1_i32_20 : BitVec 32 := 1#32
  ⟨v42, v39, c1_i32_20⟩
def k2_cond13 (i : grid2.Coords) (k2_t8 : Fin (k2_t8_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c0_i32_17 : BitVec 32 := 0#32
  let c39_i32_2 : BitVec 32 := 39#32
  let c2_i32_1 : BitVec 32 := 2#32
  let v5 : BitVec 1 := Scalar.cmpi .slt v1 c2_i32_1
  let c1_i32 : BitVec 32 := 1#32
  let c0_i32 : BitVec 32 := 0#32
  let v6 : BitVec 32 := Scalar.select v5 c1_i32 c0_i32
  let v7 : BitVec 32 := Scalar.addi c39_i32_2 v6
  let c1_i32_8 : BitVec 32 := 1#32
  let v20 : BitVec 32 := Scalar.addi v7 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c2_i32_9 : BitVec 32 := 2#32
  let c0_i32_12 : BitVec 32 := 0#32
  let v27 : BitVec 1 := Scalar.cmpi .sgt c2_i32_9 c0_i32_12
  let v28 : BitVec 32 := Scalar.extui v27
  let c0_i32_13 : BitVec 32 := 0#32
  let v29 : BitVec 1 := Scalar.cmpi .slt c2_i32_9 c0_i32_13
  let v30 : BitVec 32 := Scalar.extui v29
  let v31 : BitVec 32 := Scalar.subi v28 v30
  let v32 : BitVec 1 := Scalar.cmpi .ne v26 v31
  let v33 : BitVec 32 := Scalar.remsi v20 c2_i32_9
  let c0_i32_14 : BitVec 32 := 0#32
  let v34 : BitVec 1 := Scalar.cmpi .ne v33 c0_i32_14
  let v35 : BitVec 1 := Scalar.andi v32 v34
  let v21 : BitVec 32 := Scalar.divsi v20 c2_i32_9
  let c1_i32_15 : BitVec 32 := 1#32
  let v36 : BitVec 32 := Scalar.subi v21 c1_i32_15
  let v37 : BitVec 32 := Scalar.select v35 v36 v21
  let v38 : BitVec 32 := Scalar.subi v37 c0_i32_17
  let c1_i32_18 : BitVec 32 := 1#32
  let v40 : BitVec 32 := Scalar.divsi v38 c1_i32_18
  let v41 : BitVec 32 := Scalar.muli v40 c1_i32_18
  let v42 : BitVec 32 := Scalar.addi c0_i32_17 v41
  let c1_i32_20 : BitVec 32 := 1#32
  let arg16 : BitVec 32 := Scf.iv v42 c1_i32_20 k2_t8
  let c2_i32_25 : BitVec 32 := 2#32
  let v49 : BitVec 32 := Scalar.muli arg16 c2_i32_25
  let v50 : BitVec 32 := Scalar.addi v4 v49
  let c0_i32_26 : BitVec 32 := 0#32
  let v51 : BitVec 32 := Scalar.addi v50 c0_i32_26
  let v8 : BitVec 32 := Scalar.addi v4 v7
  let v52 : BitVec 1 := Scalar.cmpi .slt v51 v8
  let v53 : BitVec 32 := Scalar.extui v52
  let c0_i32_27 : BitVec 32 := 0#32
  let v54 : BitVec 1 := Scalar.cmpi .ne v53 c0_i32_27
  v54

@[reducible] def k2_t9_loop : Scf.Loop 32 :=
  let c0_i32_38 : BitVec 32 := 0#32
  let c5_i32 : BitVec 32 := 5#32
  let v68 : BitVec 32 := Scalar.addi c0_i32_38 c5_i32
  let c1_i32_39 : BitVec 32 := 1#32
  ⟨c0_i32_38, v68, c1_i32_39⟩
def k2_off114 (i : grid2.Coords) (k2_t8 : Fin (k2_t8_loop i).trips) (k2_t9 : Fin k2_t9_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c80_i32_7 : BitVec 32 := 80#32
  let v18 : BitVec 32 := Scalar.muli v4 c80_i32_7
  let c80_i32 : BitVec 32 := 80#32
  let v15 : BitVec 32 := Scalar.muli v4 c80_i32
  let c96800_i32 : BitVec 32 := 96800#32
  let v16 : BitVec 32 := Scalar.minsi v15 c96800_i32
  let v17 : BitVec 32 := v16
  let v19 : BitVec 32 := Scalar.subi v18 v17
  let c0_i32_17 : BitVec 32 := 0#32
  let c39_i32_2 : BitVec 32 := 39#32
  let c2_i32_1 : BitVec 32 := 2#32
  let v5 : BitVec 1 := Scalar.cmpi .slt v1 c2_i32_1
  let c1_i32 : BitVec 32 := 1#32
  let c0_i32 : BitVec 32 := 0#32
  let v6 : BitVec 32 := Scalar.select v5 c1_i32 c0_i32
  let v7 : BitVec 32 := Scalar.addi c39_i32_2 v6
  let c1_i32_8 : BitVec 32 := 1#32
  let v20 : BitVec 32 := Scalar.addi v7 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c2_i32_9 : BitVec 32 := 2#32
  let c0_i32_12 : BitVec 32 := 0#32
  let v27 : BitVec 1 := Scalar.cmpi .sgt c2_i32_9 c0_i32_12
  let v28 : BitVec 32 := Scalar.extui v27
  let c0_i32_13 : BitVec 32 := 0#32
  let v29 : BitVec 1 := Scalar.cmpi .slt c2_i32_9 c0_i32_13
  let v30 : BitVec 32 := Scalar.extui v29
  let v31 : BitVec 32 := Scalar.subi v28 v30
  let v32 : BitVec 1 := Scalar.cmpi .ne v26 v31
  let v33 : BitVec 32 := Scalar.remsi v20 c2_i32_9
  let c0_i32_14 : BitVec 32 := 0#32
  let v34 : BitVec 1 := Scalar.cmpi .ne v33 c0_i32_14
  let v35 : BitVec 1 := Scalar.andi v32 v34
  let v21 : BitVec 32 := Scalar.divsi v20 c2_i32_9
  let c1_i32_15 : BitVec 32 := 1#32
  let v36 : BitVec 32 := Scalar.subi v21 c1_i32_15
  let v37 : BitVec 32 := Scalar.select v35 v36 v21
  let v38 : BitVec 32 := Scalar.subi v37 c0_i32_17
  let c1_i32_18 : BitVec 32 := 1#32
  let v40 : BitVec 32 := Scalar.divsi v38 c1_i32_18
  let v41 : BitVec 32 := Scalar.muli v40 c1_i32_18
  let v42 : BitVec 32 := Scalar.addi c0_i32_17 v41
  let c1_i32_20 : BitVec 32 := 1#32
  let arg16 : BitVec 32 := Scf.iv v42 c1_i32_20 k2_t8
  let c2_i32_25 : BitVec 32 := 2#32
  let v49 : BitVec 32 := Scalar.muli arg16 c2_i32_25
  let v50 : BitVec 32 := Scalar.addi v4 v49
  let c0_i32_26 : BitVec 32 := 0#32
  let v51 : BitVec 32 := Scalar.addi v50 c0_i32_26
  let v59 : BitVec 32 := Scalar.subi v51 v4
  let c80_i32_30 : BitVec 32 := 80#32
  let v60 : BitVec 32 := Scalar.muli v59 c80_i32_30
  let v61 : BitVec 32 := Scalar.addi v19 v60
  let c0_i32_38 : BitVec 32 := 0#32
  let c1_i32_39 : BitVec 32 := 1#32
  let arg17 : BitVec 32 := Scf.iv c0_i32_38 c1_i32_39 k2_t9
  let c16_i32 : BitVec 32 := 16#32
  let v76 : BitVec 32 := Scalar.muli arg17 c16_i32
  let v77 : BitVec 32 := Scalar.addi v61 v76
  let v78 : Index := Scalar.indexCast v77
  ![v78.toNat]
def k2_off115 (v82 : BitVec 32) : Fin 2 → Nat :=
  let v91 : Index := Scalar.indexCast v82
  let c0 : Index := 0#32
  ![v91.toNat, 0]
def k2_cond15 (v82 : BitVec 32) (v84 : BitVec 32) : BitVec 1 :=
  let v85 : BitVec 1 := Scalar.cmpi .eq v82 v84
  let v86 : BitVec 32 := Scalar.extui v85
  let c0_i32_46 : BitVec 32 := 0#32
  let v87 : BitVec 1 := Scalar.cmpi .ne v86 c0_i32_46
  v87

def k2_off116 (k2_t9 : Fin k2_t9_loop.trips) (c0_i32_48 : BitVec 32) : Fin 2 → Nat :=
  let c0_i32_38 : BitVec 32 := 0#32
  let c1_i32_39 : BitVec 32 := 1#32
  let arg17 : BitVec 32 := Scf.iv c0_i32_38 c1_i32_39 k2_t9
  let c4_i32 : BitVec 32 := 4#32
  let v94 : BitVec 32 := Scalar.shli arg17 c4_i32
  let v95 : BitVec 32 := Scalar.addi v94 c0_i32_48
  let v96 : Index := Scalar.indexCast v95
  let c0_49 : Index := 0#32
  ![v96.toNat, 0]
def k2_off117 (v82 : BitVec 32) : Fin 2 → Nat :=
  let v286 : Index := Scalar.indexCast v82
  let c16 : Index := 16#32
  ![v286.toNat, 16]
def k2_off118 (k2_t9 : Fin k2_t9_loop.trips) (c0_i32_133 : BitVec 32) : Fin 2 → Nat :=
  let c0_i32_38 : BitVec 32 := 0#32
  let c1_i32_39 : BitVec 32 := 1#32
  let arg17 : BitVec 32 := Scf.iv c0_i32_38 c1_i32_39 k2_t9
  let c4_i32_132 : BitVec 32 := 4#32
  let v289 : BitVec 32 := Scalar.shli arg17 c4_i32_132
  let v290 : BitVec 32 := Scalar.addi v289 c0_i32_133
  let v291 : Index := Scalar.indexCast v290
  let c16_134 : Index := 16#32
  ![v291.toNat, 16]
def k2_off119 (v82 : BitVec 32) : Fin 2 → Nat :=
  let v481 : Index := Scalar.indexCast v82
  let c32 : Index := 32#32
  ![v481.toNat, 32]
def k2_off120 (k2_t9 : Fin k2_t9_loop.trips) (c0_i32_229 : BitVec 32) : Fin 2 → Nat :=
  let c0_i32_38 : BitVec 32 := 0#32
  let c1_i32_39 : BitVec 32 := 1#32
  let arg17 : BitVec 32 := Scf.iv c0_i32_38 c1_i32_39 k2_t9
  let c4_i32_228 : BitVec 32 := 4#32
  let v484 : BitVec 32 := Scalar.shli arg17 c4_i32_228
  let v485 : BitVec 32 := Scalar.addi v484 c0_i32_229
  let v486 : Index := Scalar.indexCast v485
  let c32_230 : Index := 32#32
  ![v486.toNat, 32]
def k2_off121 (v82 : BitVec 32) : Fin 2 → Nat :=
  let v676 : Index := Scalar.indexCast v82
  let c48 : Index := 48#32
  ![v676.toNat, 48]
def k2_off122 (k2_t9 : Fin k2_t9_loop.trips) (c0_i32_325 : BitVec 32) : Fin 2 → Nat :=
  let c0_i32_38 : BitVec 32 := 0#32
  let c1_i32_39 : BitVec 32 := 1#32
  let arg17 : BitVec 32 := Scf.iv c0_i32_38 c1_i32_39 k2_t9
  let c4_i32_324 : BitVec 32 := 4#32
  let v679 : BitVec 32 := Scalar.shli arg17 c4_i32_324
  let v680 : BitVec 32 := Scalar.addi v679 c0_i32_325
  let v681 : Index := Scalar.indexCast v680
  let c48_326 : Index := 48#32
  ![v681.toNat, 48]
def k2_off123 (v82 : BitVec 32) : Fin 2 → Nat :=
  let v871 : Index := Scalar.indexCast v82
  let c64 : Index := 64#32
  ![v871.toNat, 64]
def k2_off124 (k2_t9 : Fin k2_t9_loop.trips) (c0_i32_421 : BitVec 32) : Fin 2 → Nat :=
  let c0_i32_38 : BitVec 32 := 0#32
  let c1_i32_39 : BitVec 32 := 1#32
  let arg17 : BitVec 32 := Scf.iv c0_i32_38 c1_i32_39 k2_t9
  let c4_i32_420 : BitVec 32 := 4#32
  let v874 : BitVec 32 := Scalar.shli arg17 c4_i32_420
  let v875 : BitVec 32 := Scalar.addi v874 c0_i32_421
  let v876 : Index := Scalar.indexCast v875
  let c64_422 : Index := 64#32
  ![v876.toNat, 64]
def k2_off125 (v82 : BitVec 32) : Fin 2 → Nat :=
  let v1066 : Index := Scalar.indexCast v82
  let c80 : Index := 80#32
  ![v1066.toNat, 80]
def k2_off126 (k2_t9 : Fin k2_t9_loop.trips) (c0_i32_517 : BitVec 32) : Fin 2 → Nat :=
  let c0_i32_38 : BitVec 32 := 0#32
  let c1_i32_39 : BitVec 32 := 1#32
  let arg17 : BitVec 32 := Scf.iv c0_i32_38 c1_i32_39 k2_t9
  let c4_i32_516 : BitVec 32 := 4#32
  let v1069 : BitVec 32 := Scalar.shli arg17 c4_i32_516
  let v1070 : BitVec 32 := Scalar.addi v1069 c0_i32_517
  let v1071 : Index := Scalar.indexCast v1070
  let c80_518 : Index := 80#32
  ![v1071.toNat, 80]
def k2_off127 (v82 : BitVec 32) : Fin 2 → Nat :=
  let v1261 : Index := Scalar.indexCast v82
  let c96 : Index := 96#32
  ![v1261.toNat, 96]
def k2_off128 (k2_t9 : Fin k2_t9_loop.trips) (c0_i32_613 : BitVec 32) : Fin 2 → Nat :=
  let c0_i32_38 : BitVec 32 := 0#32
  let c1_i32_39 : BitVec 32 := 1#32
  let arg17 : BitVec 32 := Scf.iv c0_i32_38 c1_i32_39 k2_t9
  let c4_i32_612 : BitVec 32 := 4#32
  let v1264 : BitVec 32 := Scalar.shli arg17 c4_i32_612
  let v1265 : BitVec 32 := Scalar.addi v1264 c0_i32_613
  let v1266 : Index := Scalar.indexCast v1265
  let c96_614 : Index := 96#32
  ![v1266.toNat, 96]
def k2_off129 (v82 : BitVec 32) : Fin 2 → Nat :=
  let v1456 : Index := Scalar.indexCast v82
  let c112 : Index := 112#32
  ![v1456.toNat, 112]

def k2_chk7 (i : grid2.Coords) (k2_t8 : Fin (k2_t8_loop i).trips) (v82 : BitVec 32) (v84 : BitVec 32) : Prop :=
  (∀ (k2_h13 : k2_cond13 i k2_t8 = 1#1), ∀ (k2_h15 : k2_cond15 v82 v84 = 1#1), ∀ a, (k2_off115 v82) a + S1x16.size a ≤ S512x128.size a) ∧
  (∀ (k2_h13 : k2_cond13 i k2_t8 = 1#1), ∀ (k2_h15 : k2_cond15 v82 v84 = 1#1), ∀ a, (k2_off117 v82) a + S1x16.size a ≤ S512x128.size a) ∧
  (∀ (k2_h13 : k2_cond13 i k2_t8 = 1#1), ∀ (k2_h15 : k2_cond15 v82 v84 = 1#1), ∀ a, (k2_off119 v82) a + S1x16.size a ≤ S512x128.size a) ∧
  (∀ (k2_h13 : k2_cond13 i k2_t8 = 1#1), ∀ (k2_h15 : k2_cond15 v82 v84 = 1#1), ∀ a, (k2_off121 v82) a + S1x16.size a ≤ S512x128.size a) ∧
  (∀ (k2_h13 : k2_cond13 i k2_t8 = 1#1), ∀ (k2_h15 : k2_cond15 v82 v84 = 1#1), ∀ a, (k2_off123 v82) a + S1x16.size a ≤ S512x128.size a) ∧
  (∀ (k2_h13 : k2_cond13 i k2_t8 = 1#1), ∀ (k2_h15 : k2_cond15 v82 v84 = 1#1), ∀ a, (k2_off125 v82) a + S1x16.size a ≤ S512x128.size a) ∧
  (∀ (k2_h13 : k2_cond13 i k2_t8 = 1#1), ∀ (k2_h15 : k2_cond15 v82 v84 = 1#1), ∀ a, (k2_off127 v82) a + S1x16.size a ≤ S512x128.size a) ∧
  (∀ (k2_h13 : k2_cond13 i k2_t8 = 1#1), ∀ (k2_h15 : k2_cond15 v82 v84 = 1#1), ∀ a, (k2_off129 v82) a + S1x16.size a ≤ S512x128.size a)
theorem k2_off115_inb : ∀ (i : grid2.Coords) (k2_t8 : Fin (k2_t8_loop i).trips) (v82 : BitVec 32) (v84 : BitVec 32) (k2_hw7 : k2_chk7 i k2_t8 v82 v84), ∀ (k2_h13 : k2_cond13 i k2_t8 = 1#1), ∀ (k2_h15 : k2_cond15 v82 v84 = 1#1), ∀ a, (k2_off115 v82) a + S1x16.size a ≤ S512x128.size a := fun i k2_t8 v82 v84 k2_hw7 k2_h13 k2_h15 => k2_hw7.1 k2_h13 k2_h15
theorem k2_off117_inb : ∀ (i : grid2.Coords) (k2_t8 : Fin (k2_t8_loop i).trips) (v82 : BitVec 32) (v84 : BitVec 32) (k2_hw7 : k2_chk7 i k2_t8 v82 v84), ∀ (k2_h13 : k2_cond13 i k2_t8 = 1#1), ∀ (k2_h15 : k2_cond15 v82 v84 = 1#1), ∀ a, (k2_off117 v82) a + S1x16.size a ≤ S512x128.size a := fun i k2_t8 v82 v84 k2_hw7 k2_h13 k2_h15 => k2_hw7.2.1 k2_h13 k2_h15
theorem k2_off119_inb : ∀ (i : grid2.Coords) (k2_t8 : Fin (k2_t8_loop i).trips) (v82 : BitVec 32) (v84 : BitVec 32) (k2_hw7 : k2_chk7 i k2_t8 v82 v84), ∀ (k2_h13 : k2_cond13 i k2_t8 = 1#1), ∀ (k2_h15 : k2_cond15 v82 v84 = 1#1), ∀ a, (k2_off119 v82) a + S1x16.size a ≤ S512x128.size a := fun i k2_t8 v82 v84 k2_hw7 k2_h13 k2_h15 => k2_hw7.2.2.1 k2_h13 k2_h15
theorem k2_off121_inb : ∀ (i : grid2.Coords) (k2_t8 : Fin (k2_t8_loop i).trips) (v82 : BitVec 32) (v84 : BitVec 32) (k2_hw7 : k2_chk7 i k2_t8 v82 v84), ∀ (k2_h13 : k2_cond13 i k2_t8 = 1#1), ∀ (k2_h15 : k2_cond15 v82 v84 = 1#1), ∀ a, (k2_off121 v82) a + S1x16.size a ≤ S512x128.size a := fun i k2_t8 v82 v84 k2_hw7 k2_h13 k2_h15 => k2_hw7.2.2.2.1 k2_h13 k2_h15
theorem k2_off123_inb : ∀ (i : grid2.Coords) (k2_t8 : Fin (k2_t8_loop i).trips) (v82 : BitVec 32) (v84 : BitVec 32) (k2_hw7 : k2_chk7 i k2_t8 v82 v84), ∀ (k2_h13 : k2_cond13 i k2_t8 = 1#1), ∀ (k2_h15 : k2_cond15 v82 v84 = 1#1), ∀ a, (k2_off123 v82) a + S1x16.size a ≤ S512x128.size a := fun i k2_t8 v82 v84 k2_hw7 k2_h13 k2_h15 => k2_hw7.2.2.2.2.1 k2_h13 k2_h15
theorem k2_off125_inb : ∀ (i : grid2.Coords) (k2_t8 : Fin (k2_t8_loop i).trips) (v82 : BitVec 32) (v84 : BitVec 32) (k2_hw7 : k2_chk7 i k2_t8 v82 v84), ∀ (k2_h13 : k2_cond13 i k2_t8 = 1#1), ∀ (k2_h15 : k2_cond15 v82 v84 = 1#1), ∀ a, (k2_off125 v82) a + S1x16.size a ≤ S512x128.size a := fun i k2_t8 v82 v84 k2_hw7 k2_h13 k2_h15 => k2_hw7.2.2.2.2.2.1 k2_h13 k2_h15
theorem k2_off127_inb : ∀ (i : grid2.Coords) (k2_t8 : Fin (k2_t8_loop i).trips) (v82 : BitVec 32) (v84 : BitVec 32) (k2_hw7 : k2_chk7 i k2_t8 v82 v84), ∀ (k2_h13 : k2_cond13 i k2_t8 = 1#1), ∀ (k2_h15 : k2_cond15 v82 v84 = 1#1), ∀ a, (k2_off127 v82) a + S1x16.size a ≤ S512x128.size a := fun i k2_t8 v82 v84 k2_hw7 k2_h13 k2_h15 => k2_hw7.2.2.2.2.2.2.1 k2_h13 k2_h15
theorem k2_off129_inb : ∀ (i : grid2.Coords) (k2_t8 : Fin (k2_t8_loop i).trips) (v82 : BitVec 32) (v84 : BitVec 32) (k2_hw7 : k2_chk7 i k2_t8 v82 v84), ∀ (k2_h13 : k2_cond13 i k2_t8 = 1#1), ∀ (k2_h15 : k2_cond15 v82 v84 = 1#1), ∀ a, (k2_off129 v82) a + S1x16.size a ≤ S512x128.size a := fun i k2_t8 v82 v84 k2_hw7 k2_h13 k2_h15 => k2_hw7.2.2.2.2.2.2.2 k2_h13 k2_h15

def k2_off130 (k2_t9 : Fin k2_t9_loop.trips) (c0_i32_709 : BitVec 32) : Fin 2 → Nat :=
  let c0_i32_38 : BitVec 32 := 0#32
  let c1_i32_39 : BitVec 32 := 1#32
  let arg17 : BitVec 32 := Scf.iv c0_i32_38 c1_i32_39 k2_t9
  let c4_i32_708 : BitVec 32 := 4#32
  let v1459 : BitVec 32 := Scalar.shli arg17 c4_i32_708
  let v1460 : BitVec 32 := Scalar.addi v1459 c0_i32_709
  let v1461 : Index := Scalar.indexCast v1460
  let c112_710 : Index := 112#32
  ![v1461.toNat, 112]
@[reducible] def k2_t10_loop (k2_t9 : Fin k2_t9_loop.trips) : Scf.Loop 32 :=
  let c0_i32_38 : BitVec 32 := 0#32
  let c1_i32_39 : BitVec 32 := 1#32
  let arg17 : BitVec 32 := Scf.iv c0_i32_38 c1_i32_39 k2_t9
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_52 : BitVec 32 := 1#32
  ⟨v91, v98, c1_i32_52⟩
def k2_off131 (i : grid2.Coords) (k2_t8 : Fin (k2_t8_loop i).trips) (k2_t9 : Fin k2_t9_loop.trips) (k2_t10 : Fin (k2_t10_loop k2_t9).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c80_i32_7 : BitVec 32 := 80#32
  let v18 : BitVec 32 := Scalar.muli v4 c80_i32_7
  let c80_i32 : BitVec 32 := 80#32
  let v15 : BitVec 32 := Scalar.muli v4 c80_i32
  let c96800_i32 : BitVec 32 := 96800#32
  let v16 : BitVec 32 := Scalar.minsi v15 c96800_i32
  let v17 : BitVec 32 := v16
  let v19 : BitVec 32 := Scalar.subi v18 v17
  let c0_i32_17 : BitVec 32 := 0#32
  let c39_i32_2 : BitVec 32 := 39#32
  let c2_i32_1 : BitVec 32 := 2#32
  let v5 : BitVec 1 := Scalar.cmpi .slt v1 c2_i32_1
  let c1_i32 : BitVec 32 := 1#32
  let c0_i32 : BitVec 32 := 0#32
  let v6 : BitVec 32 := Scalar.select v5 c1_i32 c0_i32
  let v7 : BitVec 32 := Scalar.addi c39_i32_2 v6
  let c1_i32_8 : BitVec 32 := 1#32
  let v20 : BitVec 32 := Scalar.addi v7 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c2_i32_9 : BitVec 32 := 2#32
  let c0_i32_12 : BitVec 32 := 0#32
  let v27 : BitVec 1 := Scalar.cmpi .sgt c2_i32_9 c0_i32_12
  let v28 : BitVec 32 := Scalar.extui v27
  let c0_i32_13 : BitVec 32 := 0#32
  let v29 : BitVec 1 := Scalar.cmpi .slt c2_i32_9 c0_i32_13
  let v30 : BitVec 32 := Scalar.extui v29
  let v31 : BitVec 32 := Scalar.subi v28 v30
  let v32 : BitVec 1 := Scalar.cmpi .ne v26 v31
  let v33 : BitVec 32 := Scalar.remsi v20 c2_i32_9
  let c0_i32_14 : BitVec 32 := 0#32
  let v34 : BitVec 1 := Scalar.cmpi .ne v33 c0_i32_14
  let v35 : BitVec 1 := Scalar.andi v32 v34
  let v21 : BitVec 32 := Scalar.divsi v20 c2_i32_9
  let c1_i32_15 : BitVec 32 := 1#32
  let v36 : BitVec 32 := Scalar.subi v21 c1_i32_15
  let v37 : BitVec 32 := Scalar.select v35 v36 v21
  let v38 : BitVec 32 := Scalar.subi v37 c0_i32_17
  let c1_i32_18 : BitVec 32 := 1#32
  let v40 : BitVec 32 := Scalar.divsi v38 c1_i32_18
  let v41 : BitVec 32 := Scalar.muli v40 c1_i32_18
  let v42 : BitVec 32 := Scalar.addi c0_i32_17 v41
  let c1_i32_20 : BitVec 32 := 1#32
  let arg16 : BitVec 32 := Scf.iv v42 c1_i32_20 k2_t8
  let c2_i32_25 : BitVec 32 := 2#32
  let v49 : BitVec 32 := Scalar.muli arg16 c2_i32_25
  let v50 : BitVec 32 := Scalar.addi v4 v49
  let c0_i32_26 : BitVec 32 := 0#32
  let v51 : BitVec 32 := Scalar.addi v50 c0_i32_26
  let v59 : BitVec 32 := Scalar.subi v51 v4
  let c80_i32_30 : BitVec 32 := 80#32
  let v60 : BitVec 32 := Scalar.muli v59 c80_i32_30
  let v61 : BitVec 32 := Scalar.addi v19 v60
  let c0_i32_38 : BitVec 32 := 0#32
  let c1_i32_39 : BitVec 32 := 1#32
  let arg17 : BitVec 32 := Scf.iv c0_i32_38 c1_i32_39 k2_t9
  let c4_i32 : BitVec 32 := 4#32
  let v91 : BitVec 32 := Scalar.shli arg17 c4_i32
  let c1_i32_52 : BitVec 32 := 1#32
  let arg18 : BitVec 32 := Scf.iv v91 c1_i32_52 k2_t10
  let v99 : BitVec 32 := Scalar.addi v61 arg18
  let v100 : Index := Scalar.indexCast v99
  ![v100.toNat]
def k2_off132 (k2_t9 : Fin k2_t9_loop.trips) (k2_t10 : Fin (k2_t10_loop k2_t9).trips) : Fin 2 → Nat :=
  let c0_i32_38 : BitVec 32 := 0#32
  let c1_i32_39 : BitVec 32 := 1#32
  let arg17 : BitVec 32 := Scf.iv c0_i32_38 c1_i32_39 k2_t9
  let c4_i32 : BitVec 32 := 4#32
  let v91 : BitVec 32 := Scalar.shli arg17 c4_i32
  let c1_i32_52 : BitVec 32 := 1#32
  let arg18 : BitVec 32 := Scf.iv v91 c1_i32_52 k2_t10
  let v105 : Index := Scalar.indexCast arg18
  let c0 : Index := 0#32
  ![v105.toNat, 0]
def k2_off133 (v104 : BitVec 32) : Fin 2 → Nat :=
  let v108 : Index := Scalar.indexCast v104
  let c0_54 : Index := 0#32
  ![v108.toNat, 0]
def k2_cond16 (v82 : BitVec 32) (v84 : BitVec 32) : BitVec 1 :=
  let v85 : BitVec 1 := Scalar.cmpi .eq v82 v84
  let v_true : BitVec 1 := 1#1
  let v88 : BitVec 1 := Scalar.xori v85 v_true
  let v89 : BitVec 32 := Scalar.extui v88
  let c0_i32_47 : BitVec 32 := 0#32
  let v90 : BitVec 1 := Scalar.cmpi .ne v89 c0_i32_47
  v90

def k2_off134 (k2_t9 : Fin k2_t9_loop.trips) (k2_t10 : Fin (k2_t10_loop k2_t9).trips) : Fin 2 → Nat :=
  let c0_i32_38 : BitVec 32 := 0#32
  let c1_i32_39 : BitVec 32 := 1#32
  let arg17 : BitVec 32 := Scf.iv c0_i32_38 c1_i32_39 k2_t9
  let c4_i32 : BitVec 32 := 4#32
  let v91 : BitVec 32 := Scalar.shli arg17 c4_i32
  let c1_i32_52 : BitVec 32 := 1#32
  let arg18 : BitVec 32 := Scf.iv v91 c1_i32_52 k2_t10
  let v112 : Index := Scalar.indexCast arg18
  let c0_55 : Index := 0#32
  ![v112.toNat, 0]
def k2_off135 (k2_t9 : Fin k2_t9_loop.trips) (k2_t10 : Fin (k2_t10_loop k2_t9).trips) : Fin 2 → Nat :=
  let c0_i32_38 : BitVec 32 := 0#32
  let c1_i32_39 : BitVec 32 := 1#32
  let arg17 : BitVec 32 := Scf.iv c0_i32_38 c1_i32_39 k2_t9
  let c4_i32 : BitVec 32 := 4#32
  let v91 : BitVec 32 := Scalar.shli arg17 c4_i32
  let c1_i32_52 : BitVec 32 := 1#32
  let arg18 : BitVec 32 := Scf.iv v91 c1_i32_52 k2_t10
  let v116 : Index := Scalar.indexCast arg18
  let c16 : Index := 16#32
  ![v116.toNat, 16]
def k2_off136 (v104 : BitVec 32) : Fin 2 → Nat :=
  let v119 : Index := Scalar.indexCast v104
  let c16_56 : Index := 16#32
  ![v119.toNat, 16]
def k2_off137 (k2_t9 : Fin k2_t9_loop.trips) (k2_t10 : Fin (k2_t10_loop k2_t9).trips) : Fin 2 → Nat :=
  let c0_i32_38 : BitVec 32 := 0#32
  let c1_i32_39 : BitVec 32 := 1#32
  let arg17 : BitVec 32 := Scf.iv c0_i32_38 c1_i32_39 k2_t9
  let c4_i32 : BitVec 32 := 4#32
  let v91 : BitVec 32 := Scalar.shli arg17 c4_i32
  let c1_i32_52 : BitVec 32 := 1#32
  let arg18 : BitVec 32 := Scf.iv v91 c1_i32_52 k2_t10
  let v127 : Index := Scalar.indexCast arg18
  let c32 : Index := 32#32
  ![v127.toNat, 32]
def k2_off138 (v104 : BitVec 32) : Fin 2 → Nat :=
  let v130 : Index := Scalar.indexCast v104
  let c32_58 : Index := 32#32
  ![v130.toNat, 32]
def k2_off139 (k2_t9 : Fin k2_t9_loop.trips) (k2_t10 : Fin (k2_t10_loop k2_t9).trips) : Fin 2 → Nat :=
  let c0_i32_38 : BitVec 32 := 0#32
  let c1_i32_39 : BitVec 32 := 1#32
  let arg17 : BitVec 32 := Scf.iv c0_i32_38 c1_i32_39 k2_t9
  let c4_i32 : BitVec 32 := 4#32
  let v91 : BitVec 32 := Scalar.shli arg17 c4_i32
  let c1_i32_52 : BitVec 32 := 1#32
  let arg18 : BitVec 32 := Scf.iv v91 c1_i32_52 k2_t10
  let v138 : Index := Scalar.indexCast arg18
  let c48 : Index := 48#32
  ![v138.toNat, 48]
def k2_off140 (v104 : BitVec 32) : Fin 2 → Nat :=
  let v141 : Index := Scalar.indexCast v104
  let c48_60 : Index := 48#32
  ![v141.toNat, 48]
def k2_off141 (k2_t9 : Fin k2_t9_loop.trips) (k2_t10 : Fin (k2_t10_loop k2_t9).trips) : Fin 2 → Nat :=
  let c0_i32_38 : BitVec 32 := 0#32
  let c1_i32_39 : BitVec 32 := 1#32
  let arg17 : BitVec 32 := Scf.iv c0_i32_38 c1_i32_39 k2_t9
  let c4_i32 : BitVec 32 := 4#32
  let v91 : BitVec 32 := Scalar.shli arg17 c4_i32
  let c1_i32_52 : BitVec 32 := 1#32
  let arg18 : BitVec 32 := Scf.iv v91 c1_i32_52 k2_t10
  let v149 : Index := Scalar.indexCast arg18
  let c64 : Index := 64#32
  ![v149.toNat, 64]
def k2_off142 (v104 : BitVec 32) : Fin 2 → Nat :=
  let v152 : Index := Scalar.indexCast v104
  let c64_62 : Index := 64#32
  ![v152.toNat, 64]
def k2_off143 (k2_t9 : Fin k2_t9_loop.trips) (k2_t10 : Fin (k2_t10_loop k2_t9).trips) : Fin 2 → Nat :=
  let c0_i32_38 : BitVec 32 := 0#32
  let c1_i32_39 : BitVec 32 := 1#32
  let arg17 : BitVec 32 := Scf.iv c0_i32_38 c1_i32_39 k2_t9
  let c4_i32 : BitVec 32 := 4#32
  let v91 : BitVec 32 := Scalar.shli arg17 c4_i32
  let c1_i32_52 : BitVec 32 := 1#32
  let arg18 : BitVec 32 := Scf.iv v91 c1_i32_52 k2_t10
  let v160 : Index := Scalar.indexCast arg18
  let c80 : Index := 80#32
  ![v160.toNat, 80]
def k2_off144 (v104 : BitVec 32) : Fin 2 → Nat :=
  let v163 : Index := Scalar.indexCast v104
  let c80_64 : Index := 80#32
  ![v163.toNat, 80]
def k2_off145 (k2_t9 : Fin k2_t9_loop.trips) (k2_t10 : Fin (k2_t10_loop k2_t9).trips) : Fin 2 → Nat :=
  let c0_i32_38 : BitVec 32 := 0#32
  let c1_i32_39 : BitVec 32 := 1#32
  let arg17 : BitVec 32 := Scf.iv c0_i32_38 c1_i32_39 k2_t9
  let c4_i32 : BitVec 32 := 4#32
  let v91 : BitVec 32 := Scalar.shli arg17 c4_i32
  let c1_i32_52 : BitVec 32 := 1#32
  let arg18 : BitVec 32 := Scf.iv v91 c1_i32_52 k2_t10
  let v171 : Index := Scalar.indexCast arg18
  let c96 : Index := 96#32
  ![v171.toNat, 96]
def k2_off146 (v104 : BitVec 32) : Fin 2 → Nat :=
  let v174 : Index := Scalar.indexCast v104
  let c96_66 : Index := 96#32
  ![v174.toNat, 96]
def k2_off147 (k2_t9 : Fin k2_t9_loop.trips) (k2_t10 : Fin (k2_t10_loop k2_t9).trips) : Fin 2 → Nat :=
  let c0_i32_38 : BitVec 32 := 0#32
  let c1_i32_39 : BitVec 32 := 1#32
  let arg17 : BitVec 32 := Scf.iv c0_i32_38 c1_i32_39 k2_t9
  let c4_i32 : BitVec 32 := 4#32
  let v91 : BitVec 32 := Scalar.shli arg17 c4_i32
  let c1_i32_52 : BitVec 32 := 1#32
  let arg18 : BitVec 32 := Scf.iv v91 c1_i32_52 k2_t10
  let v182 : Index := Scalar.indexCast arg18
  let c112 : Index := 112#32
  ![v182.toNat, 112]
def k2_off148 (v104 : BitVec 32) : Fin 2 → Nat :=
  let v185 : Index := Scalar.indexCast v104
  let c112_68 : Index := 112#32
  ![v185.toNat, 112]

def k2_chk8 (i : grid2.Coords) (k2_t8 : Fin (k2_t8_loop i).trips) (k2_t9 : Fin k2_t9_loop.trips) (v82 : BitVec 32) (v84 : BitVec 32) (k2_t10 : Fin (k2_t10_loop k2_t9).trips) (v104 : BitVec 32) : Prop :=
  (∀ (k2_h13 : k2_cond13 i k2_t8 = 1#1), ∀ (k2_h16 : k2_cond16 v82 v84 = 1#1), ∀ a, (k2_off133 v104) a + S1x16.size a ≤ S512x128.size a) ∧
  (∀ (k2_h13 : k2_cond13 i k2_t8 = 1#1), ∀ (k2_h16 : k2_cond16 v82 v84 = 1#1), ∀ a, (k2_off136 v104) a + S1x16.size a ≤ S512x128.size a) ∧
  (∀ (k2_h13 : k2_cond13 i k2_t8 = 1#1), ∀ (k2_h16 : k2_cond16 v82 v84 = 1#1), ∀ a, (k2_off138 v104) a + S1x16.size a ≤ S512x128.size a) ∧
  (∀ (k2_h13 : k2_cond13 i k2_t8 = 1#1), ∀ (k2_h16 : k2_cond16 v82 v84 = 1#1), ∀ a, (k2_off140 v104) a + S1x16.size a ≤ S512x128.size a) ∧
  (∀ (k2_h13 : k2_cond13 i k2_t8 = 1#1), ∀ (k2_h16 : k2_cond16 v82 v84 = 1#1), ∀ a, (k2_off142 v104) a + S1x16.size a ≤ S512x128.size a) ∧
  (∀ (k2_h13 : k2_cond13 i k2_t8 = 1#1), ∀ (k2_h16 : k2_cond16 v82 v84 = 1#1), ∀ a, (k2_off144 v104) a + S1x16.size a ≤ S512x128.size a) ∧
  (∀ (k2_h13 : k2_cond13 i k2_t8 = 1#1), ∀ (k2_h16 : k2_cond16 v82 v84 = 1#1), ∀ a, (k2_off146 v104) a + S1x16.size a ≤ S512x128.size a) ∧
  (∀ (k2_h13 : k2_cond13 i k2_t8 = 1#1), ∀ (k2_h16 : k2_cond16 v82 v84 = 1#1), ∀ a, (k2_off148 v104) a + S1x16.size a ≤ S512x128.size a)
theorem k2_off133_inb : ∀ (i : grid2.Coords) (k2_t8 : Fin (k2_t8_loop i).trips) (k2_t9 : Fin k2_t9_loop.trips) (v82 : BitVec 32) (v84 : BitVec 32) (k2_t10 : Fin (k2_t10_loop k2_t9).trips) (v104 : BitVec 32) (k2_hw8 : k2_chk8 i k2_t8 k2_t9 v82 v84 k2_t10 v104), ∀ (k2_h13 : k2_cond13 i k2_t8 = 1#1), ∀ (k2_h16 : k2_cond16 v82 v84 = 1#1), ∀ a, (k2_off133 v104) a + S1x16.size a ≤ S512x128.size a := fun i k2_t8 k2_t9 v82 v84 k2_t10 v104 k2_hw8 k2_h13 k2_h16 => k2_hw8.1 k2_h13 k2_h16
theorem k2_off136_inb : ∀ (i : grid2.Coords) (k2_t8 : Fin (k2_t8_loop i).trips) (k2_t9 : Fin k2_t9_loop.trips) (v82 : BitVec 32) (v84 : BitVec 32) (k2_t10 : Fin (k2_t10_loop k2_t9).trips) (v104 : BitVec 32) (k2_hw8 : k2_chk8 i k2_t8 k2_t9 v82 v84 k2_t10 v104), ∀ (k2_h13 : k2_cond13 i k2_t8 = 1#1), ∀ (k2_h16 : k2_cond16 v82 v84 = 1#1), ∀ a, (k2_off136 v104) a + S1x16.size a ≤ S512x128.size a := fun i k2_t8 k2_t9 v82 v84 k2_t10 v104 k2_hw8 k2_h13 k2_h16 => k2_hw8.2.1 k2_h13 k2_h16
theorem k2_off138_inb : ∀ (i : grid2.Coords) (k2_t8 : Fin (k2_t8_loop i).trips) (k2_t9 : Fin k2_t9_loop.trips) (v82 : BitVec 32) (v84 : BitVec 32) (k2_t10 : Fin (k2_t10_loop k2_t9).trips) (v104 : BitVec 32) (k2_hw8 : k2_chk8 i k2_t8 k2_t9 v82 v84 k2_t10 v104), ∀ (k2_h13 : k2_cond13 i k2_t8 = 1#1), ∀ (k2_h16 : k2_cond16 v82 v84 = 1#1), ∀ a, (k2_off138 v104) a + S1x16.size a ≤ S512x128.size a := fun i k2_t8 k2_t9 v82 v84 k2_t10 v104 k2_hw8 k2_h13 k2_h16 => k2_hw8.2.2.1 k2_h13 k2_h16
theorem k2_off140_inb : ∀ (i : grid2.Coords) (k2_t8 : Fin (k2_t8_loop i).trips) (k2_t9 : Fin k2_t9_loop.trips) (v82 : BitVec 32) (v84 : BitVec 32) (k2_t10 : Fin (k2_t10_loop k2_t9).trips) (v104 : BitVec 32) (k2_hw8 : k2_chk8 i k2_t8 k2_t9 v82 v84 k2_t10 v104), ∀ (k2_h13 : k2_cond13 i k2_t8 = 1#1), ∀ (k2_h16 : k2_cond16 v82 v84 = 1#1), ∀ a, (k2_off140 v104) a + S1x16.size a ≤ S512x128.size a := fun i k2_t8 k2_t9 v82 v84 k2_t10 v104 k2_hw8 k2_h13 k2_h16 => k2_hw8.2.2.2.1 k2_h13 k2_h16
theorem k2_off142_inb : ∀ (i : grid2.Coords) (k2_t8 : Fin (k2_t8_loop i).trips) (k2_t9 : Fin k2_t9_loop.trips) (v82 : BitVec 32) (v84 : BitVec 32) (k2_t10 : Fin (k2_t10_loop k2_t9).trips) (v104 : BitVec 32) (k2_hw8 : k2_chk8 i k2_t8 k2_t9 v82 v84 k2_t10 v104), ∀ (k2_h13 : k2_cond13 i k2_t8 = 1#1), ∀ (k2_h16 : k2_cond16 v82 v84 = 1#1), ∀ a, (k2_off142 v104) a + S1x16.size a ≤ S512x128.size a := fun i k2_t8 k2_t9 v82 v84 k2_t10 v104 k2_hw8 k2_h13 k2_h16 => k2_hw8.2.2.2.2.1 k2_h13 k2_h16
theorem k2_off144_inb : ∀ (i : grid2.Coords) (k2_t8 : Fin (k2_t8_loop i).trips) (k2_t9 : Fin k2_t9_loop.trips) (v82 : BitVec 32) (v84 : BitVec 32) (k2_t10 : Fin (k2_t10_loop k2_t9).trips) (v104 : BitVec 32) (k2_hw8 : k2_chk8 i k2_t8 k2_t9 v82 v84 k2_t10 v104), ∀ (k2_h13 : k2_cond13 i k2_t8 = 1#1), ∀ (k2_h16 : k2_cond16 v82 v84 = 1#1), ∀ a, (k2_off144 v104) a + S1x16.size a ≤ S512x128.size a := fun i k2_t8 k2_t9 v82 v84 k2_t10 v104 k2_hw8 k2_h13 k2_h16 => k2_hw8.2.2.2.2.2.1 k2_h13 k2_h16
theorem k2_off146_inb : ∀ (i : grid2.Coords) (k2_t8 : Fin (k2_t8_loop i).trips) (k2_t9 : Fin k2_t9_loop.trips) (v82 : BitVec 32) (v84 : BitVec 32) (k2_t10 : Fin (k2_t10_loop k2_t9).trips) (v104 : BitVec 32) (k2_hw8 : k2_chk8 i k2_t8 k2_t9 v82 v84 k2_t10 v104), ∀ (k2_h13 : k2_cond13 i k2_t8 = 1#1), ∀ (k2_h16 : k2_cond16 v82 v84 = 1#1), ∀ a, (k2_off146 v104) a + S1x16.size a ≤ S512x128.size a := fun i k2_t8 k2_t9 v82 v84 k2_t10 v104 k2_hw8 k2_h13 k2_h16 => k2_hw8.2.2.2.2.2.2.1 k2_h13 k2_h16
theorem k2_off148_inb : ∀ (i : grid2.Coords) (k2_t8 : Fin (k2_t8_loop i).trips) (k2_t9 : Fin k2_t9_loop.trips) (v82 : BitVec 32) (v84 : BitVec 32) (k2_t10 : Fin (k2_t10_loop k2_t9).trips) (v104 : BitVec 32) (k2_hw8 : k2_chk8 i k2_t8 k2_t9 v82 v84 k2_t10 v104), ∀ (k2_h13 : k2_cond13 i k2_t8 = 1#1), ∀ (k2_h16 : k2_cond16 v82 v84 = 1#1), ∀ a, (k2_off148 v104) a + S1x16.size a ≤ S512x128.size a := fun i k2_t8 k2_t9 v82 v84 k2_t10 v104 k2_hw8 k2_h13 k2_h16 => k2_hw8.2.2.2.2.2.2.2 k2_h13 k2_h16

@[reducible] def k2_t11_loop (k2_t9 : Fin k2_t9_loop.trips) : Scf.Loop 32 :=
  let c0_i32_38 : BitVec 32 := 0#32
  let c1_i32_39 : BitVec 32 := 1#32
  let arg17 : BitVec 32 := Scf.iv c0_i32_38 c1_i32_39 k2_t9
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let v95 : BitVec 32 := Scalar.addi v91 v94
  let c1_i32_53 : BitVec 32 := 1#32
  ⟨v98, v95, c1_i32_53⟩
def k2_off149 (i : grid2.Coords) (k2_t8 : Fin (k2_t8_loop i).trips) (k2_t9 : Fin k2_t9_loop.trips) (k2_t11 : Fin (k2_t11_loop k2_t9).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c80_i32_7 : BitVec 32 := 80#32
  let v18 : BitVec 32 := Scalar.muli v4 c80_i32_7
  let c80_i32 : BitVec 32 := 80#32
  let v15 : BitVec 32 := Scalar.muli v4 c80_i32
  let c96800_i32 : BitVec 32 := 96800#32
  let v16 : BitVec 32 := Scalar.minsi v15 c96800_i32
  let v17 : BitVec 32 := v16
  let v19 : BitVec 32 := Scalar.subi v18 v17
  let c0_i32_17 : BitVec 32 := 0#32
  let c39_i32_2 : BitVec 32 := 39#32
  let c2_i32_1 : BitVec 32 := 2#32
  let v5 : BitVec 1 := Scalar.cmpi .slt v1 c2_i32_1
  let c1_i32 : BitVec 32 := 1#32
  let c0_i32 : BitVec 32 := 0#32
  let v6 : BitVec 32 := Scalar.select v5 c1_i32 c0_i32
  let v7 : BitVec 32 := Scalar.addi c39_i32_2 v6
  let c1_i32_8 : BitVec 32 := 1#32
  let v20 : BitVec 32 := Scalar.addi v7 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c2_i32_9 : BitVec 32 := 2#32
  let c0_i32_12 : BitVec 32 := 0#32
  let v27 : BitVec 1 := Scalar.cmpi .sgt c2_i32_9 c0_i32_12
  let v28 : BitVec 32 := Scalar.extui v27
  let c0_i32_13 : BitVec 32 := 0#32
  let v29 : BitVec 1 := Scalar.cmpi .slt c2_i32_9 c0_i32_13
  let v30 : BitVec 32 := Scalar.extui v29
  let v31 : BitVec 32 := Scalar.subi v28 v30
  let v32 : BitVec 1 := Scalar.cmpi .ne v26 v31
  let v33 : BitVec 32 := Scalar.remsi v20 c2_i32_9
  let c0_i32_14 : BitVec 32 := 0#32
  let v34 : BitVec 1 := Scalar.cmpi .ne v33 c0_i32_14
  let v35 : BitVec 1 := Scalar.andi v32 v34
  let v21 : BitVec 32 := Scalar.divsi v20 c2_i32_9
  let c1_i32_15 : BitVec 32 := 1#32
  let v36 : BitVec 32 := Scalar.subi v21 c1_i32_15
  let v37 : BitVec 32 := Scalar.select v35 v36 v21
  let v38 : BitVec 32 := Scalar.subi v37 c0_i32_17
  let c1_i32_18 : BitVec 32 := 1#32
  let v40 : BitVec 32 := Scalar.divsi v38 c1_i32_18
  let v41 : BitVec 32 := Scalar.muli v40 c1_i32_18
  let v42 : BitVec 32 := Scalar.addi c0_i32_17 v41
  let c1_i32_20 : BitVec 32 := 1#32
  let arg16 : BitVec 32 := Scf.iv v42 c1_i32_20 k2_t8
  let c2_i32_25 : BitVec 32 := 2#32
  let v49 : BitVec 32 := Scalar.muli arg16 c2_i32_25
  let v50 : BitVec 32 := Scalar.addi v4 v49
  let c0_i32_26 : BitVec 32 := 0#32
  let v51 : BitVec 32 := Scalar.addi v50 c0_i32_26
  let v59 : BitVec 32 := Scalar.subi v51 v4
  let c80_i32_30 : BitVec 32 := 80#32
  let v60 : BitVec 32 := Scalar.muli v59 c80_i32_30
  let v61 : BitVec 32 := Scalar.addi v19 v60
  let c0_i32_38 : BitVec 32 := 0#32
  let c1_i32_39 : BitVec 32 := 1#32
  let arg17 : BitVec 32 := Scf.iv c0_i32_38 c1_i32_39 k2_t9
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t11
  let v99 : BitVec 32 := Scalar.addi v61 arg18
  let v100 : Index := Scalar.indexCast v99
  ![v100.toNat]
def k2_off150 (k2_t9 : Fin k2_t9_loop.trips) (k2_t11 : Fin (k2_t11_loop k2_t9).trips) : Fin 2 → Nat :=
  let c0_i32_38 : BitVec 32 := 0#32
  let c1_i32_39 : BitVec 32 := 1#32
  let arg17 : BitVec 32 := Scf.iv c0_i32_38 c1_i32_39 k2_t9
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t11
  let v105 : Index := Scalar.indexCast arg18
  let c0 : Index := 0#32
  ![v105.toNat, 0]
def k2_off151 (v104 : BitVec 32) : Fin 2 → Nat :=
  let v108 : Index := Scalar.indexCast v104
  let c0_54 : Index := 0#32
  ![v108.toNat, 0]

def k2_off152 (k2_t9 : Fin k2_t9_loop.trips) (k2_t11 : Fin (k2_t11_loop k2_t9).trips) : Fin 2 → Nat :=
  let c0_i32_38 : BitVec 32 := 0#32
  let c1_i32_39 : BitVec 32 := 1#32
  let arg17 : BitVec 32 := Scf.iv c0_i32_38 c1_i32_39 k2_t9
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t11
  let v112 : Index := Scalar.indexCast arg18
  let c0_55 : Index := 0#32
  ![v112.toNat, 0]
def k2_off153 (k2_t9 : Fin k2_t9_loop.trips) (k2_t11 : Fin (k2_t11_loop k2_t9).trips) : Fin 2 → Nat :=
  let c0_i32_38 : BitVec 32 := 0#32
  let c1_i32_39 : BitVec 32 := 1#32
  let arg17 : BitVec 32 := Scf.iv c0_i32_38 c1_i32_39 k2_t9
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t11
  let v116 : Index := Scalar.indexCast arg18
  let c16 : Index := 16#32
  ![v116.toNat, 16]
def k2_off154 (v104 : BitVec 32) : Fin 2 → Nat :=
  let v119 : Index := Scalar.indexCast v104
  let c16_56 : Index := 16#32
  ![v119.toNat, 16]
def k2_off155 (k2_t9 : Fin k2_t9_loop.trips) (k2_t11 : Fin (k2_t11_loop k2_t9).trips) : Fin 2 → Nat :=
  let c0_i32_38 : BitVec 32 := 0#32
  let c1_i32_39 : BitVec 32 := 1#32
  let arg17 : BitVec 32 := Scf.iv c0_i32_38 c1_i32_39 k2_t9
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t11
  let v127 : Index := Scalar.indexCast arg18
  let c32 : Index := 32#32
  ![v127.toNat, 32]
def k2_off156 (v104 : BitVec 32) : Fin 2 → Nat :=
  let v130 : Index := Scalar.indexCast v104
  let c32_58 : Index := 32#32
  ![v130.toNat, 32]
def k2_off157 (k2_t9 : Fin k2_t9_loop.trips) (k2_t11 : Fin (k2_t11_loop k2_t9).trips) : Fin 2 → Nat :=
  let c0_i32_38 : BitVec 32 := 0#32
  let c1_i32_39 : BitVec 32 := 1#32
  let arg17 : BitVec 32 := Scf.iv c0_i32_38 c1_i32_39 k2_t9
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t11
  let v138 : Index := Scalar.indexCast arg18
  let c48 : Index := 48#32
  ![v138.toNat, 48]
def k2_off158 (v104 : BitVec 32) : Fin 2 → Nat :=
  let v141 : Index := Scalar.indexCast v104
  let c48_60 : Index := 48#32
  ![v141.toNat, 48]
def k2_off159 (k2_t9 : Fin k2_t9_loop.trips) (k2_t11 : Fin (k2_t11_loop k2_t9).trips) : Fin 2 → Nat :=
  let c0_i32_38 : BitVec 32 := 0#32
  let c1_i32_39 : BitVec 32 := 1#32
  let arg17 : BitVec 32 := Scf.iv c0_i32_38 c1_i32_39 k2_t9
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t11
  let v149 : Index := Scalar.indexCast arg18
  let c64 : Index := 64#32
  ![v149.toNat, 64]
def k2_off160 (v104 : BitVec 32) : Fin 2 → Nat :=
  let v152 : Index := Scalar.indexCast v104
  let c64_62 : Index := 64#32
  ![v152.toNat, 64]
def k2_off161 (k2_t9 : Fin k2_t9_loop.trips) (k2_t11 : Fin (k2_t11_loop k2_t9).trips) : Fin 2 → Nat :=
  let c0_i32_38 : BitVec 32 := 0#32
  let c1_i32_39 : BitVec 32 := 1#32
  let arg17 : BitVec 32 := Scf.iv c0_i32_38 c1_i32_39 k2_t9
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t11
  let v160 : Index := Scalar.indexCast arg18
  let c80 : Index := 80#32
  ![v160.toNat, 80]
def k2_off162 (v104 : BitVec 32) : Fin 2 → Nat :=
  let v163 : Index := Scalar.indexCast v104
  let c80_64 : Index := 80#32
  ![v163.toNat, 80]
def k2_off163 (k2_t9 : Fin k2_t9_loop.trips) (k2_t11 : Fin (k2_t11_loop k2_t9).trips) : Fin 2 → Nat :=
  let c0_i32_38 : BitVec 32 := 0#32
  let c1_i32_39 : BitVec 32 := 1#32
  let arg17 : BitVec 32 := Scf.iv c0_i32_38 c1_i32_39 k2_t9
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t11
  let v171 : Index := Scalar.indexCast arg18
  let c96 : Index := 96#32
  ![v171.toNat, 96]
def k2_off164 (v104 : BitVec 32) : Fin 2 → Nat :=
  let v174 : Index := Scalar.indexCast v104
  let c96_66 : Index := 96#32
  ![v174.toNat, 96]
def k2_off165 (k2_t9 : Fin k2_t9_loop.trips) (k2_t11 : Fin (k2_t11_loop k2_t9).trips) : Fin 2 → Nat :=
  let c0_i32_38 : BitVec 32 := 0#32
  let c1_i32_39 : BitVec 32 := 1#32
  let arg17 : BitVec 32 := Scf.iv c0_i32_38 c1_i32_39 k2_t9
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t11
  let v182 : Index := Scalar.indexCast arg18
  let c112 : Index := 112#32
  ![v182.toNat, 112]
def k2_off166 (v104 : BitVec 32) : Fin 2 → Nat :=
  let v185 : Index := Scalar.indexCast v104
  let c112_68 : Index := 112#32
  ![v185.toNat, 112]

def k2_chk9 (i : grid2.Coords) (k2_t8 : Fin (k2_t8_loop i).trips) (k2_t9 : Fin k2_t9_loop.trips) (v82 : BitVec 32) (v84 : BitVec 32) (k2_t11 : Fin (k2_t11_loop k2_t9).trips) (v104 : BitVec 32) : Prop :=
  (∀ (k2_h13 : k2_cond13 i k2_t8 = 1#1), ∀ (k2_h16 : k2_cond16 v82 v84 = 1#1), ∀ a, (k2_off151 v104) a + S1x16.size a ≤ S512x128.size a) ∧
  (∀ (k2_h13 : k2_cond13 i k2_t8 = 1#1), ∀ (k2_h16 : k2_cond16 v82 v84 = 1#1), ∀ a, (k2_off154 v104) a + S1x16.size a ≤ S512x128.size a) ∧
  (∀ (k2_h13 : k2_cond13 i k2_t8 = 1#1), ∀ (k2_h16 : k2_cond16 v82 v84 = 1#1), ∀ a, (k2_off156 v104) a + S1x16.size a ≤ S512x128.size a) ∧
  (∀ (k2_h13 : k2_cond13 i k2_t8 = 1#1), ∀ (k2_h16 : k2_cond16 v82 v84 = 1#1), ∀ a, (k2_off158 v104) a + S1x16.size a ≤ S512x128.size a) ∧
  (∀ (k2_h13 : k2_cond13 i k2_t8 = 1#1), ∀ (k2_h16 : k2_cond16 v82 v84 = 1#1), ∀ a, (k2_off160 v104) a + S1x16.size a ≤ S512x128.size a) ∧
  (∀ (k2_h13 : k2_cond13 i k2_t8 = 1#1), ∀ (k2_h16 : k2_cond16 v82 v84 = 1#1), ∀ a, (k2_off162 v104) a + S1x16.size a ≤ S512x128.size a) ∧
  (∀ (k2_h13 : k2_cond13 i k2_t8 = 1#1), ∀ (k2_h16 : k2_cond16 v82 v84 = 1#1), ∀ a, (k2_off164 v104) a + S1x16.size a ≤ S512x128.size a) ∧
  (∀ (k2_h13 : k2_cond13 i k2_t8 = 1#1), ∀ (k2_h16 : k2_cond16 v82 v84 = 1#1), ∀ a, (k2_off166 v104) a + S1x16.size a ≤ S512x128.size a)
theorem k2_off151_inb : ∀ (i : grid2.Coords) (k2_t8 : Fin (k2_t8_loop i).trips) (k2_t9 : Fin k2_t9_loop.trips) (v82 : BitVec 32) (v84 : BitVec 32) (k2_t11 : Fin (k2_t11_loop k2_t9).trips) (v104 : BitVec 32) (k2_hw9 : k2_chk9 i k2_t8 k2_t9 v82 v84 k2_t11 v104), ∀ (k2_h13 : k2_cond13 i k2_t8 = 1#1), ∀ (k2_h16 : k2_cond16 v82 v84 = 1#1), ∀ a, (k2_off151 v104) a + S1x16.size a ≤ S512x128.size a := fun i k2_t8 k2_t9 v82 v84 k2_t11 v104 k2_hw9 k2_h13 k2_h16 => k2_hw9.1 k2_h13 k2_h16
theorem k2_off154_inb : ∀ (i : grid2.Coords) (k2_t8 : Fin (k2_t8_loop i).trips) (k2_t9 : Fin k2_t9_loop.trips) (v82 : BitVec 32) (v84 : BitVec 32) (k2_t11 : Fin (k2_t11_loop k2_t9).trips) (v104 : BitVec 32) (k2_hw9 : k2_chk9 i k2_t8 k2_t9 v82 v84 k2_t11 v104), ∀ (k2_h13 : k2_cond13 i k2_t8 = 1#1), ∀ (k2_h16 : k2_cond16 v82 v84 = 1#1), ∀ a, (k2_off154 v104) a + S1x16.size a ≤ S512x128.size a := fun i k2_t8 k2_t9 v82 v84 k2_t11 v104 k2_hw9 k2_h13 k2_h16 => k2_hw9.2.1 k2_h13 k2_h16
theorem k2_off156_inb : ∀ (i : grid2.Coords) (k2_t8 : Fin (k2_t8_loop i).trips) (k2_t9 : Fin k2_t9_loop.trips) (v82 : BitVec 32) (v84 : BitVec 32) (k2_t11 : Fin (k2_t11_loop k2_t9).trips) (v104 : BitVec 32) (k2_hw9 : k2_chk9 i k2_t8 k2_t9 v82 v84 k2_t11 v104), ∀ (k2_h13 : k2_cond13 i k2_t8 = 1#1), ∀ (k2_h16 : k2_cond16 v82 v84 = 1#1), ∀ a, (k2_off156 v104) a + S1x16.size a ≤ S512x128.size a := fun i k2_t8 k2_t9 v82 v84 k2_t11 v104 k2_hw9 k2_h13 k2_h16 => k2_hw9.2.2.1 k2_h13 k2_h16
theorem k2_off158_inb : ∀ (i : grid2.Coords) (k2_t8 : Fin (k2_t8_loop i).trips) (k2_t9 : Fin k2_t9_loop.trips) (v82 : BitVec 32) (v84 : BitVec 32) (k2_t11 : Fin (k2_t11_loop k2_t9).trips) (v104 : BitVec 32) (k2_hw9 : k2_chk9 i k2_t8 k2_t9 v82 v84 k2_t11 v104), ∀ (k2_h13 : k2_cond13 i k2_t8 = 1#1), ∀ (k2_h16 : k2_cond16 v82 v84 = 1#1), ∀ a, (k2_off158 v104) a + S1x16.size a ≤ S512x128.size a := fun i k2_t8 k2_t9 v82 v84 k2_t11 v104 k2_hw9 k2_h13 k2_h16 => k2_hw9.2.2.2.1 k2_h13 k2_h16
theorem k2_off160_inb : ∀ (i : grid2.Coords) (k2_t8 : Fin (k2_t8_loop i).trips) (k2_t9 : Fin k2_t9_loop.trips) (v82 : BitVec 32) (v84 : BitVec 32) (k2_t11 : Fin (k2_t11_loop k2_t9).trips) (v104 : BitVec 32) (k2_hw9 : k2_chk9 i k2_t8 k2_t9 v82 v84 k2_t11 v104), ∀ (k2_h13 : k2_cond13 i k2_t8 = 1#1), ∀ (k2_h16 : k2_cond16 v82 v84 = 1#1), ∀ a, (k2_off160 v104) a + S1x16.size a ≤ S512x128.size a := fun i k2_t8 k2_t9 v82 v84 k2_t11 v104 k2_hw9 k2_h13 k2_h16 => k2_hw9.2.2.2.2.1 k2_h13 k2_h16
theorem k2_off162_inb : ∀ (i : grid2.Coords) (k2_t8 : Fin (k2_t8_loop i).trips) (k2_t9 : Fin k2_t9_loop.trips) (v82 : BitVec 32) (v84 : BitVec 32) (k2_t11 : Fin (k2_t11_loop k2_t9).trips) (v104 : BitVec 32) (k2_hw9 : k2_chk9 i k2_t8 k2_t9 v82 v84 k2_t11 v104), ∀ (k2_h13 : k2_cond13 i k2_t8 = 1#1), ∀ (k2_h16 : k2_cond16 v82 v84 = 1#1), ∀ a, (k2_off162 v104) a + S1x16.size a ≤ S512x128.size a := fun i k2_t8 k2_t9 v82 v84 k2_t11 v104 k2_hw9 k2_h13 k2_h16 => k2_hw9.2.2.2.2.2.1 k2_h13 k2_h16
theorem k2_off164_inb : ∀ (i : grid2.Coords) (k2_t8 : Fin (k2_t8_loop i).trips) (k2_t9 : Fin k2_t9_loop.trips) (v82 : BitVec 32) (v84 : BitVec 32) (k2_t11 : Fin (k2_t11_loop k2_t9).trips) (v104 : BitVec 32) (k2_hw9 : k2_chk9 i k2_t8 k2_t9 v82 v84 k2_t11 v104), ∀ (k2_h13 : k2_cond13 i k2_t8 = 1#1), ∀ (k2_h16 : k2_cond16 v82 v84 = 1#1), ∀ a, (k2_off164 v104) a + S1x16.size a ≤ S512x128.size a := fun i k2_t8 k2_t9 v82 v84 k2_t11 v104 k2_hw9 k2_h13 k2_h16 => k2_hw9.2.2.2.2.2.2.1 k2_h13 k2_h16
theorem k2_off166_inb : ∀ (i : grid2.Coords) (k2_t8 : Fin (k2_t8_loop i).trips) (k2_t9 : Fin k2_t9_loop.trips) (v82 : BitVec 32) (v84 : BitVec 32) (k2_t11 : Fin (k2_t11_loop k2_t9).trips) (v104 : BitVec 32) (k2_hw9 : k2_chk9 i k2_t8 k2_t9 v82 v84 k2_t11 v104), ∀ (k2_h13 : k2_cond13 i k2_t8 = 1#1), ∀ (k2_h16 : k2_cond16 v82 v84 = 1#1), ∀ a, (k2_off166 v104) a + S1x16.size a ≤ S512x128.size a := fun i k2_t8 k2_t9 v82 v84 k2_t11 v104 k2_hw9 k2_h13 k2_h16 => k2_hw9.2.2.2.2.2.2.2 k2_h13 k2_h16

def k2_off167 (i : grid2.Coords) (k2_t8 : Fin (k2_t8_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c0_i32_17 : BitVec 32 := 0#32
  let c39_i32_2 : BitVec 32 := 39#32
  let c2_i32_1 : BitVec 32 := 2#32
  let v5 : BitVec 1 := Scalar.cmpi .slt v1 c2_i32_1
  let c1_i32 : BitVec 32 := 1#32
  let c0_i32 : BitVec 32 := 0#32
  let v6 : BitVec 32 := Scalar.select v5 c1_i32 c0_i32
  let v7 : BitVec 32 := Scalar.addi c39_i32_2 v6
  let c1_i32_8 : BitVec 32 := 1#32
  let v20 : BitVec 32 := Scalar.addi v7 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c2_i32_9 : BitVec 32 := 2#32
  let c0_i32_12 : BitVec 32 := 0#32
  let v27 : BitVec 1 := Scalar.cmpi .sgt c2_i32_9 c0_i32_12
  let v28 : BitVec 32 := Scalar.extui v27
  let c0_i32_13 : BitVec 32 := 0#32
  let v29 : BitVec 1 := Scalar.cmpi .slt c2_i32_9 c0_i32_13
  let v30 : BitVec 32 := Scalar.extui v29
  let v31 : BitVec 32 := Scalar.subi v28 v30
  let v32 : BitVec 1 := Scalar.cmpi .ne v26 v31
  let v33 : BitVec 32 := Scalar.remsi v20 c2_i32_9
  let c0_i32_14 : BitVec 32 := 0#32
  let v34 : BitVec 1 := Scalar.cmpi .ne v33 c0_i32_14
  let v35 : BitVec 1 := Scalar.andi v32 v34
  let v21 : BitVec 32 := Scalar.divsi v20 c2_i32_9
  let c1_i32_15 : BitVec 32 := 1#32
  let v36 : BitVec 32 := Scalar.subi v21 c1_i32_15
  let v37 : BitVec 32 := Scalar.select v35 v36 v21
  let v38 : BitVec 32 := Scalar.subi v37 c0_i32_17
  let c1_i32_18 : BitVec 32 := 1#32
  let v40 : BitVec 32 := Scalar.divsi v38 c1_i32_18
  let v41 : BitVec 32 := Scalar.muli v40 c1_i32_18
  let v42 : BitVec 32 := Scalar.addi c0_i32_17 v41
  let c1_i32_20 : BitVec 32 := 1#32
  let arg16 : BitVec 32 := Scf.iv v42 c1_i32_20 k2_t8
  let c2_i32_25 : BitVec 32 := 2#32
  let v49 : BitVec 32 := Scalar.muli arg16 c2_i32_25
  let v50 : BitVec 32 := Scalar.addi v4 v49
  let c0_i32_26 : BitVec 32 := 0#32
  let v51 : BitVec 32 := Scalar.addi v50 c0_i32_26
  let c80_i32_41 : BitVec 32 := 80#32
  let v69 : BitVec 32 := Scalar.muli v51 c80_i32_41
  let c0_i32_42 : BitVec 32 := 0#32
  ![v69.toNat, 0]
def k2_cond17 (i : grid2.Coords) (k2_t8 : Fin (k2_t8_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c0_i32_17 : BitVec 32 := 0#32
  let c39_i32_2 : BitVec 32 := 39#32
  let c2_i32_1 : BitVec 32 := 2#32
  let v5 : BitVec 1 := Scalar.cmpi .slt v1 c2_i32_1
  let c1_i32 : BitVec 32 := 1#32
  let c0_i32 : BitVec 32 := 0#32
  let v6 : BitVec 32 := Scalar.select v5 c1_i32 c0_i32
  let v7 : BitVec 32 := Scalar.addi c39_i32_2 v6
  let c1_i32_8 : BitVec 32 := 1#32
  let v20 : BitVec 32 := Scalar.addi v7 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c2_i32_9 : BitVec 32 := 2#32
  let c0_i32_12 : BitVec 32 := 0#32
  let v27 : BitVec 1 := Scalar.cmpi .sgt c2_i32_9 c0_i32_12
  let v28 : BitVec 32 := Scalar.extui v27
  let c0_i32_13 : BitVec 32 := 0#32
  let v29 : BitVec 1 := Scalar.cmpi .slt c2_i32_9 c0_i32_13
  let v30 : BitVec 32 := Scalar.extui v29
  let v31 : BitVec 32 := Scalar.subi v28 v30
  let v32 : BitVec 1 := Scalar.cmpi .ne v26 v31
  let v33 : BitVec 32 := Scalar.remsi v20 c2_i32_9
  let c0_i32_14 : BitVec 32 := 0#32
  let v34 : BitVec 1 := Scalar.cmpi .ne v33 c0_i32_14
  let v35 : BitVec 1 := Scalar.andi v32 v34
  let v21 : BitVec 32 := Scalar.divsi v20 c2_i32_9
  let c1_i32_15 : BitVec 32 := 1#32
  let v36 : BitVec 32 := Scalar.subi v21 c1_i32_15
  let v37 : BitVec 32 := Scalar.select v35 v36 v21
  let v38 : BitVec 32 := Scalar.subi v37 c0_i32_17
  let c1_i32_18 : BitVec 32 := 1#32
  let v40 : BitVec 32 := Scalar.divsi v38 c1_i32_18
  let v41 : BitVec 32 := Scalar.muli v40 c1_i32_18
  let v42 : BitVec 32 := Scalar.addi c0_i32_17 v41
  let c1_i32_20 : BitVec 32 := 1#32
  let arg16 : BitVec 32 := Scf.iv v42 c1_i32_20 k2_t8
  let c2_i32_25 : BitVec 32 := 2#32
  let v49 : BitVec 32 := Scalar.muli arg16 c2_i32_25
  let v50 : BitVec 32 := Scalar.addi v4 v49
  let c0_i32_26 : BitVec 32 := 0#32
  let v51 : BitVec 32 := Scalar.addi v50 c0_i32_26
  let c2_i32_44 : BitVec 32 := 2#32
  let v72 : BitVec 32 := Scalar.addi v51 c2_i32_44
  let v8 : BitVec 32 := Scalar.addi v4 v7
  let v73 : BitVec 1 := Scalar.cmpi .slt v72 v8
  let v74 : BitVec 32 := Scalar.extui v73
  let c0_i32_45 : BitVec 32 := 0#32
  let v75 : BitVec 1 := Scalar.cmpi .ne v74 c0_i32_45
  v75

def k2_off168 (i : grid2.Coords) (k2_t8 : Fin (k2_t8_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c0_i32_17 : BitVec 32 := 0#32
  let c39_i32_2 : BitVec 32 := 39#32
  let c2_i32_1 : BitVec 32 := 2#32
  let v5 : BitVec 1 := Scalar.cmpi .slt v1 c2_i32_1
  let c1_i32 : BitVec 32 := 1#32
  let c0_i32 : BitVec 32 := 0#32
  let v6 : BitVec 32 := Scalar.select v5 c1_i32 c0_i32
  let v7 : BitVec 32 := Scalar.addi c39_i32_2 v6
  let c1_i32_8 : BitVec 32 := 1#32
  let v20 : BitVec 32 := Scalar.addi v7 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c2_i32_9 : BitVec 32 := 2#32
  let c0_i32_12 : BitVec 32 := 0#32
  let v27 : BitVec 1 := Scalar.cmpi .sgt c2_i32_9 c0_i32_12
  let v28 : BitVec 32 := Scalar.extui v27
  let c0_i32_13 : BitVec 32 := 0#32
  let v29 : BitVec 1 := Scalar.cmpi .slt c2_i32_9 c0_i32_13
  let v30 : BitVec 32 := Scalar.extui v29
  let v31 : BitVec 32 := Scalar.subi v28 v30
  let v32 : BitVec 1 := Scalar.cmpi .ne v26 v31
  let v33 : BitVec 32 := Scalar.remsi v20 c2_i32_9
  let c0_i32_14 : BitVec 32 := 0#32
  let v34 : BitVec 1 := Scalar.cmpi .ne v33 c0_i32_14
  let v35 : BitVec 1 := Scalar.andi v32 v34
  let v21 : BitVec 32 := Scalar.divsi v20 c2_i32_9
  let c1_i32_15 : BitVec 32 := 1#32
  let v36 : BitVec 32 := Scalar.subi v21 c1_i32_15
  let v37 : BitVec 32 := Scalar.select v35 v36 v21
  let v38 : BitVec 32 := Scalar.subi v37 c0_i32_17
  let c1_i32_18 : BitVec 32 := 1#32
  let v40 : BitVec 32 := Scalar.divsi v38 c1_i32_18
  let v41 : BitVec 32 := Scalar.muli v40 c1_i32_18
  let v42 : BitVec 32 := Scalar.addi c0_i32_17 v41
  let c1_i32_20 : BitVec 32 := 1#32
  let arg16 : BitVec 32 := Scf.iv v42 c1_i32_20 k2_t8
  let c2_i32_25 : BitVec 32 := 2#32
  let v49 : BitVec 32 := Scalar.muli arg16 c2_i32_25
  let v50 : BitVec 32 := Scalar.addi v4 v49
  let c0_i32_26 : BitVec 32 := 0#32
  let v51 : BitVec 32 := Scalar.addi v50 c0_i32_26
  let c2_i32_46 : BitVec 32 := 2#32
  let v76 : BitVec 32 := Scalar.addi v51 c2_i32_46
  let c80_i32_47 : BitVec 32 := 80#32
  let v77 : BitVec 32 := Scalar.muli v76 c80_i32_47
  let c0_i32_48 : BitVec 32 := 0#32
  ![v77.toNat, 0]
def k2_cond18 (i : grid2.Coords) (k2_t8 : Fin (k2_t8_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c0_i32_17 : BitVec 32 := 0#32
  let c39_i32_2 : BitVec 32 := 39#32
  let c2_i32_1 : BitVec 32 := 2#32
  let v5 : BitVec 1 := Scalar.cmpi .slt v1 c2_i32_1
  let c1_i32 : BitVec 32 := 1#32
  let c0_i32 : BitVec 32 := 0#32
  let v6 : BitVec 32 := Scalar.select v5 c1_i32 c0_i32
  let v7 : BitVec 32 := Scalar.addi c39_i32_2 v6
  let c1_i32_8 : BitVec 32 := 1#32
  let v20 : BitVec 32 := Scalar.addi v7 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c2_i32_9 : BitVec 32 := 2#32
  let c0_i32_12 : BitVec 32 := 0#32
  let v27 : BitVec 1 := Scalar.cmpi .sgt c2_i32_9 c0_i32_12
  let v28 : BitVec 32 := Scalar.extui v27
  let c0_i32_13 : BitVec 32 := 0#32
  let v29 : BitVec 1 := Scalar.cmpi .slt c2_i32_9 c0_i32_13
  let v30 : BitVec 32 := Scalar.extui v29
  let v31 : BitVec 32 := Scalar.subi v28 v30
  let v32 : BitVec 1 := Scalar.cmpi .ne v26 v31
  let v33 : BitVec 32 := Scalar.remsi v20 c2_i32_9
  let c0_i32_14 : BitVec 32 := 0#32
  let v34 : BitVec 1 := Scalar.cmpi .ne v33 c0_i32_14
  let v35 : BitVec 1 := Scalar.andi v32 v34
  let v21 : BitVec 32 := Scalar.divsi v20 c2_i32_9
  let c1_i32_15 : BitVec 32 := 1#32
  let v36 : BitVec 32 := Scalar.subi v21 c1_i32_15
  let v37 : BitVec 32 := Scalar.select v35 v36 v21
  let v38 : BitVec 32 := Scalar.subi v37 c0_i32_17
  let c1_i32_18 : BitVec 32 := 1#32
  let v40 : BitVec 32 := Scalar.divsi v38 c1_i32_18
  let v41 : BitVec 32 := Scalar.muli v40 c1_i32_18
  let v42 : BitVec 32 := Scalar.addi c0_i32_17 v41
  let c1_i32_20 : BitVec 32 := 1#32
  let arg16 : BitVec 32 := Scf.iv v42 c1_i32_20 k2_t8
  let c2_i32_25 : BitVec 32 := 2#32
  let v49 : BitVec 32 := Scalar.muli arg16 c2_i32_25
  let v50 : BitVec 32 := Scalar.addi v4 v49
  let c1_i32_28 : BitVec 32 := 1#32
  let v55 : BitVec 32 := Scalar.addi v50 c1_i32_28
  let v8 : BitVec 32 := Scalar.addi v4 v7
  let v56 : BitVec 1 := Scalar.cmpi .slt v55 v8
  let v57 : BitVec 32 := Scalar.extui v56
  let c0_i32_29 : BitVec 32 := 0#32
  let v58 : BitVec 1 := Scalar.cmpi .ne v57 c0_i32_29
  v58

@[reducible] def k2_t12_loop : Scf.Loop 32 :=
  let c0_i32_38 : BitVec 32 := 0#32
  let c5_i32 : BitVec 32 := 5#32
  let v68 : BitVec 32 := Scalar.addi c0_i32_38 c5_i32
  let c1_i32_39 : BitVec 32 := 1#32
  ⟨c0_i32_38, v68, c1_i32_39⟩
def k2_off169 (i : grid2.Coords) (k2_t8 : Fin (k2_t8_loop i).trips) (k2_t12 : Fin k2_t12_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c80_i32_7 : BitVec 32 := 80#32
  let v18 : BitVec 32 := Scalar.muli v4 c80_i32_7
  let c80_i32 : BitVec 32 := 80#32
  let v15 : BitVec 32 := Scalar.muli v4 c80_i32
  let c96800_i32 : BitVec 32 := 96800#32
  let v16 : BitVec 32 := Scalar.minsi v15 c96800_i32
  let v17 : BitVec 32 := v16
  let v19 : BitVec 32 := Scalar.subi v18 v17
  let c0_i32_17 : BitVec 32 := 0#32
  let c39_i32_2 : BitVec 32 := 39#32
  let c2_i32_1 : BitVec 32 := 2#32
  let v5 : BitVec 1 := Scalar.cmpi .slt v1 c2_i32_1
  let c1_i32 : BitVec 32 := 1#32
  let c0_i32 : BitVec 32 := 0#32
  let v6 : BitVec 32 := Scalar.select v5 c1_i32 c0_i32
  let v7 : BitVec 32 := Scalar.addi c39_i32_2 v6
  let c1_i32_8 : BitVec 32 := 1#32
  let v20 : BitVec 32 := Scalar.addi v7 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c2_i32_9 : BitVec 32 := 2#32
  let c0_i32_12 : BitVec 32 := 0#32
  let v27 : BitVec 1 := Scalar.cmpi .sgt c2_i32_9 c0_i32_12
  let v28 : BitVec 32 := Scalar.extui v27
  let c0_i32_13 : BitVec 32 := 0#32
  let v29 : BitVec 1 := Scalar.cmpi .slt c2_i32_9 c0_i32_13
  let v30 : BitVec 32 := Scalar.extui v29
  let v31 : BitVec 32 := Scalar.subi v28 v30
  let v32 : BitVec 1 := Scalar.cmpi .ne v26 v31
  let v33 : BitVec 32 := Scalar.remsi v20 c2_i32_9
  let c0_i32_14 : BitVec 32 := 0#32
  let v34 : BitVec 1 := Scalar.cmpi .ne v33 c0_i32_14
  let v35 : BitVec 1 := Scalar.andi v32 v34
  let v21 : BitVec 32 := Scalar.divsi v20 c2_i32_9
  let c1_i32_15 : BitVec 32 := 1#32
  let v36 : BitVec 32 := Scalar.subi v21 c1_i32_15
  let v37 : BitVec 32 := Scalar.select v35 v36 v21
  let v38 : BitVec 32 := Scalar.subi v37 c0_i32_17
  let c1_i32_18 : BitVec 32 := 1#32
  let v40 : BitVec 32 := Scalar.divsi v38 c1_i32_18
  let v41 : BitVec 32 := Scalar.muli v40 c1_i32_18
  let v42 : BitVec 32 := Scalar.addi c0_i32_17 v41
  let c1_i32_20 : BitVec 32 := 1#32
  let arg16 : BitVec 32 := Scf.iv v42 c1_i32_20 k2_t8
  let c2_i32_25 : BitVec 32 := 2#32
  let v49 : BitVec 32 := Scalar.muli arg16 c2_i32_25
  let v50 : BitVec 32 := Scalar.addi v4 v49
  let c1_i32_28 : BitVec 32 := 1#32
  let v55 : BitVec 32 := Scalar.addi v50 c1_i32_28
  let v59 : BitVec 32 := Scalar.subi v55 v4
  let c80_i32_30 : BitVec 32 := 80#32
  let v60 : BitVec 32 := Scalar.muli v59 c80_i32_30
  let v61 : BitVec 32 := Scalar.addi v19 v60
  let c0_i32_38 : BitVec 32 := 0#32
  let c1_i32_39 : BitVec 32 := 1#32
  let arg17 : BitVec 32 := Scf.iv c0_i32_38 c1_i32_39 k2_t12
  let c16_i32 : BitVec 32 := 16#32
  let v76 : BitVec 32 := Scalar.muli arg17 c16_i32
  let v77 : BitVec 32 := Scalar.addi v61 v76
  let v78 : Index := Scalar.indexCast v77
  ![v78.toNat]
def k2_off170 (v82 : BitVec 32) : Fin 2 → Nat :=
  let v91 : Index := Scalar.indexCast v82
  let c0 : Index := 0#32
  ![v91.toNat, 0]
def k2_cond20 (v82 : BitVec 32) (v84 : BitVec 32) : BitVec 1 :=
  let v85 : BitVec 1 := Scalar.cmpi .eq v82 v84
  let v86 : BitVec 32 := Scalar.extui v85
  let c0_i32_46 : BitVec 32 := 0#32
  let v87 : BitVec 1 := Scalar.cmpi .ne v86 c0_i32_46
  v87

def k2_off171 (k2_t12 : Fin k2_t12_loop.trips) (c0_i32_48 : BitVec 32) : Fin 2 → Nat :=
  let c0_i32_38 : BitVec 32 := 0#32
  let c1_i32_39 : BitVec 32 := 1#32
  let arg17 : BitVec 32 := Scf.iv c0_i32_38 c1_i32_39 k2_t12
  let c4_i32 : BitVec 32 := 4#32
  let v94 : BitVec 32 := Scalar.shli arg17 c4_i32
  let v95 : BitVec 32 := Scalar.addi v94 c0_i32_48
  let v96 : Index := Scalar.indexCast v95
  let c0_49 : Index := 0#32
  ![v96.toNat, 0]
def k2_off172 (v82 : BitVec 32) : Fin 2 → Nat :=
  let v286 : Index := Scalar.indexCast v82
  let c16 : Index := 16#32
  ![v286.toNat, 16]
def k2_off173 (k2_t12 : Fin k2_t12_loop.trips) (c0_i32_133 : BitVec 32) : Fin 2 → Nat :=
  let c0_i32_38 : BitVec 32 := 0#32
  let c1_i32_39 : BitVec 32 := 1#32
  let arg17 : BitVec 32 := Scf.iv c0_i32_38 c1_i32_39 k2_t12
  let c4_i32_132 : BitVec 32 := 4#32
  let v289 : BitVec 32 := Scalar.shli arg17 c4_i32_132
  let v290 : BitVec 32 := Scalar.addi v289 c0_i32_133
  let v291 : Index := Scalar.indexCast v290
  let c16_134 : Index := 16#32
  ![v291.toNat, 16]
def k2_off174 (v82 : BitVec 32) : Fin 2 → Nat :=
  let v481 : Index := Scalar.indexCast v82
  let c32 : Index := 32#32
  ![v481.toNat, 32]
def k2_off175 (k2_t12 : Fin k2_t12_loop.trips) (c0_i32_229 : BitVec 32) : Fin 2 → Nat :=
  let c0_i32_38 : BitVec 32 := 0#32
  let c1_i32_39 : BitVec 32 := 1#32
  let arg17 : BitVec 32 := Scf.iv c0_i32_38 c1_i32_39 k2_t12
  let c4_i32_228 : BitVec 32 := 4#32
  let v484 : BitVec 32 := Scalar.shli arg17 c4_i32_228
  let v485 : BitVec 32 := Scalar.addi v484 c0_i32_229
  let v486 : Index := Scalar.indexCast v485
  let c32_230 : Index := 32#32
  ![v486.toNat, 32]
def k2_off176 (v82 : BitVec 32) : Fin 2 → Nat :=
  let v676 : Index := Scalar.indexCast v82
  let c48 : Index := 48#32
  ![v676.toNat, 48]
def k2_off177 (k2_t12 : Fin k2_t12_loop.trips) (c0_i32_325 : BitVec 32) : Fin 2 → Nat :=
  let c0_i32_38 : BitVec 32 := 0#32
  let c1_i32_39 : BitVec 32 := 1#32
  let arg17 : BitVec 32 := Scf.iv c0_i32_38 c1_i32_39 k2_t12
  let c4_i32_324 : BitVec 32 := 4#32
  let v679 : BitVec 32 := Scalar.shli arg17 c4_i32_324
  let v680 : BitVec 32 := Scalar.addi v679 c0_i32_325
  let v681 : Index := Scalar.indexCast v680
  let c48_326 : Index := 48#32
  ![v681.toNat, 48]
def k2_off178 (v82 : BitVec 32) : Fin 2 → Nat :=
  let v871 : Index := Scalar.indexCast v82
  let c64 : Index := 64#32
  ![v871.toNat, 64]
def k2_off179 (k2_t12 : Fin k2_t12_loop.trips) (c0_i32_421 : BitVec 32) : Fin 2 → Nat :=
  let c0_i32_38 : BitVec 32 := 0#32
  let c1_i32_39 : BitVec 32 := 1#32
  let arg17 : BitVec 32 := Scf.iv c0_i32_38 c1_i32_39 k2_t12
  let c4_i32_420 : BitVec 32 := 4#32
  let v874 : BitVec 32 := Scalar.shli arg17 c4_i32_420
  let v875 : BitVec 32 := Scalar.addi v874 c0_i32_421
  let v876 : Index := Scalar.indexCast v875
  let c64_422 : Index := 64#32
  ![v876.toNat, 64]
def k2_off180 (v82 : BitVec 32) : Fin 2 → Nat :=
  let v1066 : Index := Scalar.indexCast v82
  let c80 : Index := 80#32
  ![v1066.toNat, 80]
def k2_off181 (k2_t12 : Fin k2_t12_loop.trips) (c0_i32_517 : BitVec 32) : Fin 2 → Nat :=
  let c0_i32_38 : BitVec 32 := 0#32
  let c1_i32_39 : BitVec 32 := 1#32
  let arg17 : BitVec 32 := Scf.iv c0_i32_38 c1_i32_39 k2_t12
  let c4_i32_516 : BitVec 32 := 4#32
  let v1069 : BitVec 32 := Scalar.shli arg17 c4_i32_516
  let v1070 : BitVec 32 := Scalar.addi v1069 c0_i32_517
  let v1071 : Index := Scalar.indexCast v1070
  let c80_518 : Index := 80#32
  ![v1071.toNat, 80]
def k2_off182 (v82 : BitVec 32) : Fin 2 → Nat :=
  let v1261 : Index := Scalar.indexCast v82
  let c96 : Index := 96#32
  ![v1261.toNat, 96]
def k2_off183 (k2_t12 : Fin k2_t12_loop.trips) (c0_i32_613 : BitVec 32) : Fin 2 → Nat :=
  let c0_i32_38 : BitVec 32 := 0#32
  let c1_i32_39 : BitVec 32 := 1#32
  let arg17 : BitVec 32 := Scf.iv c0_i32_38 c1_i32_39 k2_t12
  let c4_i32_612 : BitVec 32 := 4#32
  let v1264 : BitVec 32 := Scalar.shli arg17 c4_i32_612
  let v1265 : BitVec 32 := Scalar.addi v1264 c0_i32_613
  let v1266 : Index := Scalar.indexCast v1265
  let c96_614 : Index := 96#32
  ![v1266.toNat, 96]
def k2_off184 (v82 : BitVec 32) : Fin 2 → Nat :=
  let v1456 : Index := Scalar.indexCast v82
  let c112 : Index := 112#32
  ![v1456.toNat, 112]

def k2_chk10 (i : grid2.Coords) (k2_t8 : Fin (k2_t8_loop i).trips) (v82 : BitVec 32) (v84 : BitVec 32) : Prop :=
  (∀ (k2_h18 : k2_cond18 i k2_t8 = 1#1), ∀ (k2_h20 : k2_cond20 v82 v84 = 1#1), ∀ a, (k2_off170 v82) a + S1x16.size a ≤ S512x128.size a) ∧
  (∀ (k2_h18 : k2_cond18 i k2_t8 = 1#1), ∀ (k2_h20 : k2_cond20 v82 v84 = 1#1), ∀ a, (k2_off172 v82) a + S1x16.size a ≤ S512x128.size a) ∧
  (∀ (k2_h18 : k2_cond18 i k2_t8 = 1#1), ∀ (k2_h20 : k2_cond20 v82 v84 = 1#1), ∀ a, (k2_off174 v82) a + S1x16.size a ≤ S512x128.size a) ∧
  (∀ (k2_h18 : k2_cond18 i k2_t8 = 1#1), ∀ (k2_h20 : k2_cond20 v82 v84 = 1#1), ∀ a, (k2_off176 v82) a + S1x16.size a ≤ S512x128.size a) ∧
  (∀ (k2_h18 : k2_cond18 i k2_t8 = 1#1), ∀ (k2_h20 : k2_cond20 v82 v84 = 1#1), ∀ a, (k2_off178 v82) a + S1x16.size a ≤ S512x128.size a) ∧
  (∀ (k2_h18 : k2_cond18 i k2_t8 = 1#1), ∀ (k2_h20 : k2_cond20 v82 v84 = 1#1), ∀ a, (k2_off180 v82) a + S1x16.size a ≤ S512x128.size a) ∧
  (∀ (k2_h18 : k2_cond18 i k2_t8 = 1#1), ∀ (k2_h20 : k2_cond20 v82 v84 = 1#1), ∀ a, (k2_off182 v82) a + S1x16.size a ≤ S512x128.size a) ∧
  (∀ (k2_h18 : k2_cond18 i k2_t8 = 1#1), ∀ (k2_h20 : k2_cond20 v82 v84 = 1#1), ∀ a, (k2_off184 v82) a + S1x16.size a ≤ S512x128.size a)
theorem k2_off170_inb : ∀ (i : grid2.Coords) (k2_t8 : Fin (k2_t8_loop i).trips) (v82 : BitVec 32) (v84 : BitVec 32) (k2_hw10 : k2_chk10 i k2_t8 v82 v84), ∀ (k2_h18 : k2_cond18 i k2_t8 = 1#1), ∀ (k2_h20 : k2_cond20 v82 v84 = 1#1), ∀ a, (k2_off170 v82) a + S1x16.size a ≤ S512x128.size a := fun i k2_t8 v82 v84 k2_hw10 k2_h18 k2_h20 => k2_hw10.1 k2_h18 k2_h20
theorem k2_off172_inb : ∀ (i : grid2.Coords) (k2_t8 : Fin (k2_t8_loop i).trips) (v82 : BitVec 32) (v84 : BitVec 32) (k2_hw10 : k2_chk10 i k2_t8 v82 v84), ∀ (k2_h18 : k2_cond18 i k2_t8 = 1#1), ∀ (k2_h20 : k2_cond20 v82 v84 = 1#1), ∀ a, (k2_off172 v82) a + S1x16.size a ≤ S512x128.size a := fun i k2_t8 v82 v84 k2_hw10 k2_h18 k2_h20 => k2_hw10.2.1 k2_h18 k2_h20
theorem k2_off174_inb : ∀ (i : grid2.Coords) (k2_t8 : Fin (k2_t8_loop i).trips) (v82 : BitVec 32) (v84 : BitVec 32) (k2_hw10 : k2_chk10 i k2_t8 v82 v84), ∀ (k2_h18 : k2_cond18 i k2_t8 = 1#1), ∀ (k2_h20 : k2_cond20 v82 v84 = 1#1), ∀ a, (k2_off174 v82) a + S1x16.size a ≤ S512x128.size a := fun i k2_t8 v82 v84 k2_hw10 k2_h18 k2_h20 => k2_hw10.2.2.1 k2_h18 k2_h20
theorem k2_off176_inb : ∀ (i : grid2.Coords) (k2_t8 : Fin (k2_t8_loop i).trips) (v82 : BitVec 32) (v84 : BitVec 32) (k2_hw10 : k2_chk10 i k2_t8 v82 v84), ∀ (k2_h18 : k2_cond18 i k2_t8 = 1#1), ∀ (k2_h20 : k2_cond20 v82 v84 = 1#1), ∀ a, (k2_off176 v82) a + S1x16.size a ≤ S512x128.size a := fun i k2_t8 v82 v84 k2_hw10 k2_h18 k2_h20 => k2_hw10.2.2.2.1 k2_h18 k2_h20
theorem k2_off178_inb : ∀ (i : grid2.Coords) (k2_t8 : Fin (k2_t8_loop i).trips) (v82 : BitVec 32) (v84 : BitVec 32) (k2_hw10 : k2_chk10 i k2_t8 v82 v84), ∀ (k2_h18 : k2_cond18 i k2_t8 = 1#1), ∀ (k2_h20 : k2_cond20 v82 v84 = 1#1), ∀ a, (k2_off178 v82) a + S1x16.size a ≤ S512x128.size a := fun i k2_t8 v82 v84 k2_hw10 k2_h18 k2_h20 => k2_hw10.2.2.2.2.1 k2_h18 k2_h20
theorem k2_off180_inb : ∀ (i : grid2.Coords) (k2_t8 : Fin (k2_t8_loop i).trips) (v82 : BitVec 32) (v84 : BitVec 32) (k2_hw10 : k2_chk10 i k2_t8 v82 v84), ∀ (k2_h18 : k2_cond18 i k2_t8 = 1#1), ∀ (k2_h20 : k2_cond20 v82 v84 = 1#1), ∀ a, (k2_off180 v82) a + S1x16.size a ≤ S512x128.size a := fun i k2_t8 v82 v84 k2_hw10 k2_h18 k2_h20 => k2_hw10.2.2.2.2.2.1 k2_h18 k2_h20
theorem k2_off182_inb : ∀ (i : grid2.Coords) (k2_t8 : Fin (k2_t8_loop i).trips) (v82 : BitVec 32) (v84 : BitVec 32) (k2_hw10 : k2_chk10 i k2_t8 v82 v84), ∀ (k2_h18 : k2_cond18 i k2_t8 = 1#1), ∀ (k2_h20 : k2_cond20 v82 v84 = 1#1), ∀ a, (k2_off182 v82) a + S1x16.size a ≤ S512x128.size a := fun i k2_t8 v82 v84 k2_hw10 k2_h18 k2_h20 => k2_hw10.2.2.2.2.2.2.1 k2_h18 k2_h20
theorem k2_off184_inb : ∀ (i : grid2.Coords) (k2_t8 : Fin (k2_t8_loop i).trips) (v82 : BitVec 32) (v84 : BitVec 32) (k2_hw10 : k2_chk10 i k2_t8 v82 v84), ∀ (k2_h18 : k2_cond18 i k2_t8 = 1#1), ∀ (k2_h20 : k2_cond20 v82 v84 = 1#1), ∀ a, (k2_off184 v82) a + S1x16.size a ≤ S512x128.size a := fun i k2_t8 v82 v84 k2_hw10 k2_h18 k2_h20 => k2_hw10.2.2.2.2.2.2.2 k2_h18 k2_h20

def k2_off185 (k2_t12 : Fin k2_t12_loop.trips) (c0_i32_709 : BitVec 32) : Fin 2 → Nat :=
  let c0_i32_38 : BitVec 32 := 0#32
  let c1_i32_39 : BitVec 32 := 1#32
  let arg17 : BitVec 32 := Scf.iv c0_i32_38 c1_i32_39 k2_t12
  let c4_i32_708 : BitVec 32 := 4#32
  let v1459 : BitVec 32 := Scalar.shli arg17 c4_i32_708
  let v1460 : BitVec 32 := Scalar.addi v1459 c0_i32_709
  let v1461 : Index := Scalar.indexCast v1460
  let c112_710 : Index := 112#32
  ![v1461.toNat, 112]
@[reducible] def k2_t13_loop (k2_t12 : Fin k2_t12_loop.trips) : Scf.Loop 32 :=
  let c0_i32_38 : BitVec 32 := 0#32
  let c1_i32_39 : BitVec 32 := 1#32
  let arg17 : BitVec 32 := Scf.iv c0_i32_38 c1_i32_39 k2_t12
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_52 : BitVec 32 := 1#32
  ⟨v91, v98, c1_i32_52⟩
def k2_off186 (i : grid2.Coords) (k2_t8 : Fin (k2_t8_loop i).trips) (k2_t12 : Fin k2_t12_loop.trips) (k2_t13 : Fin (k2_t13_loop k2_t12).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c80_i32_7 : BitVec 32 := 80#32
  let v18 : BitVec 32 := Scalar.muli v4 c80_i32_7
  let c80_i32 : BitVec 32 := 80#32
  let v15 : BitVec 32 := Scalar.muli v4 c80_i32
  let c96800_i32 : BitVec 32 := 96800#32
  let v16 : BitVec 32 := Scalar.minsi v15 c96800_i32
  let v17 : BitVec 32 := v16
  let v19 : BitVec 32 := Scalar.subi v18 v17
  let c0_i32_17 : BitVec 32 := 0#32
  let c39_i32_2 : BitVec 32 := 39#32
  let c2_i32_1 : BitVec 32 := 2#32
  let v5 : BitVec 1 := Scalar.cmpi .slt v1 c2_i32_1
  let c1_i32 : BitVec 32 := 1#32
  let c0_i32 : BitVec 32 := 0#32
  let v6 : BitVec 32 := Scalar.select v5 c1_i32 c0_i32
  let v7 : BitVec 32 := Scalar.addi c39_i32_2 v6
  let c1_i32_8 : BitVec 32 := 1#32
  let v20 : BitVec 32 := Scalar.addi v7 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c2_i32_9 : BitVec 32 := 2#32
  let c0_i32_12 : BitVec 32 := 0#32
  let v27 : BitVec 1 := Scalar.cmpi .sgt c2_i32_9 c0_i32_12
  let v28 : BitVec 32 := Scalar.extui v27
  let c0_i32_13 : BitVec 32 := 0#32
  let v29 : BitVec 1 := Scalar.cmpi .slt c2_i32_9 c0_i32_13
  let v30 : BitVec 32 := Scalar.extui v29
  let v31 : BitVec 32 := Scalar.subi v28 v30
  let v32 : BitVec 1 := Scalar.cmpi .ne v26 v31
  let v33 : BitVec 32 := Scalar.remsi v20 c2_i32_9
  let c0_i32_14 : BitVec 32 := 0#32
  let v34 : BitVec 1 := Scalar.cmpi .ne v33 c0_i32_14
  let v35 : BitVec 1 := Scalar.andi v32 v34
  let v21 : BitVec 32 := Scalar.divsi v20 c2_i32_9
  let c1_i32_15 : BitVec 32 := 1#32
  let v36 : BitVec 32 := Scalar.subi v21 c1_i32_15
  let v37 : BitVec 32 := Scalar.select v35 v36 v21
  let v38 : BitVec 32 := Scalar.subi v37 c0_i32_17
  let c1_i32_18 : BitVec 32 := 1#32
  let v40 : BitVec 32 := Scalar.divsi v38 c1_i32_18
  let v41 : BitVec 32 := Scalar.muli v40 c1_i32_18
  let v42 : BitVec 32 := Scalar.addi c0_i32_17 v41
  let c1_i32_20 : BitVec 32 := 1#32
  let arg16 : BitVec 32 := Scf.iv v42 c1_i32_20 k2_t8
  let c2_i32_25 : BitVec 32 := 2#32
  let v49 : BitVec 32 := Scalar.muli arg16 c2_i32_25
  let v50 : BitVec 32 := Scalar.addi v4 v49
  let c1_i32_28 : BitVec 32 := 1#32
  let v55 : BitVec 32 := Scalar.addi v50 c1_i32_28
  let v59 : BitVec 32 := Scalar.subi v55 v4
  let c80_i32_30 : BitVec 32 := 80#32
  let v60 : BitVec 32 := Scalar.muli v59 c80_i32_30
  let v61 : BitVec 32 := Scalar.addi v19 v60
  let c0_i32_38 : BitVec 32 := 0#32
  let c1_i32_39 : BitVec 32 := 1#32
  let arg17 : BitVec 32 := Scf.iv c0_i32_38 c1_i32_39 k2_t12
  let c4_i32 : BitVec 32 := 4#32
  let v91 : BitVec 32 := Scalar.shli arg17 c4_i32
  let c1_i32_52 : BitVec 32 := 1#32
  let arg18 : BitVec 32 := Scf.iv v91 c1_i32_52 k2_t13
  let v99 : BitVec 32 := Scalar.addi v61 arg18
  let v100 : Index := Scalar.indexCast v99
  ![v100.toNat]
def k2_off187 (k2_t12 : Fin k2_t12_loop.trips) (k2_t13 : Fin (k2_t13_loop k2_t12).trips) : Fin 2 → Nat :=
  let c0_i32_38 : BitVec 32 := 0#32
  let c1_i32_39 : BitVec 32 := 1#32
  let arg17 : BitVec 32 := Scf.iv c0_i32_38 c1_i32_39 k2_t12
  let c4_i32 : BitVec 32 := 4#32
  let v91 : BitVec 32 := Scalar.shli arg17 c4_i32
  let c1_i32_52 : BitVec 32 := 1#32
  let arg18 : BitVec 32 := Scf.iv v91 c1_i32_52 k2_t13
  let v105 : Index := Scalar.indexCast arg18
  let c0 : Index := 0#32
  ![v105.toNat, 0]
def k2_off188 (v104 : BitVec 32) : Fin 2 → Nat :=
  let v108 : Index := Scalar.indexCast v104
  let c0_54 : Index := 0#32
  ![v108.toNat, 0]
def k2_cond21 (v82 : BitVec 32) (v84 : BitVec 32) : BitVec 1 :=
  let v85 : BitVec 1 := Scalar.cmpi .eq v82 v84
  let v_true : BitVec 1 := 1#1
  let v88 : BitVec 1 := Scalar.xori v85 v_true
  let v89 : BitVec 32 := Scalar.extui v88
  let c0_i32_47 : BitVec 32 := 0#32
  let v90 : BitVec 1 := Scalar.cmpi .ne v89 c0_i32_47
  v90

def k2_off189 (k2_t12 : Fin k2_t12_loop.trips) (k2_t13 : Fin (k2_t13_loop k2_t12).trips) : Fin 2 → Nat :=
  let c0_i32_38 : BitVec 32 := 0#32
  let c1_i32_39 : BitVec 32 := 1#32
  let arg17 : BitVec 32 := Scf.iv c0_i32_38 c1_i32_39 k2_t12
  let c4_i32 : BitVec 32 := 4#32
  let v91 : BitVec 32 := Scalar.shli arg17 c4_i32
  let c1_i32_52 : BitVec 32 := 1#32
  let arg18 : BitVec 32 := Scf.iv v91 c1_i32_52 k2_t13
  let v112 : Index := Scalar.indexCast arg18
  let c0_55 : Index := 0#32
  ![v112.toNat, 0]
def k2_off190 (k2_t12 : Fin k2_t12_loop.trips) (k2_t13 : Fin (k2_t13_loop k2_t12).trips) : Fin 2 → Nat :=
  let c0_i32_38 : BitVec 32 := 0#32
  let c1_i32_39 : BitVec 32 := 1#32
  let arg17 : BitVec 32 := Scf.iv c0_i32_38 c1_i32_39 k2_t12
  let c4_i32 : BitVec 32 := 4#32
  let v91 : BitVec 32 := Scalar.shli arg17 c4_i32
  let c1_i32_52 : BitVec 32 := 1#32
  let arg18 : BitVec 32 := Scf.iv v91 c1_i32_52 k2_t13
  let v116 : Index := Scalar.indexCast arg18
  let c16 : Index := 16#32
  ![v116.toNat, 16]
def k2_off191 (v104 : BitVec 32) : Fin 2 → Nat :=
  let v119 : Index := Scalar.indexCast v104
  let c16_56 : Index := 16#32
  ![v119.toNat, 16]
def k2_off192 (k2_t12 : Fin k2_t12_loop.trips) (k2_t13 : Fin (k2_t13_loop k2_t12).trips) : Fin 2 → Nat :=
  let c0_i32_38 : BitVec 32 := 0#32
  let c1_i32_39 : BitVec 32 := 1#32
  let arg17 : BitVec 32 := Scf.iv c0_i32_38 c1_i32_39 k2_t12
  let c4_i32 : BitVec 32 := 4#32
  let v91 : BitVec 32 := Scalar.shli arg17 c4_i32
  let c1_i32_52 : BitVec 32 := 1#32
  let arg18 : BitVec 32 := Scf.iv v91 c1_i32_52 k2_t13
  let v127 : Index := Scalar.indexCast arg18
  let c32 : Index := 32#32
  ![v127.toNat, 32]
def k2_off193 (v104 : BitVec 32) : Fin 2 → Nat :=
  let v130 : Index := Scalar.indexCast v104
  let c32_58 : Index := 32#32
  ![v130.toNat, 32]
def k2_off194 (k2_t12 : Fin k2_t12_loop.trips) (k2_t13 : Fin (k2_t13_loop k2_t12).trips) : Fin 2 → Nat :=
  let c0_i32_38 : BitVec 32 := 0#32
  let c1_i32_39 : BitVec 32 := 1#32
  let arg17 : BitVec 32 := Scf.iv c0_i32_38 c1_i32_39 k2_t12
  let c4_i32 : BitVec 32 := 4#32
  let v91 : BitVec 32 := Scalar.shli arg17 c4_i32
  let c1_i32_52 : BitVec 32 := 1#32
  let arg18 : BitVec 32 := Scf.iv v91 c1_i32_52 k2_t13
  let v138 : Index := Scalar.indexCast arg18
  let c48 : Index := 48#32
  ![v138.toNat, 48]
def k2_off195 (v104 : BitVec 32) : Fin 2 → Nat :=
  let v141 : Index := Scalar.indexCast v104
  let c48_60 : Index := 48#32
  ![v141.toNat, 48]
def k2_off196 (k2_t12 : Fin k2_t12_loop.trips) (k2_t13 : Fin (k2_t13_loop k2_t12).trips) : Fin 2 → Nat :=
  let c0_i32_38 : BitVec 32 := 0#32
  let c1_i32_39 : BitVec 32 := 1#32
  let arg17 : BitVec 32 := Scf.iv c0_i32_38 c1_i32_39 k2_t12
  let c4_i32 : BitVec 32 := 4#32
  let v91 : BitVec 32 := Scalar.shli arg17 c4_i32
  let c1_i32_52 : BitVec 32 := 1#32
  let arg18 : BitVec 32 := Scf.iv v91 c1_i32_52 k2_t13
  let v149 : Index := Scalar.indexCast arg18
  let c64 : Index := 64#32
  ![v149.toNat, 64]
def k2_off197 (v104 : BitVec 32) : Fin 2 → Nat :=
  let v152 : Index := Scalar.indexCast v104
  let c64_62 : Index := 64#32
  ![v152.toNat, 64]
def k2_off198 (k2_t12 : Fin k2_t12_loop.trips) (k2_t13 : Fin (k2_t13_loop k2_t12).trips) : Fin 2 → Nat :=
  let c0_i32_38 : BitVec 32 := 0#32
  let c1_i32_39 : BitVec 32 := 1#32
  let arg17 : BitVec 32 := Scf.iv c0_i32_38 c1_i32_39 k2_t12
  let c4_i32 : BitVec 32 := 4#32
  let v91 : BitVec 32 := Scalar.shli arg17 c4_i32
  let c1_i32_52 : BitVec 32 := 1#32
  let arg18 : BitVec 32 := Scf.iv v91 c1_i32_52 k2_t13
  let v160 : Index := Scalar.indexCast arg18
  let c80 : Index := 80#32
  ![v160.toNat, 80]
def k2_off199 (v104 : BitVec 32) : Fin 2 → Nat :=
  let v163 : Index := Scalar.indexCast v104
  let c80_64 : Index := 80#32
  ![v163.toNat, 80]
def k2_off200 (k2_t12 : Fin k2_t12_loop.trips) (k2_t13 : Fin (k2_t13_loop k2_t12).trips) : Fin 2 → Nat :=
  let c0_i32_38 : BitVec 32 := 0#32
  let c1_i32_39 : BitVec 32 := 1#32
  let arg17 : BitVec 32 := Scf.iv c0_i32_38 c1_i32_39 k2_t12
  let c4_i32 : BitVec 32 := 4#32
  let v91 : BitVec 32 := Scalar.shli arg17 c4_i32
  let c1_i32_52 : BitVec 32 := 1#32
  let arg18 : BitVec 32 := Scf.iv v91 c1_i32_52 k2_t13
  let v171 : Index := Scalar.indexCast arg18
  let c96 : Index := 96#32
  ![v171.toNat, 96]
def k2_off201 (v104 : BitVec 32) : Fin 2 → Nat :=
  let v174 : Index := Scalar.indexCast v104
  let c96_66 : Index := 96#32
  ![v174.toNat, 96]
def k2_off202 (k2_t12 : Fin k2_t12_loop.trips) (k2_t13 : Fin (k2_t13_loop k2_t12).trips) : Fin 2 → Nat :=
  let c0_i32_38 : BitVec 32 := 0#32
  let c1_i32_39 : BitVec 32 := 1#32
  let arg17 : BitVec 32 := Scf.iv c0_i32_38 c1_i32_39 k2_t12
  let c4_i32 : BitVec 32 := 4#32
  let v91 : BitVec 32 := Scalar.shli arg17 c4_i32
  let c1_i32_52 : BitVec 32 := 1#32
  let arg18 : BitVec 32 := Scf.iv v91 c1_i32_52 k2_t13
  let v182 : Index := Scalar.indexCast arg18
  let c112 : Index := 112#32
  ![v182.toNat, 112]
def k2_off203 (v104 : BitVec 32) : Fin 2 → Nat :=
  let v185 : Index := Scalar.indexCast v104
  let c112_68 : Index := 112#32
  ![v185.toNat, 112]

def k2_chk11 (i : grid2.Coords) (k2_t8 : Fin (k2_t8_loop i).trips) (k2_t12 : Fin k2_t12_loop.trips) (v82 : BitVec 32) (v84 : BitVec 32) (k2_t13 : Fin (k2_t13_loop k2_t12).trips) (v104 : BitVec 32) : Prop :=
  (∀ (k2_h18 : k2_cond18 i k2_t8 = 1#1), ∀ (k2_h21 : k2_cond21 v82 v84 = 1#1), ∀ a, (k2_off188 v104) a + S1x16.size a ≤ S512x128.size a) ∧
  (∀ (k2_h18 : k2_cond18 i k2_t8 = 1#1), ∀ (k2_h21 : k2_cond21 v82 v84 = 1#1), ∀ a, (k2_off191 v104) a + S1x16.size a ≤ S512x128.size a) ∧
  (∀ (k2_h18 : k2_cond18 i k2_t8 = 1#1), ∀ (k2_h21 : k2_cond21 v82 v84 = 1#1), ∀ a, (k2_off193 v104) a + S1x16.size a ≤ S512x128.size a) ∧
  (∀ (k2_h18 : k2_cond18 i k2_t8 = 1#1), ∀ (k2_h21 : k2_cond21 v82 v84 = 1#1), ∀ a, (k2_off195 v104) a + S1x16.size a ≤ S512x128.size a) ∧
  (∀ (k2_h18 : k2_cond18 i k2_t8 = 1#1), ∀ (k2_h21 : k2_cond21 v82 v84 = 1#1), ∀ a, (k2_off197 v104) a + S1x16.size a ≤ S512x128.size a) ∧
  (∀ (k2_h18 : k2_cond18 i k2_t8 = 1#1), ∀ (k2_h21 : k2_cond21 v82 v84 = 1#1), ∀ a, (k2_off199 v104) a + S1x16.size a ≤ S512x128.size a) ∧
  (∀ (k2_h18 : k2_cond18 i k2_t8 = 1#1), ∀ (k2_h21 : k2_cond21 v82 v84 = 1#1), ∀ a, (k2_off201 v104) a + S1x16.size a ≤ S512x128.size a) ∧
  (∀ (k2_h18 : k2_cond18 i k2_t8 = 1#1), ∀ (k2_h21 : k2_cond21 v82 v84 = 1#1), ∀ a, (k2_off203 v104) a + S1x16.size a ≤ S512x128.size a)
theorem k2_off188_inb : ∀ (i : grid2.Coords) (k2_t8 : Fin (k2_t8_loop i).trips) (k2_t12 : Fin k2_t12_loop.trips) (v82 : BitVec 32) (v84 : BitVec 32) (k2_t13 : Fin (k2_t13_loop k2_t12).trips) (v104 : BitVec 32) (k2_hw11 : k2_chk11 i k2_t8 k2_t12 v82 v84 k2_t13 v104), ∀ (k2_h18 : k2_cond18 i k2_t8 = 1#1), ∀ (k2_h21 : k2_cond21 v82 v84 = 1#1), ∀ a, (k2_off188 v104) a + S1x16.size a ≤ S512x128.size a := fun i k2_t8 k2_t12 v82 v84 k2_t13 v104 k2_hw11 k2_h18 k2_h21 => k2_hw11.1 k2_h18 k2_h21
theorem k2_off191_inb : ∀ (i : grid2.Coords) (k2_t8 : Fin (k2_t8_loop i).trips) (k2_t12 : Fin k2_t12_loop.trips) (v82 : BitVec 32) (v84 : BitVec 32) (k2_t13 : Fin (k2_t13_loop k2_t12).trips) (v104 : BitVec 32) (k2_hw11 : k2_chk11 i k2_t8 k2_t12 v82 v84 k2_t13 v104), ∀ (k2_h18 : k2_cond18 i k2_t8 = 1#1), ∀ (k2_h21 : k2_cond21 v82 v84 = 1#1), ∀ a, (k2_off191 v104) a + S1x16.size a ≤ S512x128.size a := fun i k2_t8 k2_t12 v82 v84 k2_t13 v104 k2_hw11 k2_h18 k2_h21 => k2_hw11.2.1 k2_h18 k2_h21
theorem k2_off193_inb : ∀ (i : grid2.Coords) (k2_t8 : Fin (k2_t8_loop i).trips) (k2_t12 : Fin k2_t12_loop.trips) (v82 : BitVec 32) (v84 : BitVec 32) (k2_t13 : Fin (k2_t13_loop k2_t12).trips) (v104 : BitVec 32) (k2_hw11 : k2_chk11 i k2_t8 k2_t12 v82 v84 k2_t13 v104), ∀ (k2_h18 : k2_cond18 i k2_t8 = 1#1), ∀ (k2_h21 : k2_cond21 v82 v84 = 1#1), ∀ a, (k2_off193 v104) a + S1x16.size a ≤ S512x128.size a := fun i k2_t8 k2_t12 v82 v84 k2_t13 v104 k2_hw11 k2_h18 k2_h21 => k2_hw11.2.2.1 k2_h18 k2_h21
theorem k2_off195_inb : ∀ (i : grid2.Coords) (k2_t8 : Fin (k2_t8_loop i).trips) (k2_t12 : Fin k2_t12_loop.trips) (v82 : BitVec 32) (v84 : BitVec 32) (k2_t13 : Fin (k2_t13_loop k2_t12).trips) (v104 : BitVec 32) (k2_hw11 : k2_chk11 i k2_t8 k2_t12 v82 v84 k2_t13 v104), ∀ (k2_h18 : k2_cond18 i k2_t8 = 1#1), ∀ (k2_h21 : k2_cond21 v82 v84 = 1#1), ∀ a, (k2_off195 v104) a + S1x16.size a ≤ S512x128.size a := fun i k2_t8 k2_t12 v82 v84 k2_t13 v104 k2_hw11 k2_h18 k2_h21 => k2_hw11.2.2.2.1 k2_h18 k2_h21
theorem k2_off197_inb : ∀ (i : grid2.Coords) (k2_t8 : Fin (k2_t8_loop i).trips) (k2_t12 : Fin k2_t12_loop.trips) (v82 : BitVec 32) (v84 : BitVec 32) (k2_t13 : Fin (k2_t13_loop k2_t12).trips) (v104 : BitVec 32) (k2_hw11 : k2_chk11 i k2_t8 k2_t12 v82 v84 k2_t13 v104), ∀ (k2_h18 : k2_cond18 i k2_t8 = 1#1), ∀ (k2_h21 : k2_cond21 v82 v84 = 1#1), ∀ a, (k2_off197 v104) a + S1x16.size a ≤ S512x128.size a := fun i k2_t8 k2_t12 v82 v84 k2_t13 v104 k2_hw11 k2_h18 k2_h21 => k2_hw11.2.2.2.2.1 k2_h18 k2_h21
theorem k2_off199_inb : ∀ (i : grid2.Coords) (k2_t8 : Fin (k2_t8_loop i).trips) (k2_t12 : Fin k2_t12_loop.trips) (v82 : BitVec 32) (v84 : BitVec 32) (k2_t13 : Fin (k2_t13_loop k2_t12).trips) (v104 : BitVec 32) (k2_hw11 : k2_chk11 i k2_t8 k2_t12 v82 v84 k2_t13 v104), ∀ (k2_h18 : k2_cond18 i k2_t8 = 1#1), ∀ (k2_h21 : k2_cond21 v82 v84 = 1#1), ∀ a, (k2_off199 v104) a + S1x16.size a ≤ S512x128.size a := fun i k2_t8 k2_t12 v82 v84 k2_t13 v104 k2_hw11 k2_h18 k2_h21 => k2_hw11.2.2.2.2.2.1 k2_h18 k2_h21
theorem k2_off201_inb : ∀ (i : grid2.Coords) (k2_t8 : Fin (k2_t8_loop i).trips) (k2_t12 : Fin k2_t12_loop.trips) (v82 : BitVec 32) (v84 : BitVec 32) (k2_t13 : Fin (k2_t13_loop k2_t12).trips) (v104 : BitVec 32) (k2_hw11 : k2_chk11 i k2_t8 k2_t12 v82 v84 k2_t13 v104), ∀ (k2_h18 : k2_cond18 i k2_t8 = 1#1), ∀ (k2_h21 : k2_cond21 v82 v84 = 1#1), ∀ a, (k2_off201 v104) a + S1x16.size a ≤ S512x128.size a := fun i k2_t8 k2_t12 v82 v84 k2_t13 v104 k2_hw11 k2_h18 k2_h21 => k2_hw11.2.2.2.2.2.2.1 k2_h18 k2_h21
theorem k2_off203_inb : ∀ (i : grid2.Coords) (k2_t8 : Fin (k2_t8_loop i).trips) (k2_t12 : Fin k2_t12_loop.trips) (v82 : BitVec 32) (v84 : BitVec 32) (k2_t13 : Fin (k2_t13_loop k2_t12).trips) (v104 : BitVec 32) (k2_hw11 : k2_chk11 i k2_t8 k2_t12 v82 v84 k2_t13 v104), ∀ (k2_h18 : k2_cond18 i k2_t8 = 1#1), ∀ (k2_h21 : k2_cond21 v82 v84 = 1#1), ∀ a, (k2_off203 v104) a + S1x16.size a ≤ S512x128.size a := fun i k2_t8 k2_t12 v82 v84 k2_t13 v104 k2_hw11 k2_h18 k2_h21 => k2_hw11.2.2.2.2.2.2.2 k2_h18 k2_h21

@[reducible] def k2_t14_loop (k2_t12 : Fin k2_t12_loop.trips) : Scf.Loop 32 :=
  let c0_i32_38 : BitVec 32 := 0#32
  let c1_i32_39 : BitVec 32 := 1#32
  let arg17 : BitVec 32 := Scf.iv c0_i32_38 c1_i32_39 k2_t12
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let v95 : BitVec 32 := Scalar.addi v91 v94
  let c1_i32_53 : BitVec 32 := 1#32
  ⟨v98, v95, c1_i32_53⟩
def k2_off204 (i : grid2.Coords) (k2_t8 : Fin (k2_t8_loop i).trips) (k2_t12 : Fin k2_t12_loop.trips) (k2_t14 : Fin (k2_t14_loop k2_t12).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c80_i32_7 : BitVec 32 := 80#32
  let v18 : BitVec 32 := Scalar.muli v4 c80_i32_7
  let c80_i32 : BitVec 32 := 80#32
  let v15 : BitVec 32 := Scalar.muli v4 c80_i32
  let c96800_i32 : BitVec 32 := 96800#32
  let v16 : BitVec 32 := Scalar.minsi v15 c96800_i32
  let v17 : BitVec 32 := v16
  let v19 : BitVec 32 := Scalar.subi v18 v17
  let c0_i32_17 : BitVec 32 := 0#32
  let c39_i32_2 : BitVec 32 := 39#32
  let c2_i32_1 : BitVec 32 := 2#32
  let v5 : BitVec 1 := Scalar.cmpi .slt v1 c2_i32_1
  let c1_i32 : BitVec 32 := 1#32
  let c0_i32 : BitVec 32 := 0#32
  let v6 : BitVec 32 := Scalar.select v5 c1_i32 c0_i32
  let v7 : BitVec 32 := Scalar.addi c39_i32_2 v6
  let c1_i32_8 : BitVec 32 := 1#32
  let v20 : BitVec 32 := Scalar.addi v7 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c2_i32_9 : BitVec 32 := 2#32
  let c0_i32_12 : BitVec 32 := 0#32
  let v27 : BitVec 1 := Scalar.cmpi .sgt c2_i32_9 c0_i32_12
  let v28 : BitVec 32 := Scalar.extui v27
  let c0_i32_13 : BitVec 32 := 0#32
  let v29 : BitVec 1 := Scalar.cmpi .slt c2_i32_9 c0_i32_13
  let v30 : BitVec 32 := Scalar.extui v29
  let v31 : BitVec 32 := Scalar.subi v28 v30
  let v32 : BitVec 1 := Scalar.cmpi .ne v26 v31
  let v33 : BitVec 32 := Scalar.remsi v20 c2_i32_9
  let c0_i32_14 : BitVec 32 := 0#32
  let v34 : BitVec 1 := Scalar.cmpi .ne v33 c0_i32_14
  let v35 : BitVec 1 := Scalar.andi v32 v34
  let v21 : BitVec 32 := Scalar.divsi v20 c2_i32_9
  let c1_i32_15 : BitVec 32 := 1#32
  let v36 : BitVec 32 := Scalar.subi v21 c1_i32_15
  let v37 : BitVec 32 := Scalar.select v35 v36 v21
  let v38 : BitVec 32 := Scalar.subi v37 c0_i32_17
  let c1_i32_18 : BitVec 32 := 1#32
  let v40 : BitVec 32 := Scalar.divsi v38 c1_i32_18
  let v41 : BitVec 32 := Scalar.muli v40 c1_i32_18
  let v42 : BitVec 32 := Scalar.addi c0_i32_17 v41
  let c1_i32_20 : BitVec 32 := 1#32
  let arg16 : BitVec 32 := Scf.iv v42 c1_i32_20 k2_t8
  let c2_i32_25 : BitVec 32 := 2#32
  let v49 : BitVec 32 := Scalar.muli arg16 c2_i32_25
  let v50 : BitVec 32 := Scalar.addi v4 v49
  let c1_i32_28 : BitVec 32 := 1#32
  let v55 : BitVec 32 := Scalar.addi v50 c1_i32_28
  let v59 : BitVec 32 := Scalar.subi v55 v4
  let c80_i32_30 : BitVec 32 := 80#32
  let v60 : BitVec 32 := Scalar.muli v59 c80_i32_30
  let v61 : BitVec 32 := Scalar.addi v19 v60
  let c0_i32_38 : BitVec 32 := 0#32
  let c1_i32_39 : BitVec 32 := 1#32
  let arg17 : BitVec 32 := Scf.iv c0_i32_38 c1_i32_39 k2_t12
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t14
  let v99 : BitVec 32 := Scalar.addi v61 arg18
  let v100 : Index := Scalar.indexCast v99
  ![v100.toNat]
def k2_off205 (k2_t12 : Fin k2_t12_loop.trips) (k2_t14 : Fin (k2_t14_loop k2_t12).trips) : Fin 2 → Nat :=
  let c0_i32_38 : BitVec 32 := 0#32
  let c1_i32_39 : BitVec 32 := 1#32
  let arg17 : BitVec 32 := Scf.iv c0_i32_38 c1_i32_39 k2_t12
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t14
  let v105 : Index := Scalar.indexCast arg18
  let c0 : Index := 0#32
  ![v105.toNat, 0]
def k2_off206 (v104 : BitVec 32) : Fin 2 → Nat :=
  let v108 : Index := Scalar.indexCast v104
  let c0_54 : Index := 0#32
  ![v108.toNat, 0]

def k2_off207 (k2_t12 : Fin k2_t12_loop.trips) (k2_t14 : Fin (k2_t14_loop k2_t12).trips) : Fin 2 → Nat :=
  let c0_i32_38 : BitVec 32 := 0#32
  let c1_i32_39 : BitVec 32 := 1#32
  let arg17 : BitVec 32 := Scf.iv c0_i32_38 c1_i32_39 k2_t12
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t14
  let v112 : Index := Scalar.indexCast arg18
  let c0_55 : Index := 0#32
  ![v112.toNat, 0]
def k2_off208 (k2_t12 : Fin k2_t12_loop.trips) (k2_t14 : Fin (k2_t14_loop k2_t12).trips) : Fin 2 → Nat :=
  let c0_i32_38 : BitVec 32 := 0#32
  let c1_i32_39 : BitVec 32 := 1#32
  let arg17 : BitVec 32 := Scf.iv c0_i32_38 c1_i32_39 k2_t12
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t14
  let v116 : Index := Scalar.indexCast arg18
  let c16 : Index := 16#32
  ![v116.toNat, 16]
def k2_off209 (v104 : BitVec 32) : Fin 2 → Nat :=
  let v119 : Index := Scalar.indexCast v104
  let c16_56 : Index := 16#32
  ![v119.toNat, 16]
def k2_off210 (k2_t12 : Fin k2_t12_loop.trips) (k2_t14 : Fin (k2_t14_loop k2_t12).trips) : Fin 2 → Nat :=
  let c0_i32_38 : BitVec 32 := 0#32
  let c1_i32_39 : BitVec 32 := 1#32
  let arg17 : BitVec 32 := Scf.iv c0_i32_38 c1_i32_39 k2_t12
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t14
  let v127 : Index := Scalar.indexCast arg18
  let c32 : Index := 32#32
  ![v127.toNat, 32]
def k2_off211 (v104 : BitVec 32) : Fin 2 → Nat :=
  let v130 : Index := Scalar.indexCast v104
  let c32_58 : Index := 32#32
  ![v130.toNat, 32]
def k2_off212 (k2_t12 : Fin k2_t12_loop.trips) (k2_t14 : Fin (k2_t14_loop k2_t12).trips) : Fin 2 → Nat :=
  let c0_i32_38 : BitVec 32 := 0#32
  let c1_i32_39 : BitVec 32 := 1#32
  let arg17 : BitVec 32 := Scf.iv c0_i32_38 c1_i32_39 k2_t12
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t14
  let v138 : Index := Scalar.indexCast arg18
  let c48 : Index := 48#32
  ![v138.toNat, 48]
def k2_off213 (v104 : BitVec 32) : Fin 2 → Nat :=
  let v141 : Index := Scalar.indexCast v104
  let c48_60 : Index := 48#32
  ![v141.toNat, 48]
def k2_off214 (k2_t12 : Fin k2_t12_loop.trips) (k2_t14 : Fin (k2_t14_loop k2_t12).trips) : Fin 2 → Nat :=
  let c0_i32_38 : BitVec 32 := 0#32
  let c1_i32_39 : BitVec 32 := 1#32
  let arg17 : BitVec 32 := Scf.iv c0_i32_38 c1_i32_39 k2_t12
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t14
  let v149 : Index := Scalar.indexCast arg18
  let c64 : Index := 64#32
  ![v149.toNat, 64]
def k2_off215 (v104 : BitVec 32) : Fin 2 → Nat :=
  let v152 : Index := Scalar.indexCast v104
  let c64_62 : Index := 64#32
  ![v152.toNat, 64]
def k2_off216 (k2_t12 : Fin k2_t12_loop.trips) (k2_t14 : Fin (k2_t14_loop k2_t12).trips) : Fin 2 → Nat :=
  let c0_i32_38 : BitVec 32 := 0#32
  let c1_i32_39 : BitVec 32 := 1#32
  let arg17 : BitVec 32 := Scf.iv c0_i32_38 c1_i32_39 k2_t12
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t14
  let v160 : Index := Scalar.indexCast arg18
  let c80 : Index := 80#32
  ![v160.toNat, 80]
def k2_off217 (v104 : BitVec 32) : Fin 2 → Nat :=
  let v163 : Index := Scalar.indexCast v104
  let c80_64 : Index := 80#32
  ![v163.toNat, 80]
def k2_off218 (k2_t12 : Fin k2_t12_loop.trips) (k2_t14 : Fin (k2_t14_loop k2_t12).trips) : Fin 2 → Nat :=
  let c0_i32_38 : BitVec 32 := 0#32
  let c1_i32_39 : BitVec 32 := 1#32
  let arg17 : BitVec 32 := Scf.iv c0_i32_38 c1_i32_39 k2_t12
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t14
  let v171 : Index := Scalar.indexCast arg18
  let c96 : Index := 96#32
  ![v171.toNat, 96]
def k2_off219 (v104 : BitVec 32) : Fin 2 → Nat :=
  let v174 : Index := Scalar.indexCast v104
  let c96_66 : Index := 96#32
  ![v174.toNat, 96]
def k2_off220 (k2_t12 : Fin k2_t12_loop.trips) (k2_t14 : Fin (k2_t14_loop k2_t12).trips) : Fin 2 → Nat :=
  let c0_i32_38 : BitVec 32 := 0#32
  let c1_i32_39 : BitVec 32 := 1#32
  let arg17 : BitVec 32 := Scf.iv c0_i32_38 c1_i32_39 k2_t12
  let c4_i32 : BitVec 32 := 4#32
  let v91 : BitVec 32 := Scalar.shli arg17 c4_i32
  let c1_i32_48 : BitVec 32 := 1#32
  let v92 : BitVec 32 := Scalar.addi arg17 c1_i32_48
  let c4_i32_49 : BitVec 32 := 4#32
  let v93 : BitVec 32 := Scalar.shli v92 c4_i32_49
  let v94 : BitVec 32 := Scalar.subi v93 v91
  let c1_i32_51 : BitVec 32 := 1#32
  let v96 : BitVec 32 := Scalar.divsi v94 c1_i32_51
  let v97 : BitVec 32 := Scalar.muli v96 c1_i32_51
  let v98 : BitVec 32 := Scalar.addi v91 v97
  let c1_i32_53 : BitVec 32 := 1#32
  let arg18 : BitVec 32 := Scf.iv v98 c1_i32_53 k2_t14
  let v182 : Index := Scalar.indexCast arg18
  let c112 : Index := 112#32
  ![v182.toNat, 112]
def k2_off221 (v104 : BitVec 32) : Fin 2 → Nat :=
  let v185 : Index := Scalar.indexCast v104
  let c112_68 : Index := 112#32
  ![v185.toNat, 112]

def k2_chk12 (i : grid2.Coords) (k2_t8 : Fin (k2_t8_loop i).trips) (k2_t12 : Fin k2_t12_loop.trips) (v82 : BitVec 32) (v84 : BitVec 32) (k2_t14 : Fin (k2_t14_loop k2_t12).trips) (v104 : BitVec 32) : Prop :=
  (∀ (k2_h18 : k2_cond18 i k2_t8 = 1#1), ∀ (k2_h21 : k2_cond21 v82 v84 = 1#1), ∀ a, (k2_off206 v104) a + S1x16.size a ≤ S512x128.size a) ∧
  (∀ (k2_h18 : k2_cond18 i k2_t8 = 1#1), ∀ (k2_h21 : k2_cond21 v82 v84 = 1#1), ∀ a, (k2_off209 v104) a + S1x16.size a ≤ S512x128.size a) ∧
  (∀ (k2_h18 : k2_cond18 i k2_t8 = 1#1), ∀ (k2_h21 : k2_cond21 v82 v84 = 1#1), ∀ a, (k2_off211 v104) a + S1x16.size a ≤ S512x128.size a) ∧
  (∀ (k2_h18 : k2_cond18 i k2_t8 = 1#1), ∀ (k2_h21 : k2_cond21 v82 v84 = 1#1), ∀ a, (k2_off213 v104) a + S1x16.size a ≤ S512x128.size a) ∧
  (∀ (k2_h18 : k2_cond18 i k2_t8 = 1#1), ∀ (k2_h21 : k2_cond21 v82 v84 = 1#1), ∀ a, (k2_off215 v104) a + S1x16.size a ≤ S512x128.size a) ∧
  (∀ (k2_h18 : k2_cond18 i k2_t8 = 1#1), ∀ (k2_h21 : k2_cond21 v82 v84 = 1#1), ∀ a, (k2_off217 v104) a + S1x16.size a ≤ S512x128.size a) ∧
  (∀ (k2_h18 : k2_cond18 i k2_t8 = 1#1), ∀ (k2_h21 : k2_cond21 v82 v84 = 1#1), ∀ a, (k2_off219 v104) a + S1x16.size a ≤ S512x128.size a) ∧
  (∀ (k2_h18 : k2_cond18 i k2_t8 = 1#1), ∀ (k2_h21 : k2_cond21 v82 v84 = 1#1), ∀ a, (k2_off221 v104) a + S1x16.size a ≤ S512x128.size a)
theorem k2_off206_inb : ∀ (i : grid2.Coords) (k2_t8 : Fin (k2_t8_loop i).trips) (k2_t12 : Fin k2_t12_loop.trips) (v82 : BitVec 32) (v84 : BitVec 32) (k2_t14 : Fin (k2_t14_loop k2_t12).trips) (v104 : BitVec 32) (k2_hw12 : k2_chk12 i k2_t8 k2_t12 v82 v84 k2_t14 v104), ∀ (k2_h18 : k2_cond18 i k2_t8 = 1#1), ∀ (k2_h21 : k2_cond21 v82 v84 = 1#1), ∀ a, (k2_off206 v104) a + S1x16.size a ≤ S512x128.size a := fun i k2_t8 k2_t12 v82 v84 k2_t14 v104 k2_hw12 k2_h18 k2_h21 => k2_hw12.1 k2_h18 k2_h21
theorem k2_off209_inb : ∀ (i : grid2.Coords) (k2_t8 : Fin (k2_t8_loop i).trips) (k2_t12 : Fin k2_t12_loop.trips) (v82 : BitVec 32) (v84 : BitVec 32) (k2_t14 : Fin (k2_t14_loop k2_t12).trips) (v104 : BitVec 32) (k2_hw12 : k2_chk12 i k2_t8 k2_t12 v82 v84 k2_t14 v104), ∀ (k2_h18 : k2_cond18 i k2_t8 = 1#1), ∀ (k2_h21 : k2_cond21 v82 v84 = 1#1), ∀ a, (k2_off209 v104) a + S1x16.size a ≤ S512x128.size a := fun i k2_t8 k2_t12 v82 v84 k2_t14 v104 k2_hw12 k2_h18 k2_h21 => k2_hw12.2.1 k2_h18 k2_h21
theorem k2_off211_inb : ∀ (i : grid2.Coords) (k2_t8 : Fin (k2_t8_loop i).trips) (k2_t12 : Fin k2_t12_loop.trips) (v82 : BitVec 32) (v84 : BitVec 32) (k2_t14 : Fin (k2_t14_loop k2_t12).trips) (v104 : BitVec 32) (k2_hw12 : k2_chk12 i k2_t8 k2_t12 v82 v84 k2_t14 v104), ∀ (k2_h18 : k2_cond18 i k2_t8 = 1#1), ∀ (k2_h21 : k2_cond21 v82 v84 = 1#1), ∀ a, (k2_off211 v104) a + S1x16.size a ≤ S512x128.size a := fun i k2_t8 k2_t12 v82 v84 k2_t14 v104 k2_hw12 k2_h18 k2_h21 => k2_hw12.2.2.1 k2_h18 k2_h21
theorem k2_off213_inb : ∀ (i : grid2.Coords) (k2_t8 : Fin (k2_t8_loop i).trips) (k2_t12 : Fin k2_t12_loop.trips) (v82 : BitVec 32) (v84 : BitVec 32) (k2_t14 : Fin (k2_t14_loop k2_t12).trips) (v104 : BitVec 32) (k2_hw12 : k2_chk12 i k2_t8 k2_t12 v82 v84 k2_t14 v104), ∀ (k2_h18 : k2_cond18 i k2_t8 = 1#1), ∀ (k2_h21 : k2_cond21 v82 v84 = 1#1), ∀ a, (k2_off213 v104) a + S1x16.size a ≤ S512x128.size a := fun i k2_t8 k2_t12 v82 v84 k2_t14 v104 k2_hw12 k2_h18 k2_h21 => k2_hw12.2.2.2.1 k2_h18 k2_h21
theorem k2_off215_inb : ∀ (i : grid2.Coords) (k2_t8 : Fin (k2_t8_loop i).trips) (k2_t12 : Fin k2_t12_loop.trips) (v82 : BitVec 32) (v84 : BitVec 32) (k2_t14 : Fin (k2_t14_loop k2_t12).trips) (v104 : BitVec 32) (k2_hw12 : k2_chk12 i k2_t8 k2_t12 v82 v84 k2_t14 v104), ∀ (k2_h18 : k2_cond18 i k2_t8 = 1#1), ∀ (k2_h21 : k2_cond21 v82 v84 = 1#1), ∀ a, (k2_off215 v104) a + S1x16.size a ≤ S512x128.size a := fun i k2_t8 k2_t12 v82 v84 k2_t14 v104 k2_hw12 k2_h18 k2_h21 => k2_hw12.2.2.2.2.1 k2_h18 k2_h21
theorem k2_off217_inb : ∀ (i : grid2.Coords) (k2_t8 : Fin (k2_t8_loop i).trips) (k2_t12 : Fin k2_t12_loop.trips) (v82 : BitVec 32) (v84 : BitVec 32) (k2_t14 : Fin (k2_t14_loop k2_t12).trips) (v104 : BitVec 32) (k2_hw12 : k2_chk12 i k2_t8 k2_t12 v82 v84 k2_t14 v104), ∀ (k2_h18 : k2_cond18 i k2_t8 = 1#1), ∀ (k2_h21 : k2_cond21 v82 v84 = 1#1), ∀ a, (k2_off217 v104) a + S1x16.size a ≤ S512x128.size a := fun i k2_t8 k2_t12 v82 v84 k2_t14 v104 k2_hw12 k2_h18 k2_h21 => k2_hw12.2.2.2.2.2.1 k2_h18 k2_h21
theorem k2_off219_inb : ∀ (i : grid2.Coords) (k2_t8 : Fin (k2_t8_loop i).trips) (k2_t12 : Fin k2_t12_loop.trips) (v82 : BitVec 32) (v84 : BitVec 32) (k2_t14 : Fin (k2_t14_loop k2_t12).trips) (v104 : BitVec 32) (k2_hw12 : k2_chk12 i k2_t8 k2_t12 v82 v84 k2_t14 v104), ∀ (k2_h18 : k2_cond18 i k2_t8 = 1#1), ∀ (k2_h21 : k2_cond21 v82 v84 = 1#1), ∀ a, (k2_off219 v104) a + S1x16.size a ≤ S512x128.size a := fun i k2_t8 k2_t12 v82 v84 k2_t14 v104 k2_hw12 k2_h18 k2_h21 => k2_hw12.2.2.2.2.2.2.1 k2_h18 k2_h21
theorem k2_off221_inb : ∀ (i : grid2.Coords) (k2_t8 : Fin (k2_t8_loop i).trips) (k2_t12 : Fin k2_t12_loop.trips) (v82 : BitVec 32) (v84 : BitVec 32) (k2_t14 : Fin (k2_t14_loop k2_t12).trips) (v104 : BitVec 32) (k2_hw12 : k2_chk12 i k2_t8 k2_t12 v82 v84 k2_t14 v104), ∀ (k2_h18 : k2_cond18 i k2_t8 = 1#1), ∀ (k2_h21 : k2_cond21 v82 v84 = 1#1), ∀ a, (k2_off221 v104) a + S1x16.size a ≤ S512x128.size a := fun i k2_t8 k2_t12 v82 v84 k2_t14 v104 k2_hw12 k2_h18 k2_h21 => k2_hw12.2.2.2.2.2.2.2 k2_h18 k2_h21

def k2_off222 (i : grid2.Coords) (k2_t8 : Fin (k2_t8_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c0_i32_17 : BitVec 32 := 0#32
  let c39_i32_2 : BitVec 32 := 39#32
  let c2_i32_1 : BitVec 32 := 2#32
  let v5 : BitVec 1 := Scalar.cmpi .slt v1 c2_i32_1
  let c1_i32 : BitVec 32 := 1#32
  let c0_i32 : BitVec 32 := 0#32
  let v6 : BitVec 32 := Scalar.select v5 c1_i32 c0_i32
  let v7 : BitVec 32 := Scalar.addi c39_i32_2 v6
  let c1_i32_8 : BitVec 32 := 1#32
  let v20 : BitVec 32 := Scalar.addi v7 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c2_i32_9 : BitVec 32 := 2#32
  let c0_i32_12 : BitVec 32 := 0#32
  let v27 : BitVec 1 := Scalar.cmpi .sgt c2_i32_9 c0_i32_12
  let v28 : BitVec 32 := Scalar.extui v27
  let c0_i32_13 : BitVec 32 := 0#32
  let v29 : BitVec 1 := Scalar.cmpi .slt c2_i32_9 c0_i32_13
  let v30 : BitVec 32 := Scalar.extui v29
  let v31 : BitVec 32 := Scalar.subi v28 v30
  let v32 : BitVec 1 := Scalar.cmpi .ne v26 v31
  let v33 : BitVec 32 := Scalar.remsi v20 c2_i32_9
  let c0_i32_14 : BitVec 32 := 0#32
  let v34 : BitVec 1 := Scalar.cmpi .ne v33 c0_i32_14
  let v35 : BitVec 1 := Scalar.andi v32 v34
  let v21 : BitVec 32 := Scalar.divsi v20 c2_i32_9
  let c1_i32_15 : BitVec 32 := 1#32
  let v36 : BitVec 32 := Scalar.subi v21 c1_i32_15
  let v37 : BitVec 32 := Scalar.select v35 v36 v21
  let v38 : BitVec 32 := Scalar.subi v37 c0_i32_17
  let c1_i32_18 : BitVec 32 := 1#32
  let v40 : BitVec 32 := Scalar.divsi v38 c1_i32_18
  let v41 : BitVec 32 := Scalar.muli v40 c1_i32_18
  let v42 : BitVec 32 := Scalar.addi c0_i32_17 v41
  let c1_i32_20 : BitVec 32 := 1#32
  let arg16 : BitVec 32 := Scf.iv v42 c1_i32_20 k2_t8
  let c2_i32_25 : BitVec 32 := 2#32
  let v49 : BitVec 32 := Scalar.muli arg16 c2_i32_25
  let v50 : BitVec 32 := Scalar.addi v4 v49
  let c1_i32_28 : BitVec 32 := 1#32
  let v55 : BitVec 32 := Scalar.addi v50 c1_i32_28
  let c80_i32_41 : BitVec 32 := 80#32
  let v69 : BitVec 32 := Scalar.muli v55 c80_i32_41
  let c0_i32_42 : BitVec 32 := 0#32
  ![v69.toNat, 0]
def k2_cond22 (i : grid2.Coords) (k2_t8 : Fin (k2_t8_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c0_i32_17 : BitVec 32 := 0#32
  let c39_i32_2 : BitVec 32 := 39#32
  let c2_i32_1 : BitVec 32 := 2#32
  let v5 : BitVec 1 := Scalar.cmpi .slt v1 c2_i32_1
  let c1_i32 : BitVec 32 := 1#32
  let c0_i32 : BitVec 32 := 0#32
  let v6 : BitVec 32 := Scalar.select v5 c1_i32 c0_i32
  let v7 : BitVec 32 := Scalar.addi c39_i32_2 v6
  let c1_i32_8 : BitVec 32 := 1#32
  let v20 : BitVec 32 := Scalar.addi v7 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c2_i32_9 : BitVec 32 := 2#32
  let c0_i32_12 : BitVec 32 := 0#32
  let v27 : BitVec 1 := Scalar.cmpi .sgt c2_i32_9 c0_i32_12
  let v28 : BitVec 32 := Scalar.extui v27
  let c0_i32_13 : BitVec 32 := 0#32
  let v29 : BitVec 1 := Scalar.cmpi .slt c2_i32_9 c0_i32_13
  let v30 : BitVec 32 := Scalar.extui v29
  let v31 : BitVec 32 := Scalar.subi v28 v30
  let v32 : BitVec 1 := Scalar.cmpi .ne v26 v31
  let v33 : BitVec 32 := Scalar.remsi v20 c2_i32_9
  let c0_i32_14 : BitVec 32 := 0#32
  let v34 : BitVec 1 := Scalar.cmpi .ne v33 c0_i32_14
  let v35 : BitVec 1 := Scalar.andi v32 v34
  let v21 : BitVec 32 := Scalar.divsi v20 c2_i32_9
  let c1_i32_15 : BitVec 32 := 1#32
  let v36 : BitVec 32 := Scalar.subi v21 c1_i32_15
  let v37 : BitVec 32 := Scalar.select v35 v36 v21
  let v38 : BitVec 32 := Scalar.subi v37 c0_i32_17
  let c1_i32_18 : BitVec 32 := 1#32
  let v40 : BitVec 32 := Scalar.divsi v38 c1_i32_18
  let v41 : BitVec 32 := Scalar.muli v40 c1_i32_18
  let v42 : BitVec 32 := Scalar.addi c0_i32_17 v41
  let c1_i32_20 : BitVec 32 := 1#32
  let arg16 : BitVec 32 := Scf.iv v42 c1_i32_20 k2_t8
  let c2_i32_25 : BitVec 32 := 2#32
  let v49 : BitVec 32 := Scalar.muli arg16 c2_i32_25
  let v50 : BitVec 32 := Scalar.addi v4 v49
  let c1_i32_28 : BitVec 32 := 1#32
  let v55 : BitVec 32 := Scalar.addi v50 c1_i32_28
  let c2_i32_44 : BitVec 32 := 2#32
  let v72 : BitVec 32 := Scalar.addi v55 c2_i32_44
  let v8 : BitVec 32 := Scalar.addi v4 v7
  let v73 : BitVec 1 := Scalar.cmpi .slt v72 v8
  let v74 : BitVec 32 := Scalar.extui v73
  let c0_i32_45 : BitVec 32 := 0#32
  let v75 : BitVec 1 := Scalar.cmpi .ne v74 c0_i32_45
  v75

def k2_off223 (i : grid2.Coords) (k2_t8 : Fin (k2_t8_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32 : BitVec 32 := 39#32
  let v2 : BitVec 32 := Scalar.muli v1 c39_i32
  let c2_i32_0 : BitVec 32 := 2#32
  let v3 : BitVec 32 := Scalar.minsi v1 c2_i32_0
  let v4 : BitVec 32 := Scalar.addi v2 v3
  let c0_i32_17 : BitVec 32 := 0#32
  let c39_i32_2 : BitVec 32 := 39#32
  let c2_i32_1 : BitVec 32 := 2#32
  let v5 : BitVec 1 := Scalar.cmpi .slt v1 c2_i32_1
  let c1_i32 : BitVec 32 := 1#32
  let c0_i32 : BitVec 32 := 0#32
  let v6 : BitVec 32 := Scalar.select v5 c1_i32 c0_i32
  let v7 : BitVec 32 := Scalar.addi c39_i32_2 v6
  let c1_i32_8 : BitVec 32 := 1#32
  let v20 : BitVec 32 := Scalar.addi v7 c1_i32_8
  let c0_i32_10 : BitVec 32 := 0#32
  let v22 : BitVec 1 := Scalar.cmpi .sgt v20 c0_i32_10
  let v23 : BitVec 32 := Scalar.extui v22
  let c0_i32_11 : BitVec 32 := 0#32
  let v24 : BitVec 1 := Scalar.cmpi .slt v20 c0_i32_11
  let v25 : BitVec 32 := Scalar.extui v24
  let v26 : BitVec 32 := Scalar.subi v23 v25
  let c2_i32_9 : BitVec 32 := 2#32
  let c0_i32_12 : BitVec 32 := 0#32
  let v27 : BitVec 1 := Scalar.cmpi .sgt c2_i32_9 c0_i32_12
  let v28 : BitVec 32 := Scalar.extui v27
  let c0_i32_13 : BitVec 32 := 0#32
  let v29 : BitVec 1 := Scalar.cmpi .slt c2_i32_9 c0_i32_13
  let v30 : BitVec 32 := Scalar.extui v29
  let v31 : BitVec 32 := Scalar.subi v28 v30
  let v32 : BitVec 1 := Scalar.cmpi .ne v26 v31
  let v33 : BitVec 32 := Scalar.remsi v20 c2_i32_9
  let c0_i32_14 : BitVec 32 := 0#32
  let v34 : BitVec 1 := Scalar.cmpi .ne v33 c0_i32_14
  let v35 : BitVec 1 := Scalar.andi v32 v34
  let v21 : BitVec 32 := Scalar.divsi v20 c2_i32_9
  let c1_i32_15 : BitVec 32 := 1#32
  let v36 : BitVec 32 := Scalar.subi v21 c1_i32_15
  let v37 : BitVec 32 := Scalar.select v35 v36 v21
  let v38 : BitVec 32 := Scalar.subi v37 c0_i32_17
  let c1_i32_18 : BitVec 32 := 1#32
  let v40 : BitVec 32 := Scalar.divsi v38 c1_i32_18
  let v41 : BitVec 32 := Scalar.muli v40 c1_i32_18
  let v42 : BitVec 32 := Scalar.addi c0_i32_17 v41
  let c1_i32_20 : BitVec 32 := 1#32
  let arg16 : BitVec 32 := Scf.iv v42 c1_i32_20 k2_t8
  let c2_i32_25 : BitVec 32 := 2#32
  let v49 : BitVec 32 := Scalar.muli arg16 c2_i32_25
  let v50 : BitVec 32 := Scalar.addi v4 v49
  let c1_i32_28 : BitVec 32 := 1#32
  let v55 : BitVec 32 := Scalar.addi v50 c1_i32_28
  let c2_i32_46 : BitVec 32 := 2#32
  let v76 : BitVec 32 := Scalar.addi v55 c2_i32_46
  let c80_i32_47 : BitVec 32 := 80#32
  let v77 : BitVec 32 := Scalar.muli v76 c80_i32_47
  let c0_i32_48 : BitVec 32 := 0#32
  ![v77.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S100000x128 : Shape := ⟨2, ![100000, 128]⟩
abbrev S512x128 : Shape := ⟨2, ![512, 128]⟩
abbrev S100000 : Shape := ⟨1, ![100000]⟩
abbrev S128x128 : Shape := ⟨2, ![128, 128]⟩
abbrev S128 : Shape := ⟨1, ![128]⟩
abbrev S_ : Shape := ⟨0, ![]⟩
abbrev S100000x1 : Shape := ⟨2, ![100000, 1]⟩
abbrev S1x128 : Shape := ⟨2, ![1, 128]⟩
abbrev S1 : Shape := ⟨1, ![1]⟩
abbrev S1x1 : Shape := ⟨2, ![1, 1]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S512x128, .f32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S512x128, .f32⟩
  | .hbm, ⟨7, _⟩ => ⟨S100000x1, .i32⟩
  | .hbm, ⟨8, _⟩ => ⟨S512x128, .f32⟩
  | .hbm, ⟨9, _⟩ => ⟨S512x128, .f32⟩
  | .hbm, ⟨10, _⟩ => ⟨S128x128, .f32⟩
  | .hbm, ⟨11, _⟩ => ⟨S512x128, .f32⟩
  | .hbm, ⟨12, _⟩ => ⟨S1x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .i32⟩
  | .hbm, ⟨20, _⟩ => ⟨S100000, .i32⟩
  | .hbm, ⟨21, _⟩ => ⟨S100000, .i1⟩
  | .hbm, ⟨22, _⟩ => ⟨S_, .i32⟩
  | .hbm, ⟨23, _⟩ => ⟨S100000, .i32⟩
  | .hbm, ⟨24, _⟩ => ⟨S100000, .i32⟩
  | .hbm, ⟨25, _⟩ => ⟨S100000, .i32⟩
  | .hbm, ⟨26, _⟩ => ⟨S100000x1, .i32⟩
  | .hbm, ⟨27, _⟩ => ⟨S1, .i32⟩
  | .hbm, ⟨28, _⟩ => ⟨S_, .i32⟩
  | .hbm, ⟨29, _⟩ => ⟨S100000x1, .i32⟩
  | .hbm, ⟨30, _⟩ => ⟨S100000x1, .i1⟩
  | .hbm, ⟨31, _⟩ => ⟨S1x1, .i32⟩
  | .hbm, ⟨32, _⟩ => ⟨S100000x1, .i32⟩
  | .hbm, ⟨33, _⟩ => ⟨S100000x1, .i1⟩
  | .hbm, ⟨34, _⟩ => ⟨S100000x1, .i1⟩
  | .hbm, ⟨35, _⟩ => ⟨S_, .i1⟩
  | .hbm, ⟨36, _⟩ => ⟨S100000, .i1⟩
  | .hbm, ⟨37, _⟩ => ⟨S100000x128, .f32⟩
  | .hbm, ⟨38, _⟩ => ⟨S100000x128, .i1⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_v14 : Ref sig .tc := ⟨.hbm, 38, rfl⟩
abbrev main_call1_cst : Ref sig .tc := ⟨.hbm, 39, rfl⟩
abbrev main_call1_v15 : Ref sig .tc := ⟨.hbm, 40, rfl⟩
abbrev main_v11 : Ref sig .tc := ⟨.hbm, 41, rfl⟩
abbrev main_v12 : Ref sig .tc := ⟨.hbm, 42, rfl⟩

abbrev nD : Nat := 1
abbrev τ : Topo := Topo.v7x

variable {F : FTy → Type} [FloatOps F]
-- ==== Proof.Base.lean ====
/-
  Vectors of sixteen elements read from and written to the rows of a two-axis buffer, as functions of natural-number
  coordinates: what a buffer holds is given by a function of (row, column), a load of `[1, 16]` at `(r, c)` is the lane
  vector `lane P r c`, a store there gives the contents `put P r c w`.
-/
module

public import Idealize.ShloMosaic.Lib.SparseCore.Quiescent
public import Idealize.ShloMosaic.Lib.Pipeline.Kit
public import Idealize.ShloMosaic.Lib.Pipeline.Value
public import Idealize.ShloMosaic.Lib.Tactic
public import proofs.«01_k».proof.KernelIdeal

@[expose] public section

noncomputable section

namespace Cert.Proof.Base

open Cert.KernelIdeal
open Idealize.ShloMosaic

variable {F : FTy → Type}

/-- A two-axis buffer's contents from a function of row and column. -/
def buf2 {n : ℕ} (P : ℕ → ℕ → F .f32) : (⟨2, ![n, 128]⟩ : Shape).Idx → F .f32 := fun x => P (x 0).val (x 1).val

/-- Sixteen neighbouring elements of a row, as a `[1, 16]` vector … -/
def lane (P : ℕ → ℕ → F .f32) (r c : ℕ) : S1x16.Idx → F .f32 := fun x => P r (c + (x 1).val)

/-- … and as a `[16]` vector. -/
def lane16 (P : ℕ → ℕ → F .f32) (r c : ℕ) : S16.Idx → F .f32 := fun x => P r (c + (x 0).val)

/-- The index of lane `k` of a `[1, 16]` vector. -/
def ixL (k : ℕ) (h : k < 16) : S1x16.Idx := fun | 0 => ⟨0, by decide⟩ | 1 => ⟨k, h⟩

theorem ixL_zero (k : ℕ) (h : k < 16) : (ixL k h 0).val = 0 := rfl
theorem ixL_one (k : ℕ) (h : k < 16) : (ixL k h 1).val = k := rfl

/-- The contents after sixteen elements of row `r` from column `c` are replaced. -/
def put (P : ℕ → ℕ → F .f32) (r c : ℕ) (w : S1x16.Idx → F .f32) : ℕ → ℕ → F .f32 := fun a b =>
  if h : a = r ∧ c ≤ b ∧ b < c + 16 then w (ixL (b - c) (by omega)) else P a b

theorem shapeCast_lane (P : ℕ → ℕ → F .f32) (r c : ℕ) (h : S1x16.ShapeCasts S16) :
    shapeCast S16 (lane P r c) h = lane16 P r c := by
  funext j
  exact shapeCast_apply _ h j (fun | 0 => ⟨0, by decide⟩ | 1 => ⟨(j 0).val, (j 0).isLt⟩) (by
    rw [Shape.rowMajor_val_two, Shape.rowMajor_val_one]; simp)

theorem shapeCast_lane16 (P : ℕ → ℕ → F .f32) (r c : ℕ) (h : S16.ShapeCasts S1x16) :
    shapeCast S1x16 (lane16 P r c) h = lane P r c := by
  funext j
  have h0 : (j 0).val = 0 := by have := (j 0).isLt; simp only [S1x16, Matrix.cons_val_zero] at this; omega
  refine (shapeCast_apply _ h j (fun | 0 => ⟨(j 1).val, (j 1).isLt⟩) ?_).trans rfl
  rw [Shape.rowMajor_val_two, Shape.rowMajor_val_one]; simp [h0]

section Load
variable {κ : Kind} {cs : Space} {n : ℕ}

theorem readAt_lane (m : Memref sig κ cs ⟨2, ![n, 128]⟩ .f32) (f : m.view.ty.Contents (Elt F)) (P : ℕ → ℕ → F .f32)
    (hf : m.view.read (Elt F) f = buf2 P) (off : Fin 2 → ℕ)
    (inb : ∀ a, off a + S1x16.size a ≤ (⟨2, ![n, 128]⟩ : Shape).size a) (r c : ℕ) (hoff : off = ![r, c]) :
    m.view.readAt (Elt F) (Rect.unit (s := ⟨2, ![n, 128]⟩) off S1x16.size inb).toLoadRect f = lane P r c := by
  subst hoff
  funext x
  rw [View.readAt_apply, hf]
  have h0 : (x 0).val = 0 := by have : (x 0).val < 1 := (x 0).isLt; omega
  show P _ _ = P _ _
  congr 1
  all_goals first | (rw [LoadRect.idx_apply]; simp [h0]) | skip
  all_goals simp [h0]

theorem read_put (m : Memref sig κ cs ⟨2, ![n, 128]⟩ .f32) (f : m.view.ty.Contents (Elt F)) (P : ℕ → ℕ → F .f32)
    (hf : m.view.read (Elt F) f = buf2 P) (off : Fin 2 → ℕ)
    (inb : ∀ a, off a + S1x16.size a ≤ (⟨2, ![n, 128]⟩ : Shape).size a) (r c : ℕ) (hoff : off = ![r, c])
    (w : S1x16.Idx → F .f32) :
    m.view.read (Elt F) ((m.access (Rect.unit (s := ⟨2, ![n, 128]⟩) off S1x16.size inb)).write (Elt F) f w Finset.univ)
      = buf2 (put P r c w) := by
  subst hoff
  show m.view.read (Elt F) ((m.view.slice (Rect.unit (s := ⟨2, ![n, 128]⟩) ![r, c] S1x16.size inb)).write (Elt F) f w Finset.univ) = _
  rw [← View.writes_singleton]
  funext y
  show _ = dite _ _ _
  split
  · rename_i h
    exact View.read_writes_cons_hit_of_coords (v := m.view) (f := f) (Rect.unit (s := ⟨2, ![n, 128]⟩) ![r, c] S1x16.size inb) w []
      (ixL ((y 1).val - c) (by omega)) y (by
      intro a
      match a with
      | 0 => show (y 0).val = r + 1 * 0; omega
      | 1 => show (y 1).val = c + 1 * ((y 1).val - c); omega)
  · rename_i h
    have hr : (y 0).val < n := (y 0).isLt
    by_cases h0 : (y 0).val = r
    · refine (View.read_writes_cons_miss_of_axis (v := m.view) (f := f) ⟨Rect.unit (s := ⟨2, ![n, 128]⟩) ![r, c] S1x16.size inb, w⟩ [] y 1 c 16 rfl rfl rfl (by omega)).trans ?_
      exact congrFun hf y
    · refine (View.read_writes_cons_miss_of_axis (v := m.view) (f := f) ⟨Rect.unit (s := ⟨2, ![n, 128]⟩) ![r, c] S1x16.size inb, w⟩ [] y 0 r 1 rfl rfl rfl (by omega)).trans ?_
      exact congrFun hf y

end Load

end Cert.Proof.Base

end
-- ==== Proof.Ev.lean ====
/-
  Straight runs of a SparseCore tile: a program of loads, stores, checks and counted loops over vector memory, as a
  relation between what its buffers hold before and after. `Ev D₀ res p s t a` says that from buffers holding `s` the
  program `p` ends with buffers holding `t` and returns `a`; the rules below give it instruction by instruction.
-/
module

public import proofs.«01_k».proof.Proof.Base
public import Idealize.ShloMosaic.Lib.SparseCore.Ops

@[expose] public section

noncomputable section

namespace Cert.Proof.Base

open Cert.KernelIdeal
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UH : Type := URounds (GSem nD τ sig) ℕ
abbrev UP : Type := URounds (GSem nD τ sig) Unit
abbrev UU : Type := (UH × UP) × Counters

local notation "𝕄" => MT nD τ sig (HIx 2) (Elt F) ℕ UU ℕ

abbrev 𝒱₀ : Variants := Variants.none

/-- A whole two-axis float buffer, held outright, whose contents are `P`. -/
def Own2 (c : Thread nD τ) {cs : Space} {n : ℕ} (m : Memref sig c.2.kind cs ⟨2, ![n, 128]⟩ .f32) (P : ℕ → ℕ → F .f32) :
    sProp (MT nD τ sig (HIx 2) (Elt F) ℕ UU ℕ) :=
  iprop(∃ f, ⌜m.view.read (Elt F) f = buf2 P⌝ ∗ (m.view.loc c ↦[Finset.univ]{fullShare} f))

/-- The list of segment ids in vector memory: entry `k` is `I k`. -/
def OwnI (c : Thread nD τ) {cs : Space} (m : Memref sig c.2.kind cs S3216 .i32) (I : ℕ → BitVec 32) :
    sProp (MT nD τ sig (HIx 2) (Elt F) ℕ UU ℕ) :=
  iprop(∃ f, ⌜∀ x, m.view.read (Elt F) f x = I (x 0).val⌝ ∗ (m.view.loc c ↦[Finset.univ]{fullShare} f))

variable {c : Thread nD τ} {σ : Type} {Λ : Labels} (D₀ : Defs nD τ sig (Elt F) Λ) (res : σ → sProp (MT nD τ sig (HIx 2) (Elt F) ℕ UU ℕ))

/-- From buffers holding `s` the program ends with buffers holding `t` and returns `a`. -/
def Ev {α : Type} (p : Prog (TpuEff nD τ sig (Elt F) Λ c.2) α) (s t : σ) (a : α) : Prop :=
  res s ⊢ wp frame (wpE D₀ 𝒱₀ c none) Set.univ p (fun x => iprop(⌜x = a⌝ ∗ res t))

variable {D₀} {res}

theorem Ev.pure {α : Type} (a : α) (s : σ) : Ev (c := c) D₀ res (Pure.pure a) s s a := by
  unfold Ev; rw [wp_pure]
  iintro H; imodintro; isplitr; · ipureintro; rfl
  iexact H

theorem Ev.bind {α β : Type} {p : Prog (TpuEff nD τ sig (Elt F) Λ c.2) α} {k : α → Prog (TpuEff nD τ sig (Elt F) Λ c.2) β}
    {s t u : σ} {a : α} {b : β} (h : Ev D₀ res p s t a) (h' : Ev D₀ res (k a) t u b) : Ev D₀ res (p >>= k) s u b := by
  unfold Ev at *; rw [wp_bind]
  refine h.trans (wp_mono _ _ _ fun x => ?_)
  iintro ⟨%hx, H⟩; subst hx
  iapply h'; iexact H

theorem Ev.conv {α : Type} {p : Prog (TpuEff nD τ sig (Elt F) Λ c.2) α} {s t t' : σ} {a a' : α} (h : Ev D₀ res p s t a)
    (ht : t = t') (ha : a = a') : Ev D₀ res p s t' a' := by subst ht; subst ha; exact h

theorem Ev.assume {P : Prop} {d : Decidable P} (h : P) (s : σ) :
    Ev (c := c) D₀ res (Prog.lift (TpuEff.assume P d)) s s ⟨h⟩ := by
  unfold Ev Prog.lift
  rw [wp_assume_of _ _ _ _ h, wp_ret]
  iintro H; imodintro; isplitr; · ipureintro; rfl
  iexact H

theorem Ev.loop (l : Scf.Loop 32) (hok : l.OK) (body : Fin l.trips → Unit → Prog (TpuEff nD τ sig (Elt F) Λ c.2) Unit)
    (S : ℕ → σ) (h : ∀ k : Fin l.trips, Ev D₀ res (body k ()) (S k.val) (S (k.val + 1)) ()) :
    Ev D₀ res (Scf.Loop.for l hok () body) (S 0) (S l.trips) () := by
  unfold Ev
  refine BI.Entails.trans ?_ (Scf.wp_for frame (wpE D₀ 𝒱₀ c none) Set.univ l.lb l.ub l.st hok () body (fun k _ => res (S k)) ?_)
  · show res (S 0) ⊢ iprop(res (S 0) ∗ (∀ acc, res (S l.trips) -∗ iprop(⌜acc = ()⌝ ∗ res (S l.trips))))
    iintro H; isplitl [H]; · iexact H
    iintro %_ H; isplitr; · ipureintro; rfl
    iexact H
  · intro k _
    refine (h k).trans (wp_mono _ _ _ fun _ => ?_)
    iintro ⟨-, H⟩; iexact H

section Access
variable {cs : CoreSpace} {n : ℕ}

theorem Ev.load (m : Memref sig c.2.kind cs ⟨2, ![n, 128]⟩ .f32) {off : Fin 2 → ℕ}
    {inb : ∀ a, off a + S1x16.size a ≤ (⟨2, ![n, 128]⟩ : Shape).size a} {hl} {s : σ} {P : ℕ → ℕ → F .f32}
    (hm : res s ⊢ iprop(Own2 c m P ∗ (Own2 c m P -∗ res s))) (r k : ℕ) (hoff : off = ![r, k]) :
    Ev D₀ res (Prog.lift (.load m (Rect.unit (s := ⟨2, ![n, 128]⟩) off S1x16.size inb).toLoadRect hl)) s s (lane P r k) := by
  unfold Ev Prog.lift
  refine hm.trans ?_
  unfold Own2
  iintro ⟨⟨%f, %hf, H⟩, Hr⟩
  iapply (wp_load 𝒱₀ c none Set.univ (m := m) (S := Finset.univ) (Finset.subset_univ _)) $$ H
  iintro H
  rw [wp_ret]; imodintro
  isplitr
  · ipureintro; exact readAt_lane m f P hf off inb r k hoff
  · iapply Hr; iexists f; isplitr
    · ipureintro; exact hf
    · iexact H

theorem Ev.store (m : Memref sig c.2.kind cs ⟨2, ![n, 128]⟩ .f32) {off : Fin 2 → ℕ}
    {inb : ∀ a, off a + S1x16.size a ≤ (⟨2, ![n, 128]⟩ : Shape).size a} {hx hm'} {s t : σ} {P : ℕ → ℕ → F .f32} (r k : ℕ) {w : S1x16.Idx → F .f32}
    (hm : res s ⊢ iprop(Own2 c m P ∗ (Own2 c m (put P r k w) -∗ res t))) (hoff : off = ![r, k]) :
    Ev D₀ res (Prog.lift (.store m (Rect.unit (s := ⟨2, ![n, 128]⟩) off S1x16.size inb) w Finset.univ hx hm')) s t ⟨⟩ := by
  unfold Ev Prog.lift
  refine hm.trans ?_
  unfold Own2
  have hst : ∀ f (Q : PUnit → sProp (MT nD τ sig (HIx 2) (Elt F) ℕ UU ℕ)),
      (m.view.loc c ↦[Finset.univ]{fullShare} f) ⊢ iprop(((m.view.loc c ↦[Finset.univ]{fullShare}
        ((m.access (Rect.unit (s := ⟨2, ![n, 128]⟩) off S1x16.size inb)).write (Elt F) f w Finset.univ)) -∗
          wp frame (wpE D₀ 𝒱₀ c none) Set.univ (.ret ⟨⟩) Q) -∗
        wp frame (wpE D₀ 𝒱₀ c none) Set.univ (.op (.store m (Rect.unit (s := ⟨2, ![n, 128]⟩) off S1x16.size inb) w Finset.univ hx hm') .ret) Q) :=
    fun f Q =>
      wp_store (defs := D₀) 𝒱₀ c none Set.univ (m := m) (r := Rect.unit (s := ⟨2, ![n, 128]⟩) off S1x16.size inb) (w := w)
        (Mk := Finset.univ) (hx := hx) (hm := hm') (k := .ret) (Q := Q) (S := Finset.univ) (f := f) (Finset.subset_univ _)
  iintro ⟨⟨%f, %hf, H⟩, Hr⟩
  iapply (hst f) $$ H
  iintro H
  rw [wp_ret]; imodintro
  isplitr
  · ipureintro; rfl
  · iapply Hr; iexists _; isplitr
    · ipureintro; exact read_put m f P hf off inb r k hoff w
    · iexact H

/-- Sixteen neighbouring segment ids. -/
def laneI (I : ℕ → BitVec 32) (k : ℕ) : S16.Idx → BitVec 32 := fun x => I (k + (x 0).val)

theorem Ev.loadI (m : Memref sig c.2.kind cs S3216 .i32) {off : Fin 1 → ℕ}
    {inb : ∀ a, off a + S16.size a ≤ S3216.size a} {hl} {s : σ} {I : ℕ → BitVec 32}
    (hm : res s ⊢ iprop(OwnI c m I ∗ (OwnI c m I -∗ res s))) (k : ℕ) (hoff : off = ![k]) :
    Ev D₀ res (Prog.lift (.load m (Rect.unit (s := S3216) off S16.size inb).toLoadRect hl)) s s (laneI I k) := by
  unfold Ev Prog.lift
  refine hm.trans ?_
  unfold OwnI
  iintro ⟨⟨%f, %hf, H⟩, Hr⟩
  iapply (wp_load 𝒱₀ c none Set.univ (m := m) (S := Finset.univ) (Finset.subset_univ _)) $$ H
  iintro H
  rw [wp_ret]; imodintro
  isplitr
  · ipureintro
    subst hoff
    funext x
    rw [View.readAt_apply, hf]
    show I _ = I _
    congr 1
    rw [LoadRect.idx_apply]; simp
  · iapply Hr; iexists f; isplitr
    · ipureintro; exact hf
    · iexact H

end Access

end Cert.Proof.Base

end
-- ==== Proof.Setup.lean ====
/-
  The program as the launch theorem sees it: its calls, its resource algebra, its levels.
-/
module

public import proofs.«01_k».proof.Proof.Ev
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Launch
public import proofs.«01_k».proof.Proof.Gen.KernelIdeal.Skeleton

@[expose] public section

noncomputable section

namespace Cert.Proof.Base

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K [FloatOps F] : SparseCore.Cfg τ sig (ΛP (F := F)) 2 := sc (F := F)
abbrev D [FloatOps F] : Defs nD τ sig (Elt F) (ΛP (F := F)) := Pipeline.defs pcfgs defs₀
abbrev 𝒱 : Variants := 𝒱₀.lift
abbrev v₀ : 𝒱.V := Sum.inl none

variable [FloatOps F]

theorem launch_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 2) (Elt F) ℕ UU ℕ

omit [FloatOps F]

/-- The handshakes' part of the algebra … -/
def EH : Emb UH (MT nD τ sig (HIx 2) (Elt F) ℕ UU ℕ) :=
  (Emb.inl : Emb UH (UH × UP)).trans ((Emb.inl : Emb (UH × UP) UU).trans (uEmb (nD := nD) (sig := sig) (Ix := HIx 2) (Val := Elt F) (Name := ℕ) (U := UU) (Lvl := ℕ)).toEmb)
/-- … and the staging pipeline's. -/
def EP : Emb UP (MT nD τ sig (HIx 2) (Elt F) ℕ UU ℕ) :=
  (Emb.inr : Emb UP (UH × UP)).trans ((Emb.inl : Emb (UH × UP) UU).trans (uEmb (nD := nD) (sig := sig) (Ix := HIx 2) (Val := Elt F) (Name := ℕ) (U := UU) (Lvl := ℕ)).toEmb)

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-- The launch element owned is its three parts owned. -/
theorem own_parts (a : UH) (b : UP) (k : Counters) : (ownU ((a, b), k) : sProp 𝕄) ⊢ iprop(BI.own (EH a) ∗ BI.own (EP b)) := by
  have h1 := ownU_pair (nD := nD) (τ := τ) (sig := sig) (Ix := HIx 2) (Val := Elt F) (Name := ℕ) (Lvl := ℕ) (A := UH × UP) (B := Counters) (a, b) k
  have h2 := own_pair_emb ((Emb.inl : Emb (UH × UP) UU).trans (uEmb (nD := nD) (τ := τ) (sig := sig) (Ix := HIx 2) (Val := Elt F) (Name := ℕ) (U := UU) (Lvl := ℕ)).toEmb) a b
  exact h1.trans (sep_elim_left.trans h2)

end Cert.Proof.Base

end
-- ==== Proof.Fc.lean ====
/-
  The middle call: a kernel over whole arrays on the TensorCore, from the partial sums, the virtual node and the weights
  to the updated virtual node, run while the core still owes the last call's start.
-/
module

public import proofs.«01_k».proof.Proof.Setup
public import Idealize.ShloMosaic.Lib.Pipeline.RegionsLoop

@[expose] public section

noncomputable section

namespace Cert.Proof.Base

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev fcOut (f0 : S32x512x128.Idx → F .f32) (f1 : S512x128.Idx → F .f32) (f2 : S128x128.Idx → F .f32) (f3 : S128.Idx → F .f32) : S512x128.Idx → F .f32 := k1_pay1 f0 f1 f2 f1 f3

/-- What the body stores is its payload of what the buffers hold. -/
theorem fc_stored (c : Dev nD) (f0 : Bf (F := F) c (stage1_0 0)) (f1 : Bf (F := F) c (stage1_1 0)) (f2 : Bf (F := F) c (stage1_2 0)) (f3 : Bf (F := F) c (stage1_3 0)) (f4 : Bf (F := F) c (stage1_4 0)) :
    ((stage1_4 0).access (Rect.unit (s := S512x128) ![0, 0] S512x128.size inb_S512x128_S512x128_0_0)).write (Elt F) f4
      (k1_pay1 ((stage1_0 0).view.readAt (Elt F) (Rect.unit (s := S32x512x128) ![0, 0, 0] S32x512x128.size inb_S32x512x128_S32x512x128_0_0_0).toLoadRect f0)
        ((stage1_1 0).view.readAt (Elt F) (Rect.unit (s := S512x128) ![0, 0] S512x128.size inb_S512x128_S512x128_0_0).toLoadRect f1)
        ((stage1_2 0).view.readAt (Elt F) (Rect.unit (s := S128x128) ![0, 0] S128x128.size inb_S128x128_S128x128_0_0).toLoadRect f2)
        ((stage1_1 0).view.readAt (Elt F) (Rect.unit (s := S512x128) ![0, 0] S512x128.size inb_S512x128_S512x128_0_0).toLoadRect f1)
        ((stage1_3 0).view.readAt (Elt F) (Rect.unit (s := S128) ![0] S128.size inb_S128_S128_0).toLoadRect f3)) Finset.univ
      = fcOut f0 f1 f2 f3 := by
  have e0 : (stage1_0 0).view.readAt (Elt F) (Rect.unit (s := S32x512x128) ![0, 0, 0] S32x512x128.size inb_S32x512x128_S32x512x128_0_0_0).toLoadRect f0 = f0 :=
    Memref.readAt_unit_zero (Elt F) cc1_stg0_0 (show (![0, 0, 0] : Fin 3 → ℕ) = fun _ => 0 from by funext a; fin_cases a <;> rfl) _ _
  have e1 : (stage1_1 0).view.readAt (Elt F) (Rect.unit (s := S512x128) ![0, 0] S512x128.size inb_S512x128_S512x128_0_0).toLoadRect f1 = f1 :=
    Memref.readAt_unit_zero (Elt F) cc1_stg1_0 (show (![0, 0] : Fin 2 → ℕ) = fun _ => 0 from by funext a; fin_cases a <;> rfl) _ _
  have e2 : (stage1_2 0).view.readAt (Elt F) (Rect.unit (s := S128x128) ![0, 0] S128x128.size inb_S128x128_S128x128_0_0).toLoadRect f2 = f2 :=
    Memref.readAt_unit_zero (Elt F) cc1_stg2_0 (show (![0, 0] : Fin 2 → ℕ) = fun _ => 0 from by funext a; fin_cases a <;> rfl) _ _
  have e3 : (stage1_3 0).view.readAt (Elt F) (Rect.unit (s := S128) ![0] S128.size inb_S128_S128_0).toLoadRect f3 = f3 :=
    Memref.readAt_unit_zero (Elt F) cc1_stg3_0 (show (![0] : Fin 1 → ℕ) = fun _ => 0 from by funext a; fin_cases a <;> rfl) _ _
  rw [e0, e1, e2, e3]
  exact Memref.write_access_unit_zero_univ (Elt F) cc1_stg4_0 (show (![0, 0] : Fin 2 → ℕ) = fun _ => 0 from by funext a; fin_cases a <;> rfl) _ f4 _

/-- The body run from its five staging buffers. -/
theorem fc_run (c : Dev nD) (f0 : Bf (F := F) c (stage1_0 0)) (f1 : Bf (F := F) c (stage1_1 0)) (f2 : Bf (F := F) c (stage1_2 0)) (f3 : Bf (F := F) c (stage1_3 0)) (f4 : Bf (F := F) c (stage1_4 0))
    (E : Set ℕ) (Q : PUnit → sProp 𝕄) :
    iprop(pt c (stage1_0 0) f0 ∗ pt c (stage1_1 0) f1 ∗ pt c (stage1_2 0) f2 ∗ pt c (stage1_3 0) f3 ∗ pt c (stage1_4 0) f4
        ∗ (iprop(pt c (stage1_0 0) f0 ∗ pt c (stage1_1 0) f1 ∗ pt c (stage1_2 0) f2 ∗ pt c (stage1_3 0) f3 ∗ pt c (stage1_4 0) (fcOut f0 f1 f2 f3)) -∗ Q ⟨⟩))
      ⊢ wp frame (wpE (defs₀ (F := F)) 𝒱₀ c none) E
          (cc1__fc_body (stage1_0 0) (hstage1_0 0) (stage1_1 0) (hstage1_1 0) (stage1_2 0) (hstage1_2 0) (stage1_3 0) (hstage1_3 0) (stage1_4 0) (hstage1_4 0)) Q := by
  rw [cc1__fc_body_eq_skeleton]
  simp only [cc1__fc_body_skel, Prog.lift, Prog.bind_op, Prog.bind_ret]
  iintro ⟨H0, H1, H2, H3, H4, Hk⟩
  iapply (wp_load 𝒱₀ (c : Thread nD τ) none E (m := stage1_0 0) (S := Finset.univ) (Finset.subset_univ _)) $$ H0
  iintro H0
  iapply (wp_load 𝒱₀ (c : Thread nD τ) none E (m := stage1_1 0) (S := Finset.univ) (Finset.subset_univ _)) $$ H1
  iintro H1
  iapply (wp_load 𝒱₀ (c : Thread nD τ) none E (m := stage1_2 0) (S := Finset.univ) (Finset.subset_univ _)) $$ H2
  iintro H2
  iapply (wp_load 𝒱₀ (c : Thread nD τ) none E (m := stage1_1 0) (S := Finset.univ) (Finset.subset_univ _)) $$ H1
  iintro H1
  iapply (wp_load 𝒱₀ (c : Thread nD τ) none E (m := stage1_3 0) (S := Finset.univ) (Finset.subset_univ _)) $$ H3
  iintro H3
  iapply (wp_load 𝒱₀ (c : Thread nD τ) none E (m := stage1_4 0) (S := Finset.univ) (Finset.subset_univ _)) $$ H4
  iintro H4
  iapply (wp_store 𝒱₀ (c : Thread nD τ) none E (m := stage1_4 0) (r := Rect.unit (s := S512x128) ![0, 0] S512x128.size inb_S512x128_S512x128_0_0) (Mk := Finset.univ) (S := Finset.univ) (f := f4) (Finset.subset_univ _)) $$ H4
  iintro H4
  ihave H4 := (Entails.of_eq (congrArg (fun w => pt (F := F) c (stage1_4 0) w) (fc_stored c f0 f1 f2 f3 f4))) $$ H4
  first | rw [wp_pure] | rw [wp_ret]
  imodintro
  iapply Hk
  isplitl [H0]; · iexact H0
  isplitl [H1]; · iexact H1
  isplitl [H2]; · iexact H2
  isplitl [H3]; · iexact H3
  iexact H4

/-! ## The region's proof data, from any contents of the arrays -/

variable (W : (c : Dev nD) → (b : Ref sig .tc) → Buf (Elt F) ((c : Thread nD τ).loc b))

abbrev ΦR (c : Dev nD) : sProp 𝕄 := Pipeline.scopedRest (Ix := HIx 2) (Name := ℕ) (U := UU) (Lvl := ℕ) (Val := Elt F) spec1 c

/-- The pairs that the core has recorded by its second call. -/
def seen (c : Dev nD) : Set (SemLoc sig × HIx 2) := {p | (K (F := F)).lev ((c : Thread nD τ), p.1) p.2 ≤ 8}

def fcDat (c : Dev nD) : Dat τ (Elt F) (HIx 2) ℕ UU ℕ cfg1 c where
  A w := W c (Pipeline.arrRef spec1 w)
  after w _ := match w with
    | ⟨0, _⟩ => ((cfg1.win 0).blk t1_0).view.read (Elt F) (W c main_v0)
    | ⟨1, _⟩ => ((cfg1.win 1).blk t1_0).view.read (Elt F) (W c main_arg1)
    | ⟨2, _⟩ => ((cfg1.win 2).blk t1_0).view.read (Elt F) (W c main_arg3)
    | ⟨3, _⟩ => ((cfg1.win 3).blk t1_0).view.read (Elt F) (W c main_arg4)
    | ⟨4, _⟩ => fcOut (((cfg1.win 0).blk t1_0).view.read (Elt F) (W c main_v0)) (((cfg1.win 1).blk t1_0).view.read (Elt F) (W c main_arg1))
        (((cfg1.win 2).blk t1_0).view.read (Elt F) (W c main_arg3)) (((cfg1.win 3).blk t1_0).view.read (Elt F) (W c main_arg4))
  Φ _ := ΦR c
  q _ := fullShare
  owed _ := (K (F := F)).Otc c 1
  recorded _ := seen (F := F) c

variable (adm : (p : Fin 1) → (pcfgs (F := F) p).Adm)

def fcDats : (p : Fin 1) → (c : Dev nD) → Dat τ (Elt F) (HIx 2) ℕ UU ℕ (Pipeline.pin (pcfgs (F := F)) adm p) c :=
  fun _ c => fcDat W c

theorem fc_body_obligation (c : Dev nD) : BodyObligation (fcDat W c) (defs₀ (F := F)) 𝒱₀ none Set.univ := fun t => by
  obtain rfl := fin_N1 t
  rw [bigSep_W1, bigSep_W1]
  simp only [owns_whole_eq]
  rw [show (fcDat W c).Φ t1_0.castSucc = ΦR c from rfl, show (fcDat W c).Φ t1_0.succ = ΦR c from rfl,
    show (fcDat W c).owesAt none t1_0.succ = (fcDat W c).owesAt none t1_0.castSucc from rfl]
  have b0 : ∀ d, (fcDat W c).before 0 t1_0 d = ((cfg1.win 0).blk t1_0).view.read (Elt F) (W c main_v0) := fun d => by unfold Dat.before; rw [if_pos (by decide)]; rfl
  have b1 : ∀ d, (fcDat W c).before 1 t1_0 d = ((cfg1.win 1).blk t1_0).view.read (Elt F) (W c main_arg1) := fun d => by unfold Dat.before; rw [if_pos (by decide)]; rfl
  have b2 : ∀ d, (fcDat W c).before 2 t1_0 d = ((cfg1.win 2).blk t1_0).view.read (Elt F) (W c main_arg3) := fun d => by unfold Dat.before; rw [if_pos (by decide)]; rfl
  have b3 : ∀ d, (fcDat W c).before 3 t1_0 d = ((cfg1.win 3).blk t1_0).view.read (Elt F) (W c main_arg4) := fun d => by unfold Dat.before; rw [if_pos (by decide)]; rfl
  simp only [b0, b1, b2, b3]
  iintro ⟨HΦ, Howes, ⟨%d0, %f0, %hf0, H0⟩, ⟨%d1, %f1, %hf1, H1⟩, ⟨%d2, %f2, %hf2, H2⟩, ⟨%d3, %f3, %hf3, H3⟩, ⟨%d4, %f4, -, H4⟩⟩
  subst hf0 hf1 hf2 hf3
  iapply (fc_run c _ _ _ _ f4 Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexists _; isplitr; swap; (· iexact H0); ipureintro; dsimp only [fcDat]
  isplitl [H1]; · iexists _; isplitr; swap; (· iexact H1); ipureintro; dsimp only [fcDat]
  isplitl [H2]; · iexists _; isplitr; swap; (· iexact H2); ipureintro; dsimp only [fcDat]
  isplitl [H3]; · iexists _; isplitr; swap; (· iexact H3); ipureintro; dsimp only [fcDat]
  iexists _; isplitr; swap; (· iexact H4); ipureintro; dsimp only [fcDat]

/-! Each window's one block is its whole array. -/
theorem fc_blk0 (c : Dev nD) (f : Buf (Elt F) ((c : Thread nD τ).loc main_v0)) : ((cfg1.win 0).blk t1_0).view.read (Elt F) f = f :=
  Memref.read_access_unit_zero (Elt F) main_v0 (show (fun a => (win1_0.index t1_0) a * main_v0.ty.shape.size a) = fun _ => 0 from
    funext fun a => by fin_cases a <;> decide) (fun a => by fin_cases a <;> decide) f
theorem fc_blk1 (c : Dev nD) (f : Buf (Elt F) ((c : Thread nD τ).loc main_arg1)) : ((cfg1.win 1).blk t1_0).view.read (Elt F) f = f :=
  Memref.read_access_unit_zero (Elt F) main_arg1 (show (fun a => (win1_1.index t1_0) a * main_arg1.ty.shape.size a) = fun _ => 0 from
    funext fun a => by fin_cases a <;> decide) (fun a => by fin_cases a <;> decide) f
theorem fc_blk2 (c : Dev nD) (f : Buf (Elt F) ((c : Thread nD τ).loc main_arg3)) : ((cfg1.win 2).blk t1_0).view.read (Elt F) f = f :=
  Memref.read_access_unit_zero (Elt F) main_arg3 (show (fun a => (win1_2.index t1_0) a * main_arg3.ty.shape.size a) = fun _ => 0 from
    funext fun a => by fin_cases a <;> decide) (fun a => by fin_cases a <;> decide) f
theorem fc_blk3 (c : Dev nD) (f : Buf (Elt F) ((c : Thread nD τ).loc main_arg4)) : ((cfg1.win 3).blk t1_0).view.read (Elt F) f = f :=
  Memref.read_access_unit_zero (Elt F) main_arg4 (show (fun a => (win1_3.index t1_0) a * main_arg4.ty.shape.size a) = fun _ => 0 from
    funext fun a => by fin_cases a <;> decide) (fun a => by fin_cases a <;> decide) f
theorem fc_blk4 (c : Dev nD) (f : Buf (Elt F) ((c : Thread nD τ).loc main_v1)) : ((cfg1.win 4).blk t1_0).view.read (Elt F) f = f :=
  Memref.read_access_unit_zero (Elt F) main_v1 (show (fun a => (win1_4.index t1_0) a * main_v1.ty.shape.size a) = fun _ => 0 from
    funext fun a => by fin_cases a <;> decide) (fun a => by fin_cases a <;> decide) f

/-- The result's array after the region is the payload of the four operands' arrays. -/
theorem fc_result (c : Dev nD) : (fcDat W c).arrAt 4 cfg1.N = fcOut (W c main_v0) (W c main_arg1) (W c main_arg3) (W c main_arg4) := by
  have hf : (fcDat W c).flushed 4 t1_0 = fcOut (W c main_v0) (W c main_arg1) (W c main_arg3) (W c main_arg4) := by
    show (cfg1.win 4).cut _ ((fcDat W c).after 4 t1_0) = _
    dsimp only [fcDat]
    rw [fc_blk0 c, fc_blk1 c, fc_blk2 c, fc_blk3 c]
    exact funext fun _ => rfl
  have hw : ((cfg1.win 4).blk t1_0).view.read (Elt F) ((fcDat W c).arrAt 4 cfg1.N) = (fcDat W c).flushed 4 t1_0 := by
    rw [show cfg1.N = t1_0.val + 1 from rfl, (fcDat W c).arrAt_succ (4 : Fin 5) t1_0, if_pos (show (cfg1.win 4).flush t1_0 = true by decide)]
    exact View.read_write_univ _ _
  exact (fc_blk4 c _).symm.trans (hw.trans hf)

theorem otc_none (c : Dev nD) (n : ℕ) (g : GSem nD τ sig) : (K (F := F)).Otc (N := 2) c n g none = 0 := by
  by_contra h
  have h1 := (K (F := F)).lev_of_Otc_pos (Nat.pos_of_ne_zero h)
  simp at h1

-- unification may unfold plain definitions in a metavariable's type
set_option backward.isDefEq.respectTransparency.types false in
/-- The region, from the arrays at `W` to the arrays at `W'`, the core owing its last call's start all along. -/
def fcReg (W' : (c : Dev nD) → (b : Ref sig .tc) → Buf (Elt F) ((c : Thread nD τ).loc b))
    (hout : ∀ c, W' c main_v1 = (fcDat W c).arrAt 4 cfg1.N) (hne : ∀ c (b : Ref sig .tc), b ≠ main_v1 → W' c b = W c b) :
    Pipeline.RegionSeg (pcfgs (F := F)) adm (fcDats W adm) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (fc_body_obligation W c).loose
  hwaits c := Pipeline.cellsWaits_of_cut _ (fcDats W adm) none 0 c (lev := (K (F := F)).lev) 0 ((K (F := F)).Otc c 1) (fun _ => rfl)
    (fun _ _ => Finset.mem_univ _) (fun _ _ => le_rfl)
    (fun g i hg => ⟨Finset.mem_univ _, lt_of_lt_of_le (Nat.succ_pos _) ((K (F := F)).lev_of_Otc_pos hg)⟩)
  pre c := iprop(unscopedBufs c (W c) ∗ ∃ V, ⌜(K (F := F)).WBelow (c : Thread nD τ) V 8⌝ ∗ owes (c : Thread nD τ) ((K (F := F)).Otc c 1) V)
  post c := iprop(unscopedBufs c (W' c) ∗ ∃ V, ⌜(K (F := F)).WBelow (c : Thread nD τ) V 8⌝ ∗ owes (c : Thread nD τ) ((K (F := F)).Otc c 1) V)
  X _ := BI.emp
  Y _ := BI.emp
  Z c := Pipeline.unscopedRest (Ix := HIx 2) (Name := ℕ) (U := UU) (Lvl := ℕ) spec1 c (W c)
  hentry c := by
    rw [Pipeline.ownSems0_none]
    have hsplit := Pipeline.arrays_of_unscopedBufs (p := 0) (pcfgs (F := F)) adm (fcDats W adm) (launch1).win (launch1).arr_whole c
      ((fcDats W adm 0 c).share_full fun _ => rfl) (W c) fun _ => rfl
    iintro ⟨⟨Hub, %V, %hV, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists V; isplitr; · ipureintro; exact fun p hp => Or.inl (hV p hp)
      iexact HO
    isplitr; · iempintro
    iexact Hrest
  hin c := by
    rw [show (fcDats W adm 0 c).Φ 0 = ΦR c from rfl]
    iintro ⟨-, -, Hr⟩; iexact Hr
  hout c := by
    rw [Pipeline.ownSems0_none, show (fcDats W adm 0 c).Φ (Fin.last _) = ΦR c from rfl]
    iintro Hr
    isplitr; · iempintro
    isplitr; · iempintro
    iexact Hr
  hexit c := by
    have hjoin := Pipeline.unscopedBufs_of_arrays (p := 0) (pcfgs (F := F)) adm (Ix := HIx 2) (Name := ℕ) (U := UU) (Lvl := ℕ) (launch1).win (launch1).arr_whole c
      (fcDats W adm) ((fcDats W adm 0 c).share_full fun _ => rfl) (W c) (W' c) ((fcDats W adm 0 c).arrAt · cfg1.N)
      (fun w => by
        fin_cases w
        · exact ((fcDats W adm 0 c).arrAt_in 0 rfl _).trans (hne c main_v0 (by decide)).symm
        · exact ((fcDats W adm 0 c).arrAt_in 1 rfl _).trans (hne c main_arg1 (by decide)).symm
        · exact ((fcDats W adm 0 c).arrAt_in 2 rfl _).trans (hne c main_arg3 (by decide)).symm
        · exact ((fcDats W adm 0 c).arrAt_in 3 rfl _).trans (hne c main_arg4 (by decide)).symm
        · exact (hout c).symm)
      (fun b hb => hne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%V, %hV, HO⟩; iexists V; isplitr
    · ipureintro
      intro p hp
      rcases hV hp with h | ⟨w, s, h⟩
      · exact h
      · subst h; exact Nat.zero_le _
    iexact HO

end Cert.Proof.Base

end
-- ==== Proof.Spec.lean ====
/-
  What a tile computes, as functions of natural-number coordinates and over any float values: the pooled array after a
  row, a group of sixteen rows and a chunk of rows have been added to it; the addresses the two kernels compute.
-/
module

public import proofs.«01_k».proof.Proof.Ev

@[expose] public section

noncomputable section

namespace Cert.Proof.Base

open Cert.KernelIdeal
open Idealize.ShloMosaic

variable {F : FTy → Type} [FloatOps F]

/-- Column `c` of rows `r₀ … r₀ + n` of `R` added up from the first. -/
def accR (R : ℕ → ℕ → F .f32) (r₀ c : ℕ) : ℕ → F .f32
  | 0 => R r₀ c
  | n + 1 => FloatOps.addf (accR R r₀ c n) (R (r₀ + (n + 1)) c)

/-- Row `v` of the pool after sixteen rows' sum has been added to its first `n` columns. -/
def fastUpd (R : ℕ → ℕ → F .f32) (r₀ v : ℕ) (P : ℕ → ℕ → F .f32) (n : ℕ) : ℕ → ℕ → F .f32 := fun r c =>
  if r = v ∧ c < n then FloatOps.addf (P v c) (accR R r₀ c 15) else P r c

/-- Row `v` of the pool after row `q` has been added to its first `n` columns. -/
def slowUpd (R : ℕ → ℕ → F .f32) (q v : ℕ) (P : ℕ → ℕ → F .f32) (n : ℕ) : ℕ → ℕ → F .f32 := fun r c =>
  if r = v ∧ c < n then FloatOps.addf (P v c) (R q c) else P r c

/-- The pool after rows `r₀ …` have been added one by one, row `r₀ + n` to the pool's row `id n`. -/
def slowN (id : ℕ → ℕ) (R : ℕ → ℕ → F .f32) (r₀ : ℕ) (P : ℕ → ℕ → F .f32) : ℕ → ℕ → ℕ → F .f32
  | 0 => P
  | n + 1 => slowUpd R (r₀ + n) (id n) (slowN id R r₀ P n) 128

/-- The pool after a group of sixteen rows. -/
def grp (id : ℕ → ℕ) (R : ℕ → ℕ → F .f32) (r₀ : ℕ) (P : ℕ → ℕ → F .f32) : ℕ → ℕ → F .f32 :=
  if id 0 = id 15 then fastUpd R r₀ (id 0) P 128 else slowN id R r₀ P 16

/-- The pool after `n` groups of a chunk. -/
def chunkN (id : ℕ → ℕ) (R : ℕ → ℕ → F .f32) (P : ℕ → ℕ → F .f32) : ℕ → ℕ → ℕ → F .f32
  | 0 => P
  | n + 1 => grp (fun k => id (16 * n + k)) R (16 * n) (chunkN id R P n)

theorem fastUpd_zero (R : ℕ → ℕ → F .f32) (r₀ v : ℕ) (P : ℕ → ℕ → F .f32) : fastUpd R r₀ v P 0 = P := by
  funext r c; simp [fastUpd]

theorem slowUpd_zero (R : ℕ → ℕ → F .f32) (r₀ v : ℕ) (P : ℕ → ℕ → F .f32) : slowUpd R r₀ v P 0 = P := by
  funext r c; simp [slowUpd]

/-- Storing sixteen more columns of the sum of sixteen rows. -/
theorem put_fastUpd (R : ℕ → ℕ → F .f32) (r₀ v : ℕ) (P : ℕ → ℕ → F .f32) (k : ℕ) {w : S1x16.Idx → F .f32}
    (hw : ∀ x, w x = FloatOps.addf (fastUpd R r₀ v P k v (k + (x 1).val)) (accR R r₀ (k + (x 1).val) 15)) :
    put (fastUpd R r₀ v P k) v k w = fastUpd R r₀ v P (k + 16) := by
  funext r c
  unfold put
  split
  · rename_i h
    rw [hw]
    simp only [ixL_one]
    have e : k + (c - k) = c := by omega
    simp only [fastUpd, e, show ¬ c < k by omega, h.1, true_and, h.2.2, if_false, if_true, and_false, reduceIte]
  · rename_i h
    simp only [fastUpd]
    by_cases h1 : r = v ∧ c < k
    · rw [if_pos h1, if_pos ⟨h1.1, by omega⟩]
    · rw [if_neg h1, if_neg (by omega)]

/-- Storing sixteen more columns of a row's sum. -/
theorem put_slowUpd (R : ℕ → ℕ → F .f32) (q v : ℕ) (P : ℕ → ℕ → F .f32) (k : ℕ) {w : S1x16.Idx → F .f32}
    (hw : ∀ x, w x = FloatOps.addf (slowUpd R q v P k v (k + (x 1).val)) (R q (k + (x 1).val))) :
    put (slowUpd R q v P k) v k w = slowUpd R q v P (k + 16) := by
  funext r c
  unfold put
  split
  · rename_i h
    rw [hw]
    simp only [ixL_one]
    have e : k + (c - k) = c := by omega
    simp only [slowUpd, e, show ¬ c < k by omega, h.1, true_and, h.2.2, if_false, if_true, and_false, reduceIte]
  · rename_i h
    simp only [slowUpd]
    by_cases h1 : r = v ∧ c < k
    · rw [if_pos h1, if_pos ⟨h1.1, by omega⟩]
    · rw [if_neg h1, if_neg (by omega)]

/-! ## Addresses -/

theorem iv_toNat (t : ℕ) : Scf.iv 0#32 1#32 t = BitVec.ofNat 32 t := by
  simp [Scf.iv]
theorem iv_from (b : BitVec 32) (t : ℕ) : Scf.iv b 1#32 t = b + BitVec.ofNat 32 t := by
  simp [Scf.iv]
theorem shl4 (t : ℕ) (ht : t < 10) : Scalar.shli (Scf.iv 0#32 1#32 t) 4#32 = BitVec.ofNat 32 (16 * t) := by
  have h : ∀ t : Fin 10, Scalar.shli (Scf.iv 0#32 1#32 t.val) 4#32 = BitVec.ofNat 32 (16 * t.val) := by decide
  exact h ⟨t, ht⟩

/-- The row offset `16·t + w` at column `col`, as the kernels compute it. -/
def rowOff (t : ℕ) (w : BitVec 32) (col : ℕ) : Fin 2 → ℕ :=
  ![(Scalar.indexCast (Scalar.addi (Scalar.shli (Scf.iv 0#32 1#32 t) 4#32) w)).toNat, col]
def rowOff0 (t : ℕ) (col : ℕ) : Fin 2 → ℕ :=
  ![(Scalar.indexCast (Scalar.shli (Scf.iv 0#32 1#32 t) 4#32)).toNat, col]
/-- The row offset of row `k` of the sixteen from `16·t`, as the row loops compute it. -/
def rowOffI (t k : ℕ) (col : ℕ) : Fin 2 → ℕ :=
  ![(Scalar.indexCast (Scf.iv (Scalar.shli (Scf.iv 0#32 1#32 t) 4#32) 1#32 k)).toNat, col]

theorem rowOff_eq (t : ℕ) (ht : t < 10) (w : BitVec 32) (hw : w.toNat < 16) (col : ℕ) : rowOff t w col = ![16 * t + w.toNat, col] := by
  unfold rowOff
  congr 1
  rw [shl4 t ht]
  simp only [Scalar.indexCast, Scalar.addi, IntOp.addi, BitVec.toNat_add, BitVec.toNat_ofNat]
  omega

theorem rowOff0_eq (t : ℕ) (ht : t < 10) (col : ℕ) : rowOff0 t col = ![16 * t, col] := by
  unfold rowOff0
  congr 1
  rw [shl4 t ht]
  simp only [Scalar.indexCast, BitVec.toNat_ofNat]
  omega

theorem rowOffI_eq (t : ℕ) (ht : t < 10) (k : ℕ) (hk : k < 16) (col : ℕ) : rowOffI t k col = ![16 * t + k, col] := by
  unfold rowOffI
  congr 1
  rw [shl4 t ht, iv_from]
  simp only [Scalar.indexCast, BitVec.toNat_add, BitVec.toNat_ofNat]
  omega

end Cert.Proof.Base

end
-- ==== Proof.Seg.lean ====
module

public import proofs.«01_k».proof.Proof.Spec
public import proofs.«01_k».proof.Proof.Gen.KernelIdeal
public import proofs.«01_k».proof.Proof.Gen.KernelIdeal.Skeleton

@[expose] public section

noncomputable section

namespace Cert.Proof.Base

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The tile's thread at grid point `i` of device `d`. -/
abbrev thr (d : Dev nD) (i : grid0.Coords) : Thread nD τ := SparseCore.V d ((i 0).castLE hcore0) ((i 1).castLE hsub0)

/-- What three buffers of a tile hold: the segment ids, a chunk's rows, the pool. -/
structure SegSt (F : FTy → Type) where
  I : ℕ → BitVec 32
  R : ℕ → ℕ → F .f32
  P : ℕ → ℕ → F .f32

section
variable (d : Dev nD) (i : grid0.Coords)
  (mI : Memref sig .scVector .vmem S3216 .i32) (mR : Memref sig .scVector .vmem S160x128 .f32) (mP : Memref sig .scVector .vmem S512x128 .f32)

/-- The three buffers, holding `s`. -/
def segRes (s : SegSt F) : sProp (MT nD τ sig (HIx 2) (Elt F) ℕ UU ℕ) :=
  iprop(OwnI (F := F) (thr d i) mI s.I ∗ Own2 (thr d i) mR s.R ∗ Own2 (thr d i) mP s.P)

variable {d i mI mR mP}

theorem segRes_I (s : SegSt F) : segRes d i mI mR mP s ⊢ iprop(OwnI (thr d i) mI s.I ∗ (OwnI (thr d i) mI s.I -∗ segRes d i mI mR mP s)) := by
  unfold segRes; iintro ⟨A, B, C⟩; isplitl [A]; · iexact A
  iintro A; isplitl [A]; · iexact A
  isplitl [B]; · iexact B
  iexact C

theorem segRes_R (s : SegSt F) : segRes d i mI mR mP s ⊢ iprop(Own2 (thr d i) mR s.R ∗ (Own2 (thr d i) mR s.R -∗ segRes d i mI mR mP s)) := by
  unfold segRes; iintro ⟨A, B, C⟩; isplitl [B]; · iexact B
  iintro B; isplitl [A]; · iexact A
  isplitl [B]; · iexact B
  iexact C

theorem segRes_P (s : SegSt F) (P' : ℕ → ℕ → F .f32) : segRes d i mI mR mP s
    ⊢ iprop(Own2 (thr d i) mP s.P ∗ (Own2 (thr d i) mP P' -∗ segRes d i mI mR mP ⟨s.I, s.R, P'⟩)) := by
  unfold segRes; iintro ⟨A, B, C⟩; isplitl [C]; · iexact C
  iintro C; isplitl [A]; · iexact A
  isplitl [B]; · iexact B
  iexact C
end

variable (D₀ : Defs nD τ sig (Elt F) Λ₀) (d : Dev nD) (i : grid0.Coords)

theorem t2_lt (i : grid0.Coords) (t : Fin (k0_t2_loop i).trips) : t.val < 10 := lt_of_lt_of_le t.isLt (k0_t2_abs i).2.1

/-- Where the tile's first segment id lies in its list of ids. -/
def segBase (i : grid0.Coords) : ℕ := 160 * ((2 * (i 1).val + (i 0).val) * 19 + min (2 * (i 1).val + (i 0).val) 17)
  - min (160 * ((2 * (i 1).val + (i 0).val) * 19 + min (2 * (i 1).val + (i 0).val) 17)) 96800

theorem segBase_le (i : grid0.Coords) : segBase i ≤ 3200 := by
  have h0 : (i 0).val < 2 := (i 0).isLt
  have h1 : (i 1).val < 16 := (i 1).isLt
  unfold segBase; omega

/-- `Ev` for the segment sum's tile, at the type of its program. -/
def EvT (mI : Memref sig .scVector .vmem S3216 .i32) (mR : Memref sig .scVector .vmem S160x128 .f32) (mP : Memref sig .scVector .vmem S512x128 .f32) {α : Type}
    (p : Prog (TpuEff nD τ sig (Elt F) Λ₀ (.scVector ((i 0).castLE hcore0) ((i 1).castLE hsub0))) α) (s t : SegSt F) (a : α) : Prop :=
  Ev (c := thr d i) D₀ (segRes d i mI mR mP) p s t a

section Steps
variable {D₀ d i} {mI : Memref sig .scVector .vmem S3216 .i32} {mR : Memref sig .scVector .vmem S160x128 .f32} {mP : Memref sig .scVector .vmem S512x128 .f32}
  {α β : Type}

theorem EvT.pure (a : α) (s : SegSt F) : EvT D₀ d i mI mR mP (Pure.pure a : Prog (TpuEff nD τ sig (Elt F) Λ₀ (.scVector ((i 0).castLE hcore0) ((i 1).castLE hsub0))) α) s s a := Ev.pure a s

theorem EvT.bind {p : Prog (TpuEff nD τ sig (Elt F) Λ₀ (.scVector ((i 0).castLE hcore0) ((i 1).castLE hsub0))) α} {k : α → Prog (TpuEff nD τ sig (Elt F) Λ₀ (.scVector ((i 0).castLE hcore0) ((i 1).castLE hsub0))) β} {s t u : SegSt F} {a : α} {b : β} (h : EvT D₀ d i mI mR mP p s t a)
    (h' : EvT D₀ d i mI mR mP (k a) t u b) : EvT D₀ d i mI mR mP (p >>= k) s u b := Ev.bind h h'

theorem EvT.conv {p : Prog (TpuEff nD τ sig (Elt F) Λ₀ (.scVector ((i 0).castLE hcore0) ((i 1).castLE hsub0))) α} {s s' t t' : SegSt F} {a : α} (h : EvT D₀ d i mI mR mP p s t a) (hs : s = s') (ht : t = t') :
    EvT D₀ d i mI mR mP p s' t' a := by subst hs; subst ht; exact h

theorem EvT.assume {P : Prop} {dd : Decidable P} {k : PLift P → Prog (TpuEff nD τ sig (Elt F) Λ₀ (.scVector ((i 0).castLE hcore0) ((i 1).castLE hsub0))) β} {s u : SegSt F} {b : β} (h : P)
    (h' : EvT D₀ d i mI mR mP (k ⟨h⟩) s u b) : EvT D₀ d i mI mR mP (Prog.lift (TpuEff.assume P dd) >>= k) s u b :=
  Ev.bind (Ev.assume (c := thr d i) h s) h'

theorem EvT.loadI {off : Fin 1 → ℕ} {inb : ∀ a, off a + S16.size a ≤ S3216.size a} {hl} {s u : SegSt F} {k : Vec F S16 .i32 → Prog (TpuEff nD τ sig (Elt F) Λ₀ (.scVector ((i 0).castLE hcore0) ((i 1).castLE hsub0))) β} {b : β}
    {q : ℕ} (hoff : off = ![q]) (h' : EvT D₀ d i mI mR mP (k (laneI s.I q)) s u b) :
    EvT D₀ d i mI mR mP (Bind.bind (α := Vec F S16 .i32) (Prog.lift (.load mI (Rect.unit (s := S3216) off S16.size inb).toLoadRect hl)) k) s u b :=
  Ev.bind (Ev.loadI (c := thr d i) mI (segRes_I s) _ hoff) h'

theorem EvT.loadR {off : Fin 2 → ℕ} {inb : ∀ a, off a + S1x16.size a ≤ S160x128.size a} {hl} {s u : SegSt F} {k : Vec F S1x16 .f32 → Prog (TpuEff nD τ sig (Elt F) Λ₀ (.scVector ((i 0).castLE hcore0) ((i 1).castLE hsub0))) β} {b : β}
    {r c : ℕ} (hoff : off = ![r, c]) (h' : EvT D₀ d i mI mR mP (k (lane s.R r c)) s u b) :
    EvT D₀ d i mI mR mP (Bind.bind (α := Vec F S1x16 .f32) (Prog.lift (.load mR (Rect.unit (s := S160x128) off S1x16.size inb).toLoadRect hl)) k) s u b :=
  Ev.bind (Ev.load (c := thr d i) mR (segRes_R s) _ _ hoff) h'

theorem EvT.loadP {off : Fin 2 → ℕ} {inb : ∀ a, off a + S1x16.size a ≤ S512x128.size a} {hl} {s u : SegSt F} {k : Vec F S1x16 .f32 → Prog (TpuEff nD τ sig (Elt F) Λ₀ (.scVector ((i 0).castLE hcore0) ((i 1).castLE hsub0))) β} {b : β}
    {r c : ℕ} (hoff : off = ![r, c]) (h' : EvT D₀ d i mI mR mP (k (lane s.P r c)) s u b) :
    EvT D₀ d i mI mR mP (Bind.bind (α := Vec F S1x16 .f32) (Prog.lift (.load mP (Rect.unit (s := S512x128) off S1x16.size inb).toLoadRect hl)) k) s u b :=
  Ev.bind (Ev.load (c := thr d i) mP (segRes_P s s.P) _ _ hoff) h'

/-- Sixteen more columns of a group's sum stored. -/
theorem EvT.fast {I : ℕ → BitVec 32} {R P : ℕ → ℕ → F .f32} {r₀ v c : ℕ} {off : Fin 2 → ℕ} {k : PUnit → Prog (TpuEff nD τ sig (Elt F) Λ₀ (.scVector ((i 0).castLE hcore0) ((i 1).castLE hsub0))) β} {u : SegSt F} {b : β}
    {inb : ∀ a, off a + S1x16.size a ≤ S512x128.size a} {hx hm'} {w : S1x16.Idx → F .f32} (hoff : off = ![v, c])
    (hw : ∀ x, w x = FloatOps.addf (fastUpd R r₀ v P c v (c + (x 1).val)) (accR R r₀ (c + (x 1).val) 15))
    (h' : EvT D₀ d i mI mR mP (k ⟨⟩) ⟨I, R, fastUpd R r₀ v P (c + 16)⟩ u b) :
    EvT D₀ d i mI mR mP (Prog.lift (.store mP (Rect.unit (s := S512x128) off S1x16.size inb) w Finset.univ hx hm') >>= k)
      ⟨I, R, fastUpd R r₀ v P c⟩ u b := by
  refine Ev.bind (Ev.store (c := thr d i) mP (P := SegSt.P (F := F) ⟨I, R, fastUpd R r₀ v P c⟩) v c ?_ hoff) h'
  rw [show put (SegSt.P (F := F) ⟨I, R, fastUpd R r₀ v P c⟩) v c w = _ from put_fastUpd R r₀ v P c hw]
  exact segRes_P _ _

/-- Sixteen more columns of a row's sum stored. -/
theorem EvT.slow {I : ℕ → BitVec 32} {R P : ℕ → ℕ → F .f32} {q v c : ℕ} {off : Fin 2 → ℕ} {k : PUnit → Prog (TpuEff nD τ sig (Elt F) Λ₀ (.scVector ((i 0).castLE hcore0) ((i 1).castLE hsub0))) β} {u : SegSt F} {b : β}
    {inb : ∀ a, off a + S1x16.size a ≤ S512x128.size a} {hx hm'} {w : S1x16.Idx → F .f32} (hoff : off = ![v, c])
    (hw : ∀ x, w x = FloatOps.addf (slowUpd R q v P c v (c + (x 1).val)) (R q (c + (x 1).val)))
    (h' : EvT D₀ d i mI mR mP (k ⟨⟩) ⟨I, R, slowUpd R q v P (c + 16)⟩ u b) :
    EvT D₀ d i mI mR mP (Prog.lift (.store mP (Rect.unit (s := S512x128) off S1x16.size inb) w Finset.univ hx hm') >>= k)
      ⟨I, R, slowUpd R q v P c⟩ u b := by
  refine Ev.bind (Ev.store (c := thr d i) mP (P := SegSt.P (F := F) ⟨I, R, slowUpd R q v P c⟩) v c ?_ hoff) h'
  rw [show put (SegSt.P (F := F) ⟨I, R, slowUpd R q v P c⟩) v c w = _ from put_slowUpd R q v P c hw]
  exact segRes_P _ _

theorem EvT.loop (l : Scf.Loop 32) (hok : l.OK) (body : Fin l.trips → Unit → Prog (TpuEff nD τ sig (Elt F) Λ₀ (.scVector ((i 0).castLE hcore0) ((i 1).castLE hsub0))) Unit) (S : ℕ → SegSt F) {k : Unit → Prog (TpuEff nD τ sig (Elt F) Λ₀ (.scVector ((i 0).castLE hcore0) ((i 1).castLE hsub0))) β} {u : SegSt F} {b : β}
    (h : ∀ q : Fin l.trips, EvT D₀ d i mI mR mP (body q ()) (S q.val) (S (q.val + 1)) ())
    (h' : EvT D₀ d i mI mR mP (k ()) (S l.trips) u b) : EvT D₀ d i mI mR mP (Scf.Loop.for l hok () body >>= k) (S 0) u b :=
  Ev.bind (Ev.loop (c := thr d i) l hok body S h) h'

theorem EvT.loopN (l : Scf.Loop 32) (N : ℕ) (hN : l.trips = N) (hok : l.OK) (body : Fin l.trips → Unit → Prog (TpuEff nD τ sig (Elt F) Λ₀ (.scVector ((i 0).castLE hcore0) ((i 1).castLE hsub0))) Unit) (S : ℕ → SegSt F) {k : Unit → Prog (TpuEff nD τ sig (Elt F) Λ₀ (.scVector ((i 0).castLE hcore0) ((i 1).castLE hsub0))) β} {u : SegSt F} {b : β}
    (h : ∀ q : Fin l.trips, EvT D₀ d i mI mR mP (body q ()) (S q.val) (S (q.val + 1)) ())
    (h' : EvT D₀ d i mI mR mP (k ()) (S N) u b) : EvT D₀ d i mI mR mP (Scf.Loop.for l hok () body >>= k) (S 0) u b := by
  subst hN; exact EvT.loop l hok body S h h'

/-- A loop of no trips does nothing. -/
theorem EvT.loop0 (l : Scf.Loop 32) (hN : l.trips = 0) (hok : l.OK) (body : Fin l.trips → Unit → Prog (TpuEff nD τ sig (Elt F) Λ₀ (.scVector ((i 0).castLE hcore0) ((i 1).castLE hsub0))) Unit) {s : SegSt F} {k : Unit → Prog (TpuEff nD τ sig (Elt F) Λ₀ (.scVector ((i 0).castLE hcore0) ((i 1).castLE hsub0))) β} {u : SegSt F} {b : β}
    (h' : EvT D₀ d i mI mR mP (k ()) s u b) : EvT D₀ d i mI mR mP (Scf.Loop.for l hok () body >>= k) s u b :=
  EvT.loopN l 0 hN hok body (fun _ => s) (fun q => absurd q.isLt (by omega)) h'
end Steps

theorem shapeCast16 {α : Type} (f : S16.Idx → α) (h : S16.ShapeCasts S1x16) (j : S1x16.Idx) :
    shapeCast S1x16 f h j = f (fun | 0 => ⟨(j 1).val, (j 1).isLt⟩) := by
  have h0 : (j 0).val = 0 := by have : (j 0).val < 1 := (j 0).isLt; omega
  refine (shapeCast_apply _ h j (fun | 0 => ⟨(j 1).val, (j 1).isLt⟩) ?_)
  rw [Shape.rowMajor_val_two, Shape.rowMajor_val_one]; simp [h0]

theorem eq_bit (v w : BitVec 32) : BitVec.ofBool (BitVec.setWidth 32 (BitVec.ofBool (v == w)) != 0#32) = 1#1 ↔ v = w := by
  by_cases h : v = w
  · simp [h]
  · rw [beq_false_of_ne h]; exact iff_of_false (by decide) h
theorem ne_bit (b : Bool) : IntOp.xori (BitVec.ofBool b) (1#1) = BitVec.ofBool (!b) := by cases b <;> decide
theorem row_fits (w : BitVec 32) (h : w.toNat < 512) (q : ℕ) (hq : q + 16 ≤ 128) (a : Fin 2) :
    (![w.toNat, q] : Fin 2 → ℕ) a + S1x16.size a ≤ S512x128.size a := by
  match a with
  | 0 => show w.toNat + 1 ≤ 512; omega
  | 1 => show q + 16 ≤ 128; exact hq

end Cert.Proof.Base

end
-- ==== Proof.SegA.lean ====
/-
  The segment sum's tile over one group of sixteen rows, the first of its two row buffers.
-/
module

public import proofs.«01_k».proof.Proof.Seg

@[expose] public section

noncomputable section

namespace Cert.Proof.Base

open Cert.KernelIdeal Cert.KernelIdeal.Gen
open Idealize.ShloMosaic
open Idealize.ShloMosaic.SparseCore.Cfg (HIx)

variable {F : FTy → Type} [FloatOps F]

variable (D₀ : Defs nD τ sig (Elt F) Λ₀) (d : Dev nD) (i : grid0.Coords)
  (arg2 : Memref sig .scVector .hbm S100000x128 .f32) (harg2 : arg2.IsWhole) (arg3 : Memref sig .scVector .hbm S100000 .i32) (harg3 : arg3.IsWhole) (arg4 : Memref sig .scVector .hbm S32x512x128 .f32) (harg4 : arg4.IsWhole) (arg5 : Memref sig .scVector .vmem S3216 .i32) (harg5 : arg5.IsWhole) (arg6 : Memref sig .scVector .vmem S160x128 .f32) (harg6 : arg6.IsWhole) (arg7 : Memref sig .scVector .vmem S160x128 .f32) (harg7 : arg7.IsWhole) (arg8 : Memref sig .scVector .vmem S512x128 .f32) (harg8 : arg8.IsWhole) (arg9 : DmaSems sig S_) (arg10 : DmaSems sig S_) (v45_r0 : DmaSems sig S_) (v45_r1 : DmaSems sig S_)

theorem t3_lt (t : Fin k0_t3_loop.trips) : t.val < 10 := lt_of_lt_of_le t.isLt k0_t3_abs.2.1

theorem t4_trips : ∀ t : Fin k0_t3_loop.trips, (k0_t4_loop t).trips = 16 := by decide +kernel
theorem t5_trips : ∀ t : Fin k0_t3_loop.trips, (k0_t5_loop t).trips = 0 := by decide +kernel

theorem off12_eq : ∀ (i : grid0.Coords) (t2 : Fin (k0_t2_loop i).trips) (t3 : Fin k0_t3_loop.trips),
    k0_off12 i t2 t3 = ![segBase i + (320 * t2.val) + 16 * t3.val] := by decide +kernel

theorem off37_eq (i : grid0.Coords) (t2 : Fin (k0_t2_loop i).trips) (t3 : Fin k0_t3_loop.trips) (t4 : Fin (k0_t4_loop t3).trips) :
    k0_off37 i t2 t3 t4 = ![segBase i + (320 * t2.val) + 16 * t3.val + t4.val] := by
  obtain ⟨X, hX, hX'⟩ : ∃ X : BitVec 32, k0_off12 i t2 t3 = ![(Scalar.indexCast (Scalar.addi X (Scalar.muli (Scf.iv 0#32 1#32 t3.val) 16#32))).toNat]
      ∧ k0_off37 i t2 t3 t4 = ![(Scalar.indexCast (Scalar.addi X (Scf.iv (Scalar.shli (Scf.iv 0#32 1#32 t3.val) 4#32) 1#32 t4.val))).toNat] :=
    ⟨_, rfl, rfl⟩
  have h := congrFun (hX.symm.trans (off12_eq i t2 t3)) 0
  have hb := segBase_le i
  have h2 := t2_lt i t2
  have h3 := t3_lt t3
  have h4 : t4.val < 16 := t4_trips t3 ▸ t4.isLt
  rw [hX']
  congr 1
  rw [shl4 _ h3]
  simp only [Matrix.cons_val_zero, Scalar.indexCast, Scalar.addi, Scalar.muli, IntOp.addi, IntOp.muli, iv_toNat, iv_from, BitVec.toNat_add, BitVec.toNat_mul, BitVec.toNat_ofNat] at h ⊢
  omega

theorem first_lane_first (I : ℕ → BitVec 32) (b : ℕ) : extractAt ![0] (k0_pay2 (F := F) (laneI I b)) inpos_S1_p0 = I b := by
  unfold k0_pay2; rfl
theorem last_lane_first (I : ℕ → BitVec 32) (b : ℕ) : extractAt ![0] (k0_pay3 (F := F) (laneI I b)) inpos_S1_p0 = I (b + 15) := by
  unfold k0_pay3; rfl
theorem row_lane_first (I : ℕ → BitVec 32) (b : ℕ) : extractAt ![0] (k0_pay53 (F := F) (laneI I b)) inpos_S1_p0 = I b := by
  unfold k0_pay53; rfl
theorem cond4_iff (v w : BitVec 32) : k0_cond4 v w = 1#1 ↔ v = w := by
  unfold k0_cond4; exact eq_bit v w
theorem cond5_iff (v w : BitVec 32) : k0_cond5 v w = 1#1 ↔ v ≠ w := by
  unfold k0_cond5
  by_cases h : v = w
  · subst h; simp only [Scalar.cmpi, IntOp.cmpi, beq_self_eq_true]; exact iff_of_false (by decide) (by simp)
  · simp only [Scalar.cmpi, IntOp.cmpi, beq_false_of_ne h]; exact iff_of_true (by decide) h

set_option maxHeartbeats 4000000 in
theorem t3_ev (t2 : Fin (k0_t2_loop i).trips) (h3 : k0_cond3 i t2 = 1#1) (v57 : BitVec 32) (t3 : Fin k0_t3_loop.trips) (s : SegSt F)
   (hI : ∀ k < 16, (s.I (segBase i + (320 * t2.val) + 16 * t3.val + k)).toNat < 512) :
    EvT D₀ d i arg5 arg6 arg8 (k0_t3_body i arg2 harg2 arg3 harg3 arg4 harg4 arg5 harg5 arg6 harg6 arg7 harg7 arg8 harg8 arg9 arg10 v45_r0 v45_r1 t2 h3 v57 t3 ()) s
      ⟨s.I, s.R, grp (fun k => (s.I (segBase i + (320 * t2.val) + 16 * t3.val + k)).toNat) s.R (16 * t3.val) s.P⟩ () := by
  unfold k0_t3_body
  refine EvT.loadI (off12_eq i t2 t3) ?_
  extract_lets +onlyGivenNames v71 v73
  have h49 : s.I (segBase i + (320 * t2.val) + 16 * t3.val) = v71 := (first_lane_first _ _).symm
  have h51 : s.I (segBase i + (320 * t2.val) + 16 * t3.val + 15) = v73 := (last_lane_first _ _).symm
  have b49 : v71.toNat < 512 := by rw [← h49]; exact hI 0 (by omega)
  refine EvT.assume ?_ ?_
  · exact ⟨fun _ _ => row_fits _ b49 _ (by decide), fun _ _ => row_fits _ b49 _ (by decide), fun _ _ => row_fits _ b49 _ (by decide), fun _ _ => row_fits _ b49 _ (by decide), fun _ _ => row_fits _ b49 _ (by decide), fun _ _ => row_fits _ b49 _ (by decide), fun _ _ => row_fits _ b49 _ (by decide), fun _ _ => row_fits _ b49 _ (by decide)⟩
  have e0 : (s.I (segBase i + (320 * t2.val) + 16 * t3.val + 0)).toNat = v71.toNat := by rw [Nat.add_zero, h49]
  by_cases hv : v71 = v73
  · rw [dif_pos ((cond4_iff _ _).2 hv)]
    refine EvT.conv (s := ⟨s.I, s.R, fastUpd s.R (16 * t3.val) v71.toNat s.P 0⟩) (t := ⟨s.I, s.R, fastUpd s.R (16 * t3.val) v71.toNat s.P 128⟩) ?_
      (by rw [fastUpd_zero]) ?_
    rotate_left
    · have e15 : (s.I (segBase i + (320 * t2.val) + 16 * t3.val + 15)).toNat = v71.toNat := by rw [h51, hv]
      unfold grp
      simp only [e0, e15, if_true]
    repeat (first
      | with_reducible exact EvT.pure _ _
      | (with_reducible apply EvT.loadR
         case hoff => first | exact rowOff_eq _ (t3_lt t3) _ (by decide) _ | exact rowOff0_eq _ (t3_lt t3) _)
      | (with_reducible apply EvT.loadP
         case hoff => exact rfl)
      | (with_reducible apply EvT.fast
         case hoff => exact rfl
         case hw =>
          intro x
          simp only [k0_pay4, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, shapeCast_lane, shapeCast16, addf]
          rfl)
      | (with_reducible apply EvT.bind
         first | rw [k0_part1_eq_skeleton]; unfold k0_part1_skel | rw [k0_part2_eq_skeleton]; unfold k0_part2_skel | rw [k0_part3_eq_skeleton]; unfold k0_part3_skel | rw [k0_part4_eq_skeleton]; unfold k0_part4_skel | rw [k0_part5_eq_skeleton]; unfold k0_part5_skel | rw [k0_part6_eq_skeleton]; unfold k0_part6_skel | rw [k0_part7_eq_skeleton]; unfold k0_part7_skel | rw [k0_part8_eq_skeleton]; unfold k0_part8_skel | rw [k0_part9_eq_skeleton]; unfold k0_part9_skel | rw [k0_part10_eq_skeleton]; unfold k0_part10_skel | rw [k0_part11_eq_skeleton]; unfold k0_part11_skel | rw [k0_part12_eq_skeleton]; unfold k0_part12_skel | rw [k0_part13_eq_skeleton]; unfold k0_part13_skel | rw [k0_part14_eq_skeleton]; unfold k0_part14_skel | rw [k0_part15_eq_skeleton]; unfold k0_part15_skel | rw [k0_part16_eq_skeleton]; unfold k0_part16_skel | rw [k0_part17_eq_skeleton]; unfold k0_part17_skel | rw [k0_part18_eq_skeleton]; unfold k0_part18_skel | rw [k0_part19_eq_skeleton]; unfold k0_part19_skel | rw [k0_part20_eq_skeleton]; unfold k0_part20_skel)
      | dsimp only)
    rw [dif_neg (fun h => (cond5_iff _ _).1 h hv)]
    exact EvT.pure _ _
  · rw [dif_neg (fun h => hv ((cond4_iff _ _).1 h)), dif_pos ((cond5_iff _ _).2 hv)]
    have e15 : ¬ (fun k => (s.I (segBase i + (320 * t2.val) + 16 * t3.val + k)).toNat) 0 = (fun k => (s.I (segBase i + (320 * t2.val) + 16 * t3.val + k)).toNat) 15 := by
      dsimp only; rw [Nat.add_zero, h49, h51]; exact fun h => hv (BitVec.eq_of_toNat_eq h)
    unfold grp
    rw [if_neg e15]
    refine EvT.loopN _ 16 (t4_trips t3) _ _ (fun n => ⟨s.I, s.R, slowN (fun k => (s.I (segBase i + (320 * t2.val) + 16 * t3.val + k)).toNat) s.R (16 * t3.val) s.P n⟩) (fun t4 => ?_) (EvT.loop0 _ (t5_trips t3) _ _ (EvT.pure _ _))
    generalize hQ : slowN (fun k => (s.I (segBase i + (320 * t2.val) + 16 * t3.val + k)).toNat) s.R (16 * t3.val) s.P t4.val = Q
    have hv' := row_lane_first (F := F) s.I (segBase i + (320 * t2.val) + 16 * t3.val + t4.val)
    have b66 : (extractAt ![0] (k0_pay53 (F := F) (laneI s.I (segBase i + (320 * t2.val) + 16 * t3.val + t4.val))) inpos_S1_p0).toNat < 512 := by
      rw [hv']; exact hI _ (t4_trips t3 ▸ t4.isLt)
    refine EvT.conv (s := ⟨s.I, s.R, slowUpd s.R (16 * t3.val + t4.val) (extractAt ![0] (k0_pay53 (F := F) (laneI s.I (segBase i + (320 * t2.val) + 16 * t3.val + t4.val))) inpos_S1_p0).toNat Q 0⟩)
      (t := ⟨s.I, s.R, slowUpd s.R (16 * t3.val + t4.val) (extractAt ![0] (k0_pay53 (F := F) (laneI s.I (segBase i + (320 * t2.val) + 16 * t3.val + t4.val))) inpos_S1_p0).toNat Q 128⟩) ?_
      (by rw [slowUpd_zero]) (by rw [hv', ← hQ]; rfl)
    unfold k0_t4_body
    repeat (first
      | with_reducible exact EvT.pure _ _
      | (with_reducible apply EvT.loadI
         case hoff => exact off37_eq i t2 t3 t4)
      | (with_reducible apply EvT.assume
         case h => exact ⟨fun _ _ => row_fits _ b66 _ (by decide), fun _ _ => row_fits _ b66 _ (by decide), fun _ _ => row_fits _ b66 _ (by decide), fun _ _ => row_fits _ b66 _ (by decide), fun _ _ => row_fits _ b66 _ (by decide), fun _ _ => row_fits _ b66 _ (by decide), fun _ _ => row_fits _ b66 _ (by decide), fun _ _ => row_fits _ b66 _ (by decide)⟩)
      | (with_reducible apply EvT.loadR
         case hoff => exact rowOffI_eq _ (t3_lt t3) _ (t4_trips t3 ▸ t4.isLt) _)
      | (with_reducible apply EvT.loadP
         case hoff => exact rfl)
      | (with_reducible apply EvT.slow
         case hoff => exact rfl
         case hw =>
          intro x
          simp only [k0_pay5, k0_pay54, k0_pay55, k0_pay56, k0_pay57, k0_pay58, k0_pay59, k0_pay60, k0_pay61, k0_pay62, shapeCast_lane, shapeCast16, addf]
          rfl)
      | (with_reducible apply EvT.bind
         first | rw [k0_part21_eq_skeleton]; unfold k0_part21_skel | rw [k0_part22_eq_skeleton]; unfold k0_part22_skel)
      | dsimp only)

end Cert.Proof.Base

end
-- ==== Proof.SegB.lean ====
/-
  The segment sum's tile over one group of sixteen rows, the second of its two row buffers.
-/
module

public import proofs.«01_k».proof.Proof.Seg

@[expose] public section

noncomputable section

namespace Cert.Proof.Base

open Cert.KernelIdeal Cert.KernelIdeal.Gen
open Idealize.ShloMosaic
open Idealize.ShloMosaic.SparseCore.Cfg (HIx)

variable {F : FTy → Type} [FloatOps F]

variable (D₀ : Defs nD τ sig (Elt F) Λ₀) (d : Dev nD) (i : grid0.Coords)
  (arg2 : Memref sig .scVector .hbm S100000x128 .f32) (harg2 : arg2.IsWhole) (arg3 : Memref sig .scVector .hbm S100000 .i32) (harg3 : arg3.IsWhole) (arg4 : Memref sig .scVector .hbm S32x512x128 .f32) (harg4 : arg4.IsWhole) (arg5 : Memref sig .scVector .vmem S3216 .i32) (harg5 : arg5.IsWhole) (arg6 : Memref sig .scVector .vmem S160x128 .f32) (harg6 : arg6.IsWhole) (arg7 : Memref sig .scVector .vmem S160x128 .f32) (harg7 : arg7.IsWhole) (arg8 : Memref sig .scVector .vmem S512x128 .f32) (harg8 : arg8.IsWhole) (arg9 : DmaSems sig S_) (arg10 : DmaSems sig S_) (v45_r0 : DmaSems sig S_) (v45_r1 : DmaSems sig S_)

theorem t6_lt (t : Fin k0_t6_loop.trips) : t.val < 10 := lt_of_lt_of_le t.isLt k0_t6_abs.2.1

theorem t7_trips : ∀ t : Fin k0_t6_loop.trips, (k0_t7_loop t).trips = 16 := by decide +kernel
theorem t8_trips : ∀ t : Fin k0_t6_loop.trips, (k0_t8_loop t).trips = 0 := by decide +kernel

theorem off72_eq : ∀ (i : grid0.Coords) (t2 : Fin (k0_t2_loop i).trips) (t3 : Fin k0_t6_loop.trips),
    k0_off72 i t2 t3 = ![segBase i + (320 * t2.val + 160) + 16 * t3.val] := by decide +kernel

theorem off97_eq (i : grid0.Coords) (t2 : Fin (k0_t2_loop i).trips) (t3 : Fin k0_t6_loop.trips) (t4 : Fin (k0_t7_loop t3).trips) :
    k0_off97 i t2 t3 t4 = ![segBase i + (320 * t2.val + 160) + 16 * t3.val + t4.val] := by
  obtain ⟨X, hX, hX'⟩ : ∃ X : BitVec 32, k0_off72 i t2 t3 = ![(Scalar.indexCast (Scalar.addi X (Scalar.muli (Scf.iv 0#32 1#32 t3.val) 16#32))).toNat]
      ∧ k0_off97 i t2 t3 t4 = ![(Scalar.indexCast (Scalar.addi X (Scf.iv (Scalar.shli (Scf.iv 0#32 1#32 t3.val) 4#32) 1#32 t4.val))).toNat] :=
    ⟨_, rfl, rfl⟩
  have h := congrFun (hX.symm.trans (off72_eq i t2 t3)) 0
  have hb := segBase_le i
  have h2 := t2_lt i t2
  have h3 := t6_lt t3
  have h4 : t4.val < 16 := t7_trips t3 ▸ t4.isLt
  rw [hX']
  congr 1
  rw [shl4 _ h3]
  simp only [Matrix.cons_val_zero, Scalar.indexCast, Scalar.addi, Scalar.muli, IntOp.addi, IntOp.muli, iv_toNat, iv_from, BitVec.toNat_add, BitVec.toNat_mul, BitVec.toNat_ofNat] at h ⊢
  omega

theorem first_lane_second (I : ℕ → BitVec 32) (b : ℕ) : extractAt ![0] (k0_pay8 (F := F) (laneI I b)) inpos_S1_p0 = I b := by
  unfold k0_pay8; rfl
theorem last_lane_second (I : ℕ → BitVec 32) (b : ℕ) : extractAt ![0] (k0_pay9 (F := F) (laneI I b)) inpos_S1_p0 = I (b + 15) := by
  unfold k0_pay9; rfl
theorem row_lane_second (I : ℕ → BitVec 32) (b : ℕ) : extractAt ![0] (k0_pay101 (F := F) (laneI I b)) inpos_S1_p0 = I b := by
  unfold k0_pay101; rfl
theorem cond8_iff (v w : BitVec 32) : k0_cond8 v w = 1#1 ↔ v = w := by
  unfold k0_cond8; exact eq_bit v w
theorem cond9_iff (v w : BitVec 32) : k0_cond9 v w = 1#1 ↔ v ≠ w := by
  unfold k0_cond9
  by_cases h : v = w
  · subst h; simp only [Scalar.cmpi, IntOp.cmpi, beq_self_eq_true]; exact iff_of_false (by decide) (by simp)
  · simp only [Scalar.cmpi, IntOp.cmpi, beq_false_of_ne h]; exact iff_of_true (by decide) h

set_option maxHeartbeats 4000000 in
theorem t6_ev (t2 : Fin (k0_t2_loop i).trips) (h3 : k0_cond7 i t2 = 1#1) (v57 : BitVec 32) (t3 : Fin k0_t6_loop.trips) (s : SegSt F)
   (hI : ∀ k < 16, (s.I (segBase i + (320 * t2.val + 160) + 16 * t3.val + k)).toNat < 512) :
    EvT D₀ d i arg5 arg7 arg8 (k0_t6_body i arg2 harg2 arg3 harg3 arg4 harg4 arg5 harg5 arg6 harg6 arg7 harg7 arg8 harg8 arg9 arg10 v45_r0 v45_r1 t2 h3 v57 t3 ()) s
      ⟨s.I, s.R, grp (fun k => (s.I (segBase i + (320 * t2.val + 160) + 16 * t3.val + k)).toNat) s.R (16 * t3.val) s.P⟩ () := by
  unfold k0_t6_body
  refine EvT.loadI (off72_eq i t2 t3) ?_
  extract_lets +onlyGivenNames v71 v73
  have h49 : s.I (segBase i + (320 * t2.val + 160) + 16 * t3.val) = v71 := (first_lane_second _ _).symm
  have h51 : s.I (segBase i + (320 * t2.val + 160) + 16 * t3.val + 15) = v73 := (last_lane_second _ _).symm
  have b49 : v71.toNat < 512 := by rw [← h49]; exact hI 0 (by omega)
  refine EvT.assume ?_ ?_
  · exact ⟨fun _ _ => row_fits _ b49 _ (by decide), fun _ _ => row_fits _ b49 _ (by decide), fun _ _ => row_fits _ b49 _ (by decide), fun _ _ => row_fits _ b49 _ (by decide), fun _ _ => row_fits _ b49 _ (by decide), fun _ _ => row_fits _ b49 _ (by decide), fun _ _ => row_fits _ b49 _ (by decide), fun _ _ => row_fits _ b49 _ (by decide)⟩
  have e0 : (s.I (segBase i + (320 * t2.val + 160) + 16 * t3.val + 0)).toNat = v71.toNat := by rw [Nat.add_zero, h49]
  by_cases hv : v71 = v73
  · rw [dif_pos ((cond8_iff _ _).2 hv)]
    refine EvT.conv (s := ⟨s.I, s.R, fastUpd s.R (16 * t3.val) v71.toNat s.P 0⟩) (t := ⟨s.I, s.R, fastUpd s.R (16 * t3.val) v71.toNat s.P 128⟩) ?_
      (by rw [fastUpd_zero]) ?_
    rotate_left
    · have e15 : (s.I (segBase i + (320 * t2.val + 160) + 16 * t3.val + 15)).toNat = v71.toNat := by rw [h51, hv]
      unfold grp
      simp only [e0, e15, if_true]
    repeat (first
      | with_reducible exact EvT.pure _ _
      | (with_reducible apply EvT.loadR
         case hoff => first | exact rowOff_eq _ (t6_lt t3) _ (by decide) _ | exact rowOff0_eq _ (t6_lt t3) _)
      | (with_reducible apply EvT.loadP
         case hoff => exact rfl)
      | (with_reducible apply EvT.fast
         case hoff => exact rfl
         case hw =>
          intro x
          simp only [k0_pay10, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, shapeCast_lane, shapeCast16, addf]
          rfl)
      | (with_reducible apply EvT.bind
         first | rw [k0_part25_eq_skeleton]; unfold k0_part25_skel | rw [k0_part26_eq_skeleton]; unfold k0_part26_skel | rw [k0_part27_eq_skeleton]; unfold k0_part27_skel | rw [k0_part28_eq_skeleton]; unfold k0_part28_skel | rw [k0_part29_eq_skeleton]; unfold k0_part29_skel | rw [k0_part30_eq_skeleton]; unfold k0_part30_skel | rw [k0_part31_eq_skeleton]; unfold k0_part31_skel | rw [k0_part32_eq_skeleton]; unfold k0_part32_skel | rw [k0_part33_eq_skeleton]; unfold k0_part33_skel | rw [k0_part34_eq_skeleton]; unfold k0_part34_skel | rw [k0_part35_eq_skeleton]; unfold k0_part35_skel | rw [k0_part36_eq_skeleton]; unfold k0_part36_skel | rw [k0_part37_eq_skeleton]; unfold k0_part37_skel | rw [k0_part38_eq_skeleton]; unfold k0_part38_skel | rw [k0_part39_eq_skeleton]; unfold k0_part39_skel | rw [k0_part40_eq_skeleton]; unfold k0_part40_skel | rw [k0_part41_eq_skeleton]; unfold k0_part41_skel | rw [k0_part42_eq_skeleton]; unfold k0_part42_skel | rw [k0_part43_eq_skeleton]; unfold k0_part43_skel | rw [k0_part44_eq_skeleton]; unfold k0_part44_skel)
      | dsimp only)
    rw [dif_neg (fun h => (cond9_iff _ _).1 h hv)]
    exact EvT.pure _ _
  · rw [dif_neg (fun h => hv ((cond8_iff _ _).1 h)), dif_pos ((cond9_iff _ _).2 hv)]
    have e15 : ¬ (fun k => (s.I (segBase i + (320 * t2.val + 160) + 16 * t3.val + k)).toNat) 0 = (fun k => (s.I (segBase i + (320 * t2.val + 160) + 16 * t3.val + k)).toNat) 15 := by
      dsimp only; rw [Nat.add_zero, h49, h51]; exact fun h => hv (BitVec.eq_of_toNat_eq h)
    unfold grp
    rw [if_neg e15]
    refine EvT.loopN _ 16 (t7_trips t3) _ _ (fun n => ⟨s.I, s.R, slowN (fun k => (s.I (segBase i + (320 * t2.val + 160) + 16 * t3.val + k)).toNat) s.R (16 * t3.val) s.P n⟩) (fun t4 => ?_) (EvT.loop0 _ (t8_trips t3) _ _ (EvT.pure _ _))
    generalize hQ : slowN (fun k => (s.I (segBase i + (320 * t2.val + 160) + 16 * t3.val + k)).toNat) s.R (16 * t3.val) s.P t4.val = Q
    have hv' := row_lane_second (F := F) s.I (segBase i + (320 * t2.val + 160) + 16 * t3.val + t4.val)
    have b66 : (extractAt ![0] (k0_pay101 (F := F) (laneI s.I (segBase i + (320 * t2.val + 160) + 16 * t3.val + t4.val))) inpos_S1_p0).toNat < 512 := by
      rw [hv']; exact hI _ (t7_trips t3 ▸ t4.isLt)
    refine EvT.conv (s := ⟨s.I, s.R, slowUpd s.R (16 * t3.val + t4.val) (extractAt ![0] (k0_pay101 (F := F) (laneI s.I (segBase i + (320 * t2.val + 160) + 16 * t3.val + t4.val))) inpos_S1_p0).toNat Q 0⟩)
      (t := ⟨s.I, s.R, slowUpd s.R (16 * t3.val + t4.val) (extractAt ![0] (k0_pay101 (F := F) (laneI s.I (segBase i + (320 * t2.val + 160) + 16 * t3.val + t4.val))) inpos_S1_p0).toNat Q 128⟩) ?_
      (by rw [slowUpd_zero]) (by rw [hv', ← hQ]; rfl)
    unfold k0_t7_body
    repeat (first
      | with_reducible exact EvT.pure _ _
      | (with_reducible apply EvT.loadI
         case hoff => exact off97_eq i t2 t3 t4)
      | (with_reducible apply EvT.assume
         case h => exact ⟨fun _ _ => row_fits _ b66 _ (by decide), fun _ _ => row_fits _ b66 _ (by decide), fun _ _ => row_fits _ b66 _ (by decide), fun _ _ => row_fits _ b66 _ (by decide), fun _ _ => row_fits _ b66 _ (by decide), fun _ _ => row_fits _ b66 _ (by decide), fun _ _ => row_fits _ b66 _ (by decide), fun _ _ => row_fits _ b66 _ (by decide)⟩)
      | (with_reducible apply EvT.loadR
         case hoff => exact rowOffI_eq _ (t6_lt t3) _ (t7_trips t3 ▸ t4.isLt) _)
      | (with_reducible apply EvT.loadP
         case hoff => exact rfl)
      | (with_reducible apply EvT.slow
         case hoff => exact rfl
         case hw =>
          intro x
          simp only [k0_pay11, k0_pay102, k0_pay103, k0_pay104, k0_pay105, k0_pay106, k0_pay107, k0_pay108, k0_pay109, k0_pay110, shapeCast_lane, shapeCast16, addf]
          rfl)
      | (with_reducible apply EvT.bind
         first | rw [k0_part45_eq_skeleton]; unfold k0_part45_skel | rw [k0_part46_eq_skeleton]; unfold k0_part46_skel)
      | dsimp only)

end Cert.Proof.Base

end
-- ==== Proof.Pool.lean ====
/-
  The pooled array of one tile: which chunks of rows a tile takes, and what its pool holds after the first of them; that
  the sums depend only on the ids and rows they read.
-/
module

public import proofs.«01_k».proof.Proof.Spec

@[expose] public section

noncomputable section

namespace Cert.Proof.Base

open Cert.KernelIdeal
open Idealize.ShloMosaic

variable {F : FTy → Type} [FloatOps F]

theorem slowN_congr {id id' : ℕ → ℕ} (R : ℕ → ℕ → F .f32) (r₀ : ℕ) (P : ℕ → ℕ → F .f32) (n : ℕ) (h : ∀ k < n, id k = id' k) :
    slowN id R r₀ P n = slowN id' R r₀ P n := by
  induction n with
  | zero => rfl
  | succ n ih => rw [slowN, slowN, ih fun k hk => h k (by omega), h n (by omega)]

theorem grp_congr {id id' : ℕ → ℕ} (R : ℕ → ℕ → F .f32) (r₀ : ℕ) (P : ℕ → ℕ → F .f32) (h : ∀ k < 16, id k = id' k) :
    grp id R r₀ P = grp id' R r₀ P := by
  unfold grp
  rw [h 0 (by omega), h 15 (by omega), slowN_congr R r₀ P 16 h]

theorem chunkN_congr {id id' : ℕ → ℕ} (R : ℕ → ℕ → F .f32) (P : ℕ → ℕ → F .f32) (n : ℕ) (h : ∀ k < 16 * n, id k = id' k) :
    chunkN id R P n = chunkN id' R P n := by
  induction n with
  | zero => rfl
  | succ n ih =>
    rw [chunkN, chunkN, ih fun k hk => h k (by omega)]
    exact grp_congr R _ _ fun k hk => h _ (by omega)

/-- The number of a tile, from its two coordinates … -/
def tileNo (i0 i1 : ℕ) : ℕ := 2 * i1 + i0
/-- … its first chunk of 160 rows … -/
def start (w : ℕ) : ℕ := w * 19 + min w 17
/-- … and how many it takes. -/
def cnt (w : ℕ) : ℕ := if w < 17 then 20 else 19

theorem start_succ (w : ℕ) : start (w + 1) = start w + cnt w := by
  unfold start cnt; split <;> omega
theorem start_cnt_le (w : ℕ) (h : w < 32) : start w + cnt w ≤ 625 := by
  unfold start cnt; split <;> omega

/-- Row `r` of chunk `k`, of rows numbered from a first chunk `a`. -/
def chunkRows (H : ℕ → ℕ → F .f32) (a k : ℕ) : ℕ → ℕ → F .f32 := fun r c => H (160 * (a + k) + r) c

/-- The pool of the tile whose first chunk is `a`, after `k` chunks. -/
def poolN (z : F .f32) (S : ℕ → ℕ) (H : ℕ → ℕ → F .f32) (a : ℕ) : ℕ → ℕ → ℕ → F .f32
  | 0 => fun _ _ => z
  | k + 1 => chunkN (fun j => S (160 * (a + k) + j)) (chunkRows H a k) (poolN z S H a k) 10

/-- The pool while it is cleared: rows before `t`, and row `t` up to column `m`, hold `z`. -/
def zst (z : F .f32) (P : ℕ → ℕ → F .f32) (t m : ℕ) : ℕ → ℕ → F .f32 := fun r c =>
  if (r < t ∧ c < 128) ∨ (r = t ∧ c < m) then z else P r c

theorem zst_zero (z : F .f32) (P : ℕ → ℕ → F .f32) : zst z P 0 0 = P := by funext r c; simp [zst]
theorem zst_next (z : F .f32) (P : ℕ → ℕ → F .f32) (t : ℕ) : zst z P t 128 = zst z P (t + 1) 0 := by
  funext r c; simp only [zst]; congr 1; simp only [eq_iff_iff]; omega
theorem put_zst (z : F .f32) (P : ℕ → ℕ → F .f32) (t m : ℕ) {w : S1x16.Idx → F .f32} (hw : ∀ x, w x = z) :
    put (zst z P t m) t m w = zst z P t (m + 16) := by
  funext r c
  unfold put
  split
  · rename_i h
    rw [hw]; simp only [zst]; rw [if_pos]; exact .inr ⟨h.1, h.2.2⟩
  · rename_i h
    simp only [zst]
    by_cases h1 : (r < t ∧ c < 128) ∨ (r = t ∧ c < m)
    · rw [if_pos h1, if_pos (by omega)]
    · rw [if_neg h1, if_neg (by omega)]

end Cert.Proof.Base

end
-- ==== Proof.SegLoop.lean ====
/-
  The segment sum's tile: the clearing of its pool and its loop over one chunk of rows, for either row buffer; where the
  tile's chunks and ids lie.
-/
module

public import proofs.«01_k».proof.Proof.SegA
public import proofs.«01_k».proof.Proof.SegB
public import proofs.«01_k».proof.Proof.Pool

@[expose] public section

noncomputable section

namespace Cert.Proof.Base

open Cert.KernelIdeal Cert.KernelIdeal.Gen
open Idealize.ShloMosaic
open Idealize.ShloMosaic.SparseCore.Cfg (HIx)
open Idealize.SL.Sem

variable {F : FTy → Type} [FloatOps F]

/-! ## Where the chunks lie -/

/-- The tile's number. -/
abbrev wid (i : grid0.Coords) : ℕ := tileNo (i 0).val (i 1).val

theorem wid_lt (i : grid0.Coords) : wid i < 32 := by
  have h0 : (i 0).val < 2 := (i 0).isLt
  have h1 : (i 1).val < 16 := (i 1).isLt
  unfold wid tileNo; omega

/-- Where the tile's prefetched ids start. -/
def idOff (i : grid0.Coords) : ℕ := min (160 * start (wid i)) 96800

theorem idOff_le (i : grid0.Coords) : idOff i + 3200 ≤ 100000 := by unfold idOff; omega
theorem segBase_idOff (i : grid0.Coords) : segBase i + idOff i = 160 * start (wid i) := by
  unfold segBase idOff wid tileNo start; omega
theorem segBase_lt (i : grid0.Coords) (k j : ℕ) (hk : k < cnt (wid i)) (hj : j < 160) : segBase i + 160 * k + j < 3200 := by
  have := wid_lt i
  have e : segBase i = 160 * start (wid i) - min (160 * start (wid i)) 96800 := rfl
  rw [e]; unfold start cnt at *
  split at hk <;> omega

theorem t1_trips : k0_t1_loop.trips = 512 := by decide +kernel
theorem t2_trips : ∀ i : grid0.Coords, (k0_t2_loop i).trips = 10 := by decide +kernel
theorem t9_trips : ∀ i : grid0.Coords, (k0_t9_loop i).trips = 0 := by decide +kernel
theorem t3_trips : k0_t3_loop.trips = 10 := by decide +kernel
theorem t6_trips : k0_t6_loop.trips = 10 := by decide +kernel
theorem cond1_on : ∀ i : grid0.Coords, k0_cond1 i = 1#1 := by decide +kernel
theorem cond2_on : ∀ i : grid0.Coords, k0_cond2 i = 1#1 := by decide +kernel
theorem cond3_on : ∀ (i : grid0.Coords) (t : Fin (k0_t2_loop i).trips), k0_cond3 i t = 1#1 := by decide +kernel
theorem cond6_iff : ∀ (i : grid0.Coords) (t : Fin (k0_t2_loop i).trips), k0_cond6 i t = 1#1 ↔ 2 * t.val + 2 < cnt (wid i) := by decide +kernel
theorem cond7_iff : ∀ (i : grid0.Coords) (t : Fin (k0_t2_loop i).trips), k0_cond7 i t = 1#1 ↔ 2 * t.val + 1 < cnt (wid i) := by decide +kernel
theorem cond10_iff : ∀ (i : grid0.Coords) (t : Fin (k0_t2_loop i).trips), k0_cond10 i t = 1#1 ↔ 2 * t.val + 3 < cnt (wid i) := by decide +kernel
theorem off9_eq : ∀ i : grid0.Coords, k0_off9 i = ![160 * (start (wid i) + 0), 0] := by decide +kernel
theorem off10_eq : ∀ i : grid0.Coords, k0_off10 i = ![160 * (start (wid i) + 1), 0] := by decide +kernel
theorem off11_eq : ∀ i : grid0.Coords, k0_off11 i = ![idOff i] := by decide +kernel
theorem off71_eq : ∀ (i : grid0.Coords) (t : Fin (k0_t2_loop i).trips), k0_off71 i t = ![160 * (start (wid i) + (2 * t.val + 2)), 0] := by decide +kernel
theorem off131_eq : ∀ (i : grid0.Coords) (t : Fin (k0_t2_loop i).trips), k0_off131 i t = ![160 * (start (wid i) + (2 * t.val + 3)), 0] := by decide +kernel
theorem off252_eq : ∀ i : grid0.Coords, k0_off252 i = ![wid i, 0, 0] := by decide +kernel
theorem off1_eq : ∀ t : Fin k0_t1_loop.trips, k0_off1 t = ![t.val, 0] := by decide +kernel
theorem off2_eq : ∀ t : Fin k0_t1_loop.trips, k0_off2 t = ![t.val, 16] := by decide +kernel
theorem off3_eq : ∀ t : Fin k0_t1_loop.trips, k0_off3 t = ![t.val, 32] := by decide +kernel
theorem off4_eq : ∀ t : Fin k0_t1_loop.trips, k0_off4 t = ![t.val, 48] := by decide +kernel
theorem off5_eq : ∀ t : Fin k0_t1_loop.trips, k0_off5 t = ![t.val, 64] := by decide +kernel
theorem off6_eq : ∀ t : Fin k0_t1_loop.trips, k0_off6 t = ![t.val, 80] := by decide +kernel
theorem off7_eq : ∀ t : Fin k0_t1_loop.trips, k0_off7 t = ![t.val, 96] := by decide +kernel
theorem off8_eq : ∀ t : Fin k0_t1_loop.trips, k0_off8 t = ![t.val, 112] := by decide +kernel

/-- The zero the pool is cleared with. -/
def zeroF : F .f32 := Scalar.ofBits .f32 0x00000000#32

section Rules
variable {D₀ : Defs nD τ sig (Elt F) Λ₀} {d : Dev nD} {i : grid0.Coords}
  {mI : Memref sig .scVector .vmem S3216 .i32} {mR : Memref sig .scVector .vmem S160x128 .f32} {mP : Memref sig .scVector .vmem S512x128 .f32} {β : Type}

/-- Sixteen more columns of a row cleared. -/
theorem EvT.zero {I : ℕ → BitVec 32} {R P : ℕ → ℕ → F .f32} {z : F .f32} {t c : ℕ} {off : Fin 2 → ℕ} {k : PUnit → Prog (TpuEff nD τ sig (Elt F) Λ₀ (.scVector ((i 0).castLE hcore0) ((i 1).castLE hsub0))) β} {u : SegSt F} {b : β}
    {inb : ∀ a, off a + S1x16.size a ≤ S512x128.size a} {hx hm'} {w : S1x16.Idx → F .f32} (hoff : off = ![t, c]) (hw : ∀ x, w x = z)
    (h' : EvT D₀ d i mI mR mP (k ⟨⟩) ⟨I, R, zst z P t (c + 16)⟩ u b) :
    EvT D₀ d i mI mR mP (Prog.lift (.store mP (Rect.unit (s := S512x128) off S1x16.size inb) w Finset.univ hx hm') >>= k)
      ⟨I, R, zst z P t c⟩ u b := by
  refine Ev.bind (Ev.store (c := thr d i) mP (P := SegSt.P (F := F) ⟨I, R, zst z P t c⟩) t c ?_ hoff) h'
  rw [show put (SegSt.P (F := F) ⟨I, R, zst z P t c⟩) t c w = _ from put_zst z P t c hw]
  exact segRes_P _ _

/-- A loop of `N` trips. -/
theorem EvT.loopAll (l : Scf.Loop 32) (N : ℕ) (hN : l.trips = N) (hok : l.OK) (body : Fin l.trips → Unit → Prog (TpuEff nD τ sig (Elt F) Λ₀ (.scVector ((i 0).castLE hcore0) ((i 1).castLE hsub0))) Unit) (S : ℕ → SegSt F)
    (h : ∀ q : Fin l.trips, EvT D₀ d i mI mR mP (body q ()) (S q.val) (S (q.val + 1)) ()) :
    EvT D₀ d i mI mR mP (Scf.Loop.for l hok () body) (S 0) (S N) () := by
  subst hN; exact Ev.loop (c := thr d i) l hok body S h

end Rules

variable (D₀ : Defs nD τ sig (Elt F) Λ₀) (d : Dev nD) (i : grid0.Coords)
  (arg2 : Memref sig .scVector .hbm S100000x128 .f32) (harg2 : arg2.IsWhole) (arg3 : Memref sig .scVector .hbm S100000 .i32) (harg3 : arg3.IsWhole) (arg4 : Memref sig .scVector .hbm S32x512x128 .f32) (harg4 : arg4.IsWhole) (arg5 : Memref sig .scVector .vmem S3216 .i32) (harg5 : arg5.IsWhole) (arg6 : Memref sig .scVector .vmem S160x128 .f32) (harg6 : arg6.IsWhole) (arg7 : Memref sig .scVector .vmem S160x128 .f32) (harg7 : arg7.IsWhole) (arg8 : Memref sig .scVector .vmem S512x128 .f32) (harg8 : arg8.IsWhole) (arg9 : DmaSems sig S_) (arg10 : DmaSems sig S_) (v45_r0 : DmaSems sig S_) (v45_r1 : DmaSems sig S_)

theorem clear_ev (I : ℕ → BitVec 32) (R P : ℕ → ℕ → F .f32) :
    EvT D₀ d i arg5 arg6 arg8 (Scf.Loop.for k0_t1_loop k0_t1_ok () (k0_t1_body i arg2 harg2 arg3 harg3 arg4 harg4 arg5 harg5 arg6 harg6 arg7 harg7 arg8 harg8 arg9 arg10 v45_r0 v45_r1)) ⟨I, R, P⟩ ⟨I, R, zst zeroF P 512 0⟩ () := by
  refine EvT.conv (s := ⟨I, R, zst zeroF P 0 0⟩) (t := ⟨I, R, zst zeroF P 512 0⟩) (EvT.loopAll k0_t1_loop 512 t1_trips k0_t1_ok _ (fun n => ⟨I, R, zst zeroF P n 0⟩) fun t => ?_) (by rw [zst_zero]) rfl
  refine EvT.conv (t := ⟨I, R, zst zeroF P t.val 128⟩) ?_ rfl (by rw [zst_next])
  unfold k0_t1_body
  repeat (first
    | with_reducible exact EvT.pure _ _
    | (with_reducible apply EvT.loadP
       case hoff => first | exact off1_eq t | exact off2_eq t | exact off3_eq t | exact off4_eq t | exact off5_eq t | exact off6_eq t | exact off7_eq t | exact off8_eq t)
    | (with_reducible apply EvT.zero
       case hoff => first | exact off1_eq t | exact off2_eq t | exact off3_eq t | exact off4_eq t | exact off5_eq t | exact off6_eq t | exact off7_eq t | exact off8_eq t
       case hw => exact fun _ => rfl)
    | dsimp only)

/-- One chunk of rows in the first row buffer. -/
theorem chunkA_ev (t2 : Fin (k0_t2_loop i).trips) (h3 : k0_cond3 i t2 = 1#1) (v57 : BitVec 32) (I : ℕ → BitVec 32) (R P : ℕ → ℕ → F .f32)
    (hI : ∀ k < 160, (I (segBase i + (320 * t2.val) + k)).toNat < 512) :
    EvT D₀ d i arg5 arg6 arg8 (Scf.Loop.for k0_t3_loop (k0_t3_ok i t2 h3) () (k0_t3_body i arg2 harg2 arg3 harg3 arg4 harg4 arg5 harg5 arg6 harg6 arg7 harg7 arg8 harg8 arg9 arg10 v45_r0 v45_r1 t2 h3 v57)) ⟨I, R, P⟩
      ⟨I, R, chunkN (fun j => (I (segBase i + (320 * t2.val) + j)).toNat) R P 10⟩ () := by
  refine EvT.loopAll k0_t3_loop 10 t3_trips _ _ (fun n => ⟨I, R, chunkN (fun j => (I (segBase i + (320 * t2.val) + j)).toNat) R P n⟩) fun t => ?_
  have ht : t.val < 10 := lt_of_lt_of_eq t.isLt t3_trips
  refine EvT.conv (t3_ev D₀ d i arg2 harg2 arg3 harg3 arg4 harg4 arg5 harg5 arg6 harg6 arg7 harg7 arg8 harg8 arg9 arg10 v45_r0 v45_r1 t2 h3 v57 t ⟨I, R, chunkN (fun j => (I (segBase i + (320 * t2.val) + j)).toNat) R P t.val⟩ fun k hk => ?_) rfl ?_
  · have := hI (16 * t.val + k) (by omega)
    rw [← Nat.add_assoc] at this; exact this
  · show SegSt.mk _ _ _ = SegSt.mk _ _ (chunkN _ _ _ (t.val + 1))
    simp only [chunkN, Nat.add_assoc]

/-- One chunk of rows in the second row buffer. -/
theorem chunkB_ev (t2 : Fin (k0_t2_loop i).trips) (h3 : k0_cond7 i t2 = 1#1) (v57 : BitVec 32) (I : ℕ → BitVec 32) (R P : ℕ → ℕ → F .f32)
    (hI : ∀ k < 160, (I (segBase i + (320 * t2.val + 160) + k)).toNat < 512) :
    EvT D₀ d i arg5 arg7 arg8 (Scf.Loop.for k0_t6_loop (k0_t6_ok i t2 h3) () (k0_t6_body i arg2 harg2 arg3 harg3 arg4 harg4 arg5 harg5 arg6 harg6 arg7 harg7 arg8 harg8 arg9 arg10 v45_r0 v45_r1 t2 h3 v57)) ⟨I, R, P⟩
      ⟨I, R, chunkN (fun j => (I (segBase i + (320 * t2.val + 160) + j)).toNat) R P 10⟩ () := by
  refine EvT.loopAll k0_t6_loop 10 t6_trips _ _ (fun n => ⟨I, R, chunkN (fun j => (I (segBase i + (320 * t2.val + 160) + j)).toNat) R P n⟩) fun t => ?_
  have ht : t.val < 10 := lt_of_lt_of_eq t.isLt t6_trips
  refine EvT.conv (t6_ev D₀ d i arg2 harg2 arg3 harg3 arg4 harg4 arg5 harg5 arg6 harg6 arg7 harg7 arg8 harg8 arg9 arg10 v45_r0 v45_r1 t2 h3 v57 t ⟨I, R, chunkN (fun j => (I (segBase i + (320 * t2.val + 160) + j)).toNat) R P t.val⟩ fun k hk => ?_) rfl ?_
  · have := hI (16 * t.val + k) (by omega)
    rw [← Nat.add_assoc] at this; exact this
  · show SegSt.mk _ _ _ = SegSt.mk _ _ (chunkN _ _ _ (t.val + 1))
    simp only [chunkN, Nat.add_assoc]

end Cert.Proof.Base

end
-- ==== Proof.Dma.lean ====
/-
  A tile's copies: a chunk of rows copied from an array in HBM into a buffer of vector memory, a buffer copied out to a
  part of an array, and the wait for either; what a copy in flight hands back is stated by what the buffers then hold.
-/
module

public import proofs.«01_k».proof.Proof.Ev

@[expose] public section

noncomputable section

namespace Cert.Proof.Base

open Cert.KernelIdeal
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {Λ : Labels}

local notation "𝕄" => MT nD τ sig (HIx 2) (Elt F) ℕ UU ℕ

/-- A copy of `N` units in flight on the cell `sem` of thread `c`, handing `X` to the wait. -/
abbrev Fly (c : Thread nD τ) (sem : DmaSem sig) (N : ℕ) (X : sProp (MT nD τ sig (HIx 2) (Elt F) ℕ UU ℕ)) : sProp (MT nD τ sig (HIx 2) (Elt F) ℕ UU ℕ) :=
  Transfers.Flight (countersEmb (U := UU)) c (.dma sem) (none : HIx 2) N X

/-- What a copy in flight does not touch may be handed over along with what it delivers. -/
theorem fly_frame {c : Thread nD τ} {sem : DmaSem sig} {N : ℕ} {X Y : sProp 𝕄} : iprop(Fly c sem N X ∗ Y) ⊢ Fly c sem N iprop(X ∗ Y) := by
  unfold Fly Transfers.Flight
  iintro ⟨⟨⟨%R, HR, %h1, %h2⟩, Hc⟩, HY⟩
  isplitr [Hc]
  · iexists iprop(R ∗ Y)
    isplitl [HR HY]; · isplitl [HR] <;> iassumption
    isplit
    · ipureintro; intro K
      refine BIBase.Entails.trans ?_ (h1 K)
      iintro ⟨⟨HR, HY⟩, HK⟩
      isplitl [HR]; · iexact HR
      iintro ⟨Hv, HX⟩
      iapply HK
      isplitl [Hv]; · iexact Hv
      isplitl [HX] <;> iassumption
    · ipureintro; intro K
      refine BIBase.Entails.trans ?_ (h2 K)
      iintro ⟨⟨HR, HY⟩, HK⟩
      isplitl [HR]; · iexact HR
      iintro HR
      iapply HK
      isplitl [HR] <;> iassumption
  · iexact Hc

theorem fly_mono {c : Thread nD τ} {sem : DmaSem sig} {N : ℕ} {X Y : sProp 𝕄} (h : X ⊢ Y) : Fly c sem N X ⊢ Fly c sem N Y :=
  Transfers.Flight_mono _ _ h

/-- A tile's waits so far, those beyond `W` on cells of no call. -/
def Ow (c : Thread nD τ) (O : CellTallies nD τ sig (HIx 2)) (W : Waits sig (HIx 2)) : sProp 𝕄 :=
  iprop(∃ W', ⌜∀ p ∈ W', p ∈ W ∨ p.2 = none⌝ ∗ owes c O W')

section Own
variable {c : Thread nD τ} {cs : Space} {n : ℕ}

theorem own2_congr {m : Memref sig c.2.kind cs ⟨2, ![n, 128]⟩ .f32} {P P' : ℕ → ℕ → F .f32}
    (h : ∀ r k, r < n → k < 128 → P r k = P' r k) : Own2 c m P ⊢ Own2 c m P' := by
  unfold Own2
  have e : (buf2 P : (⟨2, ![n, 128]⟩ : Shape).Idx → F .f32) = buf2 P' := by
    funext x; exact h _ _ (x 0).isLt (x 1).isLt
  rw [e]

theorem own2_any [NeZero n] {m : Memref sig c.2.kind cs ⟨2, ![n, 128]⟩ .f32} {f : Buf (Elt F) (m.view.loc c)} :
    (m.view.loc c ↦[Finset.univ]{fullShare} f : sProp 𝕄) ⊢ iprop(∃ P, Own2 c m P) := by
  unfold Own2
  iintro H
  iexists (fun r k => m.view.read (Elt F) f (fun | 0 => ⟨r % n, Nat.mod_lt _ (NeZero.pos n)⟩ | 1 => ⟨k % 128, Nat.mod_lt _ (by decide)⟩))
  iexists f
  isplitr
  · ipureintro
    funext x
    show _ = m.view.read (Elt F) f _
    congr 1
    funext a
    match a with
    | 0 => exact Fin.ext (Nat.mod_eq_of_lt (x 0).isLt).symm
    | 1 => exact Fin.ext (Nat.mod_eq_of_lt (x 1).isLt).symm
  · iexact H

theorem ownI_any {m : Memref sig c.2.kind cs S3216 .i32} {f : Buf (Elt F) (m.view.loc c)} :
    (m.view.loc c ↦[Finset.univ]{fullShare} f : sProp 𝕄) ⊢ iprop(∃ I, OwnI c m I) := by
  unfold OwnI
  iintro H
  iexists (fun k => m.view.read (Elt F) f (fun | 0 => ⟨k % 3216, Nat.mod_lt _ (by decide)⟩))
  iexists f
  isplitr
  · ipureintro
    intro x
    congr 1
    funext a
    match a with
    | 0 => exact Fin.ext (Nat.mod_eq_of_lt (x 0).isLt).symm
  · iexact H

end Own

section Rules
variable (D₀ : Defs nD τ sig (Elt F) Λ) (d : Dev nD) (a : Fin τ.nSC) (b : Fin τ.nSub)

/-- Rows copied in: the array `src` slices is held at a share, the buffer at any contents. -/
theorem copyIn {n : ℕ} (hn : 0 < (⟨2, ![n, 128]⟩ : Shape).numel) {sp : Space} {src : Memref sig .scVector sp ⟨2, ![n, 128]⟩ .f32}
    {sp' : Space} {dst : Memref sig .scVector sp' ⟨2, ![n, 128]⟩ .f32} {sem : DmaSem sig} {h1 h2 h3}
    {q : PosShare TreeShare} {fs : Buf (Elt F) (src.view.loc (SparseCore.V d a b))} {P : ℕ → ℕ → F .f32}
    (hP : src.view.read (Elt F) fs = buf2 P) {Q : PUnit → sProp 𝕄} :
    iprop((src.view.loc (SparseCore.V d a b) ↦[Finset.univ]{q} fs) ∗ (∃ P', Own2 (SparseCore.V d a b) dst P') ∗ semVal ((SparseCore.V d a b : Thread nD τ), SemLoc.dma sem) 0)
      ⊢ iprop((Fly (SparseCore.V d a b) sem dst.view.dmaCredit
            iprop(Own2 (SparseCore.V d a b) dst P ∗ (src.view.loc (SparseCore.V d a b) ↦[Finset.univ]{q} fs)) -∗ Q ⟨⟩)
          -∗ wp frame (wpE D₀ 𝒱₀ (SparseCore.V d a b) none) Set.univ (Prog.lift (.enqueueDma src (.here dst) (.dma sem) h1 h2 h3) : Prog (TpuEff nD τ sig (Elt F) Λ (.scVector a b)) PUnit) Q) := by
  unfold Prog.lift
  iintro ⟨Hs, ⟨%P', Hd⟩, Hv⟩ Hk
  unfold Own2
  icases Hd with ⟨%f, -, Hd⟩
  ihave Hs := (pointsTo_split_subset (Finset.subset_univ src.view.set)).1 $$ Hs
  icases Hs with ⟨Hs, Hr⟩
  iapply (Transfers.wp_dmaLocal (countersEmb (U := UU)) 𝒱₀ (SparseCore.V d a b) none (none : HIx 2) dst.view.dmaCredit rfl (View.dmaCredit_pos _ hn)
    (Finset.subset_univ _)) $$ [Hs Hd Hv]
  · isplitl [Hs]; · iexact Hs
    isplitl [Hd]; · iexact Hd
    iexact Hv
  iintro Hf
  rw [wp_ret]; imodintro
  iapply Hk
  ihave Hf := (fly_frame (F := F)) $$ [Hf Hr]
  · isplitl [Hf]; · iexact Hf
    iexact Hr
  iapply (fly_mono ?_) $$ Hf
  iintro ⟨⟨Hd, Hs⟩, Hr⟩
  isplitl [Hd]
  · iexists (dst.view.write (Elt F) f (src.view.read (Elt F) fs) Finset.univ)
    isplitr
    · ipureintro
      exact (View.read_write_univ _ _).trans hP
    · iexact Hd
  · iapply (pointsTo_split_subset (Finset.subset_univ src.view.set)).2
    isplitl [Hs] <;> iassumption

/-- A buffer copied out to a part of an array, that part held outright. -/
theorem copyOut {n : ℕ} (hn : 0 < (⟨2, ![n, 128]⟩ : Shape).numel) {sp : Space} {src : Memref sig .scVector sp ⟨2, ![n, 128]⟩ .f32}
    {sp' : Space} {dst : Memref sig .scVector sp' ⟨2, ![n, 128]⟩ .f32} {sem : DmaSem sig} {h1 h2 h3}
    {fd : Buf (Elt F) (dst.view.loc (SparseCore.V d a b))} {P : ℕ → ℕ → F .f32} {Q : PUnit → sProp 𝕄} :
    iprop(Own2 (SparseCore.V d a b) src P ∗ (dst.view.loc (SparseCore.V d a b) ↦[dst.view.set]{fullShare} fd) ∗ semVal ((SparseCore.V d a b : Thread nD τ), SemLoc.dma sem) 0)
      ⊢ iprop((Fly (SparseCore.V d a b) sem dst.view.dmaCredit
            iprop(Own2 (SparseCore.V d a b) src P ∗ ∃ f, ⌜dst.view.read (Elt F) f = buf2 P⌝ ∗ (dst.view.loc (SparseCore.V d a b) ↦[dst.view.set]{fullShare} f)) -∗ Q ⟨⟩)
          -∗ wp frame (wpE D₀ 𝒱₀ (SparseCore.V d a b) none) Set.univ (Prog.lift (.enqueueDma src (.here dst) (.dma sem) h1 h2 h3) : Prog (TpuEff nD τ sig (Elt F) Λ (.scVector a b)) PUnit) Q) := by
  unfold Prog.lift
  iintro ⟨Hs, Hd, Hv⟩ Hk
  unfold Own2
  icases Hs with ⟨%f, %hf, Hs⟩
  ihave Hs := (pointsTo_split_subset (Finset.subset_univ src.view.set)).1 $$ Hs
  icases Hs with ⟨Hs, Hr⟩
  iapply (Transfers.wp_dmaLocal (countersEmb (U := UU)) 𝒱₀ (SparseCore.V d a b) none (none : HIx 2) dst.view.dmaCredit rfl (View.dmaCredit_pos _ hn)
    (Finset.Subset.refl _)) $$ [Hs Hd Hv]
  · isplitl [Hs]; · iexact Hs
    isplitl [Hd]; · iexact Hd
    iexact Hv
  iintro Hf
  rw [wp_ret]; imodintro
  iapply Hk
  ihave Hf := (fly_frame (F := F)) $$ [Hf Hr]
  · isplitl [Hf]; · iexact Hf
    iexact Hr
  iapply (fly_mono ?_) $$ Hf
  iintro ⟨⟨Hd, Hs⟩, Hr⟩
  isplitl [Hs Hr]
  · iexists f
    isplitr
    · ipureintro; exact hf
    · iapply (pointsTo_split_subset (Finset.subset_univ src.view.set)).2
      isplitl [Hs] <;> iassumption
  · iexists (dst.view.write (Elt F) fd (src.view.read (Elt F) f) Finset.univ)
    isplitr
    · ipureintro
      exact (View.read_write_univ _ _).trans hf
    · iexact Hd

/-- The wait for a copy in flight. -/
theorem waitFor {s s' : Shape} {e e' : EltTy} {sp sp' : Space} {src : Memref sig .scVector sp' s' e'} {dst : Memref sig .scVector sp s e} {sem : DmaSem sig} {h1 h2}
    {N : ℕ} (hN : dst.view.dmaCredit = N) {X : sProp 𝕄} {O : CellTallies nD τ sig (HIx 2)} {W : Waits sig (HIx 2)} {Q : PUnit → sProp 𝕄} :
    iprop(Fly (SparseCore.V d a b) sem N X ∗ Ow (SparseCore.V d a b) O W ∗ Transfers.MayWaits (SparseCore.V d a b) (none : HIx 2) O)
      ⊢ iprop((iprop(X ∗ semVal ((SparseCore.V d a b : Thread nD τ), SemLoc.dma sem) 0 ∗ Ow (SparseCore.V d a b) O W) -∗ Q ⟨⟩)
          -∗ wp frame (wpE D₀ 𝒱₀ (SparseCore.V d a b) none) Set.univ (Prog.lift (.waitDma2 sem src dst h1 h2) : Prog (TpuEff nD τ sig (Elt F) Λ (.scVector a b)) PUnit) Q) := by
  unfold Prog.lift Ow
  iintro ⟨Hf, ⟨%W', %hW, Ho⟩, Hm⟩ Hk
  iapply (Transfers.wp_waitLocalO (countersEmb (U := UU)) 𝒱₀ (SparseCore.V d a b) none (none : HIx 2) hN) $$ [Hf Ho Hm]
  · isplitl [Hf]; · iexact Hf
    isplitl [Ho]; · iexact Ho
    iapply (Transfers.MayWaits.elim (.dma sem)) $$ Hm
  iintro ⟨HX, Hv, Ho⟩
  rw [wp_ret]; imodintro
  iapply Hk
  isplitl [HX]; · iexact HX
  isplitl [Hv]; · iexact Hv
  iexists (insert (SemLoc.dma sem, (none : HIx 2)) W')
  isplitr
  · ipureintro
    intro p hp
    rcases Finset.mem_insert.mp hp with hp | hp
    · exact .inr (hp ▸ rfl)
    · exact hW p hp
  · iexact Ho

/-- A straight run from what its buffers hold. -/
theorem evRun {σ α : Type} {res : σ → sProp 𝕄} {p : Prog (TpuEff nD τ sig (Elt F) Λ (.scVector a b)) α} {s t : σ} {x : α}
    (h : Ev (c := SparseCore.V d a b) D₀ res p s t x) {Q : α → sProp 𝕄} :
    res s ⊢ iprop((res t -∗ Q x) -∗ wp frame (wpE D₀ 𝒱₀ (SparseCore.V d a b) none) Set.univ p Q) := by
  have h' : res s ⊢ wp frame (wpE D₀ 𝒱₀ (SparseCore.V d a b) none) Set.univ p (fun y => iprop(⌜y = x⌝ ∗ res t)) := h
  iintro Hs Hk
  iapply (wp_wand frame (wpE D₀ 𝒱₀ (SparseCore.V d a b) none) Set.univ (Q := fun y => iprop(⌜y = x⌝ ∗ res t))) $$ [Hs]
  · iapply h'; iexact Hs
  iintro %y ⟨%hy, Ht⟩
  subst hy
  iapply Hk; iexact Ht

end Rules

end Cert.Proof.Base

end
-- ==== Proof.SegTile.lean ====
/-
  The segment sum's tile: its copies in and out, its pass over two chunks of rows, and the whole of it.
-/
module

public import proofs.«01_k».proof.Proof.SegLoop
public import proofs.«01_k».proof.Proof.Dma

@[expose] public section

noncomputable section

namespace Cert.Proof.Base

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

section Copies
variable {Λ : Labels} (D₀ : Defs nD τ sig (Elt F) Λ) (d : Dev nD) (a : Fin τ.nSC) (b : Fin τ.nSub)

/-- A chunk of rows copied in from the array of all rows. -/
theorem chunkIn {n : ℕ} (hn : 0 < (⟨2, ![n, 128]⟩ : Shape).numel) {src : Memref sig .scVector .hbm S100000x128 .f32} {dst : Memref sig .scVector .vmem ⟨2, ![n, 128]⟩ .f32} {sem : DmaSem sig}
    {off : Fin 2 → ℕ} {inb hs h1 h2 h3} {q : PosShare TreeShare} {fs : Buf (Elt F) (src.view.loc (SparseCore.V d a b))} {H R : ℕ → ℕ → F .f32}
    (hH : src.view.read (Elt F) fs = buf2 H) {r : ℕ} (hoff : off = ![r, 0]) (hR : ∀ x c, R x c = H (r + x) c) {Q : PUnit → sProp 𝕄} :
    iprop((src.view.loc (SparseCore.V d a b) ↦[Finset.univ]{q} fs) ∗ (∃ P', Own2 (SparseCore.V d a b) dst P') ∗ semVal ((SparseCore.V d a b : Thread nD τ), SemLoc.dma sem) 0)
      ⊢ iprop((Fly (SparseCore.V d a b) sem dst.view.dmaCredit
            iprop(Own2 (SparseCore.V d a b) dst R ∗ (src.view.loc (SparseCore.V d a b) ↦[Finset.univ]{q} fs)) -∗ Q ⟨⟩)
          -∗ wp frame (wpE D₀ 𝒱₀ (SparseCore.V d a b) none) Set.univ (Prog.lift (.enqueueDma (src.slice (Rect.unit (s := S100000x128) off (⟨2, ![n, 128]⟩ : Shape).size inb) hs) (.here dst) (.dma sem) h1 h2 h3) : Prog (TpuEff nD τ sig (Elt F) Λ (.scVector a b)) PUnit) Q) := by
  refine copyIn D₀ d a b hn (src := src.slice (Rect.unit (s := S100000x128) off (⟨2, ![n, 128]⟩ : Shape).size inb) hs) (fs := fs) ?_
  funext x
  show src.view.read (Elt F) fs _ = R _ _
  rw [hH, hR]
  subst hoff
  show H _ _ = H _ _
  congr 1
  · show r + 1 * (x 0).val = _; omega
  · show 0 + 1 * (x 1).val = _; omega

/-- The segment ids copied in: the first 3200 entries of the list are the ids from `off`. -/
theorem idsIn {src : Memref sig .scVector .hbm S100000 .i32} {dst : Memref sig .scVector .vmem S3216 .i32} {sem : DmaSem sig}
    {off : Fin 1 → ℕ} {inb hs inb' hs' h1 h2 h3} {q : PosShare TreeShare} {fs : Buf (Elt F) (src.view.loc (SparseCore.V d a b))} {fd : Buf (Elt F) (dst.view.loc (SparseCore.V d a b))} {S : ℕ → BitVec 32}
    (hS : ∀ x, src.view.read (Elt F) fs x = S (x 0).val) {r : ℕ} (hoff : off = ![r]) {Q : PUnit → sProp 𝕄} :
    iprop((src.view.loc (SparseCore.V d a b) ↦[Finset.univ]{q} fs) ∗ (dst.view.loc (SparseCore.V d a b) ↦[Finset.univ]{fullShare} fd) ∗ semVal ((SparseCore.V d a b : Thread nD τ), SemLoc.dma sem) 0)
      ⊢ iprop((Fly (SparseCore.V d a b) sem (dst.slice (Rect.unit (s := S3216) ![0] S3200.size inb') hs').view.dmaCredit
            iprop((∃ I, ⌜∀ k < 3200, I k = S (r + k)⌝ ∗ OwnI (SparseCore.V d a b) dst I) ∗ (src.view.loc (SparseCore.V d a b) ↦[Finset.univ]{q} fs)) -∗ Q ⟨⟩)
          -∗ wp frame (wpE D₀ 𝒱₀ (SparseCore.V d a b) none) Set.univ (Prog.lift (.enqueueDma (src.slice (Rect.unit (s := S100000) off S3200.size inb) hs) (.here (dst.slice (Rect.unit (s := S3216) ![0] S3200.size inb') hs')) (.dma sem) h1 h2 h3) : Prog (TpuEff nD τ sig (Elt F) Λ (.scVector a b)) PUnit) Q) := by
  unfold Prog.lift
  iintro ⟨Hs, Hd, Hv⟩ Hk
  ihave Hs := (pointsTo_split_subset (Finset.subset_univ (src.slice (Rect.unit (s := S100000) off S3200.size inb) hs).view.set)).1 $$ Hs
  icases Hs with ⟨Hs, Hr⟩
  iapply (Transfers.wp_dmaLocal (countersEmb (U := UU)) 𝒱₀ (SparseCore.V d a b) none (none : HIx 2) (dst.slice (Rect.unit (s := S3216) ![0] S3200.size inb') hs').view.dmaCredit rfl (View.dmaCredit_pos _ (show 0 < S3200.numel by decide))
    (Finset.subset_univ _)) $$ [Hs Hd Hv]
  · isplitl [Hs]; · iexact Hs
    isplitl [Hd]; · iexact Hd
    iexact Hv
  iintro Hf
  rw [wp_ret]; imodintro
  iapply Hk
  ihave Hf := (fly_frame (F := F)) $$ [Hf Hr]
  · isplitl [Hf]; · iexact Hf
    iexact Hr
  iapply (fly_mono ?_) $$ Hf
  iintro ⟨⟨Hd, Hs⟩, Hr⟩
  isplitl [Hd]
  · generalize hf' : View.write (Elt F) (dst.slice (Rect.unit (s := S3216) ![0] S3200.size inb') hs').view fd _ _ = f'
    iexists (fun k => dst.view.read (Elt F) f' (fun | 0 => ⟨k % 3216, Nat.mod_lt _ (by decide)⟩))
    isplitr
    · ipureintro
      intro k hk
      have hr := View.read_slice_write_emb (v := dst.view) (Val := Elt F) (Rect.unit (s := S3216) ![0] S3200.size inb') fd
        ((src.slice (Rect.unit (s := S100000) off S3200.size inb) hs).view.read (Elt F) fs) (M := Finset.univ) (x := fun | 0 => ⟨k, hk⟩) (Finset.mem_univ _)
      refine Eq.trans ?_ (hr.trans ?_)
      · show dst.view.read (Elt F) f' _ = dst.view.read (Elt F) _ _
        rw [← hf']
        congr 1
        funext z
        match z with
        | 0 => exact Fin.ext (by show k % 3216 = 0 + 1 * k; omega)
      · show src.view.read (Elt F) fs _ = _
        rw [hS]
        subst hoff
        congr 1
        show r + 1 * k = r + k; omega
    · unfold OwnI
      iexists f'
      isplitr
      · ipureintro
        intro x
        congr 1
        funext z
        match z with
        | 0 => exact Fin.ext (Nat.mod_eq_of_lt (x 0).isLt).symm
      · iexact Hd
  · iapply (pointsTo_split_subset (Finset.subset_univ (src.slice (Rect.unit (s := S100000) off S3200.size inb) hs).view.set)).2
    isplitl [Hs] <;> iassumption

/-- A loop of no trips. -/
theorem noTrips (l : Scf.Loop 32) (hN : l.trips = 0) (hok : l.OK) (body : Fin l.trips → Unit → Prog (TpuEff nD τ sig (Elt F) Λ (.scVector a b)) Unit) {Q : Unit → sProp 𝕄} :
    Q () ⊢ wp frame (wpE D₀ 𝒱₀ (SparseCore.V d a b) none) Set.univ (Scf.Loop.for l hok () body) Q := by
  refine BIBase.Entails.trans ?_ (Scf.wp_for frame (wpE D₀ 𝒱₀ (SparseCore.V d a b) none) Set.univ l.lb l.ub l.st hok () body (fun _ _ => Q ()) (fun k _ => absurd k.isLt (by
    have : Scf.trips l.lb l.ub l.st = 0 := hN
    omega)))
  iintro H
  isplitl [H]; · iexact H
  iintro %x H; iexact H

/-- A row buffer that a copy is filling with chunk `k`'s rows, if there is such a chunk, else idle. -/
def SlotIn {n : ℕ} (src : Memref sig .scVector .hbm S100000x128 .f32) (buf : Memref sig .scVector .vmem ⟨2, ![n, 128]⟩ .f32) (sem : DmaSem sig)
    (q : PosShare TreeShare) (fs : Buf (Elt F) (src.view.loc (SparseCore.V d a b))) (R : ℕ → ℕ → ℕ → F .f32) (N k : ℕ) : sProp 𝕄 :=
  if k < N then Fly (SparseCore.V d a b) sem buf.view.dmaCredit iprop(Own2 (SparseCore.V d a b) buf (R k) ∗ (src.view.loc (SparseCore.V d a b) ↦[Finset.univ]{q} fs))
  else iprop((src.view.loc (SparseCore.V d a b) ↦[Finset.univ]{q} fs) ∗ (∃ P', Own2 (SparseCore.V d a b) buf P') ∗ semVal ((SparseCore.V d a b : Thread nD τ), SemLoc.dma sem) 0)

end Copies

variable (D₀ : Defs nD τ sig (Elt F) Λ₀) (d : Dev nD) (i : grid0.Coords)
  (arg2 : Memref sig .scVector .hbm S100000x128 .f32) (harg2 : arg2.IsWhole) (arg3 : Memref sig .scVector .hbm S100000 .i32) (harg3 : arg3.IsWhole) (arg4 : Memref sig .scVector .hbm S32x512x128 .f32) (harg4 : arg4.IsWhole) (arg5 : Memref sig .scVector .vmem S3216 .i32) (harg5 : arg5.IsWhole) (arg6 : Memref sig .scVector .vmem S160x128 .f32) (harg6 : arg6.IsWhole) (arg7 : Memref sig .scVector .vmem S160x128 .f32) (harg7 : arg7.IsWhole) (arg8 : Memref sig .scVector .vmem S512x128 .f32) (harg8 : arg8.IsWhole) (arg9 : DmaSems sig S_) (arg10 : DmaSems sig S_) (v45_r0 : DmaSems sig S_) (v45_r1 : DmaSems sig S_)

section
variable {D₀ d i arg2 arg3 arg4 arg5 arg6 arg7 arg8 arg9 arg10 v45_r0 v45_r1}

theorem chunkA_run (t2 : Fin (k0_t2_loop i).trips) (h3 : k0_cond3 i t2 = 1#1) (v57 : BitVec 32) (I : ℕ → BitVec 32) (R P : ℕ → ℕ → F .f32)
    (hI : ∀ k < 160, (I (segBase i + (320 * t2.val) + k)).toNat < 512) {Q : Unit → sProp 𝕄} :
    iprop(OwnI (thr d i) arg5 I ∗ Own2 (thr d i) arg6 R ∗ Own2 (thr d i) arg8 P)
      ⊢ iprop((iprop(OwnI (thr d i) arg5 I ∗ Own2 (thr d i) arg6 R ∗ Own2 (thr d i) arg8 (chunkN (fun j => (I (segBase i + (320 * t2.val) + j)).toNat) R P 10)) -∗ Q ())
        -∗ wp frame (wpE D₀ 𝒱₀ (thr d i) none) Set.univ (Scf.Loop.for k0_t3_loop (k0_t3_ok i t2 h3) () (k0_t3_body i arg2 harg2 arg3 harg3 arg4 harg4 arg5 harg5 arg6 harg6 arg7 harg7 arg8 harg8 arg9 arg10 v45_r0 v45_r1 t2 h3 v57)) Q) :=
  evRun D₀ d _ _ (chunkA_ev D₀ d i arg2 harg2 arg3 harg3 arg4 harg4 arg5 harg5 arg6 harg6 arg7 harg7 arg8 harg8 arg9 arg10 v45_r0 v45_r1 t2 h3 v57 I R P hI)

theorem chunkB_run (t2 : Fin (k0_t2_loop i).trips) (h3 : k0_cond7 i t2 = 1#1) (v57 : BitVec 32) (I : ℕ → BitVec 32) (R P : ℕ → ℕ → F .f32)
    (hI : ∀ k < 160, (I (segBase i + (320 * t2.val + 160) + k)).toNat < 512) {Q : Unit → sProp 𝕄} :
    iprop(OwnI (thr d i) arg5 I ∗ Own2 (thr d i) arg7 R ∗ Own2 (thr d i) arg8 P)
      ⊢ iprop((iprop(OwnI (thr d i) arg5 I ∗ Own2 (thr d i) arg7 R ∗ Own2 (thr d i) arg8 (chunkN (fun j => (I (segBase i + (320 * t2.val + 160) + j)).toNat) R P 10)) -∗ Q ())
        -∗ wp frame (wpE D₀ 𝒱₀ (thr d i) none) Set.univ (Scf.Loop.for k0_t6_loop (k0_t6_ok i t2 h3) () (k0_t6_body i arg2 harg2 arg3 harg3 arg4 harg4 arg5 harg5 arg6 harg6 arg7 harg7 arg8 harg8 arg9 arg10 v45_r0 v45_r1 t2 h3 v57)) Q) :=
  evRun D₀ d _ _ (chunkB_ev D₀ d i arg2 harg2 arg3 harg3 arg4 harg4 arg5 harg5 arg6 harg6 arg7 harg7 arg8 harg8 arg9 arg10 v45_r0 v45_r1 t2 h3 v57 I R P hI)

theorem clear_run (I : ℕ → BitVec 32) (R P : ℕ → ℕ → F .f32) {Q : Unit → sProp 𝕄} :
    iprop(OwnI (thr d i) arg5 I ∗ Own2 (thr d i) arg6 R ∗ Own2 (thr d i) arg8 P)
      ⊢ iprop((iprop(OwnI (thr d i) arg5 I ∗ Own2 (thr d i) arg6 R ∗ Own2 (thr d i) arg8 (zst zeroF P 512 0)) -∗ Q ())
        -∗ wp frame (wpE D₀ 𝒱₀ (thr d i) none) Set.univ (Scf.Loop.for k0_t1_loop k0_t1_ok () (k0_t1_body i arg2 harg2 arg3 harg3 arg4 harg4 arg5 harg5 arg6 harg6 arg7 harg7 arg8 harg8 arg9 arg10 v45_r0 v45_r1)) Q) :=
  evRun D₀ d _ _ (clear_ev D₀ d i arg2 harg2 arg3 harg3 arg4 harg4 arg5 harg5 arg6 harg6 arg7 harg7 arg8 harg8 arg9 arg10 v45_r0 v45_r1 I R P)

end

variable (O : CellTallies nD τ sig (HIx 2)) (W : Waits sig (HIx 2)) (H : ℕ → ℕ → F .f32) (S : ℕ → BitVec 32) (qa qb qs : PosShare TreeShare)
  (fH : Buf (Elt F) (arg2.view.loc (thr d i))) (fS : Buf (Elt F) (arg3.view.loc (thr d i)))

/-- The pool after `k` chunks. -/
abbrev poolAt (k : ℕ) : ℕ → ℕ → F .f32 := poolN zeroF (fun k => (S k).toNat) H (start (wid i)) k

/-- What the tile holds before its `n`-th pair of chunks. -/
def PairInv (I : ℕ → BitVec 32) (n : ℕ) : sProp 𝕄 :=
  iprop(Transfers.MayWaits (thr d i) (none : HIx 2) O ∗ Ow (thr d i) O W ∗ OwnI (F := F) (thr d i) arg5 I ∗ Own2 (thr d i) arg8 (poolAt i H S (min (2 * n) (cnt (wid i))))
    ∗ SlotIn d _ _ arg2 arg6 arg9.sem qa fH (fun k => chunkRows H (start (wid i)) k) (cnt (wid i)) (2 * n)
    ∗ SlotIn d _ _ arg2 arg7 arg10.sem qb fH (fun k => chunkRows H (start (wid i)) k) (cnt (wid i)) (2 * n + 1))

theorem pool_next (I : ℕ → BitVec 32) (hI : ∀ k < 3200, I k = S (idOff i + k)) (k m : ℕ) (hk : k < cnt (wid i)) (hm : m = 160 * k) :
    chunkN (fun j => (I (segBase i + m + j)).toNat) (chunkRows H (start (wid i)) k) (poolAt i H S k) 10 = poolAt i H S (k + 1) := by
  subst hm
  refine chunkN_congr _ _ _ fun j hj => ?_
  have hlt := segBase_lt i k j hk (by omega)
  have he := segBase_idOff i
  dsimp only
  rw [hI _ hlt, show idOff i + (segBase i + 160 * k + j) = 160 * (start (wid i) + k) + j by omega]

theorem ids_small (I : ℕ → BitVec 32) (hI : ∀ k < 3200, I k = S (idOff i + k)) (hlt : ∀ k < 100000, (S k).toNat < 512) (k m : ℕ) (hk : k < cnt (wid i)) (hm : m = 160 * k) :
    ∀ j < 160, (I (segBase i + m + j)).toNat < 512 := by
  subst hm
  intro j hj
  have hb := segBase_lt i k j hk hj
  have := idOff_le i
  rw [hI _ hb]; exact hlt _ (by omega)

set_option maxHeartbeats 8000000 in
/-- The pair's second chunk, if there is one. -/
theorem pair_second (I : ℕ → BitVec 32) (hI : ∀ k < 3200, I k = S (idOff i + k)) (hlt : ∀ k < 100000, (S k).toNat < 512)
    (hH : arg2.view.read (Elt F) fH = buf2 H) (v57 : BitVec 32) (t : Fin (k0_t2_loop i).trips) (ht : t.val < 10) (hc : 19 ≤ cnt (wid i)) (hc' : cnt (wid i) ≤ 20) :
    iprop(Transfers.MayWaits (thr d i) (none : HIx 2) O ∗ Ow (thr d i) O W ∗ OwnI (F := F) (thr d i) arg5 I ∗ Own2 (thr d i) arg8 (poolAt i H S (2 * t.val + 1))
    ∗ SlotIn d _ _ arg2 arg6 arg9.sem qa fH (fun k => chunkRows H (start (wid i)) k) (cnt (wid i)) (2 * t.val + 2)
    ∗ SlotIn d _ _ arg2 arg7 arg10.sem qb fH (fun k => chunkRows H (start (wid i)) k) (cnt (wid i)) (2 * t.val + 1))
      ⊢ wp frame (wpE D₀ 𝒱₀ (thr d i) none) Set.univ (if k0_h7 : k0_cond7 i t = 1#1 then do
            Prog.lift (.waitDma2 arg10.sem (arg2.slice (Rect.unit (s := S100000x128) ![0, 0] S160x128.size inb_S100000x128_S160x128_0_0) (fun _ => rfl)) arg7 (View.wordExact_bits rfl) harg7.wordExact)
            Scf.Loop.for k0_t6_loop (k0_t6_ok i t k0_h7) () (k0_t6_body i arg2 harg2 arg3 harg3 arg4 harg4 arg5 harg5 arg6 harg6 arg7 harg7 arg8 harg8 arg9 arg10 v45_r0 v45_r1 t k0_h7 v57)
            if k0_h10 : k0_cond10 i t = 1#1 then do
              Prog.lift (.enqueueDma (arg2.slice (Rect.unit (s := S100000x128) (k0_off131 i t) S160x128.size (k0_off131_inb i t k0_h7 k0_h10)) (fun _ => rfl)) (.here arg7) (.dma arg10.sem) (View.wordExact_bits rfl) harg7.wordExact ⟨Or.inl rfl, trivial⟩)
              pure ()
            else pure ()
          else pure () : Prog (TpuEff nD τ sig (Elt F) Λ₀ (.scVector ((i 0).castLE hcore0) ((i 1).castLE hsub0))) Unit)
        (fun _ => PairInv d i arg2 arg5 arg6 arg7 arg8 arg9 arg10 O W H S qa qb fH I (t.val + 1)) := by
  unfold PairInv
  by_cases hB : 2 * t.val + 1 < cnt (wid i)
  · rw [show SlotIn d ((i 0).castLE hcore0) ((i 1).castLE hsub0) arg2 arg7 arg10.sem qb fH (fun k => chunkRows H (start (wid i)) k) (cnt (wid i)) (2 * t.val + 1) = _ from if_pos hB,
      show min (2 * (t.val + 1)) (cnt (wid i)) = 2 * t.val + 1 + 1 by omega]
    iintro ⟨#Hm, Ho, HI, HP, HA, HB⟩
    rw [dif_pos ((cond7_iff i t).2 hB), wp_bind]
    iapply (waitFor D₀ d _ _ rfl) $$ [HB Ho]
    · isplitl [HB]; · iexact HB
      isplitl [Ho]; · iexact Ho
      iexact Hm
    iintro ⟨⟨HB, Hs⟩, Hv, Ho⟩
    rw [wp_bind]
    iapply (chunkB_run harg2 harg3 harg4 harg5 harg6 harg7 harg8 t ((cond7_iff i t).2 hB) _ I _ _ (ids_small i S I hI hlt (2 * t.val + 1) _ hB (by omega))) $$ [HI HB HP]
    · isplitl [HI]; · iexact HI
      isplitl [HB]; · iexact HB
      iexact HP
    iintro ⟨HI, HB, HP⟩
    rw [pool_next i H S I hI (2 * t.val + 1) _ hB (by omega)]
    by_cases h10 : 2 * t.val + 3 < cnt (wid i)
    · rw [dif_pos ((cond10_iff i t).2 h10), wp_bind]
      iapply (chunkIn D₀ d _ _ (by decide) (fs := fH) hH (off131_eq i t) (R := chunkRows H (start (wid i)) (2 * t.val + 3)) (fun _ _ => rfl)) $$ [Hs HB Hv]
      · isplitl [Hs]; · iexact Hs
        isplitl [HB]; · iexists _; iexact HB
        iexact Hv
      iintro Hf
      rw [wp_pure]; imodintro
      isplitl []; · iexact Hm
      isplitl [Ho]; · iexact Ho
      isplitl [HI]; · iexact HI
      isplitl [HP]; · iexact HP
      isplitl [HA]; · iexact HA
      unfold SlotIn; rw [if_pos (show 2 * (t.val + 1) + 1 < cnt (wid i) by omega)]; iexact Hf
    · rw [dif_neg (fun h => h10 ((cond10_iff i t).1 h)), wp_pure]
      imodintro
      isplitl []; · iexact Hm
      isplitl [Ho]; · iexact Ho
      isplitl [HI]; · iexact HI
      isplitl [HP]; · iexact HP
      isplitl [HA]; · iexact HA
      unfold SlotIn; rw [if_neg (show ¬ 2 * (t.val + 1) + 1 < cnt (wid i) by omega)]
      isplitl [Hs]; · iexact Hs
      isplitl [HB]; · iexists _; iexact HB
      iexact Hv
  · rw [show min (2 * (t.val + 1)) (cnt (wid i)) = 2 * t.val + 1 by omega,
      show SlotIn d ((i 0).castLE hcore0) ((i 1).castLE hsub0) arg2 arg7 arg10.sem qb fH (fun k => chunkRows H (start (wid i)) k) (cnt (wid i)) (2 * t.val + 1) = _ from if_neg hB,
      show SlotIn d ((i 0).castLE hcore0) ((i 1).castLE hsub0) arg2 arg7 arg10.sem qb fH (fun k => chunkRows H (start (wid i)) k) (cnt (wid i)) (2 * (t.val + 1) + 1) = _ from if_neg (by omega)]
    iintro ⟨#Hm, Ho, HI, HP, HA, HB⟩
    rw [dif_neg (fun h => hB ((cond7_iff i t).1 h)), wp_pure]
    imodintro
    isplitl []; · iexact Hm
    isplitl [Ho]; · iexact Ho
    isplitl [HI]; · iexact HI
    isplitl [HP]; · iexact HP
    isplitl [HA]; · iexact HA
    iexact HB

set_option maxHeartbeats 8000000 in
theorem pair_step (I : ℕ → BitVec 32) (hI : ∀ k < 3200, I k = S (idOff i + k)) (hlt : ∀ k < 100000, (S k).toNat < 512)
    (hH : arg2.view.read (Elt F) fH = buf2 H) (v6 v21 : BitVec 32) (t : Fin (k0_t2_loop i).trips) :
    PairInv d i arg2 arg5 arg6 arg7 arg8 arg9 arg10 O W H S qa qb fH I t.val
      ⊢ wp frame (wpE D₀ 𝒱₀ (thr d i) none) Set.univ (k0_t2_body i arg2 harg2 arg3 harg3 arg4 harg4 arg5 harg5 arg6 harg6 arg7 harg7 arg8 harg8 arg9 arg10 v45_r0 v45_r1 v6 v21 t ())
        (fun _ => PairInv d i arg2 arg5 arg6 arg7 arg8 arg9 arg10 O W H S qa qb fH I (t.val + 1)) := by
  have ht : t.val < 10 := lt_of_lt_of_eq t.isLt (t2_trips i)
  have hc : 19 ≤ cnt (wid i) := by unfold cnt; split <;> omega
  have hc' : cnt (wid i) ≤ 20 := by unfold cnt; split <;> omega
  have hA : 2 * t.val < cnt (wid i) := by omega
  unfold PairInv k0_t2_body
  rw [show min (2 * t.val) (cnt (wid i)) = 2 * t.val by omega, show SlotIn d ((i 0).castLE hcore0) ((i 1).castLE hsub0) arg2 arg6 arg9.sem qa fH (fun k => chunkRows H (start (wid i)) k) (cnt (wid i)) (2 * t.val) = _ from if_pos hA]
  iintro ⟨#Hm, Ho, HI, HP, HA, HB⟩
  dsimp only
  rw [dif_pos (cond3_on i t), wp_bind]
  iapply (waitFor D₀ d _ _ rfl) $$ [HA Ho]
  · isplitl [HA]; · iexact HA
    isplitl [Ho]; · iexact Ho
    iexact Hm
  iintro ⟨⟨HA, Hs⟩, Hv, Ho⟩
  rw [wp_bind]
  iapply (chunkA_run harg2 harg3 harg4 harg5 harg6 harg7 harg8 t (cond3_on i t) _ I _ _ (ids_small i S I hI hlt (2 * t.val) _ hA (by omega))) $$ [HI HA HP]
  · isplitl [HI]; · iexact HI
    isplitl [HA]; · iexact HA
    iexact HP
  iintro ⟨HI, HA, HP⟩
  rw [pool_next i H S I hI (2 * t.val) _ hA (by omega)]
  by_cases h6 : 2 * t.val + 2 < cnt (wid i)
  · rw [dif_pos ((cond6_iff i t).2 h6), wp_bind]
    iapply (chunkIn D₀ d _ _ (by decide) (fs := fH) hH (off71_eq i t) (R := chunkRows H (start (wid i)) (2 * t.val + 2)) (fun _ _ => rfl)) $$ [Hs HA Hv]
    · isplitl [Hs]; · iexact Hs
      isplitl [HA]; · iexists _; iexact HA
      iexact Hv
    iintro Hf
    iapply (pair_second D₀ d i arg2 harg2 arg3 harg3 arg4 harg4 arg5 harg5 arg6 harg6 arg7 harg7 arg8 harg8 arg9 arg10 v45_r0 v45_r1 O W H S qa qb fH I hI hlt hH _ t ht hc hc')
    isplitl []; · iexact Hm
    isplitl [Ho]; · iexact Ho
    isplitl [HI]; · iexact HI
    isplitl [HP]; · iexact HP
    isplitl [Hf]; · unfold SlotIn; rw [if_pos h6]; iexact Hf
    iexact HB
  · rw [dif_neg (fun h => h6 ((cond6_iff i t).1 h))]
    iapply (pair_second D₀ d i arg2 harg2 arg3 harg3 arg4 harg4 arg5 harg5 arg6 harg6 arg7 harg7 arg8 harg8 arg9 arg10 v45_r0 v45_r1 O W H S qa qb fH I hI hlt hH _ t ht hc hc')
    isplitl []; · iexact Hm
    isplitl [Ho]; · iexact Ho
    isplitl [HI]; · iexact HI
    isplitl [HP]; · iexact HP
    isplitl [Hs HA Hv]
    · unfold SlotIn; rw [if_neg h6]
      isplitl [Hs]; · iexact Hs
      isplitl [HA]; · iexists _; iexact HA
      iexact Hv
    iexact HB

/-- The part of the partial sums' array that the tile writes. -/
abbrev segOut : Memref sig .scVector .hbm S512x128 .f32 :=
  (arg4.slice (Rect.unit (s := S32x512x128) (k0_off252 i) S1x512x128.size (k0_off252_inb i)) (fun _ => rfl)).squeeze S512x128 squeezes_S1x512x128_S512x128

set_option maxHeartbeats 8000000 in
/-- The segment sum's tile: its part of the partial sums' array ends holding its pool. -/
theorem seg_tile (hlt : ∀ k < 100000, (S k).toNat < 512)
    (hH : arg2.view.read (Elt F) fH = buf2 H) (hS : ∀ x, arg3.view.read (Elt F) fS x = S (x 0).val) :
    iprop(Transfers.MayWaits (thr d i) (none : HIx 2) O ∗ Ow (thr d i) O W
      ∗ (arg2.view.loc (thr d i) ↦[Finset.univ]{qa} fH) ∗ (arg2.view.loc (thr d i) ↦[Finset.univ]{qb} fH) ∗ (arg3.view.loc (thr d i) ↦[Finset.univ]{qs} fS)
      ∗ (∃ f, (segOut i arg4).view.loc (thr d i) ↦[(segOut i arg4).view.set]{fullShare} f)
      ∗ (∃ f, arg5.view.loc (thr d i) ↦[Finset.univ]{fullShare} f) ∗ (∃ P, Own2 (thr d i) arg6 P) ∗ (∃ P, Own2 (thr d i) arg7 P) ∗ (∃ P, Own2 (thr d i) arg8 P)
      ∗ semVal (thr d i, SemLoc.dma arg9.sem) 0 ∗ semVal (thr d i, SemLoc.dma arg10.sem) 0 ∗ semVal (thr d i, SemLoc.dma v45_r0.sem) 0 ∗ semVal (thr d i, SemLoc.dma v45_r1.sem) 0)
      ⊢ wp frame (wpE D₀ 𝒱₀ (thr d i) none) Set.univ (cc0__segsum i arg2 harg2 arg3 harg3 arg4 harg4 arg5 harg5 arg6 harg6 arg7 harg7 arg8 harg8 arg9 arg10 v45_r0 v45_r1)
        (fun _ => iprop(Ow (thr d i) O W
      ∗ (arg2.view.loc (thr d i) ↦[Finset.univ]{qa} fH) ∗ (arg2.view.loc (thr d i) ↦[Finset.univ]{qb} fH) ∗ (arg3.view.loc (thr d i) ↦[Finset.univ]{qs} fS)
      ∗ (∃ f, ⌜(segOut i arg4).view.read (Elt F) f = buf2 (poolAt i H S (cnt (wid i)))⌝ ∗ ((segOut i arg4).view.loc (thr d i) ↦[(segOut i arg4).view.set]{fullShare} f))
      ∗ (∃ f, arg5.view.loc (thr d i) ↦[Finset.univ]{fullShare} f) ∗ (∃ P, Own2 (thr d i) arg6 P) ∗ (∃ P, Own2 (thr d i) arg7 P) ∗ (∃ P, Own2 (thr d i) arg8 P)
      ∗ semVal (thr d i, SemLoc.dma arg9.sem) 0 ∗ semVal (thr d i, SemLoc.dma arg10.sem) 0 ∗ semVal (thr d i, SemLoc.dma v45_r0.sem) 0 ∗ semVal (thr d i, SemLoc.dma v45_r1.sem) 0)) := by
  have hc : 19 ≤ cnt (wid i) := by unfold cnt; split <;> omega
  have hc' : cnt (wid i) ≤ 20 := by unfold cnt; split <;> omega
  rw [cc0__segsum_eq_skeleton]
  unfold cc0__segsum_skel
  iintro ⟨#Hm, Ho, Ha, Hb, Hs, ⟨%fo, Hout⟩, ⟨%fi, HI⟩, ⟨%PA, HA⟩, ⟨%PB, HB⟩, ⟨%P0, HP⟩, HvA, HvB, Hv0, Hv1⟩
  rw [wp_bind]
  iapply (wp_wand frame (wpE D₀ 𝒱₀ (thr d i) none) Set.univ (Q := fun _ => iprop(Own2 (thr d i) arg8 (poolAt i H S 0)
    ∗ SlotIn d _ _ arg2 arg6 arg9.sem qa fH (fun k => chunkRows H (start (wid i)) k) (cnt (wid i)) 0
    ∗ SlotIn d _ _ arg2 arg7 arg10.sem qb fH (fun k => chunkRows H (start (wid i)) k) (cnt (wid i)) 1
    ∗ Fly (thr d i) v45_r0.sem (arg5.slice (Rect.unit (s := S3216) ![0] S3200.size inb_S3216_S3200_0) (fun _ => rfl)).view.dmaCredit
        iprop((∃ I, ⌜∀ k < 3200, I k = S (idOff i + k)⌝ ∗ OwnI (F := F) (thr d i) arg5 I) ∗ (arg3.view.loc (thr d i) ↦[Finset.univ]{qs} fS))))) $$ [Ha Hb Hs HI HA HB HP HvA HvB Hv0]
  · rw [k0_part97_eq_skeleton]
    unfold k0_part97_skel
    dsimp only
    rw [wp_bind]
    ihave HI := (ownI_any (F := F)) $$ HI
    icases HI with ⟨%I0, HI⟩
    iapply (clear_run harg2 harg3 harg4 harg5 harg6 harg7 harg8 I0 PA P0) $$ [HI HA HP]
    · isplitl [HI]; · iexact HI
      isplitl [HA]; · iexact HA
      iexact HP
    iintro ⟨HI, HA, HP⟩
    rw [dif_pos (cond1_on i), wp_bind]
    iapply (chunkIn D₀ d _ _ (by decide) (fs := fH) hH (off9_eq i) (R := chunkRows H (start (wid i)) 0) (fun _ _ => rfl)) $$ [Ha HA HvA]
    · isplitl [Ha]; · iexact Ha
      isplitl [HA]; · iexists _; iexact HA
      iexact HvA
    iintro HA
    rw [dif_pos (cond2_on i), wp_bind]
    iapply (chunkIn D₀ d _ _ (by decide) (fs := fH) hH (off10_eq i) (R := chunkRows H (start (wid i)) 1) (fun _ _ => rfl)) $$ [Hb HB HvB]
    · isplitl [Hb]; · iexact Hb
      isplitl [HB]; · iexists _; iexact HB
      iexact HvB
    iintro HB
    rw [wp_bind]
    unfold OwnI
    icases HI with ⟨%f5, -, HI⟩
    iapply (idsIn D₀ d _ _ hS (off11_eq i)) $$ [Hs HI Hv0]
    · isplitl [Hs]; · iexact Hs
      isplitl [HI]; · iexact HI
      iexact Hv0
    iintro HI
    rw [wp_pure]; imodintro
    isplitl [HP]
    · iapply (own2_congr ?_) $$ HP
      intro r k hr hk
      show zst zeroF P0 512 0 r k = zeroF
      unfold zst; rw [if_pos (.inl ⟨hr, hk⟩)]
    isplitl [HA]; · unfold SlotIn; rw [if_pos (by omega)]; iexact HA
    isplitl [HB]; · unfold SlotIn; rw [if_pos (by omega)]; iexact HB
    iexact HI
  iintro %x ⟨HP, HA, HB, HI⟩
  rcases x with ⟨v6, v9, v10, v21⟩
  dsimp only
  rw [wp_bind]
  iapply (waitFor D₀ d _ _ rfl) $$ [HI Ho]
  · isplitl [HI]; · iexact HI
    isplitl [Ho]; · iexact Ho
    iexact Hm
  iintro ⟨⟨⟨%I, %hI, HI⟩, Hs⟩, Hv0, Ho⟩
  rw [wp_bind]
  iapply (Scf.wp_for frame (wpE D₀ 𝒱₀ (thr d i) none) Set.univ (k0_t2_loop i).lb (k0_t2_loop i).ub (k0_t2_loop i).st (k0_t2_ok i) () (k0_t2_body i arg2 harg2 arg3 harg3 arg4 harg4 arg5 harg5 arg6 harg6 arg7 harg7 arg8 harg8 arg9 arg10 v45_r0 v45_r1 v6 v21)
    (fun n _ => PairInv d i arg2 arg5 arg6 arg7 arg8 arg9 arg10 O W H S qa qb fH I n)
    (fun t _ => pair_step D₀ d i arg2 harg2 arg3 harg3 arg4 harg4 arg5 harg5 arg6 harg6 arg7 harg7 arg8 harg8 arg9 arg10 v45_r0 v45_r1 O W H S qa qb fH I hI hlt hH v6 v21 t))
  isplitl [Ho HI HP HA HB]
  · unfold PairInv
    rw [show min (2 * 0) (cnt (wid i)) = 0 by omega]
    isplitl []; · iexact Hm
    isplitl [Ho]; · iexact Ho
    isplitl [HI]; · iexact HI
    isplitl [HP]; · iexact HP
    isplitl [HA]; · iexact HA
    iexact HB
  iintro %u Hinv
  rw [show Scf.trips (k0_t2_loop i).lb (k0_t2_loop i).ub (k0_t2_loop i).st = 10 from t2_trips i]
  unfold PairInv
  rw [show min (2 * 10) (cnt (wid i)) = cnt (wid i) by omega]
  unfold SlotIn
  rw [if_neg (show ¬ 2 * 10 < cnt (wid i) by omega), if_neg (show ¬ 2 * 10 + 1 < cnt (wid i) by omega)]
  icases Hinv with ⟨-, Ho, HI, HP, ⟨Ha, HA, HvA⟩, ⟨Hb, HB, HvB⟩⟩
  rw [wp_bind]
  iapply (noTrips D₀ d _ _ (k0_t9_loop i) (t9_trips i) _ _)
  rw [wp_bind]
  iapply (copyOut D₀ d _ _ (by decide)) $$ [HP Hout Hv1]
  · isplitl [HP]; · iexact HP
    isplitl [Hout]; · iexact Hout
    iexact Hv1
  iintro Hf
  rw [wp_bind]
  iapply (waitFor D₀ d _ _ rfl) $$ [Hf Ho]
  · isplitl [Hf]; · iexact Hf
    isplitl [Ho]; · iexact Ho
    iexact Hm
  iintro ⟨⟨HP, Hout⟩, Hv1, Ho⟩
  rw [wp_pure]; imodintro
  isplitl [Ho]; · iexact Ho
  isplitl [Ha]; · iexact Ha
  isplitl [Hb]; · iexact Hb
  isplitl [Hs]; · iexact Hs
  isplitl [Hout]; · iexact Hout
  isplitl [HI]
  · unfold OwnI
    icases HI with ⟨%f, -, HI⟩
    iexists f; iexact HI
  isplitl [HA]; · iexact HA
  isplitl [HB]; · iexact HB
  isplitl [HP]; · iexists _; iexact HP
  isplitl [HvA]; · iexact HvA
  isplitl [HvB]; · iexact HvB
  isplitl [Hv0]; · iexact Hv0
  iexact Hv1

end Cert.Proof.Base

end
-- ==== Proof.BcSpec.lean ====
/-
  The broadcast tile: what it writes, and the steps of its straight runs.
-/
module

public import proofs.«01_k».proof.Proof.Spec
public import proofs.«01_k».proof.Proof.Gen.KernelIdeal

@[expose] public section

noncomputable section

namespace Cert.Proof.Base

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- `O` with the first `n` of a group's blocks of sixteen columns replaced by `T`, the blocks taken column by column. -/
def fastB (T : ℕ → ℕ → F .f32) (g n : ℕ) (O : ℕ → ℕ → F .f32) : ℕ → ℕ → F .f32 := fun r c =>
  if 16 * g ≤ r ∧ r < 16 * g + 16 ∧ c < 128 ∧ 16 * (c / 16) + (r - 16 * g) < n then T r c else O r c

/-- … the blocks taken row by row. -/
def slowB (T : ℕ → ℕ → F .f32) (g n : ℕ) (O : ℕ → ℕ → F .f32) : ℕ → ℕ → F .f32 := fun r c =>
  if 16 * g ≤ r ∧ r < 16 * g + 16 ∧ c < 128 ∧ 8 * (r - 16 * g) + c / 16 < n then T r c else O r c

/-- `O` with the rows of the first `n` groups replaced by `T`. -/
def rowsB (T : ℕ → ℕ → F .f32) (n : ℕ) (O : ℕ → ℕ → F .f32) : ℕ → ℕ → F .f32 := fun r c =>
  if r < 16 * n ∧ c < 128 then T r c else O r c

/-- The segment a row's group reads for it: the group's own when its first and last rows agree, else the row's. -/
def gid (id : ℕ → ℕ) (r : ℕ) : ℕ := if id (16 * (r / 16)) = id (16 * (r / 16) + 15) then id (16 * (r / 16)) else id r

/-- A row of the result: the row of `R` plus the row of `V` of its segment. -/
def sumB (V R : ℕ → ℕ → F .f32) (w : ℕ → ℕ) : ℕ → ℕ → F .f32 := fun r c => FloatOps.addf (R r c) (V (w r) c)

theorem put_fastB (T O : ℕ → ℕ → F .f32) (g n : ℕ) (hn : n < 128) {r c : ℕ} (hr : r = 16 * g + n % 16) (hc : c = 16 * (n / 16))
    {w : S1x16.Idx → F .f32} (hw : ∀ x, w x = T r (c + (x 1).val)) : put (fastB T g n O) r c w = fastB T g (n + 1) O := by
  funext a b
  unfold put
  split
  · rename_i h
    rw [hw]
    simp only [ixL_one, fastB]
    rw [if_pos (by obtain ⟨h1, h2, h3⟩ := h; omega), show c + (b - c) = b by omega, h.1]
  · rename_i h
    simp only [fastB]
    by_cases h1 : 16 * g ≤ a ∧ a < 16 * g + 16 ∧ b < 128 ∧ 16 * (b / 16) + (a - 16 * g) < n
    · rw [if_pos h1, if_pos (by omega)]
    · rw [if_neg h1, if_neg (by omega)]

theorem put_slowB (T O : ℕ → ℕ → F .f32) (g n : ℕ) (hn : n < 128) {r c : ℕ} (hr : r = 16 * g + n / 8) (hc : c = 16 * (n % 8))
    {w : S1x16.Idx → F .f32} (hw : ∀ x, w x = T r (c + (x 1).val)) : put (slowB T g n O) r c w = slowB T g (n + 1) O := by
  funext a b
  unfold put
  split
  · rename_i h
    rw [hw]
    simp only [ixL_one, slowB]
    rw [if_pos (by obtain ⟨h1, h2, h3⟩ := h; omega), show c + (b - c) = b by omega, h.1]
  · rename_i h
    simp only [slowB]
    by_cases h1 : 16 * g ≤ a ∧ a < 16 * g + 16 ∧ b < 128 ∧ 8 * (a - 16 * g) + b / 16 < n
    · rw [if_pos h1, if_pos (by omega)]
    · rw [if_neg h1, if_neg (by omega)]

theorem fastB_zero (T O : ℕ → ℕ → F .f32) (g : ℕ) : fastB T g 0 O = O := by funext r c; simp [fastB]
theorem slowB_zero (T O : ℕ → ℕ → F .f32) (g : ℕ) : slowB T g 0 O = O := by funext r c; simp [slowB]
theorem rowsB_zero (T O : ℕ → ℕ → F .f32) : rowsB T 0 O = O := by funext r c; simp [rowsB]

theorem fastB_rowsB (T T' O : ℕ → ℕ → F .f32) (g : ℕ) (h : ∀ r c, 16 * g ≤ r → r < 16 * g + 16 → T r c = T' r c) :
    fastB T g 128 (rowsB T' g O) = rowsB T' (g + 1) O := by
  funext r c
  simp only [fastB, rowsB]
  by_cases h1 : 16 * g ≤ r ∧ r < 16 * g + 16 ∧ c < 128
  · rw [if_pos (by omega), if_pos (by omega), h r c h1.1 h1.2.1]
  · rw [if_neg (by omega)]
    by_cases h2 : r < 16 * g ∧ c < 128
    · rw [if_pos h2, if_pos (by omega)]
    · rw [if_neg h2, if_neg (by omega)]

theorem slowB_rowsB (T T' O : ℕ → ℕ → F .f32) (g : ℕ) (h : ∀ r c, 16 * g ≤ r → r < 16 * g + 16 → T r c = T' r c) :
    slowB T g 128 (rowsB T' g O) = rowsB T' (g + 1) O := by
  funext r c
  simp only [slowB, rowsB]
  by_cases h1 : 16 * g ≤ r ∧ r < 16 * g + 16 ∧ c < 128
  · rw [if_pos (by omega), if_pos (by omega), h r c h1.1 h1.2.1]
  · rw [if_neg (by omega)]
    by_cases h2 : r < 16 * g ∧ c < 128
    · rw [if_pos h2, if_pos (by omega)]
    · rw [if_neg h2, if_neg (by omega)]

/-- What four buffers of a broadcast tile hold: the segment ids, the table, a chunk's rows, the rows to write. -/
structure BcSt (F : FTy → Type) where
  I : ℕ → BitVec 32
  V : ℕ → ℕ → F .f32
  R : ℕ → ℕ → F .f32
  O : ℕ → ℕ → F .f32

/-- The broadcast tile's thread at grid point `i` of device `d`. -/
abbrev thr2 (d : Dev nD) (i : grid2.Coords) : Thread nD τ := SparseCore.V d ((i 0).castLE hcore2) ((i 1).castLE hsub2)

section
variable (d : Dev nD) (i : grid2.Coords)
  (mI : Memref sig .scVector .vmem S3216 .i32) (mV : Memref sig .scVector .vmem S512x128 .f32) (mR mO : Memref sig .scVector .vmem S80x128 .f32)

/-- The four buffers, holding `s`. -/
def bcRes (s : BcSt F) : sProp (MT nD τ sig (HIx 2) (Elt F) ℕ UU ℕ) :=
  iprop(OwnI (F := F) (thr2 d i) mI s.I ∗ Own2 (thr2 d i) mV s.V ∗ Own2 (thr2 d i) mR s.R ∗ Own2 (thr2 d i) mO s.O)

variable {d i mI mV mR mO}

theorem bcRes_I (s : BcSt F) : bcRes d i mI mV mR mO s ⊢ iprop(OwnI (thr2 d i) mI s.I ∗ (OwnI (thr2 d i) mI s.I -∗ bcRes d i mI mV mR mO s)) := by
  unfold bcRes; iintro ⟨A, B⟩; isplitl [A]; · iexact A
  iintro A; isplitl [A]; · iexact A
  iexact B

theorem bcRes_V (s : BcSt F) : bcRes d i mI mV mR mO s ⊢ iprop(Own2 (thr2 d i) mV s.V ∗ (Own2 (thr2 d i) mV s.V -∗ bcRes d i mI mV mR mO s)) := by
  unfold bcRes; iintro ⟨A, B, C⟩; isplitl [B]; · iexact B
  iintro B; isplitl [A]; · iexact A
  isplitl [B]; · iexact B
  iexact C

theorem bcRes_R (s : BcSt F) : bcRes d i mI mV mR mO s ⊢ iprop(Own2 (thr2 d i) mR s.R ∗ (Own2 (thr2 d i) mR s.R -∗ bcRes d i mI mV mR mO s)) := by
  unfold bcRes; iintro ⟨A, B, C, D⟩; isplitl [C]; · iexact C
  iintro C; isplitl [A]; · iexact A
  isplitl [B]; · iexact B
  isplitl [C]; · iexact C
  iexact D

theorem bcRes_O (s : BcSt F) (O' : ℕ → ℕ → F .f32) : bcRes d i mI mV mR mO s
    ⊢ iprop(Own2 (thr2 d i) mO s.O ∗ (Own2 (thr2 d i) mO O' -∗ bcRes d i mI mV mR mO ⟨s.I, s.V, s.R, O'⟩)) := by
  unfold bcRes; iintro ⟨A, B, C, D⟩; isplitl [D]; · iexact D
  iintro D; isplitl [A]; · iexact A
  isplitl [B]; · iexact B
  isplitl [C]; · iexact C
  iexact D
end

variable (D₀ : Defs nD τ sig (Elt F) Λ₀) (d : Dev nD) (i : grid2.Coords)

/-- `Ev` for the broadcast's tile, at the type of its program. -/
def EvB (mI : Memref sig .scVector .vmem S3216 .i32) (mV : Memref sig .scVector .vmem S512x128 .f32) (mR mO : Memref sig .scVector .vmem S80x128 .f32) {α : Type}
    (p : Prog (TpuEff nD τ sig (Elt F) Λ₀ (.scVector ((i 0).castLE hcore2) ((i 1).castLE hsub2))) α) (s t : BcSt F) (a : α) : Prop :=
  Ev (c := thr2 d i) D₀ (bcRes d i mI mV mR mO) p s t a

section Steps
variable {D₀ d i} {mI : Memref sig .scVector .vmem S3216 .i32} {mV : Memref sig .scVector .vmem S512x128 .f32} {mR mO : Memref sig .scVector .vmem S80x128 .f32}
  {α β : Type}

theorem EvB.pure (a : α) (s : BcSt F) : EvB D₀ d i mI mV mR mO (Pure.pure a : Prog (TpuEff nD τ sig (Elt F) Λ₀ (.scVector ((i 0).castLE hcore2) ((i 1).castLE hsub2))) α) s s a := Ev.pure a s

theorem EvB.bind {p : Prog (TpuEff nD τ sig (Elt F) Λ₀ (.scVector ((i 0).castLE hcore2) ((i 1).castLE hsub2))) α} {k : α → Prog (TpuEff nD τ sig (Elt F) Λ₀ (.scVector ((i 0).castLE hcore2) ((i 1).castLE hsub2))) β} {s t u : BcSt F} {a : α} {b : β} (h : EvB D₀ d i mI mV mR mO p s t a)
    (h' : EvB D₀ d i mI mV mR mO (k a) t u b) : EvB D₀ d i mI mV mR mO (p >>= k) s u b := Ev.bind h h'

theorem EvB.conv {p : Prog (TpuEff nD τ sig (Elt F) Λ₀ (.scVector ((i 0).castLE hcore2) ((i 1).castLE hsub2))) α} {s s' t t' : BcSt F} {a : α} (h : EvB D₀ d i mI mV mR mO p s t a) (hs : s = s') (ht : t = t') :
    EvB D₀ d i mI mV mR mO p s' t' a := by subst hs; subst ht; exact h

theorem EvB.assume {P : Prop} {dd : Decidable P} {k : PLift P → Prog (TpuEff nD τ sig (Elt F) Λ₀ (.scVector ((i 0).castLE hcore2) ((i 1).castLE hsub2))) β} {s u : BcSt F} {b : β} (h : P)
    (h' : EvB D₀ d i mI mV mR mO (k ⟨h⟩) s u b) : EvB D₀ d i mI mV mR mO (Prog.lift (TpuEff.assume P dd) >>= k) s u b :=
  Ev.bind (Ev.assume (c := thr2 d i) h s) h'

theorem EvB.loadI {off : Fin 1 → ℕ} {inb : ∀ a, off a + S16.size a ≤ S3216.size a} {hl} {s u : BcSt F} {k : Vec F S16 .i32 → Prog (TpuEff nD τ sig (Elt F) Λ₀ (.scVector ((i 0).castLE hcore2) ((i 1).castLE hsub2))) β} {b : β}
    {q : ℕ} (hoff : off = ![q]) (h' : EvB D₀ d i mI mV mR mO (k (laneI s.I q)) s u b) :
    EvB D₀ d i mI mV mR mO (Bind.bind (α := Vec F S16 .i32) (Prog.lift (.load mI (Rect.unit (s := S3216) off S16.size inb).toLoadRect hl)) k) s u b :=
  Ev.bind (Ev.loadI (c := thr2 d i) mI (bcRes_I s) _ hoff) h'

theorem EvB.loadV {off : Fin 2 → ℕ} {inb : ∀ a, off a + S1x16.size a ≤ S512x128.size a} {hl} {s u : BcSt F} {k : Vec F S1x16 .f32 → Prog (TpuEff nD τ sig (Elt F) Λ₀ (.scVector ((i 0).castLE hcore2) ((i 1).castLE hsub2))) β} {b : β}
    {r c : ℕ} (hoff : off = ![r, c]) (h' : EvB D₀ d i mI mV mR mO (k (lane s.V r c)) s u b) :
    EvB D₀ d i mI mV mR mO (Bind.bind (α := Vec F S1x16 .f32) (Prog.lift (.load mV (Rect.unit (s := S512x128) off S1x16.size inb).toLoadRect hl)) k) s u b :=
  Ev.bind (Ev.load (c := thr2 d i) mV (bcRes_V s) _ _ hoff) h'

theorem EvB.loadR {off : Fin 2 → ℕ} {inb : ∀ a, off a + S1x16.size a ≤ S80x128.size a} {hl} {s u : BcSt F} {k : Vec F S1x16 .f32 → Prog (TpuEff nD τ sig (Elt F) Λ₀ (.scVector ((i 0).castLE hcore2) ((i 1).castLE hsub2))) β} {b : β}
    {r c : ℕ} (hoff : off = ![r, c]) (h' : EvB D₀ d i mI mV mR mO (k (lane s.R r c)) s u b) :
    EvB D₀ d i mI mV mR mO (Bind.bind (α := Vec F S1x16 .f32) (Prog.lift (.load mR (Rect.unit (s := S80x128) off S1x16.size inb).toLoadRect hl)) k) s u b :=
  Ev.bind (Ev.load (c := thr2 d i) mR (bcRes_R s) _ _ hoff) h'

theorem EvB.loadO {off : Fin 2 → ℕ} {inb : ∀ a, off a + S1x16.size a ≤ S80x128.size a} {hl} {s u : BcSt F} {k : Vec F S1x16 .f32 → Prog (TpuEff nD τ sig (Elt F) Λ₀ (.scVector ((i 0).castLE hcore2) ((i 1).castLE hsub2))) β} {b : β}
    {r c : ℕ} (hoff : off = ![r, c]) (h' : EvB D₀ d i mI mV mR mO (k (lane s.O r c)) s u b) :
    EvB D₀ d i mI mV mR mO (Bind.bind (α := Vec F S1x16 .f32) (Prog.lift (.load mO (Rect.unit (s := S80x128) off S1x16.size inb).toLoadRect hl)) k) s u b :=
  Ev.bind (Ev.load (c := thr2 d i) mO (bcRes_O s s.O) _ _ hoff) h'

/-- The next block of a group, in the order of columns, stored. -/
theorem EvB.fast {I : ℕ → BitVec 32} {V R T O : ℕ → ℕ → F .f32} {g n r c : ℕ} {off : Fin 2 → ℕ} {k : PUnit → Prog (TpuEff nD τ sig (Elt F) Λ₀ (.scVector ((i 0).castLE hcore2) ((i 1).castLE hsub2))) β} {u : BcSt F} {b : β}
    {inb : ∀ a, off a + S1x16.size a ≤ S80x128.size a} {hx hm'} {w : S1x16.Idx → F .f32} (hoff : off = ![r, c])
    (hw : ∀ x, w x = T r (c + (x 1).val)) (hr : r = 16 * g + n % 16) (hc : c = 16 * (n / 16)) (hn : n < 128)
    (h' : EvB D₀ d i mI mV mR mO (k ⟨⟩) ⟨I, V, R, fastB T g (n + 1) O⟩ u b) :
    EvB D₀ d i mI mV mR mO (Prog.lift (.store mO (Rect.unit (s := S80x128) off S1x16.size inb) w Finset.univ hx hm') >>= k)
      ⟨I, V, R, fastB T g n O⟩ u b := by
  refine Ev.bind (Ev.store (c := thr2 d i) mO (P := BcSt.O (F := F) ⟨I, V, R, fastB T g n O⟩) r c ?_ hoff) h'
  rw [show put (BcSt.O (F := F) ⟨I, V, R, fastB T g n O⟩) r c w = _ from put_fastB T O g n hn hr hc hw]
  exact bcRes_O _ _

/-- The next block of a group, in the order of rows, stored. -/
theorem EvB.slow {I : ℕ → BitVec 32} {V R T O : ℕ → ℕ → F .f32} {g n r c : ℕ} {off : Fin 2 → ℕ} {k : PUnit → Prog (TpuEff nD τ sig (Elt F) Λ₀ (.scVector ((i 0).castLE hcore2) ((i 1).castLE hsub2))) β} {u : BcSt F} {b : β}
    {inb : ∀ a, off a + S1x16.size a ≤ S80x128.size a} {hx hm'} {w : S1x16.Idx → F .f32} (hoff : off = ![r, c])
    (hw : ∀ x, w x = T r (c + (x 1).val)) (hr : r = 16 * g + n / 8) (hc : c = 16 * (n % 8)) (hn : n < 128)
    (h' : EvB D₀ d i mI mV mR mO (k ⟨⟩) ⟨I, V, R, slowB T g (n + 1) O⟩ u b) :
    EvB D₀ d i mI mV mR mO (Prog.lift (.store mO (Rect.unit (s := S80x128) off S1x16.size inb) w Finset.univ hx hm') >>= k)
      ⟨I, V, R, slowB T g n O⟩ u b := by
  refine Ev.bind (Ev.store (c := thr2 d i) mO (P := BcSt.O (F := F) ⟨I, V, R, slowB T g n O⟩) r c ?_ hoff) h'
  rw [show put (BcSt.O (F := F) ⟨I, V, R, slowB T g n O⟩) r c w = _ from put_slowB T O g n hn hr hc hw]
  exact bcRes_O _ _

theorem EvB.loop (l : Scf.Loop 32) (hok : l.OK) (body : Fin l.trips → Unit → Prog (TpuEff nD τ sig (Elt F) Λ₀ (.scVector ((i 0).castLE hcore2) ((i 1).castLE hsub2))) Unit) (S : ℕ → BcSt F) {k : Unit → Prog (TpuEff nD τ sig (Elt F) Λ₀ (.scVector ((i 0).castLE hcore2) ((i 1).castLE hsub2))) β} {u : BcSt F} {b : β}
    (h : ∀ q : Fin l.trips, EvB D₀ d i mI mV mR mO (body q ()) (S q.val) (S (q.val + 1)) ())
    (h' : EvB D₀ d i mI mV mR mO (k ()) (S l.trips) u b) : EvB D₀ d i mI mV mR mO (Scf.Loop.for l hok () body >>= k) (S 0) u b :=
  Ev.bind (Ev.loop (c := thr2 d i) l hok body S h) h'
end Steps

end Cert.Proof.Base

end
-- ==== Proof.BcStep.lean ====
/-
  The broadcast tile's loops, and where its ids lie.
-/
module

public import proofs.«01_k».proof.Proof.BcSpec
public import proofs.«01_k».proof.Proof.Seg

@[expose] public section

noncomputable section

namespace Cert.Proof.Base

open Cert.KernelIdeal Cert.KernelIdeal.Gen
open Idealize.ShloMosaic
open Idealize.ShloMosaic.SparseCore.Cfg (HIx)
open Idealize.SL.Sem

variable {F : FTy → Type} [FloatOps F]

theorem u1_lt (i : grid2.Coords) (t : Fin (k2_t1_loop i).trips) : t.val < 20 := lt_of_lt_of_le t.isLt (k2_t1_abs i).2.1

/-- Where the tile's first segment id lies in its list of ids. -/
def bcBase (i : grid2.Coords) : ℕ := 80 * ((2 * (i 1).val + (i 0).val) * 39 + min (2 * (i 1).val + (i 0).val) 2)
  - min (80 * ((2 * (i 1).val + (i 0).val) * 39 + min (2 * (i 1).val + (i 0).val) 2)) 96800

theorem bcBase_le (i : grid2.Coords) : bcBase i ≤ 3200 := by
  have h0 : (i 0).val < 2 := (i 0).isLt
  have h1 : (i 1).val < 16 := (i 1).isLt
  unfold bcBase; omega

section Loops
variable {D₀ : Defs nD τ sig (Elt F) Λ₀} {d : Dev nD} {i : grid2.Coords}
  {mI : Memref sig .scVector .vmem S3216 .i32} {mV : Memref sig .scVector .vmem S512x128 .f32} {mR mO : Memref sig .scVector .vmem S80x128 .f32} {β : Type}

theorem EvB.loopN (l : Scf.Loop 32) (N : ℕ) (hN : l.trips = N) (hok : l.OK) (body : Fin l.trips → Unit → Prog (TpuEff nD τ sig (Elt F) Λ₀ (.scVector ((i 0).castLE hcore2) ((i 1).castLE hsub2))) Unit) (S : ℕ → BcSt F) {k : Unit → Prog (TpuEff nD τ sig (Elt F) Λ₀ (.scVector ((i 0).castLE hcore2) ((i 1).castLE hsub2))) β} {u : BcSt F} {b : β}
    (h : ∀ q : Fin l.trips, EvB D₀ d i mI mV mR mO (body q ()) (S q.val) (S (q.val + 1)) ())
    (h' : EvB D₀ d i mI mV mR mO (k ()) (S N) u b) : EvB D₀ d i mI mV mR mO (Scf.Loop.for l hok () body >>= k) (S 0) u b := by
  subst hN; exact EvB.loop l hok body S h h'

theorem EvB.loop0 (l : Scf.Loop 32) (hN : l.trips = 0) (hok : l.OK) (body : Fin l.trips → Unit → Prog (TpuEff nD τ sig (Elt F) Λ₀ (.scVector ((i 0).castLE hcore2) ((i 1).castLE hsub2))) Unit) {s : BcSt F} {k : Unit → Prog (TpuEff nD τ sig (Elt F) Λ₀ (.scVector ((i 0).castLE hcore2) ((i 1).castLE hsub2))) β} {u : BcSt F} {b : β}
    (h' : EvB D₀ d i mI mV mR mO (k ()) s u b) : EvB D₀ d i mI mV mR mO (Scf.Loop.for l hok () body >>= k) s u b :=
  EvB.loopN l 0 hN hok body (fun _ => s) (fun q => absurd q.isLt (by omega)) h'

/-- A loop of `N` trips. -/
theorem EvB.loopAll (l : Scf.Loop 32) (N : ℕ) (hN : l.trips = N) (hok : l.OK) (body : Fin l.trips → Unit → Prog (TpuEff nD τ sig (Elt F) Λ₀ (.scVector ((i 0).castLE hcore2) ((i 1).castLE hsub2))) Unit) (S : ℕ → BcSt F)
    (h : ∀ q : Fin l.trips, EvB D₀ d i mI mV mR mO (body q ()) (S q.val) (S (q.val + 1)) ()) :
    EvB D₀ d i mI mV mR mO (Scf.Loop.for l hok () body) (S 0) (S N) () := by
  subst hN; exact Ev.loop (c := thr2 d i) l hok body S h

end Loops

/-- Sixteen columns of a row of the result. -/
theorem block_sum (V R : ℕ → ℕ → F .f32) (w : ℕ → ℕ) (r c : ℕ) {v : ℕ} {h1 h2 : S1x16.ShapeCasts S16} {h3 : S16.ShapeCasts S1x16} (hv : w r = v) (x : S1x16.Idx) :
    shapeCast S1x16 (addf (shapeCast S16 (lane R r c) h1) (shapeCast S16 (lane V v c) h2) : FVec F S16 .f32) h3 x = sumB V R w r (c + (x 1).val) := by
  rw [shapeCast16]
  simp only [addf, shapeCast_lane]
  unfold sumB
  rw [hv]; rfl

end Cert.Proof.Base

end
-- ==== Proof.BcRows.lean ====
/-
  Runs of rows of the result's array: a run still to be written, a run holding given rows, and the copy of a chunk of rows
  out to the next run; where the broadcast tile's chunks lie.
-/
module

public import proofs.«01_k».proof.Proof.BcStep
public import proofs.«01_k».proof.Proof.Pool
public import proofs.«01_k».proof.Proof.Dma

@[expose] public section

noncomputable section

namespace Cert.Proof.Base

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

section Rows
variable {d : Dev nD} {a : Fin τ.nSC} {b : Fin τ.nSub}

/-- The elements of rows `lo` to `hi` of an array. -/
def rowSet (o : Memref sig .scVector .hbm S100000x128 .f32) (lo hi : ℕ) : Finset o.view.ty.Idx :=
  (Finset.univ.filter fun x : S100000x128.Idx => lo ≤ (x 0).val ∧ (x 0).val < hi).map o.view.emb

theorem mem_rowSet {o : Memref sig .scVector .hbm S100000x128 .f32} {lo hi : ℕ} {x : S100000x128.Idx} :
    o.view.emb x ∈ rowSet o lo hi ↔ lo ≤ (x 0).val ∧ (x 0).val < hi := by
  unfold rowSet
  rw [Finset.mem_map']
  simp

theorem rowSet_union {o : Memref sig .scVector .hbm S100000x128 .f32} {lo mid hi : ℕ} (h : lo ≤ mid) (h' : mid ≤ hi) :
    rowSet o lo mid ∪ rowSet o mid hi = rowSet o lo hi := by
  ext y
  simp only [rowSet, Finset.mem_union, Finset.mem_map, Finset.mem_filter, Finset.mem_univ, true_and]
  constructor
  · rintro (⟨x, hx, e⟩ | ⟨x, hx, e⟩)
    · exact ⟨x, by omega, e⟩
    · exact ⟨x, by omega, e⟩
  · rintro ⟨x, hx, e⟩
    by_cases h0 : (x 0).val < mid
    · exact .inl ⟨x, by omega, e⟩
    · exact .inr ⟨x, by omega, e⟩

theorem rowSet_disjoint {o : Memref sig .scVector .hbm S100000x128 .f32} {lo mid mid' hi : ℕ} (h : mid ≤ mid') : Disjoint (rowSet o lo mid) (rowSet o mid' hi) := by
  unfold rowSet
  rw [Finset.disjoint_map, Finset.disjoint_left]
  intro x hx hy
  simp only [Finset.mem_filter, Finset.mem_univ, true_and] at hx hy
  omega

variable (d a b) in
/-- Rows `lo` to `hi` held outright, at any contents. -/
def RowsAny (o : Memref sig .scVector .hbm S100000x128 .f32) (lo hi : ℕ) : sProp 𝕄 :=
  iprop(∃ f, o.view.loc (SparseCore.V d a b) ↦[rowSet o lo hi]{fullShare} f)

variable (d a b) in
/-- Rows `lo` to `hi` held outright, holding those of `T`. -/
def RowsAre (o : Memref sig .scVector .hbm S100000x128 .f32) (T : ℕ → ℕ → F .f32) (lo hi : ℕ) : sProp 𝕄 :=
  iprop(∃ f, ⌜∀ x : S100000x128.Idx, lo ≤ (x 0).val → (x 0).val < hi → o.view.read (Elt F) f x = T (x 0).val (x 1).val⌝ ∗ (o.view.loc (SparseCore.V d a b) ↦[rowSet o lo hi]{fullShare} f))

theorem rowsAny_split {o : Memref sig .scVector .hbm S100000x128 .f32} {lo mid hi : ℕ} (h : lo ≤ mid) (h' : mid ≤ hi) :
    (RowsAny d a b o lo hi : sProp 𝕄) ⊢ iprop(RowsAny d a b o lo mid ∗ RowsAny d a b o mid hi) := by
  unfold RowsAny
  rw [← rowSet_union h h']
  iintro ⟨%f, Hf⟩
  ihave Hf := (pointsTo_union (rowSet_disjoint le_rfl)).1 $$ Hf
  icases Hf with ⟨H1, H2⟩
  isplitl [H1]
  · iexists f; iexact H1
  · iexists f; iexact H2

theorem rowsAre_join {o : Memref sig .scVector .hbm S100000x128 .f32} {T : ℕ → ℕ → F .f32} {lo mid hi : ℕ} (h : lo ≤ mid) (h' : mid ≤ hi) :
    iprop(RowsAre d a b o T lo mid ∗ RowsAre d a b o T mid hi) ⊢ RowsAre d a b o T lo hi := by
  unfold RowsAre
  rw [← rowSet_union h h']
  iintro ⟨⟨%f, %hf, Hf⟩, ⟨%g, %hg, Hg⟩⟩
  ihave H := (pointsTo_join (ℓ := o.view.loc (SparseCore.V d a b)) (I := rowSet o lo mid) (J := rowSet o mid hi) (by exact rowSet_disjoint le_rfl)) $$ [Hf Hg]
  · isplitl [Hf]; · iexact Hf
    iexact Hg
  iexists ((rowSet o mid hi).piecewise g f)
  isplitr
  · ipureintro
    intro x h1 h2
    by_cases hx : mid ≤ (x 0).val
    · rw [← hg x hx h2, View.read_apply, View.read_apply, Finset.piecewise_eq_of_mem _ _ _ (mem_rowSet.2 ⟨hx, h2⟩)]
    · rw [← hf x h1 (by omega), View.read_apply, View.read_apply, Finset.piecewise_eq_of_notMem _ _ _ (fun hm => hx (mem_rowSet.1 hm).1)]
  · iexact H

/-- A run of no rows holds anything. -/
theorem rowsAre_nil {o : Memref sig .scVector .hbm S100000x128 .f32} {T : ℕ → ℕ → F .f32} {lo : ℕ} :
    (RowsAny d a b o lo lo : sProp 𝕄) ⊢ RowsAre d a b o T lo lo := by
  unfold RowsAny RowsAre
  iintro ⟨%f, Hf⟩
  iexists f
  isplitr
  · ipureintro
    intro x h1 h2
    omega
  · iexact Hf

theorem set_chunk (o : Memref sig .scVector .hbm S100000x128 .f32) {off : Fin 2 → ℕ} {inb hs} {r : ℕ} (hoff : off = ![r, 0]) :
    (o.slice (Rect.unit (s := S100000x128) off S80x128.size inb) hs).view.set = rowSet o r (r + 80) := by
  subst hoff
  refine (View.set_slice o.view (Rect.unit (s := S100000x128) ![r, 0] S80x128.size inb)).trans ?_
  unfold rowSet
  refine congrArg (Finset.map o.view.emb) (Finset.ext fun (x : S100000x128.Idx) => ?_)
  rw [Rect.mem_set_unit]
  simp only [Finset.mem_filter, Finset.mem_univ, true_and]
  constructor
  · intro h
    exact h 0
  · intro h ax
    match ax with
    | 0 => exact h
    | 1 => exact ⟨Nat.zero_le _, by have := (x 1).isLt; show (x 1).val < 0 + 128; have h2 : (x 1).val < 128 := this; omega⟩

section
variable {Λ : Labels} (D₀ : Defs nD τ sig (Elt F) Λ)
/-- A chunk of rows copied out to the run of rows it belongs to. -/
theorem chunkOut {buf : Memref sig .scVector .vmem S80x128 .f32} {dst : Memref sig .scVector .hbm S100000x128 .f32} {sem : DmaSem sig}
    {off : Fin 2 → ℕ} {inb hs h1 h2 h3} {T P : ℕ → ℕ → F .f32} {r r' : ℕ} (hoff : off = ![r, 0]) (hr' : r' = r + 80) (hT : ∀ x < 80, ∀ c < 128, P x c = T (r + x) c) {Q : PUnit → sProp 𝕄} :
    iprop(Own2 (SparseCore.V d a b) buf P ∗ RowsAny d a b dst r r' ∗ semVal ((SparseCore.V d a b : Thread nD τ), SemLoc.dma sem) 0)
      ⊢ iprop((Fly (SparseCore.V d a b) sem buf.view.dmaCredit iprop((∃ P', Own2 (SparseCore.V d a b) buf P') ∗ RowsAre d a b dst T r r') -∗ Q ⟨⟩)
          -∗ wp frame (wpE D₀ 𝒱₀ (SparseCore.V d a b) none) Set.univ (Prog.lift (.enqueueDma buf (.here (dst.slice (Rect.unit (s := S100000x128) off S80x128.size inb) hs)) (.dma sem) h1 h2 h3) : Prog (TpuEff nD τ sig (Elt F) Λ (.scVector a b)) PUnit) Q) := by
  subst hr'
  unfold RowsAny RowsAre
  rw [← set_chunk dst (inb := inb) (hs := hs) hoff]
  iintro ⟨Hb, ⟨%f, Hf⟩, Hv⟩ Hk
  iapply (copyOut D₀ d a b (show 0 < S80x128.numel by decide) (dst := dst.slice (Rect.unit (s := S100000x128) off S80x128.size inb) hs)) $$ [Hb Hf Hv]
  · isplitl [Hb]; · iexact Hb
    isplitl [Hf]; · iexact Hf
    iexact Hv
  iintro H
  iapply Hk
  iapply (fly_mono ?_) $$ H
  iintro ⟨Hb, ⟨%g, %hg, Hg⟩⟩
  isplitl [Hb]; · iexists _; iexact Hb
  iexists g
  isplitr
  · ipureintro
    intro x h1 h2
    have hx : (x 1).val < 128 := (x 1).isLt
    have := congrFun hg (fun | 0 => ⟨(x 0).val - r, by show _ < 80; omega⟩ | 1 => ⟨(x 1).val, hx⟩)
    refine Eq.trans ?_ (this.trans ?_)
    · show dst.view.read (Elt F) g x = dst.view.read (Elt F) g _
      congr 1
      subst hoff
      funext z
      match z with
      | 0 => exact Fin.ext (by show (x 0).val = r + 1 * ((x 0).val - r); omega)
      | 1 => exact Fin.ext (by show (x 1).val = 0 + 1 * (x 1).val; omega)
    · show P ((x 0).val - r) (x 1).val = _
      rw [hT _ (by omega) _ hx]
      congr 1; omega
  · iexact Hg
end

variable (d a b) in
/-- A buffer whose copy out to rows `lo` to `hi` is in flight, or idle. -/
def SlotOut (o : Memref sig .scVector .hbm S100000x128 .f32) (buf : Memref sig .scVector .vmem S80x128 .f32) (sem : DmaSem sig) (T : ℕ → ℕ → F .f32) (idle : Prop) [Decidable idle] (lo hi : ℕ) : sProp 𝕄 :=
  if idle then iprop((∃ P', Own2 (SparseCore.V d a b) buf P') ∗ semVal ((SparseCore.V d a b : Thread nD τ), SemLoc.dma sem) 0)
  else Fly (SparseCore.V d a b) sem buf.view.dmaCredit iprop((∃ P', Own2 (SparseCore.V d a b) buf P') ∗ RowsAre d a b o T lo hi)

end Rows

/-! ## Where the chunks lie -/

/-- The tile's number. -/
abbrev wid2 (i : grid2.Coords) : ℕ := tileNo (i 0).val (i 1).val

theorem wid2_lt (i : grid2.Coords) : wid2 i < 32 := by
  have h0 : (i 0).val < 2 := (i 0).isLt
  have h1 : (i 1).val < 16 := (i 1).isLt
  unfold wid2 tileNo; omega

/-- The first chunk of tile `w` … -/
def bstart (w : ℕ) : ℕ := w * 39 + min w 2
/-- … and how many it has. -/
def bcnt (w : ℕ) : ℕ := if w < 2 then 40 else 39

theorem bcnt_ge (w : ℕ) : 39 ≤ bcnt w := by unfold bcnt; split <;> omega
theorem bcnt_le (w : ℕ) : bcnt w ≤ 40 := by unfold bcnt; split <;> omega
theorem bstart_succ (w : ℕ) : bstart (w + 1) = bstart w + bcnt w := by unfold bstart bcnt; split <;> omega

/-- Where the tile's prefetched ids start. -/
def bidOff (i : grid2.Coords) : ℕ := min (80 * bstart (wid2 i)) 96800

theorem bidOff_le (i : grid2.Coords) : bidOff i + 3200 ≤ 100000 := by unfold bidOff; omega
theorem bcBase_idOff (i : grid2.Coords) : bcBase i + bidOff i = 80 * bstart (wid2 i) := by
  unfold bcBase bidOff wid2 tileNo bstart; omega
theorem bcBase_lt (i : grid2.Coords) (k j : ℕ) (hk : k < bcnt (wid2 i)) (hj : j < 80) : bcBase i + 80 * k + j < 3200 := by
  have := wid2_lt i
  have e := bcBase_idOff i
  have e2 : bidOff i = min (80 * bstart (wid2 i)) 96800 := rfl
  rw [e2] at e; unfold bstart bcnt at *
  split at hk <;> omega

/-- The tile's first chunk, as the program computes it … -/
abbrev v4E (i : grid2.Coords) : BitVec 32 := Scalar.addi (Scalar.muli (Scalar.addi (Scalar.muli (BitVec.ofNat 32 (i 1).val) 2#32) (BitVec.ofNat 32 (i 0).val)) 39#32)
  (Scalar.minsi (Scalar.addi (Scalar.muli (BitVec.ofNat 32 (i 1).val) 2#32) (BitVec.ofNat 32 (i 0).val)) 2#32)
/-- … and how many chunks it has. -/
abbrev v7E (i : grid2.Coords) : BitVec 32 := Scalar.addi 39#32 (Scalar.select (Scalar.cmpi .slt (Scalar.addi (Scalar.muli (BitVec.ofNat 32 (i 1).val) 2#32) (BitVec.ofNat 32 (i 0).val)) 2#32) 1#32 0#32)

theorem u1_trips : ∀ i : grid2.Coords, (k2_t1_loop i).trips = 20 := by decide +kernel
theorem u8_trips : ∀ i : grid2.Coords, (k2_t8_loop i).trips = 0 := by decide +kernel
theorem bcond1_on : ∀ i : grid2.Coords, k2_cond1 i = 1#1 := by decide +kernel
theorem bcond2_on : ∀ i : grid2.Coords, k2_cond2 i = 1#1 := by decide +kernel
theorem bcond3_on : ∀ (i : grid2.Coords) (t : Fin (k2_t1_loop i).trips), k2_cond3 i t = 1#1 := by decide +kernel
theorem bcond7_iff : ∀ (i : grid2.Coords) (t : Fin (k2_t1_loop i).trips), k2_cond7 i t = 1#1 ↔ 2 * t.val + 2 < bcnt (wid2 i) := by decide +kernel
theorem bcond8_iff : ∀ (i : grid2.Coords) (t : Fin (k2_t1_loop i).trips), k2_cond8 i t = 1#1 ↔ 2 * t.val + 1 < bcnt (wid2 i) := by decide +kernel
theorem bcond12_iff : ∀ (i : grid2.Coords) (t : Fin (k2_t1_loop i).trips), k2_cond12 i t = 1#1 ↔ 2 * t.val + 3 < bcnt (wid2 i) := by decide +kernel
theorem drainA_iff : ∀ (i : grid2.Coords) (t : Fin (k2_t1_loop i).trips), Scalar.cmpi .ne (Scalar.extui (Scalar.cmpi .sge (Scalar.subi (Scalar.addi (Scalar.addi (v4E i) (Scalar.muli (Scf.iv 0#32 1#32 t) 2#32)) 0#32) 2#32) (v4E i)) : BitVec 32) 0#32 = 1#1 ↔ 1 ≤ t.val := by decide +kernel
theorem drainB_iff : ∀ (i : grid2.Coords) (t : Fin (k2_t1_loop i).trips), Scalar.cmpi .ne (Scalar.extui (Scalar.cmpi .sge (Scalar.subi (Scalar.addi (Scalar.addi (v4E i) (Scalar.muli (Scf.iv 0#32 1#32 t) 2#32)) 1#32) 2#32) (v4E i)) : BitVec 32) 0#32 = 1#1 ↔ 1 ≤ t.val := by decide +kernel
theorem endA_on : ∀ i : grid2.Coords, Scalar.cmpi .ne (Scalar.extui (Scalar.cmpi .sgt (v7E i) 0#32) : BitVec 32) 0#32 = 1#1 := by decide +kernel
theorem endB_on : ∀ i : grid2.Coords, Scalar.cmpi .ne (Scalar.extui (Scalar.cmpi .sgt (v7E i) 1#32) : BitVec 32) 0#32 = 1#1 := by decide +kernel
theorem boff1_eq : ∀ i : grid2.Coords, k2_off1 i = ![80 * (bstart (wid2 i) + 0), 0] := by decide +kernel
theorem boff2_eq : ∀ i : grid2.Coords, k2_off2 i = ![80 * (bstart (wid2 i) + 1), 0] := by decide +kernel
theorem boff3_eq : ∀ i : grid2.Coords, k2_off3 i = ![bidOff i] := by decide +kernel
theorem boff57_eq : ∀ (i : grid2.Coords) (t : Fin (k2_t1_loop i).trips), k2_off57 i t = ![80 * (bstart (wid2 i) + 2 * t.val), 0] := by decide +kernel
theorem boff58_eq : ∀ (i : grid2.Coords) (t : Fin (k2_t1_loop i).trips), k2_off58 i t = ![80 * (bstart (wid2 i) + (2 * t.val + 2)), 0] := by decide +kernel
theorem boff112_eq : ∀ (i : grid2.Coords) (t : Fin (k2_t1_loop i).trips), k2_off112 i t = ![80 * (bstart (wid2 i) + (2 * t.val + 1)), 0] := by decide +kernel
theorem boff113_eq : ∀ (i : grid2.Coords) (t : Fin (k2_t1_loop i).trips), k2_off113 i t = ![80 * (bstart (wid2 i) + (2 * t.val + 3)), 0] := by decide +kernel

/-- The segment a row reads, the rows taken in groups of sixteen from row `80 * m`, is the one it reads with the groups taken from the first row. -/
theorem gid_shift (id : ℕ → ℕ) (m r : ℕ) : gid (fun j => id (80 * m + j)) r = gid id (80 * m + r) := by
  unfold gid
  rw [show 16 * ((80 * m + r) / 16) = 80 * m + 16 * (r / 16) by omega, Nat.add_assoc]

theorem gid_congr {id id' : ℕ → ℕ} {r : ℕ} (h : ∀ j < 80, id j = id' j) (hr : r < 80) : gid id r = gid id' r := by
  unfold gid
  rw [h _ (by omega), h _ (by omega), h r hr]

/-- The row of the result: the row of `H` plus the row of `V` its group or itself names. -/
def bOut (H V : ℕ → ℕ → F .f32) (S : ℕ → BitVec 32) : ℕ → ℕ → F .f32 := sumB V H (gid fun k => (S k).toNat)

/-- The rows of chunk `k` of the tile. -/
abbrev bRows (H : ℕ → ℕ → F .f32) (a k : ℕ) : ℕ → ℕ → F .f32 := fun r c => H (80 * (a + k) + r) c

theorem bOut_chunk (i : grid2.Coords) (H V O : ℕ → ℕ → F .f32) (S I : ℕ → BitVec 32) (hI : ∀ k < 3200, I k = S (bidOff i + k)) (k m : ℕ) (hk : k < bcnt (wid2 i)) (hm : m = 80 * k) :
    ∀ x < 80, ∀ c < 128, rowsB (sumB V (bRows H (bstart (wid2 i)) k) (gid fun j => (I (bcBase i + m + j)).toNat)) 5 O x c = bOut H V S (80 * (bstart (wid2 i) + k) + x) c := by
  subst hm
  intro x hx c hc
  unfold rowsB
  rw [if_pos ⟨by omega, hc⟩]
  unfold sumB bOut
  unfold sumB
  rw [← gid_shift, gid_congr (id' := fun j => (S (80 * (bstart (wid2 i) + k) + j)).toNat) (fun j hj => ?_) hx]
  have hlt := bcBase_lt i k j hk hj
  have he := bcBase_idOff i
  rw [hI _ hlt, show bidOff i + (bcBase i + 80 * k + j) = 80 * (bstart (wid2 i) + k) + j by omega]

theorem bids_small (i : grid2.Coords) (S I : ℕ → BitVec 32) (hI : ∀ k < 3200, I k = S (bidOff i + k)) (hlt : ∀ k < 100000, (S k).toNat < 512) (k m : ℕ) (hk : k < bcnt (wid2 i)) (hm : m = 80 * k) :
    ∀ j < 80, (I (bcBase i + m + j)).toNat < 512 := by
  subst hm
  intro j hj
  have hb := bcBase_lt i k j hk hj
  have := bidOff_le i
  rw [hI _ hb]; exact hlt _ (by omega)

end Cert.Proof.Base

end
-- ==== Proof.Vals.lean ====
/-
  What the program's arrays hold between its calls, and what each call hands a tile and takes back.
-/
module

public import proofs.«01_k».proof.Proof.Fc
public import proofs.«01_k».proof.Proof.SegTile
public import proofs.«01_k».proof.Proof.BcRows
public import Idealize.ShloMosaic.Lib.ValueIdxCore

@[expose] public section

noncomputable section

namespace Cert.Proof.Base

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.ShloMosaic.ValueIdx (ix1 eq_ix1 ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

abbrev hLoc (d : Dev nD) : Loc nD τ sig := (SparseCore.T d).loc main_arg0
abbrev xLoc (d : Dev nD) : Loc nD τ sig := (SparseCore.T d).loc main_arg1
abbrev sLoc (d : Dev nD) : Loc nD τ sig := (SparseCore.T d).loc main_arg2
abbrev wLoc (d : Dev nD) : Loc nD τ sig := (SparseCore.T d).loc main_arg3
abbrev bLoc (d : Dev nD) : Loc nD τ sig := (SparseCore.T d).loc main_arg4
abbrev pLoc (d : Dev nD) : Loc nD τ sig := (SparseCore.T d).loc main_v0
abbrev nLoc (d : Dev nD) : Loc nD τ sig := (SparseCore.T d).loc main_v1
abbrev oLoc (d : Dev nD) : Loc nD τ sig := (SparseCore.T d).loc main_v2

abbrev aH : Memref sig .scVector .hbm S100000x128 .f32 := Memref.whole main_arg0_scv
abbrev aS : Memref sig .scVector .hbm S100000 .i32 := Memref.whole main_arg2_scv
abbrev aP : Memref sig .scVector .hbm S32x512x128 .f32 := Memref.whole main_v0_scv
abbrev aV : Memref sig .scVector .hbm S512x128 .f32 := Memref.whole main_v1_scv
abbrev aO : Memref sig .scVector .hbm S100000x128 .f32 := Memref.whole main_v2_scv

/-- A matrix's contents at any two numbers, `0` outside it. -/
def fn2 {n : ℕ} (f : (⟨2, ![n, 128]⟩ : Shape).Idx → F .f32) : ℕ → ℕ → F .f32 := fun r c =>
  if h : r < n ∧ c < 128 then f (ix2 ⟨r, h.1⟩ ⟨c, h.2⟩) else zeroF

theorem buf2_fn2 {n : ℕ} (f : (⟨2, ![n, 128]⟩ : Shape).Idx → F .f32) : buf2 (fn2 f) = f := by
  funext x
  have h0 : (x 0).val < n := (x 0).isLt
  have h1 : (x 1).val < 128 := (x 1).isLt
  unfold buf2 fn2
  rw [dif_pos ⟨h0, h1⟩]
  exact congrArg f (eq_ix2 x).symm

variable (m : (ℓ : Loc nD τ sig) → Buf (Elt F) ℓ)

/-- The rows and the segment ids at the launch, at any numbers. -/
def hF (d : Dev nD) : ℕ → ℕ → F .f32 := fn2 (n := 100000) (m (hLoc d))
def sF (d : Dev nD) : ℕ → BitVec 32 := fun k => if h : k < 100000 then m (sLoc d) (ix1 (⟨k, h⟩ : Fin 100000)) else 0

/-- The partial sums after the first call … -/
def partBuf (d : Dev nD) : Buf (Elt F) (pLoc d) := fun x : S32x512x128.Idx =>
  poolN zeroF (fun k => (sF m d k).toNat) (hF m d) (start (x 0).val) (cnt (x 0).val) (x 1).val (x 2).val
/-- … the node rows after the second … -/
def vnBuf (d : Dev nD) : Buf (Elt F) (nLoc d) := fcOut (partBuf m d) (m (xLoc d)) (m (wLoc d)) (m (bLoc d))
def vF (d : Dev nD) : ℕ → ℕ → F .f32 := fn2 (n := 512) (vnBuf m d)
/-- … and the rows after the third. -/
def outBuf (d : Dev nD) : Buf (Elt F) (oLoc d) := buf2 (n := 100000) (bOut (hF m d) (vF m d) (sF m d))

/-- What the proof asks of the launch memory: every segment id is below 512. -/
def PreOK : Prop := ∀ (d : Dev nD) (x : S100000.Idx), (m (sLoc d) x).toNat < 512

theorem sF_lt {m : (ℓ : Loc nD τ sig) → Buf (Elt F) ℓ} (h : PreOK m) (d : Dev nD) : ∀ k < 100000, (sF m d k).toNat < 512 := by
  intro k hk
  unfold sF
  rw [dif_pos hk]
  exact h d _

theorem sF_read (d : Dev nD) (x : S100000.Idx) : m (sLoc d) x = sF m d (x 0).val := by
  have h : (x 0).val < 100000 := (x 0).isLt
  unfold sF
  rw [dif_pos h]
  exact congrArg (m (sLoc d)) (eq_ix1 x)

def coords0 (c : Fin 2) (i : Fin 16) : grid0.Coords :=
  fun | 0 => c | 1 => i | ⟨_ + 2, h⟩ => absurd h (Nat.not_lt.2 (Nat.le_add_left _ _))
def coords2 (c : Fin 2) (i : Fin 16) : grid2.Coords :=
  fun | 0 => c | 1 => i | ⟨_ + 2, h⟩ => absurd h (Nat.not_lt.2 (Nat.le_add_left _ _))

/-- The shares of the rows and of the ids a tile holds. -/
def qH (c : Fin 2) (i : Fin 16) (a : Fin 2) : PosShare TreeShare :=
  Transfers.dealOf (Transfers.dealOf (Transfers.dealOf fullShare Finset.univ c) Finset.univ i) Finset.univ a
def qS (c : Fin 2) (i : Fin 16) : PosShare TreeShare :=
  Transfers.dealOf (Transfers.dealOf fullShare Finset.univ c) Finset.univ i

abbrev slab (c : Fin 2) (i : Fin 16) : Finset S32x512x128.Idx := (segOut (coords0 c i) aP).view.set
abbrev lo2 (c : Fin 2) (i : Fin 16) : ℕ := 80 * bstart (wid2 (coords2 c i))
abbrev hi2 (c : Fin 2) (i : Fin 16) : ℕ := 80 * (bstart (wid2 (coords2 c i)) + bcnt (wid2 (coords2 c i)))

/-- What the segment sum's tile gets … -/
def go0 (d : Dev nD) (c : Fin 2) (i : Fin 16) : sProp 𝕄 :=
  iprop((hLoc d ↦{qH c i 0} m (hLoc d)) ∗ (hLoc d ↦{qH c i 1} m (hLoc d)) ∗ (sLoc d ↦{qS c i} m (sLoc d)) ∗ ∃ f, pLoc d ↦[slab c i]{fullShare} f)
/-- … and gives back. -/
def td0 (d : Dev nD) (c : Fin 2) (i : Fin 16) : sProp 𝕄 :=
  iprop((hLoc d ↦{qH c i 0} m (hLoc d)) ∗ (hLoc d ↦{qH c i 1} m (hLoc d)) ∗ (sLoc d ↦{qS c i} m (sLoc d))
    ∗ ∃ f, ⌜(segOut (coords0 c i) aP).view.read (Elt F) f = buf2 (poolN zeroF (fun k => (sF m d k).toNat) (hF m d) (start (wid (coords0 c i))) (cnt (wid (coords0 c i))))⌝
      ∗ (pLoc d ↦[slab c i]{fullShare} f))
/-- What the broadcast's tile gets … -/
def go1 (d : Dev nD) (c : Fin 2) (i : Fin 16) : sProp 𝕄 :=
  iprop((hLoc d ↦{qH c i 0} m (hLoc d)) ∗ (hLoc d ↦{qH c i 1} m (hLoc d)) ∗ (sLoc d ↦{qS c i} m (sLoc d)) ∗ (nLoc d ↦{qS c i} vnBuf m d)
    ∗ ∃ f, oLoc d ↦[rowSet aO (lo2 c i) (hi2 c i)]{fullShare} f)
/-- … and gives back. -/
def td1 (d : Dev nD) (c : Fin 2) (i : Fin 16) : sProp 𝕄 :=
  iprop((hLoc d ↦{qH c i 0} m (hLoc d)) ∗ (hLoc d ↦{qH c i 1} m (hLoc d)) ∗ (sLoc d ↦{qS c i} m (sLoc d)) ∗ (nLoc d ↦{qS c i} vnBuf m d)
    ∗ ∃ f, ⌜∀ x : S100000x128.Idx, lo2 c i ≤ (x 0).val → (x 0).val < hi2 c i → f x = bOut (hF m d) (vF m d) (sF m d) (x 0).val (x 1).val⌝
      ∗ (oLoc d ↦[rowSet aO (lo2 c i) (hi2 c i)]{fullShare} f))

instance go0_storable (d : Dev nD) (c : Fin 2) (i : Fin 16) : BI.Storable (upEmb : UEmb _ 𝕄) (go0 m d c i) := by unfold go0; infer_instance
instance td0_storable (d : Dev nD) (c : Fin 2) (i : Fin 16) : BI.Storable (upEmb : UEmb _ 𝕄) (td0 m d c i) := by unfold td0; infer_instance
instance go1_storable (d : Dev nD) (c : Fin 2) (i : Fin 16) : BI.Storable (upEmb : UEmb _ 𝕄) (go1 m d c i) := by unfold go1; infer_instance
instance td1_storable (d : Dev nD) (c : Fin 2) (i : Fin 16) : BI.Storable (upEmb : UEmb _ 𝕄) (td1 m d c i) := by unfold td1; infer_instance

/-- The two calls: a core's part is its tiles' together. -/
def P : (K (F := F)).Pay (nD := nD) (Val := Elt F) (Name := ℕ) (U := UU) where
  st := fun q d c => match q with
    | 0 => bigSep Finset.univ fun i : Fin 16 => go0 m d c i
    | 1 => bigSep Finset.univ fun i : Fin 16 => go1 m d c i
  dn := fun q d c => match q with
    | 0 => bigSep Finset.univ fun i : Fin 16 => td0 m d c i
    | 1 => bigSep Finset.univ fun i : Fin 16 => td1 m d c i
  go := fun q d c i => match q with
    | 0 => go0 m d c i
    | 1 => go1 m d c i
  td := fun q d c i => match q with
    | 0 => td0 m d c i
    | 1 => td1 m d c i
  x := fun _ _ => iprop(emp)

instance P_storable : (P (F := F) m).IsStorable where
  st q d c := match q with
    | 0 => (inferInstance : BI.Storable (upEmb : UEmb _ 𝕄) (bigSep Finset.univ fun i : Fin 16 => go0 m d c i))
    | 1 => (inferInstance : BI.Storable (upEmb : UEmb _ 𝕄) (bigSep Finset.univ fun i : Fin 16 => go1 m d c i))
  dn q d c := match q with
    | 0 => (inferInstance : BI.Storable (upEmb : UEmb _ 𝕄) (bigSep Finset.univ fun i : Fin 16 => td0 m d c i))
    | 1 => (inferInstance : BI.Storable (upEmb : UEmb _ 𝕄) (bigSep Finset.univ fun i : Fin 16 => td1 m d c i))
  go q d c i := match q with
    | 0 => (inferInstance : BI.Storable (upEmb : UEmb _ 𝕄) (go0 m d c i))
    | 1 => (inferInstance : BI.Storable (upEmb : UEmb _ 𝕄) (go1 m d c i))
  td q d c i := match q with
    | 0 => (inferInstance : BI.Storable (upEmb : UEmb _ 𝕄) (td0 m d c i))
    | 1 => (inferInstance : BI.Storable (upEmb : UEmb _ 𝕄) (td1 m d c i))

theorem vecSplit0 : (K (F := F)).VecSplit' (P m) 0 := by
  intro d c
  show (bigSep Finset.univ fun i : Fin 16 => go0 m d c i) ⊢ |={Set.univ}=> iprop((bigSep Finset.univ fun i : Fin 16 => go0 m d c i)
    ∗ ((bigSep Finset.univ fun i : Fin 16 => td0 m d c i) -∗ bigSep Finset.univ fun i : Fin 16 => td0 m d c i))
  iintro H; imodintro
  isplitl [H]; · iexact H
  iintro H; iexact H

theorem vecSplit1 : (K (F := F)).VecSplit' (P m) 1 := by
  intro d c
  show (bigSep Finset.univ fun i : Fin 16 => go1 m d c i) ⊢ |={Set.univ}=> iprop((bigSep Finset.univ fun i : Fin 16 => go1 m d c i)
    ∗ ((bigSep Finset.univ fun i : Fin 16 => td1 m d c i) -∗ bigSep Finset.univ fun i : Fin 16 => td1 m d c i))
  iintro H; imodintro
  isplitl [H]; · iexact H
  iintro H; iexact H

/-- A tile's own semaphores and buffers: those named in `A`, and the rest. -/
theorem ownSems0_split (d : Dev nD) (c : Fin τ.nSC) (i : Fin τ.nSub) (A : Finset (SemLoc sig)) (h : ∀ s ∈ A, s.isScoped .scVector = true) :
    (ownSems0 (V d c i) : sProp 𝕄) = iprop((bigSep A fun s => semVal (V d c i, s) 0)
      ∗ bigSep (ownCells (V d c i) \ A.image fun s => (V d c i, s)) fun g => semVal g 0) := by
  unfold SparseCore.Cfg.ownSems0
  rw [SparseCore.bigSep_sdiff_split' (t := A.image fun s => ((V d c i, s) : GSem nD τ sig)) (fun g hg => by
      obtain ⟨s, hs, rfl⟩ := Finset.mem_image.mp hg
      exact mem_ownCells.mpr ⟨rfl, h s hs⟩),
    SparseCore.bigSep_image_of_injOn (fun a _ b _ e => (Prod.mk.inj e).2)]

theorem ownBufs_split (d : Dev nD) (c : Fin τ.nSC) (i : Fin τ.nSub) (A : Finset (Ref sig .scVector))
    (h : ∀ b ∈ A, ((Proc.scVector c i : Proc τ).devRef b).owner = .proc (.scVector c i)) :
    (ownBufs (V d c i) : sProp 𝕄) = iprop((bigSep A fun b => iprop(∃ f, (V d c i).loc b ↦{fullShare} f))
      ∗ bigSep (ownRefs (τ := τ) (.scVector c i) \ A.image fun b => (Proc.scVector c i : Proc τ).devRef b) fun b => iprop(∃ f, ((d, b) : Loc nD τ sig) ↦{fullShare} f)) := by
  unfold SparseCore.Cfg.ownBufs
  refine (SparseCore.bigSep_sdiff_split' (t := A.image fun b => (Proc.scVector c i : Proc τ).devRef b) (fun g hg => by
      obtain ⟨s, hs, rfl⟩ := Finset.mem_image.mp hg
      exact SparseCore.Cfg.mem_ownRefs_of_owner (h s hs))).trans ?_
  rw [SparseCore.bigSep_image_of_injOn (fun a _ b _ e => Proc.devRef_injective _ e)]

/-- A matrix in a tile's memory, at some contents, holds some matrix; and back. -/
theorem own2_of_ex {c : Thread nD τ} {cs : Space} {n : ℕ} {mr : Memref sig c.2.kind cs ⟨2, ![n, 128]⟩ .f32} :
    iprop(∃ f, mr.view.loc c ↦[Finset.univ]{fullShare} f) ⊢ (iprop(∃ P, Own2 (F := F) c mr P) : sProp 𝕄) := by
  iintro ⟨%f, Hf⟩
  iexists (fn2 (mr.view.read (Elt F) f))
  unfold Own2
  iexists f
  isplitr
  · ipureintro; exact (buf2_fn2 _).symm
  iexact Hf

theorem ex_of_own2 {c : Thread nD τ} {cs : Space} {n : ℕ} {mr : Memref sig c.2.kind cs ⟨2, ![n, 128]⟩ .f32} :
    iprop(∃ P, Own2 (F := F) c mr P) ⊢ (iprop(∃ f, mr.view.loc c ↦[Finset.univ]{fullShare} f) : sProp 𝕄) := by
  unfold Own2
  iintro ⟨%P, %f, -, Hf⟩
  iexists f; iexact Hf

theorem obl_post {thr : Thread nD τ} {A B C : sProp 𝕄} {O : CellTallies nD τ sig (HIx 2)} {W : Waits sig (HIx 2)} {q : Fin 2} :
    iprop(A ∗ B ∗ C ∗ Ow thr O W)
      ⊢ iprop(A ∗ B ∗ C ∗ ∃ W', ⌜∀ p ∈ W', p ∈ W ∨ p.2 = none ∨ p.2 = some q⌝ ∗ owes thr O W') := by
  unfold Ow
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem pts_h (d : Dev nD) (c : Fin τ.nSC) (s : Fin τ.nSub) (q : PosShare TreeShare) :
    (aH.view.loc (V d c s) ↦[Finset.univ]{q} m (hLoc d) : sProp 𝕄) = hLoc d ↦{q} m (hLoc d) := rfl
omit [FloatOps F] in
theorem pts_s (d : Dev nD) (c : Fin τ.nSC) (s : Fin τ.nSub) (q : PosShare TreeShare) :
    (aS.view.loc (V d c s) ↦[Finset.univ]{q} m (sLoc d) : sProp 𝕄) = sLoc d ↦{q} m (sLoc d) := rfl
theorem pts_n (d : Dev nD) (c : Fin τ.nSC) (s : Fin τ.nSub) (q : PosShare TreeShare) :
    (aV.view.loc (V d c s) ↦[Finset.univ]{q} vnBuf m d : sProp 𝕄) = nLoc d ↦{q} vnBuf m d := rfl

end Cert.Proof.Base

end
-- ==== Proof.Deal.lean ====
/-
  The arrays dealt to the tiles and taken back whole.
-/
module

public import proofs.«01_k».proof.Proof.Vals
public import Idealize.ShloMosaic.Lib.ValueLayout

@[expose] public section

noncomputable section

namespace Cert.Proof.Base

open Cert.KernelIdeal Cert.KernelIdeal.Gen
open Idealize.ShloMosaic
open Idealize.ShloMosaic.SparseCore (S V T)
open Idealize.ShloMosaic.SparseCore.Cfg (HIx Pay)
open Idealize.ShloMosaic.ValueIdx (ix1 eq_ix1 ix2 eq_ix2 ix3 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- One resource per tile, over the cores and their tiles. -/
abbrev tiles (Φ : Fin 2 → Fin 16 → sProp 𝕄) : sProp 𝕄 := bigSep Finset.univ fun c : Fin 2 => bigSep Finset.univ fun i : Fin 16 => Φ c i

omit [FloatOps F] in
theorem tiles_sep (Φ Ψ : Fin 2 → Fin 16 → sProp 𝕄) : tiles (fun c i => iprop(Φ c i ∗ Ψ c i)) = iprop(tiles Φ ∗ tiles Ψ) := by
  unfold tiles
  rw [← bigSep_sep']
  exact bigSep_congr fun c _ => bigSep_sep' _ _ _

omit [FloatOps F] in
theorem tiles_mono {Φ Ψ : Fin 2 → Fin 16 → sProp 𝕄} (h : ∀ c i, Φ c i ⊢ Ψ c i) : tiles Φ ⊢ tiles Ψ :=
  bigSep_mono fun c _ => bigSep_mono fun i _ => h c i

omit [FloatOps F] in
theorem tiles_prod (Φ : Fin 2 → Fin 16 → sProp 𝕄) : tiles Φ = bigSep Finset.univ fun p : Fin 2 × Fin 16 => Φ p.1 p.2 :=
  (BI.bigSep_univ_prod fun p : Fin 2 × Fin 16 => Φ p.1 p.2).symm

omit [FloatOps F] in
theorem deal_s {ℓ : Loc nD τ sig} (f : Buf (Elt F) ℓ) : (ℓ ↦{fullShare} f : sProp 𝕄) = tiles fun c i => ℓ ↦{qS c i} f := by
  unfold tiles qS
  rw [Transfers.pointsTo_deal (Finset.univ : Finset (Fin 2)) ⟨0, Finset.mem_univ _⟩ fullShare]
  exact bigSep_congr fun c _ => Transfers.pointsTo_deal (Finset.univ : Finset (Fin 16)) ⟨0, Finset.mem_univ _⟩ _

omit [FloatOps F] in
theorem deal_h {ℓ : Loc nD τ sig} (f : Buf (Elt F) ℓ) :
    (ℓ ↦{fullShare} f : sProp 𝕄) = tiles fun c i => iprop((ℓ ↦{qH c i 0} f) ∗ (ℓ ↦{qH c i 1} f)) := by
  rw [deal_s]
  unfold tiles qS qH
  refine bigSep_congr fun c _ => bigSep_congr fun i _ => ?_
  refine (Transfers.pointsTo_deal (Finset.univ : Finset (Fin 2)) ⟨0, Finset.mem_univ _⟩ _).trans ?_
  exact BI.bigSep_fin_two _

/-! ## The slabs of the partial sums -/

theorem wid_coords (c : Fin 2) (i : Fin 16) : wid (coords0 c i) = 2 * i.val + c.val := rfl
theorem wid2_coords (c : Fin 2) (i : Fin 16) : wid2 (coords2 c i) = 2 * i.val + c.val := rfl

theorem segOut_emb (c : Fin 2) (i : Fin 16) (y : S512x128.Idx) :
    (segOut (coords0 c i) aP).view.emb y = (ix3 (⟨2 * i.val + c.val, by omega⟩ : Fin 32) (y 0 : Fin 512) (y 1 : Fin 128) : S32x512x128.Idx) := by
  have e := off252_eq (coords0 c i)
  rw [wid_coords] at e
  have er : Shape.reshapeEquiv (s := S1x512x128) (s' := S512x128) squeezes_S1x512x128_S512x128.numel_eq.symm y = (ix3 (0 : Fin 1) (y 0 : Fin 512) (y 1 : Fin 128) : S1x512x128.Idx) := by
    conv_lhs => rw [eq_ix2 y]
    exact Idealize.ShloMosaic.ValueIdx.reshapeEquiv_ix2_1ab _ _ _
  have h0 : (segOut (coords0 c i) aP).view.emb y
      = (Rect.unit (s := S32x512x128) (k0_off252 (coords0 c i)) S1x512x128.size (k0_off252_inb (coords0 c i))).emb (Shape.reshapeEquiv (s := S1x512x128) (s' := S512x128) squeezes_S1x512x128_S512x128.numel_eq.symm y) := rfl
  rw [h0, er]
  have k : ∀ a, k0_off252 (coords0 c i) a = (![2 * i.val + c.val, 0, 0] : Fin 3 → ℕ) a := fun a => congrFun e a
  funext a
  refine Fin.ext ?_
  rw [Rect.emb_apply]
  refine (congrArg (· + _) (k a)).trans ?_
  fin_cases a
  · exact rfl
  · show 0 + 1 * (y 0).val = (y 0).val; omega
  · show 0 + 1 * (y 1).val = (y 1).val; omega

theorem mem_slab (c : Fin 2) (i : Fin 16) (x : S32x512x128.Idx) : x ∈ slab c i ↔ (x 0).val = 2 * i.val + c.val := by
  unfold slab View.set
  rw [Finset.mem_map]
  constructor
  · rintro ⟨y, -, e⟩
    rw [← e, segOut_emb]
  · intro h
    refine ⟨ix2 (x 1 : Fin 512) (x 2 : Fin 128), Finset.mem_univ _, ?_⟩
    rw [segOut_emb]
    refine Eq.trans ?_ (eq_ix3 x).symm
    exact congrArg (fun k => ix3 k _ _) (Fin.ext h.symm)

theorem slab_disj : ∀ p ∈ (Finset.univ : Finset (Fin 2 × Fin 16)), ∀ p' ∈ (Finset.univ : Finset (Fin 2 × Fin 16)), p ≠ p' → Disjoint (slab p.1 p.2) (slab p'.1 p'.2) := by
  rintro ⟨c, i⟩ - ⟨c', i'⟩ - hne
  refine Finset.disjoint_left.mpr fun x h h' => hne ?_
  rw [mem_slab] at h h'
  dsimp only at h h'
  exact Prod.ext (Fin.ext (by dsimp only; omega)) (Fin.ext (by dsimp only; omega))

theorem slab_cover : (Finset.univ : Finset (Fin 2 × Fin 16)).biUnion (fun p => slab p.1 p.2) = Finset.univ := by
  ext x
  simp only [Finset.mem_biUnion, Finset.mem_univ, true_and, iff_true]
  have h : (x 0).val < 32 := (x 0).isLt
  refine ⟨(⟨(x 0).val % 2, by omega⟩, ⟨(x 0).val / 2, by omega⟩), ?_⟩
  rw [mem_slab]
  dsimp only
  omega

theorem deal_p (d : Dev nD) (f : Buf (Elt F) (pLoc d)) : (pLoc d ↦{fullShare} f : sProp 𝕄) = tiles fun c i => pLoc d ↦[slab c i]{fullShare} f := by
  rw [tiles_prod, ← pointsTo_biUnion Finset.univ (ℓ := pLoc d) (fun p : Fin 2 × Fin 16 => slab p.1 p.2) slab_disj, slab_cover]

/-! ## The rows of the result -/

theorem mem_row (lo hi : ℕ) (x : S100000x128.Idx) : x ∈ rowSet aO lo hi ↔ lo ≤ (x 0).val ∧ (x 0).val < hi := mem_rowSet (o := aO)

theorem bend_eq (w : ℕ) : bstart w + bcnt w = (w + 1) * 39 + min (w + 1) 2 := (bstart_succ w).symm

theorem row_disj : ∀ p ∈ (Finset.univ : Finset (Fin 2 × Fin 16)), ∀ p' ∈ (Finset.univ : Finset (Fin 2 × Fin 16)), p ≠ p' →
    Disjoint (rowSet aO (lo2 p.1 p.2) (hi2 p.1 p.2)) (rowSet aO (lo2 p'.1 p'.2) (hi2 p'.1 p'.2)) := by
  rintro ⟨c, i⟩ - ⟨c', i'⟩ - hne
  refine Finset.disjoint_left.mpr fun x h h' => hne ?_
  rw [mem_row] at h h'
  simp only [lo2, hi2, wid2_coords, bend_eq] at h h'
  simp only [bstart] at h h'
  obtain ⟨h1, h2⟩ := h
  obtain ⟨h3, h4⟩ := h'
  have e : 2 * i.val + c.val = 2 * i'.val + c'.val := by omega
  exact Prod.ext (Fin.ext (by dsimp only; omega)) (Fin.ext (by dsimp only; omega))

theorem row_cover : (Finset.univ : Finset (Fin 2 × Fin 16)).biUnion (fun p => rowSet aO (lo2 p.1 p.2) (hi2 p.1 p.2)) = Finset.univ := by
  ext x
  simp only [Finset.mem_biUnion, Finset.mem_univ, true_and, iff_true]
  have h : (x 0).val < 100000 := (x 0).isLt
  have key : ∃ w, w < 32 ∧ 80 * bstart w ≤ (x 0).val ∧ (x 0).val < 80 * (bstart w + bcnt w) := by
    by_cases hs : (x 0).val < 6400
    · refine ⟨(x 0).val / 3200, by omega, ?_⟩
      unfold bstart bcnt; split <;> omega
    · refine ⟨((x 0).val / 80 - 2) / 39, by omega, ?_⟩
      unfold bstart bcnt; split <;> omega
  obtain ⟨w, hw, h1, h2⟩ := key
  refine ⟨(⟨w % 2, by omega⟩, ⟨w / 2, by omega⟩), ?_⟩
  rw [mem_row]
  simp only [lo2, hi2, wid2_coords, show 2 * (w / 2) + w % 2 = w by omega]
  exact ⟨h1, h2⟩

theorem deal_o (d : Dev nD) (f : Buf (Elt F) (oLoc d)) :
    (oLoc d ↦{fullShare} f : sProp 𝕄) = tiles fun c i => oLoc d ↦[rowSet aO (lo2 c i) (hi2 c i)]{fullShare} f := by
  rw [tiles_prod, ← pointsTo_biUnion Finset.univ (ℓ := oLoc d) (fun p : Fin 2 × Fin 16 => rowSet aO (lo2 p.1 p.2) (hi2 p.1 p.2)) row_disj, row_cover]

variable (m : (ℓ : Loc nD τ sig) → Buf (Elt F) ℓ)

theorem part_congr (d : Dev nD) (c : Fin 2) (i : Fin 16) (f : Buf (Elt F) (pLoc d))
    (h : (segOut (coords0 c i) aP).view.read (Elt F) f = buf2 (poolN zeroF (fun k => (sF m d k).toNat) (hF m d) (start (wid (coords0 c i))) (cnt (wid (coords0 c i))))) :
    ∀ x ∈ slab c i, f x = partBuf m d x := by
  intro x hx
  have hx0 := (mem_slab c i x).1 hx
  have hx' : (segOut (coords0 c i) aP).view.emb (ix2 (x 1 : Fin 512) (x 2 : Fin 128)) = x := by
    rw [segOut_emb]
    refine Eq.trans ?_ (eq_ix3 x).symm
    exact congrArg (fun k => ix3 k _ _) (Fin.ext hx0.symm)
  have e := congrFun h (ix2 (x 1 : Fin 512) (x 2 : Fin 128))
  have e' : (segOut (coords0 c i) aP).view.read (Elt F) f (ix2 (x 1 : Fin 512) (x 2 : Fin 128)) = f ((segOut (coords0 c i) aP).view.emb (ix2 (x 1 : Fin 512) (x 2 : Fin 128))) := rfl
  rw [e', hx', wid_coords, ← hx0] at e
  exact e

/-- The first call: what it takes, dealt … -/
theorem st0_of (d : Dev nD) (f : Buf (Elt F) (pLoc d)) :
    iprop((hLoc d ↦{fullShare} m (hLoc d)) ∗ (sLoc d ↦{fullShare} m (sLoc d)) ∗ (pLoc d ↦{fullShare} f)) ⊢ (tiles fun c i => go0 m d c i : sProp 𝕄) := by
  rw [deal_h, deal_s (ℓ := sLoc d), deal_p]
  rw [← tiles_sep, ← tiles_sep]
  refine tiles_mono fun c i => ?_
  unfold go0
  iintro ⟨⟨Ha, Hb⟩, Hs, Hp⟩
  isplitl [Ha]; · iexact Ha
  isplitl [Hb]; · iexact Hb
  isplitl [Hs]; · iexact Hs
  iexists f; iexact Hp

/-- … and what it gives, whole. -/
theorem dn0_to (d : Dev nD) :
    (tiles fun c i => td0 m d c i : sProp 𝕄) ⊢ iprop((hLoc d ↦{fullShare} m (hLoc d)) ∗ (sLoc d ↦{fullShare} m (sLoc d)) ∗ (pLoc d ↦{fullShare} partBuf m d)) := by
  rw [deal_h, deal_s (ℓ := sLoc d), deal_p]
  rw [← tiles_sep, ← tiles_sep]
  refine tiles_mono fun c i => ?_
  unfold td0
  iintro ⟨Ha, Hb, Hs, %f, %hf, Hp⟩
  isplitl [Ha Hb]
  · isplitl [Ha]; · iexact Ha
    iexact Hb
  isplitl [Hs]; · iexact Hs
  iapply (Entails.of_eq (pointsTo_congr (part_congr m d c i f hf))); iexact Hp

/-- The last call: what it takes, dealt … -/
theorem st1_of (d : Dev nD) (f : Buf (Elt F) (oLoc d)) :
    iprop((hLoc d ↦{fullShare} m (hLoc d)) ∗ (sLoc d ↦{fullShare} m (sLoc d)) ∗ (nLoc d ↦{fullShare} vnBuf m d) ∗ (oLoc d ↦{fullShare} f))
      ⊢ (tiles fun c i => go1 m d c i : sProp 𝕄) := by
  rw [deal_h, deal_s (ℓ := sLoc d), deal_s (ℓ := nLoc d), deal_o]
  rw [← tiles_sep, ← tiles_sep, ← tiles_sep]
  refine tiles_mono fun c i => ?_
  unfold go1
  iintro ⟨⟨Ha, Hb⟩, Hs, Hn, Ho⟩
  isplitl [Ha]; · iexact Ha
  isplitl [Hb]; · iexact Hb
  isplitl [Hs]; · iexact Hs
  isplitl [Hn]; · iexact Hn
  iexists f; iexact Ho

/-- … and what it gives, whole. -/
theorem dn1_to (d : Dev nD) :
    (tiles fun c i => td1 m d c i : sProp 𝕄)
      ⊢ iprop((hLoc d ↦{fullShare} m (hLoc d)) ∗ (sLoc d ↦{fullShare} m (sLoc d)) ∗ (nLoc d ↦{fullShare} vnBuf m d) ∗ (oLoc d ↦{fullShare} outBuf m d)) := by
  rw [deal_h, deal_s (ℓ := sLoc d), deal_s (ℓ := nLoc d), deal_o]
  rw [← tiles_sep, ← tiles_sep, ← tiles_sep]
  refine tiles_mono fun c i => ?_
  unfold td1
  iintro ⟨Ha, Hb, Hs, Hn, %f, %hf, Ho⟩
  isplitl [Ha Hb]
  · isplitl [Ha]; · iexact Ha
    iexact Hb
  isplitl [Hs]; · iexact Hs
  isplitl [Hn]; · iexact Hn
  iapply (Entails.of_eq (pointsTo_congr (g := outBuf m d) fun x hx => hf x ((mem_row _ _ x).1 hx).1 ((mem_row _ _ x).1 hx).2)); iexact Ho

end Cert.Proof.Base

end
-- ==== Proof.Reg.lean ====
/-
  The region between the two SparseCore calls, as the TensorCore meets it.
-/
module

public import proofs.«01_k».proof.Proof.Deal

@[expose] public section

noncomputable section

namespace Cert.Proof.Base

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellsGhost toksInit)

variable {F : FTy → Type} [FloatOps F]

local notation "𝕄" => MT nD τ sig (HIx 2) (Elt F) ℕ UU ℕ

variable (m : (ℓ : Loc nD τ sig) → Buf (Elt F) ℓ) (ρ : Dev nD → PrngReg)

/-- The region reads no table. -/
abbrev fcAdm : (p : Fin 1) → (pcfgs (F := F) p).Adm := fun p => (cfgs p).toPCfg_adm

/-- What the region between the calls owes to its launch, on one device. -/
def G (d : Dev nD) : sProp 𝕄 :=
  iprop(cellsGhost (Pipeline.pin (pcfgs (F := F)) fcAdm) EP 0 d ∗ toksInit (Pipeline.pin (pcfgs (F := F)) fcAdm) EP 0 d)

omit [FloatOps F] in
theorem unscopedBufs_eq (d : Dev nD) (W : (b : Ref sig .tc) → Buf (Elt F) ((d.tc : Thread nD τ).loc b)) :
    (unscopedBufs d W : sProp 𝕄) = iprop((hLoc d ↦{fullShare} W main_arg0) ∗ (xLoc d ↦{fullShare} W main_arg1) ∗ (sLoc d ↦{fullShare} W main_arg2)
      ∗ (wLoc d ↦{fullShare} W main_arg3) ∗ (bLoc d ↦{fullShare} W main_arg4)
      ∗ (pLoc d ↦{fullShare} W main_v0) ∗ (nLoc d ↦{fullShare} W main_v1) ∗ (oLoc d ↦{fullShare} W main_v2)) := by
  unfold unscopedBufs
  rw [show (Finset.univ.filter fun b : Ref sig .tc => ¬ b.isScoped) = {main_arg0, main_arg1, main_arg2, main_arg3, main_arg4, main_v0, main_v1, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays before the region and after it. -/
def W0 (c : Dev nD) : (b : Ref sig .tc) → Buf (Elt F) ((c.tc : Thread nD τ).loc b) :=
  Function.update (fun b => m ((c.tc : Thread nD τ).loc b)) main_v0 (partBuf m c)
def W1 (c : Dev nD) : (b : Ref sig .tc) → Buf (Elt F) ((c.tc : Thread nD τ).loc b) :=
  Function.update (W0 m c) main_v1 (vnBuf m c)

theorem W1_out (c : Dev nD) : W1 m c main_v1 = (fcDat (W0 m) c).arrAt 4 cfg1.N := by
  rw [fc_result]
  unfold W1 W0 vnBuf
  rw [Function.update_self, Function.update_self, Function.update_of_ne (show main_arg1 ≠ main_v0 by decide),
    Function.update_of_ne (show main_arg3 ≠ main_v0 by decide), Function.update_of_ne (show main_arg4 ≠ main_v0 by decide)]

theorem W1_ne (c : Dev nD) (b : Ref sig .tc) (h : b ≠ main_v1) : W1 m c b = W0 m c b := by
  unfold W1
  rw [Function.update_of_ne h]

/-- The arrays at the region's entry. -/
abbrev arrs0 (d : Dev nD) (fn : Buf (Elt F) (nLoc d)) : sProp 𝕄 :=
  iprop((hLoc d ↦{fullShare} m (hLoc d)) ∗ (xLoc d ↦{fullShare} m (xLoc d)) ∗ (sLoc d ↦{fullShare} m (sLoc d))
      ∗ (wLoc d ↦{fullShare} m (wLoc d)) ∗ (bLoc d ↦{fullShare} m (bLoc d))
      ∗ (pLoc d ↦{fullShare} partBuf m d) ∗ (nLoc d ↦{fullShare} fn) ∗ (oLoc d ↦{fullShare} m (oLoc d)))

theorem bufs_W0 (d : Dev nD) : (unscopedBufs d (W0 m d) : sProp 𝕄) = arrs0 m d (m (nLoc d)) := by
  rw [unscopedBufs_eq]
  unfold W0
  rw [Function.update_self, Function.update_of_ne (show main_arg0 ≠ main_v0 by decide), Function.update_of_ne (show main_arg1 ≠ main_v0 by decide),
    Function.update_of_ne (show main_arg2 ≠ main_v0 by decide), Function.update_of_ne (show main_arg3 ≠ main_v0 by decide),
    Function.update_of_ne (show main_arg4 ≠ main_v0 by decide), Function.update_of_ne (show main_v1 ≠ main_v0 by decide),
    Function.update_of_ne (show main_v2 ≠ main_v0 by decide)]

theorem bufs_W1 (d : Dev nD) : (unscopedBufs d (W1 m d) : sProp 𝕄) = arrs0 m d (vnBuf m d) := by
  rw [unscopedBufs_eq, W1_ne m d main_arg0 (by decide), W1_ne m d main_arg1 (by decide), W1_ne m d main_arg2 (by decide), W1_ne m d main_arg3 (by decide),
    W1_ne m d main_arg4 (by decide), W1_ne m d main_v0 (by decide), W1_ne m d main_v2 (by decide)]
  unfold W1 W0
  rw [Function.update_self, Function.update_self, Function.update_of_ne (show main_arg0 ≠ main_v0 by decide), Function.update_of_ne (show main_arg1 ≠ main_v0 by decide),
    Function.update_of_ne (show main_arg2 ≠ main_v0 by decide), Function.update_of_ne (show main_arg3 ≠ main_v0 by decide),
    Function.update_of_ne (show main_arg4 ≠ main_v0 by decide), Function.update_of_ne (show main_v2 ≠ main_v0 by decide)]

end Cert.Proof.Base

end
-- ==== Proof.Region.lean ====
/-
  The region between the two SparseCore calls, as the TensorCore meets it.
-/
module

public import proofs.«01_k».proof.Proof.Reg

@[expose] public section

noncomputable section

namespace Cert.Proof.Base

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellsGhost toksInit)

variable {F : FTy → Type} [FloatOps F]

local notation "𝕄" => MT nD τ sig (HIx 2) (Elt F) ℕ UU ℕ

variable (m : (ℓ : Loc nD τ sig) → Buf (Elt F) ℓ) (ρ : Dev nD → PrngReg)

set_option backward.isDefEq.respectTransparency.types false in
set_option maxHeartbeats 400000 in
theorem region_wp [∀ e, Nonempty (Elt F e)] (d : Dev nD) (Q : PUnit → sProp 𝕄) :
    iprop((iprop(boundary (SparseCore.T d) ∗ (fcReg (W0 m) fcAdm (W1 m) (W1_out m) (W1_ne m)).post d)
          -∗ wp frame (wpE (D (F := F)) 𝒱 (SparseCore.T d) none) Set.univ (.ret ⟨⟩) Q)
        ∗ boundary (SparseCore.T d) ∗ (fcReg (W0 m) fcAdm (W1 m) (W1_out m) (W1_ne m)).pre d ∗ levAts (K (F := F)).L (K (F := F)).lev ∗ G d)
      ⊢ wp frame (wpE (D (F := F)) 𝒱 (SparseCore.T d) none) Set.univ (.op (.customCall (Pipeline.entry 0) ()) .ret) Q :=
  by
  have h := Pipeline.RegionSeg.wp (pcfgs (F := F)) fcAdm (fcDats (W0 m) fcAdm) none cellOf_inj (EP (F := F)) (defs₀ (F := F)) 𝒱₀ (K (F := F)).L (K (F := F)).lev (fcReg (W0 m) fcAdm (W1 m) (W1_out m) (W1_ne m)) d none (fun _ h => nomatch h) (fun _ => .ret ⟨⟩) Q
  exact h

set_option maxHeartbeats 400000 in
theorem region_lift (d : Dev nD) (Q : PUnit → sProp 𝕄) :
   wp frame (wpE (D (F := F)) 𝒱 (SparseCore.T d) none) Set.univ (.op (.customCall (Pipeline.entry 0) ()) .ret) Q
      ⊢ wp frame (wpE ((K (F := F)).defs (D (F := F))) 𝒱 (SparseCore.T d) none) Set.univ
          (Prog.lift (.customCall (SparseCore.inner (Pipeline.entry 0)) ())) Q :=
  ((K (F := F)).wp_liftProg (D (F := F)) 𝒱 (SparseCore.T d) Set.univ none (.op (.customCall (Pipeline.entry 0) ()) .ret) Q)

set_option maxHeartbeats 400000 in
theorem reg_pre (d : Dev nD) : (fcReg (W0 m) fcAdm (W1 m) (W1_out m) (W1_ne m)).pre d
      = iprop(unscopedBufs d (W0 m d) ∗ ∃ V, ⌜(K (F := F)).WBelow (SparseCore.T d) V 8⌝ ∗ owes (SparseCore.T d) ((K (F := F)).Otc d 1) V) := rfl
set_option maxHeartbeats 400000 in
theorem reg_post (d : Dev nD) : (fcReg (W0 m) fcAdm (W1 m) (W1_out m) (W1_ne m)).post d
      = iprop(unscopedBufs d (W1 m d) ∗ ∃ V, ⌜(K (F := F)).WBelow (SparseCore.T d) V 8⌝ ∗ owes (SparseCore.T d) ((K (F := F)).Otc d 1) V) := rfl
set_option maxHeartbeats 400000 in
theorem reg_st (d : Dev nD) : ∃ R : sProp 𝕄, ((K (F := F)).tcSt EH d 1 : sProp 𝕄)
      = iprop((∃ V, ⌜(K (F := F)).WBelow (SparseCore.T d) V 8⌝ ∗ owes (SparseCore.T d) ((K (F := F)).Otc d 1) V) ∗ R) := ⟨_, rfl⟩

set_option maxHeartbeats 1000000 in
/-- The region, from the core's state after the first call to the same state, the node rows written. -/
theorem region [∀ e, Nonempty (Elt F e)] (d : Dev nD) (κ : GSem nD τ sig → ℕ) (Q : PUnit → sProp 𝕄) :
    iprop((K (F := F)).ctx EH (P m) κ ∗ (K (F := F)).tcSt EH d 1 ∗ boundary (SparseCore.T d) ∗ arrs0 m d (m (nLoc d)) ∗ G d
        ∗ (iprop((K (F := F)).tcSt EH d 1 ∗ boundary (SparseCore.T d) ∗ arrs0 m d (vnBuf m d)) -∗ Q ⟨⟩))
      ⊢ wp frame (wpE ((K (F := F)).defs (D (F := F))) 𝒱 (SparseCore.T d) none) Set.univ
          (Prog.lift (.customCall (SparseCore.inner (Pipeline.entry 0)) ())) Q := by
  refine BI.Entails.trans ?_ ((region_wp m d Q).trans (region_lift d Q))
  obtain ⟨R, hR⟩ := reg_st (F := F) d
  rw [reg_pre, reg_post, bufs_W0, bufs_W1, wp_ret, hR]
  show (_ : sProp 𝕄) ⊢ _
  iintro ⟨#Hctx, ⟨HO, Hrest⟩, Hb, Harr, HG, HQ⟩
  isplitl [Hrest HQ]
  · iintro ⟨Hb, Harr, HO⟩
    imodintro
    iapply HQ
    isplitl [HO Hrest]
    · isplitl [HO]; · iexact HO
      iexact Hrest
    isplitl [Hb]; · iexact Hb
    iexact Harr
  isplitl [Hb]; · iexact Hb
  isplitl [Harr HO]
  · isplitl [Harr]; · iexact Harr
    iexact HO
  isplitr; · iapply (SparseCore.Cfg.ctx_levAts κ); iexact Hctx
  iexact HG

end Cert.Proof.Base

end
-- ==== Proof.Tile0.lean ====
/-
  The segment sum's tiles, as the launch asks of them.
-/
module

public import proofs.«01_k».proof.Proof.Vals

@[expose] public section

noncomputable section

namespace Cert.Proof.Base

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)

/-- The semaphores and the buffers of a tile of the first call. -/
def sems0 : Finset (SemLoc sig) := {SemLoc.dma cc0_scratch4.sem, SemLoc.dma cc0_scratch5.sem, SemLoc.dma cc0_scoped0.sem, SemLoc.dma cc0_scoped1.sem}
def bufs0 : Finset (Ref sig .scVector) := {cc0_scratch0, cc0_scratch1, cc0_scratch2, cc0_scratch3}

theorem sems0_scoped : ∀ s ∈ sems0, s.isScoped .scVector = true := by
  intro s hs
  simp only [sems0, Finset.mem_insert, Finset.mem_singleton] at hs
  rcases hs with rfl | rfl | rfl | rfl
  · show (SemLoc.dma cc0_scratch4.sem : SemLoc sig).isScoped .scVector = true; decide
  · show (SemLoc.dma cc0_scratch5.sem : SemLoc sig).isScoped .scVector = true; decide
  · show (SemLoc.dma cc0_scoped0.sem : SemLoc sig).isScoped .scVector = true; decide
  · show (SemLoc.dma cc0_scoped1.sem : SemLoc sig).isScoped .scVector = true; decide

theorem bufs0_owner (c : Fin τ.nSC) (i : Fin τ.nSub) : ∀ b ∈ bufs0, ((Proc.scVector c i : Proc τ).devRef b).owner = .proc (.scVector c i) := by
  intro b hb
  simp only [bufs0, Finset.mem_insert, Finset.mem_singleton] at hb
  rcases hb with rfl | rfl | rfl | rfl <;> rfl

theorem sems0_sep (Φ : SemLoc sig → sProp 𝕄) : bigSep sems0 Φ
    = iprop(Φ (SemLoc.dma cc0_scratch4.sem) ∗ Φ (SemLoc.dma cc0_scratch5.sem) ∗ Φ (SemLoc.dma cc0_scoped0.sem) ∗ Φ (SemLoc.dma cc0_scoped1.sem)) := by
  unfold sems0
  rw [SparseCore.bigSep_insert' (by decide), SparseCore.bigSep_insert' (by decide), SparseCore.bigSep_insert' (by decide), bigSep_singleton]

theorem bufs0_sep (Φ : Ref sig .scVector → sProp 𝕄) : bigSep bufs0 Φ
    = iprop(Φ cc0_scratch0 ∗ Φ cc0_scratch1 ∗ Φ cc0_scratch2 ∗ Φ cc0_scratch3) := by
  unfold bufs0
  rw [SparseCore.bigSep_insert' (by decide), SparseCore.bigSep_insert' (by decide), SparseCore.bigSep_insert' (by decide), bigSep_singleton]

set_option maxHeartbeats 4000000 in
/-- A tile of the segment sum, from its part to its part. -/
theorem tile_body0 (hK : (K (F := F)).Facts) (hpre : PreOK m) (d : Dev nD) (c : Fin 2) (i : Fin 16) (O : CellTallies nD τ sig (HIx 2)) (W : Waits sig (HIx 2)) (hO : ∀ g, O g none = 0) :
    iprop(levAts (K (F := F)).L (K (F := F)).lev ∗ emp ∗ go0 m d c i ∗ scopedBufs (thr d (coords0 c i)) ∗ scopedSems0 (thr d (coords0 c i)) ∗ owes (thr d (coords0 c i)) O W)
      ⊢ wp frame (wpE (defs₀ (F := F)) 𝒱₀ (thr d (coords0 c i)) none) Set.univ
          (cc0__segsum (coords0 c i) (Memref.whole main_arg0_scv) (Memref.isWhole_whole _) (Memref.whole main_arg2_scv) (Memref.isWhole_whole _) (Memref.whole main_v0_scv) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            cc0_scratch4 cc0_scratch5 cc0_scoped0 cc0_scoped1)
          fun _ => iprop(td0 m d c i ∗ scopedBufs (thr d (coords0 c i)) ∗ scopedSems0 (thr d (coords0 c i)) ∗ Ow (thr d (coords0 c i)) O W) := by
  rw [(K (F := F)).scopedBufs_V hK d _ _, SparseCore.Cfg.scopedSems0_V (Val := Elt F) d _ _, ownSems0_split d _ _ sems0 sems0_scoped, ownBufs_split d _ _ bufs0 (bufs0_owner _ _), sems0_sep, bufs0_sep]
  unfold go0 td0
  have H := seg_tile (F := F) (defs₀ (F := F)) d (coords0 c i) (Memref.whole main_arg0_scv) (Memref.isWhole_whole _) (Memref.whole main_arg2_scv) (Memref.isWhole_whole _) (Memref.whole main_v0_scv) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    cc0_scratch4 cc0_scratch5 cc0_scoped0 cc0_scoped1 O W (hF m d) (sF m d) (qH c i 0) (qH c i 1) (qS c i) (m (hLoc d)) (m (sLoc d)) (sF_lt hpre d) (buf2_fn2 (n := 100000) (m (hLoc d))).symm (sF_read m d)
  iintro ⟨#Hlv, -, ⟨Ha, Hb, Hs, Ho⟩, ⟨⟨H0, H1, H2, H3⟩, Hbufs⟩, ⟨⟨HvA, HvB, Hv0, Hv1⟩, Hsems⟩, HO⟩
  ihave H1 := (own2_of_ex (F := F) (c := thr d (coords0 c i)) (n := 160) (mr := (Memref.whole cc0_scratch1 : Memref sig .scVector .vmem S160x128 .f32))) $$ H1
  ihave H2 := (own2_of_ex (F := F) (c := thr d (coords0 c i)) (n := 160) (mr := (Memref.whole cc0_scratch2 : Memref sig .scVector .vmem S160x128 .f32))) $$ H2
  ihave H3 := (own2_of_ex (F := F) (c := thr d (coords0 c i)) (n := 512) (mr := (Memref.whole cc0_scratch3 : Memref sig .scVector .vmem S512x128 .f32))) $$ H3
  iapply (wp_wand frame (wpE (defs₀ (F := F)) 𝒱₀ (thr d (coords0 c i)) none) Set.univ) $$ [Ha Hb Hs Ho H0 H1 H2 H3 HvA HvB Hv0 Hv1 HO]
  · iapply H
    isplitl []; · iapply ((K (F := F)).mayWaits_none (thr := thr d (coords0 c i)) hO); iexact Hlv
    isplitl [HO]
    · unfold Ow
      iexists W
      isplitr; · ipureintro; exact fun p hp => .inl hp
      iexact HO
    isplitl [Ha]; · iapply (Entails.of_eq (pts_h m d _ _ _).symm); iexact Ha
    isplitl [Hb]; · iapply (Entails.of_eq (pts_h m d _ _ _).symm); iexact Hb
    isplitl [Hs]; · iapply (Entails.of_eq (pts_s m d _ _ _).symm); iexact Hs
    isplitl [Ho]; · iexact Ho
    isplitl [H0]; · iexact H0
    isplitl [H1]; · iexact H1
    isplitl [H2]; · iexact H2
    isplitl [H3]; · iexact H3
    isplitl [HvA]; · iexact HvA
    isplitl [HvB]; · iexact HvB
    isplitl [Hv0]; · iexact Hv0
    iexact Hv1
  iintro %u ⟨HO, Ha, Hb, Hs, Ho, H0, H1, H2, H3, HvA, HvB, Hv0, Hv1⟩
  isplitl [Ha Hb Hs Ho]
  · isplitl [Ha]; · iapply (Entails.of_eq (pts_h m d ((coords0 c i 0).castLE hcore0) ((coords0 c i 1).castLE hsub0) _)); iexact Ha
    isplitl [Hb]; · iapply (Entails.of_eq (pts_h m d ((coords0 c i 0).castLE hcore0) ((coords0 c i 1).castLE hsub0) _)); iexact Hb
    isplitl [Hs]; · iapply (Entails.of_eq (pts_s m d ((coords0 c i 0).castLE hcore0) ((coords0 c i 1).castLE hsub0) _)); iexact Hs
    iexact Ho
  isplitl [H0 H1 H2 H3 Hbufs]
  · isplitr [Hbufs]
    · isplitl [H0]; · iexact H0
      isplitl [H1]; · iapply (ex_of_own2 (F := F) (c := thr d (coords0 c i)) (n := 160) (mr := (Memref.whole cc0_scratch1 : Memref sig .scVector .vmem S160x128 .f32))); iexact H1
      isplitl [H2]; · iapply (ex_of_own2 (F := F) (c := thr d (coords0 c i)) (n := 160) (mr := (Memref.whole cc0_scratch2 : Memref sig .scVector .vmem S160x128 .f32))); iexact H2
      iapply (ex_of_own2 (F := F) (c := thr d (coords0 c i)) (n := 512) (mr := (Memref.whole cc0_scratch3 : Memref sig .scVector .vmem S512x128 .f32))); iexact H3
    iexact Hbufs
  isplitl [HvA HvB Hv0 Hv1 Hsems]
  · isplitr [Hsems]
    · isplitl [HvA]; · iexact HvA
      isplitl [HvB]; · iexact HvB
      isplitl [Hv0]; · iexact Hv0
      iexact Hv1
    iexact Hsems
  iexact HO

theorem defs₀_vector0 (c : Fin τ.nSC) (s : Fin τ.nSub) :
    defs₀ (F := F) (.scVector c s) 0 ()
      = SparseCore.onTile hcore0 hsub0 (fun c s => cc0__segsum (coords0 c s) (Memref.whole main_arg0_scv) (Memref.isWhole_whole _) (Memref.whole main_arg2_scv) (Memref.isWhole_whole _) (Memref.whole main_v0_scv) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            cc0_scratch4 cc0_scratch5 cc0_scoped0 cc0_scoped1) ⟨⟩ c s := rfl

theorem tileObl0 (hK : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (tile_body0 m hK hpre d ⟨_, hc.1⟩ ⟨_, hc.2⟩ O W hO).trans (wp_mono frame _ _ fun _ => obl_post)

end Cert.Proof.Base

end
-- ==== Proof.BcEven.lean ====
/-
  The broadcast tile over one group of sixteen rows and over one chunk, the even of its two pairs of row buffers.
-/
module

public import proofs.«01_k».proof.Proof.BcStep

@[expose] public section

noncomputable section

namespace Cert.Proof.Base

open Cert.KernelIdeal Cert.KernelIdeal.Gen
open Idealize.ShloMosaic
open Idealize.ShloMosaic.SparseCore.Cfg (HIx)
open Idealize.SL.Sem

variable {F : FTy → Type} [FloatOps F]

variable (D₀ : Defs nD τ sig (Elt F) Λ₀) (d : Dev nD) (i : grid2.Coords)
  (arg2 : Memref sig .scVector .hbm S100000x128 .f32) (harg2 : arg2.IsWhole) (arg3 : Memref sig .scVector .hbm S100000 .i32) (harg3 : arg3.IsWhole) (arg4 : Memref sig .scVector .hbm S512x128 .f32) (harg4 : arg4.IsWhole) (arg5 : Memref sig .scVector .hbm S100000x128 .f32) (harg5 : arg5.IsWhole) (arg6 : Memref sig .scVector .vmem S3216 .i32) (harg6 : arg6.IsWhole) (arg7 : Memref sig .scVector .vmem S80x128 .f32) (harg7 : arg7.IsWhole) (arg8 : Memref sig .scVector .vmem S80x128 .f32) (harg8 : arg8.IsWhole) (arg9 : Memref sig .scVector .vmem S80x128 .f32) (harg9 : arg9.IsWhole) (arg10 : Memref sig .scVector .vmem S80x128 .f32) (harg10 : arg10.IsWhole) (arg11 : Memref sig .scVector .vmem S512x128 .f32) (harg11 : arg11.IsWhole) (arg12 : DmaSems sig S_) (arg13 : DmaSems sig S_) (arg14 : DmaSems sig S_) (arg15 : DmaSems sig S_) (v49_r0 : DmaSems sig S_) (v49_r1 : DmaSems sig S_)

theorem ut2_trips : k2_t2_loop.trips = 5 := by decide +kernel
theorem ut2_lt (t : Fin k2_t2_loop.trips) : t.val < 5 := lt_of_lt_of_eq t.isLt ut2_trips
theorem ut3_trips : ∀ t : Fin k2_t2_loop.trips, (k2_t3_loop t).trips = 16 := by decide +kernel
theorem ut4_trips : ∀ t : Fin k2_t2_loop.trips, (k2_t4_loop t).trips = 0 := by decide +kernel

theorem boff4_eq : ∀ (i : grid2.Coords) (t1 : Fin (k2_t1_loop i).trips) (t2 : Fin k2_t2_loop.trips),
    k2_off4 i t1 t2 = ![bcBase i + (160 * t1.val) + 16 * t2.val] := by decide +kernel

theorem boff21_eq (i : grid2.Coords) (t1 : Fin (k2_t1_loop i).trips) (t2 : Fin k2_t2_loop.trips) (t3 : Fin (k2_t3_loop t2).trips) :
    k2_off21 i t1 t2 t3 = ![bcBase i + (160 * t1.val) + 16 * t2.val + t3.val] := by
  obtain ⟨X, hX, hX'⟩ : ∃ X : BitVec 32, k2_off4 i t1 t2 = ![(Scalar.indexCast (Scalar.addi X (Scalar.muli (Scf.iv 0#32 1#32 t2.val) 16#32))).toNat]
      ∧ k2_off21 i t1 t2 t3 = ![(Scalar.indexCast (Scalar.addi X (Scf.iv (Scalar.shli (Scf.iv 0#32 1#32 t2.val) 4#32) 1#32 t3.val))).toNat] :=
    ⟨_, rfl, rfl⟩
  have h := congrFun (hX.symm.trans (boff4_eq i t1 t2)) 0
  have hb := bcBase_le i
  have h1 := u1_lt i t1
  have h2 := ut2_lt t2
  have h3 : t3.val < 16 := ut3_trips t2 ▸ t3.isLt
  rw [hX']
  congr 1
  rw [shl4 _ (by omega)]
  simp only [Matrix.cons_val_zero, Scalar.indexCast, Scalar.addi, Scalar.muli, IntOp.addi, IntOp.muli, iv_toNat, iv_from, BitVec.toNat_add, BitVec.toNat_mul, BitVec.toNat_ofNat] at h ⊢
  omega

theorem b_first_even (I : ℕ → BitVec 32) (b : ℕ) : extractAt ![0] (k2_pay2 (F := F) (laneI I b)) inpos_S1_p0 = I b := by
  unfold k2_pay2; rfl
theorem b_last_even (I : ℕ → BitVec 32) (b : ℕ) : extractAt ![0] (k2_pay3 (F := F) (laneI I b)) inpos_S1_p0 = I (b + 15) := by
  unfold k2_pay3; rfl
theorem b_row_even (I : ℕ → BitVec 32) (b : ℕ) : extractAt ![0] (k2_pay183 (F := F) (laneI I b)) inpos_S1_p0 = I b := by
  unfold k2_pay183; rfl
theorem bcond5_iff (v w : BitVec 32) : k2_cond5 v w = 1#1 ↔ v = w := by
  unfold k2_cond5; exact eq_bit v w
theorem bcond6_iff (v w : BitVec 32) : k2_cond6 v w = 1#1 ↔ v ≠ w := by
  unfold k2_cond6
  by_cases h : v = w
  · subst h; simp only [Scalar.cmpi, IntOp.cmpi, beq_self_eq_true]; exact iff_of_false (by decide) (by simp)
  · simp only [Scalar.cmpi, IntOp.cmpi, beq_false_of_ne h]; exact iff_of_true (by decide) h

set_option maxHeartbeats 8000000 in
theorem ut2_ev (t1 : Fin (k2_t1_loop i).trips) (h3 : k2_cond3 i t1 = 1#1) (v61 : BitVec 32) (t2 : Fin k2_t2_loop.trips) (I : ℕ → BitVec 32) (V R O : ℕ → ℕ → F .f32)
    (hI : ∀ k < 80, (I (bcBase i + (160 * t1.val) + k)).toNat < 512) :
    EvB D₀ d i arg6 arg11 arg7 arg9 (k2_t2_body i arg2 harg2 arg3 harg3 arg4 harg4 arg5 harg5 arg6 harg6 arg7 harg7 arg8 harg8 arg9 harg9 arg10 harg10 arg11 harg11 arg12 arg13 arg14 arg15 v49_r0 v49_r1 t1 h3 v61 t2 ())
      ⟨I, V, R, rowsB (sumB V R (gid fun j => (I (bcBase i + (160 * t1.val) + j)).toNat)) t2.val O⟩
      ⟨I, V, R, rowsB (sumB V R (gid fun j => (I (bcBase i + (160 * t1.val) + j)).toNat)) (t2.val + 1) O⟩ () := by
  have ht := ut2_lt t2
  unfold k2_t2_body
  refine EvB.loadI (boff4_eq i t1 t2) ?_
  extract_lets +onlyGivenNames v82 v84
  have h82 : I (bcBase i + (160 * t1.val) + 16 * t2.val) = v82 := (b_first_even _ _).symm
  have h84 : I (bcBase i + (160 * t1.val) + 16 * t2.val + 15) = v84 := (b_last_even _ _).symm
  have b82 : v82.toNat < 512 := by rw [← h82]; exact hI _ (by omega)
  refine EvB.assume ?_ ?_
  · exact ⟨fun _ _ => row_fits _ b82 _ (by decide), fun _ _ => row_fits _ b82 _ (by decide), fun _ _ => row_fits _ b82 _ (by decide), fun _ _ => row_fits _ b82 _ (by decide), fun _ _ => row_fits _ b82 _ (by decide), fun _ _ => row_fits _ b82 _ (by decide), fun _ _ => row_fits _ b82 _ (by decide), fun _ _ => row_fits _ b82 _ (by decide)⟩
  generalize hid : (fun j => (I (bcBase i + (160 * t1.val) + j)).toNat) = id
  have e0 : id (16 * t2.val) = v82.toNat := by rw [← hid, ← h82]
  have e15 : id (16 * t2.val + 15) = v84.toNat := by rw [← hid, ← h84]; dsimp only; rw [← Nat.add_assoc]
  generalize hQ : rowsB (sumB V R (gid id)) t2.val O = Q
  by_cases hv : v82 = v84
  · rw [dif_pos ((bcond5_iff _ _).2 hv)]
    refine EvB.conv (s := ⟨I, V, R, fastB (sumB V R (fun _ => v82.toNat)) t2.val 0 Q⟩) (t := ⟨I, V, R, fastB (sumB V R (fun _ => v82.toNat)) t2.val 128 Q⟩) ?_
      (by rw [fastB_zero]) ?_
    rotate_left
    · rw [← hQ, fastB_rowsB]
      intro r c hr hr'
      unfold sumB gid
      rw [show 16 * (r / 16) = 16 * t2.val by omega, e0, e15, hv, if_pos rfl]
    repeat (first
      | with_reducible exact EvB.pure _ _
      | (with_reducible apply EvB.loadR
         case hoff => exact rowOff_eq _ (by omega) _ (by decide) _)
      | (with_reducible apply EvB.loadO
         case hoff => exact rowOff_eq _ (by omega) _ (by decide) _)
      | (with_reducible apply EvB.loadV
         case hoff => exact rfl)
      | (with_reducible apply EvB.fast
         case hoff => exact rowOff_eq _ (by omega) _ (by decide) _
         case hw => exact block_sum _ _ _ _ _ rfl
         case hr => exact Nat.add_left_cancel_iff.2 (by decide)
         case hc => decide
         case hn => decide)
      | (with_reducible apply EvB.bind
         first | rw [k2_part1_eq_skeleton]; unfold k2_part1_skel | rw [k2_part2_eq_skeleton]; unfold k2_part2_skel | rw [k2_part3_eq_skeleton]; unfold k2_part3_skel | rw [k2_part4_eq_skeleton]; unfold k2_part4_skel | rw [k2_part5_eq_skeleton]; unfold k2_part5_skel | rw [k2_part6_eq_skeleton]; unfold k2_part6_skel | rw [k2_part7_eq_skeleton]; unfold k2_part7_skel | rw [k2_part8_eq_skeleton]; unfold k2_part8_skel | rw [k2_part9_eq_skeleton]; unfold k2_part9_skel | rw [k2_part10_eq_skeleton]; unfold k2_part10_skel | rw [k2_part11_eq_skeleton]; unfold k2_part11_skel | rw [k2_part12_eq_skeleton]; unfold k2_part12_skel | rw [k2_part13_eq_skeleton]; unfold k2_part13_skel | rw [k2_part14_eq_skeleton]; unfold k2_part14_skel | rw [k2_part15_eq_skeleton]; unfold k2_part15_skel | rw [k2_part16_eq_skeleton]; unfold k2_part16_skel | rw [k2_part17_eq_skeleton]; unfold k2_part17_skel | rw [k2_part18_eq_skeleton]; unfold k2_part18_skel | rw [k2_part19_eq_skeleton]; unfold k2_part19_skel | rw [k2_part20_eq_skeleton]; unfold k2_part20_skel | rw [k2_part21_eq_skeleton]; unfold k2_part21_skel | rw [k2_part22_eq_skeleton]; unfold k2_part22_skel | rw [k2_part23_eq_skeleton]; unfold k2_part23_skel | rw [k2_part24_eq_skeleton]; unfold k2_part24_skel | rw [k2_part25_eq_skeleton]; unfold k2_part25_skel | rw [k2_part26_eq_skeleton]; unfold k2_part26_skel | rw [k2_part27_eq_skeleton]; unfold k2_part27_skel | rw [k2_part28_eq_skeleton]; unfold k2_part28_skel | rw [k2_part29_eq_skeleton]; unfold k2_part29_skel | rw [k2_part30_eq_skeleton]; unfold k2_part30_skel | rw [k2_part31_eq_skeleton]; unfold k2_part31_skel | rw [k2_part32_eq_skeleton]; unfold k2_part32_skel | rw [k2_part33_eq_skeleton]; unfold k2_part33_skel | rw [k2_part34_eq_skeleton]; unfold k2_part34_skel | rw [k2_part35_eq_skeleton]; unfold k2_part35_skel | rw [k2_part36_eq_skeleton]; unfold k2_part36_skel | rw [k2_part37_eq_skeleton]; unfold k2_part37_skel | rw [k2_part38_eq_skeleton]; unfold k2_part38_skel | rw [k2_part39_eq_skeleton]; unfold k2_part39_skel | rw [k2_part40_eq_skeleton]; unfold k2_part40_skel | rw [k2_part41_eq_skeleton]; unfold k2_part41_skel)
      | dsimp only)
    rw [dif_neg (fun h => (bcond6_iff _ _).1 h hv)]
    exact EvB.pure _ _
  · rw [dif_neg (fun h => hv ((bcond5_iff _ _).1 h)), dif_pos ((bcond6_iff _ _).2 hv)]
    have hne : id (16 * t2.val) ≠ id (16 * t2.val + 15) := by
      rw [e0, e15]; exact fun h => hv (BitVec.eq_of_toNat_eq h)
    refine EvB.conv (s := ⟨I, V, R, slowB (sumB V R id) t2.val (8 * 0) Q⟩) (t := ⟨I, V, R, slowB (sumB V R id) t2.val (8 * 16) Q⟩) ?_
      (by rw [Nat.mul_zero, slowB_zero]) ?_
    rotate_left
    · rw [← hQ, show 8 * 16 = 128 from rfl, slowB_rowsB]
      intro r c hr hr'
      unfold sumB gid
      rw [show 16 * (r / 16) = 16 * t2.val by omega, if_neg hne]
    refine EvB.loopN _ 16 (ut3_trips t2) _ _ (fun n => ⟨I, V, R, slowB (sumB V R id) t2.val (8 * n) Q⟩) (fun t3 => ?_) (EvB.loop0 _ (ut4_trips t2) _ _ (EvB.pure _ _))
    have ht3 : t3.val < 16 := ut3_trips t2 ▸ t3.isLt
    have hv' := b_row_even (F := F) I (bcBase i + (160 * t1.val) + 16 * t2.val + t3.val)
    have hrow : id (16 * t2.val + t3.val) = (extractAt ![0] (k2_pay183 (F := F) (laneI I (bcBase i + (160 * t1.val) + 16 * t2.val + t3.val))) inpos_S1_p0).toNat := by
      rw [hv', ← hid]; dsimp only; rw [← Nat.add_assoc]
    have b104 : (extractAt ![0] (k2_pay183 (F := F) (laneI I (bcBase i + (160 * t1.val) + 16 * t2.val + t3.val))) inpos_S1_p0).toNat < 512 := by
      rw [← hrow, ← hid]; exact hI _ (by omega)
    refine EvB.conv (s := ⟨I, V, R, slowB (sumB V R id) t2.val (8 * t3.val) Q⟩) (t := ⟨I, V, R, slowB (sumB V R id) t2.val (8 * t3.val + 8) Q⟩) ?_ rfl rfl
    unfold k2_t3_body
    repeat (first
      | with_reducible exact EvB.pure _ _
      | (with_reducible apply EvB.loadI
         case hoff => exact boff21_eq i t1 t2 t3)
      | (with_reducible apply EvB.assume
         case h => exact ⟨fun _ _ => row_fits _ b104 _ (by decide), fun _ _ => row_fits _ b104 _ (by decide), fun _ _ => row_fits _ b104 _ (by decide), fun _ _ => row_fits _ b104 _ (by decide), fun _ _ => row_fits _ b104 _ (by decide), fun _ _ => row_fits _ b104 _ (by decide), fun _ _ => row_fits _ b104 _ (by decide), fun _ _ => row_fits _ b104 _ (by decide)⟩)
      | (with_reducible apply EvB.loadR
         case hoff => exact rowOffI_eq _ (by omega) _ ht3 _)
      | (with_reducible apply EvB.loadO
         case hoff => exact rowOffI_eq _ (by omega) _ ht3 _)
      | (with_reducible apply EvB.loadV
         case hoff => exact rfl)
      | (with_reducible apply EvB.slow
         case hoff => exact rowOffI_eq _ (by omega) _ ht3 _
         case hw => exact block_sum _ _ _ _ _ hrow
         case hr => omega
         case hc => omega
         case hn => omega)
      | (with_reducible apply EvB.bind
         first | rw [k2_part42_eq_skeleton]; unfold k2_part42_skel | rw [k2_part43_eq_skeleton]; unfold k2_part43_skel)
      | dsimp only)

/-- One chunk of rows. -/
theorem bchunkeven_ev (t1 : Fin (k2_t1_loop i).trips) (h3 : k2_cond3 i t1 = 1#1) (v61 : BitVec 32) (I : ℕ → BitVec 32) (V R O : ℕ → ℕ → F .f32)
    (hI : ∀ k < 80, (I (bcBase i + (160 * t1.val) + k)).toNat < 512) :
    EvB D₀ d i arg6 arg11 arg7 arg9 (Scf.Loop.for k2_t2_loop (k2_t2_ok i t1 h3) () (k2_t2_body i arg2 harg2 arg3 harg3 arg4 harg4 arg5 harg5 arg6 harg6 arg7 harg7 arg8 harg8 arg9 harg9 arg10 harg10 arg11 harg11 arg12 arg13 arg14 arg15 v49_r0 v49_r1 t1 h3 v61)) ⟨I, V, R, O⟩
      ⟨I, V, R, rowsB (sumB V R (gid fun j => (I (bcBase i + (160 * t1.val) + j)).toNat)) 5 O⟩ () := by
  refine EvB.conv (s := ⟨I, V, R, rowsB (sumB V R (gid fun j => (I (bcBase i + (160 * t1.val) + j)).toNat)) 0 O⟩) (EvB.loopAll k2_t2_loop 5 ut2_trips _ _ (fun n => ⟨I, V, R, rowsB (sumB V R (gid fun j => (I (bcBase i + (160 * t1.val) + j)).toNat)) n O⟩) fun t => ?_) (by rw [rowsB_zero]) rfl
  exact ut2_ev D₀ d i arg2 harg2 arg3 harg3 arg4 harg4 arg5 harg5 arg6 harg6 arg7 harg7 arg8 harg8 arg9 harg9 arg10 harg10 arg11 harg11 arg12 arg13 arg14 arg15 v49_r0 v49_r1 t1 h3 v61 t I V R O hI

end Cert.Proof.Base

end
-- ==== Proof.BcOdd.lean ====
/-
  The broadcast tile over one group of sixteen rows and over one chunk, the odd of its two pairs of row buffers.
-/
module

public import proofs.«01_k».proof.Proof.BcStep

@[expose] public section

noncomputable section

namespace Cert.Proof.Base

open Cert.KernelIdeal Cert.KernelIdeal.Gen
open Idealize.ShloMosaic
open Idealize.ShloMosaic.SparseCore.Cfg (HIx)
open Idealize.SL.Sem

variable {F : FTy → Type} [FloatOps F]

variable (D₀ : Defs nD τ sig (Elt F) Λ₀) (d : Dev nD) (i : grid2.Coords)
  (arg2 : Memref sig .scVector .hbm S100000x128 .f32) (harg2 : arg2.IsWhole) (arg3 : Memref sig .scVector .hbm S100000 .i32) (harg3 : arg3.IsWhole) (arg4 : Memref sig .scVector .hbm S512x128 .f32) (harg4 : arg4.IsWhole) (arg5 : Memref sig .scVector .hbm S100000x128 .f32) (harg5 : arg5.IsWhole) (arg6 : Memref sig .scVector .vmem S3216 .i32) (harg6 : arg6.IsWhole) (arg7 : Memref sig .scVector .vmem S80x128 .f32) (harg7 : arg7.IsWhole) (arg8 : Memref sig .scVector .vmem S80x128 .f32) (harg8 : arg8.IsWhole) (arg9 : Memref sig .scVector .vmem S80x128 .f32) (harg9 : arg9.IsWhole) (arg10 : Memref sig .scVector .vmem S80x128 .f32) (harg10 : arg10.IsWhole) (arg11 : Memref sig .scVector .vmem S512x128 .f32) (harg11 : arg11.IsWhole) (arg12 : DmaSems sig S_) (arg13 : DmaSems sig S_) (arg14 : DmaSems sig S_) (arg15 : DmaSems sig S_) (v49_r0 : DmaSems sig S_) (v49_r1 : DmaSems sig S_)

theorem ut5_trips : k2_t5_loop.trips = 5 := by decide +kernel
theorem ut5_lt (t : Fin k2_t5_loop.trips) : t.val < 5 := lt_of_lt_of_eq t.isLt ut5_trips
theorem ut6_trips : ∀ t : Fin k2_t5_loop.trips, (k2_t6_loop t).trips = 16 := by decide +kernel
theorem ut7_trips : ∀ t : Fin k2_t5_loop.trips, (k2_t7_loop t).trips = 0 := by decide +kernel

theorem boff59_eq : ∀ (i : grid2.Coords) (t1 : Fin (k2_t1_loop i).trips) (t2 : Fin k2_t5_loop.trips),
    k2_off59 i t1 t2 = ![bcBase i + (160 * t1.val + 80) + 16 * t2.val] := by decide +kernel

theorem boff76_eq (i : grid2.Coords) (t1 : Fin (k2_t1_loop i).trips) (t2 : Fin k2_t5_loop.trips) (t3 : Fin (k2_t6_loop t2).trips) :
    k2_off76 i t1 t2 t3 = ![bcBase i + (160 * t1.val + 80) + 16 * t2.val + t3.val] := by
  obtain ⟨X, hX, hX'⟩ : ∃ X : BitVec 32, k2_off59 i t1 t2 = ![(Scalar.indexCast (Scalar.addi X (Scalar.muli (Scf.iv 0#32 1#32 t2.val) 16#32))).toNat]
      ∧ k2_off76 i t1 t2 t3 = ![(Scalar.indexCast (Scalar.addi X (Scf.iv (Scalar.shli (Scf.iv 0#32 1#32 t2.val) 4#32) 1#32 t3.val))).toNat] :=
    ⟨_, rfl, rfl⟩
  have h := congrFun (hX.symm.trans (boff59_eq i t1 t2)) 0
  have hb := bcBase_le i
  have h1 := u1_lt i t1
  have h2 := ut5_lt t2
  have h3 : t3.val < 16 := ut6_trips t2 ▸ t3.isLt
  rw [hX']
  congr 1
  rw [shl4 _ (by omega)]
  simp only [Matrix.cons_val_zero, Scalar.indexCast, Scalar.addi, Scalar.muli, IntOp.addi, IntOp.muli, iv_toNat, iv_from, BitVec.toNat_add, BitVec.toNat_mul, BitVec.toNat_ofNat] at h ⊢
  omega

theorem b_first_odd (I : ℕ → BitVec 32) (b : ℕ) : extractAt ![0] (k2_pay8 (F := F) (laneI I b)) inpos_S1_p0 = I b := by
  unfold k2_pay8; rfl
theorem b_last_odd (I : ℕ → BitVec 32) (b : ℕ) : extractAt ![0] (k2_pay9 (F := F) (laneI I b)) inpos_S1_p0 = I (b + 15) := by
  unfold k2_pay9; rfl
theorem b_row_odd (I : ℕ → BitVec 32) (b : ℕ) : extractAt ![0] (k2_pay361 (F := F) (laneI I b)) inpos_S1_p0 = I b := by
  unfold k2_pay361; rfl
theorem bcond10_iff (v w : BitVec 32) : k2_cond10 v w = 1#1 ↔ v = w := by
  unfold k2_cond10; exact eq_bit v w
theorem bcond11_iff (v w : BitVec 32) : k2_cond11 v w = 1#1 ↔ v ≠ w := by
  unfold k2_cond11
  by_cases h : v = w
  · subst h; simp only [Scalar.cmpi, IntOp.cmpi, beq_self_eq_true]; exact iff_of_false (by decide) (by simp)
  · simp only [Scalar.cmpi, IntOp.cmpi, beq_false_of_ne h]; exact iff_of_true (by decide) h

set_option maxHeartbeats 8000000 in
theorem ut5_ev (t1 : Fin (k2_t1_loop i).trips) (h3 : k2_cond8 i t1 = 1#1) (v61 : BitVec 32) (t2 : Fin k2_t5_loop.trips) (I : ℕ → BitVec 32) (V R O : ℕ → ℕ → F .f32)
    (hI : ∀ k < 80, (I (bcBase i + (160 * t1.val + 80) + k)).toNat < 512) :
    EvB D₀ d i arg6 arg11 arg8 arg10 (k2_t5_body i arg2 harg2 arg3 harg3 arg4 harg4 arg5 harg5 arg6 harg6 arg7 harg7 arg8 harg8 arg9 harg9 arg10 harg10 arg11 harg11 arg12 arg13 arg14 arg15 v49_r0 v49_r1 t1 h3 v61 t2 ())
      ⟨I, V, R, rowsB (sumB V R (gid fun j => (I (bcBase i + (160 * t1.val + 80) + j)).toNat)) t2.val O⟩
      ⟨I, V, R, rowsB (sumB V R (gid fun j => (I (bcBase i + (160 * t1.val + 80) + j)).toNat)) (t2.val + 1) O⟩ () := by
  have ht := ut5_lt t2
  unfold k2_t5_body
  refine EvB.loadI (boff59_eq i t1 t2) ?_
  extract_lets +onlyGivenNames v82 v84
  have h82 : I (bcBase i + (160 * t1.val + 80) + 16 * t2.val) = v82 := (b_first_odd _ _).symm
  have h84 : I (bcBase i + (160 * t1.val + 80) + 16 * t2.val + 15) = v84 := (b_last_odd _ _).symm
  have b82 : v82.toNat < 512 := by rw [← h82]; exact hI _ (by omega)
  refine EvB.assume ?_ ?_
  · exact ⟨fun _ _ => row_fits _ b82 _ (by decide), fun _ _ => row_fits _ b82 _ (by decide), fun _ _ => row_fits _ b82 _ (by decide), fun _ _ => row_fits _ b82 _ (by decide), fun _ _ => row_fits _ b82 _ (by decide), fun _ _ => row_fits _ b82 _ (by decide), fun _ _ => row_fits _ b82 _ (by decide), fun _ _ => row_fits _ b82 _ (by decide)⟩
  generalize hid : (fun j => (I (bcBase i + (160 * t1.val + 80) + j)).toNat) = id
  have e0 : id (16 * t2.val) = v82.toNat := by rw [← hid, ← h82]
  have e15 : id (16 * t2.val + 15) = v84.toNat := by rw [← hid, ← h84]; dsimp only; rw [← Nat.add_assoc]
  generalize hQ : rowsB (sumB V R (gid id)) t2.val O = Q
  by_cases hv : v82 = v84
  · rw [dif_pos ((bcond10_iff _ _).2 hv)]
    refine EvB.conv (s := ⟨I, V, R, fastB (sumB V R (fun _ => v82.toNat)) t2.val 0 Q⟩) (t := ⟨I, V, R, fastB (sumB V R (fun _ => v82.toNat)) t2.val 128 Q⟩) ?_
      (by rw [fastB_zero]) ?_
    rotate_left
    · rw [← hQ, fastB_rowsB]
      intro r c hr hr'
      unfold sumB gid
      rw [show 16 * (r / 16) = 16 * t2.val by omega, e0, e15, hv, if_pos rfl]
    repeat (first
      | with_reducible exact EvB.pure _ _
      | (with_reducible apply EvB.loadR
         case hoff => exact rowOff_eq _ (by omega) _ (by decide) _)
      | (with_reducible apply EvB.loadO
         case hoff => exact rowOff_eq _ (by omega) _ (by decide) _)
      | (with_reducible apply EvB.loadV
         case hoff => exact rfl)
      | (with_reducible apply EvB.fast
         case hoff => exact rowOff_eq _ (by omega) _ (by decide) _
         case hw => exact block_sum _ _ _ _ _ rfl
         case hr => exact Nat.add_left_cancel_iff.2 (by decide)
         case hc => decide
         case hn => decide)
      | (with_reducible apply EvB.bind
         first | rw [k2_part46_eq_skeleton]; unfold k2_part46_skel | rw [k2_part47_eq_skeleton]; unfold k2_part47_skel | rw [k2_part48_eq_skeleton]; unfold k2_part48_skel | rw [k2_part49_eq_skeleton]; unfold k2_part49_skel | rw [k2_part50_eq_skeleton]; unfold k2_part50_skel | rw [k2_part51_eq_skeleton]; unfold k2_part51_skel | rw [k2_part52_eq_skeleton]; unfold k2_part52_skel | rw [k2_part53_eq_skeleton]; unfold k2_part53_skel | rw [k2_part54_eq_skeleton]; unfold k2_part54_skel | rw [k2_part55_eq_skeleton]; unfold k2_part55_skel | rw [k2_part56_eq_skeleton]; unfold k2_part56_skel | rw [k2_part57_eq_skeleton]; unfold k2_part57_skel | rw [k2_part58_eq_skeleton]; unfold k2_part58_skel | rw [k2_part59_eq_skeleton]; unfold k2_part59_skel | rw [k2_part60_eq_skeleton]; unfold k2_part60_skel | rw [k2_part61_eq_skeleton]; unfold k2_part61_skel | rw [k2_part62_eq_skeleton]; unfold k2_part62_skel | rw [k2_part63_eq_skeleton]; unfold k2_part63_skel | rw [k2_part64_eq_skeleton]; unfold k2_part64_skel | rw [k2_part65_eq_skeleton]; unfold k2_part65_skel | rw [k2_part66_eq_skeleton]; unfold k2_part66_skel | rw [k2_part67_eq_skeleton]; unfold k2_part67_skel | rw [k2_part68_eq_skeleton]; unfold k2_part68_skel | rw [k2_part69_eq_skeleton]; unfold k2_part69_skel | rw [k2_part70_eq_skeleton]; unfold k2_part70_skel | rw [k2_part71_eq_skeleton]; unfold k2_part71_skel | rw [k2_part72_eq_skeleton]; unfold k2_part72_skel | rw [k2_part73_eq_skeleton]; unfold k2_part73_skel | rw [k2_part74_eq_skeleton]; unfold k2_part74_skel | rw [k2_part75_eq_skeleton]; unfold k2_part75_skel | rw [k2_part76_eq_skeleton]; unfold k2_part76_skel | rw [k2_part77_eq_skeleton]; unfold k2_part77_skel | rw [k2_part78_eq_skeleton]; unfold k2_part78_skel | rw [k2_part79_eq_skeleton]; unfold k2_part79_skel | rw [k2_part80_eq_skeleton]; unfold k2_part80_skel | rw [k2_part81_eq_skeleton]; unfold k2_part81_skel | rw [k2_part82_eq_skeleton]; unfold k2_part82_skel | rw [k2_part83_eq_skeleton]; unfold k2_part83_skel | rw [k2_part84_eq_skeleton]; unfold k2_part84_skel | rw [k2_part85_eq_skeleton]; unfold k2_part85_skel | rw [k2_part86_eq_skeleton]; unfold k2_part86_skel)
      | dsimp only)
    rw [dif_neg (fun h => (bcond11_iff _ _).1 h hv)]
    exact EvB.pure _ _
  · rw [dif_neg (fun h => hv ((bcond10_iff _ _).1 h)), dif_pos ((bcond11_iff _ _).2 hv)]
    have hne : id (16 * t2.val) ≠ id (16 * t2.val + 15) := by
      rw [e0, e15]; exact fun h => hv (BitVec.eq_of_toNat_eq h)
    refine EvB.conv (s := ⟨I, V, R, slowB (sumB V R id) t2.val (8 * 0) Q⟩) (t := ⟨I, V, R, slowB (sumB V R id) t2.val (8 * 16) Q⟩) ?_
      (by rw [Nat.mul_zero, slowB_zero]) ?_
    rotate_left
    · rw [← hQ, show 8 * 16 = 128 from rfl, slowB_rowsB]
      intro r c hr hr'
      unfold sumB gid
      rw [show 16 * (r / 16) = 16 * t2.val by omega, if_neg hne]
    refine EvB.loopN _ 16 (ut6_trips t2) _ _ (fun n => ⟨I, V, R, slowB (sumB V R id) t2.val (8 * n) Q⟩) (fun t3 => ?_) (EvB.loop0 _ (ut7_trips t2) _ _ (EvB.pure _ _))
    have ht3 : t3.val < 16 := ut6_trips t2 ▸ t3.isLt
    have hv' := b_row_odd (F := F) I (bcBase i + (160 * t1.val + 80) + 16 * t2.val + t3.val)
    have hrow : id (16 * t2.val + t3.val) = (extractAt ![0] (k2_pay361 (F := F) (laneI I (bcBase i + (160 * t1.val + 80) + 16 * t2.val + t3.val))) inpos_S1_p0).toNat := by
      rw [hv', ← hid]; dsimp only; rw [← Nat.add_assoc]
    have b104 : (extractAt ![0] (k2_pay361 (F := F) (laneI I (bcBase i + (160 * t1.val + 80) + 16 * t2.val + t3.val))) inpos_S1_p0).toNat < 512 := by
      rw [← hrow, ← hid]; exact hI _ (by omega)
    refine EvB.conv (s := ⟨I, V, R, slowB (sumB V R id) t2.val (8 * t3.val) Q⟩) (t := ⟨I, V, R, slowB (sumB V R id) t2.val (8 * t3.val + 8) Q⟩) ?_ rfl rfl
    unfold k2_t6_body
    repeat (first
      | with_reducible exact EvB.pure _ _
      | (with_reducible apply EvB.loadI
         case hoff => exact boff76_eq i t1 t2 t3)
      | (with_reducible apply EvB.assume
         case h => exact ⟨fun _ _ => row_fits _ b104 _ (by decide), fun _ _ => row_fits _ b104 _ (by decide), fun _ _ => row_fits _ b104 _ (by decide), fun _ _ => row_fits _ b104 _ (by decide), fun _ _ => row_fits _ b104 _ (by decide), fun _ _ => row_fits _ b104 _ (by decide), fun _ _ => row_fits _ b104 _ (by decide), fun _ _ => row_fits _ b104 _ (by decide)⟩)
      | (with_reducible apply EvB.loadR
         case hoff => exact rowOffI_eq _ (by omega) _ ht3 _)
      | (with_reducible apply EvB.loadO
         case hoff => exact rowOffI_eq _ (by omega) _ ht3 _)
      | (with_reducible apply EvB.loadV
         case hoff => exact rfl)
      | (with_reducible apply EvB.slow
         case hoff => exact rowOffI_eq _ (by omega) _ ht3 _
         case hw => exact block_sum _ _ _ _ _ hrow
         case hr => omega
         case hc => omega
         case hn => omega)
      | (with_reducible apply EvB.bind
         first | rw [k2_part87_eq_skeleton]; unfold k2_part87_skel | rw [k2_part88_eq_skeleton]; unfold k2_part88_skel)
      | dsimp only)

/-- One chunk of rows. -/
theorem bchunkodd_ev (t1 : Fin (k2_t1_loop i).trips) (h3 : k2_cond8 i t1 = 1#1) (v61 : BitVec 32) (I : ℕ → BitVec 32) (V R O : ℕ → ℕ → F .f32)
    (hI : ∀ k < 80, (I (bcBase i + (160 * t1.val + 80) + k)).toNat < 512) :
    EvB D₀ d i arg6 arg11 arg8 arg10 (Scf.Loop.for k2_t5_loop (k2_t5_ok i t1 h3) () (k2_t5_body i arg2 harg2 arg3 harg3 arg4 harg4 arg5 harg5 arg6 harg6 arg7 harg7 arg8 harg8 arg9 harg9 arg10 harg10 arg11 harg11 arg12 arg13 arg14 arg15 v49_r0 v49_r1 t1 h3 v61)) ⟨I, V, R, O⟩
      ⟨I, V, R, rowsB (sumB V R (gid fun j => (I (bcBase i + (160 * t1.val + 80) + j)).toNat)) 5 O⟩ () := by
  refine EvB.conv (s := ⟨I, V, R, rowsB (sumB V R (gid fun j => (I (bcBase i + (160 * t1.val + 80) + j)).toNat)) 0 O⟩) (EvB.loopAll k2_t5_loop 5 ut5_trips _ _ (fun n => ⟨I, V, R, rowsB (sumB V R (gid fun j => (I (bcBase i + (160 * t1.val + 80) + j)).toNat)) n O⟩) fun t => ?_) (by rw [rowsB_zero]) rfl
  exact ut5_ev D₀ d i arg2 harg2 arg3 harg3 arg4 harg4 arg5 harg5 arg6 harg6 arg7 harg7 arg8 harg8 arg9 harg9 arg10 harg10 arg11 harg11 arg12 arg13 arg14 arg15 v49_r0 v49_r1 t1 h3 v61 t I V R O hI

end Cert.Proof.Base

end
-- ==== Proof.BcTile.lean ====
/-
  The broadcast tile: its pass over two chunks of rows, and the whole of it.
-/
module

public import proofs.«01_k».proof.Proof.BcRows
public import proofs.«01_k».proof.Proof.BcEven
public import proofs.«01_k».proof.Proof.BcOdd
public import proofs.«01_k».proof.Proof.SegTile

@[expose] public section

noncomputable section

namespace Cert.Proof.Base

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (D₀ : Defs nD τ sig (Elt F) Λ₀) (d : Dev nD) (i : grid2.Coords)
  (arg2 : Memref sig .scVector .hbm S100000x128 .f32) (harg2 : arg2.IsWhole) (arg3 : Memref sig .scVector .hbm S100000 .i32) (harg3 : arg3.IsWhole) (arg4 : Memref sig .scVector .hbm S512x128 .f32) (harg4 : arg4.IsWhole) (arg5 : Memref sig .scVector .hbm S100000x128 .f32) (harg5 : arg5.IsWhole) (arg6 : Memref sig .scVector .vmem S3216 .i32) (harg6 : arg6.IsWhole) (arg7 : Memref sig .scVector .vmem S80x128 .f32) (harg7 : arg7.IsWhole) (arg8 : Memref sig .scVector .vmem S80x128 .f32) (harg8 : arg8.IsWhole) (arg9 : Memref sig .scVector .vmem S80x128 .f32) (harg9 : arg9.IsWhole) (arg10 : Memref sig .scVector .vmem S80x128 .f32) (harg10 : arg10.IsWhole) (arg11 : Memref sig .scVector .vmem S512x128 .f32) (harg11 : arg11.IsWhole) (arg12 : DmaSems sig S_) (arg13 : DmaSems sig S_) (arg14 : DmaSems sig S_) (arg15 : DmaSems sig S_) (v49_r0 : DmaSems sig S_) (v49_r1 : DmaSems sig S_)

section
variable {D₀ d i arg2 arg3 arg4 arg5 arg6 arg7 arg8 arg9 arg10 arg11 arg12 arg13 arg14 arg15 v49_r0 v49_r1}

theorem bA_run (t1 : Fin (k2_t1_loop i).trips) (h3 : k2_cond3 i t1 = 1#1) (v61 : BitVec 32) (I : ℕ → BitVec 32) (V R O : ℕ → ℕ → F .f32)
    (hI : ∀ k < 80, (I (bcBase i + (160 * t1.val) + k)).toNat < 512) {Q : Unit → sProp 𝕄} :
    iprop(OwnI (thr2 d i) arg6 I ∗ Own2 (thr2 d i) arg11 V ∗ Own2 (thr2 d i) arg7 R ∗ Own2 (thr2 d i) arg9 O)
      ⊢ iprop((iprop(OwnI (thr2 d i) arg6 I ∗ Own2 (thr2 d i) arg11 V ∗ Own2 (thr2 d i) arg7 R ∗ Own2 (thr2 d i) arg9 (rowsB (sumB V R (gid fun j => (I (bcBase i + (160 * t1.val) + j)).toNat)) 5 O)) -∗ Q ())
        -∗ wp frame (wpE D₀ 𝒱₀ (thr2 d i) none) Set.univ (Scf.Loop.for k2_t2_loop (k2_t2_ok i t1 h3) () (k2_t2_body i arg2 harg2 arg3 harg3 arg4 harg4 arg5 harg5 arg6 harg6 arg7 harg7 arg8 harg8 arg9 harg9 arg10 harg10 arg11 harg11 arg12 arg13 arg14 arg15 v49_r0 v49_r1 t1 h3 v61)) Q) :=
  evRun D₀ d _ _ (bchunkeven_ev D₀ d i arg2 harg2 arg3 harg3 arg4 harg4 arg5 harg5 arg6 harg6 arg7 harg7 arg8 harg8 arg9 harg9 arg10 harg10 arg11 harg11 arg12 arg13 arg14 arg15 v49_r0 v49_r1 t1 h3 v61 I V R O hI)

theorem bB_run (t1 : Fin (k2_t1_loop i).trips) (h3 : k2_cond8 i t1 = 1#1) (v61 : BitVec 32) (I : ℕ → BitVec 32) (V R O : ℕ → ℕ → F .f32)
    (hI : ∀ k < 80, (I (bcBase i + (160 * t1.val + 80) + k)).toNat < 512) {Q : Unit → sProp 𝕄} :
    iprop(OwnI (thr2 d i) arg6 I ∗ Own2 (thr2 d i) arg11 V ∗ Own2 (thr2 d i) arg8 R ∗ Own2 (thr2 d i) arg10 O)
      ⊢ iprop((iprop(OwnI (thr2 d i) arg6 I ∗ Own2 (thr2 d i) arg11 V ∗ Own2 (thr2 d i) arg8 R ∗ Own2 (thr2 d i) arg10 (rowsB (sumB V R (gid fun j => (I (bcBase i + (160 * t1.val + 80) + j)).toNat)) 5 O)) -∗ Q ())
        -∗ wp frame (wpE D₀ 𝒱₀ (thr2 d i) none) Set.univ (Scf.Loop.for k2_t5_loop (k2_t5_ok i t1 h3) () (k2_t5_body i arg2 harg2 arg3 harg3 arg4 harg4 arg5 harg5 arg6 harg6 arg7 harg7 arg8 harg8 arg9 harg9 arg10 harg10 arg11 harg11 arg12 arg13 arg14 arg15 v49_r0 v49_r1 t1 h3 v61)) Q) :=
  evRun D₀ d _ _ (bchunkodd_ev D₀ d i arg2 harg2 arg3 harg3 arg4 harg4 arg5 harg5 arg6 harg6 arg7 harg7 arg8 harg8 arg9 harg9 arg10 harg10 arg11 harg11 arg12 arg13 arg14 arg15 v49_r0 v49_r1 t1 h3 v61 I V R O hI)

end

variable (O : CellTallies nD τ sig (HIx 2)) (W : Waits sig (HIx 2)) (H V : ℕ → ℕ → F .f32) (S : ℕ → BitVec 32) (qa qb qs qv : PosShare TreeShare)
  (fH : Buf (Elt F) (arg2.view.loc (thr2 d i))) (fS : Buf (Elt F) (arg3.view.loc (thr2 d i))) (fV : Buf (Elt F) (arg4.view.loc (thr2 d i)))

/-- What the tile holds before its `n`-th pair of chunks. -/
def BcInv (I : ℕ → BitVec 32) (n : ℕ) : sProp 𝕄 :=
  iprop(Transfers.MayWaits (thr2 d i) (none : HIx 2) O ∗ Ow (thr2 d i) O W ∗ OwnI (F := F) (thr2 d i) arg6 I ∗ Own2 (thr2 d i) arg11 V
    ∗ SlotIn d ((i 0).castLE hcore2) ((i 1).castLE hsub2) arg2 arg7 arg12.sem qa fH (fun k => bRows H (bstart (wid2 i)) k) (bcnt (wid2 i)) (2 * n)
    ∗ SlotIn d ((i 0).castLE hcore2) ((i 1).castLE hsub2) arg2 arg8 arg13.sem qb fH (fun k => bRows H (bstart (wid2 i)) k) (bcnt (wid2 i)) (2 * n + 1)
    ∗ SlotOut d ((i 0).castLE hcore2) ((i 1).castLE hsub2) arg5 arg9 arg14.sem (bOut H V S) (n = 0) (80 * (bstart (wid2 i) + (2 * n - 2))) (80 * (bstart (wid2 i) + (2 * n - 2)) + 80)
    ∗ SlotOut d ((i 0).castLE hcore2) ((i 1).castLE hsub2) arg5 arg10 arg15.sem (bOut H V S) (n = 0) (80 * (bstart (wid2 i) + (if 2 * n - 1 < bcnt (wid2 i) then 2 * n - 1 else 2 * n - 3))) (80 * (bstart (wid2 i) + (if 2 * n - 1 < bcnt (wid2 i) then 2 * n - 1 else 2 * n - 3)) + 80)
    ∗ RowsAre d ((i 0).castLE hcore2) ((i 1).castLE hsub2) arg5 (bOut H V S) (80 * bstart (wid2 i)) (80 * (bstart (wid2 i) + min (2 * n - 2) (bcnt (wid2 i) - 2)))
    ∗ RowsAny d ((i 0).castLE hcore2) ((i 1).castLE hsub2) arg5 (80 * (bstart (wid2 i) + min (2 * n) (bcnt (wid2 i)))) (80 * (bstart (wid2 i) + bcnt (wid2 i))))

/-- … and between the two chunks of its `n`-th pair. -/
def BcMid (I : ℕ → BitVec 32) (n : ℕ) : sProp 𝕄 :=
  iprop(Transfers.MayWaits (thr2 d i) (none : HIx 2) O ∗ Ow (thr2 d i) O W ∗ OwnI (F := F) (thr2 d i) arg6 I ∗ Own2 (thr2 d i) arg11 V
    ∗ SlotIn d ((i 0).castLE hcore2) ((i 1).castLE hsub2) arg2 arg7 arg12.sem qa fH (fun k => bRows H (bstart (wid2 i)) k) (bcnt (wid2 i)) (2 * n + 2)
    ∗ SlotIn d ((i 0).castLE hcore2) ((i 1).castLE hsub2) arg2 arg8 arg13.sem qb fH (fun k => bRows H (bstart (wid2 i)) k) (bcnt (wid2 i)) (2 * n + 1)
    ∗ SlotOut d ((i 0).castLE hcore2) ((i 1).castLE hsub2) arg5 arg9 arg14.sem (bOut H V S) (False) (80 * (bstart (wid2 i) + (2 * n))) (80 * (bstart (wid2 i) + (2 * n)) + 80)
    ∗ SlotOut d ((i 0).castLE hcore2) ((i 1).castLE hsub2) arg5 arg10 arg15.sem (bOut H V S) (n = 0) (80 * (bstart (wid2 i) + (2 * n - 1))) (80 * (bstart (wid2 i) + (2 * n - 1)) + 80)
    ∗ RowsAre d ((i 0).castLE hcore2) ((i 1).castLE hsub2) arg5 (bOut H V S) (80 * bstart (wid2 i)) (80 * (bstart (wid2 i) + (2 * n - 1)))
    ∗ RowsAny d ((i 0).castLE hcore2) ((i 1).castLE hsub2) arg5 (80 * (bstart (wid2 i) + (2 * n + 1))) (80 * (bstart (wid2 i) + bcnt (wid2 i))))

/-- A copy under way is one whichever way its being idle is told. -/
theorem slotOut_busy {d : Dev nD} {a : Fin τ.nSC} {b : Fin τ.nSub} {o : Memref sig .scVector .hbm S100000x128 .f32} {buf : Memref sig .scVector .vmem S80x128 .f32} {sem : DmaSem sig} {T : ℕ → ℕ → F .f32}
    {p q : Prop} [Decidable p] [Decidable q] {lo hi : ℕ} (hp : ¬ p) (hq : ¬ q) :
    (SlotOut d a b o buf sem T p lo hi : sProp 𝕄) ⊢ SlotOut d a b o buf sem T q lo hi := by
  unfold SlotOut; rw [if_neg hp, if_neg hq]

theorem slotOut_fly {d : Dev nD} {a : Fin τ.nSC} {b : Fin τ.nSub} {o : Memref sig .scVector .hbm S100000x128 .f32} {buf : Memref sig .scVector .vmem S80x128 .f32} {sem : DmaSem sig} {T : ℕ → ℕ → F .f32}
    {q : Prop} [Decidable q] {lo hi hi' : ℕ} (hq : ¬ q) (e : hi = hi') :
    (Fly (SparseCore.V d a b) sem buf.view.dmaCredit iprop((∃ P', Own2 (SparseCore.V d a b) buf P') ∗ RowsAre d a b o T lo hi) : sProp 𝕄) ⊢ SlotOut d a b o buf sem T q lo hi' := by
  subst e; unfold SlotOut; rw [if_neg hq]

/-- The last two chunks, in either order, complete the tile's rows. -/
theorem rows_end {d : Dev nD} {a : Fin τ.nSC} {b : Fin τ.nSub} {o : Memref sig .scVector .hbm S100000x128 .f32} {T : ℕ → ℕ → F .f32} (s n : ℕ) (h : 39 ≤ n) (h' : n ≤ 40) :
    iprop(RowsAre d a b o T (80 * s) (80 * (s + min (2 * 20 - 2) (n - 2))) ∗ RowsAre d a b o T (80 * (s + (2 * 20 - 2))) (80 * (s + (2 * 20 - 2)) + 80)
      ∗ RowsAre d a b o T (80 * (s + (if 2 * 20 - 1 < n then 2 * 20 - 1 else 2 * 20 - 3))) (80 * (s + (if 2 * 20 - 1 < n then 2 * 20 - 1 else 2 * 20 - 3)) + 80))
      ⊢ RowsAre d a b o T (80 * s) (80 * (s + n)) := by
  rcases (show n = 39 ∨ n = 40 by omega) with h | h
  · subst h
    rw [show 80 * (s + (2 * 20 - 2)) + 80 = 80 * (s + 39) by omega, show min (2 * 20 - 2) (39 - 2) = 37 by decide, if_neg (by decide), show 2 * 20 - 3 = 37 by decide, show 2 * 20 - 2 = 38 by decide,
      show 80 * (s + 37) + 80 = 80 * (s + 38) by omega]
    iintro ⟨Hd, HA, HB⟩
    iapply (rowsAre_join (lo := 80 * s) (mid := 80 * (s + 38)) (hi := 80 * (s + 39)) (by omega) (by omega))
    isplitl [Hd HB]
    · iapply (rowsAre_join (lo := 80 * s) (mid := 80 * (s + 37)) (hi := 80 * (s + 38)) (by omega) (by omega))
      isplitl [Hd]; · iexact Hd
      iexact HB
    iexact HA
  · subst h
    rw [show 80 * (s + (2 * 20 - 2)) + 80 = 80 * (s + 39) by omega, show min (2 * 20 - 2) (40 - 2) = 38 by decide, if_pos (by decide), show 2 * 20 - 1 = 39 by decide, show 2 * 20 - 2 = 38 by decide,
      show 80 * (s + 39) + 80 = 80 * (s + 40) by omega]
    iintro ⟨Hd, HA, HB⟩
    iapply (rowsAre_join (lo := 80 * s) (mid := 80 * (s + 39)) (hi := 80 * (s + 40)) (by omega) (by omega))
    isplitl [Hd HA]
    · iapply (rowsAre_join (lo := 80 * s) (mid := 80 * (s + 38)) (hi := 80 * (s + 39)) (by omega) (by omega))
      isplitl [Hd]; · iexact Hd
      iexact HA
    iexact HB

set_option maxHeartbeats 8000000 in
/-- The pair's second chunk, its rows there and its outgoing buffer free. -/
theorem bc_odd (I : ℕ → BitVec 32) (hI : ∀ k < 3200, I k = S (bidOff i + k)) (hlt : ∀ k < 100000, (S k).toNat < 512)
    (hH : arg2.view.read (Elt F) fH = buf2 H) (v61 : BitVec 32) (t : Fin (k2_t1_loop i).trips) (ht : t.val < 20) (k2_h8 : k2_cond8 i t = 1#1) :
    iprop(Transfers.MayWaits (thr2 d i) (none : HIx 2) O ∗ Ow (thr2 d i) O W ∗ OwnI (F := F) (thr2 d i) arg6 I ∗ Own2 (thr2 d i) arg11 V
    ∗ SlotIn d ((i 0).castLE hcore2) ((i 1).castLE hsub2) arg2 arg7 arg12.sem qa fH (fun k => bRows H (bstart (wid2 i)) k) (bcnt (wid2 i)) (2 * t.val + 2)
    ∗ (arg2.view.loc (thr2 d i) ↦[Finset.univ]{qb} fH) ∗ Own2 (thr2 d i) arg8 (bRows H (bstart (wid2 i)) (2 * t.val + 1)) ∗ semVal (thr2 d i, SemLoc.dma arg13.sem) 0
    ∗ SlotOut d ((i 0).castLE hcore2) ((i 1).castLE hsub2) arg5 arg9 arg14.sem (bOut H V S) (False) (80 * (bstart (wid2 i) + (2 * t.val))) (80 * (bstart (wid2 i) + (2 * t.val)) + 80)
    ∗ (∃ P', Own2 (thr2 d i) arg10 P') ∗ semVal (thr2 d i, SemLoc.dma arg15.sem) 0
    ∗ RowsAre d ((i 0).castLE hcore2) ((i 1).castLE hsub2) arg5 (bOut H V S) (80 * bstart (wid2 i)) (80 * (bstart (wid2 i) + 2 * t.val))
    ∗ RowsAny d ((i 0).castLE hcore2) ((i 1).castLE hsub2) arg5 (80 * (bstart (wid2 i) + (2 * t.val + 1))) (80 * (bstart (wid2 i) + bcnt (wid2 i))))
      ⊢ wp frame (wpE D₀ 𝒱₀ (thr2 d i) none) Set.univ (do
        Scf.Loop.for k2_t5_loop (k2_t5_ok i t k2_h8) () (k2_t5_body i arg2 harg2 arg3 harg3 arg4 harg4 arg5 harg5 arg6 harg6 arg7 harg7 arg8 harg8 arg9 harg9 arg10 harg10 arg11 harg11 arg12 arg13 arg14 arg15 v49_r0 v49_r1 t k2_h8 v61)
        Prog.lift (.enqueueDma arg10 (.here (arg5.slice (Rect.unit (s := S100000x128) (k2_off112 i t) S80x128.size (k2_off112_inb i t k2_h8)) (fun _ => rfl))) (.dma arg15.sem) harg10.wordExact (View.wordExact_bits rfl) ⟨Or.inl rfl, trivial⟩)
        if k2_h12 : k2_cond12 i t = 1#1 then do
          Prog.lift (.enqueueDma (arg2.slice (Rect.unit (s := S100000x128) (k2_off113 i t) S80x128.size (k2_off113_inb i t k2_h8 k2_h12)) (fun _ => rfl)) (.here arg8) (.dma arg13.sem) (View.wordExact_bits rfl) harg8.wordExact ⟨Or.inl rfl, trivial⟩)
          pure ()
        else do
          pure () : Prog (TpuEff nD τ sig (Elt F) Λ₀ (.scVector ((i 0).castLE hcore2) ((i 1).castLE hsub2))) Unit)
        (fun _ => BcInv d i arg2 arg5 arg6 arg7 arg8 arg9 arg10 arg11 arg12 arg13 arg14 arg15 O W H V S qa qb fH I (t.val + 1)) := by
  have hc := bcnt_le (wid2 i)
  have hc' := bcnt_ge (wid2 i)
  have hB := (bcond8_iff i t).1 k2_h8
  unfold BcInv
  rw [show min (2 * (t.val + 1) - 2) (bcnt (wid2 i) - 2) = 2 * t.val by omega, show min (2 * (t.val + 1)) (bcnt (wid2 i)) = 2 * t.val + 2 by omega,
    show 2 * (t.val + 1) - 2 = 2 * t.val by omega, show 2 * (t.val + 1) - 1 = 2 * t.val + 1 by omega, if_pos hB, show 2 * (t.val + 1) = 2 * t.val + 2 by omega]
  iintro ⟨#Hm, Ho, HI, HV, HA, Hs, HB, HvB, HoA, ⟨%P, HoB⟩, HvoB, Hd, Hr⟩
  rw [wp_bind]
  iapply (bB_run harg2 harg3 harg4 harg5 harg6 harg7 harg8 harg9 harg10 harg11 t k2_h8 _ I V _ P (bids_small i S I hI hlt (2 * t.val + 1) _ hB (by omega))) $$ [HI HV HB HoB]
  · isplitl [HI]; · iexact HI
    isplitl [HV]; · iexact HV
    isplitl [HB]; · iexact HB
    iexact HoB
  iintro ⟨HI, HV, HB, HoB⟩
  ihave Hr := (rowsAny_split (lo := 80 * (bstart (wid2 i) + (2 * t.val + 1))) (mid := 80 * (bstart (wid2 i) + (2 * t.val + 2))) (hi := 80 * (bstart (wid2 i) + bcnt (wid2 i))) (by omega) (by omega)) $$ Hr
  icases Hr with ⟨Hc, Hr⟩
  rw [wp_bind]
  iapply (chunkOut D₀ (T := bOut H V S) (r := 80 * (bstart (wid2 i) + (2 * t.val + 1))) (r' := 80 * (bstart (wid2 i) + (2 * t.val + 2))) (boff112_eq i t) (by omega) (bOut_chunk i H V P S I hI (2 * t.val + 1) (160 * t.val + 80) hB (by omega))) $$ [HoB Hc HvoB]
  · isplitl [HoB]; · iexact HoB
    isplitl [Hc]; · iexact Hc
    iexact HvoB
  iintro HoB
  by_cases h12 : 2 * t.val + 3 < bcnt (wid2 i)
  · rw [dif_pos ((bcond12_iff i t).2 h12), wp_bind]
    iapply (chunkIn D₀ d _ _ (by decide) (fs := fH) hH (boff113_eq i t) (R := bRows H (bstart (wid2 i)) (2 * t.val + 3)) (fun _ _ => rfl)) $$ [Hs HB HvB]
    · isplitl [Hs]; · iexact Hs
      isplitl [HB]; · iexists _; iexact HB
      iexact HvB
    iintro Hf
    rw [wp_pure]; imodintro
    isplitl []; · iexact Hm
    isplitl [Ho]; · iexact Ho
    isplitl [HI]; · iexact HI
    isplitl [HV]; · iexact HV
    isplitl [HA]; · iexact HA
    isplitl [Hf]; · unfold SlotIn; rw [if_pos (show 2 * t.val + 2 + 1 < bcnt (wid2 i) by omega)]; iexact Hf
    isplitl [HoA]; · iapply (slotOut_busy (show ¬ False from id) (show ¬ t.val + 1 = 0 by omega)); iexact HoA
    isplitl [HoB]; · iapply (slotOut_fly (hi := 80 * (bstart (wid2 i) + (2 * t.val + 2))) (hi' := 80 * (bstart (wid2 i) + (2 * t.val + 1)) + 80) (show ¬ t.val + 1 = 0 by omega) (by omega)); iexact HoB
    isplitl [Hd]; · iexact Hd
    iexact Hr
  · rw [dif_neg (fun h => h12 ((bcond12_iff i t).1 h)), wp_pure]; imodintro
    isplitl []; · iexact Hm
    isplitl [Ho]; · iexact Ho
    isplitl [HI]; · iexact HI
    isplitl [HV]; · iexact HV
    isplitl [HA]; · iexact HA
    isplitl [Hs HB HvB]
    · unfold SlotIn; rw [if_neg (show ¬ 2 * t.val + 2 + 1 < bcnt (wid2 i) by omega)]
      isplitl [Hs]; · iexact Hs
      isplitl [HB]; · iexists _; iexact HB
      iexact HvB
    isplitl [HoA]; · iapply (slotOut_busy (show ¬ False from id) (show ¬ t.val + 1 = 0 by omega)); iexact HoA
    isplitl [HoB]; · iapply (slotOut_fly (hi := 80 * (bstart (wid2 i) + (2 * t.val + 2))) (hi' := 80 * (bstart (wid2 i) + (2 * t.val + 1)) + 80) (show ¬ t.val + 1 = 0 by omega) (by omega)); iexact HoB
    isplitl [Hd]; · iexact Hd
    iexact Hr

set_option maxHeartbeats 8000000 in
/-- The pair's second chunk, if there is one. -/
theorem bc_second (I : ℕ → BitVec 32) (hI : ∀ k < 3200, I k = S (bidOff i + k)) (hlt : ∀ k < 100000, (S k).toNat < 512)
    (hH : arg2.view.read (Elt F) fH = buf2 H) (v4 v19 v50 : BitVec 32) (v67 : BitVec 1) (t : Fin (k2_t1_loop i).trips) (ht : t.val < 20) (h67 : v67 = 1#1 ↔ 1 ≤ t.val) :
    BcMid d i arg2 arg5 arg6 arg7 arg8 arg9 arg10 arg11 arg12 arg13 arg14 arg15 O W H V S qa qb fH I t.val
      ⊢ wp frame (wpE D₀ 𝒱₀ (thr2 d i) none) Set.univ (
        if k2_h8 : k2_cond8 i t = 1#1 then do
          Prog.lift (.waitDma2 arg13.sem (arg2.slice (Rect.unit (s := S100000x128) ![0, 0] S80x128.size inb_S100000x128_S80x128_0_0) (fun _ => rfl)) arg8 (View.wordExact_bits rfl) harg8.wordExact)
          if k2_h9 : v67 = 1#1 then do
            Prog.lift (.waitDma2 arg15.sem arg10 (arg5.slice (Rect.unit (s := S100000x128) ![0, 0] S80x128.size inb_S100000x128_S80x128_0_0) (fun _ => rfl)) harg10.wordExact (View.wordExact_bits rfl))
            Scf.Loop.for k2_t5_loop (k2_t5_ok i t k2_h8) () (k2_t5_body i arg2 harg2 arg3 harg3 arg4 harg4 arg5 harg5 arg6 harg6 arg7 harg7 arg8 harg8 arg9 harg9 arg10 harg10 arg11 harg11 arg12 arg13 arg14 arg15 v49_r0 v49_r1 t k2_h8 (Scalar.addi v19 (Scalar.muli (Scalar.subi (Scalar.addi v50 1#32) v4) 80#32)))
            Prog.lift (.enqueueDma arg10 (.here (arg5.slice (Rect.unit (s := S100000x128) (k2_off112 i t) S80x128.size (k2_off112_inb i t k2_h8)) (fun _ => rfl))) (.dma arg15.sem) harg10.wordExact (View.wordExact_bits rfl) ⟨Or.inl rfl, trivial⟩)
            if k2_h12 : k2_cond12 i t = 1#1 then do
              Prog.lift (.enqueueDma (arg2.slice (Rect.unit (s := S100000x128) (k2_off113 i t) S80x128.size (k2_off113_inb i t k2_h8 k2_h12)) (fun _ => rfl)) (.here arg8) (.dma arg13.sem) (View.wordExact_bits rfl) harg8.wordExact ⟨Or.inl rfl, trivial⟩)
              pure ()
            else do
              pure ()
          else do
            Scf.Loop.for k2_t5_loop (k2_t5_ok i t k2_h8) () (k2_t5_body i arg2 harg2 arg3 harg3 arg4 harg4 arg5 harg5 arg6 harg6 arg7 harg7 arg8 harg8 arg9 harg9 arg10 harg10 arg11 harg11 arg12 arg13 arg14 arg15 v49_r0 v49_r1 t k2_h8 (Scalar.addi v19 (Scalar.muli (Scalar.subi (Scalar.addi v50 1#32) v4) 80#32)))
            Prog.lift (.enqueueDma arg10 (.here (arg5.slice (Rect.unit (s := S100000x128) (k2_off112 i t) S80x128.size (k2_off112_inb i t k2_h8)) (fun _ => rfl))) (.dma arg15.sem) harg10.wordExact (View.wordExact_bits rfl) ⟨Or.inl rfl, trivial⟩)
            if k2_h12 : k2_cond12 i t = 1#1 then do
              Prog.lift (.enqueueDma (arg2.slice (Rect.unit (s := S100000x128) (k2_off113 i t) S80x128.size (k2_off113_inb i t k2_h8 k2_h12)) (fun _ => rfl)) (.here arg8) (.dma arg13.sem) (View.wordExact_bits rfl) harg8.wordExact ⟨Or.inl rfl, trivial⟩)
              pure ()
            else do
              pure ()
        else do
          pure () : Prog (TpuEff nD τ sig (Elt F) Λ₀ (.scVector ((i 0).castLE hcore2) ((i 1).castLE hsub2))) Unit)
        (fun _ => BcInv d i arg2 arg5 arg6 arg7 arg8 arg9 arg10 arg11 arg12 arg13 arg14 arg15 O W H V S qa qb fH I (t.val + 1)) := by
  have hc := bcnt_le (wid2 i)
  have hc' := bcnt_ge (wid2 i)
  unfold BcMid
  by_cases hB : 2 * t.val + 1 < bcnt (wid2 i)
  · rw [show SlotIn d ((i 0).castLE hcore2) ((i 1).castLE hsub2) arg2 arg8 arg13.sem qb fH (fun k => bRows H (bstart (wid2 i)) k) (bcnt (wid2 i)) (2 * t.val + 1) = _ from if_pos hB]
    by_cases h0 : t.val = 0
    · rw [show SlotOut d ((i 0).castLE hcore2) ((i 1).castLE hsub2) arg5 arg10 arg15.sem (bOut H V S) (t.val = 0) (80 * (bstart (wid2 i) + (2 * t.val - 1))) (80 * (bstart (wid2 i) + (2 * t.val - 1)) + 80) = _ from if_pos h0]
      rw [show 2 * t.val - 1 = 2 * t.val by omega]
      iintro ⟨#Hm, Ho, HI, HV, HA, HB, HoA, ⟨HoB, HvoB⟩, Hd, Hr⟩
      rw [dif_pos ((bcond8_iff i t).2 hB), wp_bind]
      iapply (waitFor D₀ d _ _ rfl) $$ [HB Ho]
      · isplitl [HB]; · iexact HB
        isplitl [Ho]; · iexact Ho
        iexact Hm
      iintro ⟨⟨HB, Hs⟩, HvB, Ho⟩
      rw [dif_neg (fun h => absurd (h67.1 h) (by omega))]
      iapply (bc_odd D₀ d i arg2 harg2 arg3 harg3 arg4 harg4 arg5 harg5 arg6 harg6 arg7 harg7 arg8 harg8 arg9 harg9 arg10 harg10 arg11 harg11 arg12 arg13 arg14 arg15 v49_r0 v49_r1 O W H V S qa qb fH I hI hlt hH _ t ht ((bcond8_iff i t).2 hB))
      isplitl []; · iexact Hm
      isplitl [Ho]; · iexact Ho
      isplitl [HI]; · iexact HI
      isplitl [HV]; · iexact HV
      isplitl [HA]; · iexact HA
      isplitl [Hs]; · iexact Hs
      isplitl [HB]; · iexact HB
      isplitl [HvB]; · iexact HvB
      isplitl [HoA]; · iexact HoA
      isplitl [HoB]; · iexact HoB
      isplitl [HvoB]; · iexact HvoB
      isplitl [Hd]; · iexact Hd
      iexact Hr
    · rw [show SlotOut d ((i 0).castLE hcore2) ((i 1).castLE hsub2) arg5 arg10 arg15.sem (bOut H V S) (t.val = 0) (80 * (bstart (wid2 i) + (2 * t.val - 1))) (80 * (bstart (wid2 i) + (2 * t.val - 1)) + 80) = _ from if_neg h0]
      iintro ⟨#Hm, Ho, HI, HV, HA, HB, HoA, HoB, Hd, Hr⟩
      rw [dif_pos ((bcond8_iff i t).2 hB), wp_bind]
      iapply (waitFor D₀ d _ _ rfl) $$ [HB Ho]
      · isplitl [HB]; · iexact HB
        isplitl [Ho]; · iexact Ho
        iexact Hm
      iintro ⟨⟨HB, Hs⟩, HvB, Ho⟩
      rw [dif_pos (h67.2 (by omega)), wp_bind]
      iapply (waitFor D₀ d _ _ rfl) $$ [HoB Ho]
      · isplitl [HoB]; · iexact HoB
        isplitl [Ho]; · iexact Ho
        iexact Hm
      iintro ⟨⟨HoB, Hc⟩, HvoB, Ho⟩
      iapply (bc_odd D₀ d i arg2 harg2 arg3 harg3 arg4 harg4 arg5 harg5 arg6 harg6 arg7 harg7 arg8 harg8 arg9 harg9 arg10 harg10 arg11 harg11 arg12 arg13 arg14 arg15 v49_r0 v49_r1 O W H V S qa qb fH I hI hlt hH _ t ht ((bcond8_iff i t).2 hB))
      isplitl []; · iexact Hm
      isplitl [Ho]; · iexact Ho
      isplitl [HI]; · iexact HI
      isplitl [HV]; · iexact HV
      isplitl [HA]; · iexact HA
      isplitl [Hs]; · iexact Hs
      isplitl [HB]; · iexact HB
      isplitl [HvB]; · iexact HvB
      isplitl [HoA]; · iexact HoA
      isplitl [HoB]; · iexact HoB
      isplitl [HvoB]; · iexact HvoB
      isplitl [Hd Hc]
      · rw [show 80 * (bstart (wid2 i) + 2 * t.val) = 80 * (bstart (wid2 i) + (2 * t.val - 1)) + 80 by omega]
        iapply (rowsAre_join (lo := 80 * bstart (wid2 i)) (mid := 80 * (bstart (wid2 i) + (2 * t.val - 1))) (hi := 80 * (bstart (wid2 i) + (2 * t.val - 1)) + 80) (by omega) (by omega))
        isplitl [Hd]; · iexact Hd
        iexact Hc
      iexact Hr
  · unfold BcInv
    rw [show min (2 * (t.val + 1) - 2) (bcnt (wid2 i) - 2) = 2 * t.val - 1 by omega, show min (2 * (t.val + 1)) (bcnt (wid2 i)) = 2 * t.val + 1 by omega,
      show 2 * (t.val + 1) - 2 = 2 * t.val by omega, if_neg (show ¬ 2 * (t.val + 1) - 1 < bcnt (wid2 i) by omega), show 2 * (t.val + 1) - 3 = 2 * t.val - 1 by omega, show 2 * (t.val + 1) = 2 * t.val + 2 by omega,
      show SlotIn d ((i 0).castLE hcore2) ((i 1).castLE hsub2) arg2 arg8 arg13.sem qb fH (fun k => bRows H (bstart (wid2 i)) k) (bcnt (wid2 i)) (2 * t.val + 1) = _ from if_neg hB,
      show SlotIn d ((i 0).castLE hcore2) ((i 1).castLE hsub2) arg2 arg8 arg13.sem qb fH (fun k => bRows H (bstart (wid2 i)) k) (bcnt (wid2 i)) (2 * t.val + 2 + 1) = _ from if_neg (by omega),
      show SlotOut d ((i 0).castLE hcore2) ((i 1).castLE hsub2) arg5 arg10 arg15.sem (bOut H V S) (t.val = 0) (80 * (bstart (wid2 i) + (2 * t.val - 1))) (80 * (bstart (wid2 i) + (2 * t.val - 1)) + 80) = _ from if_neg (by omega),
      show SlotOut d ((i 0).castLE hcore2) ((i 1).castLE hsub2) arg5 arg10 arg15.sem (bOut H V S) (t.val + 1 = 0) (80 * (bstart (wid2 i) + (2 * t.val - 1))) (80 * (bstart (wid2 i) + (2 * t.val - 1)) + 80) = _ from if_neg (by omega)]
    iintro ⟨#Hm, Ho, HI, HV, HA, HB, HoA, HoB, Hd, Hr⟩
    rw [dif_neg (fun h => hB ((bcond8_iff i t).1 h)), wp_pure]
    imodintro
    isplitl []; · iexact Hm
    isplitl [Ho]; · iexact Ho
    isplitl [HI]; · iexact HI
    isplitl [HV]; · iexact HV
    isplitl [HA]; · iexact HA
    isplitl [HB]; · iexact HB
    isplitl [HoA]; · iapply (slotOut_busy (show ¬ False from id) (show ¬ t.val + 1 = 0 by omega)); iexact HoA
    isplitl [HoB]; · iexact HoB
    isplitl [Hd]; · iexact Hd
    iexact Hr

set_option maxHeartbeats 8000000 in
/-- The pair's first chunk, its rows there and its outgoing buffer free, then the second. -/
theorem bc_even (I : ℕ → BitVec 32) (hI : ∀ k < 3200, I k = S (bidOff i + k)) (hlt : ∀ k < 100000, (S k).toNat < 512)
    (hH : arg2.view.read (Elt F) fH = buf2 H) (v4 v19 v50 v61 : BitVec 32) (v67 : BitVec 1) (t : Fin (k2_t1_loop i).trips) (ht : t.val < 20) (h67 : v67 = 1#1 ↔ 1 ≤ t.val) (k2_h3 : k2_cond3 i t = 1#1) :
    iprop(Transfers.MayWaits (thr2 d i) (none : HIx 2) O ∗ Ow (thr2 d i) O W ∗ OwnI (F := F) (thr2 d i) arg6 I ∗ Own2 (thr2 d i) arg11 V
    ∗ (arg2.view.loc (thr2 d i) ↦[Finset.univ]{qa} fH) ∗ Own2 (thr2 d i) arg7 (bRows H (bstart (wid2 i)) (2 * t.val)) ∗ semVal (thr2 d i, SemLoc.dma arg12.sem) 0
    ∗ SlotIn d ((i 0).castLE hcore2) ((i 1).castLE hsub2) arg2 arg8 arg13.sem qb fH (fun k => bRows H (bstart (wid2 i)) k) (bcnt (wid2 i)) (2 * t.val + 1)
    ∗ (∃ P', Own2 (thr2 d i) arg9 P') ∗ semVal (thr2 d i, SemLoc.dma arg14.sem) 0
    ∗ SlotOut d ((i 0).castLE hcore2) ((i 1).castLE hsub2) arg5 arg10 arg15.sem (bOut H V S) (t.val = 0) (80 * (bstart (wid2 i) + (2 * t.val - 1))) (80 * (bstart (wid2 i) + (2 * t.val - 1)) + 80)
    ∗ RowsAre d ((i 0).castLE hcore2) ((i 1).castLE hsub2) arg5 (bOut H V S) (80 * bstart (wid2 i)) (80 * (bstart (wid2 i) + (2 * t.val - 1)))
    ∗ RowsAny d ((i 0).castLE hcore2) ((i 1).castLE hsub2) arg5 (80 * (bstart (wid2 i) + 2 * t.val)) (80 * (bstart (wid2 i) + bcnt (wid2 i))))
      ⊢ wp frame (wpE D₀ 𝒱₀ (thr2 d i) none) Set.univ (do
        Scf.Loop.for k2_t2_loop (k2_t2_ok i t k2_h3) () (k2_t2_body i arg2 harg2 arg3 harg3 arg4 harg4 arg5 harg5 arg6 harg6 arg7 harg7 arg8 harg8 arg9 harg9 arg10 harg10 arg11 harg11 arg12 arg13 arg14 arg15 v49_r0 v49_r1 t k2_h3 v61)
        Prog.lift (.enqueueDma arg9 (.here (arg5.slice (Rect.unit (s := S100000x128) (k2_off57 i t) S80x128.size (k2_off57_inb i t k2_h3)) (fun _ => rfl))) (.dma arg14.sem) harg9.wordExact (View.wordExact_bits rfl) ⟨Or.inl rfl, trivial⟩)
        if k2_h7 : k2_cond7 i t = 1#1 then do
          Prog.lift (.enqueueDma (arg2.slice (Rect.unit (s := S100000x128) (k2_off58 i t) S80x128.size (k2_off58_inb i t k2_h3 k2_h7)) (fun _ => rfl)) (.here arg7) (.dma arg12.sem) (View.wordExact_bits rfl) harg7.wordExact ⟨Or.inl rfl, trivial⟩)
          if k2_h8 : k2_cond8 i t = 1#1 then do
            Prog.lift (.waitDma2 arg13.sem (arg2.slice (Rect.unit (s := S100000x128) ![0, 0] S80x128.size inb_S100000x128_S80x128_0_0) (fun _ => rfl)) arg8 (View.wordExact_bits rfl) harg8.wordExact)
            if k2_h9 : v67 = 1#1 then do
              Prog.lift (.waitDma2 arg15.sem arg10 (arg5.slice (Rect.unit (s := S100000x128) ![0, 0] S80x128.size inb_S100000x128_S80x128_0_0) (fun _ => rfl)) harg10.wordExact (View.wordExact_bits rfl))
              Scf.Loop.for k2_t5_loop (k2_t5_ok i t k2_h8) () (k2_t5_body i arg2 harg2 arg3 harg3 arg4 harg4 arg5 harg5 arg6 harg6 arg7 harg7 arg8 harg8 arg9 harg9 arg10 harg10 arg11 harg11 arg12 arg13 arg14 arg15 v49_r0 v49_r1 t k2_h8 (Scalar.addi v19 (Scalar.muli (Scalar.subi (Scalar.addi v50 1#32) v4) 80#32)))
              Prog.lift (.enqueueDma arg10 (.here (arg5.slice (Rect.unit (s := S100000x128) (k2_off112 i t) S80x128.size (k2_off112_inb i t k2_h8)) (fun _ => rfl))) (.dma arg15.sem) harg10.wordExact (View.wordExact_bits rfl) ⟨Or.inl rfl, trivial⟩)
              if k2_h12 : k2_cond12 i t = 1#1 then do
                Prog.lift (.enqueueDma (arg2.slice (Rect.unit (s := S100000x128) (k2_off113 i t) S80x128.size (k2_off113_inb i t k2_h8 k2_h12)) (fun _ => rfl)) (.here arg8) (.dma arg13.sem) (View.wordExact_bits rfl) harg8.wordExact ⟨Or.inl rfl, trivial⟩)
                pure ()
              else do
                pure ()
            else do
              Scf.Loop.for k2_t5_loop (k2_t5_ok i t k2_h8) () (k2_t5_body i arg2 harg2 arg3 harg3 arg4 harg4 arg5 harg5 arg6 harg6 arg7 harg7 arg8 harg8 arg9 harg9 arg10 harg10 arg11 harg11 arg12 arg13 arg14 arg15 v49_r0 v49_r1 t k2_h8 (Scalar.addi v19 (Scalar.muli (Scalar.subi (Scalar.addi v50 1#32) v4) 80#32)))
              Prog.lift (.enqueueDma arg10 (.here (arg5.slice (Rect.unit (s := S100000x128) (k2_off112 i t) S80x128.size (k2_off112_inb i t k2_h8)) (fun _ => rfl))) (.dma arg15.sem) harg10.wordExact (View.wordExact_bits rfl) ⟨Or.inl rfl, trivial⟩)
              if k2_h12 : k2_cond12 i t = 1#1 then do
                Prog.lift (.enqueueDma (arg2.slice (Rect.unit (s := S100000x128) (k2_off113 i t) S80x128.size (k2_off113_inb i t k2_h8 k2_h12)) (fun _ => rfl)) (.here arg8) (.dma arg13.sem) (View.wordExact_bits rfl) harg8.wordExact ⟨Or.inl rfl, trivial⟩)
                pure ()
              else do
                pure ()
          else do
            pure ()
        else do
          if k2_h8 : k2_cond8 i t = 1#1 then do
            Prog.lift (.waitDma2 arg13.sem (arg2.slice (Rect.unit (s := S100000x128) ![0, 0] S80x128.size inb_S100000x128_S80x128_0_0) (fun _ => rfl)) arg8 (View.wordExact_bits rfl) harg8.wordExact)
            if k2_h9 : v67 = 1#1 then do
              Prog.lift (.waitDma2 arg15.sem arg10 (arg5.slice (Rect.unit (s := S100000x128) ![0, 0] S80x128.size inb_S100000x128_S80x128_0_0) (fun _ => rfl)) harg10.wordExact (View.wordExact_bits rfl))
              Scf.Loop.for k2_t5_loop (k2_t5_ok i t k2_h8) () (k2_t5_body i arg2 harg2 arg3 harg3 arg4 harg4 arg5 harg5 arg6 harg6 arg7 harg7 arg8 harg8 arg9 harg9 arg10 harg10 arg11 harg11 arg12 arg13 arg14 arg15 v49_r0 v49_r1 t k2_h8 (Scalar.addi v19 (Scalar.muli (Scalar.subi (Scalar.addi v50 1#32) v4) 80#32)))
              Prog.lift (.enqueueDma arg10 (.here (arg5.slice (Rect.unit (s := S100000x128) (k2_off112 i t) S80x128.size (k2_off112_inb i t k2_h8)) (fun _ => rfl))) (.dma arg15.sem) harg10.wordExact (View.wordExact_bits rfl) ⟨Or.inl rfl, trivial⟩)
              if k2_h12 : k2_cond12 i t = 1#1 then do
                Prog.lift (.enqueueDma (arg2.slice (Rect.unit (s := S100000x128) (k2_off113 i t) S80x128.size (k2_off113_inb i t k2_h8 k2_h12)) (fun _ => rfl)) (.here arg8) (.dma arg13.sem) (View.wordExact_bits rfl) harg8.wordExact ⟨Or.inl rfl, trivial⟩)
                pure ()
              else do
                pure ()
            else do
              Scf.Loop.for k2_t5_loop (k2_t5_ok i t k2_h8) () (k2_t5_body i arg2 harg2 arg3 harg3 arg4 harg4 arg5 harg5 arg6 harg6 arg7 harg7 arg8 harg8 arg9 harg9 arg10 harg10 arg11 harg11 arg12 arg13 arg14 arg15 v49_r0 v49_r1 t k2_h8 (Scalar.addi v19 (Scalar.muli (Scalar.subi (Scalar.addi v50 1#32) v4) 80#32)))
              Prog.lift (.enqueueDma arg10 (.here (arg5.slice (Rect.unit (s := S100000x128) (k2_off112 i t) S80x128.size (k2_off112_inb i t k2_h8)) (fun _ => rfl))) (.dma arg15.sem) harg10.wordExact (View.wordExact_bits rfl) ⟨Or.inl rfl, trivial⟩)
              if k2_h12 : k2_cond12 i t = 1#1 then do
                Prog.lift (.enqueueDma (arg2.slice (Rect.unit (s := S100000x128) (k2_off113 i t) S80x128.size (k2_off113_inb i t k2_h8 k2_h12)) (fun _ => rfl)) (.here arg8) (.dma arg13.sem) (View.wordExact_bits rfl) harg8.wordExact ⟨Or.inl rfl, trivial⟩)
                pure ()
              else do
                pure ()
          else do
            pure () : Prog (TpuEff nD τ sig (Elt F) Λ₀ (.scVector ((i 0).castLE hcore2) ((i 1).castLE hsub2))) Unit)
        (fun _ => BcInv d i arg2 arg5 arg6 arg7 arg8 arg9 arg10 arg11 arg12 arg13 arg14 arg15 O W H V S qa qb fH I (t.val + 1)) := by
  have hc := bcnt_le (wid2 i)
  have hc' := bcnt_ge (wid2 i)
  have hA : 2 * t.val < bcnt (wid2 i) := by omega
  iintro ⟨#Hm, Ho, HI, HV, Hs, HA, HvA, HB, ⟨%P, HoA⟩, HvoA, HoB, Hd, Hr⟩
  rw [wp_bind]
  iapply (bA_run harg2 harg3 harg4 harg5 harg6 harg7 harg8 harg9 harg10 harg11 t k2_h3 _ I V _ P (bids_small i S I hI hlt (2 * t.val) _ hA (by omega))) $$ [HI HV HA HoA]
  · isplitl [HI]; · iexact HI
    isplitl [HV]; · iexact HV
    isplitl [HA]; · iexact HA
    iexact HoA
  iintro ⟨HI, HV, HA, HoA⟩
  ihave Hr := (rowsAny_split (lo := 80 * (bstart (wid2 i) + 2 * t.val)) (mid := 80 * (bstart (wid2 i) + (2 * t.val + 1))) (hi := 80 * (bstart (wid2 i) + bcnt (wid2 i))) (by omega) (by omega)) $$ Hr
  icases Hr with ⟨Hc, Hr⟩
  rw [wp_bind]
  iapply (chunkOut D₀ (T := bOut H V S) (r := 80 * (bstart (wid2 i) + 2 * t.val)) (r' := 80 * (bstart (wid2 i) + (2 * t.val + 1))) (boff57_eq i t) (by omega) (bOut_chunk i H V P S I hI (2 * t.val) (160 * t.val) hA (by omega))) $$ [HoA Hc HvoA]
  · isplitl [HoA]; · iexact HoA
    isplitl [Hc]; · iexact Hc
    iexact HvoA
  iintro HoA
  by_cases h7 : 2 * t.val + 2 < bcnt (wid2 i)
  · rw [dif_pos ((bcond7_iff i t).2 h7), wp_bind]
    iapply (chunkIn D₀ d _ _ (by decide) (fs := fH) hH (boff58_eq i t) (R := bRows H (bstart (wid2 i)) (2 * t.val + 2)) (fun _ _ => rfl)) $$ [Hs HA HvA]
    · isplitl [Hs]; · iexact Hs
      isplitl [HA]; · iexists _; iexact HA
      iexact HvA
    iintro Hf
    iapply (bc_second D₀ d i arg2 harg2 arg3 harg3 arg4 harg4 arg5 harg5 arg6 harg6 arg7 harg7 arg8 harg8 arg9 harg9 arg10 harg10 arg11 harg11 arg12 arg13 arg14 arg15 v49_r0 v49_r1 O W H V S qa qb fH I hI hlt hH v4 v19 v50 v67 t ht h67)
    unfold BcMid
    isplitl []; · iexact Hm
    isplitl [Ho]; · iexact Ho
    isplitl [HI]; · iexact HI
    isplitl [HV]; · iexact HV
    isplitl [Hf]; · unfold SlotIn; rw [if_pos h7]; iexact Hf
    isplitl [HB]; · iexact HB
    isplitl [HoA]; · iapply (slotOut_fly (hi := 80 * (bstart (wid2 i) + (2 * t.val + 1))) (hi' := 80 * (bstart (wid2 i) + (2 * t.val)) + 80) (show ¬ False from id) (by omega)); iexact HoA
    isplitl [HoB]; · iexact HoB
    isplitl [Hd]; · iexact Hd
    iexact Hr
  · rw [dif_neg (fun h => h7 ((bcond7_iff i t).1 h))]
    iapply (bc_second D₀ d i arg2 harg2 arg3 harg3 arg4 harg4 arg5 harg5 arg6 harg6 arg7 harg7 arg8 harg8 arg9 harg9 arg10 harg10 arg11 harg11 arg12 arg13 arg14 arg15 v49_r0 v49_r1 O W H V S qa qb fH I hI hlt hH v4 v19 v50 v67 t ht h67)
    unfold BcMid
    isplitl []; · iexact Hm
    isplitl [Ho]; · iexact Ho
    isplitl [HI]; · iexact HI
    isplitl [HV]; · iexact HV
    isplitl [Hs HA HvA]
    · unfold SlotIn; rw [if_neg h7]
      isplitl [Hs]; · iexact Hs
      isplitl [HA]; · iexists _; iexact HA
      iexact HvA
    isplitl [HB]; · iexact HB
    isplitl [HoA]; · iapply (slotOut_fly (hi := 80 * (bstart (wid2 i) + (2 * t.val + 1))) (hi' := 80 * (bstart (wid2 i) + (2 * t.val)) + 80) (show ¬ False from id) (by omega)); iexact HoA
    isplitl [HoB]; · iexact HoB
    isplitl [Hd]; · iexact Hd
    iexact Hr

set_option maxHeartbeats 8000000 in
theorem bc_step (I : ℕ → BitVec 32) (hI : ∀ k < 3200, I k = S (bidOff i + k)) (hlt : ∀ k < 100000, (S k).toNat < 512)
    (hH : arg2.view.read (Elt F) fH = buf2 H) (v4 v19 : BitVec 32) (hv4 : v4 = v4E i) (t : Fin (k2_t1_loop i).trips) :
    BcInv d i arg2 arg5 arg6 arg7 arg8 arg9 arg10 arg11 arg12 arg13 arg14 arg15 O W H V S qa qb fH I t.val
      ⊢ wp frame (wpE D₀ 𝒱₀ (thr2 d i) none) Set.univ (k2_t1_body i arg2 harg2 arg3 harg3 arg4 harg4 arg5 harg5 arg6 harg6 arg7 harg7 arg8 harg8 arg9 harg9 arg10 harg10 arg11 harg11 arg12 arg13 arg14 arg15 v49_r0 v49_r1 v4 v19 t ())
        (fun _ => BcInv d i arg2 arg5 arg6 arg7 arg8 arg9 arg10 arg11 arg12 arg13 arg14 arg15 O W H V S qa qb fH I (t.val + 1)) := by
  have ht : t.val < 20 := lt_of_lt_of_eq t.isLt (u1_trips i)
  have hc := bcnt_le (wid2 i)
  have hc' := bcnt_ge (wid2 i)
  have hA : 2 * t.val < bcnt (wid2 i) := by omega
  subst hv4
  unfold k2_t1_body
  rw [show BcInv d i arg2 arg5 arg6 arg7 arg8 arg9 arg10 arg11 arg12 arg13 arg14 arg15 O W H V S qa qb fH I t.val = _ from rfl]
  unfold BcInv
  rw [show SlotIn d ((i 0).castLE hcore2) ((i 1).castLE hsub2) arg2 arg7 arg12.sem qa fH (fun k => bRows H (bstart (wid2 i)) k) (bcnt (wid2 i)) (2 * t.val) = _ from if_pos hA, show min (2 * t.val - 2) (bcnt (wid2 i) - 2) = 2 * t.val - 2 by omega,
    show min (2 * t.val) (bcnt (wid2 i)) = 2 * t.val by omega, show (if 2 * t.val - 1 < bcnt (wid2 i) then 2 * t.val - 1 else 2 * t.val - 3) = 2 * t.val - 1 from if_pos (by omega)]
  by_cases h0 : t.val = 0
  · rw [show SlotOut d ((i 0).castLE hcore2) ((i 1).castLE hsub2) arg5 arg9 arg14.sem (bOut H V S) (t.val = 0) (80 * (bstart (wid2 i) + (2 * t.val - 2))) (80 * (bstart (wid2 i) + (2 * t.val - 2)) + 80) = _ from if_pos h0, show 2 * t.val - 2 = 2 * t.val - 1 by omega]
    iintro ⟨#Hm, Ho, HI, HV, HA, HB, ⟨HoA, HvoA⟩, HoB, Hd, Hr⟩
    dsimp only
    rw [dif_pos (bcond3_on i t), wp_bind]
    iapply (waitFor D₀ d _ _ rfl) $$ [HA Ho]
    · isplitl [HA]; · iexact HA
      isplitl [Ho]; · iexact Ho
      iexact Hm
    iintro ⟨⟨HA, Hs⟩, HvA, Ho⟩
    rw [dif_neg (fun h => absurd ((drainA_iff i t).1 h) (by omega))]
    iapply (bc_even D₀ d i arg2 harg2 arg3 harg3 arg4 harg4 arg5 harg5 arg6 harg6 arg7 harg7 arg8 harg8 arg9 harg9 arg10 harg10 arg11 harg11 arg12 arg13 arg14 arg15 v49_r0 v49_r1 O W H V S qa qb fH I hI hlt hH _ _ _ _ _ t ht (drainB_iff i t) (bcond3_on i t))
    isplitl []; · iexact Hm
    isplitl [Ho]; · iexact Ho
    isplitl [HI]; · iexact HI
    isplitl [HV]; · iexact HV
    isplitl [Hs]; · iexact Hs
    isplitl [HA]; · iexact HA
    isplitl [HvA]; · iexact HvA
    isplitl [HB]; · iexact HB
    isplitl [HoA]; · iexact HoA
    isplitl [HvoA]; · iexact HvoA
    isplitl [HoB]; · iexact HoB
    isplitl [Hd]; · iexact Hd
    iexact Hr
  · rw [show SlotOut d ((i 0).castLE hcore2) ((i 1).castLE hsub2) arg5 arg9 arg14.sem (bOut H V S) (t.val = 0) (80 * (bstart (wid2 i) + (2 * t.val - 2))) (80 * (bstart (wid2 i) + (2 * t.val - 2)) + 80) = _ from if_neg h0]
    iintro ⟨#Hm, Ho, HI, HV, HA, HB, HoA, HoB, Hd, Hr⟩
    dsimp only
    rw [dif_pos (bcond3_on i t), wp_bind]
    iapply (waitFor D₀ d _ _ rfl) $$ [HA Ho]
    · isplitl [HA]; · iexact HA
      isplitl [Ho]; · iexact Ho
      iexact Hm
    iintro ⟨⟨HA, Hs⟩, HvA, Ho⟩
    rw [dif_pos ((drainA_iff i t).2 (by omega)), wp_bind]
    iapply (waitFor D₀ d _ _ rfl) $$ [HoA Ho]
    · isplitl [HoA]; · iexact HoA
      isplitl [Ho]; · iexact Ho
      iexact Hm
    iintro ⟨⟨HoA, Hc⟩, HvoA, Ho⟩
    iapply (bc_even D₀ d i arg2 harg2 arg3 harg3 arg4 harg4 arg5 harg5 arg6 harg6 arg7 harg7 arg8 harg8 arg9 harg9 arg10 harg10 arg11 harg11 arg12 arg13 arg14 arg15 v49_r0 v49_r1 O W H V S qa qb fH I hI hlt hH _ _ _ _ _ t ht (drainB_iff i t) (bcond3_on i t))
    isplitl []; · iexact Hm
    isplitl [Ho]; · iexact Ho
    isplitl [HI]; · iexact HI
    isplitl [HV]; · iexact HV
    isplitl [Hs]; · iexact Hs
    isplitl [HA]; · iexact HA
    isplitl [HvA]; · iexact HvA
    isplitl [HB]; · iexact HB
    isplitl [HoA]; · iexact HoA
    isplitl [HvoA]; · iexact HvoA
    isplitl [HoB]; · iexact HoB
    isplitl [Hd Hc]
    · rw [show 80 * (bstart (wid2 i) + (2 * t.val - 1)) = 80 * (bstart (wid2 i) + (2 * t.val - 2)) + 80 by omega]
      iapply (rowsAre_join (lo := 80 * bstart (wid2 i)) (mid := 80 * (bstart (wid2 i) + (2 * t.val - 2))) (hi := 80 * (bstart (wid2 i) + (2 * t.val - 2)) + 80) (by omega) (by omega))
      isplitl [Hd]; · iexact Hd
      iexact Hc
    iexact Hr

set_option maxHeartbeats 8000000 in
/-- The broadcast's tile: its rows of the result end holding the rows of `H` plus those of `V`. -/
theorem bc_tile (hlt : ∀ k < 100000, (S k).toNat < 512)
    (hH : arg2.view.read (Elt F) fH = buf2 H) (hS : ∀ x, arg3.view.read (Elt F) fS x = S (x 0).val) (hV : arg4.view.read (Elt F) fV = buf2 V) :
    iprop(Transfers.MayWaits (thr2 d i) (none : HIx 2) O ∗ Ow (thr2 d i) O W
      ∗ (arg2.view.loc (thr2 d i) ↦[Finset.univ]{qa} fH) ∗ (arg2.view.loc (thr2 d i) ↦[Finset.univ]{qb} fH) ∗ (arg3.view.loc (thr2 d i) ↦[Finset.univ]{qs} fS) ∗ (arg4.view.loc (thr2 d i) ↦[Finset.univ]{qv} fV)
      ∗ RowsAny d ((i 0).castLE hcore2) ((i 1).castLE hsub2) arg5 (80 * bstart (wid2 i)) (80 * (bstart (wid2 i) + bcnt (wid2 i)))
      ∗ (∃ f, arg6.view.loc (thr2 d i) ↦[Finset.univ]{fullShare} f) ∗ (∃ P, Own2 (thr2 d i) arg7 P) ∗ (∃ P, Own2 (thr2 d i) arg8 P) ∗ (∃ P, Own2 (thr2 d i) arg9 P) ∗ (∃ P, Own2 (thr2 d i) arg10 P) ∗ (∃ P, Own2 (thr2 d i) arg11 P)
      ∗ semVal (thr2 d i, SemLoc.dma arg12.sem) 0 ∗ semVal (thr2 d i, SemLoc.dma arg13.sem) 0 ∗ semVal (thr2 d i, SemLoc.dma arg14.sem) 0 ∗ semVal (thr2 d i, SemLoc.dma arg15.sem) 0 ∗ semVal (thr2 d i, SemLoc.dma v49_r0.sem) 0 ∗ semVal (thr2 d i, SemLoc.dma v49_r1.sem) 0)
      ⊢ wp frame (wpE D₀ 𝒱₀ (thr2 d i) none) Set.univ (cc2__bcast i arg2 harg2 arg3 harg3 arg4 harg4 arg5 harg5 arg6 harg6 arg7 harg7 arg8 harg8 arg9 harg9 arg10 harg10 arg11 harg11 arg12 arg13 arg14 arg15 v49_r0 v49_r1)
        (fun _ => iprop(Ow (thr2 d i) O W
      ∗ (arg2.view.loc (thr2 d i) ↦[Finset.univ]{qa} fH) ∗ (arg2.view.loc (thr2 d i) ↦[Finset.univ]{qb} fH) ∗ (arg3.view.loc (thr2 d i) ↦[Finset.univ]{qs} fS) ∗ (arg4.view.loc (thr2 d i) ↦[Finset.univ]{qv} fV)
      ∗ RowsAre d ((i 0).castLE hcore2) ((i 1).castLE hsub2) arg5 (bOut H V S) (80 * bstart (wid2 i)) (80 * (bstart (wid2 i) + bcnt (wid2 i)))
      ∗ (∃ f, arg6.view.loc (thr2 d i) ↦[Finset.univ]{fullShare} f) ∗ (∃ P, Own2 (thr2 d i) arg7 P) ∗ (∃ P, Own2 (thr2 d i) arg8 P) ∗ (∃ P, Own2 (thr2 d i) arg9 P) ∗ (∃ P, Own2 (thr2 d i) arg10 P) ∗ (∃ P, Own2 (thr2 d i) arg11 P)
      ∗ semVal (thr2 d i, SemLoc.dma arg12.sem) 0 ∗ semVal (thr2 d i, SemLoc.dma arg13.sem) 0 ∗ semVal (thr2 d i, SemLoc.dma arg14.sem) 0 ∗ semVal (thr2 d i, SemLoc.dma arg15.sem) 0 ∗ semVal (thr2 d i, SemLoc.dma v49_r0.sem) 0 ∗ semVal (thr2 d i, SemLoc.dma v49_r1.sem) 0)) := by
  have hc := bcnt_le (wid2 i)
  have hc' := bcnt_ge (wid2 i)
  rw [cc2__bcast_eq_skeleton]
  unfold cc2__bcast_skel
  iintro ⟨#Hm, Ho, Ha, Hb, Hs, Hvn, Hout, ⟨%fi, HI⟩, HA, HB, HoA, HoB, HT, HvA, HvB, HvoA, HvoB, Hv0, Hv1⟩
  rw [wp_bind]
  iapply (wp_wand frame (wpE D₀ 𝒱₀ (thr2 d i) none) Set.univ (Q := fun x => iprop(⌜x.1 = v4E i ∧ x.2.1 = v7E i⌝ ∗ Ow (thr2 d i) O W ∗ Own2 (thr2 d i) arg11 V
    ∗ SlotIn d ((i 0).castLE hcore2) ((i 1).castLE hsub2) arg2 arg7 arg12.sem qa fH (fun k => bRows H (bstart (wid2 i)) k) (bcnt (wid2 i)) (0)
    ∗ SlotIn d ((i 0).castLE hcore2) ((i 1).castLE hsub2) arg2 arg8 arg13.sem qb fH (fun k => bRows H (bstart (wid2 i)) k) (bcnt (wid2 i)) (1)
    ∗ (∃ I, ⌜∀ k < 3200, I k = S (bidOff i + k)⌝ ∗ OwnI (F := F) (thr2 d i) arg6 I) ∗ (arg3.view.loc (thr2 d i) ↦[Finset.univ]{qs} fS) ∗ (arg4.view.loc (thr2 d i) ↦[Finset.univ]{qv} fV)
    ∗ semVal (thr2 d i, SemLoc.dma v49_r0.sem) 0 ∗ semVal (thr2 d i, SemLoc.dma v49_r1.sem) 0))) $$ [Ho Ha Hb Hs Hvn HI HA HB HT HvA HvB Hv0 Hv1]
  · rw [k2_part181_eq_skeleton]
    unfold k2_part181_skel
    dsimp only
    rw [wp_bind]
    iapply (copyIn D₀ d _ _ (show 0 < S512x128.numel by decide) (fs := fV) (P := V) hV) $$ [Hvn HT Hv0]
    · isplitl [Hvn]; · iexact Hvn
      isplitl [HT]; · iexact HT
      iexact Hv0
    iintro Hf
    rw [wp_bind]
    iapply (waitFor D₀ d _ _ rfl) $$ [Hf Ho]
    · isplitl [Hf]; · iexact Hf
      isplitl [Ho]; · iexact Ho
      iexact Hm
    iintro ⟨⟨HT, Hvn⟩, Hv0, Ho⟩
    rw [dif_pos (bcond1_on i), wp_bind]
    iapply (chunkIn D₀ d _ _ (by decide) (fs := fH) hH (boff1_eq i) (R := bRows H (bstart (wid2 i)) 0) (fun _ _ => rfl)) $$ [Ha HA HvA]
    · isplitl [Ha]; · iexact Ha
      isplitl [HA]; · iexact HA
      iexact HvA
    iintro HA
    rw [dif_pos (bcond2_on i), wp_bind]
    iapply (chunkIn D₀ d _ _ (by decide) (fs := fH) hH (boff2_eq i) (R := bRows H (bstart (wid2 i)) 1) (fun _ _ => rfl)) $$ [Hb HB HvB]
    · isplitl [Hb]; · iexact Hb
      isplitl [HB]; · iexact HB
      iexact HvB
    iintro HB
    rw [wp_bind]
    iapply (idsIn D₀ d _ _ hS (boff3_eq i)) $$ [Hs HI Hv1]
    · isplitl [Hs]; · iexact Hs
      isplitl [HI]; · iexact HI
      iexact Hv1
    iintro HI
    rw [wp_bind]
    iapply (waitFor D₀ d _ _ rfl) $$ [HI Ho]
    · isplitl [HI]; · iexact HI
      isplitl [Ho]; · iexact Ho
      iexact Hm
    iintro ⟨⟨HI, Hs⟩, Hv1, Ho⟩
    rw [wp_pure]; imodintro
    isplitr; · ipureintro; exact ⟨rfl, rfl⟩
    isplitl [Ho]; · iexact Ho
    isplitl [HT]; · iexact HT
    isplitl [HA]; · unfold SlotIn; rw [if_pos (by omega)]; iexact HA
    isplitl [HB]; · unfold SlotIn; rw [if_pos (by omega)]; iexact HB
    isplitl [HI]; · iexact HI
    isplitl [Hs]; · iexact Hs
    isplitl [Hvn]; · iexact Hvn
    isplitl [Hv0]; · iexact Hv0
    iexact Hv1
  iintro %x ⟨%hx, Ho, HT, HA, HB, ⟨%I, %hI, HI⟩, Hs, Hvn, Hv0, Hv1⟩
  rcases x with ⟨v4, v7, v8, v19, v20, c2, v21, v22⟩
  dsimp only
  dsimp only at hx
  obtain ⟨h4, h7⟩ := hx
  subst h7
  rw [wp_bind]
  ihave Hout := (rowsAny_split (lo := 80 * bstart (wid2 i)) (mid := 80 * bstart (wid2 i)) (hi := 80 * (bstart (wid2 i) + bcnt (wid2 i))) le_rfl (by omega)) $$ Hout
  icases Hout with ⟨Hd, Hr⟩
  ihave Hd := (rowsAre_nil (T := bOut H V S)) $$ Hd
  iapply (Scf.wp_for frame (wpE D₀ 𝒱₀ (thr2 d i) none) Set.univ (k2_t1_loop i).lb (k2_t1_loop i).ub (k2_t1_loop i).st (k2_t1_ok i) () (k2_t1_body i arg2 harg2 arg3 harg3 arg4 harg4 arg5 harg5 arg6 harg6 arg7 harg7 arg8 harg8 arg9 harg9 arg10 harg10 arg11 harg11 arg12 arg13 arg14 arg15 v49_r0 v49_r1 v4 v19)
    (fun n _ => BcInv d i arg2 arg5 arg6 arg7 arg8 arg9 arg10 arg11 arg12 arg13 arg14 arg15 O W H V S qa qb fH I n)
    (fun t _ => bc_step D₀ d i arg2 harg2 arg3 harg3 arg4 harg4 arg5 harg5 arg6 harg6 arg7 harg7 arg8 harg8 arg9 harg9 arg10 harg10 arg11 harg11 arg12 arg13 arg14 arg15 v49_r0 v49_r1 O W H V S qa qb fH I hI hlt hH v4 v19 h4 t))
  isplitl [Ho HI HT HA HB HoA HoB HvoA HvoB Hd Hr]
  · unfold BcInv
    rw [show min (2 * 0) (bcnt (wid2 i)) = 0 by omega, show min (2 * 0 - 2) (bcnt (wid2 i) - 2) = 0 by omega]
    isplitl []; · iexact Hm
    isplitl [Ho]; · iexact Ho
    isplitl [HI]; · iexact HI
    isplitl [HT]; · iexact HT
    isplitl [HA]; · iexact HA
    isplitl [HB]; · iexact HB
    isplitl [HoA HvoA]
    · unfold SlotOut; rw [if_pos rfl]
      isplitl [HoA]; · iexact HoA
      iexact HvoA
    isplitl [HoB HvoB]
    · unfold SlotOut; rw [if_pos rfl]
      isplitl [HoB]; · iexact HoB
      iexact HvoB
    isplitl [Hd]; · iexact Hd
    iexact Hr
  iintro %u Hinv
  rw [show Scf.trips (k2_t1_loop i).lb (k2_t1_loop i).ub (k2_t1_loop i).st = 20 from u1_trips i]
  unfold BcInv
  rw [show SlotIn d ((i 0).castLE hcore2) ((i 1).castLE hsub2) arg2 arg7 arg12.sem qa fH (fun k => bRows H (bstart (wid2 i)) k) (bcnt (wid2 i)) (2 * 20) = _ from if_neg (by omega), show SlotIn d ((i 0).castLE hcore2) ((i 1).castLE hsub2) arg2 arg8 arg13.sem qb fH (fun k => bRows H (bstart (wid2 i)) k) (bcnt (wid2 i)) (2 * 20 + 1) = _ from if_neg (by omega),
    show SlotOut d ((i 0).castLE hcore2) ((i 1).castLE hsub2) arg5 arg9 arg14.sem (bOut H V S) (20 = 0) (80 * (bstart (wid2 i) + (2 * 20 - 2))) (80 * (bstart (wid2 i) + (2 * 20 - 2)) + 80) = _ from if_neg (by omega),
    show SlotOut d ((i 0).castLE hcore2) ((i 1).castLE hsub2) arg5 arg10 arg15.sem (bOut H V S) (20 = 0) (80 * (bstart (wid2 i) + (if 2 * 20 - 1 < bcnt (wid2 i) then 2 * 20 - 1 else 2 * 20 - 3))) (80 * (bstart (wid2 i) + (if 2 * 20 - 1 < bcnt (wid2 i) then 2 * 20 - 1 else 2 * 20 - 3)) + 80) = _ from if_neg (by omega)]
  icases Hinv with ⟨-, Ho, HI, HT, ⟨Ha, HA, HvA⟩, ⟨Hb, HB, HvB⟩, HoA, HoB, Hd, -⟩
  rw [wp_bind]
  iapply (noTrips D₀ d _ _ (k2_t8_loop i) (u8_trips i) _ _)
  rw [dif_pos (endA_on i), wp_bind]
  iapply (waitFor D₀ d _ _ rfl) $$ [HoA Ho]
  · isplitl [HoA]; · iexact HoA
    isplitl [Ho]; · iexact Ho
    iexact Hm
  iintro ⟨⟨HoA, HcA⟩, HvoA, Ho⟩
  rw [dif_pos (endB_on i), wp_bind]
  iapply (waitFor D₀ d _ _ rfl) $$ [HoB Ho]
  · isplitl [HoB]; · iexact HoB
    isplitl [Ho]; · iexact Ho
    iexact Hm
  iintro ⟨⟨HoB, HcB⟩, HvoB, Ho⟩
  rw [wp_pure]; imodintro
  isplitl [Ho]; · iexact Ho
  isplitl [Ha]; · iexact Ha
  isplitl [Hb]; · iexact Hb
  isplitl [Hs]; · iexact Hs
  isplitl [Hvn]; · iexact Hvn
  isplitl [Hd HcA HcB]
  · iapply (rows_end (T := bOut H V S) (bstart (wid2 i)) (bcnt (wid2 i)) hc' hc)
    isplitl [Hd]; · iexact Hd
    isplitl [HcA]; · iexact HcA
    iexact HcB
  isplitl [HI]
  · unfold OwnI
    icases HI with ⟨%f, -, HI⟩
    iexists f; iexact HI
  isplitl [HA]; · iexact HA
  isplitl [HB]; · iexact HB
  isplitl [HoA]; · iexact HoA
  isplitl [HoB]; · iexact HoB
  isplitl [HT]; · iexists _; iexact HT
  isplitl [HvA]; · iexact HvA
  isplitl [HvB]; · iexact HvB
  isplitl [HvoA]; · iexact HvoA
  isplitl [HvoB]; · iexact HvoB
  isplitl [Hv0]; · iexact Hv0
  iexact Hv1

end Cert.Proof.Base

end
-- ==== Proof.Tile1.lean ====
/-
  The broadcast's tiles, as the launch asks of them.
-/
module

public import proofs.«01_k».proof.Proof.Vals
public import proofs.«01_k».proof.Proof.BcTile

@[expose] public section

noncomputable section

namespace Cert.Proof.Base

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)

/-- The semaphores and the buffers of a tile of the last call. -/
def sems2 : Finset (SemLoc sig) := {SemLoc.dma cc2_scratch6.sem, SemLoc.dma cc2_scratch7.sem, SemLoc.dma cc2_scratch8.sem, SemLoc.dma cc2_scratch9.sem, SemLoc.dma cc2_scoped0.sem, SemLoc.dma cc2_scoped1.sem}
def bufs2 : Finset (Ref sig .scVector) := {cc2_scratch0, cc2_scratch1, cc2_scratch2, cc2_scratch3, cc2_scratch4, cc2_scratch5}

theorem sems2_scoped : ∀ s ∈ sems2, s.isScoped .scVector = true := by
  intro s hs
  simp only [sems2, Finset.mem_insert, Finset.mem_singleton] at hs
  rcases hs with rfl | rfl | rfl | rfl | rfl | rfl
  · show (SemLoc.dma cc2_scratch6.sem : SemLoc sig).isScoped .scVector = true; decide
  · show (SemLoc.dma cc2_scratch7.sem : SemLoc sig).isScoped .scVector = true; decide
  · show (SemLoc.dma cc2_scratch8.sem : SemLoc sig).isScoped .scVector = true; decide
  · show (SemLoc.dma cc2_scratch9.sem : SemLoc sig).isScoped .scVector = true; decide
  · show (SemLoc.dma cc2_scoped0.sem : SemLoc sig).isScoped .scVector = true; decide
  · show (SemLoc.dma cc2_scoped1.sem : SemLoc sig).isScoped .scVector = true; decide

theorem bufs2_owner (c : Fin τ.nSC) (i : Fin τ.nSub) : ∀ b ∈ bufs2, ((Proc.scVector c i : Proc τ).devRef b).owner = .proc (.scVector c i) := by
  intro b hb
  simp only [bufs2, Finset.mem_insert, Finset.mem_singleton] at hb
  rcases hb with rfl | rfl | rfl | rfl | rfl | rfl <;> rfl

theorem sems2_sep (Φ : SemLoc sig → sProp 𝕄) : bigSep sems2 Φ
    = iprop(Φ (SemLoc.dma cc2_scratch6.sem) ∗ Φ (SemLoc.dma cc2_scratch7.sem) ∗ Φ (SemLoc.dma cc2_scratch8.sem) ∗ Φ (SemLoc.dma cc2_scratch9.sem) ∗ Φ (SemLoc.dma cc2_scoped0.sem) ∗ Φ (SemLoc.dma cc2_scoped1.sem)) := by
  unfold sems2
  rw [SparseCore.bigSep_insert' (by decide), SparseCore.bigSep_insert' (by decide), SparseCore.bigSep_insert' (by decide), SparseCore.bigSep_insert' (by decide), SparseCore.bigSep_insert' (by decide), bigSep_singleton]

theorem bufs2_sep (Φ : Ref sig .scVector → sProp 𝕄) : bigSep bufs2 Φ
    = iprop(Φ cc2_scratch0 ∗ Φ cc2_scratch1 ∗ Φ cc2_scratch2 ∗ Φ cc2_scratch3 ∗ Φ cc2_scratch4 ∗ Φ cc2_scratch5) := by
  unfold bufs2
  rw [SparseCore.bigSep_insert' (by decide), SparseCore.bigSep_insert' (by decide), SparseCore.bigSep_insert' (by decide), SparseCore.bigSep_insert' (by decide), SparseCore.bigSep_insert' (by decide), bigSep_singleton]

set_option maxHeartbeats 4000000 in
/-- A tile of the broadcast, from its part to its part. -/
theorem tile_body2 (hK : (K (F := F)).Facts) (hpre : PreOK m) (d : Dev nD) (c : Fin 2) (i : Fin 16) (O : CellTallies nD τ sig (HIx 2)) (W : Waits sig (HIx 2)) (hO : ∀ g, O g none = 0) :
    iprop(levAts (K (F := F)).L (K (F := F)).lev ∗ emp ∗ go1 m d c i ∗ scopedBufs (thr2 d (coords2 c i)) ∗ scopedSems0 (thr2 d (coords2 c i)) ∗ owes (thr2 d (coords2 c i)) O W)
      ⊢ wp frame (wpE (defs₀ (F := F)) 𝒱₀ (thr2 d (coords2 c i)) none) Set.univ
          (cc2__bcast (coords2 c i) (Memref.whole main_arg0_scv) (Memref.isWhole_whole _) (Memref.whole main_arg2_scv) (Memref.isWhole_whole _) (Memref.whole main_v1_scv) (Memref.isWhole_whole _) (Memref.whole main_v2_scv) (Memref.isWhole_whole _)
            (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _)
            cc2_scratch6 cc2_scratch7 cc2_scratch8 cc2_scratch9 cc2_scoped0 cc2_scoped1)
          fun _ => iprop(td1 m d c i ∗ scopedBufs (thr2 d (coords2 c i)) ∗ scopedSems0 (thr2 d (coords2 c i)) ∗ Ow (thr2 d (coords2 c i)) O W) := by
  rw [(K (F := F)).scopedBufs_V hK d _ _, SparseCore.Cfg.scopedSems0_V (Val := Elt F) d _ _, ownSems0_split d _ _ sems2 sems2_scoped, ownBufs_split d _ _ bufs2 (bufs2_owner _ _), sems2_sep, bufs2_sep]
  unfold go1 td1
  have H := bc_tile (F := F) (defs₀ (F := F)) d (coords2 c i) (Memref.whole main_arg0_scv) (Memref.isWhole_whole _) (Memref.whole main_arg2_scv) (Memref.isWhole_whole _) (Memref.whole main_v1_scv) (Memref.isWhole_whole _) (Memref.whole main_v2_scv) (Memref.isWhole_whole _)
            (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _)
            cc2_scratch6 cc2_scratch7 cc2_scratch8 cc2_scratch9 cc2_scoped0 cc2_scoped1
    O W (hF m d) (vF m d) (sF m d) (qH c i 0) (qH c i 1) (qS c i) (qS c i) (m (hLoc d)) (m (sLoc d)) (vnBuf m d) (sF_lt hpre d) (buf2_fn2 (n := 100000) (m (hLoc d))).symm (sF_read m d) (buf2_fn2 (n := 512) (vnBuf m d)).symm
  unfold RowsAny RowsAre at H
  iintro ⟨#Hlv, -, ⟨Ha, Hb, Hs, Hn, Ho⟩, ⟨⟨H0, H1, H2, H3, H4, H5⟩, Hbufs⟩, ⟨⟨HvA, HvB, HvC, HvD, Hv0, Hv1⟩, Hsems⟩, HO⟩
  ihave H1 := (own2_of_ex (F := F) (c := thr2 d (coords2 c i)) (n := 80) (mr := (Memref.whole cc2_scratch1 : Memref sig .scVector .vmem S80x128 .f32))) $$ H1
  ihave H2 := (own2_of_ex (F := F) (c := thr2 d (coords2 c i)) (n := 80) (mr := (Memref.whole cc2_scratch2 : Memref sig .scVector .vmem S80x128 .f32))) $$ H2
  ihave H3 := (own2_of_ex (F := F) (c := thr2 d (coords2 c i)) (n := 80) (mr := (Memref.whole cc2_scratch3 : Memref sig .scVector .vmem S80x128 .f32))) $$ H3
  ihave H4 := (own2_of_ex (F := F) (c := thr2 d (coords2 c i)) (n := 80) (mr := (Memref.whole cc2_scratch4 : Memref sig .scVector .vmem S80x128 .f32))) $$ H4
  ihave H5 := (own2_of_ex (F := F) (c := thr2 d (coords2 c i)) (n := 512) (mr := (Memref.whole cc2_scratch5 : Memref sig .scVector .vmem S512x128 .f32))) $$ H5
  iapply (wp_wand frame (wpE (defs₀ (F := F)) 𝒱₀ (thr2 d (coords2 c i)) none) Set.univ) $$ [Ha Hb Hs Hn Ho H0 H1 H2 H3 H4 H5 HvA HvB HvC HvD Hv0 Hv1 HO]
  · iapply H
    isplitl []; · iapply ((K (F := F)).mayWaits_none (thr := thr2 d (coords2 c i)) hO); iexact Hlv
    isplitl [HO]
    · unfold Ow
      iexists W
      isplitr; · ipureintro; exact fun p hp => .inl hp
      iexact HO
    isplitl [Ha]; · iapply (Entails.of_eq (pts_h m d ((coords2 c i 0).castLE hcore2) ((coords2 c i 1).castLE hsub2) _).symm); iexact Ha
    isplitl [Hb]; · iapply (Entails.of_eq (pts_h m d ((coords2 c i 0).castLE hcore2) ((coords2 c i 1).castLE hsub2) _).symm); iexact Hb
    isplitl [Hs]; · iapply (Entails.of_eq (pts_s m d ((coords2 c i 0).castLE hcore2) ((coords2 c i 1).castLE hsub2) _).symm); iexact Hs
    isplitl [Hn]; · iapply (Entails.of_eq (pts_n m d ((coords2 c i 0).castLE hcore2) ((coords2 c i 1).castLE hsub2) _).symm); iexact Hn
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [HvA]; · iexact HvA
    isplitl [HvB]; · iexact HvB
    isplitl [HvC]; · iexact HvC
    isplitl [HvD]; · iexact HvD
    isplitl [Hv0]; · iexact Hv0
    iexact Hv1
  iintro %u ⟨HO, Ha, Hb, Hs, Hn, Ho, H0, H1, H2, H3, H4, H5, HvA, HvB, HvC, HvD, Hv0, Hv1⟩
  isplitl [Ha Hb Hs Hn Ho]
  · isplitl [Ha]; · iapply (Entails.of_eq (pts_h m d ((coords2 c i 0).castLE hcore2) ((coords2 c i 1).castLE hsub2) _)); iexact Ha
    isplitl [Hb]; · iapply (Entails.of_eq (pts_h m d ((coords2 c i 0).castLE hcore2) ((coords2 c i 1).castLE hsub2) _)); iexact Hb
    isplitl [Hs]; · iapply (Entails.of_eq (pts_s m d ((coords2 c i 0).castLE hcore2) ((coords2 c i 1).castLE hsub2) _)); iexact Hs
    isplitl [Hn]; · iapply (Entails.of_eq (pts_n m d ((coords2 c i 0).castLE hcore2) ((coords2 c i 1).castLE hsub2) _)); iexact Hn
    iexact Ho
  isplitl [H0 H1 H2 H3 H4 H5 Hbufs]
  · isplitr [Hbufs]
    · isplitl [H0]; · iexact H0
      isplitl [H1]; · iapply (ex_of_own2 (F := F) (c := thr2 d (coords2 c i)) (n := 80) (mr := (Memref.whole cc2_scratch1 : Memref sig .scVector .vmem S80x128 .f32))); iexact H1
      isplitl [H2]; · iapply (ex_of_own2 (F := F) (c := thr2 d (coords2 c i)) (n := 80) (mr := (Memref.whole cc2_scratch2 : Memref sig .scVector .vmem S80x128 .f32))); iexact H2
      isplitl [H3]; · iapply (ex_of_own2 (F := F) (c := thr2 d (coords2 c i)) (n := 80) (mr := (Memref.whole cc2_scratch3 : Memref sig .scVector .vmem S80x128 .f32))); iexact H3
      isplitl [H4]; · iapply (ex_of_own2 (F := F) (c := thr2 d (coords2 c i)) (n := 80) (mr := (Memref.whole cc2_scratch4 : Memref sig .scVector .vmem S80x128 .f32))); iexact H4
      iapply (ex_of_own2 (F := F) (c := thr2 d (coords2 c i)) (n := 512) (mr := (Memref.whole cc2_scratch5 : Memref sig .scVector .vmem S512x128 .f32))); iexact H5
    iexact Hbufs
  isplitl [HvA HvB HvC HvD Hv0 Hv1 Hsems]
  · isplitr [Hsems]
    · isplitl [HvA]; · iexact HvA
      isplitl [HvB]; · iexact HvB
      isplitl [HvC]; · iexact HvC
      isplitl [HvD]; · iexact HvD
      isplitl [Hv0]; · iexact Hv0
      iexact Hv1
    iexact Hsems
  iexact HO

set_option maxHeartbeats 8000000 in
theorem defs₀_vector2 (c : Fin τ.nSC) (s : Fin τ.nSub) :
    defs₀ (F := F) (.scVector c s) 2 ()
      = SparseCore.onTile hcore2 hsub2 (fun c s => cc2__bcast (coords2 c s) (Memref.whole main_arg0_scv) (Memref.isWhole_whole _) (Memref.whole main_arg2_scv) (Memref.isWhole_whole _) (Memref.whole main_v1_scv) (Memref.isWhole_whole _) (Memref.whole main_v2_scv) (Memref.isWhole_whole _)
            (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _)
            cc2_scratch6 cc2_scratch7 cc2_scratch8 cc2_scratch9 cc2_scoped0 cc2_scoped1) ⟨⟩ c s := rfl

set_option maxHeartbeats 8000000 in
theorem tileObl1 (hK : (K (F := F)).Facts) (hpre : PreOK m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector2]; simp only [SparseCore.onTile, hc, and_self, ↓reduceDIte]
  exact (tile_body2 m hK hpre d ⟨_, hc.1⟩ ⟨_, hc.2⟩ O W hO).trans (wp_mono frame _ _ fun _ => obl_post)

end Cert.Proof.Base

end
-- ==== Proof.Run.lean ====
/-
  The program's run: the two SparseCore calls and the region between them, from any launch memory whose segment ids are
  in range.
-/
module

public import proofs.«01_k».proof.Proof.Region
public import proofs.«01_k».proof.Proof.Tile0
public import proofs.«01_k».proof.Proof.Tile1

@[expose] public section

noncomputable section

namespace Cert.Proof.Base

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellsGhost toksInit)

variable {F : FTy → Type} [FloatOps F]

local notation "𝕄" => MT nD τ sig (HIx 2) (Elt F) ℕ UU ℕ

variable (m : (ℓ : Loc nD τ sig) → Buf (Elt F) ℓ) (ρ : Dev nD → PrngReg)

/-! ## The launch element -/

def u₀ : UU :=
  ((initOf (K (F := F)).hsCells (K (F := F)).hsToks,
    initOf (Pipeline.cells (Pipeline.pin (pcfgs (F := F)) fcAdm) cellOf_inj) (Pipeline.launchToks (Pipeline.pin (pcfgs (F := F)) fcAdm) cellOf_inj)), 1)

theorem x_emp : (bigSep Finset.univ fun thr : Thread nD τ => bigSep Finset.univ fun q : Fin 2 => (P (F := F) m).x q thr) = iprop(emp) := by
  rw [show (fun thr : Thread nD τ => bigSep Finset.univ fun q : Fin 2 => (P (F := F) m).x q thr) = fun _ => iprop(emp) from
    funext fun _ => bigSep_emp_const _]
  exact bigSep_emp_const _

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 2 => (P m).x q thr) := by
  have hG : (bigSep Finset.univ fun d : Dev nD => (G d : sProp 𝕄))
      = iprop((bigSep Finset.univ fun d : Dev nD => bigSep Finset.univ fun p : Fin 1 => cellsGhost (Pipeline.pin (pcfgs (F := F)) fcAdm) EP p d)
        ∗ (bigSep Finset.univ fun d : Dev nD => bigSep Finset.univ fun p : Fin 1 => toksInit (Pipeline.pin (pcfgs (F := F)) fcAdm) EP p d)) := by
    rw [← bigSep_sep']
    refine bigSep_congr fun d _ => ?_
    rw [bigSep_univ_of_subsingleton (0 : Fin 1), bigSep_univ_of_subsingleton (0 : Fin 1)]
    rfl
  rw [x_emp, hG]
  unfold u₀
  iintro Hu
  ihave H := (own_parts _ _ _) $$ Hu
  icases H with ⟨HH, HP⟩
  imod (Pipeline.fund_ghost (Pipeline.pin (pcfgs (F := F)) fcAdm) EP cellOf_inj) $$ HP with ⟨Hg, Ht⟩
  imodintro
  isplitl [HH]; · iexact HH
  isplitl [Hg Ht]
  · isplitl [Hg]; · iexact Hg
    iexact Ht
  iempintro

/-! ## @main on the TensorCore -/

theorem st0_eq (d : Dev nD) : (bigSep Finset.univ fun c : Fin ((K (F := F)).nCore 0) => (P m).st 0 d c) = (tiles fun c i => go0 m d c i : sProp 𝕄) := rfl
theorem dn0_eq (d : Dev nD) : (bigSep Finset.univ fun c : Fin ((K (F := F)).nCore 0) => (P m).dn 0 d c) = (tiles fun c i => td0 m d c i : sProp 𝕄) := rfl
theorem st1_eq (d : Dev nD) : (bigSep Finset.univ fun c : Fin ((K (F := F)).nCore 1) => (P m).st 1 d c) = (tiles fun c i => go1 m d c i : sProp 𝕄) := rfl
theorem dn1_eq (d : Dev nD) : (bigSep Finset.univ fun c : Fin ((K (F := F)).nCore 1) => (P m).dn 1 d c) = (tiles fun c i => td1 m d c i : sProp 𝕄) := rfl

/-! ## The end -/

abbrev FIN (d : Dev nD) : sProp 𝕄 :=
  iprop((hLoc d ↦{fullShare} m (hLoc d)) ∗ (xLoc d ↦{fullShare} m (xLoc d)) ∗ (sLoc d ↦{fullShare} m (sLoc d))
      ∗ (wLoc d ↦{fullShare} m (wLoc d)) ∗ (bLoc d ↦{fullShare} m (bLoc d)) ∗ (nLoc d ↦{fullShare} vnBuf m d) ∗ (oLoc d ↦{fullShare} outBuf m d))

set_option maxHeartbeats 1000000 in
/-- @main on device `d`'s TensorCore: the partial sums, the node rows, the result. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hh, Hx, Hs, Hw, Hbi, Hp, Hn, Ho⟩, Hts, -⟩, HG⟩
  iapply ((K (F := F)).wp_run (D (F := F)) 𝒱 (EH := EH) (P := P m) κ d 0) $$ [Hst Hh Hx Hs Hw Hbi Hp Hn Ho Hb Hts HG]
  isplitr; · iexact Hctx
  isplitl [Hst]; · iexact Hst
  isplitl [Hh Hs Hp]
  · rw [st0_eq]
    iapply (st0_of m d (m (pLoc d)))
    isplitl [Hh]; · iexact Hh
    isplitl [Hs]; · iexact Hs
    iexact Hp
  iintro ⟨Hst, Hdn⟩
  ihave Hdn' := ((Entails.of_eq (dn0_eq m d)).trans (dn0_to m d)) $$ Hdn
  icases Hdn' with ⟨Hh, Hs, Hp⟩
  iapply (region m d κ)
  isplitr; · iexact Hctx
  isplitl [Hst]; · iexact Hst
  isplitl [Hb]; · iexact Hb
  isplitl [Hh Hx Hs Hw Hbi Hp Hn Ho]
  · isplitl [Hh]; · iexact Hh
    isplitl [Hx]; · iexact Hx
    isplitl [Hs]; · iexact Hs
    isplitl [Hw]; · iexact Hw
    isplitl [Hbi]; · iexact Hbi
    isplitl [Hp]; · iexact Hp
    isplitl [Hn]; · iexact Hn
    iexact Ho
  isplitl [HG]; · iexact HG
  iintro ⟨Hst, Hb, Hh, Hx, Hs, Hw, Hbi, Hp, Hn, Ho⟩
  iapply ((K (F := F)).wp_run (D (F := F)) 𝒱 (EH := EH) (P := P m) κ d 1) $$ [Hst Hh Hx Hs Hw Hbi Hn Ho Hb Hts]
  isplitr; · iexact Hctx
  isplitl [Hst]; · iexact Hst
  isplitl [Hh Hs Hn Ho]
  · rw [st1_eq]
    iapply (st1_of m d (m (oLoc d)))
    isplitl [Hh]; · iexact Hh
    isplitl [Hs]; · iexact Hs
    isplitl [Hn]; · iexact Hn
    iexact Ho
  iintro ⟨Hst, Hdn⟩
  ihave Hdn' := ((Entails.of_eq (dn1_eq m d)).trans (dn1_to m d)) $$ Hdn
  icases Hdn' with ⟨Hh, Hs, Hn, Ho⟩
  imodintro
  isplitl [Hst]; · iexact Hst
  isplitr [Hb Hts]
  · isplitl [Hh]; · iexact Hh
    isplitl [Hx]; · iexact Hx
    isplitl [Hs]; · iexact Hs
    isplitl [Hw]; · iexact Hw
    isplitl [Hbi]; · iexact Hbi
    isplitl [Hn]; · iexact Hn
    iexact Ho
  isplitl [Hb] <;> iassumption

/-- What a device's memory holds at the end. -/
def fq (d : Dev nD) (s' : Phys nD τ sig (Elt F)) : Prop :=
  s'.mem.mem (hLoc d) = m (hLoc d) ∧ s'.mem.mem (xLoc d) = m (xLoc d) ∧ s'.mem.mem (sLoc d) = m (sLoc d) ∧ s'.mem.mem (wLoc d) = m (wLoc d)
    ∧ s'.mem.mem (bLoc d) = m (bLoc d) ∧ s'.mem.mem (nLoc d) = vnBuf m d ∧ s'.mem.mem (oLoc d) = outBuf m d

omit [FloatOps F] in
theorem agree {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨Hh, Hx, Hs, Hw, Hbi, Hn, Ho⟩, HSI⟩
  ihave H := (agree (m (hLoc d)) s') $$ [HSI Hh]
  · isplitl [Hh] <;> iassumption
  icases H with ⟨%h1, HSI⟩
  ihave H := (agree (m (xLoc d)) s') $$ [HSI Hx]
  · isplitl [Hx] <;> iassumption
  icases H with ⟨%h2, HSI⟩
  ihave H := (agree (m (sLoc d)) s') $$ [HSI Hs]
  · isplitl [Hs] <;> iassumption
  icases H with ⟨%h3, HSI⟩
  ihave H := (agree (m (wLoc d)) s') $$ [HSI Hw]
  · isplitl [Hw] <;> iassumption
  icases H with ⟨%h4, HSI⟩
  ihave H := (agree (m (bLoc d)) s') $$ [HSI Hbi]
  · isplitl [Hbi] <;> iassumption
  icases H with ⟨%h5, HSI⟩
  ihave H := (agree (vnBuf m d) s') $$ [HSI Hn]
  · isplitl [Hn] <;> iassumption
  icases H with ⟨%h6, HSI⟩
  ihave H := (agree (outBuf m d) s') $$ [HSI Ho]
  · isplitl [Ho] <;> iassumption
  icases H with ⟨%h7, -⟩
  ipureintro; exact ⟨h1, h2, h3, h4, h5, h6, h7⟩

/-! ## The program's run -/

def QC : PUnit × MemSt nD τ sig (Elt F) → Prop := fun r =>
  (∀ c : Dev nD, r.2.mem (hLoc c) = m (hLoc c) ∧ r.2.mem (xLoc c) = m (xLoc c) ∧ r.2.mem (sLoc c) = m (sLoc c) ∧ r.2.mem (wLoc c) = m (wLoc c)
    ∧ r.2.mem (bLoc c) = m (bLoc c) ∧ r.2.mem (nLoc c) = vnBuf m c ∧ r.2.mem (oLoc c) = outBuf m c) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launch_facts v₀
    (fun q hq => match q with | 0 => nomatch hq | 1 => nomatch hq)
    (fun q _ => match q with | 0 => tileObl0 m launch_facts hpre | 1 => tileObl1 m launch_facts hpre)
    (fun q _ => match q with | 0 => SparseCore.Cfg.VecSplit.of_plain (vecSplit0 m) | 1 => SparseCore.Cfg.VecSplit.of_plain (vecSplit1 m))
    m ρ main G (FIN m) (u₀ (F := F)) (sep_elim_left.trans (hu₀ m)) (hmain m ρ) (fq m) (hfin m) (QC m) (fun _ h hz => ⟨h, hz⟩)

end Cert.Proof.Base

end
-- ==== Proof.Same.lean ====
/-
  The program at the machine's floats and the program read over the extended reals are one text: what is proved of the
  one at every float instance is proved of the other.
-/
module

public import proofs.«01_k».proof.Kernel
public import proofs.«01_k».proof.KernelIdeal
public import proofs.«01_k».proof.Defs

@[expose] public section

noncomputable section

namespace Cert.Proof.Base

open Idealize.ShloMosaic Idealize.SL.Sem

variable [hK : Cert.Kernel.Facts] [hI : Cert.KernelIdeal.Facts]

set_option maxHeartbeats 4000000 in
-- the two definitions branch by their own matches, which unify only unfolded
set_option smartUnfolding false in
theorem bodies_same : Cert.Kernel.defs₀ (F := Bits) = Cert.KernelIdeal.defs₀ (F := Bits) := rfl

set_option maxHeartbeats 4000000 in
theorem threads_same : Cert.Kernel.threads (F := Bits) = Cert.KernelIdeal.threads (F := Bits) := rfl

set_option maxHeartbeats 4000000 in
theorem defs_same : Cert.Kernel.defs (F := Bits) = Cert.KernelIdeal.defs (F := Bits) :=
  congrArg (fun D => (Cert.KernelIdeal.sc (F := Bits)).defs (Pipeline.defs (Cert.KernelIdeal.pcfgs (F := Bits)) D)) bodies_same

set_option maxHeartbeats 4000000 in
theorem kernel_frame [hP : Cert.Pre_seg_in_range.Facts]
    (H : ∀ (m : (ℓ : Loc Cert.KernelIdeal.nD Cert.KernelIdeal.τ Cert.KernelIdeal.sig) → Buf (Elt Bits) ℓ) (g : Dev Cert.KernelIdeal.nD → PrngReg),
      (∀ c : Dev Cert.KernelIdeal.nD, Cert.Pre_seg_in_range.fn (F := Bits)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) = fun _ => 1#1) →
      θ_run (Cert.KernelIdeal.defs (F := Bits)) (Cert.KernelIdeal.threads (F := Bits)) ⟨m, fun _ => 0, g⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0)) :
    Cert.quiescent_Kernel := by
  intro m g hpre
  rw [defs_same, threads_same]
  exact H m g hpre

end Cert.Proof.Base

end
-- ==== Proof.Ids.lean ====
/-
  What the two preconditions say of the segment ids: each is below 512; and, under the second, they never decrease.
-/
module

public import proofs.«01_k».proof.Proof.Vals
public import proofs.«01_k».proof.Proof.Gen.Pre_seg_in_range
public import proofs.«01_k».proof.Proof.Gen.Pre_seg_sorted_in_range

@[expose] public section

noncomputable section

namespace Cert.Proof.Base

open Cert.KernelIdeal Cert.KernelIdeal.Gen
open Idealize.ShloMosaic
open Idealize.ShloMosaic.ValueIdx (ix1 eq_ix1 ix2 eq_ix2)
open Idealize.SL.Sem

variable {F : FTy → Type} [FloatOps F]

theorem andi_of_bools (a b : Bool) : IntOp.andi (BitVec.ofBool a) (BitVec.ofBool b) = BitVec.ofBool (a && b) := by
  cases a <;> cases b <;> decide

theorem ofBool_one (b : Bool) : BitVec.ofBool b = 1#1 ↔ b = true := by cases b <;> decide

theorem word_range (v : BitVec 32) (e : IntOp.andi (IntOp.cmpi .sge v 0#32) (IntOp.cmpi .slt v 512#32) = 1#1) : v.toNat < 512 := by
  simp only [IntOp.cmpi, andi_of_bools, ofBool_one, Bool.and_eq_true, BitVec.sle_eq_decide, BitVec.slt_eq_decide, decide_eq_true_eq,
    BitVec.toInt_eq_toNat_cond, BitVec.toNat_ofNat, Nat.reducePow, Nat.reduceMod] at e
  omega

theorem word_pair (v w : BitVec 32)
    (e : IntOp.andi (IntOp.andi (IntOp.cmpi .sge v 0#32) (IntOp.cmpi .slt w 512#32)) (IntOp.cmpi .sle v w) = 1#1) :
    v.toNat ≤ w.toNat ∧ w.toNat < 512 := by
  simp only [IntOp.cmpi, andi_of_bools, ofBool_one, Bool.and_eq_true, BitVec.sle_eq_decide, BitVec.slt_eq_decide, decide_eq_true_eq,
    BitVec.toInt_eq_toNat_cond, BitVec.toNat_ofNat, Nat.reducePow, Nat.reduceMod] at e
  have := v.isLt
  have := w.isLt
  omega

variable (m : (ℓ : Loc nD τ sig) → Buf (Elt F) ℓ)

/-- Every id is in range under the first precondition … -/
theorem ok_of_range (h : ∀ d : Dev nD, Cert.Pre_seg_in_range.fn (F := F) (m (hLoc d)) (m (xLoc d)) (m (sLoc d)) (m (wLoc d)) (m (bLoc d)) = fun _ => 1#1) :
    PreOK m := by
  intro d x
  have e := congrFun (h d) x
  simp only [Cert.Pre_seg_in_range.fn, andi, cmpi, broadcastInDim, constantI] at e
  exact word_range _ e

theorem pair_of_sorted (h : ∀ d : Dev nD, Cert.Pre_seg_sorted_in_range.fn (F := F) (m (hLoc d)) (m (xLoc d)) (m (sLoc d)) (m (wLoc d)) (m (bLoc d)) = fun _ => 1#1)
    (d : Dev nD) (k : ℕ) (hk : k + 1 < 100000) : (sF m d k).toNat ≤ (sF m d (k + 1)).toNat ∧ (sF m d (k + 1)).toNat < 512 := by
  have e := congrFun (h d) (ix1 (⟨k, by omega⟩ : Fin 99999))
  simp only [Cert.Pre_seg_sorted_in_range.fn, andi, cmpi, broadcastInDim, constantI] at e
  have e0 : sF m d k = extractStridedSlice Cert.Pre_seg_sorted_in_range.S99999 ![0] (m (sLoc d)) Cert.Pre_seg_sorted_in_range.Gen.slices_S100000_S99999_0
      (ix1 (⟨k, by omega⟩ : Fin 99999)) := by
    unfold sF
    rw [dif_pos (by omega)]
    refine congrArg (m (sLoc d)) (funext fun a => Fin.ext ?_)
    obtain rfl : a = 0 := Subsingleton.elim _ _
    exact (Nat.zero_add k).symm
  have e1 : sF m d (k + 1) = extractStridedSlice Cert.Pre_seg_sorted_in_range.S99999 ![1] (m (sLoc d)) Cert.Pre_seg_sorted_in_range.Gen.slices_S100000_S99999_1
      (ix1 (⟨k, by omega⟩ : Fin 99999)) := by
    unfold sF
    rw [dif_pos hk]
    refine congrArg (m (sLoc d)) (funext fun a => Fin.ext ?_)
    obtain rfl : a = 0 := Subsingleton.elim _ _
    exact Nat.add_comm k 1
  rw [e0, e1]
  exact word_pair _ _ e

/-- … and under the second, … -/
theorem ok_of_sorted (h : ∀ d : Dev nD, Cert.Pre_seg_sorted_in_range.fn (F := F) (m (hLoc d)) (m (xLoc d)) (m (sLoc d)) (m (wLoc d)) (m (bLoc d)) = fun _ => 1#1) :
    PreOK m := by
  intro d x
  rw [sF_read m d]
  have hx : (x 0).val < 100000 := (x 0).isLt
  generalize (x 0).val = k at hx
  match k with
  | 0 => exact lt_of_le_of_lt (pair_of_sorted m h d 0 (by omega)).1 (pair_of_sorted m h d 0 (by omega)).2
  | k + 1 => exact (pair_of_sorted m h d k hx).2

/-- … under which they never decrease. -/
theorem mono_of_sorted (h : ∀ d : Dev nD, Cert.Pre_seg_sorted_in_range.fn (F := F) (m (hLoc d)) (m (xLoc d)) (m (sLoc d)) (m (wLoc d)) (m (bLoc d)) = fun _ => 1#1)
    (d : Dev nD) (p q : ℕ) (hpq : p ≤ q) (hq : q < 100000) : (sF m d p).toNat ≤ (sF m d q).toNat := by
  induction q, hpq using Nat.le_induction with
  | base => exact le_rfl
  | succ q _ ih => exact (ih (by omega)).trans (pair_of_sorted m h d q hq).1

theorem mid_of_sorted (h : ∀ d : Dev nD, Cert.Pre_seg_sorted_in_range.fn (F := F) (m (hLoc d)) (m (xLoc d)) (m (sLoc d)) (m (wLoc d)) (m (bLoc d)) = fun _ => 1#1)
    (d : Dev nD) (p q r : ℕ) (hpq : p ≤ q) (hqr : q ≤ r) (hr : r < 100000) (e : (sF m d p).toNat = (sF m d r).toNat) :
    (sF m d q).toNat = (sF m d p).toNat :=
  le_antisymm ((mono_of_sorted m h d q r hqr hr).trans e.ge) (mono_of_sorted m h d p q hpq (by omega))

end Cert.Proof.Base

end
-- ==== Proof.Sums.lean ====
/-
  Over the extended reals: a tile's pool is, segment by segment, the sum of the rows it took; the tiles' pools together
  are the sum of all rows.
-/
module

public import proofs.«01_k».proof.Proof.Pool
public import Idealize.ShloMosaic.PureOps.Ideal

@[expose] public section

noncomputable section

namespace Cert.Proof.Base

open Cert.KernelIdeal
open Idealize.ShloMosaic

/-- Row `j` of column `c` where the row's segment is `v`, nothing elsewhere. -/
def term (id : ℕ → ℕ) (R : ℕ → ℕ → Ideal .f32) (v c j : ℕ) : EReal := if id j = v then R j c else 0

theorem accR_sum (R : ℕ → ℕ → Ideal .f32) (r₀ c n : ℕ) : accR R r₀ c n = ∑ k ∈ Finset.range (n + 1), (R (r₀ + k) c : EReal) := by
  induction n with
  | zero => simp [accR]
  | succ n ih =>
    rw [Finset.sum_range_succ, ← ih]; rfl

theorem slowN_sum (id : ℕ → ℕ) (R P : ℕ → ℕ → Ideal .f32) (r₀ v c n : ℕ) (hc : c < 128) :
    slowN id R r₀ P n v c = (P v c : EReal) + ∑ k ∈ Finset.range n, (if id k = v then R (r₀ + k) c else 0 : EReal) := by
  induction n with
  | zero => simp [slowN]
  | succ n ih =>
    rw [Finset.sum_range_succ, ← add_assoc, ← ih]
    show slowUpd R (r₀ + n) (id n) (slowN id R r₀ P n) 128 v c = _
    unfold slowUpd
    by_cases h : id n = v
    · subst h
      rw [if_pos ⟨rfl, hc⟩, if_pos rfl]; rfl
    · rw [if_neg (fun h' => h h'.1.symm), if_neg h, add_zero]

theorem grp_sum (id : ℕ → ℕ) (R P : ℕ → ℕ → Ideal .f32) (r₀ v c : ℕ) (hc : c < 128) (hs : id 0 = id 15 → ∀ k < 16, id k = id 0) :
    grp id R r₀ P v c = (P v c : EReal) + ∑ k ∈ Finset.range 16, (if id k = v then R (r₀ + k) c else 0 : EReal) := by
  unfold grp
  split
  · rename_i h
    unfold fastUpd
    by_cases hv : v = id 0
    · subst hv
      rw [if_pos ⟨rfl, hc⟩, accR_sum]
      show (P _ c : EReal) + _ = _
      congr 1
      refine Finset.sum_congr rfl fun k hk => ?_
      rw [if_pos (hs h k (Finset.mem_range.mp hk))]
    · rw [if_neg (fun h' => hv h'.1), Finset.sum_eq_zero, add_zero]
      intro k hk
      rw [if_neg]
      rw [hs h k (Finset.mem_range.mp hk)]; exact fun h' => hv h'.symm
  · exact slowN_sum id R P r₀ v c 16 hc

theorem chunkN_sum (id : ℕ → ℕ) (R P : ℕ → ℕ → Ideal .f32) (v c n : ℕ) (hc : c < 128)
    (hs : ∀ g < n, id (16 * g) = id (16 * g + 15) → ∀ k < 16, id (16 * g + k) = id (16 * g)) :
    chunkN id R P n v c = (P v c : EReal) + ∑ j ∈ Finset.range (16 * n), term id R v c j := by
  induction n with
  | zero => simp [chunkN]
  | succ n ih =>
    rw [show 16 * (n + 1) = 16 * n + 16 by ring, Finset.sum_range_add, ← add_assoc, ← ih fun g hg => hs g (by omega)]
    exact grp_sum _ R _ _ v c hc (hs n (by omega))

theorem poolN_sum (S : ℕ → ℕ) (H : ℕ → ℕ → Ideal .f32) (a v c n : ℕ) (hc : c < 128)
    (hs : ∀ p q r, p ≤ q → q ≤ r → r < 160 * (a + n) → S p = S r → S q = S p) :
    poolN (0 : EReal) S H a n v c = ∑ j ∈ Finset.range (160 * n), term S H v c (160 * a + j) := by
  induction n with
  | zero => simp [poolN]
  | succ n ih =>
    rw [show 160 * (n + 1) = 160 * n + 160 by ring, Finset.sum_range_add, ← ih fun p q r h1 h2 h3 => hs p q r h1 h2 (by omega)]
    refine (chunkN_sum _ _ _ v c 10 hc ?_).trans ?_
    · intro g hg h k hk
      exact hs _ _ _ (by omega) (by omega) (by omega) h
    · congr 1
      refine Finset.sum_congr (by norm_num) fun j _ => ?_
      show (if S (160 * (a + n) + j) = v then H (160 * (a + n) + j) c else 0) = term S H v c (160 * a + (160 * n + j))
      rw [show 160 * (a + n) + j = 160 * a + (160 * n + j) by ring]; rfl

/-- The pools of the first `n` tiles together. -/
theorem pools_sum (S : ℕ → ℕ) (H : ℕ → ℕ → Ideal .f32) (v c n : ℕ) (hn : n ≤ 32) (hc : c < 128)
    (hs : ∀ p q r, p ≤ q → q ≤ r → r < 100000 → S p = S r → S q = S p) :
    ∑ w ∈ Finset.range n, (poolN (0 : EReal) S H (start w) (cnt w) v c : EReal) = ∑ j ∈ Finset.range (160 * start n), term S H v c j := by
  induction n with
  | zero => simp [start]
  | succ n ih =>
    have hb := start_cnt_le n (by omega)
    rw [Finset.sum_range_succ, ih (by omega), start_succ, show 160 * (start n + cnt n) = 160 * start n + 160 * cnt n by ring, Finset.sum_range_add,
      poolN_sum S H (start n) v c (cnt n) hc fun p q r h1 h2 h3 => hs p q r h1 h2 (by omega)]

end Cert.Proof.Base

end
-- ==== Proof.KerVal.lean ====
/-
  What the kernel leaves, read at an element over the extended reals: the node rows from the sum of the tiles' pools, and
  the rows of the last call.
-/
module

public import proofs.«01_k».proof.Proof.Ids
public import proofs.«01_k».proof.Proof.Sums
public import Idealize.ShloMosaic.Lib.ValueLayout
public import Idealize.ShloMosaic.Lib.Pointwise.Contract
public import Idealize.ShloMosaic.PureOps.Ideal.Laws

@[expose] public section

noncomputable section

namespace Cert.Proof.Base

open Cert.KernelIdeal Cert.KernelIdeal.Gen
open Idealize.ShloMosaic hiding ix1 ix2 eq_ix1 eq_ix2
open Idealize.ShloMosaic.ValueIdx (ix1 eq_ix1 ix2 eq_ix2)
open Idealize.SL.Sem

abbrev dk : DotDims S512x128 S128x128 S512x128 := dot_S512x128_S128x128_S512x128_1_1_0_0_n_n

/-- The product of the rows with the rows of the weights. -/
theorem mm_at (a : S512x128.Idx → Ideal .f32) (w : S128x128.Idx → Ideal .f32) (v : Fin 512) (c : Fin 128) :
    (matmul (F := Ideal) (φ₁ := .f32) (φ₂ := .f32) dk none a w (constant S512x128 .f32 0x00000000#32) (ix2 v c) : EReal)
      = ∑ k : Fin 128, (a (ix2 v k) : EReal) * (w (ix2 c k) : EReal) := by
  simp only [matmul]
  rw [Ideal.matmul_constant_zero_apply, DotDims.sum_contr₁ dk (a := 1) rfl (K := 128) rfl]
  refine Finset.sum_congr rfl fun k _ => ?_
  have hl : dk.lhsIdx (ix2 v c : S512x128.Idx) (dk.contrIdx₁ (a := 1) rfl (K := 128) rfl k) = (ix2 v k : S512x128.Idx) := by
    funext b
    match b with
    | ⟨0, _⟩ => rfl
    | ⟨1, _⟩ => rfl
  have hr : dk.rhsIdx (ix2 v c : S512x128.Idx) (dk.contrIdx₁ (a := 1) rfl (K := 128) rfl k) = (ix2 c k : S128x128.Idx) := by
    funext b
    match b with
    | ⟨0, _⟩ => rfl
    | ⟨1, _⟩ => rfl
  rw [hl, hr]

/-- The tiles' pools added together. -/
abbrev summed (p : S32x512x128.Idx → Ideal .f32) : S512x128.Idx → Ideal .f32 :=
  multiReduction (F := Ideal) (φ := .f32) .add [0] S512x128 p 0x00000000#32 reduces_S32x512x128_S512x128 (.inl rfl) rfl

theorem fc_at (p : S32x512x128.Idx → Ideal .f32) (x : S512x128.Idx → Ideal .f32) (w : S128x128.Idx → Ideal .f32) (b : S128.Idx → Ideal .f32) (v : Fin 512) (c : Fin 128) :
    (fcOut (F := Ideal) p x w b (ix2 v c) : EReal) = (x (ix2 v c) : EReal)
      + max ((∑ k : Fin 128, ((x (ix2 v k) : EReal) + (summed p (ix2 v k) : EReal)) * (w (ix2 c k) : EReal)) + (b (ix1 c) : EReal)) 0 := by
  show (x (ix2 v c) : EReal) + max ((matmul (F := Ideal) (φ₁ := .f32) (φ₂ := .f32) dk none (addf x (summed p)) w (constant S512x128 .f32 0x00000000#32) (ix2 v c) : EReal)
    + (broadcastTo S512x128 (shapeCast S1x128 b shapeCasts_S128_S1x128) broadcasts_S1x128_S512x128 (ix2 v c) : EReal))
    (FloatOps.ofBits (F := Ideal) .f32 0x00000000#32 : EReal) = _
  rw [show (FloatOps.ofBits (F := Ideal) .f32 0x00000000#32 : EReal) = 0 from Ideal.ofBits_zero_f32, mm_at]
  have hb : broadcastTo S512x128 (shapeCast S1x128 b shapeCasts_S128_S1x128) broadcasts_S1x128_S512x128 (ix2 v c) = b (ix1 c) := by
    show shapeCast S1x128 b shapeCasts_S128_S1x128 _ = b (ix1 c)
    refine shapeCast_apply b _ _ _ ?_
    rw [Shape.rowMajor_val_one, Shape.rowMajor_val_two]
    show c.val = 0 * 128 + c.val
    omega
  rw [hb]; rfl

variable (m : (ℓ : Loc nD τ sig) → Buf (Elt Ideal) ℓ)

/-- The arrays of a device as plain functions. -/
abbrev hArr (d : Dev nD) : S100000x128.Idx → Ideal .f32 := m (hLoc d)
abbrev sArr (d : Dev nD) : S100000.Idx → BitVec 32 := m (sLoc d)
abbrev nArr (d : Dev nD) : S512x128.Idx → Ideal .f32 := vnBuf m d
abbrev oArr (d : Dev nD) : S100000x128.Idx → Ideal .f32 := outBuf m d

theorem summed_at (d : Dev nD) (hs : ∀ p q r, p ≤ q → q ≤ r → r < 100000 → (sF m d p).toNat = (sF m d r).toNat → (sF m d q).toNat = (sF m d p).toNat)
    (v : Fin 512) (c : Fin 128) :
    (summed (partBuf m d) (ix2 v c) : EReal) = ∑ r : Fin 100000, (if (sArr m d (ix1 r)).toNat = v.val then (hArr m d (ix2 r c) : EReal) else 0) := by
  have hz : (zeroF : Ideal .f32) = (0 : EReal) := Ideal.ofBits_zero_f32
  refine (Ideal.multiReduction_add_single (partBuf m d) _ _ _ _ (ix2 v c)).trans ?_
  refine (Finset.sum_congr rfl fun k _ => (show _ = (poolN (0 : EReal) (fun k => (sF m d k).toNat) (hF m d) (start k.val) (cnt k.val) v.val c.val : EReal) from ?_)).trans ?_
  · rw [← hz]; rfl
  refine (Finset.sum_range fun k => (poolN (0 : EReal) (fun k => (sF m d k).toNat) (hF m d) (start k) (cnt k) v.val c.val : EReal)).symm.trans ?_
  refine (pools_sum (fun k => (sF m d k).toNat) (hF m d) v.val c.val 32 le_rfl c.isLt hs).trans ?_
  rw [show 160 * start 32 = 100000 from by simp [start]]
  refine (Finset.sum_range _).trans ?_
  refine Finset.sum_congr rfl fun r _ => ?_
  have hr : r.val < 100000 := r.isLt
  have e1 : sF m d r.val = sArr m d (ix1 r) := by unfold sF; exact dif_pos hr
  have e2 : hF m d r.val c.val = hArr m d (ix2 r c) := by unfold hF fn2; exact dif_pos ⟨hr, c.isLt⟩
  show (if (sF m d r.val).toNat = v.val then (hF m d r.val c.val : EReal) else 0) = _
  rw [e1, e2]

theorem out_at (d : Dev nD) (hpre : PreOK m) (hs : ∀ p q r, p ≤ q → q ≤ r → r < 100000 → (sF m d p).toNat = (sF m d r).toNat → (sF m d q).toNat = (sF m d p).toNat)
    (r : Fin 100000) (c : Fin 128) :
    (oArr m d (ix2 r c) : EReal) = (hArr m d (ix2 r c) : EReal) + (nArr m d (ix2 (⟨(sArr m d (ix1 r)).toNat, hpre d _⟩ : Fin 512) c) : EReal) := by
  have hr := r.isLt
  have hg : gid (fun k => (sF m d k).toNat) r.val = (sF m d r.val).toNat := by
    unfold gid
    split
    · rename_i e
      exact (hs _ r.val _ (by omega) (by omega) (by omega) e).symm
    · rfl
  have hsr : sF m d r.val = sArr m d (ix1 r) := by unfold sF; rw [dif_pos hr]
  show (hF m d r.val c.val : EReal) + (vF m d (gid (fun k => (sF m d k).toNat) r.val) c.val : EReal) = _
  rw [hg, hsr]
  unfold hF vF fn2
  rw [dif_pos ⟨hr, c.isLt⟩, dif_pos ⟨hpre d _, c.isLt⟩]

end Cert.Proof.Base

end
-- ==== Proof.RefVal.lean ====
/-
  The reference read at an element, over the extended reals: the pooled sum as the sum of a segment's rows, the layer
  behind it, and the rows handed back.
-/
module

public import proofs.«01_k».proof.Proof.Gen.ReferenceIdeal.Run
public import Idealize.ShloMosaic.Lib.ValueIdxCore
public import Idealize.ShloMosaic.Lib.ValueLayout
public import Idealize.ShloMosaic.Lib.Pointwise.Contract
public import Idealize.ShloMosaic.Lib.ReduceAll
public import Idealize.ShloMosaic.Lib.Routing.Ops
public import Idealize.ShloMosaic.PureOps.Ideal.Laws

@[expose] public section

noncomputable section

namespace Cert.Proof.RefVal

open Cert.ReferenceIdeal Cert.ReferenceIdeal.Gen
open Idealize.ShloMosaic hiding ix1 ix2 eq_ix1 eq_ix2
open Idealize.ShloMosaic.ValueIdx (ix1 eq_ix1 ix2 eq_ix2)
open Idealize.SL.Sem

/-- The ids as one column. -/
abbrev col (s : S100000.Idx → BitVec 32) : S100000x1.Idx → BitVec 32 := broadcastInDim S100000x1 ![0] bcast_S100000_S100000x1_0 s

theorem col_at (s : S100000.Idx → BitVec 32) (y : S100000x1.Idx) : col s y = s (ix1 (y 0)) := by
  refine congrArg s (funext fun a => Fin.ext ?_)
  obtain rfl : a = 0 := Subsingleton.elim _ _
  rfl

theorem toInt_small (v : BitVec 32) (h : v.toNat < 512) : v.toInt = (v.toNat : Int) := by
  rw [BitVec.toInt_eq_toNat_cond]; split <;> omega

abbrev sc : ScatterDims S512x128 S100000x1 S100000x128 := scatter_S512x128_S100000x1_S100000x128_1_0_0_1

/-- Row `r` of the updates lands on the row its id names, column by column. -/
theorem lands (s : S100000.Idx → BitVec 32) (hs : ∀ x, (s x).toNat < 512) (r : Fin 100000) (c : Fin 128) :
    sc.resultIdx? (ix2 r c : S100000x128.Idx) (col s) = some (ix2 (⟨(s (ix1 r)).toNat, hs _⟩ : Fin 512) c : S512x128.Idx) := by
  have h0 : sc.start (ix2 r c : S100000x128.Idx) (col s) 0 = ((s (ix1 r)).toNat : Int) := by
    unfold ScatterDims.start
    rw [dif_pos (show (0 : Fin 2) ∈ sc.scatterDimsToOperandDims from List.mem_singleton.mpr rfl), col_at]
    exact toInt_small _ (hs _)
  have h1 : sc.start (ix2 r c : S100000x128.Idx) (col s) 1 = 0 := by
    unfold ScatterDims.start
    exact dif_neg (show (1 : Fin 2) ∉ ([0] : List (Fin 2)) by decide)
  have w0 : sc.window (ix2 r c : S100000x128.Idx) 0 = 0 := rfl
  have w1 : sc.window (ix2 r c : S100000x128.Idx) 1 = c.val := rfl
  have hv := hs (ix1 r)
  have hc := c.isLt
  unfold ScatterDims.resultIdx?
  rw [dif_pos (by
    intro a
    match a with
    | ⟨0, _⟩ =>
      show 0 ≤ sc.start (ix2 r c : S100000x128.Idx) (col s) 0 + (sc.window (ix2 r c : S100000x128.Idx) 0 : ℕ) ∧ sc.start (ix2 r c : S100000x128.Idx) (col s) 0 + (sc.window (ix2 r c : S100000x128.Idx) 0 : ℕ) < 512
      rw [h0, w0]; omega
    | ⟨1, _⟩ =>
      show 0 ≤ sc.start (ix2 r c : S100000x128.Idx) (col s) 1 + (sc.window (ix2 r c : S100000x128.Idx) 1 : ℕ) ∧ sc.start (ix2 r c : S100000x128.Idx) (col s) 1 + (sc.window (ix2 r c : S100000x128.Idx) 1 : ℕ) < 128
      rw [h1, w1]; omega)]
  refine congrArg some (funext fun a => Fin.ext ?_)
  match a with
  | ⟨0, _⟩ =>
    show (sc.start (ix2 r c : S100000x128.Idx) (col s) 0 + (sc.window (ix2 r c : S100000x128.Idx) 0 : ℕ)).toNat = (s (ix1 r)).toNat
    rw [h0, w0]; omega
  | ⟨1, _⟩ =>
    show (sc.start (ix2 r c : S100000x128.Idx) (col s) 1 + (sc.window (ix2 r c : S100000x128.Idx) 1 : ℕ)).toNat = c.val
    rw [h1, w1]; omega

theorem zero_bits : (FloatOps.ofBits (F := Ideal) .f32 0x00000000#32 : EReal) = 0 := Ideal.ofBits_zero_f32

/-- The pooled sum at segment `v`, column `c`. -/
abbrev pooled (h : S100000x128.Idx → Ideal .f32) (s : S100000.Idx → BitVec 32) : S512x128.Idx → Ideal .f32 :=
  Host.scatterAdd (F := Ideal) (φ := .f32) sc (broadcastInDim S512x128 ![] bcast_S_S512x128 (constant S_ .f32 0x00000000#32)) (col s) h

theorem pooled_at (h : S100000x128.Idx → Ideal .f32) (s : S100000.Idx → BitVec 32) (hs : ∀ x, (s x).toNat < 512) (v : Fin 512) (c : Fin 128) :
    (pooled h s (ix2 v c) : EReal) = ∑ r : Fin 100000, (if (s (ix1 r)).toNat = v.val then (h (ix2 r c) : EReal) else 0) := by
  show (FloatOps.ofBits (F := Ideal) .f32 0x00000000#32 : EReal)
    + ∑ j ∈ Finset.univ.filter (fun j : S100000x128.Idx => sc.resultIdx? j (col s) = some (ix2 v c)), (h j : EReal) = _
  rw [zero_bits, zero_add, Finset.sum_filter, ValueIdx.sum_idx2]
  refine Finset.sum_congr rfl fun r _ => ?_
  have key : ∀ k : Fin 128, (sc.resultIdx? (ix2 r k : S100000x128.Idx) (col s) = some (ix2 v c)) ↔ ((s (ix1 r)).toNat = v.val ∧ k = c) := by
    intro k
    rw [lands s hs]
    constructor
    · intro e
      have e := Option.some.inj e
      exact ⟨congrArg Fin.val (congrFun e 0), congrFun e 1⟩
    · rintro ⟨e, rfl⟩
      refine congrArg some (funext fun a => Fin.ext ?_)
      match a with
      | ⟨0, _⟩ => exact e
      | ⟨1, _⟩ => rfl
  simp only [key]
  by_cases e : (s (ix1 r)).toNat = v.val
  · simp only [e, true_and, if_true]
    rw [Finset.sum_ite_eq' Finset.univ c]
    simp
  · simp [e]

abbrev dt : DotDims S512x128 S128x128 S512x128 := dot_S512x128_S128x128_S512x128_1_0_0_1_n_n

/-- The product with the transposed weights. -/
theorem dot_at (a : S512x128.Idx → Ideal .f32) (w : S128x128.Idx → Ideal .f32) (v : Fin 512) (c : Fin 128) :
    (Host.dotGeneral (F := Ideal) (φ₁ := .f32) (φ₂ := .f32) dt none a (transpose S128x128 [1, 0] w transposes_S128x128_S128x128_1_0) (ix2 v c) : EReal)
      = ∑ k : Fin 128, (a (ix2 v k) : EReal) * (w (ix2 c k) : EReal) := by
  simp only [Host.dotGeneral]
  rw [Ideal.dotGeneral_apply, DotDims.sum_contr₁ dt (a := 1) rfl (K := 128) rfl]
  refine Finset.sum_congr rfl fun k _ => ?_
  have hl : dt.lhsIdx (ix2 v c : S512x128.Idx) (dt.contrIdx₁ (a := 1) rfl (K := 128) rfl k) = (ix2 v k : S512x128.Idx) := by
    funext b
    match b with
    | ⟨0, _⟩ => rfl
    | ⟨1, _⟩ => rfl
  have hr : dt.rhsIdx (ix2 v c : S512x128.Idx) (dt.contrIdx₁ (a := 1) rfl (K := 128) rfl k) = (ix2 k c : S128x128.Idx) := by
    funext b
    match b with
    | ⟨0, _⟩ => rfl
    | ⟨1, _⟩ => rfl
  rw [hl, hr]
  exact congrArg ((a (ix2 v k) : EReal) * ·) (ValueIdx.transpose_ix2_apply w _ k c)

/-- The node rows. -/
abbrev nodes (h : S100000x128.Idx → Ideal .f32) (x : S512x128.Idx → Ideal .f32) (s : S100000.Idx → BitVec 32) (w : S128x128.Idx → Ideal .f32) (b : S128.Idx → Ideal .f32) : S512x128.Idx → Ideal .f32 :=
  addf x (maximumf (addf (Host.dotGeneral dt none (addf x (pooled h s)) (transpose S128x128 [1, 0] w transposes_S128x128_S128x128_1_0))
    (broadcastInDim S512x128 ![0, 1] bcast_S1x128_S512x128_0_1 (broadcastInDim S1x128 ![1] bcast_S128_S1x128_1 b)))
    (broadcastInDim S512x128 ![] bcast_S_S512x128 (constant S_ .f32 0x00000000#32)))

theorem nodes_at (h : S100000x128.Idx → Ideal .f32) (x : S512x128.Idx → Ideal .f32) (s : S100000.Idx → BitVec 32) (w : S128x128.Idx → Ideal .f32) (b : S128.Idx → Ideal .f32) (v : Fin 512) (c : Fin 128) :
    (nodes h x s w b (ix2 v c) : EReal) = (x (ix2 v c) : EReal)
      + max ((∑ k : Fin 128, ((x (ix2 v k) : EReal) + (pooled h s (ix2 v k) : EReal)) * (w (ix2 c k) : EReal)) + (b (ix1 c) : EReal)) 0 := by
  show (x (ix2 v c) : EReal) + max ((Host.dotGeneral (F := Ideal) (φ₁ := .f32) (φ₂ := .f32) dt none (addf x (pooled h s)) (transpose S128x128 [1, 0] w transposes_S128x128_S128x128_1_0) (ix2 v c) : EReal)
    + (broadcastInDim S512x128 ![0, 1] bcast_S1x128_S512x128_0_1 (broadcastInDim S1x128 ![1] bcast_S128_S1x128_1 b) (ix2 v c) : EReal))
    (FloatOps.ofBits (F := Ideal) .f32 0x00000000#32 : EReal) = _
  rw [zero_bits, dot_at]
  congr 3
  refine congrArg b (funext fun a => Fin.ext ?_)
  obtain rfl : a = 0 := Subsingleton.elim _ _
  rfl

/-- The ids the lookup reads: a negative one counted from the end. -/
abbrev wrap (s : S100000.Idx → BitVec 32) : S100000.Idx → BitVec 32 :=
  select (cmpi .slt s (broadcastInDim S100000 ![] bcast_S_S100000 (constantI S_ 32 0#32))) (addi s (broadcastInDim S100000 ![] bcast_S_S100000 (constantI S_ 32 512#32))) s

theorem wrap_eq (s : S100000.Idx → BitVec 32) (hs : ∀ x, (s x).toNat < 512) : wrap s = s := by
  funext x
  have e : IntOp.cmpi .slt (s x) 0#32 = 0#1 := by
    have := hs x
    have h : BitVec.slt (s x) 0#32 = false := by
      rw [BitVec.slt_eq_decide, toInt_small _ this]
      simp
    show BitVec.ofBool (BitVec.slt (s x) 0#32) = 0#1
    rw [h]; rfl
  show Scalar.select (IntOp.cmpi .slt (s x) 0#32) _ (s x) = s x
  rw [e]; rfl

abbrev oks (s : S100000.Idx → BitVec 32) : S100000.Idx → BitVec 1 :=
  Host.reduce IntOp.andi (andi (cmpi .sge (col s) (broadcastInDim S100000x1 ![] bcast_S_S100000x1 (constantI S_ 32 0#32))) (cmpi .sle (col s) (broadcastInDim S100000x1 ![0, 1] bcast_S1x1_S100000x1_0_1 (broadcastInDim S1x1 ![1] bcast_S1_S1x1_1 (constantI S1 32 511#32))))) (constantI S_ 1 1#1) reducesTo_S100000x1_S100000_d1 h_S_

theorem oks_one (s : S100000.Idx → BitVec 32) (hs : ∀ x, (s x).toNat < 512) (x : S100000.Idx) : oks s x = 1#1 := by
  refine Host.reduce_andi_one _ _ _ _ _ rfl fun y => ?_
  show IntOp.andi (IntOp.cmpi .sge (col s y) 0#32) (IntOp.cmpi .sle (col s y) 511#32) = 1#1
  rw [col_at]
  have h := hs (ix1 (y 0))
  generalize s (ix1 (y 0)) = v at h
  have h1 : BitVec.sle 0#32 v = true := by
    rw [BitVec.sle_eq_decide, toInt_small _ h]; simp
  have h2 : BitVec.sle v 511#32 = true := by
    rw [BitVec.sle_eq_decide, toInt_small _ h, toInt_small _ (by decide)]
    simp; omega
  show IntOp.andi (BitVec.ofBool (BitVec.sle 0#32 v)) (BitVec.ofBool (BitVec.sle v 511#32)) = 1#1
  rw [h1, h2]; decide

/-- The rows handed back. -/
abbrev rows (h : S100000x128.Idx → Ideal .f32) (s : S100000.Idx → BitVec 32) (n : S512x128.Idx → Ideal .f32) : S100000x128.Idx → Ideal .f32 :=
  addf h (select (broadcastInDim S100000x128 ![0] bcast_S100000_S100000x128_0 (oks (wrap s)))
    (Host.gather gather_S512x128_S100000x1_S100000x128_1_0_n_n_0_1_1128 n (col (wrap s)))
    (broadcastInDim S100000x128 ![] bcast_S_S100000x128 (constant S_ .f32 0x7FC00000#32)))

theorem rows_at (h : S100000x128.Idx → Ideal .f32) (s : S100000.Idx → BitVec 32) (hs : ∀ x, (s x).toNat < 512) (n : S512x128.Idx → Ideal .f32) (r : Fin 100000) (c : Fin 128) :
    (rows h s n (ix2 r c) : EReal) = (h (ix2 r c) : EReal) + (n (ix2 (⟨(s (ix1 r)).toNat, hs _⟩ : Fin 512) c) : EReal) := by
  unfold rows
  rw [wrap_eq s hs]
  obtain ⟨o, ho, he⟩ : ∃ o, oks s = o ∧ ∀ x, o x = 1#1 := ⟨_, rfl, oks_one s hs⟩
  rw [ho]
  have e : broadcastInDim S100000x128 ![0] bcast_S100000_S100000x128_0 o (ix2 r c) = 1#1 := he _
  generalize broadcastInDim S100000x128 ![0] bcast_S100000_S100000x128_0 o = o' at e
  refine congrArg ((h (ix2 r c) : EReal) + ·) ?_
  show Scalar.select (o' (ix2 r c)) (Host.gather gather_S512x128_S100000x1_S100000x128_1_0_n_n_0_1_1128 n (col s) (ix2 r c)) (broadcastInDim S100000x128 ![] bcast_S_S100000x128 (constant S_ .f32 0x7FC00000#32) (ix2 r c)) = _
  rw [e]
  show Host.gather gather_S512x128_S100000x1_S100000x128_1_0_n_n_0_1_1128 n (col s) (ix2 r c) = _
  refine Routing.gather_row gather_S512x128_S100000x1_S100000x128_1_0_n_n_0_1_1128 rfl rfl rfl rfl rfl n (col s) r c ⟨(s (ix1 r)).toNat, hs _⟩ ?_ (by decide)
  rw [col_at]
  show s (ix1 r) = BitVec.ofNat 32 (s (ix1 r)).toNat
  rw [BitVec.ofNat_toNat]; exact (BitVec.setWidth_eq _).symm

end Cert.Proof.RefVal

end
-- ==== Proof.Frames.lean ====
/-
  The claims: both programs run to the end from every launch memory the preconditions admit, leave their arguments
  and counters as they were, and over the extended reals end with equal results.
-/
module

public import proofs.«01_k».proof.Defs
public import proofs.«01_k».proof.Proof.Run
public import proofs.«01_k».proof.Proof.Same
public import proofs.«01_k».proof.Proof.KerVal
public import proofs.«01_k».proof.Proof.RefVal
public import Idealize.ShloMosaic.Lib.Quiescent

@[expose] public section

noncomputable section

namespace Cert.Proof.Base

open Cert.KernelIdeal Cert.KernelIdeal.Gen
open Idealize.ShloMosaic hiding ix1 ix2 eq_ix1 eq_ix2
open Idealize.ShloMosaic.ValueIdx (ix1 eq_ix1 ix2 eq_ix2)
open Idealize.SL.Sem

theorem kernelIdeal_frame : Cert.quiescent_KernelIdeal := fun m ρ hpre =>
  (θ_run (Cert.KernelIdeal.defs (F := Ideal)) _ _).mono
    (fun _ h => ⟨fun c => ⟨(h.1 c).1, (h.1 c).2.1, (h.1 c).2.2.1, (h.1 c).2.2.2.1, (h.1 c).2.2.2.2.1⟩, h.2⟩) (run_main m ρ (ok_of_range m hpre))

theorem kernelIdeal_frame_sorted : Cert.quiescent_KernelIdeal_pre_seg_sorted_in_range := fun m ρ hpre =>
  (θ_run (Cert.KernelIdeal.defs (F := Ideal)) _ _).mono
    (fun _ h => ⟨fun c => ⟨(h.1 c).1, (h.1 c).2.1, (h.1 c).2.2.1, (h.1 c).2.2.2.1, (h.1 c).2.2.2.2.1⟩, h.2⟩) (run_main m ρ (ok_of_sorted m hpre))

theorem kernel_frame_bits [hK : Cert.Kernel.Facts] : Cert.quiescent_Kernel :=
  kernel_frame fun m ρ hpre => (θ_run (Cert.KernelIdeal.defs (F := Bits)) _ _).mono
    (fun _ h => ⟨fun c => ⟨(h.1 c).1, (h.1 c).2.1, (h.1 c).2.2.1, (h.1 c).2.2.2.1, (h.1 c).2.2.2.2.1⟩, h.2⟩) (run_main m ρ (ok_of_range m hpre))

theorem reference_frame : Cert.quiescent_ReferenceIdeal := fun m ρ _ =>
  (θ_run (Cert.ReferenceIdeal.defs (F := Ideal)) _ _).mono
    (fun r h => ⟨fun c => (h c).2.2, sem_eq_zero_of_no_sems rfl r.2⟩) (Cert.ReferenceIdeal.Value.run (F := Ideal) m ρ)

theorem reference_frame_sorted : Cert.quiescent_ReferenceIdeal_pre_seg_sorted_in_range := fun m ρ _ => reference_frame m ρ trivial

section Values
variable (m : (ℓ : Loc nD τ sig) → Buf (Elt Ideal) ℓ)
  (h : ∀ d : Dev nD, Cert.Pre_seg_sorted_in_range.fn (F := Ideal) (m (hLoc d)) (m (xLoc d)) (m (sLoc d)) (m (wLoc d)) (m (bLoc d)) = fun _ => 1#1)
include h

/-- The node rows are the reference's … -/
theorem nodes_eq (d : Dev nD) : RefVal.nodes (m (hLoc d)) (m (xLoc d)) (m (sLoc d)) (m (wLoc d)) (m (bLoc d)) = nArr m d := by
  funext y
  obtain ⟨v, c, rfl⟩ : ∃ (v : Fin 512) (c : Fin 128), y = ix2 v c := ⟨_, _, eq_ix2 y⟩
  refine (RefVal.nodes_at _ _ _ _ _ v c).trans ((?_ : _ = _).trans (fc_at (partBuf m d) (m (xLoc d)) (m (wLoc d)) (m (bLoc d)) v c).symm)
  have e : ∀ k : Fin 128, (RefVal.pooled (m (hLoc d)) (m (sLoc d)) (ix2 v k) : EReal) = summed (partBuf m d) (ix2 v k) := fun k =>
    (RefVal.pooled_at _ _ (ok_of_sorted m h d) v k).trans (summed_at m d (mid_of_sorted m h d) v k).symm
  simp only [e]

/-- … and so are the rows handed back. -/
theorem rows_eq (d : Dev nD) : RefVal.rows (m (hLoc d)) (m (sLoc d)) (nArr m d) = oArr m d := by
  funext y
  obtain ⟨r, c, rfl⟩ : ∃ (r : Fin 100000) (c : Fin 128), y = ix2 r c := ⟨_, _, eq_ix2 y⟩
  exact (RefVal.rows_at _ _ (ok_of_sorted m h d) _ r c).trans (out_at m d (ok_of_sorted m h) (mid_of_sorted m h d) r c).symm

end Values

theorem values : Cert.algebraic_KernelIdeal_ReferenceIdeal_pre_seg_sorted_in_range := fun m ρ m' ρ' hpre hag => by
  refine ⟨fun c => outBuf m c, fun c => vnBuf m c, ?_, ?_⟩
  · exact (θ_run (Cert.KernelIdeal.defs (F := Ideal)) _ _).mono
      (fun _ h c => ⟨(h.1 c).2.2.2.2.2.2, (h.1 c).2.2.2.2.2.1, (h.1 c).1, (h.1 c).2.1, (h.1 c).2.2.1, (h.1 c).2.2.2.1, (h.1 c).2.2.2.2.1⟩)
      (run_main m ρ (ok_of_sorted m hpre))
  · refine (θ_run (Cert.ReferenceIdeal.defs (F := Ideal)) _ _).mono (fun r h c => ?_) (Cert.ReferenceIdeal.Value.run (F := Ideal) m' ρ')
    obtain ⟨e0, e1, e2, e3, e4⟩ := hag c
    have hn := (h c).2.1
    have ho := (h c).1
    rw [e0, e1, e2, e3, e4] at hn ho
    exact ⟨ho.trans ((congrArg (RefVal.rows (m (hLoc c)) (m (sLoc c))) (nodes_eq m hpre c)).trans (rows_eq m hpre c)), hn.trans (nodes_eq m hpre c), (h c).2.2⟩

end Cert.Proof.Base

end
-- ==== Proof.lean ====
/-
  The proof of the certificate: the programs' stated facts, then the claims in order (Proof/Frames.lean has each).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run

public import proofs.«01_k».proof.Proof.Gen.Pre_seg_in_range
public import proofs.«01_k».proof.Proof.Gen.Pre_seg_sorted_in_range
public import proofs.«01_k».proof.Proof.Frames
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_seg_in_range.Gen.facts, Cert.Pre_seg_sorted_in_range.Gen.facts,
    Base.kernel_frame_bits, Base.kernelIdeal_frame, Base.kernelIdeal_frame_sorted, Base.reference_frame, Base.reference_frame_sorted, trivial, Base.values⟩

end Cert.Proof

end
